-- ==== Defs.lean ====
def Pre_Hist [hPre_in_range : Cert.Pre_in_range.Facts] (m : (ℓ : Loc Cert.Hist.nD Cert.Hist.τ Cert.Hist.sig) → Buf (Elt Bits) ℓ) : Prop :=
  ∀ c : Dev Cert.Hist.nD,
    (Cert.Pre_in_range.fn (F := Bits) (m ((c.tc : Thread Cert.Hist.nD Cert.Hist.τ).loc Cert.Hist.main_arg0))) = (fun _ => 1#1)

def Pre_HistIdeal [hPre_in_range : Cert.Pre_in_range.Facts] (m : (ℓ : Loc Cert.HistIdeal.nD Cert.HistIdeal.τ Cert.HistIdeal.sig) → Buf (Elt Ideal) ℓ) : Prop :=
  ∀ c : Dev Cert.HistIdeal.nD,
    (Cert.Pre_in_range.fn (F := Ideal) (m ((c.tc : Thread Cert.HistIdeal.nD Cert.HistIdeal.τ).loc Cert.HistIdeal.main_arg0))) = (fun _ => 1#1)

def Pre_HistRefIdeal [hPre_in_range : Cert.Pre_in_range.Facts] (m : (ℓ : Loc Cert.HistRefIdeal.nD Cert.HistRefIdeal.τ Cert.HistRefIdeal.sig) → Buf (Elt Ideal) ℓ) : Prop :=
  ∀ c : Dev Cert.HistRefIdeal.nD,
    (Cert.Pre_in_range.fn (F := Ideal) (m ((c.tc : Thread Cert.HistRefIdeal.nD Cert.HistRefIdeal.τ).loc Cert.HistRefIdeal.main_arg0))) = (fun _ => 1#1)

def Pre_KernelIdeal [hPre_finite_and_labelled : Cert.Pre_finite_and_labelled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_and_labelled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal [hPre_finite_and_labelled : Cert.Pre_finite_and_labelled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_and_labelled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Hist [hHist : Cert.Hist.Facts] [hPre_in_range : Cert.Pre_in_range.Facts] : Prop :=
  ∀ (m : (ℓ : Loc Cert.Hist.nD Cert.Hist.τ Cert.Hist.sig) → Buf (Elt Bits) ℓ) (g : Dev Cert.Hist.nD → PrngReg), Pre_Hist m →
    θ_run (Cert.Hist.defs (F := Bits)) (Cert.Hist.threads (F := Bits)) ⟨m, fun _ => 0, g⟩ (fun r => (∀ c : Dev Cert.Hist.nD,
      r.2.mem ((c.tc : Thread Cert.Hist.nD Cert.Hist.τ).loc Cert.Hist.main_arg0) = m ((c.tc : Thread Cert.Hist.nD Cert.Hist.τ).loc Cert.Hist.main_arg0))
      ∧ r.2.sem = fun _ => 0)

def quiescent_HistIdeal [hHistIdeal : Cert.HistIdeal.Facts] [hPre_in_range : Cert.Pre_in_range.Facts] : Prop :=
  ∀ (m : (ℓ : Loc Cert.HistIdeal.nD Cert.HistIdeal.τ Cert.HistIdeal.sig) → Buf (Elt Ideal) ℓ) (g : Dev Cert.HistIdeal.nD → PrngReg), Pre_HistIdeal m →
    θ_run (Cert.HistIdeal.defs (F := Ideal)) (Cert.HistIdeal.threads (F := Ideal)) ⟨m, fun _ => 0, g⟩ (fun r => (∀ c : Dev Cert.HistIdeal.nD,
      r.2.mem ((c.tc : Thread Cert.HistIdeal.nD Cert.HistIdeal.τ).loc Cert.HistIdeal.main_arg0) = m ((c.tc : Thread Cert.HistIdeal.nD Cert.HistIdeal.τ).loc Cert.HistIdeal.main_arg0))
      ∧ r.2.sem = fun _ => 0)

def quiescent_HistRefIdeal [hHistRefIdeal : Cert.HistRefIdeal.Facts] [hPre_in_range : Cert.Pre_in_range.Facts] : Prop :=
  ∀ (m : (ℓ : Loc Cert.HistRefIdeal.nD Cert.HistRefIdeal.τ Cert.HistRefIdeal.sig) → Buf (Elt Ideal) ℓ) (g : Dev Cert.HistRefIdeal.nD → PrngReg), Pre_HistRefIdeal m →
    θ_run (Cert.HistRefIdeal.defs (F := Ideal)) (onTc (τ := Cert.HistRefIdeal.τ) (Cert.HistRefIdeal.main (F := Ideal))) ⟨m, fun _ => 0, g⟩ (fun r => (∀ c : Dev Cert.HistRefIdeal.nD,
      r.2.mem ((c.tc : Thread Cert.HistRefIdeal.nD Cert.HistRefIdeal.τ).loc Cert.HistRefIdeal.main_arg0) = m ((c.tc : Thread Cert.HistRefIdeal.nD Cert.HistRefIdeal.τ).loc Cert.HistRefIdeal.main_arg0))
      ∧ r.2.sem = fun _ => 0)

def quiescent_KernelIdeal [hKernelIdeal : Cert.KernelIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_finite_and_labelled : Cert.Pre_finite_and_labelled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Hist_HistIdeal : Prop :=
  True

def algebraic_HistIdeal_HistRefIdeal [hHistIdeal : Cert.HistIdeal.Facts] [hHistRefIdeal : Cert.HistRefIdeal.Facts] [hPre_in_range : Cert.Pre_in_range.Facts] : Prop :=
  ∀ (m : (ℓ : Loc Cert.HistIdeal.nD Cert.HistIdeal.τ Cert.HistIdeal.sig) → Buf (Elt Ideal) ℓ) (g : Dev Cert.HistIdeal.nD → PrngReg)
    (m' : (ℓ : Loc Cert.HistRefIdeal.nD Cert.HistRefIdeal.τ Cert.HistRefIdeal.sig) → Buf (Elt Ideal) ℓ) (g' : Dev Cert.HistRefIdeal.nD → PrngReg), Pre_HistIdeal m →
    (∀ c : Dev Cert.HistIdeal.nD,
      m' ((c.tc : Thread Cert.HistRefIdeal.nD Cert.HistRefIdeal.τ).loc Cert.HistRefIdeal.main_arg0) = m ((c.tc : Thread Cert.HistIdeal.nD Cert.HistIdeal.τ).loc Cert.HistIdeal.main_arg0)) →
    ∃ (v0 : (c : Dev Cert.HistIdeal.nD) → Buf (Elt Ideal) ((c.tc : Thread Cert.HistIdeal.nD Cert.HistIdeal.τ).loc Cert.HistIdeal.main_v0)),
      θ_run (Cert.HistIdeal.defs (F := Ideal)) (Cert.HistIdeal.threads (F := Ideal)) ⟨m, fun _ => 0, g⟩ (fun r => ∀ c : Dev Cert.HistIdeal.nD,
          r.2.mem ((c.tc : Thread Cert.HistIdeal.nD Cert.HistIdeal.τ).loc Cert.HistIdeal.main_v0) = v0 c
          ∧ r.2.mem ((c.tc : Thread Cert.HistIdeal.nD Cert.HistIdeal.τ).loc Cert.HistIdeal.main_arg0) = m ((c.tc : Thread Cert.HistIdeal.nD Cert.HistIdeal.τ).loc Cert.HistIdeal.main_arg0))
      ∧ θ_run (Cert.HistRefIdeal.defs (F := Ideal)) (onTc (τ := Cert.HistRefIdeal.τ) (Cert.HistRefIdeal.main (F := Ideal))) ⟨m', fun _ => 0, g'⟩ (fun r => ∀ c : Dev Cert.HistRefIdeal.nD,
          r.2.mem ((c.tc : Thread Cert.HistRefIdeal.nD Cert.HistRefIdeal.τ).loc Cert.HistRefIdeal.main_v15) = v0 c
          ∧ r.2.mem ((c.tc : Thread Cert.HistRefIdeal.nD Cert.HistRefIdeal.τ).loc Cert.HistRefIdeal.main_arg0) = m' ((c.tc : Thread Cert.HistRefIdeal.nD Cert.HistRefIdeal.τ).loc Cert.HistRefIdeal.main_arg0))

def algebraic_KernelIdeal_ReferenceIdeal [hKernelIdeal : Cert.KernelIdeal.Facts] [hReferenceIdeal : Cert.ReferenceIdeal.Facts] [hPre_finite_and_labelled : Cert.Pre_finite_and_labelled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hHist : Cert.Hist.Facts) (hHistIdeal : Cert.HistIdeal.Facts) (hHistRefIdeal : Cert.HistRefIdeal.Facts) (hKernelIdeal : Cert.KernelIdeal.Facts) (hReferenceIdeal : Cert.ReferenceIdeal.Facts) (hPre_in_range : Cert.Pre_in_range.Facts) (hPre_finite_and_labelled : Cert.Pre_finite_and_labelled.Facts),
    quiescent_Hist (hHist := hHist) (hPre_in_range := hPre_in_range)
    ∧ quiescent_HistIdeal (hHistIdeal := hHistIdeal) (hPre_in_range := hPre_in_range)
    ∧ quiescent_HistRefIdeal (hHistRefIdeal := hHistRefIdeal) (hPre_in_range := hPre_in_range)
    ∧ quiescent_KernelIdeal (hKernelIdeal := hKernelIdeal) (hPre_finite_and_labelled := hPre_finite_and_labelled)
    ∧ quiescent_ReferenceIdeal (hReferenceIdeal := hReferenceIdeal) (hPre_finite_and_labelled := hPre_finite_and_labelled)
    ∧ preserves_Hist_HistIdeal
    ∧ algebraic_HistIdeal_HistRefIdeal (hHistIdeal := hHistIdeal) (hHistRefIdeal := hHistRefIdeal) (hPre_in_range := hPre_in_range)
    ∧ algebraic_KernelIdeal_ReferenceIdeal (hKernelIdeal := hKernelIdeal) (hReferenceIdeal := hReferenceIdeal) (hPre_finite_and_labelled := hPre_finite_and_labelled)
-- ==== Pre_finite_and_labelled.lean ====
abbrev S4x19x512x512 : Shape := ⟨4, ![4, 19, 512, 512]⟩
abbrev S4x512x512 : Shape := ⟨3, ![4, 512, 512]⟩
abbrev S_ : Shape := ⟨0, ![]⟩

class Facts : Prop where
  bcast_S_S4x19x512x512 : S_.BroadcastsInDim S4x19x512x512 (![] : Fin 0 → Fin S4x19x512x512.rank)
  reducesTo_S4x19x512x512_S_d0_1_2_3 : S4x19x512x512.ReducesTo [0, 1, 2, 3] S_
  h_S_ : 0 < S_.numel
  bcast_S_S4x512x512 : S_.BroadcastsInDim S4x512x512 (![] : Fin 0 → Fin S4x512x512.rank)
  reducesTo_S4x512x512_S_d0_1_2 : S4x512x512.ReducesTo [0, 1, 2] S_

variable [Facts]

def fn {F : FTy → Type} [FloatOps F] (main_arg0 : FVec F S4x19x512x512 .f32) (main_arg1 : IVec S4x512x512 32) : IVec S_ 1 × IVec S_ 1 :=
  let main_v0 : FVec F S4x19x512x512 .f32 := Host.absf main_arg0
  let main_cst : FVec F S_ .f32 := constant S_ .f32 0x7F800000#32
  let main_v1 : FVec F S4x19x512x512 .f32 := broadcastInDim S4x19x512x512 ![] bcast_S_S4x19x512x512 main_cst
  let main_v2 : IVec S4x19x512x512 1 := cmpf .olt main_v0 main_v1
  let main_c : IVec S_ 1 := constantI S_ 1 1#1
  let main_v3 : IVec S_ 1 := (fun x v => Host.reduce IntOp.andi x v reducesTo_S4x19x512x512_S_d0_1_2_3 h_S_) main_v2 main_c
  let main_c_0 : IVec S_ 32 := constantI S_ 32 0#32
  let main_v4 : IVec S4x512x512 32 := broadcastInDim S4x512x512 ![] bcast_S_S4x512x512 main_c_0
  let main_v5 : IVec S4x512x512 1 := cmpi .sge main_arg1 main_v4
  let main_c_1 : IVec S_ 32 := constantI S_ 32 19#32
  let main_v6 : IVec S4x512x512 32 := broadcastInDim S4x512x512 ![] bcast_S_S4x512x512 main_c_1
  let main_v7 : IVec S4x512x512 1 := cmpi .slt main_arg1 main_v6
  let main_v8 : IVec S4x512x512 1 := andi main_v5 main_v7
  let main_c_2 : IVec S_ 1 := constantI S_ 1 1#1
  let main_v9 : IVec S_ 1 := (fun x v => Host.reduce IntOp.andi x v reducesTo_S4x512x512_S_d0_1_2 h_S_) main_v8 main_c_2
  (main_v3, main_v9)
-- ==== Pre_in_range.lean ====
abbrev S38912x512 : Shape := ⟨2, ![38912, 512]⟩
abbrev S_ : Shape := ⟨0, ![]⟩

class Facts : Prop where
  bcast_S_S38912x512 : S_.BroadcastsInDim S38912x512 (![] : Fin 0 → Fin S38912x512.rank)
  reducesTo_S38912x512_S_d0_1 : S38912x512.ReducesTo [0, 1] S_
  h_S_ : 0 < S_.numel

variable [Facts]

def fn {F : FTy → Type} [FloatOps F] (main_arg0 : IVec S38912x512 32) : IVec S_ 1 :=
  let main_c : IVec S_ 32 := constantI S_ 32 0#32
  let main_v0 : IVec S38912x512 32 := broadcastInDim S38912x512 ![] bcast_S_S38912x512 main_c
  let main_v1 : IVec S38912x512 1 := cmpi .sge main_arg0 main_v0
  let main_c_0 : IVec S_ 32 := constantI S_ 32 38912#32
  let main_v2 : IVec S38912x512 32 := broadcastInDim S38912x512 ![] bcast_S_S38912x512 main_c_0
  let main_v3 : IVec S38912x512 1 := cmpi .slt main_arg0 main_v2
  let main_v4 : IVec S38912x512 1 := andi main_v1 main_v3
  let main_c_1 : IVec S_ 1 := constantI S_ 1 1#1
  let main_v5 : IVec S_ 1 := (fun x v => Host.reduce IntOp.andi x v reducesTo_S38912x512_S_d0_1 h_S_) main_v4 main_c_1
  main_v5
-- ==== Hist.lean ====
abbrev S38912x512 : Shape := ⟨2, ![38912, 512]⟩
abbrev S32x38912 : Shape := ⟨2, ![32, 38912]⟩
abbrev S64x512 : Shape := ⟨2, ![64, 512]⟩
abbrev S38912 : Shape := ⟨1, ![38912]⟩
abbrev S_ : Shape := ⟨0, ![]⟩
abbrev S16 : Shape := ⟨1, ![16]⟩
abbrev S1x16 : Shape := ⟨2, ![1, 16]⟩
abbrev S1x38912 : Shape := ⟨2, ![1, 38912]⟩

abbrev nBuf : Table → Nat
  | .hbm => 2
  | .local .scVector .vmem => 3
  | _ => 0

abbrev bufTy : (tb : Table) → Fin (nBuf tb) → BufTy
  | .hbm, ⟨0, _⟩ => ⟨S38912x512, .i32⟩
  | .hbm, ⟨1, _⟩ => ⟨S32x38912, .i32⟩
  | .local .scVector .vmem, ⟨0, _⟩ => ⟨S64x512, .i32⟩
  | .local .scVector .vmem, ⟨1, _⟩ => ⟨S64x512, .i32⟩
  | .local .scVector .vmem, ⟨2, _⟩ => ⟨S38912, .i32⟩
  | _, _ => ⟨S38912x512, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c2432_i32 : BitVec 32 := 2432#32
  let v3 : BitVec 32 := Scalar.addi c0_i32_0 c2432_i32
  let c1_i32 : BitVec 32 := 1#32
  ⟨c0_i32_0, v3, c1_i32⟩
def k0_off1 (k0_t1 : Fin k0_t1_loop.trips) : Fin 1 → Nat :=
  let c0_i32_0 : BitVec 32 := 0#32
  let c1_i32 : BitVec 32 := 1#32
  let arg9 : BitVec 32 := Scf.iv c0_i32_0 c1_i32 k0_t1
  let c16_i32 : BitVec 32 := 16#32
  let v159 : BitVec 32 := Scalar.muli arg9 c16_i32
  let v160 : Index := Scalar.indexCast v159
  ![v160.toNat]
def k0_off2 (i : grid0.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1216_i32 : BitVec 32 := 1216#32
  let v2 : BitVec 32 := Scalar.muli v1 c1216_i32
  let v5 : BitVec 32 := Scalar.addi v2 c0_i32_2
  let c0_i32_3 : BitVec 32 := 0#32
  ![v5.toNat, 0]
@[reducible] def k0_t2_loop : Scf.Loop 32 :=
  let c0_i32_12 : BitVec 32 := 0#32
  let c64_i32_13 : BitVec 32 := 64#32
  let v15 : BitVec 32 := Scalar.addi c0_i32_12 c64_i32_13
  let c1_i32_14 : BitVec 32 := 1#32
  ⟨c0_i32_12, v15, c1_i32_14⟩
def k0_off3 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v158 : Index := Scalar.indexCast arg9
  let c0 : Index := 0#32
  ![v158.toNat, 0]

def k0_chk1 (v159 : IVec S16 32) : Prop :=
  (∀ a x, ((![v159] : Fin 1 → IVec S16 32) a x).toNat < S38912.size a)
theorem k0_idx1_inb : ∀ (v159 : IVec S16 32) (k0_hw1 : k0_chk1 v159), ∀ a x, ((![v159] : Fin 1 → IVec S16 32) a x).toNat < S38912.size a := fun v159 k0_hw1 => k0_hw1
def k0_off4 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v160 : Index := Scalar.indexCast arg9
  let c16 : Index := 16#32
  ![v160.toNat, 16]

def k0_chk2 (v161 : IVec S16 32) : Prop :=
  (∀ a x, ((![v161] : Fin 1 → IVec S16 32) a x).toNat < S38912.size a)
theorem k0_idx2_inb : ∀ (v161 : IVec S16 32) (k0_hw2 : k0_chk2 v161), ∀ a x, ((![v161] : Fin 1 → IVec S16 32) a x).toNat < S38912.size a := fun v161 k0_hw2 => k0_hw2
def k0_off5 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v162 : Index := Scalar.indexCast arg9
  let c32 : Index := 32#32
  ![v162.toNat, 32]

def k0_chk3 (v163 : IVec S16 32) : Prop :=
  (∀ a x, ((![v163] : Fin 1 → IVec S16 32) a x).toNat < S38912.size a)
theorem k0_idx3_inb : ∀ (v163 : IVec S16 32) (k0_hw3 : k0_chk3 v163), ∀ a x, ((![v163] : Fin 1 → IVec S16 32) a x).toNat < S38912.size a := fun v163 k0_hw3 => k0_hw3
def k0_off6 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v164 : Index := Scalar.indexCast arg9
  let c48 : Index := 48#32
  ![v164.toNat, 48]

def k0_chk4 (v165 : IVec S16 32) : Prop :=
  (∀ a x, ((![v165] : Fin 1 → IVec S16 32) a x).toNat < S38912.size a)
theorem k0_idx4_inb : ∀ (v165 : IVec S16 32) (k0_hw4 : k0_chk4 v165), ∀ a x, ((![v165] : Fin 1 → IVec S16 32) a x).toNat < S38912.size a := fun v165 k0_hw4 => k0_hw4
def k0_off7 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v166 : Index := Scalar.indexCast arg9
  let c64 : Index := 64#32
  ![v166.toNat, 64]

def k0_chk5 (v167 : IVec S16 32) : Prop :=
  (∀ a x, ((![v167] : Fin 1 → IVec S16 32) a x).toNat < S38912.size a)
theorem k0_idx5_inb : ∀ (v167 : IVec S16 32) (k0_hw5 : k0_chk5 v167), ∀ a x, ((![v167] : Fin 1 → IVec S16 32) a x).toNat < S38912.size a := fun v167 k0_hw5 => k0_hw5
def k0_off8 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v168 : Index := Scalar.indexCast arg9
  let c80 : Index := 80#32
  ![v168.toNat, 80]

def k0_chk6 (v169 : IVec S16 32) : Prop :=
  (∀ a x, ((![v169] : Fin 1 → IVec S16 32) a x).toNat < S38912.size a)
theorem k0_idx6_inb : ∀ (v169 : IVec S16 32) (k0_hw6 : k0_chk6 v169), ∀ a x, ((![v169] : Fin 1 → IVec S16 32) a x).toNat < S38912.size a := fun v169 k0_hw6 => k0_hw6
def k0_off9 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v170 : Index := Scalar.indexCast arg9
  let c96 : Index := 96#32
  ![v170.toNat, 96]

def k0_chk7 (v171 : IVec S16 32) : Prop :=
  (∀ a x, ((![v171] : Fin 1 → IVec S16 32) a x).toNat < S38912.size a)
theorem k0_idx7_inb : ∀ (v171 : IVec S16 32) (k0_hw7 : k0_chk7 v171), ∀ a x, ((![v171] : Fin 1 → IVec S16 32) a x).toNat < S38912.size a := fun v171 k0_hw7 => k0_hw7
def k0_off10 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v172 : Index := Scalar.indexCast arg9
  let c112 : Index := 112#32
  ![v172.toNat, 112]

def k0_chk8 (v173 : IVec S16 32) : Prop :=
  (∀ a x, ((![v173] : Fin 1 → IVec S16 32) a x).toNat < S38912.size a)
theorem k0_idx8_inb : ∀ (v173 : IVec S16 32) (k0_hw8 : k0_chk8 v173), ∀ a x, ((![v173] : Fin 1 → IVec S16 32) a x).toNat < S38912.size a := fun v173 k0_hw8 => k0_hw8
def k0_off11 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v174 : Index := Scalar.indexCast arg9
  let c128 : Index := 128#32
  ![v174.toNat, 128]

def k0_chk9 (v175 : IVec S16 32) : Prop :=
  (∀ a x, ((![v175] : Fin 1 → IVec S16 32) a x).toNat < S38912.size a)
theorem k0_idx9_inb : ∀ (v175 : IVec S16 32) (k0_hw9 : k0_chk9 v175), ∀ a x, ((![v175] : Fin 1 → IVec S16 32) a x).toNat < S38912.size a := fun v175 k0_hw9 => k0_hw9
def k0_off12 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v176 : Index := Scalar.indexCast arg9
  let c144 : Index := 144#32
  ![v176.toNat, 144]

def k0_chk10 (v177 : IVec S16 32) : Prop :=
  (∀ a x, ((![v177] : Fin 1 → IVec S16 32) a x).toNat < S38912.size a)
theorem k0_idx10_inb : ∀ (v177 : IVec S16 32) (k0_hw10 : k0_chk10 v177), ∀ a x, ((![v177] : Fin 1 → IVec S16 32) a x).toNat < S38912.size a := fun v177 k0_hw10 => k0_hw10
def k0_off13 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v178 : Index := Scalar.indexCast arg9
  let c160 : Index := 160#32
  ![v178.toNat, 160]

def k0_chk11 (v179 : IVec S16 32) : Prop :=
  (∀ a x, ((![v179] : Fin 1 → IVec S16 32) a x).toNat < S38912.size a)
theorem k0_idx11_inb : ∀ (v179 : IVec S16 32) (k0_hw11 : k0_chk11 v179), ∀ a x, ((![v179] : Fin 1 → IVec S16 32) a x).toNat < S38912.size a := fun v179 k0_hw11 => k0_hw11
def k0_off14 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v180 : Index := Scalar.indexCast arg9
  let c176 : Index := 176#32
  ![v180.toNat, 176]

def k0_chk12 (v181 : IVec S16 32) : Prop :=
  (∀ a x, ((![v181] : Fin 1 → IVec S16 32) a x).toNat < S38912.size a)
theorem k0_idx12_inb : ∀ (v181 : IVec S16 32) (k0_hw12 : k0_chk12 v181), ∀ a x, ((![v181] : Fin 1 → IVec S16 32) a x).toNat < S38912.size a := fun v181 k0_hw12 => k0_hw12
def k0_off15 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v182 : Index := Scalar.indexCast arg9
  let c192 : Index := 192#32
  ![v182.toNat, 192]

def k0_chk13 (v183 : IVec S16 32) : Prop :=
  (∀ a x, ((![v183] : Fin 1 → IVec S16 32) a x).toNat < S38912.size a)
theorem k0_idx13_inb : ∀ (v183 : IVec S16 32) (k0_hw13 : k0_chk13 v183), ∀ a x, ((![v183] : Fin 1 → IVec S16 32) a x).toNat < S38912.size a := fun v183 k0_hw13 => k0_hw13
def k0_off16 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v184 : Index := Scalar.indexCast arg9
  let c208 : Index := 208#32
  ![v184.toNat, 208]

def k0_chk14 (v185 : IVec S16 32) : Prop :=
  (∀ a x, ((![v185] : Fin 1 → IVec S16 32) a x).toNat < S38912.size a)
theorem k0_idx14_inb : ∀ (v185 : IVec S16 32) (k0_hw14 : k0_chk14 v185), ∀ a x, ((![v185] : Fin 1 → IVec S16 32) a x).toNat < S38912.size a := fun v185 k0_hw14 => k0_hw14
def k0_off17 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v186 : Index := Scalar.indexCast arg9
  let c224 : Index := 224#32
  ![v186.toNat, 224]

def k0_chk15 (v187 : IVec S16 32) : Prop :=
  (∀ a x, ((![v187] : Fin 1 → IVec S16 32) a x).toNat < S38912.size a)
theorem k0_idx15_inb : ∀ (v187 : IVec S16 32) (k0_hw15 : k0_chk15 v187), ∀ a x, ((![v187] : Fin 1 → IVec S16 32) a x).toNat < S38912.size a := fun v187 k0_hw15 => k0_hw15
def k0_off18 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v188 : Index := Scalar.indexCast arg9
  let c240 : Index := 240#32
  ![v188.toNat, 240]

def k0_chk16 (v189 : IVec S16 32) : Prop :=
  (∀ a x, ((![v189] : Fin 1 → IVec S16 32) a x).toNat < S38912.size a)
theorem k0_idx16_inb : ∀ (v189 : IVec S16 32) (k0_hw16 : k0_chk16 v189), ∀ a x, ((![v189] : Fin 1 → IVec S16 32) a x).toNat < S38912.size a := fun v189 k0_hw16 => k0_hw16
def k0_off19 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v190 : Index := Scalar.indexCast arg9
  let c256 : Index := 256#32
  ![v190.toNat, 256]

def k0_chk17 (v191 : IVec S16 32) : Prop :=
  (∀ a x, ((![v191] : Fin 1 → IVec S16 32) a x).toNat < S38912.size a)
theorem k0_idx17_inb : ∀ (v191 : IVec S16 32) (k0_hw17 : k0_chk17 v191), ∀ a x, ((![v191] : Fin 1 → IVec S16 32) a x).toNat < S38912.size a := fun v191 k0_hw17 => k0_hw17
def k0_off20 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v192 : Index := Scalar.indexCast arg9
  let c272 : Index := 272#32
  ![v192.toNat, 272]

def k0_chk18 (v193 : IVec S16 32) : Prop :=
  (∀ a x, ((![v193] : Fin 1 → IVec S16 32) a x).toNat < S38912.size a)
theorem k0_idx18_inb : ∀ (v193 : IVec S16 32) (k0_hw18 : k0_chk18 v193), ∀ a x, ((![v193] : Fin 1 → IVec S16 32) a x).toNat < S38912.size a := fun v193 k0_hw18 => k0_hw18
def k0_off21 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v194 : Index := Scalar.indexCast arg9
  let c288 : Index := 288#32
  ![v194.toNat, 288]

def k0_chk19 (v195 : IVec S16 32) : Prop :=
  (∀ a x, ((![v195] : Fin 1 → IVec S16 32) a x).toNat < S38912.size a)
theorem k0_idx19_inb : ∀ (v195 : IVec S16 32) (k0_hw19 : k0_chk19 v195), ∀ a x, ((![v195] : Fin 1 → IVec S16 32) a x).toNat < S38912.size a := fun v195 k0_hw19 => k0_hw19
def k0_off22 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v196 : Index := Scalar.indexCast arg9
  let c304 : Index := 304#32
  ![v196.toNat, 304]

def k0_chk20 (v197 : IVec S16 32) : Prop :=
  (∀ a x, ((![v197] : Fin 1 → IVec S16 32) a x).toNat < S38912.size a)
theorem k0_idx20_inb : ∀ (v197 : IVec S16 32) (k0_hw20 : k0_chk20 v197), ∀ a x, ((![v197] : Fin 1 → IVec S16 32) a x).toNat < S38912.size a := fun v197 k0_hw20 => k0_hw20
def k0_off23 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v198 : Index := Scalar.indexCast arg9
  let c320 : Index := 320#32
  ![v198.toNat, 320]

def k0_chk21 (v199 : IVec S16 32) : Prop :=
  (∀ a x, ((![v199] : Fin 1 → IVec S16 32) a x).toNat < S38912.size a)
theorem k0_idx21_inb : ∀ (v199 : IVec S16 32) (k0_hw21 : k0_chk21 v199), ∀ a x, ((![v199] : Fin 1 → IVec S16 32) a x).toNat < S38912.size a := fun v199 k0_hw21 => k0_hw21
def k0_off24 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v200 : Index := Scalar.indexCast arg9
  let c336 : Index := 336#32
  ![v200.toNat, 336]

def k0_chk22 (v201 : IVec S16 32) : Prop :=
  (∀ a x, ((![v201] : Fin 1 → IVec S16 32) a x).toNat < S38912.size a)
theorem k0_idx22_inb : ∀ (v201 : IVec S16 32) (k0_hw22 : k0_chk22 v201), ∀ a x, ((![v201] : Fin 1 → IVec S16 32) a x).toNat < S38912.size a := fun v201 k0_hw22 => k0_hw22
def k0_off25 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v202 : Index := Scalar.indexCast arg9
  let c352 : Index := 352#32
  ![v202.toNat, 352]

def k0_chk23 (v203 : IVec S16 32) : Prop :=
  (∀ a x, ((![v203] : Fin 1 → IVec S16 32) a x).toNat < S38912.size a)
theorem k0_idx23_inb : ∀ (v203 : IVec S16 32) (k0_hw23 : k0_chk23 v203), ∀ a x, ((![v203] : Fin 1 → IVec S16 32) a x).toNat < S38912.size a := fun v203 k0_hw23 => k0_hw23
def k0_off26 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v204 : Index := Scalar.indexCast arg9
  let c368 : Index := 368#32
  ![v204.toNat, 368]

def k0_chk24 (v205 : IVec S16 32) : Prop :=
  (∀ a x, ((![v205] : Fin 1 → IVec S16 32) a x).toNat < S38912.size a)
theorem k0_idx24_inb : ∀ (v205 : IVec S16 32) (k0_hw24 : k0_chk24 v205), ∀ a x, ((![v205] : Fin 1 → IVec S16 32) a x).toNat < S38912.size a := fun v205 k0_hw24 => k0_hw24
def k0_off27 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v206 : Index := Scalar.indexCast arg9
  let c384 : Index := 384#32
  ![v206.toNat, 384]

def k0_chk25 (v207 : IVec S16 32) : Prop :=
  (∀ a x, ((![v207] : Fin 1 → IVec S16 32) a x).toNat < S38912.size a)
theorem k0_idx25_inb : ∀ (v207 : IVec S16 32) (k0_hw25 : k0_chk25 v207), ∀ a x, ((![v207] : Fin 1 → IVec S16 32) a x).toNat < S38912.size a := fun v207 k0_hw25 => k0_hw25
def k0_off28 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v208 : Index := Scalar.indexCast arg9
  let c400 : Index := 400#32
  ![v208.toNat, 400]

def k0_chk26 (v209 : IVec S16 32) : Prop :=
  (∀ a x, ((![v209] : Fin 1 → IVec S16 32) a x).toNat < S38912.size a)
theorem k0_idx26_inb : ∀ (v209 : IVec S16 32) (k0_hw26 : k0_chk26 v209), ∀ a x, ((![v209] : Fin 1 → IVec S16 32) a x).toNat < S38912.size a := fun v209 k0_hw26 => k0_hw26
def k0_off29 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v210 : Index := Scalar.indexCast arg9
  let c416 : Index := 416#32
  ![v210.toNat, 416]

def k0_chk27 (v211 : IVec S16 32) : Prop :=
  (∀ a x, ((![v211] : Fin 1 → IVec S16 32) a x).toNat < S38912.size a)
theorem k0_idx27_inb : ∀ (v211 : IVec S16 32) (k0_hw27 : k0_chk27 v211), ∀ a x, ((![v211] : Fin 1 → IVec S16 32) a x).toNat < S38912.size a := fun v211 k0_hw27 => k0_hw27
def k0_off30 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v212 : Index := Scalar.indexCast arg9
  let c432 : Index := 432#32
  ![v212.toNat, 432]

def k0_chk28 (v213 : IVec S16 32) : Prop :=
  (∀ a x, ((![v213] : Fin 1 → IVec S16 32) a x).toNat < S38912.size a)
theorem k0_idx28_inb : ∀ (v213 : IVec S16 32) (k0_hw28 : k0_chk28 v213), ∀ a x, ((![v213] : Fin 1 → IVec S16 32) a x).toNat < S38912.size a := fun v213 k0_hw28 => k0_hw28
def k0_off31 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v214 : Index := Scalar.indexCast arg9
  let c448 : Index := 448#32
  ![v214.toNat, 448]

def k0_chk29 (v215 : IVec S16 32) : Prop :=
  (∀ a x, ((![v215] : Fin 1 → IVec S16 32) a x).toNat < S38912.size a)
theorem k0_idx29_inb : ∀ (v215 : IVec S16 32) (k0_hw29 : k0_chk29 v215), ∀ a x, ((![v215] : Fin 1 → IVec S16 32) a x).toNat < S38912.size a := fun v215 k0_hw29 => k0_hw29
def k0_off32 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v216 : Index := Scalar.indexCast arg9
  let c464 : Index := 464#32
  ![v216.toNat, 464]

def k0_chk30 (v217 : IVec S16 32) : Prop :=
  (∀ a x, ((![v217] : Fin 1 → IVec S16 32) a x).toNat < S38912.size a)
theorem k0_idx30_inb : ∀ (v217 : IVec S16 32) (k0_hw30 : k0_chk30 v217), ∀ a x, ((![v217] : Fin 1 → IVec S16 32) a x).toNat < S38912.size a := fun v217 k0_hw30 => k0_hw30
def k0_off33 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v218 : Index := Scalar.indexCast arg9
  let c480 : Index := 480#32
  ![v218.toNat, 480]

def k0_chk31 (v219 : IVec S16 32) : Prop :=
  (∀ a x, ((![v219] : Fin 1 → IVec S16 32) a x).toNat < S38912.size a)
theorem k0_idx31_inb : ∀ (v219 : IVec S16 32) (k0_hw31 : k0_chk31 v219), ∀ a x, ((![v219] : Fin 1 → IVec S16 32) a x).toNat < S38912.size a := fun v219 k0_hw31 => k0_hw31
def k0_off34 (k0_t2 : Fin k0_t2_loop.trips) : Fin 2 → Nat :=
  let c0_i32_12 : BitVec 32 := 0#32
  let c1_i32_14 : BitVec 32 := 1#32
  let arg9 : BitVec 32 := Scf.iv c0_i32_12 c1_i32_14 k0_t2
  let v220 : Index := Scalar.indexCast arg9
  let c496 : Index := 496#32
  ![v220.toNat, 496]

def k0_chk32 (v221 : IVec S16 32) : Prop :=
  (∀ a x, ((![v221] : Fin 1 → IVec S16 32) a x).toNat < S38912.size a)
theorem k0_idx32_inb : ∀ (v221 : IVec S16 32) (k0_hw32 : k0_chk32 v221), ∀ a x, ((![v221] : Fin 1 → IVec S16 32) a x).toNat < S38912.size a := fun v221 k0_hw32 => k0_hw32
@[reducible] def k0_t3_loop : Scf.Loop 32 :=
  let c0_i32_22 : BitVec 32 := 0#32
  let c64_i32_23 : BitVec 32 := 64#32
  let v23 : BitVec 32 := Scalar.addi c0_i32_22 c64_i32_23
  let c1_i32_24 : BitVec 32 := 1#32
  ⟨c0_i32_22, v23, c1_i32_24⟩
def k0_off35 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v158 : Index := Scalar.indexCast arg9
  let c0 : Index := 0#32
  ![v158.toNat, 0]

def k0_chk33 (v159 : IVec S16 32) : Prop :=
  (∀ a x, ((![v159] : Fin 1 → IVec S16 32) a x).toNat < S38912.size a)
theorem k0_idx33_inb : ∀ (v159 : IVec S16 32) (k0_hw33 : k0_chk33 v159), ∀ a x, ((![v159] : Fin 1 → IVec S16 32) a x).toNat < S38912.size a := fun v159 k0_hw33 => k0_hw33
def k0_off36 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v160 : Index := Scalar.indexCast arg9
  let c16 : Index := 16#32
  ![v160.toNat, 16]

def k0_chk34 (v161 : IVec S16 32) : Prop :=
  (∀ a x, ((![v161] : Fin 1 → IVec S16 32) a x).toNat < S38912.size a)
theorem k0_idx34_inb : ∀ (v161 : IVec S16 32) (k0_hw34 : k0_chk34 v161), ∀ a x, ((![v161] : Fin 1 → IVec S16 32) a x).toNat < S38912.size a := fun v161 k0_hw34 => k0_hw34
def k0_off37 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v162 : Index := Scalar.indexCast arg9
  let c32 : Index := 32#32
  ![v162.toNat, 32]

def k0_chk35 (v163 : IVec S16 32) : Prop :=
  (∀ a x, ((![v163] : Fin 1 → IVec S16 32) a x).toNat < S38912.size a)
theorem k0_idx35_inb : ∀ (v163 : IVec S16 32) (k0_hw35 : k0_chk35 v163), ∀ a x, ((![v163] : Fin 1 → IVec S16 32) a x).toNat < S38912.size a := fun v163 k0_hw35 => k0_hw35
def k0_off38 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v164 : Index := Scalar.indexCast arg9
  let c48 : Index := 48#32
  ![v164.toNat, 48]

def k0_chk36 (v165 : IVec S16 32) : Prop :=
  (∀ a x, ((![v165] : Fin 1 → IVec S16 32) a x).toNat < S38912.size a)
theorem k0_idx36_inb : ∀ (v165 : IVec S16 32) (k0_hw36 : k0_chk36 v165), ∀ a x, ((![v165] : Fin 1 → IVec S16 32) a x).toNat < S38912.size a := fun v165 k0_hw36 => k0_hw36
def k0_off39 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v166 : Index := Scalar.indexCast arg9
  let c64 : Index := 64#32
  ![v166.toNat, 64]

def k0_chk37 (v167 : IVec S16 32) : Prop :=
  (∀ a x, ((![v167] : Fin 1 → IVec S16 32) a x).toNat < S38912.size a)
theorem k0_idx37_inb : ∀ (v167 : IVec S16 32) (k0_hw37 : k0_chk37 v167), ∀ a x, ((![v167] : Fin 1 → IVec S16 32) a x).toNat < S38912.size a := fun v167 k0_hw37 => k0_hw37
def k0_off40 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v168 : Index := Scalar.indexCast arg9
  let c80 : Index := 80#32
  ![v168.toNat, 80]

def k0_chk38 (v169 : IVec S16 32) : Prop :=
  (∀ a x, ((![v169] : Fin 1 → IVec S16 32) a x).toNat < S38912.size a)
theorem k0_idx38_inb : ∀ (v169 : IVec S16 32) (k0_hw38 : k0_chk38 v169), ∀ a x, ((![v169] : Fin 1 → IVec S16 32) a x).toNat < S38912.size a := fun v169 k0_hw38 => k0_hw38
def k0_off41 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v170 : Index := Scalar.indexCast arg9
  let c96 : Index := 96#32
  ![v170.toNat, 96]

def k0_chk39 (v171 : IVec S16 32) : Prop :=
  (∀ a x, ((![v171] : Fin 1 → IVec S16 32) a x).toNat < S38912.size a)
theorem k0_idx39_inb : ∀ (v171 : IVec S16 32) (k0_hw39 : k0_chk39 v171), ∀ a x, ((![v171] : Fin 1 → IVec S16 32) a x).toNat < S38912.size a := fun v171 k0_hw39 => k0_hw39
def k0_off42 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v172 : Index := Scalar.indexCast arg9
  let c112 : Index := 112#32
  ![v172.toNat, 112]

def k0_chk40 (v173 : IVec S16 32) : Prop :=
  (∀ a x, ((![v173] : Fin 1 → IVec S16 32) a x).toNat < S38912.size a)
theorem k0_idx40_inb : ∀ (v173 : IVec S16 32) (k0_hw40 : k0_chk40 v173), ∀ a x, ((![v173] : Fin 1 → IVec S16 32) a x).toNat < S38912.size a := fun v173 k0_hw40 => k0_hw40
def k0_off43 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v174 : Index := Scalar.indexCast arg9
  let c128 : Index := 128#32
  ![v174.toNat, 128]

def k0_chk41 (v175 : IVec S16 32) : Prop :=
  (∀ a x, ((![v175] : Fin 1 → IVec S16 32) a x).toNat < S38912.size a)
theorem k0_idx41_inb : ∀ (v175 : IVec S16 32) (k0_hw41 : k0_chk41 v175), ∀ a x, ((![v175] : Fin 1 → IVec S16 32) a x).toNat < S38912.size a := fun v175 k0_hw41 => k0_hw41
def k0_off44 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v176 : Index := Scalar.indexCast arg9
  let c144 : Index := 144#32
  ![v176.toNat, 144]

def k0_chk42 (v177 : IVec S16 32) : Prop :=
  (∀ a x, ((![v177] : Fin 1 → IVec S16 32) a x).toNat < S38912.size a)
theorem k0_idx42_inb : ∀ (v177 : IVec S16 32) (k0_hw42 : k0_chk42 v177), ∀ a x, ((![v177] : Fin 1 → IVec S16 32) a x).toNat < S38912.size a := fun v177 k0_hw42 => k0_hw42
def k0_off45 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v178 : Index := Scalar.indexCast arg9
  let c160 : Index := 160#32
  ![v178.toNat, 160]

def k0_chk43 (v179 : IVec S16 32) : Prop :=
  (∀ a x, ((![v179] : Fin 1 → IVec S16 32) a x).toNat < S38912.size a)
theorem k0_idx43_inb : ∀ (v179 : IVec S16 32) (k0_hw43 : k0_chk43 v179), ∀ a x, ((![v179] : Fin 1 → IVec S16 32) a x).toNat < S38912.size a := fun v179 k0_hw43 => k0_hw43
def k0_off46 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v180 : Index := Scalar.indexCast arg9
  let c176 : Index := 176#32
  ![v180.toNat, 176]

def k0_chk44 (v181 : IVec S16 32) : Prop :=
  (∀ a x, ((![v181] : Fin 1 → IVec S16 32) a x).toNat < S38912.size a)
theorem k0_idx44_inb : ∀ (v181 : IVec S16 32) (k0_hw44 : k0_chk44 v181), ∀ a x, ((![v181] : Fin 1 → IVec S16 32) a x).toNat < S38912.size a := fun v181 k0_hw44 => k0_hw44
def k0_off47 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v182 : Index := Scalar.indexCast arg9
  let c192 : Index := 192#32
  ![v182.toNat, 192]

def k0_chk45 (v183 : IVec S16 32) : Prop :=
  (∀ a x, ((![v183] : Fin 1 → IVec S16 32) a x).toNat < S38912.size a)
theorem k0_idx45_inb : ∀ (v183 : IVec S16 32) (k0_hw45 : k0_chk45 v183), ∀ a x, ((![v183] : Fin 1 → IVec S16 32) a x).toNat < S38912.size a := fun v183 k0_hw45 => k0_hw45
def k0_off48 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v184 : Index := Scalar.indexCast arg9
  let c208 : Index := 208#32
  ![v184.toNat, 208]

def k0_chk46 (v185 : IVec S16 32) : Prop :=
  (∀ a x, ((![v185] : Fin 1 → IVec S16 32) a x).toNat < S38912.size a)
theorem k0_idx46_inb : ∀ (v185 : IVec S16 32) (k0_hw46 : k0_chk46 v185), ∀ a x, ((![v185] : Fin 1 → IVec S16 32) a x).toNat < S38912.size a := fun v185 k0_hw46 => k0_hw46
def k0_off49 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v186 : Index := Scalar.indexCast arg9
  let c224 : Index := 224#32
  ![v186.toNat, 224]

def k0_chk47 (v187 : IVec S16 32) : Prop :=
  (∀ a x, ((![v187] : Fin 1 → IVec S16 32) a x).toNat < S38912.size a)
theorem k0_idx47_inb : ∀ (v187 : IVec S16 32) (k0_hw47 : k0_chk47 v187), ∀ a x, ((![v187] : Fin 1 → IVec S16 32) a x).toNat < S38912.size a := fun v187 k0_hw47 => k0_hw47
def k0_off50 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v188 : Index := Scalar.indexCast arg9
  let c240 : Index := 240#32
  ![v188.toNat, 240]

def k0_chk48 (v189 : IVec S16 32) : Prop :=
  (∀ a x, ((![v189] : Fin 1 → IVec S16 32) a x).toNat < S38912.size a)
theorem k0_idx48_inb : ∀ (v189 : IVec S16 32) (k0_hw48 : k0_chk48 v189), ∀ a x, ((![v189] : Fin 1 → IVec S16 32) a x).toNat < S38912.size a := fun v189 k0_hw48 => k0_hw48
def k0_off51 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v190 : Index := Scalar.indexCast arg9
  let c256 : Index := 256#32
  ![v190.toNat, 256]

def k0_chk49 (v191 : IVec S16 32) : Prop :=
  (∀ a x, ((![v191] : Fin 1 → IVec S16 32) a x).toNat < S38912.size a)
theorem k0_idx49_inb : ∀ (v191 : IVec S16 32) (k0_hw49 : k0_chk49 v191), ∀ a x, ((![v191] : Fin 1 → IVec S16 32) a x).toNat < S38912.size a := fun v191 k0_hw49 => k0_hw49
def k0_off52 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v192 : Index := Scalar.indexCast arg9
  let c272 : Index := 272#32
  ![v192.toNat, 272]

def k0_chk50 (v193 : IVec S16 32) : Prop :=
  (∀ a x, ((![v193] : Fin 1 → IVec S16 32) a x).toNat < S38912.size a)
theorem k0_idx50_inb : ∀ (v193 : IVec S16 32) (k0_hw50 : k0_chk50 v193), ∀ a x, ((![v193] : Fin 1 → IVec S16 32) a x).toNat < S38912.size a := fun v193 k0_hw50 => k0_hw50
def k0_off53 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v194 : Index := Scalar.indexCast arg9
  let c288 : Index := 288#32
  ![v194.toNat, 288]

def k0_chk51 (v195 : IVec S16 32) : Prop :=
  (∀ a x, ((![v195] : Fin 1 → IVec S16 32) a x).toNat < S38912.size a)
theorem k0_idx51_inb : ∀ (v195 : IVec S16 32) (k0_hw51 : k0_chk51 v195), ∀ a x, ((![v195] : Fin 1 → IVec S16 32) a x).toNat < S38912.size a := fun v195 k0_hw51 => k0_hw51
def k0_off54 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v196 : Index := Scalar.indexCast arg9
  let c304 : Index := 304#32
  ![v196.toNat, 304]

def k0_chk52 (v197 : IVec S16 32) : Prop :=
  (∀ a x, ((![v197] : Fin 1 → IVec S16 32) a x).toNat < S38912.size a)
theorem k0_idx52_inb : ∀ (v197 : IVec S16 32) (k0_hw52 : k0_chk52 v197), ∀ a x, ((![v197] : Fin 1 → IVec S16 32) a x).toNat < S38912.size a := fun v197 k0_hw52 => k0_hw52
def k0_off55 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v198 : Index := Scalar.indexCast arg9
  let c320 : Index := 320#32
  ![v198.toNat, 320]

def k0_chk53 (v199 : IVec S16 32) : Prop :=
  (∀ a x, ((![v199] : Fin 1 → IVec S16 32) a x).toNat < S38912.size a)
theorem k0_idx53_inb : ∀ (v199 : IVec S16 32) (k0_hw53 : k0_chk53 v199), ∀ a x, ((![v199] : Fin 1 → IVec S16 32) a x).toNat < S38912.size a := fun v199 k0_hw53 => k0_hw53
def k0_off56 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v200 : Index := Scalar.indexCast arg9
  let c336 : Index := 336#32
  ![v200.toNat, 336]

def k0_chk54 (v201 : IVec S16 32) : Prop :=
  (∀ a x, ((![v201] : Fin 1 → IVec S16 32) a x).toNat < S38912.size a)
theorem k0_idx54_inb : ∀ (v201 : IVec S16 32) (k0_hw54 : k0_chk54 v201), ∀ a x, ((![v201] : Fin 1 → IVec S16 32) a x).toNat < S38912.size a := fun v201 k0_hw54 => k0_hw54
def k0_off57 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v202 : Index := Scalar.indexCast arg9
  let c352 : Index := 352#32
  ![v202.toNat, 352]

def k0_chk55 (v203 : IVec S16 32) : Prop :=
  (∀ a x, ((![v203] : Fin 1 → IVec S16 32) a x).toNat < S38912.size a)
theorem k0_idx55_inb : ∀ (v203 : IVec S16 32) (k0_hw55 : k0_chk55 v203), ∀ a x, ((![v203] : Fin 1 → IVec S16 32) a x).toNat < S38912.size a := fun v203 k0_hw55 => k0_hw55
def k0_off58 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v204 : Index := Scalar.indexCast arg9
  let c368 : Index := 368#32
  ![v204.toNat, 368]

def k0_chk56 (v205 : IVec S16 32) : Prop :=
  (∀ a x, ((![v205] : Fin 1 → IVec S16 32) a x).toNat < S38912.size a)
theorem k0_idx56_inb : ∀ (v205 : IVec S16 32) (k0_hw56 : k0_chk56 v205), ∀ a x, ((![v205] : Fin 1 → IVec S16 32) a x).toNat < S38912.size a := fun v205 k0_hw56 => k0_hw56
def k0_off59 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v206 : Index := Scalar.indexCast arg9
  let c384 : Index := 384#32
  ![v206.toNat, 384]

def k0_chk57 (v207 : IVec S16 32) : Prop :=
  (∀ a x, ((![v207] : Fin 1 → IVec S16 32) a x).toNat < S38912.size a)
theorem k0_idx57_inb : ∀ (v207 : IVec S16 32) (k0_hw57 : k0_chk57 v207), ∀ a x, ((![v207] : Fin 1 → IVec S16 32) a x).toNat < S38912.size a := fun v207 k0_hw57 => k0_hw57
def k0_off60 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v208 : Index := Scalar.indexCast arg9
  let c400 : Index := 400#32
  ![v208.toNat, 400]

def k0_chk58 (v209 : IVec S16 32) : Prop :=
  (∀ a x, ((![v209] : Fin 1 → IVec S16 32) a x).toNat < S38912.size a)
theorem k0_idx58_inb : ∀ (v209 : IVec S16 32) (k0_hw58 : k0_chk58 v209), ∀ a x, ((![v209] : Fin 1 → IVec S16 32) a x).toNat < S38912.size a := fun v209 k0_hw58 => k0_hw58
def k0_off61 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v210 : Index := Scalar.indexCast arg9
  let c416 : Index := 416#32
  ![v210.toNat, 416]

def k0_chk59 (v211 : IVec S16 32) : Prop :=
  (∀ a x, ((![v211] : Fin 1 → IVec S16 32) a x).toNat < S38912.size a)
theorem k0_idx59_inb : ∀ (v211 : IVec S16 32) (k0_hw59 : k0_chk59 v211), ∀ a x, ((![v211] : Fin 1 → IVec S16 32) a x).toNat < S38912.size a := fun v211 k0_hw59 => k0_hw59
def k0_off62 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v212 : Index := Scalar.indexCast arg9
  let c432 : Index := 432#32
  ![v212.toNat, 432]

def k0_chk60 (v213 : IVec S16 32) : Prop :=
  (∀ a x, ((![v213] : Fin 1 → IVec S16 32) a x).toNat < S38912.size a)
theorem k0_idx60_inb : ∀ (v213 : IVec S16 32) (k0_hw60 : k0_chk60 v213), ∀ a x, ((![v213] : Fin 1 → IVec S16 32) a x).toNat < S38912.size a := fun v213 k0_hw60 => k0_hw60
def k0_off63 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v214 : Index := Scalar.indexCast arg9
  let c448 : Index := 448#32
  ![v214.toNat, 448]

def k0_chk61 (v215 : IVec S16 32) : Prop :=
  (∀ a x, ((![v215] : Fin 1 → IVec S16 32) a x).toNat < S38912.size a)
theorem k0_idx61_inb : ∀ (v215 : IVec S16 32) (k0_hw61 : k0_chk61 v215), ∀ a x, ((![v215] : Fin 1 → IVec S16 32) a x).toNat < S38912.size a := fun v215 k0_hw61 => k0_hw61
def k0_off64 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v216 : Index := Scalar.indexCast arg9
  let c464 : Index := 464#32
  ![v216.toNat, 464]

def k0_chk62 (v217 : IVec S16 32) : Prop :=
  (∀ a x, ((![v217] : Fin 1 → IVec S16 32) a x).toNat < S38912.size a)
theorem k0_idx62_inb : ∀ (v217 : IVec S16 32) (k0_hw62 : k0_chk62 v217), ∀ a x, ((![v217] : Fin 1 → IVec S16 32) a x).toNat < S38912.size a := fun v217 k0_hw62 => k0_hw62
def k0_off65 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v218 : Index := Scalar.indexCast arg9
  let c480 : Index := 480#32
  ![v218.toNat, 480]

def k0_chk63 (v219 : IVec S16 32) : Prop :=
  (∀ a x, ((![v219] : Fin 1 → IVec S16 32) a x).toNat < S38912.size a)
theorem k0_idx63_inb : ∀ (v219 : IVec S16 32) (k0_hw63 : k0_chk63 v219), ∀ a x, ((![v219] : Fin 1 → IVec S16 32) a x).toNat < S38912.size a := fun v219 k0_hw63 => k0_hw63
def k0_off66 (k0_t3 : Fin k0_t3_loop.trips) : Fin 2 → Nat :=
  let c0_i32_22 : BitVec 32 := 0#32
  let c1_i32_24 : BitVec 32 := 1#32
  let arg9 : BitVec 32 := Scf.iv c0_i32_22 c1_i32_24 k0_t3
  let v220 : Index := Scalar.indexCast arg9
  let c496 : Index := 496#32
  ![v220.toNat, 496]

def k0_chk64 (v221 : IVec S16 32) : Prop :=
  (∀ a x, ((![v221] : Fin 1 → IVec S16 32) a x).toNat < S38912.size a)
theorem k0_idx64_inb : ∀ (v221 : IVec S16 32) (k0_hw64 : k0_chk64 v221), ∀ a x, ((![v221] : Fin 1 → IVec S16 32) a x).toNat < S38912.size a := fun v221 k0_hw64 => k0_hw64
@[reducible] def k0_t4_loop : Scf.Loop 32 :=
  let c0_i32_32 : BitVec 32 := 0#32
  let c64_i32_33 : BitVec 32 := 64#32
  let v31 : BitVec 32 := Scalar.addi c0_i32_32 c64_i32_33
  let c1_i32_34 : BitVec 32 := 1#32
  ⟨c0_i32_32, v31, c1_i32_34⟩
def k0_off67 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v158 : Index := Scalar.indexCast arg9
  let c0 : Index := 0#32
  ![v158.toNat, 0]

def k0_chk65 (v159 : IVec S16 32) : Prop :=
  (∀ a x, ((![v159] : Fin 1 → IVec S16 32) a x).toNat < S38912.size a)
theorem k0_idx65_inb : ∀ (v159 : IVec S16 32) (k0_hw65 : k0_chk65 v159), ∀ a x, ((![v159] : Fin 1 → IVec S16 32) a x).toNat < S38912.size a := fun v159 k0_hw65 => k0_hw65
def k0_off68 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v160 : Index := Scalar.indexCast arg9
  let c16 : Index := 16#32
  ![v160.toNat, 16]

def k0_chk66 (v161 : IVec S16 32) : Prop :=
  (∀ a x, ((![v161] : Fin 1 → IVec S16 32) a x).toNat < S38912.size a)
theorem k0_idx66_inb : ∀ (v161 : IVec S16 32) (k0_hw66 : k0_chk66 v161), ∀ a x, ((![v161] : Fin 1 → IVec S16 32) a x).toNat < S38912.size a := fun v161 k0_hw66 => k0_hw66
def k0_off69 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v162 : Index := Scalar.indexCast arg9
  let c32 : Index := 32#32
  ![v162.toNat, 32]

def k0_chk67 (v163 : IVec S16 32) : Prop :=
  (∀ a x, ((![v163] : Fin 1 → IVec S16 32) a x).toNat < S38912.size a)
theorem k0_idx67_inb : ∀ (v163 : IVec S16 32) (k0_hw67 : k0_chk67 v163), ∀ a x, ((![v163] : Fin 1 → IVec S16 32) a x).toNat < S38912.size a := fun v163 k0_hw67 => k0_hw67
def k0_off70 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v164 : Index := Scalar.indexCast arg9
  let c48 : Index := 48#32
  ![v164.toNat, 48]

def k0_chk68 (v165 : IVec S16 32) : Prop :=
  (∀ a x, ((![v165] : Fin 1 → IVec S16 32) a x).toNat < S38912.size a)
theorem k0_idx68_inb : ∀ (v165 : IVec S16 32) (k0_hw68 : k0_chk68 v165), ∀ a x, ((![v165] : Fin 1 → IVec S16 32) a x).toNat < S38912.size a := fun v165 k0_hw68 => k0_hw68
def k0_off71 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v166 : Index := Scalar.indexCast arg9
  let c64 : Index := 64#32
  ![v166.toNat, 64]

def k0_chk69 (v167 : IVec S16 32) : Prop :=
  (∀ a x, ((![v167] : Fin 1 → IVec S16 32) a x).toNat < S38912.size a)
theorem k0_idx69_inb : ∀ (v167 : IVec S16 32) (k0_hw69 : k0_chk69 v167), ∀ a x, ((![v167] : Fin 1 → IVec S16 32) a x).toNat < S38912.size a := fun v167 k0_hw69 => k0_hw69
def k0_off72 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v168 : Index := Scalar.indexCast arg9
  let c80 : Index := 80#32
  ![v168.toNat, 80]

def k0_chk70 (v169 : IVec S16 32) : Prop :=
  (∀ a x, ((![v169] : Fin 1 → IVec S16 32) a x).toNat < S38912.size a)
theorem k0_idx70_inb : ∀ (v169 : IVec S16 32) (k0_hw70 : k0_chk70 v169), ∀ a x, ((![v169] : Fin 1 → IVec S16 32) a x).toNat < S38912.size a := fun v169 k0_hw70 => k0_hw70
def k0_off73 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v170 : Index := Scalar.indexCast arg9
  let c96 : Index := 96#32
  ![v170.toNat, 96]

def k0_chk71 (v171 : IVec S16 32) : Prop :=
  (∀ a x, ((![v171] : Fin 1 → IVec S16 32) a x).toNat < S38912.size a)
theorem k0_idx71_inb : ∀ (v171 : IVec S16 32) (k0_hw71 : k0_chk71 v171), ∀ a x, ((![v171] : Fin 1 → IVec S16 32) a x).toNat < S38912.size a := fun v171 k0_hw71 => k0_hw71
def k0_off74 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v172 : Index := Scalar.indexCast arg9
  let c112 : Index := 112#32
  ![v172.toNat, 112]

def k0_chk72 (v173 : IVec S16 32) : Prop :=
  (∀ a x, ((![v173] : Fin 1 → IVec S16 32) a x).toNat < S38912.size a)
theorem k0_idx72_inb : ∀ (v173 : IVec S16 32) (k0_hw72 : k0_chk72 v173), ∀ a x, ((![v173] : Fin 1 → IVec S16 32) a x).toNat < S38912.size a := fun v173 k0_hw72 => k0_hw72
def k0_off75 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v174 : Index := Scalar.indexCast arg9
  let c128 : Index := 128#32
  ![v174.toNat, 128]

def k0_chk73 (v175 : IVec S16 32) : Prop :=
  (∀ a x, ((![v175] : Fin 1 → IVec S16 32) a x).toNat < S38912.size a)
theorem k0_idx73_inb : ∀ (v175 : IVec S16 32) (k0_hw73 : k0_chk73 v175), ∀ a x, ((![v175] : Fin 1 → IVec S16 32) a x).toNat < S38912.size a := fun v175 k0_hw73 => k0_hw73
def k0_off76 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v176 : Index := Scalar.indexCast arg9
  let c144 : Index := 144#32
  ![v176.toNat, 144]

def k0_chk74 (v177 : IVec S16 32) : Prop :=
  (∀ a x, ((![v177] : Fin 1 → IVec S16 32) a x).toNat < S38912.size a)
theorem k0_idx74_inb : ∀ (v177 : IVec S16 32) (k0_hw74 : k0_chk74 v177), ∀ a x, ((![v177] : Fin 1 → IVec S16 32) a x).toNat < S38912.size a := fun v177 k0_hw74 => k0_hw74
def k0_off77 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v178 : Index := Scalar.indexCast arg9
  let c160 : Index := 160#32
  ![v178.toNat, 160]

def k0_chk75 (v179 : IVec S16 32) : Prop :=
  (∀ a x, ((![v179] : Fin 1 → IVec S16 32) a x).toNat < S38912.size a)
theorem k0_idx75_inb : ∀ (v179 : IVec S16 32) (k0_hw75 : k0_chk75 v179), ∀ a x, ((![v179] : Fin 1 → IVec S16 32) a x).toNat < S38912.size a := fun v179 k0_hw75 => k0_hw75
def k0_off78 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v180 : Index := Scalar.indexCast arg9
  let c176 : Index := 176#32
  ![v180.toNat, 176]

def k0_chk76 (v181 : IVec S16 32) : Prop :=
  (∀ a x, ((![v181] : Fin 1 → IVec S16 32) a x).toNat < S38912.size a)
theorem k0_idx76_inb : ∀ (v181 : IVec S16 32) (k0_hw76 : k0_chk76 v181), ∀ a x, ((![v181] : Fin 1 → IVec S16 32) a x).toNat < S38912.size a := fun v181 k0_hw76 => k0_hw76
def k0_off79 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v182 : Index := Scalar.indexCast arg9
  let c192 : Index := 192#32
  ![v182.toNat, 192]

def k0_chk77 (v183 : IVec S16 32) : Prop :=
  (∀ a x, ((![v183] : Fin 1 → IVec S16 32) a x).toNat < S38912.size a)
theorem k0_idx77_inb : ∀ (v183 : IVec S16 32) (k0_hw77 : k0_chk77 v183), ∀ a x, ((![v183] : Fin 1 → IVec S16 32) a x).toNat < S38912.size a := fun v183 k0_hw77 => k0_hw77
def k0_off80 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v184 : Index := Scalar.indexCast arg9
  let c208 : Index := 208#32
  ![v184.toNat, 208]

def k0_chk78 (v185 : IVec S16 32) : Prop :=
  (∀ a x, ((![v185] : Fin 1 → IVec S16 32) a x).toNat < S38912.size a)
theorem k0_idx78_inb : ∀ (v185 : IVec S16 32) (k0_hw78 : k0_chk78 v185), ∀ a x, ((![v185] : Fin 1 → IVec S16 32) a x).toNat < S38912.size a := fun v185 k0_hw78 => k0_hw78
def k0_off81 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v186 : Index := Scalar.indexCast arg9
  let c224 : Index := 224#32
  ![v186.toNat, 224]

def k0_chk79 (v187 : IVec S16 32) : Prop :=
  (∀ a x, ((![v187] : Fin 1 → IVec S16 32) a x).toNat < S38912.size a)
theorem k0_idx79_inb : ∀ (v187 : IVec S16 32) (k0_hw79 : k0_chk79 v187), ∀ a x, ((![v187] : Fin 1 → IVec S16 32) a x).toNat < S38912.size a := fun v187 k0_hw79 => k0_hw79
def k0_off82 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v188 : Index := Scalar.indexCast arg9
  let c240 : Index := 240#32
  ![v188.toNat, 240]

def k0_chk80 (v189 : IVec S16 32) : Prop :=
  (∀ a x, ((![v189] : Fin 1 → IVec S16 32) a x).toNat < S38912.size a)
theorem k0_idx80_inb : ∀ (v189 : IVec S16 32) (k0_hw80 : k0_chk80 v189), ∀ a x, ((![v189] : Fin 1 → IVec S16 32) a x).toNat < S38912.size a := fun v189 k0_hw80 => k0_hw80
def k0_off83 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v190 : Index := Scalar.indexCast arg9
  let c256 : Index := 256#32
  ![v190.toNat, 256]

def k0_chk81 (v191 : IVec S16 32) : Prop :=
  (∀ a x, ((![v191] : Fin 1 → IVec S16 32) a x).toNat < S38912.size a)
theorem k0_idx81_inb : ∀ (v191 : IVec S16 32) (k0_hw81 : k0_chk81 v191), ∀ a x, ((![v191] : Fin 1 → IVec S16 32) a x).toNat < S38912.size a := fun v191 k0_hw81 => k0_hw81
def k0_off84 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v192 : Index := Scalar.indexCast arg9
  let c272 : Index := 272#32
  ![v192.toNat, 272]

def k0_chk82 (v193 : IVec S16 32) : Prop :=
  (∀ a x, ((![v193] : Fin 1 → IVec S16 32) a x).toNat < S38912.size a)
theorem k0_idx82_inb : ∀ (v193 : IVec S16 32) (k0_hw82 : k0_chk82 v193), ∀ a x, ((![v193] : Fin 1 → IVec S16 32) a x).toNat < S38912.size a := fun v193 k0_hw82 => k0_hw82
def k0_off85 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v194 : Index := Scalar.indexCast arg9
  let c288 : Index := 288#32
  ![v194.toNat, 288]

def k0_chk83 (v195 : IVec S16 32) : Prop :=
  (∀ a x, ((![v195] : Fin 1 → IVec S16 32) a x).toNat < S38912.size a)
theorem k0_idx83_inb : ∀ (v195 : IVec S16 32) (k0_hw83 : k0_chk83 v195), ∀ a x, ((![v195] : Fin 1 → IVec S16 32) a x).toNat < S38912.size a := fun v195 k0_hw83 => k0_hw83
def k0_off86 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v196 : Index := Scalar.indexCast arg9
  let c304 : Index := 304#32
  ![v196.toNat, 304]

def k0_chk84 (v197 : IVec S16 32) : Prop :=
  (∀ a x, ((![v197] : Fin 1 → IVec S16 32) a x).toNat < S38912.size a)
theorem k0_idx84_inb : ∀ (v197 : IVec S16 32) (k0_hw84 : k0_chk84 v197), ∀ a x, ((![v197] : Fin 1 → IVec S16 32) a x).toNat < S38912.size a := fun v197 k0_hw84 => k0_hw84
def k0_off87 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v198 : Index := Scalar.indexCast arg9
  let c320 : Index := 320#32
  ![v198.toNat, 320]

def k0_chk85 (v199 : IVec S16 32) : Prop :=
  (∀ a x, ((![v199] : Fin 1 → IVec S16 32) a x).toNat < S38912.size a)
theorem k0_idx85_inb : ∀ (v199 : IVec S16 32) (k0_hw85 : k0_chk85 v199), ∀ a x, ((![v199] : Fin 1 → IVec S16 32) a x).toNat < S38912.size a := fun v199 k0_hw85 => k0_hw85
def k0_off88 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v200 : Index := Scalar.indexCast arg9
  let c336 : Index := 336#32
  ![v200.toNat, 336]

def k0_chk86 (v201 : IVec S16 32) : Prop :=
  (∀ a x, ((![v201] : Fin 1 → IVec S16 32) a x).toNat < S38912.size a)
theorem k0_idx86_inb : ∀ (v201 : IVec S16 32) (k0_hw86 : k0_chk86 v201), ∀ a x, ((![v201] : Fin 1 → IVec S16 32) a x).toNat < S38912.size a := fun v201 k0_hw86 => k0_hw86
def k0_off89 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v202 : Index := Scalar.indexCast arg9
  let c352 : Index := 352#32
  ![v202.toNat, 352]

def k0_chk87 (v203 : IVec S16 32) : Prop :=
  (∀ a x, ((![v203] : Fin 1 → IVec S16 32) a x).toNat < S38912.size a)
theorem k0_idx87_inb : ∀ (v203 : IVec S16 32) (k0_hw87 : k0_chk87 v203), ∀ a x, ((![v203] : Fin 1 → IVec S16 32) a x).toNat < S38912.size a := fun v203 k0_hw87 => k0_hw87
def k0_off90 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v204 : Index := Scalar.indexCast arg9
  let c368 : Index := 368#32
  ![v204.toNat, 368]

def k0_chk88 (v205 : IVec S16 32) : Prop :=
  (∀ a x, ((![v205] : Fin 1 → IVec S16 32) a x).toNat < S38912.size a)
theorem k0_idx88_inb : ∀ (v205 : IVec S16 32) (k0_hw88 : k0_chk88 v205), ∀ a x, ((![v205] : Fin 1 → IVec S16 32) a x).toNat < S38912.size a := fun v205 k0_hw88 => k0_hw88
def k0_off91 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v206 : Index := Scalar.indexCast arg9
  let c384 : Index := 384#32
  ![v206.toNat, 384]

def k0_chk89 (v207 : IVec S16 32) : Prop :=
  (∀ a x, ((![v207] : Fin 1 → IVec S16 32) a x).toNat < S38912.size a)
theorem k0_idx89_inb : ∀ (v207 : IVec S16 32) (k0_hw89 : k0_chk89 v207), ∀ a x, ((![v207] : Fin 1 → IVec S16 32) a x).toNat < S38912.size a := fun v207 k0_hw89 => k0_hw89
def k0_off92 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v208 : Index := Scalar.indexCast arg9
  let c400 : Index := 400#32
  ![v208.toNat, 400]

def k0_chk90 (v209 : IVec S16 32) : Prop :=
  (∀ a x, ((![v209] : Fin 1 → IVec S16 32) a x).toNat < S38912.size a)
theorem k0_idx90_inb : ∀ (v209 : IVec S16 32) (k0_hw90 : k0_chk90 v209), ∀ a x, ((![v209] : Fin 1 → IVec S16 32) a x).toNat < S38912.size a := fun v209 k0_hw90 => k0_hw90
def k0_off93 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v210 : Index := Scalar.indexCast arg9
  let c416 : Index := 416#32
  ![v210.toNat, 416]

def k0_chk91 (v211 : IVec S16 32) : Prop :=
  (∀ a x, ((![v211] : Fin 1 → IVec S16 32) a x).toNat < S38912.size a)
theorem k0_idx91_inb : ∀ (v211 : IVec S16 32) (k0_hw91 : k0_chk91 v211), ∀ a x, ((![v211] : Fin 1 → IVec S16 32) a x).toNat < S38912.size a := fun v211 k0_hw91 => k0_hw91
def k0_off94 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v212 : Index := Scalar.indexCast arg9
  let c432 : Index := 432#32
  ![v212.toNat, 432]

def k0_chk92 (v213 : IVec S16 32) : Prop :=
  (∀ a x, ((![v213] : Fin 1 → IVec S16 32) a x).toNat < S38912.size a)
theorem k0_idx92_inb : ∀ (v213 : IVec S16 32) (k0_hw92 : k0_chk92 v213), ∀ a x, ((![v213] : Fin 1 → IVec S16 32) a x).toNat < S38912.size a := fun v213 k0_hw92 => k0_hw92
def k0_off95 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v214 : Index := Scalar.indexCast arg9
  let c448 : Index := 448#32
  ![v214.toNat, 448]

def k0_chk93 (v215 : IVec S16 32) : Prop :=
  (∀ a x, ((![v215] : Fin 1 → IVec S16 32) a x).toNat < S38912.size a)
theorem k0_idx93_inb : ∀ (v215 : IVec S16 32) (k0_hw93 : k0_chk93 v215), ∀ a x, ((![v215] : Fin 1 → IVec S16 32) a x).toNat < S38912.size a := fun v215 k0_hw93 => k0_hw93
def k0_off96 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v216 : Index := Scalar.indexCast arg9
  let c464 : Index := 464#32
  ![v216.toNat, 464]

def k0_chk94 (v217 : IVec S16 32) : Prop :=
  (∀ a x, ((![v217] : Fin 1 → IVec S16 32) a x).toNat < S38912.size a)
theorem k0_idx94_inb : ∀ (v217 : IVec S16 32) (k0_hw94 : k0_chk94 v217), ∀ a x, ((![v217] : Fin 1 → IVec S16 32) a x).toNat < S38912.size a := fun v217 k0_hw94 => k0_hw94
def k0_off97 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v218 : Index := Scalar.indexCast arg9
  let c480 : Index := 480#32
  ![v218.toNat, 480]

def k0_chk95 (v219 : IVec S16 32) : Prop :=
  (∀ a x, ((![v219] : Fin 1 → IVec S16 32) a x).toNat < S38912.size a)
theorem k0_idx95_inb : ∀ (v219 : IVec S16 32) (k0_hw95 : k0_chk95 v219), ∀ a x, ((![v219] : Fin 1 → IVec S16 32) a x).toNat < S38912.size a := fun v219 k0_hw95 => k0_hw95
def k0_off98 (k0_t4 : Fin k0_t4_loop.trips) : Fin 2 → Nat :=
  let c0_i32_32 : BitVec 32 := 0#32
  let c1_i32_34 : BitVec 32 := 1#32
  let arg9 : BitVec 32 := Scf.iv c0_i32_32 c1_i32_34 k0_t4
  let v220 : Index := Scalar.indexCast arg9
  let c496 : Index := 496#32
  ![v220.toNat, 496]

def k0_chk96 (v221 : IVec S16 32) : Prop :=
  (∀ a x, ((![v221] : Fin 1 → IVec S16 32) a x).toNat < S38912.size a)
theorem k0_idx96_inb : ∀ (v221 : IVec S16 32) (k0_hw96 : k0_chk96 v221), ∀ a x, ((![v221] : Fin 1 → IVec S16 32) a x).toNat < S38912.size a := fun v221 k0_hw96 => k0_hw96
@[reducible] def k0_t5_loop : Scf.Loop 32 :=
  let c0_i32_42 : BitVec 32 := 0#32
  let c64_i32_43 : BitVec 32 := 64#32
  let v39 : BitVec 32 := Scalar.addi c0_i32_42 c64_i32_43
  let c1_i32_44 : BitVec 32 := 1#32
  ⟨c0_i32_42, v39, c1_i32_44⟩
def k0_off99 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v158 : Index := Scalar.indexCast arg9
  let c0 : Index := 0#32
  ![v158.toNat, 0]

def k0_chk97 (v159 : IVec S16 32) : Prop :=
  (∀ a x, ((![v159] : Fin 1 → IVec S16 32) a x).toNat < S38912.size a)
theorem k0_idx97_inb : ∀ (v159 : IVec S16 32) (k0_hw97 : k0_chk97 v159), ∀ a x, ((![v159] : Fin 1 → IVec S16 32) a x).toNat < S38912.size a := fun v159 k0_hw97 => k0_hw97
def k0_off100 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v160 : Index := Scalar.indexCast arg9
  let c16 : Index := 16#32
  ![v160.toNat, 16]

def k0_chk98 (v161 : IVec S16 32) : Prop :=
  (∀ a x, ((![v161] : Fin 1 → IVec S16 32) a x).toNat < S38912.size a)
theorem k0_idx98_inb : ∀ (v161 : IVec S16 32) (k0_hw98 : k0_chk98 v161), ∀ a x, ((![v161] : Fin 1 → IVec S16 32) a x).toNat < S38912.size a := fun v161 k0_hw98 => k0_hw98
def k0_off101 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v162 : Index := Scalar.indexCast arg9
  let c32 : Index := 32#32
  ![v162.toNat, 32]

def k0_chk99 (v163 : IVec S16 32) : Prop :=
  (∀ a x, ((![v163] : Fin 1 → IVec S16 32) a x).toNat < S38912.size a)
theorem k0_idx99_inb : ∀ (v163 : IVec S16 32) (k0_hw99 : k0_chk99 v163), ∀ a x, ((![v163] : Fin 1 → IVec S16 32) a x).toNat < S38912.size a := fun v163 k0_hw99 => k0_hw99
def k0_off102 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v164 : Index := Scalar.indexCast arg9
  let c48 : Index := 48#32
  ![v164.toNat, 48]

def k0_chk100 (v165 : IVec S16 32) : Prop :=
  (∀ a x, ((![v165] : Fin 1 → IVec S16 32) a x).toNat < S38912.size a)
theorem k0_idx100_inb : ∀ (v165 : IVec S16 32) (k0_hw100 : k0_chk100 v165), ∀ a x, ((![v165] : Fin 1 → IVec S16 32) a x).toNat < S38912.size a := fun v165 k0_hw100 => k0_hw100
def k0_off103 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v166 : Index := Scalar.indexCast arg9
  let c64 : Index := 64#32
  ![v166.toNat, 64]

def k0_chk101 (v167 : IVec S16 32) : Prop :=
  (∀ a x, ((![v167] : Fin 1 → IVec S16 32) a x).toNat < S38912.size a)
theorem k0_idx101_inb : ∀ (v167 : IVec S16 32) (k0_hw101 : k0_chk101 v167), ∀ a x, ((![v167] : Fin 1 → IVec S16 32) a x).toNat < S38912.size a := fun v167 k0_hw101 => k0_hw101
def k0_off104 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v168 : Index := Scalar.indexCast arg9
  let c80 : Index := 80#32
  ![v168.toNat, 80]

def k0_chk102 (v169 : IVec S16 32) : Prop :=
  (∀ a x, ((![v169] : Fin 1 → IVec S16 32) a x).toNat < S38912.size a)
theorem k0_idx102_inb : ∀ (v169 : IVec S16 32) (k0_hw102 : k0_chk102 v169), ∀ a x, ((![v169] : Fin 1 → IVec S16 32) a x).toNat < S38912.size a := fun v169 k0_hw102 => k0_hw102
def k0_off105 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v170 : Index := Scalar.indexCast arg9
  let c96 : Index := 96#32
  ![v170.toNat, 96]

def k0_chk103 (v171 : IVec S16 32) : Prop :=
  (∀ a x, ((![v171] : Fin 1 → IVec S16 32) a x).toNat < S38912.size a)
theorem k0_idx103_inb : ∀ (v171 : IVec S16 32) (k0_hw103 : k0_chk103 v171), ∀ a x, ((![v171] : Fin 1 → IVec S16 32) a x).toNat < S38912.size a := fun v171 k0_hw103 => k0_hw103
def k0_off106 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v172 : Index := Scalar.indexCast arg9
  let c112 : Index := 112#32
  ![v172.toNat, 112]

def k0_chk104 (v173 : IVec S16 32) : Prop :=
  (∀ a x, ((![v173] : Fin 1 → IVec S16 32) a x).toNat < S38912.size a)
theorem k0_idx104_inb : ∀ (v173 : IVec S16 32) (k0_hw104 : k0_chk104 v173), ∀ a x, ((![v173] : Fin 1 → IVec S16 32) a x).toNat < S38912.size a := fun v173 k0_hw104 => k0_hw104
def k0_off107 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v174 : Index := Scalar.indexCast arg9
  let c128 : Index := 128#32
  ![v174.toNat, 128]

def k0_chk105 (v175 : IVec S16 32) : Prop :=
  (∀ a x, ((![v175] : Fin 1 → IVec S16 32) a x).toNat < S38912.size a)
theorem k0_idx105_inb : ∀ (v175 : IVec S16 32) (k0_hw105 : k0_chk105 v175), ∀ a x, ((![v175] : Fin 1 → IVec S16 32) a x).toNat < S38912.size a := fun v175 k0_hw105 => k0_hw105
def k0_off108 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v176 : Index := Scalar.indexCast arg9
  let c144 : Index := 144#32
  ![v176.toNat, 144]

def k0_chk106 (v177 : IVec S16 32) : Prop :=
  (∀ a x, ((![v177] : Fin 1 → IVec S16 32) a x).toNat < S38912.size a)
theorem k0_idx106_inb : ∀ (v177 : IVec S16 32) (k0_hw106 : k0_chk106 v177), ∀ a x, ((![v177] : Fin 1 → IVec S16 32) a x).toNat < S38912.size a := fun v177 k0_hw106 => k0_hw106
def k0_off109 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v178 : Index := Scalar.indexCast arg9
  let c160 : Index := 160#32
  ![v178.toNat, 160]

def k0_chk107 (v179 : IVec S16 32) : Prop :=
  (∀ a x, ((![v179] : Fin 1 → IVec S16 32) a x).toNat < S38912.size a)
theorem k0_idx107_inb : ∀ (v179 : IVec S16 32) (k0_hw107 : k0_chk107 v179), ∀ a x, ((![v179] : Fin 1 → IVec S16 32) a x).toNat < S38912.size a := fun v179 k0_hw107 => k0_hw107
def k0_off110 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v180 : Index := Scalar.indexCast arg9
  let c176 : Index := 176#32
  ![v180.toNat, 176]

def k0_chk108 (v181 : IVec S16 32) : Prop :=
  (∀ a x, ((![v181] : Fin 1 → IVec S16 32) a x).toNat < S38912.size a)
theorem k0_idx108_inb : ∀ (v181 : IVec S16 32) (k0_hw108 : k0_chk108 v181), ∀ a x, ((![v181] : Fin 1 → IVec S16 32) a x).toNat < S38912.size a := fun v181 k0_hw108 => k0_hw108
def k0_off111 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v182 : Index := Scalar.indexCast arg9
  let c192 : Index := 192#32
  ![v182.toNat, 192]

def k0_chk109 (v183 : IVec S16 32) : Prop :=
  (∀ a x, ((![v183] : Fin 1 → IVec S16 32) a x).toNat < S38912.size a)
theorem k0_idx109_inb : ∀ (v183 : IVec S16 32) (k0_hw109 : k0_chk109 v183), ∀ a x, ((![v183] : Fin 1 → IVec S16 32) a x).toNat < S38912.size a := fun v183 k0_hw109 => k0_hw109
def k0_off112 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v184 : Index := Scalar.indexCast arg9
  let c208 : Index := 208#32
  ![v184.toNat, 208]

def k0_chk110 (v185 : IVec S16 32) : Prop :=
  (∀ a x, ((![v185] : Fin 1 → IVec S16 32) a x).toNat < S38912.size a)
theorem k0_idx110_inb : ∀ (v185 : IVec S16 32) (k0_hw110 : k0_chk110 v185), ∀ a x, ((![v185] : Fin 1 → IVec S16 32) a x).toNat < S38912.size a := fun v185 k0_hw110 => k0_hw110
def k0_off113 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v186 : Index := Scalar.indexCast arg9
  let c224 : Index := 224#32
  ![v186.toNat, 224]

def k0_chk111 (v187 : IVec S16 32) : Prop :=
  (∀ a x, ((![v187] : Fin 1 → IVec S16 32) a x).toNat < S38912.size a)
theorem k0_idx111_inb : ∀ (v187 : IVec S16 32) (k0_hw111 : k0_chk111 v187), ∀ a x, ((![v187] : Fin 1 → IVec S16 32) a x).toNat < S38912.size a := fun v187 k0_hw111 => k0_hw111
def k0_off114 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v188 : Index := Scalar.indexCast arg9
  let c240 : Index := 240#32
  ![v188.toNat, 240]

def k0_chk112 (v189 : IVec S16 32) : Prop :=
  (∀ a x, ((![v189] : Fin 1 → IVec S16 32) a x).toNat < S38912.size a)
theorem k0_idx112_inb : ∀ (v189 : IVec S16 32) (k0_hw112 : k0_chk112 v189), ∀ a x, ((![v189] : Fin 1 → IVec S16 32) a x).toNat < S38912.size a := fun v189 k0_hw112 => k0_hw112
def k0_off115 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v190 : Index := Scalar.indexCast arg9
  let c256 : Index := 256#32
  ![v190.toNat, 256]

def k0_chk113 (v191 : IVec S16 32) : Prop :=
  (∀ a x, ((![v191] : Fin 1 → IVec S16 32) a x).toNat < S38912.size a)
theorem k0_idx113_inb : ∀ (v191 : IVec S16 32) (k0_hw113 : k0_chk113 v191), ∀ a x, ((![v191] : Fin 1 → IVec S16 32) a x).toNat < S38912.size a := fun v191 k0_hw113 => k0_hw113
def k0_off116 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v192 : Index := Scalar.indexCast arg9
  let c272 : Index := 272#32
  ![v192.toNat, 272]

def k0_chk114 (v193 : IVec S16 32) : Prop :=
  (∀ a x, ((![v193] : Fin 1 → IVec S16 32) a x).toNat < S38912.size a)
theorem k0_idx114_inb : ∀ (v193 : IVec S16 32) (k0_hw114 : k0_chk114 v193), ∀ a x, ((![v193] : Fin 1 → IVec S16 32) a x).toNat < S38912.size a := fun v193 k0_hw114 => k0_hw114
def k0_off117 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v194 : Index := Scalar.indexCast arg9
  let c288 : Index := 288#32
  ![v194.toNat, 288]

def k0_chk115 (v195 : IVec S16 32) : Prop :=
  (∀ a x, ((![v195] : Fin 1 → IVec S16 32) a x).toNat < S38912.size a)
theorem k0_idx115_inb : ∀ (v195 : IVec S16 32) (k0_hw115 : k0_chk115 v195), ∀ a x, ((![v195] : Fin 1 → IVec S16 32) a x).toNat < S38912.size a := fun v195 k0_hw115 => k0_hw115
def k0_off118 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v196 : Index := Scalar.indexCast arg9
  let c304 : Index := 304#32
  ![v196.toNat, 304]

def k0_chk116 (v197 : IVec S16 32) : Prop :=
  (∀ a x, ((![v197] : Fin 1 → IVec S16 32) a x).toNat < S38912.size a)
theorem k0_idx116_inb : ∀ (v197 : IVec S16 32) (k0_hw116 : k0_chk116 v197), ∀ a x, ((![v197] : Fin 1 → IVec S16 32) a x).toNat < S38912.size a := fun v197 k0_hw116 => k0_hw116
def k0_off119 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v198 : Index := Scalar.indexCast arg9
  let c320 : Index := 320#32
  ![v198.toNat, 320]

def k0_chk117 (v199 : IVec S16 32) : Prop :=
  (∀ a x, ((![v199] : Fin 1 → IVec S16 32) a x).toNat < S38912.size a)
theorem k0_idx117_inb : ∀ (v199 : IVec S16 32) (k0_hw117 : k0_chk117 v199), ∀ a x, ((![v199] : Fin 1 → IVec S16 32) a x).toNat < S38912.size a := fun v199 k0_hw117 => k0_hw117
def k0_off120 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v200 : Index := Scalar.indexCast arg9
  let c336 : Index := 336#32
  ![v200.toNat, 336]

def k0_chk118 (v201 : IVec S16 32) : Prop :=
  (∀ a x, ((![v201] : Fin 1 → IVec S16 32) a x).toNat < S38912.size a)
theorem k0_idx118_inb : ∀ (v201 : IVec S16 32) (k0_hw118 : k0_chk118 v201), ∀ a x, ((![v201] : Fin 1 → IVec S16 32) a x).toNat < S38912.size a := fun v201 k0_hw118 => k0_hw118
def k0_off121 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v202 : Index := Scalar.indexCast arg9
  let c352 : Index := 352#32
  ![v202.toNat, 352]

def k0_chk119 (v203 : IVec S16 32) : Prop :=
  (∀ a x, ((![v203] : Fin 1 → IVec S16 32) a x).toNat < S38912.size a)
theorem k0_idx119_inb : ∀ (v203 : IVec S16 32) (k0_hw119 : k0_chk119 v203), ∀ a x, ((![v203] : Fin 1 → IVec S16 32) a x).toNat < S38912.size a := fun v203 k0_hw119 => k0_hw119
def k0_off122 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v204 : Index := Scalar.indexCast arg9
  let c368 : Index := 368#32
  ![v204.toNat, 368]

def k0_chk120 (v205 : IVec S16 32) : Prop :=
  (∀ a x, ((![v205] : Fin 1 → IVec S16 32) a x).toNat < S38912.size a)
theorem k0_idx120_inb : ∀ (v205 : IVec S16 32) (k0_hw120 : k0_chk120 v205), ∀ a x, ((![v205] : Fin 1 → IVec S16 32) a x).toNat < S38912.size a := fun v205 k0_hw120 => k0_hw120
def k0_off123 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v206 : Index := Scalar.indexCast arg9
  let c384 : Index := 384#32
  ![v206.toNat, 384]

def k0_chk121 (v207 : IVec S16 32) : Prop :=
  (∀ a x, ((![v207] : Fin 1 → IVec S16 32) a x).toNat < S38912.size a)
theorem k0_idx121_inb : ∀ (v207 : IVec S16 32) (k0_hw121 : k0_chk121 v207), ∀ a x, ((![v207] : Fin 1 → IVec S16 32) a x).toNat < S38912.size a := fun v207 k0_hw121 => k0_hw121
def k0_off124 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v208 : Index := Scalar.indexCast arg9
  let c400 : Index := 400#32
  ![v208.toNat, 400]

def k0_chk122 (v209 : IVec S16 32) : Prop :=
  (∀ a x, ((![v209] : Fin 1 → IVec S16 32) a x).toNat < S38912.size a)
theorem k0_idx122_inb : ∀ (v209 : IVec S16 32) (k0_hw122 : k0_chk122 v209), ∀ a x, ((![v209] : Fin 1 → IVec S16 32) a x).toNat < S38912.size a := fun v209 k0_hw122 => k0_hw122
def k0_off125 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v210 : Index := Scalar.indexCast arg9
  let c416 : Index := 416#32
  ![v210.toNat, 416]

def k0_chk123 (v211 : IVec S16 32) : Prop :=
  (∀ a x, ((![v211] : Fin 1 → IVec S16 32) a x).toNat < S38912.size a)
theorem k0_idx123_inb : ∀ (v211 : IVec S16 32) (k0_hw123 : k0_chk123 v211), ∀ a x, ((![v211] : Fin 1 → IVec S16 32) a x).toNat < S38912.size a := fun v211 k0_hw123 => k0_hw123
def k0_off126 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v212 : Index := Scalar.indexCast arg9
  let c432 : Index := 432#32
  ![v212.toNat, 432]

def k0_chk124 (v213 : IVec S16 32) : Prop :=
  (∀ a x, ((![v213] : Fin 1 → IVec S16 32) a x).toNat < S38912.size a)
theorem k0_idx124_inb : ∀ (v213 : IVec S16 32) (k0_hw124 : k0_chk124 v213), ∀ a x, ((![v213] : Fin 1 → IVec S16 32) a x).toNat < S38912.size a := fun v213 k0_hw124 => k0_hw124
def k0_off127 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v214 : Index := Scalar.indexCast arg9
  let c448 : Index := 448#32
  ![v214.toNat, 448]

def k0_chk125 (v215 : IVec S16 32) : Prop :=
  (∀ a x, ((![v215] : Fin 1 → IVec S16 32) a x).toNat < S38912.size a)
theorem k0_idx125_inb : ∀ (v215 : IVec S16 32) (k0_hw125 : k0_chk125 v215), ∀ a x, ((![v215] : Fin 1 → IVec S16 32) a x).toNat < S38912.size a := fun v215 k0_hw125 => k0_hw125
def k0_off128 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v216 : Index := Scalar.indexCast arg9
  let c464 : Index := 464#32
  ![v216.toNat, 464]

def k0_chk126 (v217 : IVec S16 32) : Prop :=
  (∀ a x, ((![v217] : Fin 1 → IVec S16 32) a x).toNat < S38912.size a)
theorem k0_idx126_inb : ∀ (v217 : IVec S16 32) (k0_hw126 : k0_chk126 v217), ∀ a x, ((![v217] : Fin 1 → IVec S16 32) a x).toNat < S38912.size a := fun v217 k0_hw126 => k0_hw126
def k0_off129 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v218 : Index := Scalar.indexCast arg9
  let c480 : Index := 480#32
  ![v218.toNat, 480]

def k0_chk127 (v219 : IVec S16 32) : Prop :=
  (∀ a x, ((![v219] : Fin 1 → IVec S16 32) a x).toNat < S38912.size a)
theorem k0_idx127_inb : ∀ (v219 : IVec S16 32) (k0_hw127 : k0_chk127 v219), ∀ a x, ((![v219] : Fin 1 → IVec S16 32) a x).toNat < S38912.size a := fun v219 k0_hw127 => k0_hw127
def k0_off130 (k0_t5 : Fin k0_t5_loop.trips) : Fin 2 → Nat :=
  let c0_i32_42 : BitVec 32 := 0#32
  let c1_i32_44 : BitVec 32 := 1#32
  let arg9 : BitVec 32 := Scf.iv c0_i32_42 c1_i32_44 k0_t5
  let v220 : Index := Scalar.indexCast arg9
  let c496 : Index := 496#32
  ![v220.toNat, 496]

def k0_chk128 (v221 : IVec S16 32) : Prop :=
  (∀ a x, ((![v221] : Fin 1 → IVec S16 32) a x).toNat < S38912.size a)
theorem k0_idx128_inb : ∀ (v221 : IVec S16 32) (k0_hw128 : k0_chk128 v221), ∀ a x, ((![v221] : Fin 1 → IVec S16 32) a x).toNat < S38912.size a := fun v221 k0_hw128 => k0_hw128
@[reducible] def k0_t6_loop : Scf.Loop 32 :=
  let c0_i32_52 : BitVec 32 := 0#32
  let c64_i32_53 : BitVec 32 := 64#32
  let v47 : BitVec 32 := Scalar.addi c0_i32_52 c64_i32_53
  let c1_i32_54 : BitVec 32 := 1#32
  ⟨c0_i32_52, v47, c1_i32_54⟩
def k0_off131 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v158 : Index := Scalar.indexCast arg9
  let c0 : Index := 0#32
  ![v158.toNat, 0]

def k0_chk129 (v159 : IVec S16 32) : Prop :=
  (∀ a x, ((![v159] : Fin 1 → IVec S16 32) a x).toNat < S38912.size a)
theorem k0_idx129_inb : ∀ (v159 : IVec S16 32) (k0_hw129 : k0_chk129 v159), ∀ a x, ((![v159] : Fin 1 → IVec S16 32) a x).toNat < S38912.size a := fun v159 k0_hw129 => k0_hw129
def k0_off132 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v160 : Index := Scalar.indexCast arg9
  let c16 : Index := 16#32
  ![v160.toNat, 16]

def k0_chk130 (v161 : IVec S16 32) : Prop :=
  (∀ a x, ((![v161] : Fin 1 → IVec S16 32) a x).toNat < S38912.size a)
theorem k0_idx130_inb : ∀ (v161 : IVec S16 32) (k0_hw130 : k0_chk130 v161), ∀ a x, ((![v161] : Fin 1 → IVec S16 32) a x).toNat < S38912.size a := fun v161 k0_hw130 => k0_hw130
def k0_off133 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v162 : Index := Scalar.indexCast arg9
  let c32 : Index := 32#32
  ![v162.toNat, 32]

def k0_chk131 (v163 : IVec S16 32) : Prop :=
  (∀ a x, ((![v163] : Fin 1 → IVec S16 32) a x).toNat < S38912.size a)
theorem k0_idx131_inb : ∀ (v163 : IVec S16 32) (k0_hw131 : k0_chk131 v163), ∀ a x, ((![v163] : Fin 1 → IVec S16 32) a x).toNat < S38912.size a := fun v163 k0_hw131 => k0_hw131
def k0_off134 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v164 : Index := Scalar.indexCast arg9
  let c48 : Index := 48#32
  ![v164.toNat, 48]

def k0_chk132 (v165 : IVec S16 32) : Prop :=
  (∀ a x, ((![v165] : Fin 1 → IVec S16 32) a x).toNat < S38912.size a)
theorem k0_idx132_inb : ∀ (v165 : IVec S16 32) (k0_hw132 : k0_chk132 v165), ∀ a x, ((![v165] : Fin 1 → IVec S16 32) a x).toNat < S38912.size a := fun v165 k0_hw132 => k0_hw132
def k0_off135 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v166 : Index := Scalar.indexCast arg9
  let c64 : Index := 64#32
  ![v166.toNat, 64]

def k0_chk133 (v167 : IVec S16 32) : Prop :=
  (∀ a x, ((![v167] : Fin 1 → IVec S16 32) a x).toNat < S38912.size a)
theorem k0_idx133_inb : ∀ (v167 : IVec S16 32) (k0_hw133 : k0_chk133 v167), ∀ a x, ((![v167] : Fin 1 → IVec S16 32) a x).toNat < S38912.size a := fun v167 k0_hw133 => k0_hw133
def k0_off136 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v168 : Index := Scalar.indexCast arg9
  let c80 : Index := 80#32
  ![v168.toNat, 80]

def k0_chk134 (v169 : IVec S16 32) : Prop :=
  (∀ a x, ((![v169] : Fin 1 → IVec S16 32) a x).toNat < S38912.size a)
theorem k0_idx134_inb : ∀ (v169 : IVec S16 32) (k0_hw134 : k0_chk134 v169), ∀ a x, ((![v169] : Fin 1 → IVec S16 32) a x).toNat < S38912.size a := fun v169 k0_hw134 => k0_hw134
def k0_off137 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v170 : Index := Scalar.indexCast arg9
  let c96 : Index := 96#32
  ![v170.toNat, 96]

def k0_chk135 (v171 : IVec S16 32) : Prop :=
  (∀ a x, ((![v171] : Fin 1 → IVec S16 32) a x).toNat < S38912.size a)
theorem k0_idx135_inb : ∀ (v171 : IVec S16 32) (k0_hw135 : k0_chk135 v171), ∀ a x, ((![v171] : Fin 1 → IVec S16 32) a x).toNat < S38912.size a := fun v171 k0_hw135 => k0_hw135
def k0_off138 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v172 : Index := Scalar.indexCast arg9
  let c112 : Index := 112#32
  ![v172.toNat, 112]

def k0_chk136 (v173 : IVec S16 32) : Prop :=
  (∀ a x, ((![v173] : Fin 1 → IVec S16 32) a x).toNat < S38912.size a)
theorem k0_idx136_inb : ∀ (v173 : IVec S16 32) (k0_hw136 : k0_chk136 v173), ∀ a x, ((![v173] : Fin 1 → IVec S16 32) a x).toNat < S38912.size a := fun v173 k0_hw136 => k0_hw136
def k0_off139 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v174 : Index := Scalar.indexCast arg9
  let c128 : Index := 128#32
  ![v174.toNat, 128]

def k0_chk137 (v175 : IVec S16 32) : Prop :=
  (∀ a x, ((![v175] : Fin 1 → IVec S16 32) a x).toNat < S38912.size a)
theorem k0_idx137_inb : ∀ (v175 : IVec S16 32) (k0_hw137 : k0_chk137 v175), ∀ a x, ((![v175] : Fin 1 → IVec S16 32) a x).toNat < S38912.size a := fun v175 k0_hw137 => k0_hw137
def k0_off140 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v176 : Index := Scalar.indexCast arg9
  let c144 : Index := 144#32
  ![v176.toNat, 144]

def k0_chk138 (v177 : IVec S16 32) : Prop :=
  (∀ a x, ((![v177] : Fin 1 → IVec S16 32) a x).toNat < S38912.size a)
theorem k0_idx138_inb : ∀ (v177 : IVec S16 32) (k0_hw138 : k0_chk138 v177), ∀ a x, ((![v177] : Fin 1 → IVec S16 32) a x).toNat < S38912.size a := fun v177 k0_hw138 => k0_hw138
def k0_off141 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v178 : Index := Scalar.indexCast arg9
  let c160 : Index := 160#32
  ![v178.toNat, 160]

def k0_chk139 (v179 : IVec S16 32) : Prop :=
  (∀ a x, ((![v179] : Fin 1 → IVec S16 32) a x).toNat < S38912.size a)
theorem k0_idx139_inb : ∀ (v179 : IVec S16 32) (k0_hw139 : k0_chk139 v179), ∀ a x, ((![v179] : Fin 1 → IVec S16 32) a x).toNat < S38912.size a := fun v179 k0_hw139 => k0_hw139
def k0_off142 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v180 : Index := Scalar.indexCast arg9
  let c176 : Index := 176#32
  ![v180.toNat, 176]

def k0_chk140 (v181 : IVec S16 32) : Prop :=
  (∀ a x, ((![v181] : Fin 1 → IVec S16 32) a x).toNat < S38912.size a)
theorem k0_idx140_inb : ∀ (v181 : IVec S16 32) (k0_hw140 : k0_chk140 v181), ∀ a x, ((![v181] : Fin 1 → IVec S16 32) a x).toNat < S38912.size a := fun v181 k0_hw140 => k0_hw140
def k0_off143 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v182 : Index := Scalar.indexCast arg9
  let c192 : Index := 192#32
  ![v182.toNat, 192]

def k0_chk141 (v183 : IVec S16 32) : Prop :=
  (∀ a x, ((![v183] : Fin 1 → IVec S16 32) a x).toNat < S38912.size a)
theorem k0_idx141_inb : ∀ (v183 : IVec S16 32) (k0_hw141 : k0_chk141 v183), ∀ a x, ((![v183] : Fin 1 → IVec S16 32) a x).toNat < S38912.size a := fun v183 k0_hw141 => k0_hw141
def k0_off144 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v184 : Index := Scalar.indexCast arg9
  let c208 : Index := 208#32
  ![v184.toNat, 208]

def k0_chk142 (v185 : IVec S16 32) : Prop :=
  (∀ a x, ((![v185] : Fin 1 → IVec S16 32) a x).toNat < S38912.size a)
theorem k0_idx142_inb : ∀ (v185 : IVec S16 32) (k0_hw142 : k0_chk142 v185), ∀ a x, ((![v185] : Fin 1 → IVec S16 32) a x).toNat < S38912.size a := fun v185 k0_hw142 => k0_hw142
def k0_off145 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v186 : Index := Scalar.indexCast arg9
  let c224 : Index := 224#32
  ![v186.toNat, 224]

def k0_chk143 (v187 : IVec S16 32) : Prop :=
  (∀ a x, ((![v187] : Fin 1 → IVec S16 32) a x).toNat < S38912.size a)
theorem k0_idx143_inb : ∀ (v187 : IVec S16 32) (k0_hw143 : k0_chk143 v187), ∀ a x, ((![v187] : Fin 1 → IVec S16 32) a x).toNat < S38912.size a := fun v187 k0_hw143 => k0_hw143
def k0_off146 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v188 : Index := Scalar.indexCast arg9
  let c240 : Index := 240#32
  ![v188.toNat, 240]

def k0_chk144 (v189 : IVec S16 32) : Prop :=
  (∀ a x, ((![v189] : Fin 1 → IVec S16 32) a x).toNat < S38912.size a)
theorem k0_idx144_inb : ∀ (v189 : IVec S16 32) (k0_hw144 : k0_chk144 v189), ∀ a x, ((![v189] : Fin 1 → IVec S16 32) a x).toNat < S38912.size a := fun v189 k0_hw144 => k0_hw144
def k0_off147 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v190 : Index := Scalar.indexCast arg9
  let c256 : Index := 256#32
  ![v190.toNat, 256]

def k0_chk145 (v191 : IVec S16 32) : Prop :=
  (∀ a x, ((![v191] : Fin 1 → IVec S16 32) a x).toNat < S38912.size a)
theorem k0_idx145_inb : ∀ (v191 : IVec S16 32) (k0_hw145 : k0_chk145 v191), ∀ a x, ((![v191] : Fin 1 → IVec S16 32) a x).toNat < S38912.size a := fun v191 k0_hw145 => k0_hw145
def k0_off148 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v192 : Index := Scalar.indexCast arg9
  let c272 : Index := 272#32
  ![v192.toNat, 272]

def k0_chk146 (v193 : IVec S16 32) : Prop :=
  (∀ a x, ((![v193] : Fin 1 → IVec S16 32) a x).toNat < S38912.size a)
theorem k0_idx146_inb : ∀ (v193 : IVec S16 32) (k0_hw146 : k0_chk146 v193), ∀ a x, ((![v193] : Fin 1 → IVec S16 32) a x).toNat < S38912.size a := fun v193 k0_hw146 => k0_hw146
def k0_off149 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v194 : Index := Scalar.indexCast arg9
  let c288 : Index := 288#32
  ![v194.toNat, 288]

def k0_chk147 (v195 : IVec S16 32) : Prop :=
  (∀ a x, ((![v195] : Fin 1 → IVec S16 32) a x).toNat < S38912.size a)
theorem k0_idx147_inb : ∀ (v195 : IVec S16 32) (k0_hw147 : k0_chk147 v195), ∀ a x, ((![v195] : Fin 1 → IVec S16 32) a x).toNat < S38912.size a := fun v195 k0_hw147 => k0_hw147
def k0_off150 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v196 : Index := Scalar.indexCast arg9
  let c304 : Index := 304#32
  ![v196.toNat, 304]

def k0_chk148 (v197 : IVec S16 32) : Prop :=
  (∀ a x, ((![v197] : Fin 1 → IVec S16 32) a x).toNat < S38912.size a)
theorem k0_idx148_inb : ∀ (v197 : IVec S16 32) (k0_hw148 : k0_chk148 v197), ∀ a x, ((![v197] : Fin 1 → IVec S16 32) a x).toNat < S38912.size a := fun v197 k0_hw148 => k0_hw148
def k0_off151 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v198 : Index := Scalar.indexCast arg9
  let c320 : Index := 320#32
  ![v198.toNat, 320]

def k0_chk149 (v199 : IVec S16 32) : Prop :=
  (∀ a x, ((![v199] : Fin 1 → IVec S16 32) a x).toNat < S38912.size a)
theorem k0_idx149_inb : ∀ (v199 : IVec S16 32) (k0_hw149 : k0_chk149 v199), ∀ a x, ((![v199] : Fin 1 → IVec S16 32) a x).toNat < S38912.size a := fun v199 k0_hw149 => k0_hw149
def k0_off152 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v200 : Index := Scalar.indexCast arg9
  let c336 : Index := 336#32
  ![v200.toNat, 336]

def k0_chk150 (v201 : IVec S16 32) : Prop :=
  (∀ a x, ((![v201] : Fin 1 → IVec S16 32) a x).toNat < S38912.size a)
theorem k0_idx150_inb : ∀ (v201 : IVec S16 32) (k0_hw150 : k0_chk150 v201), ∀ a x, ((![v201] : Fin 1 → IVec S16 32) a x).toNat < S38912.size a := fun v201 k0_hw150 => k0_hw150
def k0_off153 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v202 : Index := Scalar.indexCast arg9
  let c352 : Index := 352#32
  ![v202.toNat, 352]

def k0_chk151 (v203 : IVec S16 32) : Prop :=
  (∀ a x, ((![v203] : Fin 1 → IVec S16 32) a x).toNat < S38912.size a)
theorem k0_idx151_inb : ∀ (v203 : IVec S16 32) (k0_hw151 : k0_chk151 v203), ∀ a x, ((![v203] : Fin 1 → IVec S16 32) a x).toNat < S38912.size a := fun v203 k0_hw151 => k0_hw151
def k0_off154 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v204 : Index := Scalar.indexCast arg9
  let c368 : Index := 368#32
  ![v204.toNat, 368]

def k0_chk152 (v205 : IVec S16 32) : Prop :=
  (∀ a x, ((![v205] : Fin 1 → IVec S16 32) a x).toNat < S38912.size a)
theorem k0_idx152_inb : ∀ (v205 : IVec S16 32) (k0_hw152 : k0_chk152 v205), ∀ a x, ((![v205] : Fin 1 → IVec S16 32) a x).toNat < S38912.size a := fun v205 k0_hw152 => k0_hw152
def k0_off155 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v206 : Index := Scalar.indexCast arg9
  let c384 : Index := 384#32
  ![v206.toNat, 384]

def k0_chk153 (v207 : IVec S16 32) : Prop :=
  (∀ a x, ((![v207] : Fin 1 → IVec S16 32) a x).toNat < S38912.size a)
theorem k0_idx153_inb : ∀ (v207 : IVec S16 32) (k0_hw153 : k0_chk153 v207), ∀ a x, ((![v207] : Fin 1 → IVec S16 32) a x).toNat < S38912.size a := fun v207 k0_hw153 => k0_hw153
def k0_off156 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v208 : Index := Scalar.indexCast arg9
  let c400 : Index := 400#32
  ![v208.toNat, 400]

def k0_chk154 (v209 : IVec S16 32) : Prop :=
  (∀ a x, ((![v209] : Fin 1 → IVec S16 32) a x).toNat < S38912.size a)
theorem k0_idx154_inb : ∀ (v209 : IVec S16 32) (k0_hw154 : k0_chk154 v209), ∀ a x, ((![v209] : Fin 1 → IVec S16 32) a x).toNat < S38912.size a := fun v209 k0_hw154 => k0_hw154
def k0_off157 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v210 : Index := Scalar.indexCast arg9
  let c416 : Index := 416#32
  ![v210.toNat, 416]

def k0_chk155 (v211 : IVec S16 32) : Prop :=
  (∀ a x, ((![v211] : Fin 1 → IVec S16 32) a x).toNat < S38912.size a)
theorem k0_idx155_inb : ∀ (v211 : IVec S16 32) (k0_hw155 : k0_chk155 v211), ∀ a x, ((![v211] : Fin 1 → IVec S16 32) a x).toNat < S38912.size a := fun v211 k0_hw155 => k0_hw155
def k0_off158 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v212 : Index := Scalar.indexCast arg9
  let c432 : Index := 432#32
  ![v212.toNat, 432]

def k0_chk156 (v213 : IVec S16 32) : Prop :=
  (∀ a x, ((![v213] : Fin 1 → IVec S16 32) a x).toNat < S38912.size a)
theorem k0_idx156_inb : ∀ (v213 : IVec S16 32) (k0_hw156 : k0_chk156 v213), ∀ a x, ((![v213] : Fin 1 → IVec S16 32) a x).toNat < S38912.size a := fun v213 k0_hw156 => k0_hw156
def k0_off159 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v214 : Index := Scalar.indexCast arg9
  let c448 : Index := 448#32
  ![v214.toNat, 448]

def k0_chk157 (v215 : IVec S16 32) : Prop :=
  (∀ a x, ((![v215] : Fin 1 → IVec S16 32) a x).toNat < S38912.size a)
theorem k0_idx157_inb : ∀ (v215 : IVec S16 32) (k0_hw157 : k0_chk157 v215), ∀ a x, ((![v215] : Fin 1 → IVec S16 32) a x).toNat < S38912.size a := fun v215 k0_hw157 => k0_hw157
def k0_off160 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v216 : Index := Scalar.indexCast arg9
  let c464 : Index := 464#32
  ![v216.toNat, 464]

def k0_chk158 (v217 : IVec S16 32) : Prop :=
  (∀ a x, ((![v217] : Fin 1 → IVec S16 32) a x).toNat < S38912.size a)
theorem k0_idx158_inb : ∀ (v217 : IVec S16 32) (k0_hw158 : k0_chk158 v217), ∀ a x, ((![v217] : Fin 1 → IVec S16 32) a x).toNat < S38912.size a := fun v217 k0_hw158 => k0_hw158
def k0_off161 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v218 : Index := Scalar.indexCast arg9
  let c480 : Index := 480#32
  ![v218.toNat, 480]

def k0_chk159 (v219 : IVec S16 32) : Prop :=
  (∀ a x, ((![v219] : Fin 1 → IVec S16 32) a x).toNat < S38912.size a)
theorem k0_idx159_inb : ∀ (v219 : IVec S16 32) (k0_hw159 : k0_chk159 v219), ∀ a x, ((![v219] : Fin 1 → IVec S16 32) a x).toNat < S38912.size a := fun v219 k0_hw159 => k0_hw159
def k0_off162 (k0_t6 : Fin k0_t6_loop.trips) : Fin 2 → Nat :=
  let c0_i32_52 : BitVec 32 := 0#32
  let c1_i32_54 : BitVec 32 := 1#32
  let arg9 : BitVec 32 := Scf.iv c0_i32_52 c1_i32_54 k0_t6
  let v220 : Index := Scalar.indexCast arg9
  let c496 : Index := 496#32
  ![v220.toNat, 496]

def k0_chk160 (v221 : IVec S16 32) : Prop :=
  (∀ a x, ((![v221] : Fin 1 → IVec S16 32) a x).toNat < S38912.size a)
theorem k0_idx160_inb : ∀ (v221 : IVec S16 32) (k0_hw160 : k0_chk160 v221), ∀ a x, ((![v221] : Fin 1 → IVec S16 32) a x).toNat < S38912.size a := fun v221 k0_hw160 => k0_hw160
@[reducible] def k0_t7_loop : Scf.Loop 32 :=
  let c0_i32_62 : BitVec 32 := 0#32
  let c64_i32_63 : BitVec 32 := 64#32
  let v55 : BitVec 32 := Scalar.addi c0_i32_62 c64_i32_63
  let c1_i32_64 : BitVec 32 := 1#32
  ⟨c0_i32_62, v55, c1_i32_64⟩
def k0_off163 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v158 : Index := Scalar.indexCast arg9
  let c0 : Index := 0#32
  ![v158.toNat, 0]

def k0_chk161 (v159 : IVec S16 32) : Prop :=
  (∀ a x, ((![v159] : Fin 1 → IVec S16 32) a x).toNat < S38912.size a)
theorem k0_idx161_inb : ∀ (v159 : IVec S16 32) (k0_hw161 : k0_chk161 v159), ∀ a x, ((![v159] : Fin 1 → IVec S16 32) a x).toNat < S38912.size a := fun v159 k0_hw161 => k0_hw161
def k0_off164 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v160 : Index := Scalar.indexCast arg9
  let c16 : Index := 16#32
  ![v160.toNat, 16]

def k0_chk162 (v161 : IVec S16 32) : Prop :=
  (∀ a x, ((![v161] : Fin 1 → IVec S16 32) a x).toNat < S38912.size a)
theorem k0_idx162_inb : ∀ (v161 : IVec S16 32) (k0_hw162 : k0_chk162 v161), ∀ a x, ((![v161] : Fin 1 → IVec S16 32) a x).toNat < S38912.size a := fun v161 k0_hw162 => k0_hw162
def k0_off165 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v162 : Index := Scalar.indexCast arg9
  let c32 : Index := 32#32
  ![v162.toNat, 32]

def k0_chk163 (v163 : IVec S16 32) : Prop :=
  (∀ a x, ((![v163] : Fin 1 → IVec S16 32) a x).toNat < S38912.size a)
theorem k0_idx163_inb : ∀ (v163 : IVec S16 32) (k0_hw163 : k0_chk163 v163), ∀ a x, ((![v163] : Fin 1 → IVec S16 32) a x).toNat < S38912.size a := fun v163 k0_hw163 => k0_hw163
def k0_off166 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v164 : Index := Scalar.indexCast arg9
  let c48 : Index := 48#32
  ![v164.toNat, 48]

def k0_chk164 (v165 : IVec S16 32) : Prop :=
  (∀ a x, ((![v165] : Fin 1 → IVec S16 32) a x).toNat < S38912.size a)
theorem k0_idx164_inb : ∀ (v165 : IVec S16 32) (k0_hw164 : k0_chk164 v165), ∀ a x, ((![v165] : Fin 1 → IVec S16 32) a x).toNat < S38912.size a := fun v165 k0_hw164 => k0_hw164
def k0_off167 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v166 : Index := Scalar.indexCast arg9
  let c64 : Index := 64#32
  ![v166.toNat, 64]

def k0_chk165 (v167 : IVec S16 32) : Prop :=
  (∀ a x, ((![v167] : Fin 1 → IVec S16 32) a x).toNat < S38912.size a)
theorem k0_idx165_inb : ∀ (v167 : IVec S16 32) (k0_hw165 : k0_chk165 v167), ∀ a x, ((![v167] : Fin 1 → IVec S16 32) a x).toNat < S38912.size a := fun v167 k0_hw165 => k0_hw165
def k0_off168 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v168 : Index := Scalar.indexCast arg9
  let c80 : Index := 80#32
  ![v168.toNat, 80]

def k0_chk166 (v169 : IVec S16 32) : Prop :=
  (∀ a x, ((![v169] : Fin 1 → IVec S16 32) a x).toNat < S38912.size a)
theorem k0_idx166_inb : ∀ (v169 : IVec S16 32) (k0_hw166 : k0_chk166 v169), ∀ a x, ((![v169] : Fin 1 → IVec S16 32) a x).toNat < S38912.size a := fun v169 k0_hw166 => k0_hw166
def k0_off169 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v170 : Index := Scalar.indexCast arg9
  let c96 : Index := 96#32
  ![v170.toNat, 96]

def k0_chk167 (v171 : IVec S16 32) : Prop :=
  (∀ a x, ((![v171] : Fin 1 → IVec S16 32) a x).toNat < S38912.size a)
theorem k0_idx167_inb : ∀ (v171 : IVec S16 32) (k0_hw167 : k0_chk167 v171), ∀ a x, ((![v171] : Fin 1 → IVec S16 32) a x).toNat < S38912.size a := fun v171 k0_hw167 => k0_hw167
def k0_off170 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v172 : Index := Scalar.indexCast arg9
  let c112 : Index := 112#32
  ![v172.toNat, 112]

def k0_chk168 (v173 : IVec S16 32) : Prop :=
  (∀ a x, ((![v173] : Fin 1 → IVec S16 32) a x).toNat < S38912.size a)
theorem k0_idx168_inb : ∀ (v173 : IVec S16 32) (k0_hw168 : k0_chk168 v173), ∀ a x, ((![v173] : Fin 1 → IVec S16 32) a x).toNat < S38912.size a := fun v173 k0_hw168 => k0_hw168
def k0_off171 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v174 : Index := Scalar.indexCast arg9
  let c128 : Index := 128#32
  ![v174.toNat, 128]

def k0_chk169 (v175 : IVec S16 32) : Prop :=
  (∀ a x, ((![v175] : Fin 1 → IVec S16 32) a x).toNat < S38912.size a)
theorem k0_idx169_inb : ∀ (v175 : IVec S16 32) (k0_hw169 : k0_chk169 v175), ∀ a x, ((![v175] : Fin 1 → IVec S16 32) a x).toNat < S38912.size a := fun v175 k0_hw169 => k0_hw169
def k0_off172 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v176 : Index := Scalar.indexCast arg9
  let c144 : Index := 144#32
  ![v176.toNat, 144]

def k0_chk170 (v177 : IVec S16 32) : Prop :=
  (∀ a x, ((![v177] : Fin 1 → IVec S16 32) a x).toNat < S38912.size a)
theorem k0_idx170_inb : ∀ (v177 : IVec S16 32) (k0_hw170 : k0_chk170 v177), ∀ a x, ((![v177] : Fin 1 → IVec S16 32) a x).toNat < S38912.size a := fun v177 k0_hw170 => k0_hw170
def k0_off173 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v178 : Index := Scalar.indexCast arg9
  let c160 : Index := 160#32
  ![v178.toNat, 160]

def k0_chk171 (v179 : IVec S16 32) : Prop :=
  (∀ a x, ((![v179] : Fin 1 → IVec S16 32) a x).toNat < S38912.size a)
theorem k0_idx171_inb : ∀ (v179 : IVec S16 32) (k0_hw171 : k0_chk171 v179), ∀ a x, ((![v179] : Fin 1 → IVec S16 32) a x).toNat < S38912.size a := fun v179 k0_hw171 => k0_hw171
def k0_off174 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v180 : Index := Scalar.indexCast arg9
  let c176 : Index := 176#32
  ![v180.toNat, 176]

def k0_chk172 (v181 : IVec S16 32) : Prop :=
  (∀ a x, ((![v181] : Fin 1 → IVec S16 32) a x).toNat < S38912.size a)
theorem k0_idx172_inb : ∀ (v181 : IVec S16 32) (k0_hw172 : k0_chk172 v181), ∀ a x, ((![v181] : Fin 1 → IVec S16 32) a x).toNat < S38912.size a := fun v181 k0_hw172 => k0_hw172
def k0_off175 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v182 : Index := Scalar.indexCast arg9
  let c192 : Index := 192#32
  ![v182.toNat, 192]

def k0_chk173 (v183 : IVec S16 32) : Prop :=
  (∀ a x, ((![v183] : Fin 1 → IVec S16 32) a x).toNat < S38912.size a)
theorem k0_idx173_inb : ∀ (v183 : IVec S16 32) (k0_hw173 : k0_chk173 v183), ∀ a x, ((![v183] : Fin 1 → IVec S16 32) a x).toNat < S38912.size a := fun v183 k0_hw173 => k0_hw173
def k0_off176 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v184 : Index := Scalar.indexCast arg9
  let c208 : Index := 208#32
  ![v184.toNat, 208]

def k0_chk174 (v185 : IVec S16 32) : Prop :=
  (∀ a x, ((![v185] : Fin 1 → IVec S16 32) a x).toNat < S38912.size a)
theorem k0_idx174_inb : ∀ (v185 : IVec S16 32) (k0_hw174 : k0_chk174 v185), ∀ a x, ((![v185] : Fin 1 → IVec S16 32) a x).toNat < S38912.size a := fun v185 k0_hw174 => k0_hw174
def k0_off177 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v186 : Index := Scalar.indexCast arg9
  let c224 : Index := 224#32
  ![v186.toNat, 224]

def k0_chk175 (v187 : IVec S16 32) : Prop :=
  (∀ a x, ((![v187] : Fin 1 → IVec S16 32) a x).toNat < S38912.size a)
theorem k0_idx175_inb : ∀ (v187 : IVec S16 32) (k0_hw175 : k0_chk175 v187), ∀ a x, ((![v187] : Fin 1 → IVec S16 32) a x).toNat < S38912.size a := fun v187 k0_hw175 => k0_hw175
def k0_off178 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v188 : Index := Scalar.indexCast arg9
  let c240 : Index := 240#32
  ![v188.toNat, 240]

def k0_chk176 (v189 : IVec S16 32) : Prop :=
  (∀ a x, ((![v189] : Fin 1 → IVec S16 32) a x).toNat < S38912.size a)
theorem k0_idx176_inb : ∀ (v189 : IVec S16 32) (k0_hw176 : k0_chk176 v189), ∀ a x, ((![v189] : Fin 1 → IVec S16 32) a x).toNat < S38912.size a := fun v189 k0_hw176 => k0_hw176
def k0_off179 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v190 : Index := Scalar.indexCast arg9
  let c256 : Index := 256#32
  ![v190.toNat, 256]

def k0_chk177 (v191 : IVec S16 32) : Prop :=
  (∀ a x, ((![v191] : Fin 1 → IVec S16 32) a x).toNat < S38912.size a)
theorem k0_idx177_inb : ∀ (v191 : IVec S16 32) (k0_hw177 : k0_chk177 v191), ∀ a x, ((![v191] : Fin 1 → IVec S16 32) a x).toNat < S38912.size a := fun v191 k0_hw177 => k0_hw177
def k0_off180 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v192 : Index := Scalar.indexCast arg9
  let c272 : Index := 272#32
  ![v192.toNat, 272]

def k0_chk178 (v193 : IVec S16 32) : Prop :=
  (∀ a x, ((![v193] : Fin 1 → IVec S16 32) a x).toNat < S38912.size a)
theorem k0_idx178_inb : ∀ (v193 : IVec S16 32) (k0_hw178 : k0_chk178 v193), ∀ a x, ((![v193] : Fin 1 → IVec S16 32) a x).toNat < S38912.size a := fun v193 k0_hw178 => k0_hw178
def k0_off181 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v194 : Index := Scalar.indexCast arg9
  let c288 : Index := 288#32
  ![v194.toNat, 288]

def k0_chk179 (v195 : IVec S16 32) : Prop :=
  (∀ a x, ((![v195] : Fin 1 → IVec S16 32) a x).toNat < S38912.size a)
theorem k0_idx179_inb : ∀ (v195 : IVec S16 32) (k0_hw179 : k0_chk179 v195), ∀ a x, ((![v195] : Fin 1 → IVec S16 32) a x).toNat < S38912.size a := fun v195 k0_hw179 => k0_hw179
def k0_off182 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v196 : Index := Scalar.indexCast arg9
  let c304 : Index := 304#32
  ![v196.toNat, 304]

def k0_chk180 (v197 : IVec S16 32) : Prop :=
  (∀ a x, ((![v197] : Fin 1 → IVec S16 32) a x).toNat < S38912.size a)
theorem k0_idx180_inb : ∀ (v197 : IVec S16 32) (k0_hw180 : k0_chk180 v197), ∀ a x, ((![v197] : Fin 1 → IVec S16 32) a x).toNat < S38912.size a := fun v197 k0_hw180 => k0_hw180
def k0_off183 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v198 : Index := Scalar.indexCast arg9
  let c320 : Index := 320#32
  ![v198.toNat, 320]

def k0_chk181 (v199 : IVec S16 32) : Prop :=
  (∀ a x, ((![v199] : Fin 1 → IVec S16 32) a x).toNat < S38912.size a)
theorem k0_idx181_inb : ∀ (v199 : IVec S16 32) (k0_hw181 : k0_chk181 v199), ∀ a x, ((![v199] : Fin 1 → IVec S16 32) a x).toNat < S38912.size a := fun v199 k0_hw181 => k0_hw181
def k0_off184 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v200 : Index := Scalar.indexCast arg9
  let c336 : Index := 336#32
  ![v200.toNat, 336]

def k0_chk182 (v201 : IVec S16 32) : Prop :=
  (∀ a x, ((![v201] : Fin 1 → IVec S16 32) a x).toNat < S38912.size a)
theorem k0_idx182_inb : ∀ (v201 : IVec S16 32) (k0_hw182 : k0_chk182 v201), ∀ a x, ((![v201] : Fin 1 → IVec S16 32) a x).toNat < S38912.size a := fun v201 k0_hw182 => k0_hw182
def k0_off185 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v202 : Index := Scalar.indexCast arg9
  let c352 : Index := 352#32
  ![v202.toNat, 352]

def k0_chk183 (v203 : IVec S16 32) : Prop :=
  (∀ a x, ((![v203] : Fin 1 → IVec S16 32) a x).toNat < S38912.size a)
theorem k0_idx183_inb : ∀ (v203 : IVec S16 32) (k0_hw183 : k0_chk183 v203), ∀ a x, ((![v203] : Fin 1 → IVec S16 32) a x).toNat < S38912.size a := fun v203 k0_hw183 => k0_hw183
def k0_off186 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v204 : Index := Scalar.indexCast arg9
  let c368 : Index := 368#32
  ![v204.toNat, 368]

def k0_chk184 (v205 : IVec S16 32) : Prop :=
  (∀ a x, ((![v205] : Fin 1 → IVec S16 32) a x).toNat < S38912.size a)
theorem k0_idx184_inb : ∀ (v205 : IVec S16 32) (k0_hw184 : k0_chk184 v205), ∀ a x, ((![v205] : Fin 1 → IVec S16 32) a x).toNat < S38912.size a := fun v205 k0_hw184 => k0_hw184
def k0_off187 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v206 : Index := Scalar.indexCast arg9
  let c384 : Index := 384#32
  ![v206.toNat, 384]

def k0_chk185 (v207 : IVec S16 32) : Prop :=
  (∀ a x, ((![v207] : Fin 1 → IVec S16 32) a x).toNat < S38912.size a)
theorem k0_idx185_inb : ∀ (v207 : IVec S16 32) (k0_hw185 : k0_chk185 v207), ∀ a x, ((![v207] : Fin 1 → IVec S16 32) a x).toNat < S38912.size a := fun v207 k0_hw185 => k0_hw185
def k0_off188 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v208 : Index := Scalar.indexCast arg9
  let c400 : Index := 400#32
  ![v208.toNat, 400]

def k0_chk186 (v209 : IVec S16 32) : Prop :=
  (∀ a x, ((![v209] : Fin 1 → IVec S16 32) a x).toNat < S38912.size a)
theorem k0_idx186_inb : ∀ (v209 : IVec S16 32) (k0_hw186 : k0_chk186 v209), ∀ a x, ((![v209] : Fin 1 → IVec S16 32) a x).toNat < S38912.size a := fun v209 k0_hw186 => k0_hw186
def k0_off189 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v210 : Index := Scalar.indexCast arg9
  let c416 : Index := 416#32
  ![v210.toNat, 416]

def k0_chk187 (v211 : IVec S16 32) : Prop :=
  (∀ a x, ((![v211] : Fin 1 → IVec S16 32) a x).toNat < S38912.size a)
theorem k0_idx187_inb : ∀ (v211 : IVec S16 32) (k0_hw187 : k0_chk187 v211), ∀ a x, ((![v211] : Fin 1 → IVec S16 32) a x).toNat < S38912.size a := fun v211 k0_hw187 => k0_hw187
def k0_off190 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v212 : Index := Scalar.indexCast arg9
  let c432 : Index := 432#32
  ![v212.toNat, 432]

def k0_chk188 (v213 : IVec S16 32) : Prop :=
  (∀ a x, ((![v213] : Fin 1 → IVec S16 32) a x).toNat < S38912.size a)
theorem k0_idx188_inb : ∀ (v213 : IVec S16 32) (k0_hw188 : k0_chk188 v213), ∀ a x, ((![v213] : Fin 1 → IVec S16 32) a x).toNat < S38912.size a := fun v213 k0_hw188 => k0_hw188
def k0_off191 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v214 : Index := Scalar.indexCast arg9
  let c448 : Index := 448#32
  ![v214.toNat, 448]

def k0_chk189 (v215 : IVec S16 32) : Prop :=
  (∀ a x, ((![v215] : Fin 1 → IVec S16 32) a x).toNat < S38912.size a)
theorem k0_idx189_inb : ∀ (v215 : IVec S16 32) (k0_hw189 : k0_chk189 v215), ∀ a x, ((![v215] : Fin 1 → IVec S16 32) a x).toNat < S38912.size a := fun v215 k0_hw189 => k0_hw189
def k0_off192 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v216 : Index := Scalar.indexCast arg9
  let c464 : Index := 464#32
  ![v216.toNat, 464]

def k0_chk190 (v217 : IVec S16 32) : Prop :=
  (∀ a x, ((![v217] : Fin 1 → IVec S16 32) a x).toNat < S38912.size a)
theorem k0_idx190_inb : ∀ (v217 : IVec S16 32) (k0_hw190 : k0_chk190 v217), ∀ a x, ((![v217] : Fin 1 → IVec S16 32) a x).toNat < S38912.size a := fun v217 k0_hw190 => k0_hw190
def k0_off193 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v218 : Index := Scalar.indexCast arg9
  let c480 : Index := 480#32
  ![v218.toNat, 480]

def k0_chk191 (v219 : IVec S16 32) : Prop :=
  (∀ a x, ((![v219] : Fin 1 → IVec S16 32) a x).toNat < S38912.size a)
theorem k0_idx191_inb : ∀ (v219 : IVec S16 32) (k0_hw191 : k0_chk191 v219), ∀ a x, ((![v219] : Fin 1 → IVec S16 32) a x).toNat < S38912.size a := fun v219 k0_hw191 => k0_hw191
def k0_off194 (k0_t7 : Fin k0_t7_loop.trips) : Fin 2 → Nat :=
  let c0_i32_62 : BitVec 32 := 0#32
  let c1_i32_64 : BitVec 32 := 1#32
  let arg9 : BitVec 32 := Scf.iv c0_i32_62 c1_i32_64 k0_t7
  let v220 : Index := Scalar.indexCast arg9
  let c496 : Index := 496#32
  ![v220.toNat, 496]

def k0_chk192 (v221 : IVec S16 32) : Prop :=
  (∀ a x, ((![v221] : Fin 1 → IVec S16 32) a x).toNat < S38912.size a)
theorem k0_idx192_inb : ∀ (v221 : IVec S16 32) (k0_hw192 : k0_chk192 v221), ∀ a x, ((![v221] : Fin 1 → IVec S16 32) a x).toNat < S38912.size a := fun v221 k0_hw192 => k0_hw192
@[reducible] def k0_t8_loop : Scf.Loop 32 :=
  let c0_i32_72 : BitVec 32 := 0#32
  let c64_i32_73 : BitVec 32 := 64#32
  let v63 : BitVec 32 := Scalar.addi c0_i32_72 c64_i32_73
  let c1_i32_74 : BitVec 32 := 1#32
  ⟨c0_i32_72, v63, c1_i32_74⟩
def k0_off195 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v158 : Index := Scalar.indexCast arg9
  let c0 : Index := 0#32
  ![v158.toNat, 0]

def k0_chk193 (v159 : IVec S16 32) : Prop :=
  (∀ a x, ((![v159] : Fin 1 → IVec S16 32) a x).toNat < S38912.size a)
theorem k0_idx193_inb : ∀ (v159 : IVec S16 32) (k0_hw193 : k0_chk193 v159), ∀ a x, ((![v159] : Fin 1 → IVec S16 32) a x).toNat < S38912.size a := fun v159 k0_hw193 => k0_hw193
def k0_off196 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v160 : Index := Scalar.indexCast arg9
  let c16 : Index := 16#32
  ![v160.toNat, 16]

def k0_chk194 (v161 : IVec S16 32) : Prop :=
  (∀ a x, ((![v161] : Fin 1 → IVec S16 32) a x).toNat < S38912.size a)
theorem k0_idx194_inb : ∀ (v161 : IVec S16 32) (k0_hw194 : k0_chk194 v161), ∀ a x, ((![v161] : Fin 1 → IVec S16 32) a x).toNat < S38912.size a := fun v161 k0_hw194 => k0_hw194
def k0_off197 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v162 : Index := Scalar.indexCast arg9
  let c32 : Index := 32#32
  ![v162.toNat, 32]

def k0_chk195 (v163 : IVec S16 32) : Prop :=
  (∀ a x, ((![v163] : Fin 1 → IVec S16 32) a x).toNat < S38912.size a)
theorem k0_idx195_inb : ∀ (v163 : IVec S16 32) (k0_hw195 : k0_chk195 v163), ∀ a x, ((![v163] : Fin 1 → IVec S16 32) a x).toNat < S38912.size a := fun v163 k0_hw195 => k0_hw195
def k0_off198 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v164 : Index := Scalar.indexCast arg9
  let c48 : Index := 48#32
  ![v164.toNat, 48]

def k0_chk196 (v165 : IVec S16 32) : Prop :=
  (∀ a x, ((![v165] : Fin 1 → IVec S16 32) a x).toNat < S38912.size a)
theorem k0_idx196_inb : ∀ (v165 : IVec S16 32) (k0_hw196 : k0_chk196 v165), ∀ a x, ((![v165] : Fin 1 → IVec S16 32) a x).toNat < S38912.size a := fun v165 k0_hw196 => k0_hw196
def k0_off199 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v166 : Index := Scalar.indexCast arg9
  let c64 : Index := 64#32
  ![v166.toNat, 64]

def k0_chk197 (v167 : IVec S16 32) : Prop :=
  (∀ a x, ((![v167] : Fin 1 → IVec S16 32) a x).toNat < S38912.size a)
theorem k0_idx197_inb : ∀ (v167 : IVec S16 32) (k0_hw197 : k0_chk197 v167), ∀ a x, ((![v167] : Fin 1 → IVec S16 32) a x).toNat < S38912.size a := fun v167 k0_hw197 => k0_hw197
def k0_off200 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v168 : Index := Scalar.indexCast arg9
  let c80 : Index := 80#32
  ![v168.toNat, 80]

def k0_chk198 (v169 : IVec S16 32) : Prop :=
  (∀ a x, ((![v169] : Fin 1 → IVec S16 32) a x).toNat < S38912.size a)
theorem k0_idx198_inb : ∀ (v169 : IVec S16 32) (k0_hw198 : k0_chk198 v169), ∀ a x, ((![v169] : Fin 1 → IVec S16 32) a x).toNat < S38912.size a := fun v169 k0_hw198 => k0_hw198
def k0_off201 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v170 : Index := Scalar.indexCast arg9
  let c96 : Index := 96#32
  ![v170.toNat, 96]

def k0_chk199 (v171 : IVec S16 32) : Prop :=
  (∀ a x, ((![v171] : Fin 1 → IVec S16 32) a x).toNat < S38912.size a)
theorem k0_idx199_inb : ∀ (v171 : IVec S16 32) (k0_hw199 : k0_chk199 v171), ∀ a x, ((![v171] : Fin 1 → IVec S16 32) a x).toNat < S38912.size a := fun v171 k0_hw199 => k0_hw199
def k0_off202 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v172 : Index := Scalar.indexCast arg9
  let c112 : Index := 112#32
  ![v172.toNat, 112]

def k0_chk200 (v173 : IVec S16 32) : Prop :=
  (∀ a x, ((![v173] : Fin 1 → IVec S16 32) a x).toNat < S38912.size a)
theorem k0_idx200_inb : ∀ (v173 : IVec S16 32) (k0_hw200 : k0_chk200 v173), ∀ a x, ((![v173] : Fin 1 → IVec S16 32) a x).toNat < S38912.size a := fun v173 k0_hw200 => k0_hw200
def k0_off203 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v174 : Index := Scalar.indexCast arg9
  let c128 : Index := 128#32
  ![v174.toNat, 128]

def k0_chk201 (v175 : IVec S16 32) : Prop :=
  (∀ a x, ((![v175] : Fin 1 → IVec S16 32) a x).toNat < S38912.size a)
theorem k0_idx201_inb : ∀ (v175 : IVec S16 32) (k0_hw201 : k0_chk201 v175), ∀ a x, ((![v175] : Fin 1 → IVec S16 32) a x).toNat < S38912.size a := fun v175 k0_hw201 => k0_hw201
def k0_off204 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v176 : Index := Scalar.indexCast arg9
  let c144 : Index := 144#32
  ![v176.toNat, 144]

def k0_chk202 (v177 : IVec S16 32) : Prop :=
  (∀ a x, ((![v177] : Fin 1 → IVec S16 32) a x).toNat < S38912.size a)
theorem k0_idx202_inb : ∀ (v177 : IVec S16 32) (k0_hw202 : k0_chk202 v177), ∀ a x, ((![v177] : Fin 1 → IVec S16 32) a x).toNat < S38912.size a := fun v177 k0_hw202 => k0_hw202
def k0_off205 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v178 : Index := Scalar.indexCast arg9
  let c160 : Index := 160#32
  ![v178.toNat, 160]

def k0_chk203 (v179 : IVec S16 32) : Prop :=
  (∀ a x, ((![v179] : Fin 1 → IVec S16 32) a x).toNat < S38912.size a)
theorem k0_idx203_inb : ∀ (v179 : IVec S16 32) (k0_hw203 : k0_chk203 v179), ∀ a x, ((![v179] : Fin 1 → IVec S16 32) a x).toNat < S38912.size a := fun v179 k0_hw203 => k0_hw203
def k0_off206 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v180 : Index := Scalar.indexCast arg9
  let c176 : Index := 176#32
  ![v180.toNat, 176]

def k0_chk204 (v181 : IVec S16 32) : Prop :=
  (∀ a x, ((![v181] : Fin 1 → IVec S16 32) a x).toNat < S38912.size a)
theorem k0_idx204_inb : ∀ (v181 : IVec S16 32) (k0_hw204 : k0_chk204 v181), ∀ a x, ((![v181] : Fin 1 → IVec S16 32) a x).toNat < S38912.size a := fun v181 k0_hw204 => k0_hw204
def k0_off207 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v182 : Index := Scalar.indexCast arg9
  let c192 : Index := 192#32
  ![v182.toNat, 192]

def k0_chk205 (v183 : IVec S16 32) : Prop :=
  (∀ a x, ((![v183] : Fin 1 → IVec S16 32) a x).toNat < S38912.size a)
theorem k0_idx205_inb : ∀ (v183 : IVec S16 32) (k0_hw205 : k0_chk205 v183), ∀ a x, ((![v183] : Fin 1 → IVec S16 32) a x).toNat < S38912.size a := fun v183 k0_hw205 => k0_hw205
def k0_off208 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v184 : Index := Scalar.indexCast arg9
  let c208 : Index := 208#32
  ![v184.toNat, 208]

def k0_chk206 (v185 : IVec S16 32) : Prop :=
  (∀ a x, ((![v185] : Fin 1 → IVec S16 32) a x).toNat < S38912.size a)
theorem k0_idx206_inb : ∀ (v185 : IVec S16 32) (k0_hw206 : k0_chk206 v185), ∀ a x, ((![v185] : Fin 1 → IVec S16 32) a x).toNat < S38912.size a := fun v185 k0_hw206 => k0_hw206
def k0_off209 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v186 : Index := Scalar.indexCast arg9
  let c224 : Index := 224#32
  ![v186.toNat, 224]

def k0_chk207 (v187 : IVec S16 32) : Prop :=
  (∀ a x, ((![v187] : Fin 1 → IVec S16 32) a x).toNat < S38912.size a)
theorem k0_idx207_inb : ∀ (v187 : IVec S16 32) (k0_hw207 : k0_chk207 v187), ∀ a x, ((![v187] : Fin 1 → IVec S16 32) a x).toNat < S38912.size a := fun v187 k0_hw207 => k0_hw207
def k0_off210 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v188 : Index := Scalar.indexCast arg9
  let c240 : Index := 240#32
  ![v188.toNat, 240]

def k0_chk208 (v189 : IVec S16 32) : Prop :=
  (∀ a x, ((![v189] : Fin 1 → IVec S16 32) a x).toNat < S38912.size a)
theorem k0_idx208_inb : ∀ (v189 : IVec S16 32) (k0_hw208 : k0_chk208 v189), ∀ a x, ((![v189] : Fin 1 → IVec S16 32) a x).toNat < S38912.size a := fun v189 k0_hw208 => k0_hw208
def k0_off211 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v190 : Index := Scalar.indexCast arg9
  let c256 : Index := 256#32
  ![v190.toNat, 256]

def k0_chk209 (v191 : IVec S16 32) : Prop :=
  (∀ a x, ((![v191] : Fin 1 → IVec S16 32) a x).toNat < S38912.size a)
theorem k0_idx209_inb : ∀ (v191 : IVec S16 32) (k0_hw209 : k0_chk209 v191), ∀ a x, ((![v191] : Fin 1 → IVec S16 32) a x).toNat < S38912.size a := fun v191 k0_hw209 => k0_hw209
def k0_off212 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v192 : Index := Scalar.indexCast arg9
  let c272 : Index := 272#32
  ![v192.toNat, 272]

def k0_chk210 (v193 : IVec S16 32) : Prop :=
  (∀ a x, ((![v193] : Fin 1 → IVec S16 32) a x).toNat < S38912.size a)
theorem k0_idx210_inb : ∀ (v193 : IVec S16 32) (k0_hw210 : k0_chk210 v193), ∀ a x, ((![v193] : Fin 1 → IVec S16 32) a x).toNat < S38912.size a := fun v193 k0_hw210 => k0_hw210
def k0_off213 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v194 : Index := Scalar.indexCast arg9
  let c288 : Index := 288#32
  ![v194.toNat, 288]

def k0_chk211 (v195 : IVec S16 32) : Prop :=
  (∀ a x, ((![v195] : Fin 1 → IVec S16 32) a x).toNat < S38912.size a)
theorem k0_idx211_inb : ∀ (v195 : IVec S16 32) (k0_hw211 : k0_chk211 v195), ∀ a x, ((![v195] : Fin 1 → IVec S16 32) a x).toNat < S38912.size a := fun v195 k0_hw211 => k0_hw211
def k0_off214 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v196 : Index := Scalar.indexCast arg9
  let c304 : Index := 304#32
  ![v196.toNat, 304]

def k0_chk212 (v197 : IVec S16 32) : Prop :=
  (∀ a x, ((![v197] : Fin 1 → IVec S16 32) a x).toNat < S38912.size a)
theorem k0_idx212_inb : ∀ (v197 : IVec S16 32) (k0_hw212 : k0_chk212 v197), ∀ a x, ((![v197] : Fin 1 → IVec S16 32) a x).toNat < S38912.size a := fun v197 k0_hw212 => k0_hw212
def k0_off215 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v198 : Index := Scalar.indexCast arg9
  let c320 : Index := 320#32
  ![v198.toNat, 320]

def k0_chk213 (v199 : IVec S16 32) : Prop :=
  (∀ a x, ((![v199] : Fin 1 → IVec S16 32) a x).toNat < S38912.size a)
theorem k0_idx213_inb : ∀ (v199 : IVec S16 32) (k0_hw213 : k0_chk213 v199), ∀ a x, ((![v199] : Fin 1 → IVec S16 32) a x).toNat < S38912.size a := fun v199 k0_hw213 => k0_hw213
def k0_off216 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v200 : Index := Scalar.indexCast arg9
  let c336 : Index := 336#32
  ![v200.toNat, 336]

def k0_chk214 (v201 : IVec S16 32) : Prop :=
  (∀ a x, ((![v201] : Fin 1 → IVec S16 32) a x).toNat < S38912.size a)
theorem k0_idx214_inb : ∀ (v201 : IVec S16 32) (k0_hw214 : k0_chk214 v201), ∀ a x, ((![v201] : Fin 1 → IVec S16 32) a x).toNat < S38912.size a := fun v201 k0_hw214 => k0_hw214
def k0_off217 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v202 : Index := Scalar.indexCast arg9
  let c352 : Index := 352#32
  ![v202.toNat, 352]

def k0_chk215 (v203 : IVec S16 32) : Prop :=
  (∀ a x, ((![v203] : Fin 1 → IVec S16 32) a x).toNat < S38912.size a)
theorem k0_idx215_inb : ∀ (v203 : IVec S16 32) (k0_hw215 : k0_chk215 v203), ∀ a x, ((![v203] : Fin 1 → IVec S16 32) a x).toNat < S38912.size a := fun v203 k0_hw215 => k0_hw215
def k0_off218 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v204 : Index := Scalar.indexCast arg9
  let c368 : Index := 368#32
  ![v204.toNat, 368]

def k0_chk216 (v205 : IVec S16 32) : Prop :=
  (∀ a x, ((![v205] : Fin 1 → IVec S16 32) a x).toNat < S38912.size a)
theorem k0_idx216_inb : ∀ (v205 : IVec S16 32) (k0_hw216 : k0_chk216 v205), ∀ a x, ((![v205] : Fin 1 → IVec S16 32) a x).toNat < S38912.size a := fun v205 k0_hw216 => k0_hw216
def k0_off219 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v206 : Index := Scalar.indexCast arg9
  let c384 : Index := 384#32
  ![v206.toNat, 384]

def k0_chk217 (v207 : IVec S16 32) : Prop :=
  (∀ a x, ((![v207] : Fin 1 → IVec S16 32) a x).toNat < S38912.size a)
theorem k0_idx217_inb : ∀ (v207 : IVec S16 32) (k0_hw217 : k0_chk217 v207), ∀ a x, ((![v207] : Fin 1 → IVec S16 32) a x).toNat < S38912.size a := fun v207 k0_hw217 => k0_hw217
def k0_off220 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v208 : Index := Scalar.indexCast arg9
  let c400 : Index := 400#32
  ![v208.toNat, 400]

def k0_chk218 (v209 : IVec S16 32) : Prop :=
  (∀ a x, ((![v209] : Fin 1 → IVec S16 32) a x).toNat < S38912.size a)
theorem k0_idx218_inb : ∀ (v209 : IVec S16 32) (k0_hw218 : k0_chk218 v209), ∀ a x, ((![v209] : Fin 1 → IVec S16 32) a x).toNat < S38912.size a := fun v209 k0_hw218 => k0_hw218
def k0_off221 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v210 : Index := Scalar.indexCast arg9
  let c416 : Index := 416#32
  ![v210.toNat, 416]

def k0_chk219 (v211 : IVec S16 32) : Prop :=
  (∀ a x, ((![v211] : Fin 1 → IVec S16 32) a x).toNat < S38912.size a)
theorem k0_idx219_inb : ∀ (v211 : IVec S16 32) (k0_hw219 : k0_chk219 v211), ∀ a x, ((![v211] : Fin 1 → IVec S16 32) a x).toNat < S38912.size a := fun v211 k0_hw219 => k0_hw219
def k0_off222 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v212 : Index := Scalar.indexCast arg9
  let c432 : Index := 432#32
  ![v212.toNat, 432]

def k0_chk220 (v213 : IVec S16 32) : Prop :=
  (∀ a x, ((![v213] : Fin 1 → IVec S16 32) a x).toNat < S38912.size a)
theorem k0_idx220_inb : ∀ (v213 : IVec S16 32) (k0_hw220 : k0_chk220 v213), ∀ a x, ((![v213] : Fin 1 → IVec S16 32) a x).toNat < S38912.size a := fun v213 k0_hw220 => k0_hw220
def k0_off223 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v214 : Index := Scalar.indexCast arg9
  let c448 : Index := 448#32
  ![v214.toNat, 448]

def k0_chk221 (v215 : IVec S16 32) : Prop :=
  (∀ a x, ((![v215] : Fin 1 → IVec S16 32) a x).toNat < S38912.size a)
theorem k0_idx221_inb : ∀ (v215 : IVec S16 32) (k0_hw221 : k0_chk221 v215), ∀ a x, ((![v215] : Fin 1 → IVec S16 32) a x).toNat < S38912.size a := fun v215 k0_hw221 => k0_hw221
def k0_off224 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v216 : Index := Scalar.indexCast arg9
  let c464 : Index := 464#32
  ![v216.toNat, 464]

def k0_chk222 (v217 : IVec S16 32) : Prop :=
  (∀ a x, ((![v217] : Fin 1 → IVec S16 32) a x).toNat < S38912.size a)
theorem k0_idx222_inb : ∀ (v217 : IVec S16 32) (k0_hw222 : k0_chk222 v217), ∀ a x, ((![v217] : Fin 1 → IVec S16 32) a x).toNat < S38912.size a := fun v217 k0_hw222 => k0_hw222
def k0_off225 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v218 : Index := Scalar.indexCast arg9
  let c480 : Index := 480#32
  ![v218.toNat, 480]

def k0_chk223 (v219 : IVec S16 32) : Prop :=
  (∀ a x, ((![v219] : Fin 1 → IVec S16 32) a x).toNat < S38912.size a)
theorem k0_idx223_inb : ∀ (v219 : IVec S16 32) (k0_hw223 : k0_chk223 v219), ∀ a x, ((![v219] : Fin 1 → IVec S16 32) a x).toNat < S38912.size a := fun v219 k0_hw223 => k0_hw223
def k0_off226 (k0_t8 : Fin k0_t8_loop.trips) : Fin 2 → Nat :=
  let c0_i32_72 : BitVec 32 := 0#32
  let c1_i32_74 : BitVec 32 := 1#32
  let arg9 : BitVec 32 := Scf.iv c0_i32_72 c1_i32_74 k0_t8
  let v220 : Index := Scalar.indexCast arg9
  let c496 : Index := 496#32
  ![v220.toNat, 496]

def k0_chk224 (v221 : IVec S16 32) : Prop :=
  (∀ a x, ((![v221] : Fin 1 → IVec S16 32) a x).toNat < S38912.size a)
theorem k0_idx224_inb : ∀ (v221 : IVec S16 32) (k0_hw224 : k0_chk224 v221), ∀ a x, ((![v221] : Fin 1 → IVec S16 32) a x).toNat < S38912.size a := fun v221 k0_hw224 => k0_hw224
@[reducible] def k0_t9_loop : Scf.Loop 32 :=
  let c0_i32_82 : BitVec 32 := 0#32
  let c64_i32_83 : BitVec 32 := 64#32
  let v71 : BitVec 32 := Scalar.addi c0_i32_82 c64_i32_83
  let c1_i32_84 : BitVec 32 := 1#32
  ⟨c0_i32_82, v71, c1_i32_84⟩
def k0_off227 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v158 : Index := Scalar.indexCast arg9
  let c0 : Index := 0#32
  ![v158.toNat, 0]

def k0_chk225 (v159 : IVec S16 32) : Prop :=
  (∀ a x, ((![v159] : Fin 1 → IVec S16 32) a x).toNat < S38912.size a)
theorem k0_idx225_inb : ∀ (v159 : IVec S16 32) (k0_hw225 : k0_chk225 v159), ∀ a x, ((![v159] : Fin 1 → IVec S16 32) a x).toNat < S38912.size a := fun v159 k0_hw225 => k0_hw225
def k0_off228 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v160 : Index := Scalar.indexCast arg9
  let c16 : Index := 16#32
  ![v160.toNat, 16]

def k0_chk226 (v161 : IVec S16 32) : Prop :=
  (∀ a x, ((![v161] : Fin 1 → IVec S16 32) a x).toNat < S38912.size a)
theorem k0_idx226_inb : ∀ (v161 : IVec S16 32) (k0_hw226 : k0_chk226 v161), ∀ a x, ((![v161] : Fin 1 → IVec S16 32) a x).toNat < S38912.size a := fun v161 k0_hw226 => k0_hw226
def k0_off229 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v162 : Index := Scalar.indexCast arg9
  let c32 : Index := 32#32
  ![v162.toNat, 32]

def k0_chk227 (v163 : IVec S16 32) : Prop :=
  (∀ a x, ((![v163] : Fin 1 → IVec S16 32) a x).toNat < S38912.size a)
theorem k0_idx227_inb : ∀ (v163 : IVec S16 32) (k0_hw227 : k0_chk227 v163), ∀ a x, ((![v163] : Fin 1 → IVec S16 32) a x).toNat < S38912.size a := fun v163 k0_hw227 => k0_hw227
def k0_off230 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v164 : Index := Scalar.indexCast arg9
  let c48 : Index := 48#32
  ![v164.toNat, 48]

def k0_chk228 (v165 : IVec S16 32) : Prop :=
  (∀ a x, ((![v165] : Fin 1 → IVec S16 32) a x).toNat < S38912.size a)
theorem k0_idx228_inb : ∀ (v165 : IVec S16 32) (k0_hw228 : k0_chk228 v165), ∀ a x, ((![v165] : Fin 1 → IVec S16 32) a x).toNat < S38912.size a := fun v165 k0_hw228 => k0_hw228
def k0_off231 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v166 : Index := Scalar.indexCast arg9
  let c64 : Index := 64#32
  ![v166.toNat, 64]

def k0_chk229 (v167 : IVec S16 32) : Prop :=
  (∀ a x, ((![v167] : Fin 1 → IVec S16 32) a x).toNat < S38912.size a)
theorem k0_idx229_inb : ∀ (v167 : IVec S16 32) (k0_hw229 : k0_chk229 v167), ∀ a x, ((![v167] : Fin 1 → IVec S16 32) a x).toNat < S38912.size a := fun v167 k0_hw229 => k0_hw229
def k0_off232 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v168 : Index := Scalar.indexCast arg9
  let c80 : Index := 80#32
  ![v168.toNat, 80]

def k0_chk230 (v169 : IVec S16 32) : Prop :=
  (∀ a x, ((![v169] : Fin 1 → IVec S16 32) a x).toNat < S38912.size a)
theorem k0_idx230_inb : ∀ (v169 : IVec S16 32) (k0_hw230 : k0_chk230 v169), ∀ a x, ((![v169] : Fin 1 → IVec S16 32) a x).toNat < S38912.size a := fun v169 k0_hw230 => k0_hw230
def k0_off233 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v170 : Index := Scalar.indexCast arg9
  let c96 : Index := 96#32
  ![v170.toNat, 96]

def k0_chk231 (v171 : IVec S16 32) : Prop :=
  (∀ a x, ((![v171] : Fin 1 → IVec S16 32) a x).toNat < S38912.size a)
theorem k0_idx231_inb : ∀ (v171 : IVec S16 32) (k0_hw231 : k0_chk231 v171), ∀ a x, ((![v171] : Fin 1 → IVec S16 32) a x).toNat < S38912.size a := fun v171 k0_hw231 => k0_hw231
def k0_off234 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v172 : Index := Scalar.indexCast arg9
  let c112 : Index := 112#32
  ![v172.toNat, 112]

def k0_chk232 (v173 : IVec S16 32) : Prop :=
  (∀ a x, ((![v173] : Fin 1 → IVec S16 32) a x).toNat < S38912.size a)
theorem k0_idx232_inb : ∀ (v173 : IVec S16 32) (k0_hw232 : k0_chk232 v173), ∀ a x, ((![v173] : Fin 1 → IVec S16 32) a x).toNat < S38912.size a := fun v173 k0_hw232 => k0_hw232
def k0_off235 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v174 : Index := Scalar.indexCast arg9
  let c128 : Index := 128#32
  ![v174.toNat, 128]

def k0_chk233 (v175 : IVec S16 32) : Prop :=
  (∀ a x, ((![v175] : Fin 1 → IVec S16 32) a x).toNat < S38912.size a)
theorem k0_idx233_inb : ∀ (v175 : IVec S16 32) (k0_hw233 : k0_chk233 v175), ∀ a x, ((![v175] : Fin 1 → IVec S16 32) a x).toNat < S38912.size a := fun v175 k0_hw233 => k0_hw233
def k0_off236 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v176 : Index := Scalar.indexCast arg9
  let c144 : Index := 144#32
  ![v176.toNat, 144]

def k0_chk234 (v177 : IVec S16 32) : Prop :=
  (∀ a x, ((![v177] : Fin 1 → IVec S16 32) a x).toNat < S38912.size a)
theorem k0_idx234_inb : ∀ (v177 : IVec S16 32) (k0_hw234 : k0_chk234 v177), ∀ a x, ((![v177] : Fin 1 → IVec S16 32) a x).toNat < S38912.size a := fun v177 k0_hw234 => k0_hw234
def k0_off237 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v178 : Index := Scalar.indexCast arg9
  let c160 : Index := 160#32
  ![v178.toNat, 160]

def k0_chk235 (v179 : IVec S16 32) : Prop :=
  (∀ a x, ((![v179] : Fin 1 → IVec S16 32) a x).toNat < S38912.size a)
theorem k0_idx235_inb : ∀ (v179 : IVec S16 32) (k0_hw235 : k0_chk235 v179), ∀ a x, ((![v179] : Fin 1 → IVec S16 32) a x).toNat < S38912.size a := fun v179 k0_hw235 => k0_hw235
def k0_off238 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v180 : Index := Scalar.indexCast arg9
  let c176 : Index := 176#32
  ![v180.toNat, 176]

def k0_chk236 (v181 : IVec S16 32) : Prop :=
  (∀ a x, ((![v181] : Fin 1 → IVec S16 32) a x).toNat < S38912.size a)
theorem k0_idx236_inb : ∀ (v181 : IVec S16 32) (k0_hw236 : k0_chk236 v181), ∀ a x, ((![v181] : Fin 1 → IVec S16 32) a x).toNat < S38912.size a := fun v181 k0_hw236 => k0_hw236
def k0_off239 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v182 : Index := Scalar.indexCast arg9
  let c192 : Index := 192#32
  ![v182.toNat, 192]

def k0_chk237 (v183 : IVec S16 32) : Prop :=
  (∀ a x, ((![v183] : Fin 1 → IVec S16 32) a x).toNat < S38912.size a)
theorem k0_idx237_inb : ∀ (v183 : IVec S16 32) (k0_hw237 : k0_chk237 v183), ∀ a x, ((![v183] : Fin 1 → IVec S16 32) a x).toNat < S38912.size a := fun v183 k0_hw237 => k0_hw237
def k0_off240 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v184 : Index := Scalar.indexCast arg9
  let c208 : Index := 208#32
  ![v184.toNat, 208]

def k0_chk238 (v185 : IVec S16 32) : Prop :=
  (∀ a x, ((![v185] : Fin 1 → IVec S16 32) a x).toNat < S38912.size a)
theorem k0_idx238_inb : ∀ (v185 : IVec S16 32) (k0_hw238 : k0_chk238 v185), ∀ a x, ((![v185] : Fin 1 → IVec S16 32) a x).toNat < S38912.size a := fun v185 k0_hw238 => k0_hw238
def k0_off241 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v186 : Index := Scalar.indexCast arg9
  let c224 : Index := 224#32
  ![v186.toNat, 224]

def k0_chk239 (v187 : IVec S16 32) : Prop :=
  (∀ a x, ((![v187] : Fin 1 → IVec S16 32) a x).toNat < S38912.size a)
theorem k0_idx239_inb : ∀ (v187 : IVec S16 32) (k0_hw239 : k0_chk239 v187), ∀ a x, ((![v187] : Fin 1 → IVec S16 32) a x).toNat < S38912.size a := fun v187 k0_hw239 => k0_hw239
def k0_off242 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v188 : Index := Scalar.indexCast arg9
  let c240 : Index := 240#32
  ![v188.toNat, 240]

def k0_chk240 (v189 : IVec S16 32) : Prop :=
  (∀ a x, ((![v189] : Fin 1 → IVec S16 32) a x).toNat < S38912.size a)
theorem k0_idx240_inb : ∀ (v189 : IVec S16 32) (k0_hw240 : k0_chk240 v189), ∀ a x, ((![v189] : Fin 1 → IVec S16 32) a x).toNat < S38912.size a := fun v189 k0_hw240 => k0_hw240
def k0_off243 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v190 : Index := Scalar.indexCast arg9
  let c256 : Index := 256#32
  ![v190.toNat, 256]

def k0_chk241 (v191 : IVec S16 32) : Prop :=
  (∀ a x, ((![v191] : Fin 1 → IVec S16 32) a x).toNat < S38912.size a)
theorem k0_idx241_inb : ∀ (v191 : IVec S16 32) (k0_hw241 : k0_chk241 v191), ∀ a x, ((![v191] : Fin 1 → IVec S16 32) a x).toNat < S38912.size a := fun v191 k0_hw241 => k0_hw241
def k0_off244 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v192 : Index := Scalar.indexCast arg9
  let c272 : Index := 272#32
  ![v192.toNat, 272]

def k0_chk242 (v193 : IVec S16 32) : Prop :=
  (∀ a x, ((![v193] : Fin 1 → IVec S16 32) a x).toNat < S38912.size a)
theorem k0_idx242_inb : ∀ (v193 : IVec S16 32) (k0_hw242 : k0_chk242 v193), ∀ a x, ((![v193] : Fin 1 → IVec S16 32) a x).toNat < S38912.size a := fun v193 k0_hw242 => k0_hw242
def k0_off245 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v194 : Index := Scalar.indexCast arg9
  let c288 : Index := 288#32
  ![v194.toNat, 288]

def k0_chk243 (v195 : IVec S16 32) : Prop :=
  (∀ a x, ((![v195] : Fin 1 → IVec S16 32) a x).toNat < S38912.size a)
theorem k0_idx243_inb : ∀ (v195 : IVec S16 32) (k0_hw243 : k0_chk243 v195), ∀ a x, ((![v195] : Fin 1 → IVec S16 32) a x).toNat < S38912.size a := fun v195 k0_hw243 => k0_hw243
def k0_off246 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v196 : Index := Scalar.indexCast arg9
  let c304 : Index := 304#32
  ![v196.toNat, 304]

def k0_chk244 (v197 : IVec S16 32) : Prop :=
  (∀ a x, ((![v197] : Fin 1 → IVec S16 32) a x).toNat < S38912.size a)
theorem k0_idx244_inb : ∀ (v197 : IVec S16 32) (k0_hw244 : k0_chk244 v197), ∀ a x, ((![v197] : Fin 1 → IVec S16 32) a x).toNat < S38912.size a := fun v197 k0_hw244 => k0_hw244
def k0_off247 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v198 : Index := Scalar.indexCast arg9
  let c320 : Index := 320#32
  ![v198.toNat, 320]

def k0_chk245 (v199 : IVec S16 32) : Prop :=
  (∀ a x, ((![v199] : Fin 1 → IVec S16 32) a x).toNat < S38912.size a)
theorem k0_idx245_inb : ∀ (v199 : IVec S16 32) (k0_hw245 : k0_chk245 v199), ∀ a x, ((![v199] : Fin 1 → IVec S16 32) a x).toNat < S38912.size a := fun v199 k0_hw245 => k0_hw245
def k0_off248 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v200 : Index := Scalar.indexCast arg9
  let c336 : Index := 336#32
  ![v200.toNat, 336]

def k0_chk246 (v201 : IVec S16 32) : Prop :=
  (∀ a x, ((![v201] : Fin 1 → IVec S16 32) a x).toNat < S38912.size a)
theorem k0_idx246_inb : ∀ (v201 : IVec S16 32) (k0_hw246 : k0_chk246 v201), ∀ a x, ((![v201] : Fin 1 → IVec S16 32) a x).toNat < S38912.size a := fun v201 k0_hw246 => k0_hw246
def k0_off249 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v202 : Index := Scalar.indexCast arg9
  let c352 : Index := 352#32
  ![v202.toNat, 352]

def k0_chk247 (v203 : IVec S16 32) : Prop :=
  (∀ a x, ((![v203] : Fin 1 → IVec S16 32) a x).toNat < S38912.size a)
theorem k0_idx247_inb : ∀ (v203 : IVec S16 32) (k0_hw247 : k0_chk247 v203), ∀ a x, ((![v203] : Fin 1 → IVec S16 32) a x).toNat < S38912.size a := fun v203 k0_hw247 => k0_hw247
def k0_off250 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v204 : Index := Scalar.indexCast arg9
  let c368 : Index := 368#32
  ![v204.toNat, 368]

def k0_chk248 (v205 : IVec S16 32) : Prop :=
  (∀ a x, ((![v205] : Fin 1 → IVec S16 32) a x).toNat < S38912.size a)
theorem k0_idx248_inb : ∀ (v205 : IVec S16 32) (k0_hw248 : k0_chk248 v205), ∀ a x, ((![v205] : Fin 1 → IVec S16 32) a x).toNat < S38912.size a := fun v205 k0_hw248 => k0_hw248
def k0_off251 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v206 : Index := Scalar.indexCast arg9
  let c384 : Index := 384#32
  ![v206.toNat, 384]

def k0_chk249 (v207 : IVec S16 32) : Prop :=
  (∀ a x, ((![v207] : Fin 1 → IVec S16 32) a x).toNat < S38912.size a)
theorem k0_idx249_inb : ∀ (v207 : IVec S16 32) (k0_hw249 : k0_chk249 v207), ∀ a x, ((![v207] : Fin 1 → IVec S16 32) a x).toNat < S38912.size a := fun v207 k0_hw249 => k0_hw249
def k0_off252 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v208 : Index := Scalar.indexCast arg9
  let c400 : Index := 400#32
  ![v208.toNat, 400]

def k0_chk250 (v209 : IVec S16 32) : Prop :=
  (∀ a x, ((![v209] : Fin 1 → IVec S16 32) a x).toNat < S38912.size a)
theorem k0_idx250_inb : ∀ (v209 : IVec S16 32) (k0_hw250 : k0_chk250 v209), ∀ a x, ((![v209] : Fin 1 → IVec S16 32) a x).toNat < S38912.size a := fun v209 k0_hw250 => k0_hw250
def k0_off253 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v210 : Index := Scalar.indexCast arg9
  let c416 : Index := 416#32
  ![v210.toNat, 416]

def k0_chk251 (v211 : IVec S16 32) : Prop :=
  (∀ a x, ((![v211] : Fin 1 → IVec S16 32) a x).toNat < S38912.size a)
theorem k0_idx251_inb : ∀ (v211 : IVec S16 32) (k0_hw251 : k0_chk251 v211), ∀ a x, ((![v211] : Fin 1 → IVec S16 32) a x).toNat < S38912.size a := fun v211 k0_hw251 => k0_hw251
def k0_off254 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v212 : Index := Scalar.indexCast arg9
  let c432 : Index := 432#32
  ![v212.toNat, 432]

def k0_chk252 (v213 : IVec S16 32) : Prop :=
  (∀ a x, ((![v213] : Fin 1 → IVec S16 32) a x).toNat < S38912.size a)
theorem k0_idx252_inb : ∀ (v213 : IVec S16 32) (k0_hw252 : k0_chk252 v213), ∀ a x, ((![v213] : Fin 1 → IVec S16 32) a x).toNat < S38912.size a := fun v213 k0_hw252 => k0_hw252
def k0_off255 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v214 : Index := Scalar.indexCast arg9
  let c448 : Index := 448#32
  ![v214.toNat, 448]

def k0_chk253 (v215 : IVec S16 32) : Prop :=
  (∀ a x, ((![v215] : Fin 1 → IVec S16 32) a x).toNat < S38912.size a)
theorem k0_idx253_inb : ∀ (v215 : IVec S16 32) (k0_hw253 : k0_chk253 v215), ∀ a x, ((![v215] : Fin 1 → IVec S16 32) a x).toNat < S38912.size a := fun v215 k0_hw253 => k0_hw253
def k0_off256 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v216 : Index := Scalar.indexCast arg9
  let c464 : Index := 464#32
  ![v216.toNat, 464]

def k0_chk254 (v217 : IVec S16 32) : Prop :=
  (∀ a x, ((![v217] : Fin 1 → IVec S16 32) a x).toNat < S38912.size a)
theorem k0_idx254_inb : ∀ (v217 : IVec S16 32) (k0_hw254 : k0_chk254 v217), ∀ a x, ((![v217] : Fin 1 → IVec S16 32) a x).toNat < S38912.size a := fun v217 k0_hw254 => k0_hw254
def k0_off257 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v218 : Index := Scalar.indexCast arg9
  let c480 : Index := 480#32
  ![v218.toNat, 480]

def k0_chk255 (v219 : IVec S16 32) : Prop :=
  (∀ a x, ((![v219] : Fin 1 → IVec S16 32) a x).toNat < S38912.size a)
theorem k0_idx255_inb : ∀ (v219 : IVec S16 32) (k0_hw255 : k0_chk255 v219), ∀ a x, ((![v219] : Fin 1 → IVec S16 32) a x).toNat < S38912.size a := fun v219 k0_hw255 => k0_hw255
def k0_off258 (k0_t9 : Fin k0_t9_loop.trips) : Fin 2 → Nat :=
  let c0_i32_82 : BitVec 32 := 0#32
  let c1_i32_84 : BitVec 32 := 1#32
  let arg9 : BitVec 32 := Scf.iv c0_i32_82 c1_i32_84 k0_t9
  let v220 : Index := Scalar.indexCast arg9
  let c496 : Index := 496#32
  ![v220.toNat, 496]

def k0_chk256 (v221 : IVec S16 32) : Prop :=
  (∀ a x, ((![v221] : Fin 1 → IVec S16 32) a x).toNat < S38912.size a)
theorem k0_idx256_inb : ∀ (v221 : IVec S16 32) (k0_hw256 : k0_chk256 v221), ∀ a x, ((![v221] : Fin 1 → IVec S16 32) a x).toNat < S38912.size a := fun v221 k0_hw256 => k0_hw256
@[reducible] def k0_t10_loop : Scf.Loop 32 :=
  let c0_i32_92 : BitVec 32 := 0#32
  let c64_i32_93 : BitVec 32 := 64#32
  let v79 : BitVec 32 := Scalar.addi c0_i32_92 c64_i32_93
  let c1_i32_94 : BitVec 32 := 1#32
  ⟨c0_i32_92, v79, c1_i32_94⟩
def k0_off259 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v158 : Index := Scalar.indexCast arg9
  let c0 : Index := 0#32
  ![v158.toNat, 0]

def k0_chk257 (v159 : IVec S16 32) : Prop :=
  (∀ a x, ((![v159] : Fin 1 → IVec S16 32) a x).toNat < S38912.size a)
theorem k0_idx257_inb : ∀ (v159 : IVec S16 32) (k0_hw257 : k0_chk257 v159), ∀ a x, ((![v159] : Fin 1 → IVec S16 32) a x).toNat < S38912.size a := fun v159 k0_hw257 => k0_hw257
def k0_off260 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v160 : Index := Scalar.indexCast arg9
  let c16 : Index := 16#32
  ![v160.toNat, 16]

def k0_chk258 (v161 : IVec S16 32) : Prop :=
  (∀ a x, ((![v161] : Fin 1 → IVec S16 32) a x).toNat < S38912.size a)
theorem k0_idx258_inb : ∀ (v161 : IVec S16 32) (k0_hw258 : k0_chk258 v161), ∀ a x, ((![v161] : Fin 1 → IVec S16 32) a x).toNat < S38912.size a := fun v161 k0_hw258 => k0_hw258
def k0_off261 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v162 : Index := Scalar.indexCast arg9
  let c32 : Index := 32#32
  ![v162.toNat, 32]

def k0_chk259 (v163 : IVec S16 32) : Prop :=
  (∀ a x, ((![v163] : Fin 1 → IVec S16 32) a x).toNat < S38912.size a)
theorem k0_idx259_inb : ∀ (v163 : IVec S16 32) (k0_hw259 : k0_chk259 v163), ∀ a x, ((![v163] : Fin 1 → IVec S16 32) a x).toNat < S38912.size a := fun v163 k0_hw259 => k0_hw259
def k0_off262 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v164 : Index := Scalar.indexCast arg9
  let c48 : Index := 48#32
  ![v164.toNat, 48]

def k0_chk260 (v165 : IVec S16 32) : Prop :=
  (∀ a x, ((![v165] : Fin 1 → IVec S16 32) a x).toNat < S38912.size a)
theorem k0_idx260_inb : ∀ (v165 : IVec S16 32) (k0_hw260 : k0_chk260 v165), ∀ a x, ((![v165] : Fin 1 → IVec S16 32) a x).toNat < S38912.size a := fun v165 k0_hw260 => k0_hw260
def k0_off263 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v166 : Index := Scalar.indexCast arg9
  let c64 : Index := 64#32
  ![v166.toNat, 64]

def k0_chk261 (v167 : IVec S16 32) : Prop :=
  (∀ a x, ((![v167] : Fin 1 → IVec S16 32) a x).toNat < S38912.size a)
theorem k0_idx261_inb : ∀ (v167 : IVec S16 32) (k0_hw261 : k0_chk261 v167), ∀ a x, ((![v167] : Fin 1 → IVec S16 32) a x).toNat < S38912.size a := fun v167 k0_hw261 => k0_hw261
def k0_off264 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v168 : Index := Scalar.indexCast arg9
  let c80 : Index := 80#32
  ![v168.toNat, 80]

def k0_chk262 (v169 : IVec S16 32) : Prop :=
  (∀ a x, ((![v169] : Fin 1 → IVec S16 32) a x).toNat < S38912.size a)
theorem k0_idx262_inb : ∀ (v169 : IVec S16 32) (k0_hw262 : k0_chk262 v169), ∀ a x, ((![v169] : Fin 1 → IVec S16 32) a x).toNat < S38912.size a := fun v169 k0_hw262 => k0_hw262
def k0_off265 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v170 : Index := Scalar.indexCast arg9
  let c96 : Index := 96#32
  ![v170.toNat, 96]

def k0_chk263 (v171 : IVec S16 32) : Prop :=
  (∀ a x, ((![v171] : Fin 1 → IVec S16 32) a x).toNat < S38912.size a)
theorem k0_idx263_inb : ∀ (v171 : IVec S16 32) (k0_hw263 : k0_chk263 v171), ∀ a x, ((![v171] : Fin 1 → IVec S16 32) a x).toNat < S38912.size a := fun v171 k0_hw263 => k0_hw263
def k0_off266 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v172 : Index := Scalar.indexCast arg9
  let c112 : Index := 112#32
  ![v172.toNat, 112]

def k0_chk264 (v173 : IVec S16 32) : Prop :=
  (∀ a x, ((![v173] : Fin 1 → IVec S16 32) a x).toNat < S38912.size a)
theorem k0_idx264_inb : ∀ (v173 : IVec S16 32) (k0_hw264 : k0_chk264 v173), ∀ a x, ((![v173] : Fin 1 → IVec S16 32) a x).toNat < S38912.size a := fun v173 k0_hw264 => k0_hw264
def k0_off267 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v174 : Index := Scalar.indexCast arg9
  let c128 : Index := 128#32
  ![v174.toNat, 128]

def k0_chk265 (v175 : IVec S16 32) : Prop :=
  (∀ a x, ((![v175] : Fin 1 → IVec S16 32) a x).toNat < S38912.size a)
theorem k0_idx265_inb : ∀ (v175 : IVec S16 32) (k0_hw265 : k0_chk265 v175), ∀ a x, ((![v175] : Fin 1 → IVec S16 32) a x).toNat < S38912.size a := fun v175 k0_hw265 => k0_hw265
def k0_off268 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v176 : Index := Scalar.indexCast arg9
  let c144 : Index := 144#32
  ![v176.toNat, 144]

def k0_chk266 (v177 : IVec S16 32) : Prop :=
  (∀ a x, ((![v177] : Fin 1 → IVec S16 32) a x).toNat < S38912.size a)
theorem k0_idx266_inb : ∀ (v177 : IVec S16 32) (k0_hw266 : k0_chk266 v177), ∀ a x, ((![v177] : Fin 1 → IVec S16 32) a x).toNat < S38912.size a := fun v177 k0_hw266 => k0_hw266
def k0_off269 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v178 : Index := Scalar.indexCast arg9
  let c160 : Index := 160#32
  ![v178.toNat, 160]

def k0_chk267 (v179 : IVec S16 32) : Prop :=
  (∀ a x, ((![v179] : Fin 1 → IVec S16 32) a x).toNat < S38912.size a)
theorem k0_idx267_inb : ∀ (v179 : IVec S16 32) (k0_hw267 : k0_chk267 v179), ∀ a x, ((![v179] : Fin 1 → IVec S16 32) a x).toNat < S38912.size a := fun v179 k0_hw267 => k0_hw267
def k0_off270 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v180 : Index := Scalar.indexCast arg9
  let c176 : Index := 176#32
  ![v180.toNat, 176]

def k0_chk268 (v181 : IVec S16 32) : Prop :=
  (∀ a x, ((![v181] : Fin 1 → IVec S16 32) a x).toNat < S38912.size a)
theorem k0_idx268_inb : ∀ (v181 : IVec S16 32) (k0_hw268 : k0_chk268 v181), ∀ a x, ((![v181] : Fin 1 → IVec S16 32) a x).toNat < S38912.size a := fun v181 k0_hw268 => k0_hw268
def k0_off271 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v182 : Index := Scalar.indexCast arg9
  let c192 : Index := 192#32
  ![v182.toNat, 192]

def k0_chk269 (v183 : IVec S16 32) : Prop :=
  (∀ a x, ((![v183] : Fin 1 → IVec S16 32) a x).toNat < S38912.size a)
theorem k0_idx269_inb : ∀ (v183 : IVec S16 32) (k0_hw269 : k0_chk269 v183), ∀ a x, ((![v183] : Fin 1 → IVec S16 32) a x).toNat < S38912.size a := fun v183 k0_hw269 => k0_hw269
def k0_off272 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v184 : Index := Scalar.indexCast arg9
  let c208 : Index := 208#32
  ![v184.toNat, 208]

def k0_chk270 (v185 : IVec S16 32) : Prop :=
  (∀ a x, ((![v185] : Fin 1 → IVec S16 32) a x).toNat < S38912.size a)
theorem k0_idx270_inb : ∀ (v185 : IVec S16 32) (k0_hw270 : k0_chk270 v185), ∀ a x, ((![v185] : Fin 1 → IVec S16 32) a x).toNat < S38912.size a := fun v185 k0_hw270 => k0_hw270
def k0_off273 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v186 : Index := Scalar.indexCast arg9
  let c224 : Index := 224#32
  ![v186.toNat, 224]

def k0_chk271 (v187 : IVec S16 32) : Prop :=
  (∀ a x, ((![v187] : Fin 1 → IVec S16 32) a x).toNat < S38912.size a)
theorem k0_idx271_inb : ∀ (v187 : IVec S16 32) (k0_hw271 : k0_chk271 v187), ∀ a x, ((![v187] : Fin 1 → IVec S16 32) a x).toNat < S38912.size a := fun v187 k0_hw271 => k0_hw271
def k0_off274 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v188 : Index := Scalar.indexCast arg9
  let c240 : Index := 240#32
  ![v188.toNat, 240]

def k0_chk272 (v189 : IVec S16 32) : Prop :=
  (∀ a x, ((![v189] : Fin 1 → IVec S16 32) a x).toNat < S38912.size a)
theorem k0_idx272_inb : ∀ (v189 : IVec S16 32) (k0_hw272 : k0_chk272 v189), ∀ a x, ((![v189] : Fin 1 → IVec S16 32) a x).toNat < S38912.size a := fun v189 k0_hw272 => k0_hw272
def k0_off275 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v190 : Index := Scalar.indexCast arg9
  let c256 : Index := 256#32
  ![v190.toNat, 256]

def k0_chk273 (v191 : IVec S16 32) : Prop :=
  (∀ a x, ((![v191] : Fin 1 → IVec S16 32) a x).toNat < S38912.size a)
theorem k0_idx273_inb : ∀ (v191 : IVec S16 32) (k0_hw273 : k0_chk273 v191), ∀ a x, ((![v191] : Fin 1 → IVec S16 32) a x).toNat < S38912.size a := fun v191 k0_hw273 => k0_hw273
def k0_off276 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v192 : Index := Scalar.indexCast arg9
  let c272 : Index := 272#32
  ![v192.toNat, 272]

def k0_chk274 (v193 : IVec S16 32) : Prop :=
  (∀ a x, ((![v193] : Fin 1 → IVec S16 32) a x).toNat < S38912.size a)
theorem k0_idx274_inb : ∀ (v193 : IVec S16 32) (k0_hw274 : k0_chk274 v193), ∀ a x, ((![v193] : Fin 1 → IVec S16 32) a x).toNat < S38912.size a := fun v193 k0_hw274 => k0_hw274
def k0_off277 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v194 : Index := Scalar.indexCast arg9
  let c288 : Index := 288#32
  ![v194.toNat, 288]

def k0_chk275 (v195 : IVec S16 32) : Prop :=
  (∀ a x, ((![v195] : Fin 1 → IVec S16 32) a x).toNat < S38912.size a)
theorem k0_idx275_inb : ∀ (v195 : IVec S16 32) (k0_hw275 : k0_chk275 v195), ∀ a x, ((![v195] : Fin 1 → IVec S16 32) a x).toNat < S38912.size a := fun v195 k0_hw275 => k0_hw275
def k0_off278 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v196 : Index := Scalar.indexCast arg9
  let c304 : Index := 304#32
  ![v196.toNat, 304]

def k0_chk276 (v197 : IVec S16 32) : Prop :=
  (∀ a x, ((![v197] : Fin 1 → IVec S16 32) a x).toNat < S38912.size a)
theorem k0_idx276_inb : ∀ (v197 : IVec S16 32) (k0_hw276 : k0_chk276 v197), ∀ a x, ((![v197] : Fin 1 → IVec S16 32) a x).toNat < S38912.size a := fun v197 k0_hw276 => k0_hw276
def k0_off279 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v198 : Index := Scalar.indexCast arg9
  let c320 : Index := 320#32
  ![v198.toNat, 320]

def k0_chk277 (v199 : IVec S16 32) : Prop :=
  (∀ a x, ((![v199] : Fin 1 → IVec S16 32) a x).toNat < S38912.size a)
theorem k0_idx277_inb : ∀ (v199 : IVec S16 32) (k0_hw277 : k0_chk277 v199), ∀ a x, ((![v199] : Fin 1 → IVec S16 32) a x).toNat < S38912.size a := fun v199 k0_hw277 => k0_hw277
def k0_off280 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v200 : Index := Scalar.indexCast arg9
  let c336 : Index := 336#32
  ![v200.toNat, 336]

def k0_chk278 (v201 : IVec S16 32) : Prop :=
  (∀ a x, ((![v201] : Fin 1 → IVec S16 32) a x).toNat < S38912.size a)
theorem k0_idx278_inb : ∀ (v201 : IVec S16 32) (k0_hw278 : k0_chk278 v201), ∀ a x, ((![v201] : Fin 1 → IVec S16 32) a x).toNat < S38912.size a := fun v201 k0_hw278 => k0_hw278
def k0_off281 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v202 : Index := Scalar.indexCast arg9
  let c352 : Index := 352#32
  ![v202.toNat, 352]

def k0_chk279 (v203 : IVec S16 32) : Prop :=
  (∀ a x, ((![v203] : Fin 1 → IVec S16 32) a x).toNat < S38912.size a)
theorem k0_idx279_inb : ∀ (v203 : IVec S16 32) (k0_hw279 : k0_chk279 v203), ∀ a x, ((![v203] : Fin 1 → IVec S16 32) a x).toNat < S38912.size a := fun v203 k0_hw279 => k0_hw279
def k0_off282 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v204 : Index := Scalar.indexCast arg9
  let c368 : Index := 368#32
  ![v204.toNat, 368]

def k0_chk280 (v205 : IVec S16 32) : Prop :=
  (∀ a x, ((![v205] : Fin 1 → IVec S16 32) a x).toNat < S38912.size a)
theorem k0_idx280_inb : ∀ (v205 : IVec S16 32) (k0_hw280 : k0_chk280 v205), ∀ a x, ((![v205] : Fin 1 → IVec S16 32) a x).toNat < S38912.size a := fun v205 k0_hw280 => k0_hw280
def k0_off283 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v206 : Index := Scalar.indexCast arg9
  let c384 : Index := 384#32
  ![v206.toNat, 384]

def k0_chk281 (v207 : IVec S16 32) : Prop :=
  (∀ a x, ((![v207] : Fin 1 → IVec S16 32) a x).toNat < S38912.size a)
theorem k0_idx281_inb : ∀ (v207 : IVec S16 32) (k0_hw281 : k0_chk281 v207), ∀ a x, ((![v207] : Fin 1 → IVec S16 32) a x).toNat < S38912.size a := fun v207 k0_hw281 => k0_hw281
def k0_off284 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v208 : Index := Scalar.indexCast arg9
  let c400 : Index := 400#32
  ![v208.toNat, 400]

def k0_chk282 (v209 : IVec S16 32) : Prop :=
  (∀ a x, ((![v209] : Fin 1 → IVec S16 32) a x).toNat < S38912.size a)
theorem k0_idx282_inb : ∀ (v209 : IVec S16 32) (k0_hw282 : k0_chk282 v209), ∀ a x, ((![v209] : Fin 1 → IVec S16 32) a x).toNat < S38912.size a := fun v209 k0_hw282 => k0_hw282
def k0_off285 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v210 : Index := Scalar.indexCast arg9
  let c416 : Index := 416#32
  ![v210.toNat, 416]

def k0_chk283 (v211 : IVec S16 32) : Prop :=
  (∀ a x, ((![v211] : Fin 1 → IVec S16 32) a x).toNat < S38912.size a)
theorem k0_idx283_inb : ∀ (v211 : IVec S16 32) (k0_hw283 : k0_chk283 v211), ∀ a x, ((![v211] : Fin 1 → IVec S16 32) a x).toNat < S38912.size a := fun v211 k0_hw283 => k0_hw283
def k0_off286 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v212 : Index := Scalar.indexCast arg9
  let c432 : Index := 432#32
  ![v212.toNat, 432]

def k0_chk284 (v213 : IVec S16 32) : Prop :=
  (∀ a x, ((![v213] : Fin 1 → IVec S16 32) a x).toNat < S38912.size a)
theorem k0_idx284_inb : ∀ (v213 : IVec S16 32) (k0_hw284 : k0_chk284 v213), ∀ a x, ((![v213] : Fin 1 → IVec S16 32) a x).toNat < S38912.size a := fun v213 k0_hw284 => k0_hw284
def k0_off287 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v214 : Index := Scalar.indexCast arg9
  let c448 : Index := 448#32
  ![v214.toNat, 448]

def k0_chk285 (v215 : IVec S16 32) : Prop :=
  (∀ a x, ((![v215] : Fin 1 → IVec S16 32) a x).toNat < S38912.size a)
theorem k0_idx285_inb : ∀ (v215 : IVec S16 32) (k0_hw285 : k0_chk285 v215), ∀ a x, ((![v215] : Fin 1 → IVec S16 32) a x).toNat < S38912.size a := fun v215 k0_hw285 => k0_hw285
def k0_off288 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v216 : Index := Scalar.indexCast arg9
  let c464 : Index := 464#32
  ![v216.toNat, 464]

def k0_chk286 (v217 : IVec S16 32) : Prop :=
  (∀ a x, ((![v217] : Fin 1 → IVec S16 32) a x).toNat < S38912.size a)
theorem k0_idx286_inb : ∀ (v217 : IVec S16 32) (k0_hw286 : k0_chk286 v217), ∀ a x, ((![v217] : Fin 1 → IVec S16 32) a x).toNat < S38912.size a := fun v217 k0_hw286 => k0_hw286
def k0_off289 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v218 : Index := Scalar.indexCast arg9
  let c480 : Index := 480#32
  ![v218.toNat, 480]

def k0_chk287 (v219 : IVec S16 32) : Prop :=
  (∀ a x, ((![v219] : Fin 1 → IVec S16 32) a x).toNat < S38912.size a)
theorem k0_idx287_inb : ∀ (v219 : IVec S16 32) (k0_hw287 : k0_chk287 v219), ∀ a x, ((![v219] : Fin 1 → IVec S16 32) a x).toNat < S38912.size a := fun v219 k0_hw287 => k0_hw287
def k0_off290 (k0_t10 : Fin k0_t10_loop.trips) : Fin 2 → Nat :=
  let c0_i32_92 : BitVec 32 := 0#32
  let c1_i32_94 : BitVec 32 := 1#32
  let arg9 : BitVec 32 := Scf.iv c0_i32_92 c1_i32_94 k0_t10
  let v220 : Index := Scalar.indexCast arg9
  let c496 : Index := 496#32
  ![v220.toNat, 496]

def k0_chk288 (v221 : IVec S16 32) : Prop :=
  (∀ a x, ((![v221] : Fin 1 → IVec S16 32) a x).toNat < S38912.size a)
theorem k0_idx288_inb : ∀ (v221 : IVec S16 32) (k0_hw288 : k0_chk288 v221), ∀ a x, ((![v221] : Fin 1 → IVec S16 32) a x).toNat < S38912.size a := fun v221 k0_hw288 => k0_hw288
@[reducible] def k0_t11_loop : Scf.Loop 32 :=
  let c0_i32_102 : BitVec 32 := 0#32
  let c64_i32_103 : BitVec 32 := 64#32
  let v87 : BitVec 32 := Scalar.addi c0_i32_102 c64_i32_103
  let c1_i32_104 : BitVec 32 := 1#32
  ⟨c0_i32_102, v87, c1_i32_104⟩
def k0_off291 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v158 : Index := Scalar.indexCast arg9
  let c0 : Index := 0#32
  ![v158.toNat, 0]

def k0_chk289 (v159 : IVec S16 32) : Prop :=
  (∀ a x, ((![v159] : Fin 1 → IVec S16 32) a x).toNat < S38912.size a)
theorem k0_idx289_inb : ∀ (v159 : IVec S16 32) (k0_hw289 : k0_chk289 v159), ∀ a x, ((![v159] : Fin 1 → IVec S16 32) a x).toNat < S38912.size a := fun v159 k0_hw289 => k0_hw289
def k0_off292 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v160 : Index := Scalar.indexCast arg9
  let c16 : Index := 16#32
  ![v160.toNat, 16]

def k0_chk290 (v161 : IVec S16 32) : Prop :=
  (∀ a x, ((![v161] : Fin 1 → IVec S16 32) a x).toNat < S38912.size a)
theorem k0_idx290_inb : ∀ (v161 : IVec S16 32) (k0_hw290 : k0_chk290 v161), ∀ a x, ((![v161] : Fin 1 → IVec S16 32) a x).toNat < S38912.size a := fun v161 k0_hw290 => k0_hw290
def k0_off293 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v162 : Index := Scalar.indexCast arg9
  let c32 : Index := 32#32
  ![v162.toNat, 32]

def k0_chk291 (v163 : IVec S16 32) : Prop :=
  (∀ a x, ((![v163] : Fin 1 → IVec S16 32) a x).toNat < S38912.size a)
theorem k0_idx291_inb : ∀ (v163 : IVec S16 32) (k0_hw291 : k0_chk291 v163), ∀ a x, ((![v163] : Fin 1 → IVec S16 32) a x).toNat < S38912.size a := fun v163 k0_hw291 => k0_hw291
def k0_off294 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v164 : Index := Scalar.indexCast arg9
  let c48 : Index := 48#32
  ![v164.toNat, 48]

def k0_chk292 (v165 : IVec S16 32) : Prop :=
  (∀ a x, ((![v165] : Fin 1 → IVec S16 32) a x).toNat < S38912.size a)
theorem k0_idx292_inb : ∀ (v165 : IVec S16 32) (k0_hw292 : k0_chk292 v165), ∀ a x, ((![v165] : Fin 1 → IVec S16 32) a x).toNat < S38912.size a := fun v165 k0_hw292 => k0_hw292
def k0_off295 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v166 : Index := Scalar.indexCast arg9
  let c64 : Index := 64#32
  ![v166.toNat, 64]

def k0_chk293 (v167 : IVec S16 32) : Prop :=
  (∀ a x, ((![v167] : Fin 1 → IVec S16 32) a x).toNat < S38912.size a)
theorem k0_idx293_inb : ∀ (v167 : IVec S16 32) (k0_hw293 : k0_chk293 v167), ∀ a x, ((![v167] : Fin 1 → IVec S16 32) a x).toNat < S38912.size a := fun v167 k0_hw293 => k0_hw293
def k0_off296 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v168 : Index := Scalar.indexCast arg9
  let c80 : Index := 80#32
  ![v168.toNat, 80]

def k0_chk294 (v169 : IVec S16 32) : Prop :=
  (∀ a x, ((![v169] : Fin 1 → IVec S16 32) a x).toNat < S38912.size a)
theorem k0_idx294_inb : ∀ (v169 : IVec S16 32) (k0_hw294 : k0_chk294 v169), ∀ a x, ((![v169] : Fin 1 → IVec S16 32) a x).toNat < S38912.size a := fun v169 k0_hw294 => k0_hw294
def k0_off297 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v170 : Index := Scalar.indexCast arg9
  let c96 : Index := 96#32
  ![v170.toNat, 96]

def k0_chk295 (v171 : IVec S16 32) : Prop :=
  (∀ a x, ((![v171] : Fin 1 → IVec S16 32) a x).toNat < S38912.size a)
theorem k0_idx295_inb : ∀ (v171 : IVec S16 32) (k0_hw295 : k0_chk295 v171), ∀ a x, ((![v171] : Fin 1 → IVec S16 32) a x).toNat < S38912.size a := fun v171 k0_hw295 => k0_hw295
def k0_off298 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v172 : Index := Scalar.indexCast arg9
  let c112 : Index := 112#32
  ![v172.toNat, 112]

def k0_chk296 (v173 : IVec S16 32) : Prop :=
  (∀ a x, ((![v173] : Fin 1 → IVec S16 32) a x).toNat < S38912.size a)
theorem k0_idx296_inb : ∀ (v173 : IVec S16 32) (k0_hw296 : k0_chk296 v173), ∀ a x, ((![v173] : Fin 1 → IVec S16 32) a x).toNat < S38912.size a := fun v173 k0_hw296 => k0_hw296
def k0_off299 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v174 : Index := Scalar.indexCast arg9
  let c128 : Index := 128#32
  ![v174.toNat, 128]

def k0_chk297 (v175 : IVec S16 32) : Prop :=
  (∀ a x, ((![v175] : Fin 1 → IVec S16 32) a x).toNat < S38912.size a)
theorem k0_idx297_inb : ∀ (v175 : IVec S16 32) (k0_hw297 : k0_chk297 v175), ∀ a x, ((![v175] : Fin 1 → IVec S16 32) a x).toNat < S38912.size a := fun v175 k0_hw297 => k0_hw297
def k0_off300 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v176 : Index := Scalar.indexCast arg9
  let c144 : Index := 144#32
  ![v176.toNat, 144]

def k0_chk298 (v177 : IVec S16 32) : Prop :=
  (∀ a x, ((![v177] : Fin 1 → IVec S16 32) a x).toNat < S38912.size a)
theorem k0_idx298_inb : ∀ (v177 : IVec S16 32) (k0_hw298 : k0_chk298 v177), ∀ a x, ((![v177] : Fin 1 → IVec S16 32) a x).toNat < S38912.size a := fun v177 k0_hw298 => k0_hw298
def k0_off301 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v178 : Index := Scalar.indexCast arg9
  let c160 : Index := 160#32
  ![v178.toNat, 160]

def k0_chk299 (v179 : IVec S16 32) : Prop :=
  (∀ a x, ((![v179] : Fin 1 → IVec S16 32) a x).toNat < S38912.size a)
theorem k0_idx299_inb : ∀ (v179 : IVec S16 32) (k0_hw299 : k0_chk299 v179), ∀ a x, ((![v179] : Fin 1 → IVec S16 32) a x).toNat < S38912.size a := fun v179 k0_hw299 => k0_hw299
def k0_off302 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v180 : Index := Scalar.indexCast arg9
  let c176 : Index := 176#32
  ![v180.toNat, 176]

def k0_chk300 (v181 : IVec S16 32) : Prop :=
  (∀ a x, ((![v181] : Fin 1 → IVec S16 32) a x).toNat < S38912.size a)
theorem k0_idx300_inb : ∀ (v181 : IVec S16 32) (k0_hw300 : k0_chk300 v181), ∀ a x, ((![v181] : Fin 1 → IVec S16 32) a x).toNat < S38912.size a := fun v181 k0_hw300 => k0_hw300
def k0_off303 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v182 : Index := Scalar.indexCast arg9
  let c192 : Index := 192#32
  ![v182.toNat, 192]

def k0_chk301 (v183 : IVec S16 32) : Prop :=
  (∀ a x, ((![v183] : Fin 1 → IVec S16 32) a x).toNat < S38912.size a)
theorem k0_idx301_inb : ∀ (v183 : IVec S16 32) (k0_hw301 : k0_chk301 v183), ∀ a x, ((![v183] : Fin 1 → IVec S16 32) a x).toNat < S38912.size a := fun v183 k0_hw301 => k0_hw301
def k0_off304 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v184 : Index := Scalar.indexCast arg9
  let c208 : Index := 208#32
  ![v184.toNat, 208]

def k0_chk302 (v185 : IVec S16 32) : Prop :=
  (∀ a x, ((![v185] : Fin 1 → IVec S16 32) a x).toNat < S38912.size a)
theorem k0_idx302_inb : ∀ (v185 : IVec S16 32) (k0_hw302 : k0_chk302 v185), ∀ a x, ((![v185] : Fin 1 → IVec S16 32) a x).toNat < S38912.size a := fun v185 k0_hw302 => k0_hw302
def k0_off305 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v186 : Index := Scalar.indexCast arg9
  let c224 : Index := 224#32
  ![v186.toNat, 224]

def k0_chk303 (v187 : IVec S16 32) : Prop :=
  (∀ a x, ((![v187] : Fin 1 → IVec S16 32) a x).toNat < S38912.size a)
theorem k0_idx303_inb : ∀ (v187 : IVec S16 32) (k0_hw303 : k0_chk303 v187), ∀ a x, ((![v187] : Fin 1 → IVec S16 32) a x).toNat < S38912.size a := fun v187 k0_hw303 => k0_hw303
def k0_off306 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v188 : Index := Scalar.indexCast arg9
  let c240 : Index := 240#32
  ![v188.toNat, 240]

def k0_chk304 (v189 : IVec S16 32) : Prop :=
  (∀ a x, ((![v189] : Fin 1 → IVec S16 32) a x).toNat < S38912.size a)
theorem k0_idx304_inb : ∀ (v189 : IVec S16 32) (k0_hw304 : k0_chk304 v189), ∀ a x, ((![v189] : Fin 1 → IVec S16 32) a x).toNat < S38912.size a := fun v189 k0_hw304 => k0_hw304
def k0_off307 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v190 : Index := Scalar.indexCast arg9
  let c256 : Index := 256#32
  ![v190.toNat, 256]

def k0_chk305 (v191 : IVec S16 32) : Prop :=
  (∀ a x, ((![v191] : Fin 1 → IVec S16 32) a x).toNat < S38912.size a)
theorem k0_idx305_inb : ∀ (v191 : IVec S16 32) (k0_hw305 : k0_chk305 v191), ∀ a x, ((![v191] : Fin 1 → IVec S16 32) a x).toNat < S38912.size a := fun v191 k0_hw305 => k0_hw305
def k0_off308 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v192 : Index := Scalar.indexCast arg9
  let c272 : Index := 272#32
  ![v192.toNat, 272]

def k0_chk306 (v193 : IVec S16 32) : Prop :=
  (∀ a x, ((![v193] : Fin 1 → IVec S16 32) a x).toNat < S38912.size a)
theorem k0_idx306_inb : ∀ (v193 : IVec S16 32) (k0_hw306 : k0_chk306 v193), ∀ a x, ((![v193] : Fin 1 → IVec S16 32) a x).toNat < S38912.size a := fun v193 k0_hw306 => k0_hw306
def k0_off309 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v194 : Index := Scalar.indexCast arg9
  let c288 : Index := 288#32
  ![v194.toNat, 288]

def k0_chk307 (v195 : IVec S16 32) : Prop :=
  (∀ a x, ((![v195] : Fin 1 → IVec S16 32) a x).toNat < S38912.size a)
theorem k0_idx307_inb : ∀ (v195 : IVec S16 32) (k0_hw307 : k0_chk307 v195), ∀ a x, ((![v195] : Fin 1 → IVec S16 32) a x).toNat < S38912.size a := fun v195 k0_hw307 => k0_hw307
def k0_off310 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v196 : Index := Scalar.indexCast arg9
  let c304 : Index := 304#32
  ![v196.toNat, 304]

def k0_chk308 (v197 : IVec S16 32) : Prop :=
  (∀ a x, ((![v197] : Fin 1 → IVec S16 32) a x).toNat < S38912.size a)
theorem k0_idx308_inb : ∀ (v197 : IVec S16 32) (k0_hw308 : k0_chk308 v197), ∀ a x, ((![v197] : Fin 1 → IVec S16 32) a x).toNat < S38912.size a := fun v197 k0_hw308 => k0_hw308
def k0_off311 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v198 : Index := Scalar.indexCast arg9
  let c320 : Index := 320#32
  ![v198.toNat, 320]

def k0_chk309 (v199 : IVec S16 32) : Prop :=
  (∀ a x, ((![v199] : Fin 1 → IVec S16 32) a x).toNat < S38912.size a)
theorem k0_idx309_inb : ∀ (v199 : IVec S16 32) (k0_hw309 : k0_chk309 v199), ∀ a x, ((![v199] : Fin 1 → IVec S16 32) a x).toNat < S38912.size a := fun v199 k0_hw309 => k0_hw309
def k0_off312 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v200 : Index := Scalar.indexCast arg9
  let c336 : Index := 336#32
  ![v200.toNat, 336]

def k0_chk310 (v201 : IVec S16 32) : Prop :=
  (∀ a x, ((![v201] : Fin 1 → IVec S16 32) a x).toNat < S38912.size a)
theorem k0_idx310_inb : ∀ (v201 : IVec S16 32) (k0_hw310 : k0_chk310 v201), ∀ a x, ((![v201] : Fin 1 → IVec S16 32) a x).toNat < S38912.size a := fun v201 k0_hw310 => k0_hw310
def k0_off313 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v202 : Index := Scalar.indexCast arg9
  let c352 : Index := 352#32
  ![v202.toNat, 352]

def k0_chk311 (v203 : IVec S16 32) : Prop :=
  (∀ a x, ((![v203] : Fin 1 → IVec S16 32) a x).toNat < S38912.size a)
theorem k0_idx311_inb : ∀ (v203 : IVec S16 32) (k0_hw311 : k0_chk311 v203), ∀ a x, ((![v203] : Fin 1 → IVec S16 32) a x).toNat < S38912.size a := fun v203 k0_hw311 => k0_hw311
def k0_off314 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v204 : Index := Scalar.indexCast arg9
  let c368 : Index := 368#32
  ![v204.toNat, 368]

def k0_chk312 (v205 : IVec S16 32) : Prop :=
  (∀ a x, ((![v205] : Fin 1 → IVec S16 32) a x).toNat < S38912.size a)
theorem k0_idx312_inb : ∀ (v205 : IVec S16 32) (k0_hw312 : k0_chk312 v205), ∀ a x, ((![v205] : Fin 1 → IVec S16 32) a x).toNat < S38912.size a := fun v205 k0_hw312 => k0_hw312
def k0_off315 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v206 : Index := Scalar.indexCast arg9
  let c384 : Index := 384#32
  ![v206.toNat, 384]

def k0_chk313 (v207 : IVec S16 32) : Prop :=
  (∀ a x, ((![v207] : Fin 1 → IVec S16 32) a x).toNat < S38912.size a)
theorem k0_idx313_inb : ∀ (v207 : IVec S16 32) (k0_hw313 : k0_chk313 v207), ∀ a x, ((![v207] : Fin 1 → IVec S16 32) a x).toNat < S38912.size a := fun v207 k0_hw313 => k0_hw313
def k0_off316 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v208 : Index := Scalar.indexCast arg9
  let c400 : Index := 400#32
  ![v208.toNat, 400]

def k0_chk314 (v209 : IVec S16 32) : Prop :=
  (∀ a x, ((![v209] : Fin 1 → IVec S16 32) a x).toNat < S38912.size a)
theorem k0_idx314_inb : ∀ (v209 : IVec S16 32) (k0_hw314 : k0_chk314 v209), ∀ a x, ((![v209] : Fin 1 → IVec S16 32) a x).toNat < S38912.size a := fun v209 k0_hw314 => k0_hw314
def k0_off317 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v210 : Index := Scalar.indexCast arg9
  let c416 : Index := 416#32
  ![v210.toNat, 416]

def k0_chk315 (v211 : IVec S16 32) : Prop :=
  (∀ a x, ((![v211] : Fin 1 → IVec S16 32) a x).toNat < S38912.size a)
theorem k0_idx315_inb : ∀ (v211 : IVec S16 32) (k0_hw315 : k0_chk315 v211), ∀ a x, ((![v211] : Fin 1 → IVec S16 32) a x).toNat < S38912.size a := fun v211 k0_hw315 => k0_hw315
def k0_off318 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v212 : Index := Scalar.indexCast arg9
  let c432 : Index := 432#32
  ![v212.toNat, 432]

def k0_chk316 (v213 : IVec S16 32) : Prop :=
  (∀ a x, ((![v213] : Fin 1 → IVec S16 32) a x).toNat < S38912.size a)
theorem k0_idx316_inb : ∀ (v213 : IVec S16 32) (k0_hw316 : k0_chk316 v213), ∀ a x, ((![v213] : Fin 1 → IVec S16 32) a x).toNat < S38912.size a := fun v213 k0_hw316 => k0_hw316
def k0_off319 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v214 : Index := Scalar.indexCast arg9
  let c448 : Index := 448#32
  ![v214.toNat, 448]

def k0_chk317 (v215 : IVec S16 32) : Prop :=
  (∀ a x, ((![v215] : Fin 1 → IVec S16 32) a x).toNat < S38912.size a)
theorem k0_idx317_inb : ∀ (v215 : IVec S16 32) (k0_hw317 : k0_chk317 v215), ∀ a x, ((![v215] : Fin 1 → IVec S16 32) a x).toNat < S38912.size a := fun v215 k0_hw317 => k0_hw317
def k0_off320 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v216 : Index := Scalar.indexCast arg9
  let c464 : Index := 464#32
  ![v216.toNat, 464]

def k0_chk318 (v217 : IVec S16 32) : Prop :=
  (∀ a x, ((![v217] : Fin 1 → IVec S16 32) a x).toNat < S38912.size a)
theorem k0_idx318_inb : ∀ (v217 : IVec S16 32) (k0_hw318 : k0_chk318 v217), ∀ a x, ((![v217] : Fin 1 → IVec S16 32) a x).toNat < S38912.size a := fun v217 k0_hw318 => k0_hw318
def k0_off321 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v218 : Index := Scalar.indexCast arg9
  let c480 : Index := 480#32
  ![v218.toNat, 480]

def k0_chk319 (v219 : IVec S16 32) : Prop :=
  (∀ a x, ((![v219] : Fin 1 → IVec S16 32) a x).toNat < S38912.size a)
theorem k0_idx319_inb : ∀ (v219 : IVec S16 32) (k0_hw319 : k0_chk319 v219), ∀ a x, ((![v219] : Fin 1 → IVec S16 32) a x).toNat < S38912.size a := fun v219 k0_hw319 => k0_hw319
def k0_off322 (k0_t11 : Fin k0_t11_loop.trips) : Fin 2 → Nat :=
  let c0_i32_102 : BitVec 32 := 0#32
  let c1_i32_104 : BitVec 32 := 1#32
  let arg9 : BitVec 32 := Scf.iv c0_i32_102 c1_i32_104 k0_t11
  let v220 : Index := Scalar.indexCast arg9
  let c496 : Index := 496#32
  ![v220.toNat, 496]

def k0_chk320 (v221 : IVec S16 32) : Prop :=
  (∀ a x, ((![v221] : Fin 1 → IVec S16 32) a x).toNat < S38912.size a)
theorem k0_idx320_inb : ∀ (v221 : IVec S16 32) (k0_hw320 : k0_chk320 v221), ∀ a x, ((![v221] : Fin 1 → IVec S16 32) a x).toNat < S38912.size a := fun v221 k0_hw320 => k0_hw320
@[reducible] def k0_t12_loop : Scf.Loop 32 :=
  let c0_i32_112 : BitVec 32 := 0#32
  let c64_i32_113 : BitVec 32 := 64#32
  let v95 : BitVec 32 := Scalar.addi c0_i32_112 c64_i32_113
  let c1_i32_114 : BitVec 32 := 1#32
  ⟨c0_i32_112, v95, c1_i32_114⟩
def k0_off323 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v158 : Index := Scalar.indexCast arg9
  let c0 : Index := 0#32
  ![v158.toNat, 0]

def k0_chk321 (v159 : IVec S16 32) : Prop :=
  (∀ a x, ((![v159] : Fin 1 → IVec S16 32) a x).toNat < S38912.size a)
theorem k0_idx321_inb : ∀ (v159 : IVec S16 32) (k0_hw321 : k0_chk321 v159), ∀ a x, ((![v159] : Fin 1 → IVec S16 32) a x).toNat < S38912.size a := fun v159 k0_hw321 => k0_hw321
def k0_off324 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v160 : Index := Scalar.indexCast arg9
  let c16 : Index := 16#32
  ![v160.toNat, 16]

def k0_chk322 (v161 : IVec S16 32) : Prop :=
  (∀ a x, ((![v161] : Fin 1 → IVec S16 32) a x).toNat < S38912.size a)
theorem k0_idx322_inb : ∀ (v161 : IVec S16 32) (k0_hw322 : k0_chk322 v161), ∀ a x, ((![v161] : Fin 1 → IVec S16 32) a x).toNat < S38912.size a := fun v161 k0_hw322 => k0_hw322
def k0_off325 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v162 : Index := Scalar.indexCast arg9
  let c32 : Index := 32#32
  ![v162.toNat, 32]

def k0_chk323 (v163 : IVec S16 32) : Prop :=
  (∀ a x, ((![v163] : Fin 1 → IVec S16 32) a x).toNat < S38912.size a)
theorem k0_idx323_inb : ∀ (v163 : IVec S16 32) (k0_hw323 : k0_chk323 v163), ∀ a x, ((![v163] : Fin 1 → IVec S16 32) a x).toNat < S38912.size a := fun v163 k0_hw323 => k0_hw323
def k0_off326 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v164 : Index := Scalar.indexCast arg9
  let c48 : Index := 48#32
  ![v164.toNat, 48]

def k0_chk324 (v165 : IVec S16 32) : Prop :=
  (∀ a x, ((![v165] : Fin 1 → IVec S16 32) a x).toNat < S38912.size a)
theorem k0_idx324_inb : ∀ (v165 : IVec S16 32) (k0_hw324 : k0_chk324 v165), ∀ a x, ((![v165] : Fin 1 → IVec S16 32) a x).toNat < S38912.size a := fun v165 k0_hw324 => k0_hw324
def k0_off327 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v166 : Index := Scalar.indexCast arg9
  let c64 : Index := 64#32
  ![v166.toNat, 64]

def k0_chk325 (v167 : IVec S16 32) : Prop :=
  (∀ a x, ((![v167] : Fin 1 → IVec S16 32) a x).toNat < S38912.size a)
theorem k0_idx325_inb : ∀ (v167 : IVec S16 32) (k0_hw325 : k0_chk325 v167), ∀ a x, ((![v167] : Fin 1 → IVec S16 32) a x).toNat < S38912.size a := fun v167 k0_hw325 => k0_hw325
def k0_off328 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v168 : Index := Scalar.indexCast arg9
  let c80 : Index := 80#32
  ![v168.toNat, 80]

def k0_chk326 (v169 : IVec S16 32) : Prop :=
  (∀ a x, ((![v169] : Fin 1 → IVec S16 32) a x).toNat < S38912.size a)
theorem k0_idx326_inb : ∀ (v169 : IVec S16 32) (k0_hw326 : k0_chk326 v169), ∀ a x, ((![v169] : Fin 1 → IVec S16 32) a x).toNat < S38912.size a := fun v169 k0_hw326 => k0_hw326
def k0_off329 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v170 : Index := Scalar.indexCast arg9
  let c96 : Index := 96#32
  ![v170.toNat, 96]

def k0_chk327 (v171 : IVec S16 32) : Prop :=
  (∀ a x, ((![v171] : Fin 1 → IVec S16 32) a x).toNat < S38912.size a)
theorem k0_idx327_inb : ∀ (v171 : IVec S16 32) (k0_hw327 : k0_chk327 v171), ∀ a x, ((![v171] : Fin 1 → IVec S16 32) a x).toNat < S38912.size a := fun v171 k0_hw327 => k0_hw327
def k0_off330 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v172 : Index := Scalar.indexCast arg9
  let c112 : Index := 112#32
  ![v172.toNat, 112]

def k0_chk328 (v173 : IVec S16 32) : Prop :=
  (∀ a x, ((![v173] : Fin 1 → IVec S16 32) a x).toNat < S38912.size a)
theorem k0_idx328_inb : ∀ (v173 : IVec S16 32) (k0_hw328 : k0_chk328 v173), ∀ a x, ((![v173] : Fin 1 → IVec S16 32) a x).toNat < S38912.size a := fun v173 k0_hw328 => k0_hw328
def k0_off331 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v174 : Index := Scalar.indexCast arg9
  let c128 : Index := 128#32
  ![v174.toNat, 128]

def k0_chk329 (v175 : IVec S16 32) : Prop :=
  (∀ a x, ((![v175] : Fin 1 → IVec S16 32) a x).toNat < S38912.size a)
theorem k0_idx329_inb : ∀ (v175 : IVec S16 32) (k0_hw329 : k0_chk329 v175), ∀ a x, ((![v175] : Fin 1 → IVec S16 32) a x).toNat < S38912.size a := fun v175 k0_hw329 => k0_hw329
def k0_off332 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v176 : Index := Scalar.indexCast arg9
  let c144 : Index := 144#32
  ![v176.toNat, 144]

def k0_chk330 (v177 : IVec S16 32) : Prop :=
  (∀ a x, ((![v177] : Fin 1 → IVec S16 32) a x).toNat < S38912.size a)
theorem k0_idx330_inb : ∀ (v177 : IVec S16 32) (k0_hw330 : k0_chk330 v177), ∀ a x, ((![v177] : Fin 1 → IVec S16 32) a x).toNat < S38912.size a := fun v177 k0_hw330 => k0_hw330
def k0_off333 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v178 : Index := Scalar.indexCast arg9
  let c160 : Index := 160#32
  ![v178.toNat, 160]

def k0_chk331 (v179 : IVec S16 32) : Prop :=
  (∀ a x, ((![v179] : Fin 1 → IVec S16 32) a x).toNat < S38912.size a)
theorem k0_idx331_inb : ∀ (v179 : IVec S16 32) (k0_hw331 : k0_chk331 v179), ∀ a x, ((![v179] : Fin 1 → IVec S16 32) a x).toNat < S38912.size a := fun v179 k0_hw331 => k0_hw331
def k0_off334 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v180 : Index := Scalar.indexCast arg9
  let c176 : Index := 176#32
  ![v180.toNat, 176]

def k0_chk332 (v181 : IVec S16 32) : Prop :=
  (∀ a x, ((![v181] : Fin 1 → IVec S16 32) a x).toNat < S38912.size a)
theorem k0_idx332_inb : ∀ (v181 : IVec S16 32) (k0_hw332 : k0_chk332 v181), ∀ a x, ((![v181] : Fin 1 → IVec S16 32) a x).toNat < S38912.size a := fun v181 k0_hw332 => k0_hw332
def k0_off335 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v182 : Index := Scalar.indexCast arg9
  let c192 : Index := 192#32
  ![v182.toNat, 192]

def k0_chk333 (v183 : IVec S16 32) : Prop :=
  (∀ a x, ((![v183] : Fin 1 → IVec S16 32) a x).toNat < S38912.size a)
theorem k0_idx333_inb : ∀ (v183 : IVec S16 32) (k0_hw333 : k0_chk333 v183), ∀ a x, ((![v183] : Fin 1 → IVec S16 32) a x).toNat < S38912.size a := fun v183 k0_hw333 => k0_hw333
def k0_off336 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v184 : Index := Scalar.indexCast arg9
  let c208 : Index := 208#32
  ![v184.toNat, 208]

def k0_chk334 (v185 : IVec S16 32) : Prop :=
  (∀ a x, ((![v185] : Fin 1 → IVec S16 32) a x).toNat < S38912.size a)
theorem k0_idx334_inb : ∀ (v185 : IVec S16 32) (k0_hw334 : k0_chk334 v185), ∀ a x, ((![v185] : Fin 1 → IVec S16 32) a x).toNat < S38912.size a := fun v185 k0_hw334 => k0_hw334
def k0_off337 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v186 : Index := Scalar.indexCast arg9
  let c224 : Index := 224#32
  ![v186.toNat, 224]

def k0_chk335 (v187 : IVec S16 32) : Prop :=
  (∀ a x, ((![v187] : Fin 1 → IVec S16 32) a x).toNat < S38912.size a)
theorem k0_idx335_inb : ∀ (v187 : IVec S16 32) (k0_hw335 : k0_chk335 v187), ∀ a x, ((![v187] : Fin 1 → IVec S16 32) a x).toNat < S38912.size a := fun v187 k0_hw335 => k0_hw335
def k0_off338 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v188 : Index := Scalar.indexCast arg9
  let c240 : Index := 240#32
  ![v188.toNat, 240]

def k0_chk336 (v189 : IVec S16 32) : Prop :=
  (∀ a x, ((![v189] : Fin 1 → IVec S16 32) a x).toNat < S38912.size a)
theorem k0_idx336_inb : ∀ (v189 : IVec S16 32) (k0_hw336 : k0_chk336 v189), ∀ a x, ((![v189] : Fin 1 → IVec S16 32) a x).toNat < S38912.size a := fun v189 k0_hw336 => k0_hw336
def k0_off339 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v190 : Index := Scalar.indexCast arg9
  let c256 : Index := 256#32
  ![v190.toNat, 256]

def k0_chk337 (v191 : IVec S16 32) : Prop :=
  (∀ a x, ((![v191] : Fin 1 → IVec S16 32) a x).toNat < S38912.size a)
theorem k0_idx337_inb : ∀ (v191 : IVec S16 32) (k0_hw337 : k0_chk337 v191), ∀ a x, ((![v191] : Fin 1 → IVec S16 32) a x).toNat < S38912.size a := fun v191 k0_hw337 => k0_hw337
def k0_off340 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v192 : Index := Scalar.indexCast arg9
  let c272 : Index := 272#32
  ![v192.toNat, 272]

def k0_chk338 (v193 : IVec S16 32) : Prop :=
  (∀ a x, ((![v193] : Fin 1 → IVec S16 32) a x).toNat < S38912.size a)
theorem k0_idx338_inb : ∀ (v193 : IVec S16 32) (k0_hw338 : k0_chk338 v193), ∀ a x, ((![v193] : Fin 1 → IVec S16 32) a x).toNat < S38912.size a := fun v193 k0_hw338 => k0_hw338
def k0_off341 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v194 : Index := Scalar.indexCast arg9
  let c288 : Index := 288#32
  ![v194.toNat, 288]

def k0_chk339 (v195 : IVec S16 32) : Prop :=
  (∀ a x, ((![v195] : Fin 1 → IVec S16 32) a x).toNat < S38912.size a)
theorem k0_idx339_inb : ∀ (v195 : IVec S16 32) (k0_hw339 : k0_chk339 v195), ∀ a x, ((![v195] : Fin 1 → IVec S16 32) a x).toNat < S38912.size a := fun v195 k0_hw339 => k0_hw339
def k0_off342 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v196 : Index := Scalar.indexCast arg9
  let c304 : Index := 304#32
  ![v196.toNat, 304]

def k0_chk340 (v197 : IVec S16 32) : Prop :=
  (∀ a x, ((![v197] : Fin 1 → IVec S16 32) a x).toNat < S38912.size a)
theorem k0_idx340_inb : ∀ (v197 : IVec S16 32) (k0_hw340 : k0_chk340 v197), ∀ a x, ((![v197] : Fin 1 → IVec S16 32) a x).toNat < S38912.size a := fun v197 k0_hw340 => k0_hw340
def k0_off343 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v198 : Index := Scalar.indexCast arg9
  let c320 : Index := 320#32
  ![v198.toNat, 320]

def k0_chk341 (v199 : IVec S16 32) : Prop :=
  (∀ a x, ((![v199] : Fin 1 → IVec S16 32) a x).toNat < S38912.size a)
theorem k0_idx341_inb : ∀ (v199 : IVec S16 32) (k0_hw341 : k0_chk341 v199), ∀ a x, ((![v199] : Fin 1 → IVec S16 32) a x).toNat < S38912.size a := fun v199 k0_hw341 => k0_hw341
def k0_off344 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v200 : Index := Scalar.indexCast arg9
  let c336 : Index := 336#32
  ![v200.toNat, 336]

def k0_chk342 (v201 : IVec S16 32) : Prop :=
  (∀ a x, ((![v201] : Fin 1 → IVec S16 32) a x).toNat < S38912.size a)
theorem k0_idx342_inb : ∀ (v201 : IVec S16 32) (k0_hw342 : k0_chk342 v201), ∀ a x, ((![v201] : Fin 1 → IVec S16 32) a x).toNat < S38912.size a := fun v201 k0_hw342 => k0_hw342
def k0_off345 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v202 : Index := Scalar.indexCast arg9
  let c352 : Index := 352#32
  ![v202.toNat, 352]

def k0_chk343 (v203 : IVec S16 32) : Prop :=
  (∀ a x, ((![v203] : Fin 1 → IVec S16 32) a x).toNat < S38912.size a)
theorem k0_idx343_inb : ∀ (v203 : IVec S16 32) (k0_hw343 : k0_chk343 v203), ∀ a x, ((![v203] : Fin 1 → IVec S16 32) a x).toNat < S38912.size a := fun v203 k0_hw343 => k0_hw343
def k0_off346 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v204 : Index := Scalar.indexCast arg9
  let c368 : Index := 368#32
  ![v204.toNat, 368]

def k0_chk344 (v205 : IVec S16 32) : Prop :=
  (∀ a x, ((![v205] : Fin 1 → IVec S16 32) a x).toNat < S38912.size a)
theorem k0_idx344_inb : ∀ (v205 : IVec S16 32) (k0_hw344 : k0_chk344 v205), ∀ a x, ((![v205] : Fin 1 → IVec S16 32) a x).toNat < S38912.size a := fun v205 k0_hw344 => k0_hw344
def k0_off347 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v206 : Index := Scalar.indexCast arg9
  let c384 : Index := 384#32
  ![v206.toNat, 384]

def k0_chk345 (v207 : IVec S16 32) : Prop :=
  (∀ a x, ((![v207] : Fin 1 → IVec S16 32) a x).toNat < S38912.size a)
theorem k0_idx345_inb : ∀ (v207 : IVec S16 32) (k0_hw345 : k0_chk345 v207), ∀ a x, ((![v207] : Fin 1 → IVec S16 32) a x).toNat < S38912.size a := fun v207 k0_hw345 => k0_hw345
def k0_off348 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v208 : Index := Scalar.indexCast arg9
  let c400 : Index := 400#32
  ![v208.toNat, 400]

def k0_chk346 (v209 : IVec S16 32) : Prop :=
  (∀ a x, ((![v209] : Fin 1 → IVec S16 32) a x).toNat < S38912.size a)
theorem k0_idx346_inb : ∀ (v209 : IVec S16 32) (k0_hw346 : k0_chk346 v209), ∀ a x, ((![v209] : Fin 1 → IVec S16 32) a x).toNat < S38912.size a := fun v209 k0_hw346 => k0_hw346
def k0_off349 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v210 : Index := Scalar.indexCast arg9
  let c416 : Index := 416#32
  ![v210.toNat, 416]

def k0_chk347 (v211 : IVec S16 32) : Prop :=
  (∀ a x, ((![v211] : Fin 1 → IVec S16 32) a x).toNat < S38912.size a)
theorem k0_idx347_inb : ∀ (v211 : IVec S16 32) (k0_hw347 : k0_chk347 v211), ∀ a x, ((![v211] : Fin 1 → IVec S16 32) a x).toNat < S38912.size a := fun v211 k0_hw347 => k0_hw347
def k0_off350 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v212 : Index := Scalar.indexCast arg9
  let c432 : Index := 432#32
  ![v212.toNat, 432]

def k0_chk348 (v213 : IVec S16 32) : Prop :=
  (∀ a x, ((![v213] : Fin 1 → IVec S16 32) a x).toNat < S38912.size a)
theorem k0_idx348_inb : ∀ (v213 : IVec S16 32) (k0_hw348 : k0_chk348 v213), ∀ a x, ((![v213] : Fin 1 → IVec S16 32) a x).toNat < S38912.size a := fun v213 k0_hw348 => k0_hw348
def k0_off351 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v214 : Index := Scalar.indexCast arg9
  let c448 : Index := 448#32
  ![v214.toNat, 448]

def k0_chk349 (v215 : IVec S16 32) : Prop :=
  (∀ a x, ((![v215] : Fin 1 → IVec S16 32) a x).toNat < S38912.size a)
theorem k0_idx349_inb : ∀ (v215 : IVec S16 32) (k0_hw349 : k0_chk349 v215), ∀ a x, ((![v215] : Fin 1 → IVec S16 32) a x).toNat < S38912.size a := fun v215 k0_hw349 => k0_hw349
def k0_off352 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v216 : Index := Scalar.indexCast arg9
  let c464 : Index := 464#32
  ![v216.toNat, 464]

def k0_chk350 (v217 : IVec S16 32) : Prop :=
  (∀ a x, ((![v217] : Fin 1 → IVec S16 32) a x).toNat < S38912.size a)
theorem k0_idx350_inb : ∀ (v217 : IVec S16 32) (k0_hw350 : k0_chk350 v217), ∀ a x, ((![v217] : Fin 1 → IVec S16 32) a x).toNat < S38912.size a := fun v217 k0_hw350 => k0_hw350
def k0_off353 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v218 : Index := Scalar.indexCast arg9
  let c480 : Index := 480#32
  ![v218.toNat, 480]

def k0_chk351 (v219 : IVec S16 32) : Prop :=
  (∀ a x, ((![v219] : Fin 1 → IVec S16 32) a x).toNat < S38912.size a)
theorem k0_idx351_inb : ∀ (v219 : IVec S16 32) (k0_hw351 : k0_chk351 v219), ∀ a x, ((![v219] : Fin 1 → IVec S16 32) a x).toNat < S38912.size a := fun v219 k0_hw351 => k0_hw351
def k0_off354 (k0_t12 : Fin k0_t12_loop.trips) : Fin 2 → Nat :=
  let c0_i32_112 : BitVec 32 := 0#32
  let c1_i32_114 : BitVec 32 := 1#32
  let arg9 : BitVec 32 := Scf.iv c0_i32_112 c1_i32_114 k0_t12
  let v220 : Index := Scalar.indexCast arg9
  let c496 : Index := 496#32
  ![v220.toNat, 496]

def k0_chk352 (v221 : IVec S16 32) : Prop :=
  (∀ a x, ((![v221] : Fin 1 → IVec S16 32) a x).toNat < S38912.size a)
theorem k0_idx352_inb : ∀ (v221 : IVec S16 32) (k0_hw352 : k0_chk352 v221), ∀ a x, ((![v221] : Fin 1 → IVec S16 32) a x).toNat < S38912.size a := fun v221 k0_hw352 => k0_hw352
@[reducible] def k0_t13_loop : Scf.Loop 32 :=
  let c0_i32_122 : BitVec 32 := 0#32
  let c64_i32_123 : BitVec 32 := 64#32
  let v103 : BitVec 32 := Scalar.addi c0_i32_122 c64_i32_123
  let c1_i32_124 : BitVec 32 := 1#32
  ⟨c0_i32_122, v103, c1_i32_124⟩
def k0_off355 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v158 : Index := Scalar.indexCast arg9
  let c0 : Index := 0#32
  ![v158.toNat, 0]

def k0_chk353 (v159 : IVec S16 32) : Prop :=
  (∀ a x, ((![v159] : Fin 1 → IVec S16 32) a x).toNat < S38912.size a)
theorem k0_idx353_inb : ∀ (v159 : IVec S16 32) (k0_hw353 : k0_chk353 v159), ∀ a x, ((![v159] : Fin 1 → IVec S16 32) a x).toNat < S38912.size a := fun v159 k0_hw353 => k0_hw353
def k0_off356 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v160 : Index := Scalar.indexCast arg9
  let c16 : Index := 16#32
  ![v160.toNat, 16]

def k0_chk354 (v161 : IVec S16 32) : Prop :=
  (∀ a x, ((![v161] : Fin 1 → IVec S16 32) a x).toNat < S38912.size a)
theorem k0_idx354_inb : ∀ (v161 : IVec S16 32) (k0_hw354 : k0_chk354 v161), ∀ a x, ((![v161] : Fin 1 → IVec S16 32) a x).toNat < S38912.size a := fun v161 k0_hw354 => k0_hw354
def k0_off357 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v162 : Index := Scalar.indexCast arg9
  let c32 : Index := 32#32
  ![v162.toNat, 32]

def k0_chk355 (v163 : IVec S16 32) : Prop :=
  (∀ a x, ((![v163] : Fin 1 → IVec S16 32) a x).toNat < S38912.size a)
theorem k0_idx355_inb : ∀ (v163 : IVec S16 32) (k0_hw355 : k0_chk355 v163), ∀ a x, ((![v163] : Fin 1 → IVec S16 32) a x).toNat < S38912.size a := fun v163 k0_hw355 => k0_hw355
def k0_off358 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v164 : Index := Scalar.indexCast arg9
  let c48 : Index := 48#32
  ![v164.toNat, 48]

def k0_chk356 (v165 : IVec S16 32) : Prop :=
  (∀ a x, ((![v165] : Fin 1 → IVec S16 32) a x).toNat < S38912.size a)
theorem k0_idx356_inb : ∀ (v165 : IVec S16 32) (k0_hw356 : k0_chk356 v165), ∀ a x, ((![v165] : Fin 1 → IVec S16 32) a x).toNat < S38912.size a := fun v165 k0_hw356 => k0_hw356
def k0_off359 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v166 : Index := Scalar.indexCast arg9
  let c64 : Index := 64#32
  ![v166.toNat, 64]

def k0_chk357 (v167 : IVec S16 32) : Prop :=
  (∀ a x, ((![v167] : Fin 1 → IVec S16 32) a x).toNat < S38912.size a)
theorem k0_idx357_inb : ∀ (v167 : IVec S16 32) (k0_hw357 : k0_chk357 v167), ∀ a x, ((![v167] : Fin 1 → IVec S16 32) a x).toNat < S38912.size a := fun v167 k0_hw357 => k0_hw357
def k0_off360 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v168 : Index := Scalar.indexCast arg9
  let c80 : Index := 80#32
  ![v168.toNat, 80]

def k0_chk358 (v169 : IVec S16 32) : Prop :=
  (∀ a x, ((![v169] : Fin 1 → IVec S16 32) a x).toNat < S38912.size a)
theorem k0_idx358_inb : ∀ (v169 : IVec S16 32) (k0_hw358 : k0_chk358 v169), ∀ a x, ((![v169] : Fin 1 → IVec S16 32) a x).toNat < S38912.size a := fun v169 k0_hw358 => k0_hw358
def k0_off361 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v170 : Index := Scalar.indexCast arg9
  let c96 : Index := 96#32
  ![v170.toNat, 96]

def k0_chk359 (v171 : IVec S16 32) : Prop :=
  (∀ a x, ((![v171] : Fin 1 → IVec S16 32) a x).toNat < S38912.size a)
theorem k0_idx359_inb : ∀ (v171 : IVec S16 32) (k0_hw359 : k0_chk359 v171), ∀ a x, ((![v171] : Fin 1 → IVec S16 32) a x).toNat < S38912.size a := fun v171 k0_hw359 => k0_hw359
def k0_off362 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v172 : Index := Scalar.indexCast arg9
  let c112 : Index := 112#32
  ![v172.toNat, 112]

def k0_chk360 (v173 : IVec S16 32) : Prop :=
  (∀ a x, ((![v173] : Fin 1 → IVec S16 32) a x).toNat < S38912.size a)
theorem k0_idx360_inb : ∀ (v173 : IVec S16 32) (k0_hw360 : k0_chk360 v173), ∀ a x, ((![v173] : Fin 1 → IVec S16 32) a x).toNat < S38912.size a := fun v173 k0_hw360 => k0_hw360
def k0_off363 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v174 : Index := Scalar.indexCast arg9
  let c128 : Index := 128#32
  ![v174.toNat, 128]

def k0_chk361 (v175 : IVec S16 32) : Prop :=
  (∀ a x, ((![v175] : Fin 1 → IVec S16 32) a x).toNat < S38912.size a)
theorem k0_idx361_inb : ∀ (v175 : IVec S16 32) (k0_hw361 : k0_chk361 v175), ∀ a x, ((![v175] : Fin 1 → IVec S16 32) a x).toNat < S38912.size a := fun v175 k0_hw361 => k0_hw361
def k0_off364 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v176 : Index := Scalar.indexCast arg9
  let c144 : Index := 144#32
  ![v176.toNat, 144]

def k0_chk362 (v177 : IVec S16 32) : Prop :=
  (∀ a x, ((![v177] : Fin 1 → IVec S16 32) a x).toNat < S38912.size a)
theorem k0_idx362_inb : ∀ (v177 : IVec S16 32) (k0_hw362 : k0_chk362 v177), ∀ a x, ((![v177] : Fin 1 → IVec S16 32) a x).toNat < S38912.size a := fun v177 k0_hw362 => k0_hw362
def k0_off365 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v178 : Index := Scalar.indexCast arg9
  let c160 : Index := 160#32
  ![v178.toNat, 160]

def k0_chk363 (v179 : IVec S16 32) : Prop :=
  (∀ a x, ((![v179] : Fin 1 → IVec S16 32) a x).toNat < S38912.size a)
theorem k0_idx363_inb : ∀ (v179 : IVec S16 32) (k0_hw363 : k0_chk363 v179), ∀ a x, ((![v179] : Fin 1 → IVec S16 32) a x).toNat < S38912.size a := fun v179 k0_hw363 => k0_hw363
def k0_off366 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v180 : Index := Scalar.indexCast arg9
  let c176 : Index := 176#32
  ![v180.toNat, 176]

def k0_chk364 (v181 : IVec S16 32) : Prop :=
  (∀ a x, ((![v181] : Fin 1 → IVec S16 32) a x).toNat < S38912.size a)
theorem k0_idx364_inb : ∀ (v181 : IVec S16 32) (k0_hw364 : k0_chk364 v181), ∀ a x, ((![v181] : Fin 1 → IVec S16 32) a x).toNat < S38912.size a := fun v181 k0_hw364 => k0_hw364
def k0_off367 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v182 : Index := Scalar.indexCast arg9
  let c192 : Index := 192#32
  ![v182.toNat, 192]

def k0_chk365 (v183 : IVec S16 32) : Prop :=
  (∀ a x, ((![v183] : Fin 1 → IVec S16 32) a x).toNat < S38912.size a)
theorem k0_idx365_inb : ∀ (v183 : IVec S16 32) (k0_hw365 : k0_chk365 v183), ∀ a x, ((![v183] : Fin 1 → IVec S16 32) a x).toNat < S38912.size a := fun v183 k0_hw365 => k0_hw365
def k0_off368 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v184 : Index := Scalar.indexCast arg9
  let c208 : Index := 208#32
  ![v184.toNat, 208]

def k0_chk366 (v185 : IVec S16 32) : Prop :=
  (∀ a x, ((![v185] : Fin 1 → IVec S16 32) a x).toNat < S38912.size a)
theorem k0_idx366_inb : ∀ (v185 : IVec S16 32) (k0_hw366 : k0_chk366 v185), ∀ a x, ((![v185] : Fin 1 → IVec S16 32) a x).toNat < S38912.size a := fun v185 k0_hw366 => k0_hw366
def k0_off369 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v186 : Index := Scalar.indexCast arg9
  let c224 : Index := 224#32
  ![v186.toNat, 224]

def k0_chk367 (v187 : IVec S16 32) : Prop :=
  (∀ a x, ((![v187] : Fin 1 → IVec S16 32) a x).toNat < S38912.size a)
theorem k0_idx367_inb : ∀ (v187 : IVec S16 32) (k0_hw367 : k0_chk367 v187), ∀ a x, ((![v187] : Fin 1 → IVec S16 32) a x).toNat < S38912.size a := fun v187 k0_hw367 => k0_hw367
def k0_off370 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v188 : Index := Scalar.indexCast arg9
  let c240 : Index := 240#32
  ![v188.toNat, 240]

def k0_chk368 (v189 : IVec S16 32) : Prop :=
  (∀ a x, ((![v189] : Fin 1 → IVec S16 32) a x).toNat < S38912.size a)
theorem k0_idx368_inb : ∀ (v189 : IVec S16 32) (k0_hw368 : k0_chk368 v189), ∀ a x, ((![v189] : Fin 1 → IVec S16 32) a x).toNat < S38912.size a := fun v189 k0_hw368 => k0_hw368
def k0_off371 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v190 : Index := Scalar.indexCast arg9
  let c256 : Index := 256#32
  ![v190.toNat, 256]

def k0_chk369 (v191 : IVec S16 32) : Prop :=
  (∀ a x, ((![v191] : Fin 1 → IVec S16 32) a x).toNat < S38912.size a)
theorem k0_idx369_inb : ∀ (v191 : IVec S16 32) (k0_hw369 : k0_chk369 v191), ∀ a x, ((![v191] : Fin 1 → IVec S16 32) a x).toNat < S38912.size a := fun v191 k0_hw369 => k0_hw369
def k0_off372 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v192 : Index := Scalar.indexCast arg9
  let c272 : Index := 272#32
  ![v192.toNat, 272]

def k0_chk370 (v193 : IVec S16 32) : Prop :=
  (∀ a x, ((![v193] : Fin 1 → IVec S16 32) a x).toNat < S38912.size a)
theorem k0_idx370_inb : ∀ (v193 : IVec S16 32) (k0_hw370 : k0_chk370 v193), ∀ a x, ((![v193] : Fin 1 → IVec S16 32) a x).toNat < S38912.size a := fun v193 k0_hw370 => k0_hw370
def k0_off373 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v194 : Index := Scalar.indexCast arg9
  let c288 : Index := 288#32
  ![v194.toNat, 288]

def k0_chk371 (v195 : IVec S16 32) : Prop :=
  (∀ a x, ((![v195] : Fin 1 → IVec S16 32) a x).toNat < S38912.size a)
theorem k0_idx371_inb : ∀ (v195 : IVec S16 32) (k0_hw371 : k0_chk371 v195), ∀ a x, ((![v195] : Fin 1 → IVec S16 32) a x).toNat < S38912.size a := fun v195 k0_hw371 => k0_hw371
def k0_off374 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v196 : Index := Scalar.indexCast arg9
  let c304 : Index := 304#32
  ![v196.toNat, 304]

def k0_chk372 (v197 : IVec S16 32) : Prop :=
  (∀ a x, ((![v197] : Fin 1 → IVec S16 32) a x).toNat < S38912.size a)
theorem k0_idx372_inb : ∀ (v197 : IVec S16 32) (k0_hw372 : k0_chk372 v197), ∀ a x, ((![v197] : Fin 1 → IVec S16 32) a x).toNat < S38912.size a := fun v197 k0_hw372 => k0_hw372
def k0_off375 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v198 : Index := Scalar.indexCast arg9
  let c320 : Index := 320#32
  ![v198.toNat, 320]

def k0_chk373 (v199 : IVec S16 32) : Prop :=
  (∀ a x, ((![v199] : Fin 1 → IVec S16 32) a x).toNat < S38912.size a)
theorem k0_idx373_inb : ∀ (v199 : IVec S16 32) (k0_hw373 : k0_chk373 v199), ∀ a x, ((![v199] : Fin 1 → IVec S16 32) a x).toNat < S38912.size a := fun v199 k0_hw373 => k0_hw373
def k0_off376 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v200 : Index := Scalar.indexCast arg9
  let c336 : Index := 336#32
  ![v200.toNat, 336]

def k0_chk374 (v201 : IVec S16 32) : Prop :=
  (∀ a x, ((![v201] : Fin 1 → IVec S16 32) a x).toNat < S38912.size a)
theorem k0_idx374_inb : ∀ (v201 : IVec S16 32) (k0_hw374 : k0_chk374 v201), ∀ a x, ((![v201] : Fin 1 → IVec S16 32) a x).toNat < S38912.size a := fun v201 k0_hw374 => k0_hw374
def k0_off377 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v202 : Index := Scalar.indexCast arg9
  let c352 : Index := 352#32
  ![v202.toNat, 352]

def k0_chk375 (v203 : IVec S16 32) : Prop :=
  (∀ a x, ((![v203] : Fin 1 → IVec S16 32) a x).toNat < S38912.size a)
theorem k0_idx375_inb : ∀ (v203 : IVec S16 32) (k0_hw375 : k0_chk375 v203), ∀ a x, ((![v203] : Fin 1 → IVec S16 32) a x).toNat < S38912.size a := fun v203 k0_hw375 => k0_hw375
def k0_off378 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v204 : Index := Scalar.indexCast arg9
  let c368 : Index := 368#32
  ![v204.toNat, 368]

def k0_chk376 (v205 : IVec S16 32) : Prop :=
  (∀ a x, ((![v205] : Fin 1 → IVec S16 32) a x).toNat < S38912.size a)
theorem k0_idx376_inb : ∀ (v205 : IVec S16 32) (k0_hw376 : k0_chk376 v205), ∀ a x, ((![v205] : Fin 1 → IVec S16 32) a x).toNat < S38912.size a := fun v205 k0_hw376 => k0_hw376
def k0_off379 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v206 : Index := Scalar.indexCast arg9
  let c384 : Index := 384#32
  ![v206.toNat, 384]

def k0_chk377 (v207 : IVec S16 32) : Prop :=
  (∀ a x, ((![v207] : Fin 1 → IVec S16 32) a x).toNat < S38912.size a)
theorem k0_idx377_inb : ∀ (v207 : IVec S16 32) (k0_hw377 : k0_chk377 v207), ∀ a x, ((![v207] : Fin 1 → IVec S16 32) a x).toNat < S38912.size a := fun v207 k0_hw377 => k0_hw377
def k0_off380 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v208 : Index := Scalar.indexCast arg9
  let c400 : Index := 400#32
  ![v208.toNat, 400]

def k0_chk378 (v209 : IVec S16 32) : Prop :=
  (∀ a x, ((![v209] : Fin 1 → IVec S16 32) a x).toNat < S38912.size a)
theorem k0_idx378_inb : ∀ (v209 : IVec S16 32) (k0_hw378 : k0_chk378 v209), ∀ a x, ((![v209] : Fin 1 → IVec S16 32) a x).toNat < S38912.size a := fun v209 k0_hw378 => k0_hw378
def k0_off381 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v210 : Index := Scalar.indexCast arg9
  let c416 : Index := 416#32
  ![v210.toNat, 416]

def k0_chk379 (v211 : IVec S16 32) : Prop :=
  (∀ a x, ((![v211] : Fin 1 → IVec S16 32) a x).toNat < S38912.size a)
theorem k0_idx379_inb : ∀ (v211 : IVec S16 32) (k0_hw379 : k0_chk379 v211), ∀ a x, ((![v211] : Fin 1 → IVec S16 32) a x).toNat < S38912.size a := fun v211 k0_hw379 => k0_hw379
def k0_off382 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v212 : Index := Scalar.indexCast arg9
  let c432 : Index := 432#32
  ![v212.toNat, 432]

def k0_chk380 (v213 : IVec S16 32) : Prop :=
  (∀ a x, ((![v213] : Fin 1 → IVec S16 32) a x).toNat < S38912.size a)
theorem k0_idx380_inb : ∀ (v213 : IVec S16 32) (k0_hw380 : k0_chk380 v213), ∀ a x, ((![v213] : Fin 1 → IVec S16 32) a x).toNat < S38912.size a := fun v213 k0_hw380 => k0_hw380
def k0_off383 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v214 : Index := Scalar.indexCast arg9
  let c448 : Index := 448#32
  ![v214.toNat, 448]

def k0_chk381 (v215 : IVec S16 32) : Prop :=
  (∀ a x, ((![v215] : Fin 1 → IVec S16 32) a x).toNat < S38912.size a)
theorem k0_idx381_inb : ∀ (v215 : IVec S16 32) (k0_hw381 : k0_chk381 v215), ∀ a x, ((![v215] : Fin 1 → IVec S16 32) a x).toNat < S38912.size a := fun v215 k0_hw381 => k0_hw381
def k0_off384 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v216 : Index := Scalar.indexCast arg9
  let c464 : Index := 464#32
  ![v216.toNat, 464]

def k0_chk382 (v217 : IVec S16 32) : Prop :=
  (∀ a x, ((![v217] : Fin 1 → IVec S16 32) a x).toNat < S38912.size a)
theorem k0_idx382_inb : ∀ (v217 : IVec S16 32) (k0_hw382 : k0_chk382 v217), ∀ a x, ((![v217] : Fin 1 → IVec S16 32) a x).toNat < S38912.size a := fun v217 k0_hw382 => k0_hw382
def k0_off385 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v218 : Index := Scalar.indexCast arg9
  let c480 : Index := 480#32
  ![v218.toNat, 480]

def k0_chk383 (v219 : IVec S16 32) : Prop :=
  (∀ a x, ((![v219] : Fin 1 → IVec S16 32) a x).toNat < S38912.size a)
theorem k0_idx383_inb : ∀ (v219 : IVec S16 32) (k0_hw383 : k0_chk383 v219), ∀ a x, ((![v219] : Fin 1 → IVec S16 32) a x).toNat < S38912.size a := fun v219 k0_hw383 => k0_hw383
def k0_off386 (k0_t13 : Fin k0_t13_loop.trips) : Fin 2 → Nat :=
  let c0_i32_122 : BitVec 32 := 0#32
  let c1_i32_124 : BitVec 32 := 1#32
  let arg9 : BitVec 32 := Scf.iv c0_i32_122 c1_i32_124 k0_t13
  let v220 : Index := Scalar.indexCast arg9
  let c496 : Index := 496#32
  ![v220.toNat, 496]

def k0_chk384 (v221 : IVec S16 32) : Prop :=
  (∀ a x, ((![v221] : Fin 1 → IVec S16 32) a x).toNat < S38912.size a)
theorem k0_idx384_inb : ∀ (v221 : IVec S16 32) (k0_hw384 : k0_chk384 v221), ∀ a x, ((![v221] : Fin 1 → IVec S16 32) a x).toNat < S38912.size a := fun v221 k0_hw384 => k0_hw384
@[reducible] def k0_t14_loop : Scf.Loop 32 :=
  let c0_i32_132 : BitVec 32 := 0#32
  let c64_i32_133 : BitVec 32 := 64#32
  let v111 : BitVec 32 := Scalar.addi c0_i32_132 c64_i32_133
  let c1_i32_134 : BitVec 32 := 1#32
  ⟨c0_i32_132, v111, c1_i32_134⟩
def k0_off387 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v158 : Index := Scalar.indexCast arg9
  let c0 : Index := 0#32
  ![v158.toNat, 0]

def k0_chk385 (v159 : IVec S16 32) : Prop :=
  (∀ a x, ((![v159] : Fin 1 → IVec S16 32) a x).toNat < S38912.size a)
theorem k0_idx385_inb : ∀ (v159 : IVec S16 32) (k0_hw385 : k0_chk385 v159), ∀ a x, ((![v159] : Fin 1 → IVec S16 32) a x).toNat < S38912.size a := fun v159 k0_hw385 => k0_hw385
def k0_off388 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v160 : Index := Scalar.indexCast arg9
  let c16 : Index := 16#32
  ![v160.toNat, 16]

def k0_chk386 (v161 : IVec S16 32) : Prop :=
  (∀ a x, ((![v161] : Fin 1 → IVec S16 32) a x).toNat < S38912.size a)
theorem k0_idx386_inb : ∀ (v161 : IVec S16 32) (k0_hw386 : k0_chk386 v161), ∀ a x, ((![v161] : Fin 1 → IVec S16 32) a x).toNat < S38912.size a := fun v161 k0_hw386 => k0_hw386
def k0_off389 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v162 : Index := Scalar.indexCast arg9
  let c32 : Index := 32#32
  ![v162.toNat, 32]

def k0_chk387 (v163 : IVec S16 32) : Prop :=
  (∀ a x, ((![v163] : Fin 1 → IVec S16 32) a x).toNat < S38912.size a)
theorem k0_idx387_inb : ∀ (v163 : IVec S16 32) (k0_hw387 : k0_chk387 v163), ∀ a x, ((![v163] : Fin 1 → IVec S16 32) a x).toNat < S38912.size a := fun v163 k0_hw387 => k0_hw387
def k0_off390 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v164 : Index := Scalar.indexCast arg9
  let c48 : Index := 48#32
  ![v164.toNat, 48]

def k0_chk388 (v165 : IVec S16 32) : Prop :=
  (∀ a x, ((![v165] : Fin 1 → IVec S16 32) a x).toNat < S38912.size a)
theorem k0_idx388_inb : ∀ (v165 : IVec S16 32) (k0_hw388 : k0_chk388 v165), ∀ a x, ((![v165] : Fin 1 → IVec S16 32) a x).toNat < S38912.size a := fun v165 k0_hw388 => k0_hw388
def k0_off391 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v166 : Index := Scalar.indexCast arg9
  let c64 : Index := 64#32
  ![v166.toNat, 64]

def k0_chk389 (v167 : IVec S16 32) : Prop :=
  (∀ a x, ((![v167] : Fin 1 → IVec S16 32) a x).toNat < S38912.size a)
theorem k0_idx389_inb : ∀ (v167 : IVec S16 32) (k0_hw389 : k0_chk389 v167), ∀ a x, ((![v167] : Fin 1 → IVec S16 32) a x).toNat < S38912.size a := fun v167 k0_hw389 => k0_hw389
def k0_off392 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v168 : Index := Scalar.indexCast arg9
  let c80 : Index := 80#32
  ![v168.toNat, 80]

def k0_chk390 (v169 : IVec S16 32) : Prop :=
  (∀ a x, ((![v169] : Fin 1 → IVec S16 32) a x).toNat < S38912.size a)
theorem k0_idx390_inb : ∀ (v169 : IVec S16 32) (k0_hw390 : k0_chk390 v169), ∀ a x, ((![v169] : Fin 1 → IVec S16 32) a x).toNat < S38912.size a := fun v169 k0_hw390 => k0_hw390
def k0_off393 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v170 : Index := Scalar.indexCast arg9
  let c96 : Index := 96#32
  ![v170.toNat, 96]

def k0_chk391 (v171 : IVec S16 32) : Prop :=
  (∀ a x, ((![v171] : Fin 1 → IVec S16 32) a x).toNat < S38912.size a)
theorem k0_idx391_inb : ∀ (v171 : IVec S16 32) (k0_hw391 : k0_chk391 v171), ∀ a x, ((![v171] : Fin 1 → IVec S16 32) a x).toNat < S38912.size a := fun v171 k0_hw391 => k0_hw391
def k0_off394 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v172 : Index := Scalar.indexCast arg9
  let c112 : Index := 112#32
  ![v172.toNat, 112]

def k0_chk392 (v173 : IVec S16 32) : Prop :=
  (∀ a x, ((![v173] : Fin 1 → IVec S16 32) a x).toNat < S38912.size a)
theorem k0_idx392_inb : ∀ (v173 : IVec S16 32) (k0_hw392 : k0_chk392 v173), ∀ a x, ((![v173] : Fin 1 → IVec S16 32) a x).toNat < S38912.size a := fun v173 k0_hw392 => k0_hw392
def k0_off395 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v174 : Index := Scalar.indexCast arg9
  let c128 : Index := 128#32
  ![v174.toNat, 128]

def k0_chk393 (v175 : IVec S16 32) : Prop :=
  (∀ a x, ((![v175] : Fin 1 → IVec S16 32) a x).toNat < S38912.size a)
theorem k0_idx393_inb : ∀ (v175 : IVec S16 32) (k0_hw393 : k0_chk393 v175), ∀ a x, ((![v175] : Fin 1 → IVec S16 32) a x).toNat < S38912.size a := fun v175 k0_hw393 => k0_hw393
def k0_off396 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v176 : Index := Scalar.indexCast arg9
  let c144 : Index := 144#32
  ![v176.toNat, 144]

def k0_chk394 (v177 : IVec S16 32) : Prop :=
  (∀ a x, ((![v177] : Fin 1 → IVec S16 32) a x).toNat < S38912.size a)
theorem k0_idx394_inb : ∀ (v177 : IVec S16 32) (k0_hw394 : k0_chk394 v177), ∀ a x, ((![v177] : Fin 1 → IVec S16 32) a x).toNat < S38912.size a := fun v177 k0_hw394 => k0_hw394
def k0_off397 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v178 : Index := Scalar.indexCast arg9
  let c160 : Index := 160#32
  ![v178.toNat, 160]

def k0_chk395 (v179 : IVec S16 32) : Prop :=
  (∀ a x, ((![v179] : Fin 1 → IVec S16 32) a x).toNat < S38912.size a)
theorem k0_idx395_inb : ∀ (v179 : IVec S16 32) (k0_hw395 : k0_chk395 v179), ∀ a x, ((![v179] : Fin 1 → IVec S16 32) a x).toNat < S38912.size a := fun v179 k0_hw395 => k0_hw395
def k0_off398 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v180 : Index := Scalar.indexCast arg9
  let c176 : Index := 176#32
  ![v180.toNat, 176]

def k0_chk396 (v181 : IVec S16 32) : Prop :=
  (∀ a x, ((![v181] : Fin 1 → IVec S16 32) a x).toNat < S38912.size a)
theorem k0_idx396_inb : ∀ (v181 : IVec S16 32) (k0_hw396 : k0_chk396 v181), ∀ a x, ((![v181] : Fin 1 → IVec S16 32) a x).toNat < S38912.size a := fun v181 k0_hw396 => k0_hw396
def k0_off399 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v182 : Index := Scalar.indexCast arg9
  let c192 : Index := 192#32
  ![v182.toNat, 192]

def k0_chk397 (v183 : IVec S16 32) : Prop :=
  (∀ a x, ((![v183] : Fin 1 → IVec S16 32) a x).toNat < S38912.size a)
theorem k0_idx397_inb : ∀ (v183 : IVec S16 32) (k0_hw397 : k0_chk397 v183), ∀ a x, ((![v183] : Fin 1 → IVec S16 32) a x).toNat < S38912.size a := fun v183 k0_hw397 => k0_hw397
def k0_off400 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v184 : Index := Scalar.indexCast arg9
  let c208 : Index := 208#32
  ![v184.toNat, 208]

def k0_chk398 (v185 : IVec S16 32) : Prop :=
  (∀ a x, ((![v185] : Fin 1 → IVec S16 32) a x).toNat < S38912.size a)
theorem k0_idx398_inb : ∀ (v185 : IVec S16 32) (k0_hw398 : k0_chk398 v185), ∀ a x, ((![v185] : Fin 1 → IVec S16 32) a x).toNat < S38912.size a := fun v185 k0_hw398 => k0_hw398
def k0_off401 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v186 : Index := Scalar.indexCast arg9
  let c224 : Index := 224#32
  ![v186.toNat, 224]

def k0_chk399 (v187 : IVec S16 32) : Prop :=
  (∀ a x, ((![v187] : Fin 1 → IVec S16 32) a x).toNat < S38912.size a)
theorem k0_idx399_inb : ∀ (v187 : IVec S16 32) (k0_hw399 : k0_chk399 v187), ∀ a x, ((![v187] : Fin 1 → IVec S16 32) a x).toNat < S38912.size a := fun v187 k0_hw399 => k0_hw399
def k0_off402 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v188 : Index := Scalar.indexCast arg9
  let c240 : Index := 240#32
  ![v188.toNat, 240]

def k0_chk400 (v189 : IVec S16 32) : Prop :=
  (∀ a x, ((![v189] : Fin 1 → IVec S16 32) a x).toNat < S38912.size a)
theorem k0_idx400_inb : ∀ (v189 : IVec S16 32) (k0_hw400 : k0_chk400 v189), ∀ a x, ((![v189] : Fin 1 → IVec S16 32) a x).toNat < S38912.size a := fun v189 k0_hw400 => k0_hw400
def k0_off403 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v190 : Index := Scalar.indexCast arg9
  let c256 : Index := 256#32
  ![v190.toNat, 256]

def k0_chk401 (v191 : IVec S16 32) : Prop :=
  (∀ a x, ((![v191] : Fin 1 → IVec S16 32) a x).toNat < S38912.size a)
theorem k0_idx401_inb : ∀ (v191 : IVec S16 32) (k0_hw401 : k0_chk401 v191), ∀ a x, ((![v191] : Fin 1 → IVec S16 32) a x).toNat < S38912.size a := fun v191 k0_hw401 => k0_hw401
def k0_off404 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v192 : Index := Scalar.indexCast arg9
  let c272 : Index := 272#32
  ![v192.toNat, 272]

def k0_chk402 (v193 : IVec S16 32) : Prop :=
  (∀ a x, ((![v193] : Fin 1 → IVec S16 32) a x).toNat < S38912.size a)
theorem k0_idx402_inb : ∀ (v193 : IVec S16 32) (k0_hw402 : k0_chk402 v193), ∀ a x, ((![v193] : Fin 1 → IVec S16 32) a x).toNat < S38912.size a := fun v193 k0_hw402 => k0_hw402
def k0_off405 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v194 : Index := Scalar.indexCast arg9
  let c288 : Index := 288#32
  ![v194.toNat, 288]

def k0_chk403 (v195 : IVec S16 32) : Prop :=
  (∀ a x, ((![v195] : Fin 1 → IVec S16 32) a x).toNat < S38912.size a)
theorem k0_idx403_inb : ∀ (v195 : IVec S16 32) (k0_hw403 : k0_chk403 v195), ∀ a x, ((![v195] : Fin 1 → IVec S16 32) a x).toNat < S38912.size a := fun v195 k0_hw403 => k0_hw403
def k0_off406 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v196 : Index := Scalar.indexCast arg9
  let c304 : Index := 304#32
  ![v196.toNat, 304]

def k0_chk404 (v197 : IVec S16 32) : Prop :=
  (∀ a x, ((![v197] : Fin 1 → IVec S16 32) a x).toNat < S38912.size a)
theorem k0_idx404_inb : ∀ (v197 : IVec S16 32) (k0_hw404 : k0_chk404 v197), ∀ a x, ((![v197] : Fin 1 → IVec S16 32) a x).toNat < S38912.size a := fun v197 k0_hw404 => k0_hw404
def k0_off407 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v198 : Index := Scalar.indexCast arg9
  let c320 : Index := 320#32
  ![v198.toNat, 320]

def k0_chk405 (v199 : IVec S16 32) : Prop :=
  (∀ a x, ((![v199] : Fin 1 → IVec S16 32) a x).toNat < S38912.size a)
theorem k0_idx405_inb : ∀ (v199 : IVec S16 32) (k0_hw405 : k0_chk405 v199), ∀ a x, ((![v199] : Fin 1 → IVec S16 32) a x).toNat < S38912.size a := fun v199 k0_hw405 => k0_hw405
def k0_off408 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v200 : Index := Scalar.indexCast arg9
  let c336 : Index := 336#32
  ![v200.toNat, 336]

def k0_chk406 (v201 : IVec S16 32) : Prop :=
  (∀ a x, ((![v201] : Fin 1 → IVec S16 32) a x).toNat < S38912.size a)
theorem k0_idx406_inb : ∀ (v201 : IVec S16 32) (k0_hw406 : k0_chk406 v201), ∀ a x, ((![v201] : Fin 1 → IVec S16 32) a x).toNat < S38912.size a := fun v201 k0_hw406 => k0_hw406
def k0_off409 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v202 : Index := Scalar.indexCast arg9
  let c352 : Index := 352#32
  ![v202.toNat, 352]

def k0_chk407 (v203 : IVec S16 32) : Prop :=
  (∀ a x, ((![v203] : Fin 1 → IVec S16 32) a x).toNat < S38912.size a)
theorem k0_idx407_inb : ∀ (v203 : IVec S16 32) (k0_hw407 : k0_chk407 v203), ∀ a x, ((![v203] : Fin 1 → IVec S16 32) a x).toNat < S38912.size a := fun v203 k0_hw407 => k0_hw407
def k0_off410 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v204 : Index := Scalar.indexCast arg9
  let c368 : Index := 368#32
  ![v204.toNat, 368]

def k0_chk408 (v205 : IVec S16 32) : Prop :=
  (∀ a x, ((![v205] : Fin 1 → IVec S16 32) a x).toNat < S38912.size a)
theorem k0_idx408_inb : ∀ (v205 : IVec S16 32) (k0_hw408 : k0_chk408 v205), ∀ a x, ((![v205] : Fin 1 → IVec S16 32) a x).toNat < S38912.size a := fun v205 k0_hw408 => k0_hw408
def k0_off411 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v206 : Index := Scalar.indexCast arg9
  let c384 : Index := 384#32
  ![v206.toNat, 384]

def k0_chk409 (v207 : IVec S16 32) : Prop :=
  (∀ a x, ((![v207] : Fin 1 → IVec S16 32) a x).toNat < S38912.size a)
theorem k0_idx409_inb : ∀ (v207 : IVec S16 32) (k0_hw409 : k0_chk409 v207), ∀ a x, ((![v207] : Fin 1 → IVec S16 32) a x).toNat < S38912.size a := fun v207 k0_hw409 => k0_hw409
def k0_off412 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v208 : Index := Scalar.indexCast arg9
  let c400 : Index := 400#32
  ![v208.toNat, 400]

def k0_chk410 (v209 : IVec S16 32) : Prop :=
  (∀ a x, ((![v209] : Fin 1 → IVec S16 32) a x).toNat < S38912.size a)
theorem k0_idx410_inb : ∀ (v209 : IVec S16 32) (k0_hw410 : k0_chk410 v209), ∀ a x, ((![v209] : Fin 1 → IVec S16 32) a x).toNat < S38912.size a := fun v209 k0_hw410 => k0_hw410
def k0_off413 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v210 : Index := Scalar.indexCast arg9
  let c416 : Index := 416#32
  ![v210.toNat, 416]

def k0_chk411 (v211 : IVec S16 32) : Prop :=
  (∀ a x, ((![v211] : Fin 1 → IVec S16 32) a x).toNat < S38912.size a)
theorem k0_idx411_inb : ∀ (v211 : IVec S16 32) (k0_hw411 : k0_chk411 v211), ∀ a x, ((![v211] : Fin 1 → IVec S16 32) a x).toNat < S38912.size a := fun v211 k0_hw411 => k0_hw411
def k0_off414 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v212 : Index := Scalar.indexCast arg9
  let c432 : Index := 432#32
  ![v212.toNat, 432]

def k0_chk412 (v213 : IVec S16 32) : Prop :=
  (∀ a x, ((![v213] : Fin 1 → IVec S16 32) a x).toNat < S38912.size a)
theorem k0_idx412_inb : ∀ (v213 : IVec S16 32) (k0_hw412 : k0_chk412 v213), ∀ a x, ((![v213] : Fin 1 → IVec S16 32) a x).toNat < S38912.size a := fun v213 k0_hw412 => k0_hw412
def k0_off415 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v214 : Index := Scalar.indexCast arg9
  let c448 : Index := 448#32
  ![v214.toNat, 448]

def k0_chk413 (v215 : IVec S16 32) : Prop :=
  (∀ a x, ((![v215] : Fin 1 → IVec S16 32) a x).toNat < S38912.size a)
theorem k0_idx413_inb : ∀ (v215 : IVec S16 32) (k0_hw413 : k0_chk413 v215), ∀ a x, ((![v215] : Fin 1 → IVec S16 32) a x).toNat < S38912.size a := fun v215 k0_hw413 => k0_hw413
def k0_off416 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v216 : Index := Scalar.indexCast arg9
  let c464 : Index := 464#32
  ![v216.toNat, 464]

def k0_chk414 (v217 : IVec S16 32) : Prop :=
  (∀ a x, ((![v217] : Fin 1 → IVec S16 32) a x).toNat < S38912.size a)
theorem k0_idx414_inb : ∀ (v217 : IVec S16 32) (k0_hw414 : k0_chk414 v217), ∀ a x, ((![v217] : Fin 1 → IVec S16 32) a x).toNat < S38912.size a := fun v217 k0_hw414 => k0_hw414
def k0_off417 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v218 : Index := Scalar.indexCast arg9
  let c480 : Index := 480#32
  ![v218.toNat, 480]

def k0_chk415 (v219 : IVec S16 32) : Prop :=
  (∀ a x, ((![v219] : Fin 1 → IVec S16 32) a x).toNat < S38912.size a)
theorem k0_idx415_inb : ∀ (v219 : IVec S16 32) (k0_hw415 : k0_chk415 v219), ∀ a x, ((![v219] : Fin 1 → IVec S16 32) a x).toNat < S38912.size a := fun v219 k0_hw415 => k0_hw415
def k0_off418 (k0_t14 : Fin k0_t14_loop.trips) : Fin 2 → Nat :=
  let c0_i32_132 : BitVec 32 := 0#32
  let c1_i32_134 : BitVec 32 := 1#32
  let arg9 : BitVec 32 := Scf.iv c0_i32_132 c1_i32_134 k0_t14
  let v220 : Index := Scalar.indexCast arg9
  let c496 : Index := 496#32
  ![v220.toNat, 496]

def k0_chk416 (v221 : IVec S16 32) : Prop :=
  (∀ a x, ((![v221] : Fin 1 → IVec S16 32) a x).toNat < S38912.size a)
theorem k0_idx416_inb : ∀ (v221 : IVec S16 32) (k0_hw416 : k0_chk416 v221), ∀ a x, ((![v221] : Fin 1 → IVec S16 32) a x).toNat < S38912.size a := fun v221 k0_hw416 => k0_hw416
@[reducible] def k0_t15_loop : Scf.Loop 32 :=
  let c0_i32_142 : BitVec 32 := 0#32
  let c64_i32_143 : BitVec 32 := 64#32
  let v119 : BitVec 32 := Scalar.addi c0_i32_142 c64_i32_143
  let c1_i32_144 : BitVec 32 := 1#32
  ⟨c0_i32_142, v119, c1_i32_144⟩
def k0_off419 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v158 : Index := Scalar.indexCast arg9
  let c0 : Index := 0#32
  ![v158.toNat, 0]

def k0_chk417 (v159 : IVec S16 32) : Prop :=
  (∀ a x, ((![v159] : Fin 1 → IVec S16 32) a x).toNat < S38912.size a)
theorem k0_idx417_inb : ∀ (v159 : IVec S16 32) (k0_hw417 : k0_chk417 v159), ∀ a x, ((![v159] : Fin 1 → IVec S16 32) a x).toNat < S38912.size a := fun v159 k0_hw417 => k0_hw417
def k0_off420 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v160 : Index := Scalar.indexCast arg9
  let c16 : Index := 16#32
  ![v160.toNat, 16]

def k0_chk418 (v161 : IVec S16 32) : Prop :=
  (∀ a x, ((![v161] : Fin 1 → IVec S16 32) a x).toNat < S38912.size a)
theorem k0_idx418_inb : ∀ (v161 : IVec S16 32) (k0_hw418 : k0_chk418 v161), ∀ a x, ((![v161] : Fin 1 → IVec S16 32) a x).toNat < S38912.size a := fun v161 k0_hw418 => k0_hw418
def k0_off421 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v162 : Index := Scalar.indexCast arg9
  let c32 : Index := 32#32
  ![v162.toNat, 32]

def k0_chk419 (v163 : IVec S16 32) : Prop :=
  (∀ a x, ((![v163] : Fin 1 → IVec S16 32) a x).toNat < S38912.size a)
theorem k0_idx419_inb : ∀ (v163 : IVec S16 32) (k0_hw419 : k0_chk419 v163), ∀ a x, ((![v163] : Fin 1 → IVec S16 32) a x).toNat < S38912.size a := fun v163 k0_hw419 => k0_hw419
def k0_off422 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v164 : Index := Scalar.indexCast arg9
  let c48 : Index := 48#32
  ![v164.toNat, 48]

def k0_chk420 (v165 : IVec S16 32) : Prop :=
  (∀ a x, ((![v165] : Fin 1 → IVec S16 32) a x).toNat < S38912.size a)
theorem k0_idx420_inb : ∀ (v165 : IVec S16 32) (k0_hw420 : k0_chk420 v165), ∀ a x, ((![v165] : Fin 1 → IVec S16 32) a x).toNat < S38912.size a := fun v165 k0_hw420 => k0_hw420
def k0_off423 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v166 : Index := Scalar.indexCast arg9
  let c64 : Index := 64#32
  ![v166.toNat, 64]

def k0_chk421 (v167 : IVec S16 32) : Prop :=
  (∀ a x, ((![v167] : Fin 1 → IVec S16 32) a x).toNat < S38912.size a)
theorem k0_idx421_inb : ∀ (v167 : IVec S16 32) (k0_hw421 : k0_chk421 v167), ∀ a x, ((![v167] : Fin 1 → IVec S16 32) a x).toNat < S38912.size a := fun v167 k0_hw421 => k0_hw421
def k0_off424 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v168 : Index := Scalar.indexCast arg9
  let c80 : Index := 80#32
  ![v168.toNat, 80]

def k0_chk422 (v169 : IVec S16 32) : Prop :=
  (∀ a x, ((![v169] : Fin 1 → IVec S16 32) a x).toNat < S38912.size a)
theorem k0_idx422_inb : ∀ (v169 : IVec S16 32) (k0_hw422 : k0_chk422 v169), ∀ a x, ((![v169] : Fin 1 → IVec S16 32) a x).toNat < S38912.size a := fun v169 k0_hw422 => k0_hw422
def k0_off425 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v170 : Index := Scalar.indexCast arg9
  let c96 : Index := 96#32
  ![v170.toNat, 96]

def k0_chk423 (v171 : IVec S16 32) : Prop :=
  (∀ a x, ((![v171] : Fin 1 → IVec S16 32) a x).toNat < S38912.size a)
theorem k0_idx423_inb : ∀ (v171 : IVec S16 32) (k0_hw423 : k0_chk423 v171), ∀ a x, ((![v171] : Fin 1 → IVec S16 32) a x).toNat < S38912.size a := fun v171 k0_hw423 => k0_hw423
def k0_off426 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v172 : Index := Scalar.indexCast arg9
  let c112 : Index := 112#32
  ![v172.toNat, 112]

def k0_chk424 (v173 : IVec S16 32) : Prop :=
  (∀ a x, ((![v173] : Fin 1 → IVec S16 32) a x).toNat < S38912.size a)
theorem k0_idx424_inb : ∀ (v173 : IVec S16 32) (k0_hw424 : k0_chk424 v173), ∀ a x, ((![v173] : Fin 1 → IVec S16 32) a x).toNat < S38912.size a := fun v173 k0_hw424 => k0_hw424
def k0_off427 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v174 : Index := Scalar.indexCast arg9
  let c128 : Index := 128#32
  ![v174.toNat, 128]

def k0_chk425 (v175 : IVec S16 32) : Prop :=
  (∀ a x, ((![v175] : Fin 1 → IVec S16 32) a x).toNat < S38912.size a)
theorem k0_idx425_inb : ∀ (v175 : IVec S16 32) (k0_hw425 : k0_chk425 v175), ∀ a x, ((![v175] : Fin 1 → IVec S16 32) a x).toNat < S38912.size a := fun v175 k0_hw425 => k0_hw425
def k0_off428 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v176 : Index := Scalar.indexCast arg9
  let c144 : Index := 144#32
  ![v176.toNat, 144]

def k0_chk426 (v177 : IVec S16 32) : Prop :=
  (∀ a x, ((![v177] : Fin 1 → IVec S16 32) a x).toNat < S38912.size a)
theorem k0_idx426_inb : ∀ (v177 : IVec S16 32) (k0_hw426 : k0_chk426 v177), ∀ a x, ((![v177] : Fin 1 → IVec S16 32) a x).toNat < S38912.size a := fun v177 k0_hw426 => k0_hw426
def k0_off429 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v178 : Index := Scalar.indexCast arg9
  let c160 : Index := 160#32
  ![v178.toNat, 160]

def k0_chk427 (v179 : IVec S16 32) : Prop :=
  (∀ a x, ((![v179] : Fin 1 → IVec S16 32) a x).toNat < S38912.size a)
theorem k0_idx427_inb : ∀ (v179 : IVec S16 32) (k0_hw427 : k0_chk427 v179), ∀ a x, ((![v179] : Fin 1 → IVec S16 32) a x).toNat < S38912.size a := fun v179 k0_hw427 => k0_hw427
def k0_off430 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v180 : Index := Scalar.indexCast arg9
  let c176 : Index := 176#32
  ![v180.toNat, 176]

def k0_chk428 (v181 : IVec S16 32) : Prop :=
  (∀ a x, ((![v181] : Fin 1 → IVec S16 32) a x).toNat < S38912.size a)
theorem k0_idx428_inb : ∀ (v181 : IVec S16 32) (k0_hw428 : k0_chk428 v181), ∀ a x, ((![v181] : Fin 1 → IVec S16 32) a x).toNat < S38912.size a := fun v181 k0_hw428 => k0_hw428
def k0_off431 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v182 : Index := Scalar.indexCast arg9
  let c192 : Index := 192#32
  ![v182.toNat, 192]

def k0_chk429 (v183 : IVec S16 32) : Prop :=
  (∀ a x, ((![v183] : Fin 1 → IVec S16 32) a x).toNat < S38912.size a)
theorem k0_idx429_inb : ∀ (v183 : IVec S16 32) (k0_hw429 : k0_chk429 v183), ∀ a x, ((![v183] : Fin 1 → IVec S16 32) a x).toNat < S38912.size a := fun v183 k0_hw429 => k0_hw429
def k0_off432 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v184 : Index := Scalar.indexCast arg9
  let c208 : Index := 208#32
  ![v184.toNat, 208]

def k0_chk430 (v185 : IVec S16 32) : Prop :=
  (∀ a x, ((![v185] : Fin 1 → IVec S16 32) a x).toNat < S38912.size a)
theorem k0_idx430_inb : ∀ (v185 : IVec S16 32) (k0_hw430 : k0_chk430 v185), ∀ a x, ((![v185] : Fin 1 → IVec S16 32) a x).toNat < S38912.size a := fun v185 k0_hw430 => k0_hw430
def k0_off433 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v186 : Index := Scalar.indexCast arg9
  let c224 : Index := 224#32
  ![v186.toNat, 224]

def k0_chk431 (v187 : IVec S16 32) : Prop :=
  (∀ a x, ((![v187] : Fin 1 → IVec S16 32) a x).toNat < S38912.size a)
theorem k0_idx431_inb : ∀ (v187 : IVec S16 32) (k0_hw431 : k0_chk431 v187), ∀ a x, ((![v187] : Fin 1 → IVec S16 32) a x).toNat < S38912.size a := fun v187 k0_hw431 => k0_hw431
def k0_off434 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v188 : Index := Scalar.indexCast arg9
  let c240 : Index := 240#32
  ![v188.toNat, 240]

def k0_chk432 (v189 : IVec S16 32) : Prop :=
  (∀ a x, ((![v189] : Fin 1 → IVec S16 32) a x).toNat < S38912.size a)
theorem k0_idx432_inb : ∀ (v189 : IVec S16 32) (k0_hw432 : k0_chk432 v189), ∀ a x, ((![v189] : Fin 1 → IVec S16 32) a x).toNat < S38912.size a := fun v189 k0_hw432 => k0_hw432
def k0_off435 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v190 : Index := Scalar.indexCast arg9
  let c256 : Index := 256#32
  ![v190.toNat, 256]

def k0_chk433 (v191 : IVec S16 32) : Prop :=
  (∀ a x, ((![v191] : Fin 1 → IVec S16 32) a x).toNat < S38912.size a)
theorem k0_idx433_inb : ∀ (v191 : IVec S16 32) (k0_hw433 : k0_chk433 v191), ∀ a x, ((![v191] : Fin 1 → IVec S16 32) a x).toNat < S38912.size a := fun v191 k0_hw433 => k0_hw433
def k0_off436 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v192 : Index := Scalar.indexCast arg9
  let c272 : Index := 272#32
  ![v192.toNat, 272]

def k0_chk434 (v193 : IVec S16 32) : Prop :=
  (∀ a x, ((![v193] : Fin 1 → IVec S16 32) a x).toNat < S38912.size a)
theorem k0_idx434_inb : ∀ (v193 : IVec S16 32) (k0_hw434 : k0_chk434 v193), ∀ a x, ((![v193] : Fin 1 → IVec S16 32) a x).toNat < S38912.size a := fun v193 k0_hw434 => k0_hw434
def k0_off437 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v194 : Index := Scalar.indexCast arg9
  let c288 : Index := 288#32
  ![v194.toNat, 288]

def k0_chk435 (v195 : IVec S16 32) : Prop :=
  (∀ a x, ((![v195] : Fin 1 → IVec S16 32) a x).toNat < S38912.size a)
theorem k0_idx435_inb : ∀ (v195 : IVec S16 32) (k0_hw435 : k0_chk435 v195), ∀ a x, ((![v195] : Fin 1 → IVec S16 32) a x).toNat < S38912.size a := fun v195 k0_hw435 => k0_hw435
def k0_off438 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v196 : Index := Scalar.indexCast arg9
  let c304 : Index := 304#32
  ![v196.toNat, 304]

def k0_chk436 (v197 : IVec S16 32) : Prop :=
  (∀ a x, ((![v197] : Fin 1 → IVec S16 32) a x).toNat < S38912.size a)
theorem k0_idx436_inb : ∀ (v197 : IVec S16 32) (k0_hw436 : k0_chk436 v197), ∀ a x, ((![v197] : Fin 1 → IVec S16 32) a x).toNat < S38912.size a := fun v197 k0_hw436 => k0_hw436
def k0_off439 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v198 : Index := Scalar.indexCast arg9
  let c320 : Index := 320#32
  ![v198.toNat, 320]

def k0_chk437 (v199 : IVec S16 32) : Prop :=
  (∀ a x, ((![v199] : Fin 1 → IVec S16 32) a x).toNat < S38912.size a)
theorem k0_idx437_inb : ∀ (v199 : IVec S16 32) (k0_hw437 : k0_chk437 v199), ∀ a x, ((![v199] : Fin 1 → IVec S16 32) a x).toNat < S38912.size a := fun v199 k0_hw437 => k0_hw437
def k0_off440 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v200 : Index := Scalar.indexCast arg9
  let c336 : Index := 336#32
  ![v200.toNat, 336]

def k0_chk438 (v201 : IVec S16 32) : Prop :=
  (∀ a x, ((![v201] : Fin 1 → IVec S16 32) a x).toNat < S38912.size a)
theorem k0_idx438_inb : ∀ (v201 : IVec S16 32) (k0_hw438 : k0_chk438 v201), ∀ a x, ((![v201] : Fin 1 → IVec S16 32) a x).toNat < S38912.size a := fun v201 k0_hw438 => k0_hw438
def k0_off441 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v202 : Index := Scalar.indexCast arg9
  let c352 : Index := 352#32
  ![v202.toNat, 352]

def k0_chk439 (v203 : IVec S16 32) : Prop :=
  (∀ a x, ((![v203] : Fin 1 → IVec S16 32) a x).toNat < S38912.size a)
theorem k0_idx439_inb : ∀ (v203 : IVec S16 32) (k0_hw439 : k0_chk439 v203), ∀ a x, ((![v203] : Fin 1 → IVec S16 32) a x).toNat < S38912.size a := fun v203 k0_hw439 => k0_hw439
def k0_off442 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v204 : Index := Scalar.indexCast arg9
  let c368 : Index := 368#32
  ![v204.toNat, 368]

def k0_chk440 (v205 : IVec S16 32) : Prop :=
  (∀ a x, ((![v205] : Fin 1 → IVec S16 32) a x).toNat < S38912.size a)
theorem k0_idx440_inb : ∀ (v205 : IVec S16 32) (k0_hw440 : k0_chk440 v205), ∀ a x, ((![v205] : Fin 1 → IVec S16 32) a x).toNat < S38912.size a := fun v205 k0_hw440 => k0_hw440
def k0_off443 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v206 : Index := Scalar.indexCast arg9
  let c384 : Index := 384#32
  ![v206.toNat, 384]

def k0_chk441 (v207 : IVec S16 32) : Prop :=
  (∀ a x, ((![v207] : Fin 1 → IVec S16 32) a x).toNat < S38912.size a)
theorem k0_idx441_inb : ∀ (v207 : IVec S16 32) (k0_hw441 : k0_chk441 v207), ∀ a x, ((![v207] : Fin 1 → IVec S16 32) a x).toNat < S38912.size a := fun v207 k0_hw441 => k0_hw441
def k0_off444 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v208 : Index := Scalar.indexCast arg9
  let c400 : Index := 400#32
  ![v208.toNat, 400]

def k0_chk442 (v209 : IVec S16 32) : Prop :=
  (∀ a x, ((![v209] : Fin 1 → IVec S16 32) a x).toNat < S38912.size a)
theorem k0_idx442_inb : ∀ (v209 : IVec S16 32) (k0_hw442 : k0_chk442 v209), ∀ a x, ((![v209] : Fin 1 → IVec S16 32) a x).toNat < S38912.size a := fun v209 k0_hw442 => k0_hw442
def k0_off445 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v210 : Index := Scalar.indexCast arg9
  let c416 : Index := 416#32
  ![v210.toNat, 416]

def k0_chk443 (v211 : IVec S16 32) : Prop :=
  (∀ a x, ((![v211] : Fin 1 → IVec S16 32) a x).toNat < S38912.size a)
theorem k0_idx443_inb : ∀ (v211 : IVec S16 32) (k0_hw443 : k0_chk443 v211), ∀ a x, ((![v211] : Fin 1 → IVec S16 32) a x).toNat < S38912.size a := fun v211 k0_hw443 => k0_hw443
def k0_off446 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v212 : Index := Scalar.indexCast arg9
  let c432 : Index := 432#32
  ![v212.toNat, 432]

def k0_chk444 (v213 : IVec S16 32) : Prop :=
  (∀ a x, ((![v213] : Fin 1 → IVec S16 32) a x).toNat < S38912.size a)
theorem k0_idx444_inb : ∀ (v213 : IVec S16 32) (k0_hw444 : k0_chk444 v213), ∀ a x, ((![v213] : Fin 1 → IVec S16 32) a x).toNat < S38912.size a := fun v213 k0_hw444 => k0_hw444
def k0_off447 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v214 : Index := Scalar.indexCast arg9
  let c448 : Index := 448#32
  ![v214.toNat, 448]

def k0_chk445 (v215 : IVec S16 32) : Prop :=
  (∀ a x, ((![v215] : Fin 1 → IVec S16 32) a x).toNat < S38912.size a)
theorem k0_idx445_inb : ∀ (v215 : IVec S16 32) (k0_hw445 : k0_chk445 v215), ∀ a x, ((![v215] : Fin 1 → IVec S16 32) a x).toNat < S38912.size a := fun v215 k0_hw445 => k0_hw445
def k0_off448 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v216 : Index := Scalar.indexCast arg9
  let c464 : Index := 464#32
  ![v216.toNat, 464]

def k0_chk446 (v217 : IVec S16 32) : Prop :=
  (∀ a x, ((![v217] : Fin 1 → IVec S16 32) a x).toNat < S38912.size a)
theorem k0_idx446_inb : ∀ (v217 : IVec S16 32) (k0_hw446 : k0_chk446 v217), ∀ a x, ((![v217] : Fin 1 → IVec S16 32) a x).toNat < S38912.size a := fun v217 k0_hw446 => k0_hw446
def k0_off449 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v218 : Index := Scalar.indexCast arg9
  let c480 : Index := 480#32
  ![v218.toNat, 480]

def k0_chk447 (v219 : IVec S16 32) : Prop :=
  (∀ a x, ((![v219] : Fin 1 → IVec S16 32) a x).toNat < S38912.size a)
theorem k0_idx447_inb : ∀ (v219 : IVec S16 32) (k0_hw447 : k0_chk447 v219), ∀ a x, ((![v219] : Fin 1 → IVec S16 32) a x).toNat < S38912.size a := fun v219 k0_hw447 => k0_hw447
def k0_off450 (k0_t15 : Fin k0_t15_loop.trips) : Fin 2 → Nat :=
  let c0_i32_142 : BitVec 32 := 0#32
  let c1_i32_144 : BitVec 32 := 1#32
  let arg9 : BitVec 32 := Scf.iv c0_i32_142 c1_i32_144 k0_t15
  let v220 : Index := Scalar.indexCast arg9
  let c496 : Index := 496#32
  ![v220.toNat, 496]

def k0_chk448 (v221 : IVec S16 32) : Prop :=
  (∀ a x, ((![v221] : Fin 1 → IVec S16 32) a x).toNat < S38912.size a)
theorem k0_idx448_inb : ∀ (v221 : IVec S16 32) (k0_hw448 : k0_chk448 v221), ∀ a x, ((![v221] : Fin 1 → IVec S16 32) a x).toNat < S38912.size a := fun v221 k0_hw448 => k0_hw448
@[reducible] def k0_t16_loop : Scf.Loop 32 :=
  let c0_i32_152 : BitVec 32 := 0#32
  let c64_i32_153 : BitVec 32 := 64#32
  let v127 : BitVec 32 := Scalar.addi c0_i32_152 c64_i32_153
  let c1_i32_154 : BitVec 32 := 1#32
  ⟨c0_i32_152, v127, c1_i32_154⟩
def k0_off451 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v158 : Index := Scalar.indexCast arg9
  let c0 : Index := 0#32
  ![v158.toNat, 0]

def k0_chk449 (v159 : IVec S16 32) : Prop :=
  (∀ a x, ((![v159] : Fin 1 → IVec S16 32) a x).toNat < S38912.size a)
theorem k0_idx449_inb : ∀ (v159 : IVec S16 32) (k0_hw449 : k0_chk449 v159), ∀ a x, ((![v159] : Fin 1 → IVec S16 32) a x).toNat < S38912.size a := fun v159 k0_hw449 => k0_hw449
def k0_off452 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v160 : Index := Scalar.indexCast arg9
  let c16 : Index := 16#32
  ![v160.toNat, 16]

def k0_chk450 (v161 : IVec S16 32) : Prop :=
  (∀ a x, ((![v161] : Fin 1 → IVec S16 32) a x).toNat < S38912.size a)
theorem k0_idx450_inb : ∀ (v161 : IVec S16 32) (k0_hw450 : k0_chk450 v161), ∀ a x, ((![v161] : Fin 1 → IVec S16 32) a x).toNat < S38912.size a := fun v161 k0_hw450 => k0_hw450
def k0_off453 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v162 : Index := Scalar.indexCast arg9
  let c32 : Index := 32#32
  ![v162.toNat, 32]

def k0_chk451 (v163 : IVec S16 32) : Prop :=
  (∀ a x, ((![v163] : Fin 1 → IVec S16 32) a x).toNat < S38912.size a)
theorem k0_idx451_inb : ∀ (v163 : IVec S16 32) (k0_hw451 : k0_chk451 v163), ∀ a x, ((![v163] : Fin 1 → IVec S16 32) a x).toNat < S38912.size a := fun v163 k0_hw451 => k0_hw451
def k0_off454 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v164 : Index := Scalar.indexCast arg9
  let c48 : Index := 48#32
  ![v164.toNat, 48]

def k0_chk452 (v165 : IVec S16 32) : Prop :=
  (∀ a x, ((![v165] : Fin 1 → IVec S16 32) a x).toNat < S38912.size a)
theorem k0_idx452_inb : ∀ (v165 : IVec S16 32) (k0_hw452 : k0_chk452 v165), ∀ a x, ((![v165] : Fin 1 → IVec S16 32) a x).toNat < S38912.size a := fun v165 k0_hw452 => k0_hw452
def k0_off455 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v166 : Index := Scalar.indexCast arg9
  let c64 : Index := 64#32
  ![v166.toNat, 64]

def k0_chk453 (v167 : IVec S16 32) : Prop :=
  (∀ a x, ((![v167] : Fin 1 → IVec S16 32) a x).toNat < S38912.size a)
theorem k0_idx453_inb : ∀ (v167 : IVec S16 32) (k0_hw453 : k0_chk453 v167), ∀ a x, ((![v167] : Fin 1 → IVec S16 32) a x).toNat < S38912.size a := fun v167 k0_hw453 => k0_hw453
def k0_off456 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v168 : Index := Scalar.indexCast arg9
  let c80 : Index := 80#32
  ![v168.toNat, 80]

def k0_chk454 (v169 : IVec S16 32) : Prop :=
  (∀ a x, ((![v169] : Fin 1 → IVec S16 32) a x).toNat < S38912.size a)
theorem k0_idx454_inb : ∀ (v169 : IVec S16 32) (k0_hw454 : k0_chk454 v169), ∀ a x, ((![v169] : Fin 1 → IVec S16 32) a x).toNat < S38912.size a := fun v169 k0_hw454 => k0_hw454
def k0_off457 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v170 : Index := Scalar.indexCast arg9
  let c96 : Index := 96#32
  ![v170.toNat, 96]

def k0_chk455 (v171 : IVec S16 32) : Prop :=
  (∀ a x, ((![v171] : Fin 1 → IVec S16 32) a x).toNat < S38912.size a)
theorem k0_idx455_inb : ∀ (v171 : IVec S16 32) (k0_hw455 : k0_chk455 v171), ∀ a x, ((![v171] : Fin 1 → IVec S16 32) a x).toNat < S38912.size a := fun v171 k0_hw455 => k0_hw455
def k0_off458 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v172 : Index := Scalar.indexCast arg9
  let c112 : Index := 112#32
  ![v172.toNat, 112]

def k0_chk456 (v173 : IVec S16 32) : Prop :=
  (∀ a x, ((![v173] : Fin 1 → IVec S16 32) a x).toNat < S38912.size a)
theorem k0_idx456_inb : ∀ (v173 : IVec S16 32) (k0_hw456 : k0_chk456 v173), ∀ a x, ((![v173] : Fin 1 → IVec S16 32) a x).toNat < S38912.size a := fun v173 k0_hw456 => k0_hw456
def k0_off459 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v174 : Index := Scalar.indexCast arg9
  let c128 : Index := 128#32
  ![v174.toNat, 128]

def k0_chk457 (v175 : IVec S16 32) : Prop :=
  (∀ a x, ((![v175] : Fin 1 → IVec S16 32) a x).toNat < S38912.size a)
theorem k0_idx457_inb : ∀ (v175 : IVec S16 32) (k0_hw457 : k0_chk457 v175), ∀ a x, ((![v175] : Fin 1 → IVec S16 32) a x).toNat < S38912.size a := fun v175 k0_hw457 => k0_hw457
def k0_off460 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v176 : Index := Scalar.indexCast arg9
  let c144 : Index := 144#32
  ![v176.toNat, 144]

def k0_chk458 (v177 : IVec S16 32) : Prop :=
  (∀ a x, ((![v177] : Fin 1 → IVec S16 32) a x).toNat < S38912.size a)
theorem k0_idx458_inb : ∀ (v177 : IVec S16 32) (k0_hw458 : k0_chk458 v177), ∀ a x, ((![v177] : Fin 1 → IVec S16 32) a x).toNat < S38912.size a := fun v177 k0_hw458 => k0_hw458
def k0_off461 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v178 : Index := Scalar.indexCast arg9
  let c160 : Index := 160#32
  ![v178.toNat, 160]

def k0_chk459 (v179 : IVec S16 32) : Prop :=
  (∀ a x, ((![v179] : Fin 1 → IVec S16 32) a x).toNat < S38912.size a)
theorem k0_idx459_inb : ∀ (v179 : IVec S16 32) (k0_hw459 : k0_chk459 v179), ∀ a x, ((![v179] : Fin 1 → IVec S16 32) a x).toNat < S38912.size a := fun v179 k0_hw459 => k0_hw459
def k0_off462 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v180 : Index := Scalar.indexCast arg9
  let c176 : Index := 176#32
  ![v180.toNat, 176]

def k0_chk460 (v181 : IVec S16 32) : Prop :=
  (∀ a x, ((![v181] : Fin 1 → IVec S16 32) a x).toNat < S38912.size a)
theorem k0_idx460_inb : ∀ (v181 : IVec S16 32) (k0_hw460 : k0_chk460 v181), ∀ a x, ((![v181] : Fin 1 → IVec S16 32) a x).toNat < S38912.size a := fun v181 k0_hw460 => k0_hw460
def k0_off463 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v182 : Index := Scalar.indexCast arg9
  let c192 : Index := 192#32
  ![v182.toNat, 192]

def k0_chk461 (v183 : IVec S16 32) : Prop :=
  (∀ a x, ((![v183] : Fin 1 → IVec S16 32) a x).toNat < S38912.size a)
theorem k0_idx461_inb : ∀ (v183 : IVec S16 32) (k0_hw461 : k0_chk461 v183), ∀ a x, ((![v183] : Fin 1 → IVec S16 32) a x).toNat < S38912.size a := fun v183 k0_hw461 => k0_hw461
def k0_off464 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v184 : Index := Scalar.indexCast arg9
  let c208 : Index := 208#32
  ![v184.toNat, 208]

def k0_chk462 (v185 : IVec S16 32) : Prop :=
  (∀ a x, ((![v185] : Fin 1 → IVec S16 32) a x).toNat < S38912.size a)
theorem k0_idx462_inb : ∀ (v185 : IVec S16 32) (k0_hw462 : k0_chk462 v185), ∀ a x, ((![v185] : Fin 1 → IVec S16 32) a x).toNat < S38912.size a := fun v185 k0_hw462 => k0_hw462
def k0_off465 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v186 : Index := Scalar.indexCast arg9
  let c224 : Index := 224#32
  ![v186.toNat, 224]

def k0_chk463 (v187 : IVec S16 32) : Prop :=
  (∀ a x, ((![v187] : Fin 1 → IVec S16 32) a x).toNat < S38912.size a)
theorem k0_idx463_inb : ∀ (v187 : IVec S16 32) (k0_hw463 : k0_chk463 v187), ∀ a x, ((![v187] : Fin 1 → IVec S16 32) a x).toNat < S38912.size a := fun v187 k0_hw463 => k0_hw463
def k0_off466 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v188 : Index := Scalar.indexCast arg9
  let c240 : Index := 240#32
  ![v188.toNat, 240]

def k0_chk464 (v189 : IVec S16 32) : Prop :=
  (∀ a x, ((![v189] : Fin 1 → IVec S16 32) a x).toNat < S38912.size a)
theorem k0_idx464_inb : ∀ (v189 : IVec S16 32) (k0_hw464 : k0_chk464 v189), ∀ a x, ((![v189] : Fin 1 → IVec S16 32) a x).toNat < S38912.size a := fun v189 k0_hw464 => k0_hw464
def k0_off467 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v190 : Index := Scalar.indexCast arg9
  let c256 : Index := 256#32
  ![v190.toNat, 256]

def k0_chk465 (v191 : IVec S16 32) : Prop :=
  (∀ a x, ((![v191] : Fin 1 → IVec S16 32) a x).toNat < S38912.size a)
theorem k0_idx465_inb : ∀ (v191 : IVec S16 32) (k0_hw465 : k0_chk465 v191), ∀ a x, ((![v191] : Fin 1 → IVec S16 32) a x).toNat < S38912.size a := fun v191 k0_hw465 => k0_hw465
def k0_off468 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v192 : Index := Scalar.indexCast arg9
  let c272 : Index := 272#32
  ![v192.toNat, 272]

def k0_chk466 (v193 : IVec S16 32) : Prop :=
  (∀ a x, ((![v193] : Fin 1 → IVec S16 32) a x).toNat < S38912.size a)
theorem k0_idx466_inb : ∀ (v193 : IVec S16 32) (k0_hw466 : k0_chk466 v193), ∀ a x, ((![v193] : Fin 1 → IVec S16 32) a x).toNat < S38912.size a := fun v193 k0_hw466 => k0_hw466
def k0_off469 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v194 : Index := Scalar.indexCast arg9
  let c288 : Index := 288#32
  ![v194.toNat, 288]

def k0_chk467 (v195 : IVec S16 32) : Prop :=
  (∀ a x, ((![v195] : Fin 1 → IVec S16 32) a x).toNat < S38912.size a)
theorem k0_idx467_inb : ∀ (v195 : IVec S16 32) (k0_hw467 : k0_chk467 v195), ∀ a x, ((![v195] : Fin 1 → IVec S16 32) a x).toNat < S38912.size a := fun v195 k0_hw467 => k0_hw467
def k0_off470 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v196 : Index := Scalar.indexCast arg9
  let c304 : Index := 304#32
  ![v196.toNat, 304]

def k0_chk468 (v197 : IVec S16 32) : Prop :=
  (∀ a x, ((![v197] : Fin 1 → IVec S16 32) a x).toNat < S38912.size a)
theorem k0_idx468_inb : ∀ (v197 : IVec S16 32) (k0_hw468 : k0_chk468 v197), ∀ a x, ((![v197] : Fin 1 → IVec S16 32) a x).toNat < S38912.size a := fun v197 k0_hw468 => k0_hw468
def k0_off471 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v198 : Index := Scalar.indexCast arg9
  let c320 : Index := 320#32
  ![v198.toNat, 320]

def k0_chk469 (v199 : IVec S16 32) : Prop :=
  (∀ a x, ((![v199] : Fin 1 → IVec S16 32) a x).toNat < S38912.size a)
theorem k0_idx469_inb : ∀ (v199 : IVec S16 32) (k0_hw469 : k0_chk469 v199), ∀ a x, ((![v199] : Fin 1 → IVec S16 32) a x).toNat < S38912.size a := fun v199 k0_hw469 => k0_hw469
def k0_off472 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v200 : Index := Scalar.indexCast arg9
  let c336 : Index := 336#32
  ![v200.toNat, 336]

def k0_chk470 (v201 : IVec S16 32) : Prop :=
  (∀ a x, ((![v201] : Fin 1 → IVec S16 32) a x).toNat < S38912.size a)
theorem k0_idx470_inb : ∀ (v201 : IVec S16 32) (k0_hw470 : k0_chk470 v201), ∀ a x, ((![v201] : Fin 1 → IVec S16 32) a x).toNat < S38912.size a := fun v201 k0_hw470 => k0_hw470
def k0_off473 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v202 : Index := Scalar.indexCast arg9
  let c352 : Index := 352#32
  ![v202.toNat, 352]

def k0_chk471 (v203 : IVec S16 32) : Prop :=
  (∀ a x, ((![v203] : Fin 1 → IVec S16 32) a x).toNat < S38912.size a)
theorem k0_idx471_inb : ∀ (v203 : IVec S16 32) (k0_hw471 : k0_chk471 v203), ∀ a x, ((![v203] : Fin 1 → IVec S16 32) a x).toNat < S38912.size a := fun v203 k0_hw471 => k0_hw471
def k0_off474 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v204 : Index := Scalar.indexCast arg9
  let c368 : Index := 368#32
  ![v204.toNat, 368]

def k0_chk472 (v205 : IVec S16 32) : Prop :=
  (∀ a x, ((![v205] : Fin 1 → IVec S16 32) a x).toNat < S38912.size a)
theorem k0_idx472_inb : ∀ (v205 : IVec S16 32) (k0_hw472 : k0_chk472 v205), ∀ a x, ((![v205] : Fin 1 → IVec S16 32) a x).toNat < S38912.size a := fun v205 k0_hw472 => k0_hw472
def k0_off475 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v206 : Index := Scalar.indexCast arg9
  let c384 : Index := 384#32
  ![v206.toNat, 384]

def k0_chk473 (v207 : IVec S16 32) : Prop :=
  (∀ a x, ((![v207] : Fin 1 → IVec S16 32) a x).toNat < S38912.size a)
theorem k0_idx473_inb : ∀ (v207 : IVec S16 32) (k0_hw473 : k0_chk473 v207), ∀ a x, ((![v207] : Fin 1 → IVec S16 32) a x).toNat < S38912.size a := fun v207 k0_hw473 => k0_hw473
def k0_off476 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v208 : Index := Scalar.indexCast arg9
  let c400 : Index := 400#32
  ![v208.toNat, 400]

def k0_chk474 (v209 : IVec S16 32) : Prop :=
  (∀ a x, ((![v209] : Fin 1 → IVec S16 32) a x).toNat < S38912.size a)
theorem k0_idx474_inb : ∀ (v209 : IVec S16 32) (k0_hw474 : k0_chk474 v209), ∀ a x, ((![v209] : Fin 1 → IVec S16 32) a x).toNat < S38912.size a := fun v209 k0_hw474 => k0_hw474
def k0_off477 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v210 : Index := Scalar.indexCast arg9
  let c416 : Index := 416#32
  ![v210.toNat, 416]

def k0_chk475 (v211 : IVec S16 32) : Prop :=
  (∀ a x, ((![v211] : Fin 1 → IVec S16 32) a x).toNat < S38912.size a)
theorem k0_idx475_inb : ∀ (v211 : IVec S16 32) (k0_hw475 : k0_chk475 v211), ∀ a x, ((![v211] : Fin 1 → IVec S16 32) a x).toNat < S38912.size a := fun v211 k0_hw475 => k0_hw475
def k0_off478 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v212 : Index := Scalar.indexCast arg9
  let c432 : Index := 432#32
  ![v212.toNat, 432]

def k0_chk476 (v213 : IVec S16 32) : Prop :=
  (∀ a x, ((![v213] : Fin 1 → IVec S16 32) a x).toNat < S38912.size a)
theorem k0_idx476_inb : ∀ (v213 : IVec S16 32) (k0_hw476 : k0_chk476 v213), ∀ a x, ((![v213] : Fin 1 → IVec S16 32) a x).toNat < S38912.size a := fun v213 k0_hw476 => k0_hw476
def k0_off479 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v214 : Index := Scalar.indexCast arg9
  let c448 : Index := 448#32
  ![v214.toNat, 448]

def k0_chk477 (v215 : IVec S16 32) : Prop :=
  (∀ a x, ((![v215] : Fin 1 → IVec S16 32) a x).toNat < S38912.size a)
theorem k0_idx477_inb : ∀ (v215 : IVec S16 32) (k0_hw477 : k0_chk477 v215), ∀ a x, ((![v215] : Fin 1 → IVec S16 32) a x).toNat < S38912.size a := fun v215 k0_hw477 => k0_hw477
def k0_off480 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v216 : Index := Scalar.indexCast arg9
  let c464 : Index := 464#32
  ![v216.toNat, 464]

def k0_chk478 (v217 : IVec S16 32) : Prop :=
  (∀ a x, ((![v217] : Fin 1 → IVec S16 32) a x).toNat < S38912.size a)
theorem k0_idx478_inb : ∀ (v217 : IVec S16 32) (k0_hw478 : k0_chk478 v217), ∀ a x, ((![v217] : Fin 1 → IVec S16 32) a x).toNat < S38912.size a := fun v217 k0_hw478 => k0_hw478
def k0_off481 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v218 : Index := Scalar.indexCast arg9
  let c480 : Index := 480#32
  ![v218.toNat, 480]

def k0_chk479 (v219 : IVec S16 32) : Prop :=
  (∀ a x, ((![v219] : Fin 1 → IVec S16 32) a x).toNat < S38912.size a)
theorem k0_idx479_inb : ∀ (v219 : IVec S16 32) (k0_hw479 : k0_chk479 v219), ∀ a x, ((![v219] : Fin 1 → IVec S16 32) a x).toNat < S38912.size a := fun v219 k0_hw479 => k0_hw479
def k0_off482 (k0_t16 : Fin k0_t16_loop.trips) : Fin 2 → Nat :=
  let c0_i32_152 : BitVec 32 := 0#32
  let c1_i32_154 : BitVec 32 := 1#32
  let arg9 : BitVec 32 := Scf.iv c0_i32_152 c1_i32_154 k0_t16
  let v220 : Index := Scalar.indexCast arg9
  let c496 : Index := 496#32
  ![v220.toNat, 496]

def k0_chk480 (v221 : IVec S16 32) : Prop :=
  (∀ a x, ((![v221] : Fin 1 → IVec S16 32) a x).toNat < S38912.size a)
theorem k0_idx480_inb : ∀ (v221 : IVec S16 32) (k0_hw480 : k0_chk480 v221), ∀ a x, ((![v221] : Fin 1 → IVec S16 32) a x).toNat < S38912.size a := fun v221 k0_hw480 => k0_hw480
@[reducible] def k0_t17_loop : Scf.Loop 32 :=
  let c0_i32_162 : BitVec 32 := 0#32
  let c64_i32_163 : BitVec 32 := 64#32
  let v135 : BitVec 32 := Scalar.addi c0_i32_162 c64_i32_163
  let c1_i32_164 : BitVec 32 := 1#32
  ⟨c0_i32_162, v135, c1_i32_164⟩
def k0_off483 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v158 : Index := Scalar.indexCast arg9
  let c0 : Index := 0#32
  ![v158.toNat, 0]

def k0_chk481 (v159 : IVec S16 32) : Prop :=
  (∀ a x, ((![v159] : Fin 1 → IVec S16 32) a x).toNat < S38912.size a)
theorem k0_idx481_inb : ∀ (v159 : IVec S16 32) (k0_hw481 : k0_chk481 v159), ∀ a x, ((![v159] : Fin 1 → IVec S16 32) a x).toNat < S38912.size a := fun v159 k0_hw481 => k0_hw481
def k0_off484 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v160 : Index := Scalar.indexCast arg9
  let c16 : Index := 16#32
  ![v160.toNat, 16]

def k0_chk482 (v161 : IVec S16 32) : Prop :=
  (∀ a x, ((![v161] : Fin 1 → IVec S16 32) a x).toNat < S38912.size a)
theorem k0_idx482_inb : ∀ (v161 : IVec S16 32) (k0_hw482 : k0_chk482 v161), ∀ a x, ((![v161] : Fin 1 → IVec S16 32) a x).toNat < S38912.size a := fun v161 k0_hw482 => k0_hw482
def k0_off485 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v162 : Index := Scalar.indexCast arg9
  let c32 : Index := 32#32
  ![v162.toNat, 32]

def k0_chk483 (v163 : IVec S16 32) : Prop :=
  (∀ a x, ((![v163] : Fin 1 → IVec S16 32) a x).toNat < S38912.size a)
theorem k0_idx483_inb : ∀ (v163 : IVec S16 32) (k0_hw483 : k0_chk483 v163), ∀ a x, ((![v163] : Fin 1 → IVec S16 32) a x).toNat < S38912.size a := fun v163 k0_hw483 => k0_hw483
def k0_off486 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v164 : Index := Scalar.indexCast arg9
  let c48 : Index := 48#32
  ![v164.toNat, 48]

def k0_chk484 (v165 : IVec S16 32) : Prop :=
  (∀ a x, ((![v165] : Fin 1 → IVec S16 32) a x).toNat < S38912.size a)
theorem k0_idx484_inb : ∀ (v165 : IVec S16 32) (k0_hw484 : k0_chk484 v165), ∀ a x, ((![v165] : Fin 1 → IVec S16 32) a x).toNat < S38912.size a := fun v165 k0_hw484 => k0_hw484
def k0_off487 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v166 : Index := Scalar.indexCast arg9
  let c64 : Index := 64#32
  ![v166.toNat, 64]

def k0_chk485 (v167 : IVec S16 32) : Prop :=
  (∀ a x, ((![v167] : Fin 1 → IVec S16 32) a x).toNat < S38912.size a)
theorem k0_idx485_inb : ∀ (v167 : IVec S16 32) (k0_hw485 : k0_chk485 v167), ∀ a x, ((![v167] : Fin 1 → IVec S16 32) a x).toNat < S38912.size a := fun v167 k0_hw485 => k0_hw485
def k0_off488 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v168 : Index := Scalar.indexCast arg9
  let c80 : Index := 80#32
  ![v168.toNat, 80]

def k0_chk486 (v169 : IVec S16 32) : Prop :=
  (∀ a x, ((![v169] : Fin 1 → IVec S16 32) a x).toNat < S38912.size a)
theorem k0_idx486_inb : ∀ (v169 : IVec S16 32) (k0_hw486 : k0_chk486 v169), ∀ a x, ((![v169] : Fin 1 → IVec S16 32) a x).toNat < S38912.size a := fun v169 k0_hw486 => k0_hw486
def k0_off489 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v170 : Index := Scalar.indexCast arg9
  let c96 : Index := 96#32
  ![v170.toNat, 96]

def k0_chk487 (v171 : IVec S16 32) : Prop :=
  (∀ a x, ((![v171] : Fin 1 → IVec S16 32) a x).toNat < S38912.size a)
theorem k0_idx487_inb : ∀ (v171 : IVec S16 32) (k0_hw487 : k0_chk487 v171), ∀ a x, ((![v171] : Fin 1 → IVec S16 32) a x).toNat < S38912.size a := fun v171 k0_hw487 => k0_hw487
def k0_off490 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v172 : Index := Scalar.indexCast arg9
  let c112 : Index := 112#32
  ![v172.toNat, 112]

def k0_chk488 (v173 : IVec S16 32) : Prop :=
  (∀ a x, ((![v173] : Fin 1 → IVec S16 32) a x).toNat < S38912.size a)
theorem k0_idx488_inb : ∀ (v173 : IVec S16 32) (k0_hw488 : k0_chk488 v173), ∀ a x, ((![v173] : Fin 1 → IVec S16 32) a x).toNat < S38912.size a := fun v173 k0_hw488 => k0_hw488
def k0_off491 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v174 : Index := Scalar.indexCast arg9
  let c128 : Index := 128#32
  ![v174.toNat, 128]

def k0_chk489 (v175 : IVec S16 32) : Prop :=
  (∀ a x, ((![v175] : Fin 1 → IVec S16 32) a x).toNat < S38912.size a)
theorem k0_idx489_inb : ∀ (v175 : IVec S16 32) (k0_hw489 : k0_chk489 v175), ∀ a x, ((![v175] : Fin 1 → IVec S16 32) a x).toNat < S38912.size a := fun v175 k0_hw489 => k0_hw489
def k0_off492 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v176 : Index := Scalar.indexCast arg9
  let c144 : Index := 144#32
  ![v176.toNat, 144]

def k0_chk490 (v177 : IVec S16 32) : Prop :=
  (∀ a x, ((![v177] : Fin 1 → IVec S16 32) a x).toNat < S38912.size a)
theorem k0_idx490_inb : ∀ (v177 : IVec S16 32) (k0_hw490 : k0_chk490 v177), ∀ a x, ((![v177] : Fin 1 → IVec S16 32) a x).toNat < S38912.size a := fun v177 k0_hw490 => k0_hw490
def k0_off493 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v178 : Index := Scalar.indexCast arg9
  let c160 : Index := 160#32
  ![v178.toNat, 160]

def k0_chk491 (v179 : IVec S16 32) : Prop :=
  (∀ a x, ((![v179] : Fin 1 → IVec S16 32) a x).toNat < S38912.size a)
theorem k0_idx491_inb : ∀ (v179 : IVec S16 32) (k0_hw491 : k0_chk491 v179), ∀ a x, ((![v179] : Fin 1 → IVec S16 32) a x).toNat < S38912.size a := fun v179 k0_hw491 => k0_hw491
def k0_off494 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v180 : Index := Scalar.indexCast arg9
  let c176 : Index := 176#32
  ![v180.toNat, 176]

def k0_chk492 (v181 : IVec S16 32) : Prop :=
  (∀ a x, ((![v181] : Fin 1 → IVec S16 32) a x).toNat < S38912.size a)
theorem k0_idx492_inb : ∀ (v181 : IVec S16 32) (k0_hw492 : k0_chk492 v181), ∀ a x, ((![v181] : Fin 1 → IVec S16 32) a x).toNat < S38912.size a := fun v181 k0_hw492 => k0_hw492
def k0_off495 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v182 : Index := Scalar.indexCast arg9
  let c192 : Index := 192#32
  ![v182.toNat, 192]

def k0_chk493 (v183 : IVec S16 32) : Prop :=
  (∀ a x, ((![v183] : Fin 1 → IVec S16 32) a x).toNat < S38912.size a)
theorem k0_idx493_inb : ∀ (v183 : IVec S16 32) (k0_hw493 : k0_chk493 v183), ∀ a x, ((![v183] : Fin 1 → IVec S16 32) a x).toNat < S38912.size a := fun v183 k0_hw493 => k0_hw493
def k0_off496 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v184 : Index := Scalar.indexCast arg9
  let c208 : Index := 208#32
  ![v184.toNat, 208]

def k0_chk494 (v185 : IVec S16 32) : Prop :=
  (∀ a x, ((![v185] : Fin 1 → IVec S16 32) a x).toNat < S38912.size a)
theorem k0_idx494_inb : ∀ (v185 : IVec S16 32) (k0_hw494 : k0_chk494 v185), ∀ a x, ((![v185] : Fin 1 → IVec S16 32) a x).toNat < S38912.size a := fun v185 k0_hw494 => k0_hw494
def k0_off497 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v186 : Index := Scalar.indexCast arg9
  let c224 : Index := 224#32
  ![v186.toNat, 224]

def k0_chk495 (v187 : IVec S16 32) : Prop :=
  (∀ a x, ((![v187] : Fin 1 → IVec S16 32) a x).toNat < S38912.size a)
theorem k0_idx495_inb : ∀ (v187 : IVec S16 32) (k0_hw495 : k0_chk495 v187), ∀ a x, ((![v187] : Fin 1 → IVec S16 32) a x).toNat < S38912.size a := fun v187 k0_hw495 => k0_hw495
def k0_off498 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v188 : Index := Scalar.indexCast arg9
  let c240 : Index := 240#32
  ![v188.toNat, 240]

def k0_chk496 (v189 : IVec S16 32) : Prop :=
  (∀ a x, ((![v189] : Fin 1 → IVec S16 32) a x).toNat < S38912.size a)
theorem k0_idx496_inb : ∀ (v189 : IVec S16 32) (k0_hw496 : k0_chk496 v189), ∀ a x, ((![v189] : Fin 1 → IVec S16 32) a x).toNat < S38912.size a := fun v189 k0_hw496 => k0_hw496
def k0_off499 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v190 : Index := Scalar.indexCast arg9
  let c256 : Index := 256#32
  ![v190.toNat, 256]

def k0_chk497 (v191 : IVec S16 32) : Prop :=
  (∀ a x, ((![v191] : Fin 1 → IVec S16 32) a x).toNat < S38912.size a)
theorem k0_idx497_inb : ∀ (v191 : IVec S16 32) (k0_hw497 : k0_chk497 v191), ∀ a x, ((![v191] : Fin 1 → IVec S16 32) a x).toNat < S38912.size a := fun v191 k0_hw497 => k0_hw497
def k0_off500 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v192 : Index := Scalar.indexCast arg9
  let c272 : Index := 272#32
  ![v192.toNat, 272]

def k0_chk498 (v193 : IVec S16 32) : Prop :=
  (∀ a x, ((![v193] : Fin 1 → IVec S16 32) a x).toNat < S38912.size a)
theorem k0_idx498_inb : ∀ (v193 : IVec S16 32) (k0_hw498 : k0_chk498 v193), ∀ a x, ((![v193] : Fin 1 → IVec S16 32) a x).toNat < S38912.size a := fun v193 k0_hw498 => k0_hw498
def k0_off501 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v194 : Index := Scalar.indexCast arg9
  let c288 : Index := 288#32
  ![v194.toNat, 288]

def k0_chk499 (v195 : IVec S16 32) : Prop :=
  (∀ a x, ((![v195] : Fin 1 → IVec S16 32) a x).toNat < S38912.size a)
theorem k0_idx499_inb : ∀ (v195 : IVec S16 32) (k0_hw499 : k0_chk499 v195), ∀ a x, ((![v195] : Fin 1 → IVec S16 32) a x).toNat < S38912.size a := fun v195 k0_hw499 => k0_hw499
def k0_off502 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v196 : Index := Scalar.indexCast arg9
  let c304 : Index := 304#32
  ![v196.toNat, 304]

def k0_chk500 (v197 : IVec S16 32) : Prop :=
  (∀ a x, ((![v197] : Fin 1 → IVec S16 32) a x).toNat < S38912.size a)
theorem k0_idx500_inb : ∀ (v197 : IVec S16 32) (k0_hw500 : k0_chk500 v197), ∀ a x, ((![v197] : Fin 1 → IVec S16 32) a x).toNat < S38912.size a := fun v197 k0_hw500 => k0_hw500
def k0_off503 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v198 : Index := Scalar.indexCast arg9
  let c320 : Index := 320#32
  ![v198.toNat, 320]

def k0_chk501 (v199 : IVec S16 32) : Prop :=
  (∀ a x, ((![v199] : Fin 1 → IVec S16 32) a x).toNat < S38912.size a)
theorem k0_idx501_inb : ∀ (v199 : IVec S16 32) (k0_hw501 : k0_chk501 v199), ∀ a x, ((![v199] : Fin 1 → IVec S16 32) a x).toNat < S38912.size a := fun v199 k0_hw501 => k0_hw501
def k0_off504 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v200 : Index := Scalar.indexCast arg9
  let c336 : Index := 336#32
  ![v200.toNat, 336]

def k0_chk502 (v201 : IVec S16 32) : Prop :=
  (∀ a x, ((![v201] : Fin 1 → IVec S16 32) a x).toNat < S38912.size a)
theorem k0_idx502_inb : ∀ (v201 : IVec S16 32) (k0_hw502 : k0_chk502 v201), ∀ a x, ((![v201] : Fin 1 → IVec S16 32) a x).toNat < S38912.size a := fun v201 k0_hw502 => k0_hw502
def k0_off505 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v202 : Index := Scalar.indexCast arg9
  let c352 : Index := 352#32
  ![v202.toNat, 352]

def k0_chk503 (v203 : IVec S16 32) : Prop :=
  (∀ a x, ((![v203] : Fin 1 → IVec S16 32) a x).toNat < S38912.size a)
theorem k0_idx503_inb : ∀ (v203 : IVec S16 32) (k0_hw503 : k0_chk503 v203), ∀ a x, ((![v203] : Fin 1 → IVec S16 32) a x).toNat < S38912.size a := fun v203 k0_hw503 => k0_hw503
def k0_off506 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v204 : Index := Scalar.indexCast arg9
  let c368 : Index := 368#32
  ![v204.toNat, 368]

def k0_chk504 (v205 : IVec S16 32) : Prop :=
  (∀ a x, ((![v205] : Fin 1 → IVec S16 32) a x).toNat < S38912.size a)
theorem k0_idx504_inb : ∀ (v205 : IVec S16 32) (k0_hw504 : k0_chk504 v205), ∀ a x, ((![v205] : Fin 1 → IVec S16 32) a x).toNat < S38912.size a := fun v205 k0_hw504 => k0_hw504
def k0_off507 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v206 : Index := Scalar.indexCast arg9
  let c384 : Index := 384#32
  ![v206.toNat, 384]

def k0_chk505 (v207 : IVec S16 32) : Prop :=
  (∀ a x, ((![v207] : Fin 1 → IVec S16 32) a x).toNat < S38912.size a)
theorem k0_idx505_inb : ∀ (v207 : IVec S16 32) (k0_hw505 : k0_chk505 v207), ∀ a x, ((![v207] : Fin 1 → IVec S16 32) a x).toNat < S38912.size a := fun v207 k0_hw505 => k0_hw505
def k0_off508 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v208 : Index := Scalar.indexCast arg9
  let c400 : Index := 400#32
  ![v208.toNat, 400]

def k0_chk506 (v209 : IVec S16 32) : Prop :=
  (∀ a x, ((![v209] : Fin 1 → IVec S16 32) a x).toNat < S38912.size a)
theorem k0_idx506_inb : ∀ (v209 : IVec S16 32) (k0_hw506 : k0_chk506 v209), ∀ a x, ((![v209] : Fin 1 → IVec S16 32) a x).toNat < S38912.size a := fun v209 k0_hw506 => k0_hw506
def k0_off509 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v210 : Index := Scalar.indexCast arg9
  let c416 : Index := 416#32
  ![v210.toNat, 416]

def k0_chk507 (v211 : IVec S16 32) : Prop :=
  (∀ a x, ((![v211] : Fin 1 → IVec S16 32) a x).toNat < S38912.size a)
theorem k0_idx507_inb : ∀ (v211 : IVec S16 32) (k0_hw507 : k0_chk507 v211), ∀ a x, ((![v211] : Fin 1 → IVec S16 32) a x).toNat < S38912.size a := fun v211 k0_hw507 => k0_hw507
def k0_off510 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v212 : Index := Scalar.indexCast arg9
  let c432 : Index := 432#32
  ![v212.toNat, 432]

def k0_chk508 (v213 : IVec S16 32) : Prop :=
  (∀ a x, ((![v213] : Fin 1 → IVec S16 32) a x).toNat < S38912.size a)
theorem k0_idx508_inb : ∀ (v213 : IVec S16 32) (k0_hw508 : k0_chk508 v213), ∀ a x, ((![v213] : Fin 1 → IVec S16 32) a x).toNat < S38912.size a := fun v213 k0_hw508 => k0_hw508
def k0_off511 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v214 : Index := Scalar.indexCast arg9
  let c448 : Index := 448#32
  ![v214.toNat, 448]

def k0_chk509 (v215 : IVec S16 32) : Prop :=
  (∀ a x, ((![v215] : Fin 1 → IVec S16 32) a x).toNat < S38912.size a)
theorem k0_idx509_inb : ∀ (v215 : IVec S16 32) (k0_hw509 : k0_chk509 v215), ∀ a x, ((![v215] : Fin 1 → IVec S16 32) a x).toNat < S38912.size a := fun v215 k0_hw509 => k0_hw509
def k0_off512 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v216 : Index := Scalar.indexCast arg9
  let c464 : Index := 464#32
  ![v216.toNat, 464]

def k0_chk510 (v217 : IVec S16 32) : Prop :=
  (∀ a x, ((![v217] : Fin 1 → IVec S16 32) a x).toNat < S38912.size a)
theorem k0_idx510_inb : ∀ (v217 : IVec S16 32) (k0_hw510 : k0_chk510 v217), ∀ a x, ((![v217] : Fin 1 → IVec S16 32) a x).toNat < S38912.size a := fun v217 k0_hw510 => k0_hw510
def k0_off513 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v218 : Index := Scalar.indexCast arg9
  let c480 : Index := 480#32
  ![v218.toNat, 480]

def k0_chk511 (v219 : IVec S16 32) : Prop :=
  (∀ a x, ((![v219] : Fin 1 → IVec S16 32) a x).toNat < S38912.size a)
theorem k0_idx511_inb : ∀ (v219 : IVec S16 32) (k0_hw511 : k0_chk511 v219), ∀ a x, ((![v219] : Fin 1 → IVec S16 32) a x).toNat < S38912.size a := fun v219 k0_hw511 => k0_hw511
def k0_off514 (k0_t17 : Fin k0_t17_loop.trips) : Fin 2 → Nat :=
  let c0_i32_162 : BitVec 32 := 0#32
  let c1_i32_164 : BitVec 32 := 1#32
  let arg9 : BitVec 32 := Scf.iv c0_i32_162 c1_i32_164 k0_t17
  let v220 : Index := Scalar.indexCast arg9
  let c496 : Index := 496#32
  ![v220.toNat, 496]

def k0_chk512 (v221 : IVec S16 32) : Prop :=
  (∀ a x, ((![v221] : Fin 1 → IVec S16 32) a x).toNat < S38912.size a)
theorem k0_idx512_inb : ∀ (v221 : IVec S16 32) (k0_hw512 : k0_chk512 v221), ∀ a x, ((![v221] : Fin 1 → IVec S16 32) a x).toNat < S38912.size a := fun v221 k0_hw512 => k0_hw512
@[reducible] def k0_t18_loop : Scf.Loop 32 :=
  let c0_i32_172 : BitVec 32 := 0#32
  let c64_i32_173 : BitVec 32 := 64#32
  let v143 : BitVec 32 := Scalar.addi c0_i32_172 c64_i32_173
  let c1_i32_174 : BitVec 32 := 1#32
  ⟨c0_i32_172, v143, c1_i32_174⟩
def k0_off515 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v158 : Index := Scalar.indexCast arg9
  let c0 : Index := 0#32
  ![v158.toNat, 0]

def k0_chk513 (v159 : IVec S16 32) : Prop :=
  (∀ a x, ((![v159] : Fin 1 → IVec S16 32) a x).toNat < S38912.size a)
theorem k0_idx513_inb : ∀ (v159 : IVec S16 32) (k0_hw513 : k0_chk513 v159), ∀ a x, ((![v159] : Fin 1 → IVec S16 32) a x).toNat < S38912.size a := fun v159 k0_hw513 => k0_hw513
def k0_off516 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v160 : Index := Scalar.indexCast arg9
  let c16 : Index := 16#32
  ![v160.toNat, 16]

def k0_chk514 (v161 : IVec S16 32) : Prop :=
  (∀ a x, ((![v161] : Fin 1 → IVec S16 32) a x).toNat < S38912.size a)
theorem k0_idx514_inb : ∀ (v161 : IVec S16 32) (k0_hw514 : k0_chk514 v161), ∀ a x, ((![v161] : Fin 1 → IVec S16 32) a x).toNat < S38912.size a := fun v161 k0_hw514 => k0_hw514
def k0_off517 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v162 : Index := Scalar.indexCast arg9
  let c32 : Index := 32#32
  ![v162.toNat, 32]

def k0_chk515 (v163 : IVec S16 32) : Prop :=
  (∀ a x, ((![v163] : Fin 1 → IVec S16 32) a x).toNat < S38912.size a)
theorem k0_idx515_inb : ∀ (v163 : IVec S16 32) (k0_hw515 : k0_chk515 v163), ∀ a x, ((![v163] : Fin 1 → IVec S16 32) a x).toNat < S38912.size a := fun v163 k0_hw515 => k0_hw515
def k0_off518 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v164 : Index := Scalar.indexCast arg9
  let c48 : Index := 48#32
  ![v164.toNat, 48]

def k0_chk516 (v165 : IVec S16 32) : Prop :=
  (∀ a x, ((![v165] : Fin 1 → IVec S16 32) a x).toNat < S38912.size a)
theorem k0_idx516_inb : ∀ (v165 : IVec S16 32) (k0_hw516 : k0_chk516 v165), ∀ a x, ((![v165] : Fin 1 → IVec S16 32) a x).toNat < S38912.size a := fun v165 k0_hw516 => k0_hw516
def k0_off519 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v166 : Index := Scalar.indexCast arg9
  let c64 : Index := 64#32
  ![v166.toNat, 64]

def k0_chk517 (v167 : IVec S16 32) : Prop :=
  (∀ a x, ((![v167] : Fin 1 → IVec S16 32) a x).toNat < S38912.size a)
theorem k0_idx517_inb : ∀ (v167 : IVec S16 32) (k0_hw517 : k0_chk517 v167), ∀ a x, ((![v167] : Fin 1 → IVec S16 32) a x).toNat < S38912.size a := fun v167 k0_hw517 => k0_hw517
def k0_off520 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v168 : Index := Scalar.indexCast arg9
  let c80 : Index := 80#32
  ![v168.toNat, 80]

def k0_chk518 (v169 : IVec S16 32) : Prop :=
  (∀ a x, ((![v169] : Fin 1 → IVec S16 32) a x).toNat < S38912.size a)
theorem k0_idx518_inb : ∀ (v169 : IVec S16 32) (k0_hw518 : k0_chk518 v169), ∀ a x, ((![v169] : Fin 1 → IVec S16 32) a x).toNat < S38912.size a := fun v169 k0_hw518 => k0_hw518
def k0_off521 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v170 : Index := Scalar.indexCast arg9
  let c96 : Index := 96#32
  ![v170.toNat, 96]

def k0_chk519 (v171 : IVec S16 32) : Prop :=
  (∀ a x, ((![v171] : Fin 1 → IVec S16 32) a x).toNat < S38912.size a)
theorem k0_idx519_inb : ∀ (v171 : IVec S16 32) (k0_hw519 : k0_chk519 v171), ∀ a x, ((![v171] : Fin 1 → IVec S16 32) a x).toNat < S38912.size a := fun v171 k0_hw519 => k0_hw519
def k0_off522 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v172 : Index := Scalar.indexCast arg9
  let c112 : Index := 112#32
  ![v172.toNat, 112]

def k0_chk520 (v173 : IVec S16 32) : Prop :=
  (∀ a x, ((![v173] : Fin 1 → IVec S16 32) a x).toNat < S38912.size a)
theorem k0_idx520_inb : ∀ (v173 : IVec S16 32) (k0_hw520 : k0_chk520 v173), ∀ a x, ((![v173] : Fin 1 → IVec S16 32) a x).toNat < S38912.size a := fun v173 k0_hw520 => k0_hw520
def k0_off523 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v174 : Index := Scalar.indexCast arg9
  let c128 : Index := 128#32
  ![v174.toNat, 128]

def k0_chk521 (v175 : IVec S16 32) : Prop :=
  (∀ a x, ((![v175] : Fin 1 → IVec S16 32) a x).toNat < S38912.size a)
theorem k0_idx521_inb : ∀ (v175 : IVec S16 32) (k0_hw521 : k0_chk521 v175), ∀ a x, ((![v175] : Fin 1 → IVec S16 32) a x).toNat < S38912.size a := fun v175 k0_hw521 => k0_hw521
def k0_off524 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v176 : Index := Scalar.indexCast arg9
  let c144 : Index := 144#32
  ![v176.toNat, 144]

def k0_chk522 (v177 : IVec S16 32) : Prop :=
  (∀ a x, ((![v177] : Fin 1 → IVec S16 32) a x).toNat < S38912.size a)
theorem k0_idx522_inb : ∀ (v177 : IVec S16 32) (k0_hw522 : k0_chk522 v177), ∀ a x, ((![v177] : Fin 1 → IVec S16 32) a x).toNat < S38912.size a := fun v177 k0_hw522 => k0_hw522
def k0_off525 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v178 : Index := Scalar.indexCast arg9
  let c160 : Index := 160#32
  ![v178.toNat, 160]

def k0_chk523 (v179 : IVec S16 32) : Prop :=
  (∀ a x, ((![v179] : Fin 1 → IVec S16 32) a x).toNat < S38912.size a)
theorem k0_idx523_inb : ∀ (v179 : IVec S16 32) (k0_hw523 : k0_chk523 v179), ∀ a x, ((![v179] : Fin 1 → IVec S16 32) a x).toNat < S38912.size a := fun v179 k0_hw523 => k0_hw523
def k0_off526 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v180 : Index := Scalar.indexCast arg9
  let c176 : Index := 176#32
  ![v180.toNat, 176]

def k0_chk524 (v181 : IVec S16 32) : Prop :=
  (∀ a x, ((![v181] : Fin 1 → IVec S16 32) a x).toNat < S38912.size a)
theorem k0_idx524_inb : ∀ (v181 : IVec S16 32) (k0_hw524 : k0_chk524 v181), ∀ a x, ((![v181] : Fin 1 → IVec S16 32) a x).toNat < S38912.size a := fun v181 k0_hw524 => k0_hw524
def k0_off527 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v182 : Index := Scalar.indexCast arg9
  let c192 : Index := 192#32
  ![v182.toNat, 192]

def k0_chk525 (v183 : IVec S16 32) : Prop :=
  (∀ a x, ((![v183] : Fin 1 → IVec S16 32) a x).toNat < S38912.size a)
theorem k0_idx525_inb : ∀ (v183 : IVec S16 32) (k0_hw525 : k0_chk525 v183), ∀ a x, ((![v183] : Fin 1 → IVec S16 32) a x).toNat < S38912.size a := fun v183 k0_hw525 => k0_hw525
def k0_off528 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v184 : Index := Scalar.indexCast arg9
  let c208 : Index := 208#32
  ![v184.toNat, 208]

def k0_chk526 (v185 : IVec S16 32) : Prop :=
  (∀ a x, ((![v185] : Fin 1 → IVec S16 32) a x).toNat < S38912.size a)
theorem k0_idx526_inb : ∀ (v185 : IVec S16 32) (k0_hw526 : k0_chk526 v185), ∀ a x, ((![v185] : Fin 1 → IVec S16 32) a x).toNat < S38912.size a := fun v185 k0_hw526 => k0_hw526
def k0_off529 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v186 : Index := Scalar.indexCast arg9
  let c224 : Index := 224#32
  ![v186.toNat, 224]

def k0_chk527 (v187 : IVec S16 32) : Prop :=
  (∀ a x, ((![v187] : Fin 1 → IVec S16 32) a x).toNat < S38912.size a)
theorem k0_idx527_inb : ∀ (v187 : IVec S16 32) (k0_hw527 : k0_chk527 v187), ∀ a x, ((![v187] : Fin 1 → IVec S16 32) a x).toNat < S38912.size a := fun v187 k0_hw527 => k0_hw527
def k0_off530 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v188 : Index := Scalar.indexCast arg9
  let c240 : Index := 240#32
  ![v188.toNat, 240]

def k0_chk528 (v189 : IVec S16 32) : Prop :=
  (∀ a x, ((![v189] : Fin 1 → IVec S16 32) a x).toNat < S38912.size a)
theorem k0_idx528_inb : ∀ (v189 : IVec S16 32) (k0_hw528 : k0_chk528 v189), ∀ a x, ((![v189] : Fin 1 → IVec S16 32) a x).toNat < S38912.size a := fun v189 k0_hw528 => k0_hw528
def k0_off531 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v190 : Index := Scalar.indexCast arg9
  let c256 : Index := 256#32
  ![v190.toNat, 256]

def k0_chk529 (v191 : IVec S16 32) : Prop :=
  (∀ a x, ((![v191] : Fin 1 → IVec S16 32) a x).toNat < S38912.size a)
theorem k0_idx529_inb : ∀ (v191 : IVec S16 32) (k0_hw529 : k0_chk529 v191), ∀ a x, ((![v191] : Fin 1 → IVec S16 32) a x).toNat < S38912.size a := fun v191 k0_hw529 => k0_hw529
def k0_off532 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v192 : Index := Scalar.indexCast arg9
  let c272 : Index := 272#32
  ![v192.toNat, 272]

def k0_chk530 (v193 : IVec S16 32) : Prop :=
  (∀ a x, ((![v193] : Fin 1 → IVec S16 32) a x).toNat < S38912.size a)
theorem k0_idx530_inb : ∀ (v193 : IVec S16 32) (k0_hw530 : k0_chk530 v193), ∀ a x, ((![v193] : Fin 1 → IVec S16 32) a x).toNat < S38912.size a := fun v193 k0_hw530 => k0_hw530
def k0_off533 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v194 : Index := Scalar.indexCast arg9
  let c288 : Index := 288#32
  ![v194.toNat, 288]

def k0_chk531 (v195 : IVec S16 32) : Prop :=
  (∀ a x, ((![v195] : Fin 1 → IVec S16 32) a x).toNat < S38912.size a)
theorem k0_idx531_inb : ∀ (v195 : IVec S16 32) (k0_hw531 : k0_chk531 v195), ∀ a x, ((![v195] : Fin 1 → IVec S16 32) a x).toNat < S38912.size a := fun v195 k0_hw531 => k0_hw531
def k0_off534 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v196 : Index := Scalar.indexCast arg9
  let c304 : Index := 304#32
  ![v196.toNat, 304]

def k0_chk532 (v197 : IVec S16 32) : Prop :=
  (∀ a x, ((![v197] : Fin 1 → IVec S16 32) a x).toNat < S38912.size a)
theorem k0_idx532_inb : ∀ (v197 : IVec S16 32) (k0_hw532 : k0_chk532 v197), ∀ a x, ((![v197] : Fin 1 → IVec S16 32) a x).toNat < S38912.size a := fun v197 k0_hw532 => k0_hw532
def k0_off535 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v198 : Index := Scalar.indexCast arg9
  let c320 : Index := 320#32
  ![v198.toNat, 320]

def k0_chk533 (v199 : IVec S16 32) : Prop :=
  (∀ a x, ((![v199] : Fin 1 → IVec S16 32) a x).toNat < S38912.size a)
theorem k0_idx533_inb : ∀ (v199 : IVec S16 32) (k0_hw533 : k0_chk533 v199), ∀ a x, ((![v199] : Fin 1 → IVec S16 32) a x).toNat < S38912.size a := fun v199 k0_hw533 => k0_hw533
def k0_off536 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v200 : Index := Scalar.indexCast arg9
  let c336 : Index := 336#32
  ![v200.toNat, 336]

def k0_chk534 (v201 : IVec S16 32) : Prop :=
  (∀ a x, ((![v201] : Fin 1 → IVec S16 32) a x).toNat < S38912.size a)
theorem k0_idx534_inb : ∀ (v201 : IVec S16 32) (k0_hw534 : k0_chk534 v201), ∀ a x, ((![v201] : Fin 1 → IVec S16 32) a x).toNat < S38912.size a := fun v201 k0_hw534 => k0_hw534
def k0_off537 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v202 : Index := Scalar.indexCast arg9
  let c352 : Index := 352#32
  ![v202.toNat, 352]

def k0_chk535 (v203 : IVec S16 32) : Prop :=
  (∀ a x, ((![v203] : Fin 1 → IVec S16 32) a x).toNat < S38912.size a)
theorem k0_idx535_inb : ∀ (v203 : IVec S16 32) (k0_hw535 : k0_chk535 v203), ∀ a x, ((![v203] : Fin 1 → IVec S16 32) a x).toNat < S38912.size a := fun v203 k0_hw535 => k0_hw535
def k0_off538 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v204 : Index := Scalar.indexCast arg9
  let c368 : Index := 368#32
  ![v204.toNat, 368]

def k0_chk536 (v205 : IVec S16 32) : Prop :=
  (∀ a x, ((![v205] : Fin 1 → IVec S16 32) a x).toNat < S38912.size a)
theorem k0_idx536_inb : ∀ (v205 : IVec S16 32) (k0_hw536 : k0_chk536 v205), ∀ a x, ((![v205] : Fin 1 → IVec S16 32) a x).toNat < S38912.size a := fun v205 k0_hw536 => k0_hw536
def k0_off539 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v206 : Index := Scalar.indexCast arg9
  let c384 : Index := 384#32
  ![v206.toNat, 384]

def k0_chk537 (v207 : IVec S16 32) : Prop :=
  (∀ a x, ((![v207] : Fin 1 → IVec S16 32) a x).toNat < S38912.size a)
theorem k0_idx537_inb : ∀ (v207 : IVec S16 32) (k0_hw537 : k0_chk537 v207), ∀ a x, ((![v207] : Fin 1 → IVec S16 32) a x).toNat < S38912.size a := fun v207 k0_hw537 => k0_hw537
def k0_off540 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v208 : Index := Scalar.indexCast arg9
  let c400 : Index := 400#32
  ![v208.toNat, 400]

def k0_chk538 (v209 : IVec S16 32) : Prop :=
  (∀ a x, ((![v209] : Fin 1 → IVec S16 32) a x).toNat < S38912.size a)
theorem k0_idx538_inb : ∀ (v209 : IVec S16 32) (k0_hw538 : k0_chk538 v209), ∀ a x, ((![v209] : Fin 1 → IVec S16 32) a x).toNat < S38912.size a := fun v209 k0_hw538 => k0_hw538
def k0_off541 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v210 : Index := Scalar.indexCast arg9
  let c416 : Index := 416#32
  ![v210.toNat, 416]

def k0_chk539 (v211 : IVec S16 32) : Prop :=
  (∀ a x, ((![v211] : Fin 1 → IVec S16 32) a x).toNat < S38912.size a)
theorem k0_idx539_inb : ∀ (v211 : IVec S16 32) (k0_hw539 : k0_chk539 v211), ∀ a x, ((![v211] : Fin 1 → IVec S16 32) a x).toNat < S38912.size a := fun v211 k0_hw539 => k0_hw539
def k0_off542 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v212 : Index := Scalar.indexCast arg9
  let c432 : Index := 432#32
  ![v212.toNat, 432]

def k0_chk540 (v213 : IVec S16 32) : Prop :=
  (∀ a x, ((![v213] : Fin 1 → IVec S16 32) a x).toNat < S38912.size a)
theorem k0_idx540_inb : ∀ (v213 : IVec S16 32) (k0_hw540 : k0_chk540 v213), ∀ a x, ((![v213] : Fin 1 → IVec S16 32) a x).toNat < S38912.size a := fun v213 k0_hw540 => k0_hw540
def k0_off543 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v214 : Index := Scalar.indexCast arg9
  let c448 : Index := 448#32
  ![v214.toNat, 448]

def k0_chk541 (v215 : IVec S16 32) : Prop :=
  (∀ a x, ((![v215] : Fin 1 → IVec S16 32) a x).toNat < S38912.size a)
theorem k0_idx541_inb : ∀ (v215 : IVec S16 32) (k0_hw541 : k0_chk541 v215), ∀ a x, ((![v215] : Fin 1 → IVec S16 32) a x).toNat < S38912.size a := fun v215 k0_hw541 => k0_hw541
def k0_off544 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v216 : Index := Scalar.indexCast arg9
  let c464 : Index := 464#32
  ![v216.toNat, 464]

def k0_chk542 (v217 : IVec S16 32) : Prop :=
  (∀ a x, ((![v217] : Fin 1 → IVec S16 32) a x).toNat < S38912.size a)
theorem k0_idx542_inb : ∀ (v217 : IVec S16 32) (k0_hw542 : k0_chk542 v217), ∀ a x, ((![v217] : Fin 1 → IVec S16 32) a x).toNat < S38912.size a := fun v217 k0_hw542 => k0_hw542
def k0_off545 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v218 : Index := Scalar.indexCast arg9
  let c480 : Index := 480#32
  ![v218.toNat, 480]

def k0_chk543 (v219 : IVec S16 32) : Prop :=
  (∀ a x, ((![v219] : Fin 1 → IVec S16 32) a x).toNat < S38912.size a)
theorem k0_idx543_inb : ∀ (v219 : IVec S16 32) (k0_hw543 : k0_chk543 v219), ∀ a x, ((![v219] : Fin 1 → IVec S16 32) a x).toNat < S38912.size a := fun v219 k0_hw543 => k0_hw543
def k0_off546 (k0_t18 : Fin k0_t18_loop.trips) : Fin 2 → Nat :=
  let c0_i32_172 : BitVec 32 := 0#32
  let c1_i32_174 : BitVec 32 := 1#32
  let arg9 : BitVec 32 := Scf.iv c0_i32_172 c1_i32_174 k0_t18
  let v220 : Index := Scalar.indexCast arg9
  let c496 : Index := 496#32
  ![v220.toNat, 496]

def k0_chk544 (v221 : IVec S16 32) : Prop :=
  (∀ a x, ((![v221] : Fin 1 → IVec S16 32) a x).toNat < S38912.size a)
theorem k0_idx544_inb : ∀ (v221 : IVec S16 32) (k0_hw544 : k0_chk544 v221), ∀ a x, ((![v221] : Fin 1 → IVec S16 32) a x).toNat < S38912.size a := fun v221 k0_hw544 => k0_hw544
@[reducible] def k0_t19_loop : Scf.Loop 32 :=
  let c0_i32_182 : BitVec 32 := 0#32
  let c64_i32_183 : BitVec 32 := 64#32
  let v151 : BitVec 32 := Scalar.addi c0_i32_182 c64_i32_183
  let c1_i32_184 : BitVec 32 := 1#32
  ⟨c0_i32_182, v151, c1_i32_184⟩
def k0_off547 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v158 : Index := Scalar.indexCast arg9
  let c0 : Index := 0#32
  ![v158.toNat, 0]

def k0_chk545 (v159 : IVec S16 32) : Prop :=
  (∀ a x, ((![v159] : Fin 1 → IVec S16 32) a x).toNat < S38912.size a)
theorem k0_idx545_inb : ∀ (v159 : IVec S16 32) (k0_hw545 : k0_chk545 v159), ∀ a x, ((![v159] : Fin 1 → IVec S16 32) a x).toNat < S38912.size a := fun v159 k0_hw545 => k0_hw545
def k0_off548 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v160 : Index := Scalar.indexCast arg9
  let c16 : Index := 16#32
  ![v160.toNat, 16]

def k0_chk546 (v161 : IVec S16 32) : Prop :=
  (∀ a x, ((![v161] : Fin 1 → IVec S16 32) a x).toNat < S38912.size a)
theorem k0_idx546_inb : ∀ (v161 : IVec S16 32) (k0_hw546 : k0_chk546 v161), ∀ a x, ((![v161] : Fin 1 → IVec S16 32) a x).toNat < S38912.size a := fun v161 k0_hw546 => k0_hw546
def k0_off549 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v162 : Index := Scalar.indexCast arg9
  let c32 : Index := 32#32
  ![v162.toNat, 32]

def k0_chk547 (v163 : IVec S16 32) : Prop :=
  (∀ a x, ((![v163] : Fin 1 → IVec S16 32) a x).toNat < S38912.size a)
theorem k0_idx547_inb : ∀ (v163 : IVec S16 32) (k0_hw547 : k0_chk547 v163), ∀ a x, ((![v163] : Fin 1 → IVec S16 32) a x).toNat < S38912.size a := fun v163 k0_hw547 => k0_hw547
def k0_off550 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v164 : Index := Scalar.indexCast arg9
  let c48 : Index := 48#32
  ![v164.toNat, 48]

def k0_chk548 (v165 : IVec S16 32) : Prop :=
  (∀ a x, ((![v165] : Fin 1 → IVec S16 32) a x).toNat < S38912.size a)
theorem k0_idx548_inb : ∀ (v165 : IVec S16 32) (k0_hw548 : k0_chk548 v165), ∀ a x, ((![v165] : Fin 1 → IVec S16 32) a x).toNat < S38912.size a := fun v165 k0_hw548 => k0_hw548
def k0_off551 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v166 : Index := Scalar.indexCast arg9
  let c64 : Index := 64#32
  ![v166.toNat, 64]

def k0_chk549 (v167 : IVec S16 32) : Prop :=
  (∀ a x, ((![v167] : Fin 1 → IVec S16 32) a x).toNat < S38912.size a)
theorem k0_idx549_inb : ∀ (v167 : IVec S16 32) (k0_hw549 : k0_chk549 v167), ∀ a x, ((![v167] : Fin 1 → IVec S16 32) a x).toNat < S38912.size a := fun v167 k0_hw549 => k0_hw549
def k0_off552 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v168 : Index := Scalar.indexCast arg9
  let c80 : Index := 80#32
  ![v168.toNat, 80]

def k0_chk550 (v169 : IVec S16 32) : Prop :=
  (∀ a x, ((![v169] : Fin 1 → IVec S16 32) a x).toNat < S38912.size a)
theorem k0_idx550_inb : ∀ (v169 : IVec S16 32) (k0_hw550 : k0_chk550 v169), ∀ a x, ((![v169] : Fin 1 → IVec S16 32) a x).toNat < S38912.size a := fun v169 k0_hw550 => k0_hw550
def k0_off553 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v170 : Index := Scalar.indexCast arg9
  let c96 : Index := 96#32
  ![v170.toNat, 96]

def k0_chk551 (v171 : IVec S16 32) : Prop :=
  (∀ a x, ((![v171] : Fin 1 → IVec S16 32) a x).toNat < S38912.size a)
theorem k0_idx551_inb : ∀ (v171 : IVec S16 32) (k0_hw551 : k0_chk551 v171), ∀ a x, ((![v171] : Fin 1 → IVec S16 32) a x).toNat < S38912.size a := fun v171 k0_hw551 => k0_hw551
def k0_off554 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v172 : Index := Scalar.indexCast arg9
  let c112 : Index := 112#32
  ![v172.toNat, 112]

def k0_chk552 (v173 : IVec S16 32) : Prop :=
  (∀ a x, ((![v173] : Fin 1 → IVec S16 32) a x).toNat < S38912.size a)
theorem k0_idx552_inb : ∀ (v173 : IVec S16 32) (k0_hw552 : k0_chk552 v173), ∀ a x, ((![v173] : Fin 1 → IVec S16 32) a x).toNat < S38912.size a := fun v173 k0_hw552 => k0_hw552
def k0_off555 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v174 : Index := Scalar.indexCast arg9
  let c128 : Index := 128#32
  ![v174.toNat, 128]

def k0_chk553 (v175 : IVec S16 32) : Prop :=
  (∀ a x, ((![v175] : Fin 1 → IVec S16 32) a x).toNat < S38912.size a)
theorem k0_idx553_inb : ∀ (v175 : IVec S16 32) (k0_hw553 : k0_chk553 v175), ∀ a x, ((![v175] : Fin 1 → IVec S16 32) a x).toNat < S38912.size a := fun v175 k0_hw553 => k0_hw553
def k0_off556 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v176 : Index := Scalar.indexCast arg9
  let c144 : Index := 144#32
  ![v176.toNat, 144]

def k0_chk554 (v177 : IVec S16 32) : Prop :=
  (∀ a x, ((![v177] : Fin 1 → IVec S16 32) a x).toNat < S38912.size a)
theorem k0_idx554_inb : ∀ (v177 : IVec S16 32) (k0_hw554 : k0_chk554 v177), ∀ a x, ((![v177] : Fin 1 → IVec S16 32) a x).toNat < S38912.size a := fun v177 k0_hw554 => k0_hw554
def k0_off557 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v178 : Index := Scalar.indexCast arg9
  let c160 : Index := 160#32
  ![v178.toNat, 160]

def k0_chk555 (v179 : IVec S16 32) : Prop :=
  (∀ a x, ((![v179] : Fin 1 → IVec S16 32) a x).toNat < S38912.size a)
theorem k0_idx555_inb : ∀ (v179 : IVec S16 32) (k0_hw555 : k0_chk555 v179), ∀ a x, ((![v179] : Fin 1 → IVec S16 32) a x).toNat < S38912.size a := fun v179 k0_hw555 => k0_hw555
def k0_off558 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v180 : Index := Scalar.indexCast arg9
  let c176 : Index := 176#32
  ![v180.toNat, 176]

def k0_chk556 (v181 : IVec S16 32) : Prop :=
  (∀ a x, ((![v181] : Fin 1 → IVec S16 32) a x).toNat < S38912.size a)
theorem k0_idx556_inb : ∀ (v181 : IVec S16 32) (k0_hw556 : k0_chk556 v181), ∀ a x, ((![v181] : Fin 1 → IVec S16 32) a x).toNat < S38912.size a := fun v181 k0_hw556 => k0_hw556
def k0_off559 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v182 : Index := Scalar.indexCast arg9
  let c192 : Index := 192#32
  ![v182.toNat, 192]

def k0_chk557 (v183 : IVec S16 32) : Prop :=
  (∀ a x, ((![v183] : Fin 1 → IVec S16 32) a x).toNat < S38912.size a)
theorem k0_idx557_inb : ∀ (v183 : IVec S16 32) (k0_hw557 : k0_chk557 v183), ∀ a x, ((![v183] : Fin 1 → IVec S16 32) a x).toNat < S38912.size a := fun v183 k0_hw557 => k0_hw557
def k0_off560 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v184 : Index := Scalar.indexCast arg9
  let c208 : Index := 208#32
  ![v184.toNat, 208]

def k0_chk558 (v185 : IVec S16 32) : Prop :=
  (∀ a x, ((![v185] : Fin 1 → IVec S16 32) a x).toNat < S38912.size a)
theorem k0_idx558_inb : ∀ (v185 : IVec S16 32) (k0_hw558 : k0_chk558 v185), ∀ a x, ((![v185] : Fin 1 → IVec S16 32) a x).toNat < S38912.size a := fun v185 k0_hw558 => k0_hw558
def k0_off561 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v186 : Index := Scalar.indexCast arg9
  let c224 : Index := 224#32
  ![v186.toNat, 224]

def k0_chk559 (v187 : IVec S16 32) : Prop :=
  (∀ a x, ((![v187] : Fin 1 → IVec S16 32) a x).toNat < S38912.size a)
theorem k0_idx559_inb : ∀ (v187 : IVec S16 32) (k0_hw559 : k0_chk559 v187), ∀ a x, ((![v187] : Fin 1 → IVec S16 32) a x).toNat < S38912.size a := fun v187 k0_hw559 => k0_hw559
def k0_off562 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v188 : Index := Scalar.indexCast arg9
  let c240 : Index := 240#32
  ![v188.toNat, 240]

def k0_chk560 (v189 : IVec S16 32) : Prop :=
  (∀ a x, ((![v189] : Fin 1 → IVec S16 32) a x).toNat < S38912.size a)
theorem k0_idx560_inb : ∀ (v189 : IVec S16 32) (k0_hw560 : k0_chk560 v189), ∀ a x, ((![v189] : Fin 1 → IVec S16 32) a x).toNat < S38912.size a := fun v189 k0_hw560 => k0_hw560
def k0_off563 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v190 : Index := Scalar.indexCast arg9
  let c256 : Index := 256#32
  ![v190.toNat, 256]

def k0_chk561 (v191 : IVec S16 32) : Prop :=
  (∀ a x, ((![v191] : Fin 1 → IVec S16 32) a x).toNat < S38912.size a)
theorem k0_idx561_inb : ∀ (v191 : IVec S16 32) (k0_hw561 : k0_chk561 v191), ∀ a x, ((![v191] : Fin 1 → IVec S16 32) a x).toNat < S38912.size a := fun v191 k0_hw561 => k0_hw561
def k0_off564 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v192 : Index := Scalar.indexCast arg9
  let c272 : Index := 272#32
  ![v192.toNat, 272]

def k0_chk562 (v193 : IVec S16 32) : Prop :=
  (∀ a x, ((![v193] : Fin 1 → IVec S16 32) a x).toNat < S38912.size a)
theorem k0_idx562_inb : ∀ (v193 : IVec S16 32) (k0_hw562 : k0_chk562 v193), ∀ a x, ((![v193] : Fin 1 → IVec S16 32) a x).toNat < S38912.size a := fun v193 k0_hw562 => k0_hw562
def k0_off565 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v194 : Index := Scalar.indexCast arg9
  let c288 : Index := 288#32
  ![v194.toNat, 288]

def k0_chk563 (v195 : IVec S16 32) : Prop :=
  (∀ a x, ((![v195] : Fin 1 → IVec S16 32) a x).toNat < S38912.size a)
theorem k0_idx563_inb : ∀ (v195 : IVec S16 32) (k0_hw563 : k0_chk563 v195), ∀ a x, ((![v195] : Fin 1 → IVec S16 32) a x).toNat < S38912.size a := fun v195 k0_hw563 => k0_hw563
def k0_off566 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v196 : Index := Scalar.indexCast arg9
  let c304 : Index := 304#32
  ![v196.toNat, 304]

def k0_chk564 (v197 : IVec S16 32) : Prop :=
  (∀ a x, ((![v197] : Fin 1 → IVec S16 32) a x).toNat < S38912.size a)
theorem k0_idx564_inb : ∀ (v197 : IVec S16 32) (k0_hw564 : k0_chk564 v197), ∀ a x, ((![v197] : Fin 1 → IVec S16 32) a x).toNat < S38912.size a := fun v197 k0_hw564 => k0_hw564
def k0_off567 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v198 : Index := Scalar.indexCast arg9
  let c320 : Index := 320#32
  ![v198.toNat, 320]

def k0_chk565 (v199 : IVec S16 32) : Prop :=
  (∀ a x, ((![v199] : Fin 1 → IVec S16 32) a x).toNat < S38912.size a)
theorem k0_idx565_inb : ∀ (v199 : IVec S16 32) (k0_hw565 : k0_chk565 v199), ∀ a x, ((![v199] : Fin 1 → IVec S16 32) a x).toNat < S38912.size a := fun v199 k0_hw565 => k0_hw565
def k0_off568 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v200 : Index := Scalar.indexCast arg9
  let c336 : Index := 336#32
  ![v200.toNat, 336]

def k0_chk566 (v201 : IVec S16 32) : Prop :=
  (∀ a x, ((![v201] : Fin 1 → IVec S16 32) a x).toNat < S38912.size a)
theorem k0_idx566_inb : ∀ (v201 : IVec S16 32) (k0_hw566 : k0_chk566 v201), ∀ a x, ((![v201] : Fin 1 → IVec S16 32) a x).toNat < S38912.size a := fun v201 k0_hw566 => k0_hw566
def k0_off569 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v202 : Index := Scalar.indexCast arg9
  let c352 : Index := 352#32
  ![v202.toNat, 352]

def k0_chk567 (v203 : IVec S16 32) : Prop :=
  (∀ a x, ((![v203] : Fin 1 → IVec S16 32) a x).toNat < S38912.size a)
theorem k0_idx567_inb : ∀ (v203 : IVec S16 32) (k0_hw567 : k0_chk567 v203), ∀ a x, ((![v203] : Fin 1 → IVec S16 32) a x).toNat < S38912.size a := fun v203 k0_hw567 => k0_hw567
def k0_off570 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v204 : Index := Scalar.indexCast arg9
  let c368 : Index := 368#32
  ![v204.toNat, 368]

def k0_chk568 (v205 : IVec S16 32) : Prop :=
  (∀ a x, ((![v205] : Fin 1 → IVec S16 32) a x).toNat < S38912.size a)
theorem k0_idx568_inb : ∀ (v205 : IVec S16 32) (k0_hw568 : k0_chk568 v205), ∀ a x, ((![v205] : Fin 1 → IVec S16 32) a x).toNat < S38912.size a := fun v205 k0_hw568 => k0_hw568
def k0_off571 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v206 : Index := Scalar.indexCast arg9
  let c384 : Index := 384#32
  ![v206.toNat, 384]

def k0_chk569 (v207 : IVec S16 32) : Prop :=
  (∀ a x, ((![v207] : Fin 1 → IVec S16 32) a x).toNat < S38912.size a)
theorem k0_idx569_inb : ∀ (v207 : IVec S16 32) (k0_hw569 : k0_chk569 v207), ∀ a x, ((![v207] : Fin 1 → IVec S16 32) a x).toNat < S38912.size a := fun v207 k0_hw569 => k0_hw569
def k0_off572 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v208 : Index := Scalar.indexCast arg9
  let c400 : Index := 400#32
  ![v208.toNat, 400]

def k0_chk570 (v209 : IVec S16 32) : Prop :=
  (∀ a x, ((![v209] : Fin 1 → IVec S16 32) a x).toNat < S38912.size a)
theorem k0_idx570_inb : ∀ (v209 : IVec S16 32) (k0_hw570 : k0_chk570 v209), ∀ a x, ((![v209] : Fin 1 → IVec S16 32) a x).toNat < S38912.size a := fun v209 k0_hw570 => k0_hw570
def k0_off573 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v210 : Index := Scalar.indexCast arg9
  let c416 : Index := 416#32
  ![v210.toNat, 416]

def k0_chk571 (v211 : IVec S16 32) : Prop :=
  (∀ a x, ((![v211] : Fin 1 → IVec S16 32) a x).toNat < S38912.size a)
theorem k0_idx571_inb : ∀ (v211 : IVec S16 32) (k0_hw571 : k0_chk571 v211), ∀ a x, ((![v211] : Fin 1 → IVec S16 32) a x).toNat < S38912.size a := fun v211 k0_hw571 => k0_hw571
def k0_off574 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v212 : Index := Scalar.indexCast arg9
  let c432 : Index := 432#32
  ![v212.toNat, 432]

def k0_chk572 (v213 : IVec S16 32) : Prop :=
  (∀ a x, ((![v213] : Fin 1 → IVec S16 32) a x).toNat < S38912.size a)
theorem k0_idx572_inb : ∀ (v213 : IVec S16 32) (k0_hw572 : k0_chk572 v213), ∀ a x, ((![v213] : Fin 1 → IVec S16 32) a x).toNat < S38912.size a := fun v213 k0_hw572 => k0_hw572
def k0_off575 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v214 : Index := Scalar.indexCast arg9
  let c448 : Index := 448#32
  ![v214.toNat, 448]

def k0_chk573 (v215 : IVec S16 32) : Prop :=
  (∀ a x, ((![v215] : Fin 1 → IVec S16 32) a x).toNat < S38912.size a)
theorem k0_idx573_inb : ∀ (v215 : IVec S16 32) (k0_hw573 : k0_chk573 v215), ∀ a x, ((![v215] : Fin 1 → IVec S16 32) a x).toNat < S38912.size a := fun v215 k0_hw573 => k0_hw573
def k0_off576 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v216 : Index := Scalar.indexCast arg9
  let c464 : Index := 464#32
  ![v216.toNat, 464]

def k0_chk574 (v217 : IVec S16 32) : Prop :=
  (∀ a x, ((![v217] : Fin 1 → IVec S16 32) a x).toNat < S38912.size a)
theorem k0_idx574_inb : ∀ (v217 : IVec S16 32) (k0_hw574 : k0_chk574 v217), ∀ a x, ((![v217] : Fin 1 → IVec S16 32) a x).toNat < S38912.size a := fun v217 k0_hw574 => k0_hw574
def k0_off577 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v218 : Index := Scalar.indexCast arg9
  let c480 : Index := 480#32
  ![v218.toNat, 480]

def k0_chk575 (v219 : IVec S16 32) : Prop :=
  (∀ a x, ((![v219] : Fin 1 → IVec S16 32) a x).toNat < S38912.size a)
theorem k0_idx575_inb : ∀ (v219 : IVec S16 32) (k0_hw575 : k0_chk575 v219), ∀ a x, ((![v219] : Fin 1 → IVec S16 32) a x).toNat < S38912.size a := fun v219 k0_hw575 => k0_hw575
def k0_off578 (k0_t19 : Fin k0_t19_loop.trips) : Fin 2 → Nat :=
  let c0_i32_182 : BitVec 32 := 0#32
  let c1_i32_184 : BitVec 32 := 1#32
  let arg9 : BitVec 32 := Scf.iv c0_i32_182 c1_i32_184 k0_t19
  let v220 : Index := Scalar.indexCast arg9
  let c496 : Index := 496#32
  ![v220.toNat, 496]

def k0_chk576 (v221 : IVec S16 32) : Prop :=
  (∀ a x, ((![v221] : Fin 1 → IVec S16 32) a x).toNat < S38912.size a)
theorem k0_idx576_inb : ∀ (v221 : IVec S16 32) (k0_hw576 : k0_chk576 v221), ∀ a x, ((![v221] : Fin 1 → IVec S16 32) a x).toNat < S38912.size a := fun v221 k0_hw576 => k0_hw576
@[reducible] def k0_t20_loop : Scf.Loop 32 :=
  let c0_i32_190 : BitVec 32 := 0#32
  let c64_i32_191 : BitVec 32 := 64#32
  let v156 : BitVec 32 := Scalar.addi c0_i32_190 c64_i32_191
  let c1_i32_192 : BitVec 32 := 1#32
  ⟨c0_i32_190, v156, c1_i32_192⟩
def k0_off579 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v158 : Index := Scalar.indexCast arg9
  let c0 : Index := 0#32
  ![v158.toNat, 0]

def k0_chk577 (v159 : IVec S16 32) : Prop :=
  (∀ a x, ((![v159] : Fin 1 → IVec S16 32) a x).toNat < S38912.size a)
theorem k0_idx577_inb : ∀ (v159 : IVec S16 32) (k0_hw577 : k0_chk577 v159), ∀ a x, ((![v159] : Fin 1 → IVec S16 32) a x).toNat < S38912.size a := fun v159 k0_hw577 => k0_hw577
def k0_off580 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v160 : Index := Scalar.indexCast arg9
  let c16 : Index := 16#32
  ![v160.toNat, 16]

def k0_chk578 (v161 : IVec S16 32) : Prop :=
  (∀ a x, ((![v161] : Fin 1 → IVec S16 32) a x).toNat < S38912.size a)
theorem k0_idx578_inb : ∀ (v161 : IVec S16 32) (k0_hw578 : k0_chk578 v161), ∀ a x, ((![v161] : Fin 1 → IVec S16 32) a x).toNat < S38912.size a := fun v161 k0_hw578 => k0_hw578
def k0_off581 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v162 : Index := Scalar.indexCast arg9
  let c32 : Index := 32#32
  ![v162.toNat, 32]

def k0_chk579 (v163 : IVec S16 32) : Prop :=
  (∀ a x, ((![v163] : Fin 1 → IVec S16 32) a x).toNat < S38912.size a)
theorem k0_idx579_inb : ∀ (v163 : IVec S16 32) (k0_hw579 : k0_chk579 v163), ∀ a x, ((![v163] : Fin 1 → IVec S16 32) a x).toNat < S38912.size a := fun v163 k0_hw579 => k0_hw579
def k0_off582 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v164 : Index := Scalar.indexCast arg9
  let c48 : Index := 48#32
  ![v164.toNat, 48]

def k0_chk580 (v165 : IVec S16 32) : Prop :=
  (∀ a x, ((![v165] : Fin 1 → IVec S16 32) a x).toNat < S38912.size a)
theorem k0_idx580_inb : ∀ (v165 : IVec S16 32) (k0_hw580 : k0_chk580 v165), ∀ a x, ((![v165] : Fin 1 → IVec S16 32) a x).toNat < S38912.size a := fun v165 k0_hw580 => k0_hw580
def k0_off583 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v166 : Index := Scalar.indexCast arg9
  let c64 : Index := 64#32
  ![v166.toNat, 64]

def k0_chk581 (v167 : IVec S16 32) : Prop :=
  (∀ a x, ((![v167] : Fin 1 → IVec S16 32) a x).toNat < S38912.size a)
theorem k0_idx581_inb : ∀ (v167 : IVec S16 32) (k0_hw581 : k0_chk581 v167), ∀ a x, ((![v167] : Fin 1 → IVec S16 32) a x).toNat < S38912.size a := fun v167 k0_hw581 => k0_hw581
def k0_off584 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v168 : Index := Scalar.indexCast arg9
  let c80 : Index := 80#32
  ![v168.toNat, 80]

def k0_chk582 (v169 : IVec S16 32) : Prop :=
  (∀ a x, ((![v169] : Fin 1 → IVec S16 32) a x).toNat < S38912.size a)
theorem k0_idx582_inb : ∀ (v169 : IVec S16 32) (k0_hw582 : k0_chk582 v169), ∀ a x, ((![v169] : Fin 1 → IVec S16 32) a x).toNat < S38912.size a := fun v169 k0_hw582 => k0_hw582
def k0_off585 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v170 : Index := Scalar.indexCast arg9
  let c96 : Index := 96#32
  ![v170.toNat, 96]

def k0_chk583 (v171 : IVec S16 32) : Prop :=
  (∀ a x, ((![v171] : Fin 1 → IVec S16 32) a x).toNat < S38912.size a)
theorem k0_idx583_inb : ∀ (v171 : IVec S16 32) (k0_hw583 : k0_chk583 v171), ∀ a x, ((![v171] : Fin 1 → IVec S16 32) a x).toNat < S38912.size a := fun v171 k0_hw583 => k0_hw583
def k0_off586 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v172 : Index := Scalar.indexCast arg9
  let c112 : Index := 112#32
  ![v172.toNat, 112]

def k0_chk584 (v173 : IVec S16 32) : Prop :=
  (∀ a x, ((![v173] : Fin 1 → IVec S16 32) a x).toNat < S38912.size a)
theorem k0_idx584_inb : ∀ (v173 : IVec S16 32) (k0_hw584 : k0_chk584 v173), ∀ a x, ((![v173] : Fin 1 → IVec S16 32) a x).toNat < S38912.size a := fun v173 k0_hw584 => k0_hw584
def k0_off587 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v174 : Index := Scalar.indexCast arg9
  let c128 : Index := 128#32
  ![v174.toNat, 128]

def k0_chk585 (v175 : IVec S16 32) : Prop :=
  (∀ a x, ((![v175] : Fin 1 → IVec S16 32) a x).toNat < S38912.size a)
theorem k0_idx585_inb : ∀ (v175 : IVec S16 32) (k0_hw585 : k0_chk585 v175), ∀ a x, ((![v175] : Fin 1 → IVec S16 32) a x).toNat < S38912.size a := fun v175 k0_hw585 => k0_hw585
def k0_off588 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v176 : Index := Scalar.indexCast arg9
  let c144 : Index := 144#32
  ![v176.toNat, 144]

def k0_chk586 (v177 : IVec S16 32) : Prop :=
  (∀ a x, ((![v177] : Fin 1 → IVec S16 32) a x).toNat < S38912.size a)
theorem k0_idx586_inb : ∀ (v177 : IVec S16 32) (k0_hw586 : k0_chk586 v177), ∀ a x, ((![v177] : Fin 1 → IVec S16 32) a x).toNat < S38912.size a := fun v177 k0_hw586 => k0_hw586
def k0_off589 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v178 : Index := Scalar.indexCast arg9
  let c160 : Index := 160#32
  ![v178.toNat, 160]

def k0_chk587 (v179 : IVec S16 32) : Prop :=
  (∀ a x, ((![v179] : Fin 1 → IVec S16 32) a x).toNat < S38912.size a)
theorem k0_idx587_inb : ∀ (v179 : IVec S16 32) (k0_hw587 : k0_chk587 v179), ∀ a x, ((![v179] : Fin 1 → IVec S16 32) a x).toNat < S38912.size a := fun v179 k0_hw587 => k0_hw587
def k0_off590 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v180 : Index := Scalar.indexCast arg9
  let c176 : Index := 176#32
  ![v180.toNat, 176]

def k0_chk588 (v181 : IVec S16 32) : Prop :=
  (∀ a x, ((![v181] : Fin 1 → IVec S16 32) a x).toNat < S38912.size a)
theorem k0_idx588_inb : ∀ (v181 : IVec S16 32) (k0_hw588 : k0_chk588 v181), ∀ a x, ((![v181] : Fin 1 → IVec S16 32) a x).toNat < S38912.size a := fun v181 k0_hw588 => k0_hw588
def k0_off591 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v182 : Index := Scalar.indexCast arg9
  let c192 : Index := 192#32
  ![v182.toNat, 192]

def k0_chk589 (v183 : IVec S16 32) : Prop :=
  (∀ a x, ((![v183] : Fin 1 → IVec S16 32) a x).toNat < S38912.size a)
theorem k0_idx589_inb : ∀ (v183 : IVec S16 32) (k0_hw589 : k0_chk589 v183), ∀ a x, ((![v183] : Fin 1 → IVec S16 32) a x).toNat < S38912.size a := fun v183 k0_hw589 => k0_hw589
def k0_off592 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v184 : Index := Scalar.indexCast arg9
  let c208 : Index := 208#32
  ![v184.toNat, 208]

def k0_chk590 (v185 : IVec S16 32) : Prop :=
  (∀ a x, ((![v185] : Fin 1 → IVec S16 32) a x).toNat < S38912.size a)
theorem k0_idx590_inb : ∀ (v185 : IVec S16 32) (k0_hw590 : k0_chk590 v185), ∀ a x, ((![v185] : Fin 1 → IVec S16 32) a x).toNat < S38912.size a := fun v185 k0_hw590 => k0_hw590
def k0_off593 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v186 : Index := Scalar.indexCast arg9
  let c224 : Index := 224#32
  ![v186.toNat, 224]

def k0_chk591 (v187 : IVec S16 32) : Prop :=
  (∀ a x, ((![v187] : Fin 1 → IVec S16 32) a x).toNat < S38912.size a)
theorem k0_idx591_inb : ∀ (v187 : IVec S16 32) (k0_hw591 : k0_chk591 v187), ∀ a x, ((![v187] : Fin 1 → IVec S16 32) a x).toNat < S38912.size a := fun v187 k0_hw591 => k0_hw591
def k0_off594 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v188 : Index := Scalar.indexCast arg9
  let c240 : Index := 240#32
  ![v188.toNat, 240]

def k0_chk592 (v189 : IVec S16 32) : Prop :=
  (∀ a x, ((![v189] : Fin 1 → IVec S16 32) a x).toNat < S38912.size a)
theorem k0_idx592_inb : ∀ (v189 : IVec S16 32) (k0_hw592 : k0_chk592 v189), ∀ a x, ((![v189] : Fin 1 → IVec S16 32) a x).toNat < S38912.size a := fun v189 k0_hw592 => k0_hw592
def k0_off595 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v190 : Index := Scalar.indexCast arg9
  let c256 : Index := 256#32
  ![v190.toNat, 256]

def k0_chk593 (v191 : IVec S16 32) : Prop :=
  (∀ a x, ((![v191] : Fin 1 → IVec S16 32) a x).toNat < S38912.size a)
theorem k0_idx593_inb : ∀ (v191 : IVec S16 32) (k0_hw593 : k0_chk593 v191), ∀ a x, ((![v191] : Fin 1 → IVec S16 32) a x).toNat < S38912.size a := fun v191 k0_hw593 => k0_hw593
def k0_off596 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v192 : Index := Scalar.indexCast arg9
  let c272 : Index := 272#32
  ![v192.toNat, 272]

def k0_chk594 (v193 : IVec S16 32) : Prop :=
  (∀ a x, ((![v193] : Fin 1 → IVec S16 32) a x).toNat < S38912.size a)
theorem k0_idx594_inb : ∀ (v193 : IVec S16 32) (k0_hw594 : k0_chk594 v193), ∀ a x, ((![v193] : Fin 1 → IVec S16 32) a x).toNat < S38912.size a := fun v193 k0_hw594 => k0_hw594
def k0_off597 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v194 : Index := Scalar.indexCast arg9
  let c288 : Index := 288#32
  ![v194.toNat, 288]

def k0_chk595 (v195 : IVec S16 32) : Prop :=
  (∀ a x, ((![v195] : Fin 1 → IVec S16 32) a x).toNat < S38912.size a)
theorem k0_idx595_inb : ∀ (v195 : IVec S16 32) (k0_hw595 : k0_chk595 v195), ∀ a x, ((![v195] : Fin 1 → IVec S16 32) a x).toNat < S38912.size a := fun v195 k0_hw595 => k0_hw595
def k0_off598 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v196 : Index := Scalar.indexCast arg9
  let c304 : Index := 304#32
  ![v196.toNat, 304]

def k0_chk596 (v197 : IVec S16 32) : Prop :=
  (∀ a x, ((![v197] : Fin 1 → IVec S16 32) a x).toNat < S38912.size a)
theorem k0_idx596_inb : ∀ (v197 : IVec S16 32) (k0_hw596 : k0_chk596 v197), ∀ a x, ((![v197] : Fin 1 → IVec S16 32) a x).toNat < S38912.size a := fun v197 k0_hw596 => k0_hw596
def k0_off599 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v198 : Index := Scalar.indexCast arg9
  let c320 : Index := 320#32
  ![v198.toNat, 320]

def k0_chk597 (v199 : IVec S16 32) : Prop :=
  (∀ a x, ((![v199] : Fin 1 → IVec S16 32) a x).toNat < S38912.size a)
theorem k0_idx597_inb : ∀ (v199 : IVec S16 32) (k0_hw597 : k0_chk597 v199), ∀ a x, ((![v199] : Fin 1 → IVec S16 32) a x).toNat < S38912.size a := fun v199 k0_hw597 => k0_hw597
def k0_off600 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v200 : Index := Scalar.indexCast arg9
  let c336 : Index := 336#32
  ![v200.toNat, 336]

def k0_chk598 (v201 : IVec S16 32) : Prop :=
  (∀ a x, ((![v201] : Fin 1 → IVec S16 32) a x).toNat < S38912.size a)
theorem k0_idx598_inb : ∀ (v201 : IVec S16 32) (k0_hw598 : k0_chk598 v201), ∀ a x, ((![v201] : Fin 1 → IVec S16 32) a x).toNat < S38912.size a := fun v201 k0_hw598 => k0_hw598
def k0_off601 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v202 : Index := Scalar.indexCast arg9
  let c352 : Index := 352#32
  ![v202.toNat, 352]

def k0_chk599 (v203 : IVec S16 32) : Prop :=
  (∀ a x, ((![v203] : Fin 1 → IVec S16 32) a x).toNat < S38912.size a)
theorem k0_idx599_inb : ∀ (v203 : IVec S16 32) (k0_hw599 : k0_chk599 v203), ∀ a x, ((![v203] : Fin 1 → IVec S16 32) a x).toNat < S38912.size a := fun v203 k0_hw599 => k0_hw599
def k0_off602 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v204 : Index := Scalar.indexCast arg9
  let c368 : Index := 368#32
  ![v204.toNat, 368]

def k0_chk600 (v205 : IVec S16 32) : Prop :=
  (∀ a x, ((![v205] : Fin 1 → IVec S16 32) a x).toNat < S38912.size a)
theorem k0_idx600_inb : ∀ (v205 : IVec S16 32) (k0_hw600 : k0_chk600 v205), ∀ a x, ((![v205] : Fin 1 → IVec S16 32) a x).toNat < S38912.size a := fun v205 k0_hw600 => k0_hw600
def k0_off603 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v206 : Index := Scalar.indexCast arg9
  let c384 : Index := 384#32
  ![v206.toNat, 384]

def k0_chk601 (v207 : IVec S16 32) : Prop :=
  (∀ a x, ((![v207] : Fin 1 → IVec S16 32) a x).toNat < S38912.size a)
theorem k0_idx601_inb : ∀ (v207 : IVec S16 32) (k0_hw601 : k0_chk601 v207), ∀ a x, ((![v207] : Fin 1 → IVec S16 32) a x).toNat < S38912.size a := fun v207 k0_hw601 => k0_hw601
def k0_off604 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v208 : Index := Scalar.indexCast arg9
  let c400 : Index := 400#32
  ![v208.toNat, 400]

def k0_chk602 (v209 : IVec S16 32) : Prop :=
  (∀ a x, ((![v209] : Fin 1 → IVec S16 32) a x).toNat < S38912.size a)
theorem k0_idx602_inb : ∀ (v209 : IVec S16 32) (k0_hw602 : k0_chk602 v209), ∀ a x, ((![v209] : Fin 1 → IVec S16 32) a x).toNat < S38912.size a := fun v209 k0_hw602 => k0_hw602
def k0_off605 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v210 : Index := Scalar.indexCast arg9
  let c416 : Index := 416#32
  ![v210.toNat, 416]

def k0_chk603 (v211 : IVec S16 32) : Prop :=
  (∀ a x, ((![v211] : Fin 1 → IVec S16 32) a x).toNat < S38912.size a)
theorem k0_idx603_inb : ∀ (v211 : IVec S16 32) (k0_hw603 : k0_chk603 v211), ∀ a x, ((![v211] : Fin 1 → IVec S16 32) a x).toNat < S38912.size a := fun v211 k0_hw603 => k0_hw603
def k0_off606 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v212 : Index := Scalar.indexCast arg9
  let c432 : Index := 432#32
  ![v212.toNat, 432]

def k0_chk604 (v213 : IVec S16 32) : Prop :=
  (∀ a x, ((![v213] : Fin 1 → IVec S16 32) a x).toNat < S38912.size a)
theorem k0_idx604_inb : ∀ (v213 : IVec S16 32) (k0_hw604 : k0_chk604 v213), ∀ a x, ((![v213] : Fin 1 → IVec S16 32) a x).toNat < S38912.size a := fun v213 k0_hw604 => k0_hw604
def k0_off607 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v214 : Index := Scalar.indexCast arg9
  let c448 : Index := 448#32
  ![v214.toNat, 448]

def k0_chk605 (v215 : IVec S16 32) : Prop :=
  (∀ a x, ((![v215] : Fin 1 → IVec S16 32) a x).toNat < S38912.size a)
theorem k0_idx605_inb : ∀ (v215 : IVec S16 32) (k0_hw605 : k0_chk605 v215), ∀ a x, ((![v215] : Fin 1 → IVec S16 32) a x).toNat < S38912.size a := fun v215 k0_hw605 => k0_hw605
def k0_off608 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v216 : Index := Scalar.indexCast arg9
  let c464 : Index := 464#32
  ![v216.toNat, 464]

def k0_chk606 (v217 : IVec S16 32) : Prop :=
  (∀ a x, ((![v217] : Fin 1 → IVec S16 32) a x).toNat < S38912.size a)
theorem k0_idx606_inb : ∀ (v217 : IVec S16 32) (k0_hw606 : k0_chk606 v217), ∀ a x, ((![v217] : Fin 1 → IVec S16 32) a x).toNat < S38912.size a := fun v217 k0_hw606 => k0_hw606
def k0_off609 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v218 : Index := Scalar.indexCast arg9
  let c480 : Index := 480#32
  ![v218.toNat, 480]

def k0_chk607 (v219 : IVec S16 32) : Prop :=
  (∀ a x, ((![v219] : Fin 1 → IVec S16 32) a x).toNat < S38912.size a)
theorem k0_idx607_inb : ∀ (v219 : IVec S16 32) (k0_hw607 : k0_chk607 v219), ∀ a x, ((![v219] : Fin 1 → IVec S16 32) a x).toNat < S38912.size a := fun v219 k0_hw607 => k0_hw607
def k0_off610 (k0_t20 : Fin k0_t20_loop.trips) : Fin 2 → Nat :=
  let c0_i32_190 : BitVec 32 := 0#32
  let c1_i32_192 : BitVec 32 := 1#32
  let arg9 : BitVec 32 := Scf.iv c0_i32_190 c1_i32_192 k0_t20
  let v220 : Index := Scalar.indexCast arg9
  let c496 : Index := 496#32
  ![v220.toNat, 496]

def k0_chk608 (v221 : IVec S16 32) : Prop :=
  (∀ a x, ((![v221] : Fin 1 → IVec S16 32) a x).toNat < S38912.size a)
theorem k0_idx608_inb : ∀ (v221 : IVec S16 32) (k0_hw608 : k0_chk608 v221), ∀ a x, ((![v221] : Fin 1 → IVec S16 32) a x).toNat < S38912.size a := fun v221 k0_hw608 => k0_hw608
def k0_off611 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_194_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== HistRefIdeal.lean ====
abbrev S38912x512 : Shape := ⟨2, ![38912, 512]⟩
abbrev S32x622592 : Shape := ⟨2, ![32, 622592]⟩
abbrev S_ : Shape := ⟨0, ![]⟩
abbrev S1245184 : Shape := ⟨1, ![1245184]⟩
abbrev S19922944 : Shape := ⟨1, ![19922944]⟩
abbrev S19922944x1 : Shape := ⟨2, ![19922944, 1]⟩
abbrev S32x38912 : Shape := ⟨2, ![32, 38912]⟩

abbrev nBuf : Space → Nat
  | .hbm => 22
  | .vmem => 0
  | .smem => 0
  | _ => 0

abbrev bufTy : (tb : Table) → Fin (tcTables nBuf tb) → BufTy
  | .hbm, ⟨0, _⟩ => ⟨S38912x512, .i32⟩
  | .hbm, ⟨1, _⟩ => ⟨S32x622592, .i32⟩
  | .hbm, ⟨2, _⟩ => ⟨S32x622592, .i32⟩
  | .hbm, ⟨3, _⟩ => ⟨S_, .i32⟩
  | .hbm, ⟨4, _⟩ => ⟨S32x622592, .i32⟩
  | .hbm, ⟨5, _⟩ => ⟨S32x622592, .i32⟩
  | .hbm, ⟨6, _⟩ => ⟨S32x622592, .i32⟩
  | .hbm, ⟨7, _⟩ => ⟨S_, .i32⟩
  | .hbm, ⟨8, _⟩ => ⟨S1245184, .i32⟩
  | .hbm, ⟨9, _⟩ => ⟨S19922944, .i32⟩
  | .hbm, ⟨10, _⟩ => ⟨S_, .i32⟩
  | .hbm, ⟨11, _⟩ => ⟨S19922944, .i32⟩
  | .hbm, ⟨12, _⟩ => ⟨S19922944, .i1⟩
  | .hbm, ⟨13, _⟩ => ⟨S_, .i32⟩
  | .hbm, ⟨14, _⟩ => ⟨S19922944, .i32⟩
  | .hbm, ⟨15, _⟩ => ⟨S19922944, .i32⟩
  | .hbm, ⟨16, _⟩ => ⟨S19922944, .i32⟩
  | .hbm, ⟨17, _⟩ => ⟨S19922944x1, .i32⟩
  | .hbm, ⟨18, _⟩ => ⟨S_, .i32⟩
  | .hbm, ⟨19, _⟩ => ⟨S19922944, .i32⟩
  | .hbm, ⟨20, _⟩ => ⟨S1245184, .i32⟩
  | .hbm, ⟨21, _⟩ => ⟨S32x38912, .i32⟩
  | _, _ => ⟨S38912x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== KernelIdeal.lean ====
abbrev S4x19x512x512 : Shape := ⟨4, ![4, 19, 512, 512]⟩
abbrev S4x512x512 : Shape := ⟨3, ![4, 512, 512]⟩
abbrev S8x128 : Shape := ⟨2, ![8, 128]⟩
abbrev S1x19x8x512 : Shape := ⟨4, ![1, 19, 8, 512]⟩
abbrev S1x8x512 : Shape := ⟨3, ![1, 8, 512]⟩
abbrev S19x8x512 : Shape := ⟨3, ![19, 8, 512]⟩
abbrev S8x512 : Shape := ⟨2, ![8, 512]⟩
abbrev S8x4x128 : Shape := ⟨3, ![8, 4, 128]⟩
abbrev S38912x512 : Shape := ⟨2, ![38912, 512]⟩
abbrev S32x38912 : Shape := ⟨2, ![32, 38912]⟩
abbrev S64x512 : Shape := ⟨2, ![64, 512]⟩
abbrev S38912 : Shape := ⟨1, ![38912]⟩
abbrev S_ : Shape := ⟨0, ![]⟩
abbrev S16 : Shape := ⟨1, ![16]⟩
abbrev S1x16 : Shape := ⟨2, ![1, 16]⟩
abbrev S1x38912 : Shape := ⟨2, ![1, 38912]⟩
abbrev S32x38x1024 : Shape := ⟨3, ![32, 38, 1024]⟩
abbrev S1x1 : Shape := ⟨2, ![1, 1]⟩
abbrev S38x1024 : Shape := ⟨2, ![38, 1024]⟩
abbrev S19x1024 : Shape := ⟨2, ![19, 1024]⟩
abbrev S1024x1024 : Shape := ⟨2, ![1024, 1024]⟩
abbrev S19x1 : Shape := ⟨2, ![19, 1]⟩
abbrev S19 : Shape := ⟨1, ![19]⟩
abbrev S1x19 : Shape := ⟨2, ![1, 19]⟩
abbrev S1 : Shape := ⟨1, ![1]⟩
abbrev S1x8x128 : Shape := ⟨3, ![1, 8, 128]⟩
abbrev S1x1x1 : Shape := ⟨3, ![1, 1, 1]⟩

abbrev nBuf : Table → Nat
  | .hbm => 9
  | .local .tc .vmem => 9
  | .local .tc .smem => 1
  | .local .scVector .vmem => 3
  | _ => 0

abbrev bufTy : (tb : Table) → Fin (nBuf tb) → BufTy
  | .hbm, ⟨0, _⟩ => ⟨S4x19x512x512, .f32⟩
  | .hbm, ⟨1, _⟩ => ⟨S4x512x512, .i32⟩
  | .hbm, ⟨2, _⟩ => ⟨S4x19x512x512, .i32⟩
  | .hbm, ⟨3, _⟩ => ⟨S8x128, .f32⟩
  | .hbm, ⟨4, _⟩ => ⟨S38912x512, .i32⟩
  | .hbm, ⟨5, _⟩ => ⟨S32x38912, .i32⟩
  | .hbm, ⟨6, _⟩ => ⟨S32x38x1024, .i32⟩
  | .hbm, ⟨7, _⟩ => ⟨S1x1, .f32⟩
  | .hbm, ⟨8, _⟩ => ⟨S_, .f32⟩
  | .local .tc .vmem, ⟨0, _⟩ => ⟨S1x19x8x512, .f32⟩
  | .local .tc .vmem, ⟨1, _⟩ => ⟨S1x19x8x512, .f32⟩
  | .local .tc .vmem, ⟨2, _⟩ => ⟨S1x8x512, .i32⟩
  | .local .tc .vmem, ⟨3, _⟩ => ⟨S1x8x512, .i32⟩
  | .local .tc .vmem, ⟨4, _⟩ => ⟨S1x19x8x512, .i32⟩
  | .local .tc .vmem, ⟨5, _⟩ => ⟨S1x19x8x512, .i32⟩
  | .local .tc .vmem, ⟨6, _⟩ => ⟨S8x128, .f32⟩
  | .local .tc .vmem, ⟨7, _⟩ => ⟨S32x38x1024, .i32⟩
  | .local .tc .vmem, ⟨8, _⟩ => ⟨S8x128, .f32⟩
  | .local .tc .smem, ⟨0, _⟩ => ⟨S1x1, .f32⟩
  | .local .scVector .vmem, ⟨0, _⟩ => ⟨S64x512, .i32⟩
  | .local .scVector .vmem, ⟨1, _⟩ => ⟨S64x512, .i32⟩
  | .local .scVector .vmem, ⟨2, _⟩ => ⟨S38912, .i32⟩
  | _, _ => ⟨S4x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => true
  | ⟨11, _⟩ => true
  | ⟨12, _⟩ => true
  | _ => false

abbrev sig : RefSig :=
  ofTables nBuf rfl bufTy 4 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v1_scv : Ref sig .scVector := ⟨.hbm, 4, rfl⟩
abbrev main_v2_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc2_stg0_0 : Ref sig .tc := ⟨.vmem, 7, rfl⟩
abbrev cc2_stg1_0 : Ref sig .tc := ⟨.vmem, 8, rfl⟩
abbrev cc2_stg2_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc2_sem0_0 : DmaSem sig := 10
abbrev cc2_sem1_0 : DmaSem sig := 11
abbrev cc2_sem2_0 : DmaSem sig := 12
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![4, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x19x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x19x8x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev grid1 : Pipeline.Grid := ⟨2, ![2, 16], ![false, false]⟩

@[reducible] def k1_t1_loop : Scf.Loop 32 :=
  let c0_i32_0 : BitVec 32 := 0#32
  let c2432_i32 : BitVec 32 := 2432#32
  let v3 : BitVec 32 := Scalar.addi c0_i32_0 c2432_i32
  let c1_i32 : BitVec 32 := 1#32
  ⟨c0_i32_0, v3, c1_i32⟩
def k1_off1 (k1_t1 : Fin k1_t1_loop.trips) : Fin 1 → Nat :=
  let c0_i32_0 : BitVec 32 := 0#32
  let c1_i32 : BitVec 32 := 1#32
  let arg9 : BitVec 32 := Scf.iv c0_i32_0 c1_i32 k1_t1
  let c16_i32 : BitVec 32 := 16#32
  let v159 : BitVec 32 := Scalar.muli arg9 c16_i32
  let v160 : Index := Scalar.indexCast v159
  ![v160.toNat]
def k1_off2 (i : grid1.Coords) (c0_i32_2 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1216_i32 : BitVec 32 := 1216#32
  let v2 : BitVec 32 := Scalar.muli v1 c1216_i32
  let v5 : BitVec 32 := Scalar.addi v2 c0_i32_2
  let c0_i32_3 : BitVec 32 := 0#32
  ![v5.toNat, 0]
@[reducible] def k1_t2_loop : Scf.Loop 32 :=
  let c0_i32_12 : BitVec 32 := 0#32
  let c64_i32_13 : BitVec 32 := 64#32
  let v15 : BitVec 32 := Scalar.addi c0_i32_12 c64_i32_13
  let c1_i32_14 : BitVec 32 := 1#32
  ⟨c0_i32_12, v15, c1_i32_14⟩
def k1_off3 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v158 : Index := Scalar.indexCast arg9
  let c0 : Index := 0#32
  ![v158.toNat, 0]

def k1_chk1 (v159 : IVec S16 32) : Prop :=
  (∀ a x, ((![v159] : Fin 1 → IVec S16 32) a x).toNat < S38912.size a)
theorem k1_idx1_inb : ∀ (v159 : IVec S16 32) (k1_hw1 : k1_chk1 v159), ∀ a x, ((![v159] : Fin 1 → IVec S16 32) a x).toNat < S38912.size a := fun v159 k1_hw1 => k1_hw1
def k1_off4 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v160 : Index := Scalar.indexCast arg9
  let c16 : Index := 16#32
  ![v160.toNat, 16]

def k1_chk2 (v161 : IVec S16 32) : Prop :=
  (∀ a x, ((![v161] : Fin 1 → IVec S16 32) a x).toNat < S38912.size a)
theorem k1_idx2_inb : ∀ (v161 : IVec S16 32) (k1_hw2 : k1_chk2 v161), ∀ a x, ((![v161] : Fin 1 → IVec S16 32) a x).toNat < S38912.size a := fun v161 k1_hw2 => k1_hw2
def k1_off5 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v162 : Index := Scalar.indexCast arg9
  let c32 : Index := 32#32
  ![v162.toNat, 32]

def k1_chk3 (v163 : IVec S16 32) : Prop :=
  (∀ a x, ((![v163] : Fin 1 → IVec S16 32) a x).toNat < S38912.size a)
theorem k1_idx3_inb : ∀ (v163 : IVec S16 32) (k1_hw3 : k1_chk3 v163), ∀ a x, ((![v163] : Fin 1 → IVec S16 32) a x).toNat < S38912.size a := fun v163 k1_hw3 => k1_hw3
def k1_off6 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v164 : Index := Scalar.indexCast arg9
  let c48 : Index := 48#32
  ![v164.toNat, 48]

def k1_chk4 (v165 : IVec S16 32) : Prop :=
  (∀ a x, ((![v165] : Fin 1 → IVec S16 32) a x).toNat < S38912.size a)
theorem k1_idx4_inb : ∀ (v165 : IVec S16 32) (k1_hw4 : k1_chk4 v165), ∀ a x, ((![v165] : Fin 1 → IVec S16 32) a x).toNat < S38912.size a := fun v165 k1_hw4 => k1_hw4
def k1_off7 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v166 : Index := Scalar.indexCast arg9
  let c64 : Index := 64#32
  ![v166.toNat, 64]

def k1_chk5 (v167 : IVec S16 32) : Prop :=
  (∀ a x, ((![v167] : Fin 1 → IVec S16 32) a x).toNat < S38912.size a)
theorem k1_idx5_inb : ∀ (v167 : IVec S16 32) (k1_hw5 : k1_chk5 v167), ∀ a x, ((![v167] : Fin 1 → IVec S16 32) a x).toNat < S38912.size a := fun v167 k1_hw5 => k1_hw5
def k1_off8 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v168 : Index := Scalar.indexCast arg9
  let c80 : Index := 80#32
  ![v168.toNat, 80]

def k1_chk6 (v169 : IVec S16 32) : Prop :=
  (∀ a x, ((![v169] : Fin 1 → IVec S16 32) a x).toNat < S38912.size a)
theorem k1_idx6_inb : ∀ (v169 : IVec S16 32) (k1_hw6 : k1_chk6 v169), ∀ a x, ((![v169] : Fin 1 → IVec S16 32) a x).toNat < S38912.size a := fun v169 k1_hw6 => k1_hw6
def k1_off9 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v170 : Index := Scalar.indexCast arg9
  let c96 : Index := 96#32
  ![v170.toNat, 96]

def k1_chk7 (v171 : IVec S16 32) : Prop :=
  (∀ a x, ((![v171] : Fin 1 → IVec S16 32) a x).toNat < S38912.size a)
theorem k1_idx7_inb : ∀ (v171 : IVec S16 32) (k1_hw7 : k1_chk7 v171), ∀ a x, ((![v171] : Fin 1 → IVec S16 32) a x).toNat < S38912.size a := fun v171 k1_hw7 => k1_hw7
def k1_off10 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v172 : Index := Scalar.indexCast arg9
  let c112 : Index := 112#32
  ![v172.toNat, 112]

def k1_chk8 (v173 : IVec S16 32) : Prop :=
  (∀ a x, ((![v173] : Fin 1 → IVec S16 32) a x).toNat < S38912.size a)
theorem k1_idx8_inb : ∀ (v173 : IVec S16 32) (k1_hw8 : k1_chk8 v173), ∀ a x, ((![v173] : Fin 1 → IVec S16 32) a x).toNat < S38912.size a := fun v173 k1_hw8 => k1_hw8
def k1_off11 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v174 : Index := Scalar.indexCast arg9
  let c128 : Index := 128#32
  ![v174.toNat, 128]

def k1_chk9 (v175 : IVec S16 32) : Prop :=
  (∀ a x, ((![v175] : Fin 1 → IVec S16 32) a x).toNat < S38912.size a)
theorem k1_idx9_inb : ∀ (v175 : IVec S16 32) (k1_hw9 : k1_chk9 v175), ∀ a x, ((![v175] : Fin 1 → IVec S16 32) a x).toNat < S38912.size a := fun v175 k1_hw9 => k1_hw9
def k1_off12 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v176 : Index := Scalar.indexCast arg9
  let c144 : Index := 144#32
  ![v176.toNat, 144]

def k1_chk10 (v177 : IVec S16 32) : Prop :=
  (∀ a x, ((![v177] : Fin 1 → IVec S16 32) a x).toNat < S38912.size a)
theorem k1_idx10_inb : ∀ (v177 : IVec S16 32) (k1_hw10 : k1_chk10 v177), ∀ a x, ((![v177] : Fin 1 → IVec S16 32) a x).toNat < S38912.size a := fun v177 k1_hw10 => k1_hw10
def k1_off13 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v178 : Index := Scalar.indexCast arg9
  let c160 : Index := 160#32
  ![v178.toNat, 160]

def k1_chk11 (v179 : IVec S16 32) : Prop :=
  (∀ a x, ((![v179] : Fin 1 → IVec S16 32) a x).toNat < S38912.size a)
theorem k1_idx11_inb : ∀ (v179 : IVec S16 32) (k1_hw11 : k1_chk11 v179), ∀ a x, ((![v179] : Fin 1 → IVec S16 32) a x).toNat < S38912.size a := fun v179 k1_hw11 => k1_hw11
def k1_off14 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v180 : Index := Scalar.indexCast arg9
  let c176 : Index := 176#32
  ![v180.toNat, 176]

def k1_chk12 (v181 : IVec S16 32) : Prop :=
  (∀ a x, ((![v181] : Fin 1 → IVec S16 32) a x).toNat < S38912.size a)
theorem k1_idx12_inb : ∀ (v181 : IVec S16 32) (k1_hw12 : k1_chk12 v181), ∀ a x, ((![v181] : Fin 1 → IVec S16 32) a x).toNat < S38912.size a := fun v181 k1_hw12 => k1_hw12
def k1_off15 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v182 : Index := Scalar.indexCast arg9
  let c192 : Index := 192#32
  ![v182.toNat, 192]

def k1_chk13 (v183 : IVec S16 32) : Prop :=
  (∀ a x, ((![v183] : Fin 1 → IVec S16 32) a x).toNat < S38912.size a)
theorem k1_idx13_inb : ∀ (v183 : IVec S16 32) (k1_hw13 : k1_chk13 v183), ∀ a x, ((![v183] : Fin 1 → IVec S16 32) a x).toNat < S38912.size a := fun v183 k1_hw13 => k1_hw13
def k1_off16 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v184 : Index := Scalar.indexCast arg9
  let c208 : Index := 208#32
  ![v184.toNat, 208]

def k1_chk14 (v185 : IVec S16 32) : Prop :=
  (∀ a x, ((![v185] : Fin 1 → IVec S16 32) a x).toNat < S38912.size a)
theorem k1_idx14_inb : ∀ (v185 : IVec S16 32) (k1_hw14 : k1_chk14 v185), ∀ a x, ((![v185] : Fin 1 → IVec S16 32) a x).toNat < S38912.size a := fun v185 k1_hw14 => k1_hw14
def k1_off17 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v186 : Index := Scalar.indexCast arg9
  let c224 : Index := 224#32
  ![v186.toNat, 224]

def k1_chk15 (v187 : IVec S16 32) : Prop :=
  (∀ a x, ((![v187] : Fin 1 → IVec S16 32) a x).toNat < S38912.size a)
theorem k1_idx15_inb : ∀ (v187 : IVec S16 32) (k1_hw15 : k1_chk15 v187), ∀ a x, ((![v187] : Fin 1 → IVec S16 32) a x).toNat < S38912.size a := fun v187 k1_hw15 => k1_hw15
def k1_off18 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v188 : Index := Scalar.indexCast arg9
  let c240 : Index := 240#32
  ![v188.toNat, 240]

def k1_chk16 (v189 : IVec S16 32) : Prop :=
  (∀ a x, ((![v189] : Fin 1 → IVec S16 32) a x).toNat < S38912.size a)
theorem k1_idx16_inb : ∀ (v189 : IVec S16 32) (k1_hw16 : k1_chk16 v189), ∀ a x, ((![v189] : Fin 1 → IVec S16 32) a x).toNat < S38912.size a := fun v189 k1_hw16 => k1_hw16
def k1_off19 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v190 : Index := Scalar.indexCast arg9
  let c256 : Index := 256#32
  ![v190.toNat, 256]

def k1_chk17 (v191 : IVec S16 32) : Prop :=
  (∀ a x, ((![v191] : Fin 1 → IVec S16 32) a x).toNat < S38912.size a)
theorem k1_idx17_inb : ∀ (v191 : IVec S16 32) (k1_hw17 : k1_chk17 v191), ∀ a x, ((![v191] : Fin 1 → IVec S16 32) a x).toNat < S38912.size a := fun v191 k1_hw17 => k1_hw17
def k1_off20 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v192 : Index := Scalar.indexCast arg9
  let c272 : Index := 272#32
  ![v192.toNat, 272]

def k1_chk18 (v193 : IVec S16 32) : Prop :=
  (∀ a x, ((![v193] : Fin 1 → IVec S16 32) a x).toNat < S38912.size a)
theorem k1_idx18_inb : ∀ (v193 : IVec S16 32) (k1_hw18 : k1_chk18 v193), ∀ a x, ((![v193] : Fin 1 → IVec S16 32) a x).toNat < S38912.size a := fun v193 k1_hw18 => k1_hw18
def k1_off21 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v194 : Index := Scalar.indexCast arg9
  let c288 : Index := 288#32
  ![v194.toNat, 288]

def k1_chk19 (v195 : IVec S16 32) : Prop :=
  (∀ a x, ((![v195] : Fin 1 → IVec S16 32) a x).toNat < S38912.size a)
theorem k1_idx19_inb : ∀ (v195 : IVec S16 32) (k1_hw19 : k1_chk19 v195), ∀ a x, ((![v195] : Fin 1 → IVec S16 32) a x).toNat < S38912.size a := fun v195 k1_hw19 => k1_hw19
def k1_off22 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v196 : Index := Scalar.indexCast arg9
  let c304 : Index := 304#32
  ![v196.toNat, 304]

def k1_chk20 (v197 : IVec S16 32) : Prop :=
  (∀ a x, ((![v197] : Fin 1 → IVec S16 32) a x).toNat < S38912.size a)
theorem k1_idx20_inb : ∀ (v197 : IVec S16 32) (k1_hw20 : k1_chk20 v197), ∀ a x, ((![v197] : Fin 1 → IVec S16 32) a x).toNat < S38912.size a := fun v197 k1_hw20 => k1_hw20
def k1_off23 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v198 : Index := Scalar.indexCast arg9
  let c320 : Index := 320#32
  ![v198.toNat, 320]

def k1_chk21 (v199 : IVec S16 32) : Prop :=
  (∀ a x, ((![v199] : Fin 1 → IVec S16 32) a x).toNat < S38912.size a)
theorem k1_idx21_inb : ∀ (v199 : IVec S16 32) (k1_hw21 : k1_chk21 v199), ∀ a x, ((![v199] : Fin 1 → IVec S16 32) a x).toNat < S38912.size a := fun v199 k1_hw21 => k1_hw21
def k1_off24 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v200 : Index := Scalar.indexCast arg9
  let c336 : Index := 336#32
  ![v200.toNat, 336]

def k1_chk22 (v201 : IVec S16 32) : Prop :=
  (∀ a x, ((![v201] : Fin 1 → IVec S16 32) a x).toNat < S38912.size a)
theorem k1_idx22_inb : ∀ (v201 : IVec S16 32) (k1_hw22 : k1_chk22 v201), ∀ a x, ((![v201] : Fin 1 → IVec S16 32) a x).toNat < S38912.size a := fun v201 k1_hw22 => k1_hw22
def k1_off25 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v202 : Index := Scalar.indexCast arg9
  let c352 : Index := 352#32
  ![v202.toNat, 352]

def k1_chk23 (v203 : IVec S16 32) : Prop :=
  (∀ a x, ((![v203] : Fin 1 → IVec S16 32) a x).toNat < S38912.size a)
theorem k1_idx23_inb : ∀ (v203 : IVec S16 32) (k1_hw23 : k1_chk23 v203), ∀ a x, ((![v203] : Fin 1 → IVec S16 32) a x).toNat < S38912.size a := fun v203 k1_hw23 => k1_hw23
def k1_off26 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v204 : Index := Scalar.indexCast arg9
  let c368 : Index := 368#32
  ![v204.toNat, 368]

def k1_chk24 (v205 : IVec S16 32) : Prop :=
  (∀ a x, ((![v205] : Fin 1 → IVec S16 32) a x).toNat < S38912.size a)
theorem k1_idx24_inb : ∀ (v205 : IVec S16 32) (k1_hw24 : k1_chk24 v205), ∀ a x, ((![v205] : Fin 1 → IVec S16 32) a x).toNat < S38912.size a := fun v205 k1_hw24 => k1_hw24
def k1_off27 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v206 : Index := Scalar.indexCast arg9
  let c384 : Index := 384#32
  ![v206.toNat, 384]

def k1_chk25 (v207 : IVec S16 32) : Prop :=
  (∀ a x, ((![v207] : Fin 1 → IVec S16 32) a x).toNat < S38912.size a)
theorem k1_idx25_inb : ∀ (v207 : IVec S16 32) (k1_hw25 : k1_chk25 v207), ∀ a x, ((![v207] : Fin 1 → IVec S16 32) a x).toNat < S38912.size a := fun v207 k1_hw25 => k1_hw25
def k1_off28 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v208 : Index := Scalar.indexCast arg9
  let c400 : Index := 400#32
  ![v208.toNat, 400]

def k1_chk26 (v209 : IVec S16 32) : Prop :=
  (∀ a x, ((![v209] : Fin 1 → IVec S16 32) a x).toNat < S38912.size a)
theorem k1_idx26_inb : ∀ (v209 : IVec S16 32) (k1_hw26 : k1_chk26 v209), ∀ a x, ((![v209] : Fin 1 → IVec S16 32) a x).toNat < S38912.size a := fun v209 k1_hw26 => k1_hw26
def k1_off29 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v210 : Index := Scalar.indexCast arg9
  let c416 : Index := 416#32
  ![v210.toNat, 416]

def k1_chk27 (v211 : IVec S16 32) : Prop :=
  (∀ a x, ((![v211] : Fin 1 → IVec S16 32) a x).toNat < S38912.size a)
theorem k1_idx27_inb : ∀ (v211 : IVec S16 32) (k1_hw27 : k1_chk27 v211), ∀ a x, ((![v211] : Fin 1 → IVec S16 32) a x).toNat < S38912.size a := fun v211 k1_hw27 => k1_hw27
def k1_off30 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v212 : Index := Scalar.indexCast arg9
  let c432 : Index := 432#32
  ![v212.toNat, 432]

def k1_chk28 (v213 : IVec S16 32) : Prop :=
  (∀ a x, ((![v213] : Fin 1 → IVec S16 32) a x).toNat < S38912.size a)
theorem k1_idx28_inb : ∀ (v213 : IVec S16 32) (k1_hw28 : k1_chk28 v213), ∀ a x, ((![v213] : Fin 1 → IVec S16 32) a x).toNat < S38912.size a := fun v213 k1_hw28 => k1_hw28
def k1_off31 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v214 : Index := Scalar.indexCast arg9
  let c448 : Index := 448#32
  ![v214.toNat, 448]

def k1_chk29 (v215 : IVec S16 32) : Prop :=
  (∀ a x, ((![v215] : Fin 1 → IVec S16 32) a x).toNat < S38912.size a)
theorem k1_idx29_inb : ∀ (v215 : IVec S16 32) (k1_hw29 : k1_chk29 v215), ∀ a x, ((![v215] : Fin 1 → IVec S16 32) a x).toNat < S38912.size a := fun v215 k1_hw29 => k1_hw29
def k1_off32 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v216 : Index := Scalar.indexCast arg9
  let c464 : Index := 464#32
  ![v216.toNat, 464]

def k1_chk30 (v217 : IVec S16 32) : Prop :=
  (∀ a x, ((![v217] : Fin 1 → IVec S16 32) a x).toNat < S38912.size a)
theorem k1_idx30_inb : ∀ (v217 : IVec S16 32) (k1_hw30 : k1_chk30 v217), ∀ a x, ((![v217] : Fin 1 → IVec S16 32) a x).toNat < S38912.size a := fun v217 k1_hw30 => k1_hw30
def k1_off33 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v218 : Index := Scalar.indexCast arg9
  let c480 : Index := 480#32
  ![v218.toNat, 480]

def k1_chk31 (v219 : IVec S16 32) : Prop :=
  (∀ a x, ((![v219] : Fin 1 → IVec S16 32) a x).toNat < S38912.size a)
theorem k1_idx31_inb : ∀ (v219 : IVec S16 32) (k1_hw31 : k1_chk31 v219), ∀ a x, ((![v219] : Fin 1 → IVec S16 32) a x).toNat < S38912.size a := fun v219 k1_hw31 => k1_hw31
def k1_off34 (k1_t2 : Fin k1_t2_loop.trips) : Fin 2 → Nat :=
  let c0_i32_12 : BitVec 32 := 0#32
  let c1_i32_14 : BitVec 32 := 1#32
  let arg9 : BitVec 32 := Scf.iv c0_i32_12 c1_i32_14 k1_t2
  let v220 : Index := Scalar.indexCast arg9
  let c496 : Index := 496#32
  ![v220.toNat, 496]

def k1_chk32 (v221 : IVec S16 32) : Prop :=
  (∀ a x, ((![v221] : Fin 1 → IVec S16 32) a x).toNat < S38912.size a)
theorem k1_idx32_inb : ∀ (v221 : IVec S16 32) (k1_hw32 : k1_chk32 v221), ∀ a x, ((![v221] : Fin 1 → IVec S16 32) a x).toNat < S38912.size a := fun v221 k1_hw32 => k1_hw32
@[reducible] def k1_t3_loop : Scf.Loop 32 :=
  let c0_i32_22 : BitVec 32 := 0#32
  let c64_i32_23 : BitVec 32 := 64#32
  let v23 : BitVec 32 := Scalar.addi c0_i32_22 c64_i32_23
  let c1_i32_24 : BitVec 32 := 1#32
  ⟨c0_i32_22, v23, c1_i32_24⟩
def k1_off35 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v158 : Index := Scalar.indexCast arg9
  let c0 : Index := 0#32
  ![v158.toNat, 0]

def k1_chk33 (v159 : IVec S16 32) : Prop :=
  (∀ a x, ((![v159] : Fin 1 → IVec S16 32) a x).toNat < S38912.size a)
theorem k1_idx33_inb : ∀ (v159 : IVec S16 32) (k1_hw33 : k1_chk33 v159), ∀ a x, ((![v159] : Fin 1 → IVec S16 32) a x).toNat < S38912.size a := fun v159 k1_hw33 => k1_hw33
def k1_off36 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v160 : Index := Scalar.indexCast arg9
  let c16 : Index := 16#32
  ![v160.toNat, 16]

def k1_chk34 (v161 : IVec S16 32) : Prop :=
  (∀ a x, ((![v161] : Fin 1 → IVec S16 32) a x).toNat < S38912.size a)
theorem k1_idx34_inb : ∀ (v161 : IVec S16 32) (k1_hw34 : k1_chk34 v161), ∀ a x, ((![v161] : Fin 1 → IVec S16 32) a x).toNat < S38912.size a := fun v161 k1_hw34 => k1_hw34
def k1_off37 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v162 : Index := Scalar.indexCast arg9
  let c32 : Index := 32#32
  ![v162.toNat, 32]

def k1_chk35 (v163 : IVec S16 32) : Prop :=
  (∀ a x, ((![v163] : Fin 1 → IVec S16 32) a x).toNat < S38912.size a)
theorem k1_idx35_inb : ∀ (v163 : IVec S16 32) (k1_hw35 : k1_chk35 v163), ∀ a x, ((![v163] : Fin 1 → IVec S16 32) a x).toNat < S38912.size a := fun v163 k1_hw35 => k1_hw35
def k1_off38 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v164 : Index := Scalar.indexCast arg9
  let c48 : Index := 48#32
  ![v164.toNat, 48]

def k1_chk36 (v165 : IVec S16 32) : Prop :=
  (∀ a x, ((![v165] : Fin 1 → IVec S16 32) a x).toNat < S38912.size a)
theorem k1_idx36_inb : ∀ (v165 : IVec S16 32) (k1_hw36 : k1_chk36 v165), ∀ a x, ((![v165] : Fin 1 → IVec S16 32) a x).toNat < S38912.size a := fun v165 k1_hw36 => k1_hw36
def k1_off39 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v166 : Index := Scalar.indexCast arg9
  let c64 : Index := 64#32
  ![v166.toNat, 64]

def k1_chk37 (v167 : IVec S16 32) : Prop :=
  (∀ a x, ((![v167] : Fin 1 → IVec S16 32) a x).toNat < S38912.size a)
theorem k1_idx37_inb : ∀ (v167 : IVec S16 32) (k1_hw37 : k1_chk37 v167), ∀ a x, ((![v167] : Fin 1 → IVec S16 32) a x).toNat < S38912.size a := fun v167 k1_hw37 => k1_hw37
def k1_off40 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v168 : Index := Scalar.indexCast arg9
  let c80 : Index := 80#32
  ![v168.toNat, 80]

def k1_chk38 (v169 : IVec S16 32) : Prop :=
  (∀ a x, ((![v169] : Fin 1 → IVec S16 32) a x).toNat < S38912.size a)
theorem k1_idx38_inb : ∀ (v169 : IVec S16 32) (k1_hw38 : k1_chk38 v169), ∀ a x, ((![v169] : Fin 1 → IVec S16 32) a x).toNat < S38912.size a := fun v169 k1_hw38 => k1_hw38
def k1_off41 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v170 : Index := Scalar.indexCast arg9
  let c96 : Index := 96#32
  ![v170.toNat, 96]

def k1_chk39 (v171 : IVec S16 32) : Prop :=
  (∀ a x, ((![v171] : Fin 1 → IVec S16 32) a x).toNat < S38912.size a)
theorem k1_idx39_inb : ∀ (v171 : IVec S16 32) (k1_hw39 : k1_chk39 v171), ∀ a x, ((![v171] : Fin 1 → IVec S16 32) a x).toNat < S38912.size a := fun v171 k1_hw39 => k1_hw39
def k1_off42 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v172 : Index := Scalar.indexCast arg9
  let c112 : Index := 112#32
  ![v172.toNat, 112]

def k1_chk40 (v173 : IVec S16 32) : Prop :=
  (∀ a x, ((![v173] : Fin 1 → IVec S16 32) a x).toNat < S38912.size a)
theorem k1_idx40_inb : ∀ (v173 : IVec S16 32) (k1_hw40 : k1_chk40 v173), ∀ a x, ((![v173] : Fin 1 → IVec S16 32) a x).toNat < S38912.size a := fun v173 k1_hw40 => k1_hw40
def k1_off43 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v174 : Index := Scalar.indexCast arg9
  let c128 : Index := 128#32
  ![v174.toNat, 128]

def k1_chk41 (v175 : IVec S16 32) : Prop :=
  (∀ a x, ((![v175] : Fin 1 → IVec S16 32) a x).toNat < S38912.size a)
theorem k1_idx41_inb : ∀ (v175 : IVec S16 32) (k1_hw41 : k1_chk41 v175), ∀ a x, ((![v175] : Fin 1 → IVec S16 32) a x).toNat < S38912.size a := fun v175 k1_hw41 => k1_hw41
def k1_off44 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v176 : Index := Scalar.indexCast arg9
  let c144 : Index := 144#32
  ![v176.toNat, 144]

def k1_chk42 (v177 : IVec S16 32) : Prop :=
  (∀ a x, ((![v177] : Fin 1 → IVec S16 32) a x).toNat < S38912.size a)
theorem k1_idx42_inb : ∀ (v177 : IVec S16 32) (k1_hw42 : k1_chk42 v177), ∀ a x, ((![v177] : Fin 1 → IVec S16 32) a x).toNat < S38912.size a := fun v177 k1_hw42 => k1_hw42
def k1_off45 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v178 : Index := Scalar.indexCast arg9
  let c160 : Index := 160#32
  ![v178.toNat, 160]

def k1_chk43 (v179 : IVec S16 32) : Prop :=
  (∀ a x, ((![v179] : Fin 1 → IVec S16 32) a x).toNat < S38912.size a)
theorem k1_idx43_inb : ∀ (v179 : IVec S16 32) (k1_hw43 : k1_chk43 v179), ∀ a x, ((![v179] : Fin 1 → IVec S16 32) a x).toNat < S38912.size a := fun v179 k1_hw43 => k1_hw43
def k1_off46 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v180 : Index := Scalar.indexCast arg9
  let c176 : Index := 176#32
  ![v180.toNat, 176]

def k1_chk44 (v181 : IVec S16 32) : Prop :=
  (∀ a x, ((![v181] : Fin 1 → IVec S16 32) a x).toNat < S38912.size a)
theorem k1_idx44_inb : ∀ (v181 : IVec S16 32) (k1_hw44 : k1_chk44 v181), ∀ a x, ((![v181] : Fin 1 → IVec S16 32) a x).toNat < S38912.size a := fun v181 k1_hw44 => k1_hw44
def k1_off47 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v182 : Index := Scalar.indexCast arg9
  let c192 : Index := 192#32
  ![v182.toNat, 192]

def k1_chk45 (v183 : IVec S16 32) : Prop :=
  (∀ a x, ((![v183] : Fin 1 → IVec S16 32) a x).toNat < S38912.size a)
theorem k1_idx45_inb : ∀ (v183 : IVec S16 32) (k1_hw45 : k1_chk45 v183), ∀ a x, ((![v183] : Fin 1 → IVec S16 32) a x).toNat < S38912.size a := fun v183 k1_hw45 => k1_hw45
def k1_off48 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v184 : Index := Scalar.indexCast arg9
  let c208 : Index := 208#32
  ![v184.toNat, 208]

def k1_chk46 (v185 : IVec S16 32) : Prop :=
  (∀ a x, ((![v185] : Fin 1 → IVec S16 32) a x).toNat < S38912.size a)
theorem k1_idx46_inb : ∀ (v185 : IVec S16 32) (k1_hw46 : k1_chk46 v185), ∀ a x, ((![v185] : Fin 1 → IVec S16 32) a x).toNat < S38912.size a := fun v185 k1_hw46 => k1_hw46
def k1_off49 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v186 : Index := Scalar.indexCast arg9
  let c224 : Index := 224#32
  ![v186.toNat, 224]

def k1_chk47 (v187 : IVec S16 32) : Prop :=
  (∀ a x, ((![v187] : Fin 1 → IVec S16 32) a x).toNat < S38912.size a)
theorem k1_idx47_inb : ∀ (v187 : IVec S16 32) (k1_hw47 : k1_chk47 v187), ∀ a x, ((![v187] : Fin 1 → IVec S16 32) a x).toNat < S38912.size a := fun v187 k1_hw47 => k1_hw47
def k1_off50 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v188 : Index := Scalar.indexCast arg9
  let c240 : Index := 240#32
  ![v188.toNat, 240]

def k1_chk48 (v189 : IVec S16 32) : Prop :=
  (∀ a x, ((![v189] : Fin 1 → IVec S16 32) a x).toNat < S38912.size a)
theorem k1_idx48_inb : ∀ (v189 : IVec S16 32) (k1_hw48 : k1_chk48 v189), ∀ a x, ((![v189] : Fin 1 → IVec S16 32) a x).toNat < S38912.size a := fun v189 k1_hw48 => k1_hw48
def k1_off51 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v190 : Index := Scalar.indexCast arg9
  let c256 : Index := 256#32
  ![v190.toNat, 256]

def k1_chk49 (v191 : IVec S16 32) : Prop :=
  (∀ a x, ((![v191] : Fin 1 → IVec S16 32) a x).toNat < S38912.size a)
theorem k1_idx49_inb : ∀ (v191 : IVec S16 32) (k1_hw49 : k1_chk49 v191), ∀ a x, ((![v191] : Fin 1 → IVec S16 32) a x).toNat < S38912.size a := fun v191 k1_hw49 => k1_hw49
def k1_off52 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v192 : Index := Scalar.indexCast arg9
  let c272 : Index := 272#32
  ![v192.toNat, 272]

def k1_chk50 (v193 : IVec S16 32) : Prop :=
  (∀ a x, ((![v193] : Fin 1 → IVec S16 32) a x).toNat < S38912.size a)
theorem k1_idx50_inb : ∀ (v193 : IVec S16 32) (k1_hw50 : k1_chk50 v193), ∀ a x, ((![v193] : Fin 1 → IVec S16 32) a x).toNat < S38912.size a := fun v193 k1_hw50 => k1_hw50
def k1_off53 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v194 : Index := Scalar.indexCast arg9
  let c288 : Index := 288#32
  ![v194.toNat, 288]

def k1_chk51 (v195 : IVec S16 32) : Prop :=
  (∀ a x, ((![v195] : Fin 1 → IVec S16 32) a x).toNat < S38912.size a)
theorem k1_idx51_inb : ∀ (v195 : IVec S16 32) (k1_hw51 : k1_chk51 v195), ∀ a x, ((![v195] : Fin 1 → IVec S16 32) a x).toNat < S38912.size a := fun v195 k1_hw51 => k1_hw51
def k1_off54 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v196 : Index := Scalar.indexCast arg9
  let c304 : Index := 304#32
  ![v196.toNat, 304]

def k1_chk52 (v197 : IVec S16 32) : Prop :=
  (∀ a x, ((![v197] : Fin 1 → IVec S16 32) a x).toNat < S38912.size a)
theorem k1_idx52_inb : ∀ (v197 : IVec S16 32) (k1_hw52 : k1_chk52 v197), ∀ a x, ((![v197] : Fin 1 → IVec S16 32) a x).toNat < S38912.size a := fun v197 k1_hw52 => k1_hw52
def k1_off55 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v198 : Index := Scalar.indexCast arg9
  let c320 : Index := 320#32
  ![v198.toNat, 320]

def k1_chk53 (v199 : IVec S16 32) : Prop :=
  (∀ a x, ((![v199] : Fin 1 → IVec S16 32) a x).toNat < S38912.size a)
theorem k1_idx53_inb : ∀ (v199 : IVec S16 32) (k1_hw53 : k1_chk53 v199), ∀ a x, ((![v199] : Fin 1 → IVec S16 32) a x).toNat < S38912.size a := fun v199 k1_hw53 => k1_hw53
def k1_off56 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v200 : Index := Scalar.indexCast arg9
  let c336 : Index := 336#32
  ![v200.toNat, 336]

def k1_chk54 (v201 : IVec S16 32) : Prop :=
  (∀ a x, ((![v201] : Fin 1 → IVec S16 32) a x).toNat < S38912.size a)
theorem k1_idx54_inb : ∀ (v201 : IVec S16 32) (k1_hw54 : k1_chk54 v201), ∀ a x, ((![v201] : Fin 1 → IVec S16 32) a x).toNat < S38912.size a := fun v201 k1_hw54 => k1_hw54
def k1_off57 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v202 : Index := Scalar.indexCast arg9
  let c352 : Index := 352#32
  ![v202.toNat, 352]

def k1_chk55 (v203 : IVec S16 32) : Prop :=
  (∀ a x, ((![v203] : Fin 1 → IVec S16 32) a x).toNat < S38912.size a)
theorem k1_idx55_inb : ∀ (v203 : IVec S16 32) (k1_hw55 : k1_chk55 v203), ∀ a x, ((![v203] : Fin 1 → IVec S16 32) a x).toNat < S38912.size a := fun v203 k1_hw55 => k1_hw55
def k1_off58 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v204 : Index := Scalar.indexCast arg9
  let c368 : Index := 368#32
  ![v204.toNat, 368]

def k1_chk56 (v205 : IVec S16 32) : Prop :=
  (∀ a x, ((![v205] : Fin 1 → IVec S16 32) a x).toNat < S38912.size a)
theorem k1_idx56_inb : ∀ (v205 : IVec S16 32) (k1_hw56 : k1_chk56 v205), ∀ a x, ((![v205] : Fin 1 → IVec S16 32) a x).toNat < S38912.size a := fun v205 k1_hw56 => k1_hw56
def k1_off59 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v206 : Index := Scalar.indexCast arg9
  let c384 : Index := 384#32
  ![v206.toNat, 384]

def k1_chk57 (v207 : IVec S16 32) : Prop :=
  (∀ a x, ((![v207] : Fin 1 → IVec S16 32) a x).toNat < S38912.size a)
theorem k1_idx57_inb : ∀ (v207 : IVec S16 32) (k1_hw57 : k1_chk57 v207), ∀ a x, ((![v207] : Fin 1 → IVec S16 32) a x).toNat < S38912.size a := fun v207 k1_hw57 => k1_hw57
def k1_off60 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v208 : Index := Scalar.indexCast arg9
  let c400 : Index := 400#32
  ![v208.toNat, 400]

def k1_chk58 (v209 : IVec S16 32) : Prop :=
  (∀ a x, ((![v209] : Fin 1 → IVec S16 32) a x).toNat < S38912.size a)
theorem k1_idx58_inb : ∀ (v209 : IVec S16 32) (k1_hw58 : k1_chk58 v209), ∀ a x, ((![v209] : Fin 1 → IVec S16 32) a x).toNat < S38912.size a := fun v209 k1_hw58 => k1_hw58
def k1_off61 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v210 : Index := Scalar.indexCast arg9
  let c416 : Index := 416#32
  ![v210.toNat, 416]

def k1_chk59 (v211 : IVec S16 32) : Prop :=
  (∀ a x, ((![v211] : Fin 1 → IVec S16 32) a x).toNat < S38912.size a)
theorem k1_idx59_inb : ∀ (v211 : IVec S16 32) (k1_hw59 : k1_chk59 v211), ∀ a x, ((![v211] : Fin 1 → IVec S16 32) a x).toNat < S38912.size a := fun v211 k1_hw59 => k1_hw59
def k1_off62 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v212 : Index := Scalar.indexCast arg9
  let c432 : Index := 432#32
  ![v212.toNat, 432]

def k1_chk60 (v213 : IVec S16 32) : Prop :=
  (∀ a x, ((![v213] : Fin 1 → IVec S16 32) a x).toNat < S38912.size a)
theorem k1_idx60_inb : ∀ (v213 : IVec S16 32) (k1_hw60 : k1_chk60 v213), ∀ a x, ((![v213] : Fin 1 → IVec S16 32) a x).toNat < S38912.size a := fun v213 k1_hw60 => k1_hw60
def k1_off63 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v214 : Index := Scalar.indexCast arg9
  let c448 : Index := 448#32
  ![v214.toNat, 448]

def k1_chk61 (v215 : IVec S16 32) : Prop :=
  (∀ a x, ((![v215] : Fin 1 → IVec S16 32) a x).toNat < S38912.size a)
theorem k1_idx61_inb : ∀ (v215 : IVec S16 32) (k1_hw61 : k1_chk61 v215), ∀ a x, ((![v215] : Fin 1 → IVec S16 32) a x).toNat < S38912.size a := fun v215 k1_hw61 => k1_hw61
def k1_off64 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v216 : Index := Scalar.indexCast arg9
  let c464 : Index := 464#32
  ![v216.toNat, 464]

def k1_chk62 (v217 : IVec S16 32) : Prop :=
  (∀ a x, ((![v217] : Fin 1 → IVec S16 32) a x).toNat < S38912.size a)
theorem k1_idx62_inb : ∀ (v217 : IVec S16 32) (k1_hw62 : k1_chk62 v217), ∀ a x, ((![v217] : Fin 1 → IVec S16 32) a x).toNat < S38912.size a := fun v217 k1_hw62 => k1_hw62
def k1_off65 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v218 : Index := Scalar.indexCast arg9
  let c480 : Index := 480#32
  ![v218.toNat, 480]

def k1_chk63 (v219 : IVec S16 32) : Prop :=
  (∀ a x, ((![v219] : Fin 1 → IVec S16 32) a x).toNat < S38912.size a)
theorem k1_idx63_inb : ∀ (v219 : IVec S16 32) (k1_hw63 : k1_chk63 v219), ∀ a x, ((![v219] : Fin 1 → IVec S16 32) a x).toNat < S38912.size a := fun v219 k1_hw63 => k1_hw63
def k1_off66 (k1_t3 : Fin k1_t3_loop.trips) : Fin 2 → Nat :=
  let c0_i32_22 : BitVec 32 := 0#32
  let c1_i32_24 : BitVec 32 := 1#32
  let arg9 : BitVec 32 := Scf.iv c0_i32_22 c1_i32_24 k1_t3
  let v220 : Index := Scalar.indexCast arg9
  let c496 : Index := 496#32
  ![v220.toNat, 496]

def k1_chk64 (v221 : IVec S16 32) : Prop :=
  (∀ a x, ((![v221] : Fin 1 → IVec S16 32) a x).toNat < S38912.size a)
theorem k1_idx64_inb : ∀ (v221 : IVec S16 32) (k1_hw64 : k1_chk64 v221), ∀ a x, ((![v221] : Fin 1 → IVec S16 32) a x).toNat < S38912.size a := fun v221 k1_hw64 => k1_hw64
@[reducible] def k1_t4_loop : Scf.Loop 32 :=
  let c0_i32_32 : BitVec 32 := 0#32
  let c64_i32_33 : BitVec 32 := 64#32
  let v31 : BitVec 32 := Scalar.addi c0_i32_32 c64_i32_33
  let c1_i32_34 : BitVec 32 := 1#32
  ⟨c0_i32_32, v31, c1_i32_34⟩
def k1_off67 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v158 : Index := Scalar.indexCast arg9
  let c0 : Index := 0#32
  ![v158.toNat, 0]

def k1_chk65 (v159 : IVec S16 32) : Prop :=
  (∀ a x, ((![v159] : Fin 1 → IVec S16 32) a x).toNat < S38912.size a)
theorem k1_idx65_inb : ∀ (v159 : IVec S16 32) (k1_hw65 : k1_chk65 v159), ∀ a x, ((![v159] : Fin 1 → IVec S16 32) a x).toNat < S38912.size a := fun v159 k1_hw65 => k1_hw65
def k1_off68 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v160 : Index := Scalar.indexCast arg9
  let c16 : Index := 16#32
  ![v160.toNat, 16]

def k1_chk66 (v161 : IVec S16 32) : Prop :=
  (∀ a x, ((![v161] : Fin 1 → IVec S16 32) a x).toNat < S38912.size a)
theorem k1_idx66_inb : ∀ (v161 : IVec S16 32) (k1_hw66 : k1_chk66 v161), ∀ a x, ((![v161] : Fin 1 → IVec S16 32) a x).toNat < S38912.size a := fun v161 k1_hw66 => k1_hw66
def k1_off69 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v162 : Index := Scalar.indexCast arg9
  let c32 : Index := 32#32
  ![v162.toNat, 32]

def k1_chk67 (v163 : IVec S16 32) : Prop :=
  (∀ a x, ((![v163] : Fin 1 → IVec S16 32) a x).toNat < S38912.size a)
theorem k1_idx67_inb : ∀ (v163 : IVec S16 32) (k1_hw67 : k1_chk67 v163), ∀ a x, ((![v163] : Fin 1 → IVec S16 32) a x).toNat < S38912.size a := fun v163 k1_hw67 => k1_hw67
def k1_off70 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v164 : Index := Scalar.indexCast arg9
  let c48 : Index := 48#32
  ![v164.toNat, 48]

def k1_chk68 (v165 : IVec S16 32) : Prop :=
  (∀ a x, ((![v165] : Fin 1 → IVec S16 32) a x).toNat < S38912.size a)
theorem k1_idx68_inb : ∀ (v165 : IVec S16 32) (k1_hw68 : k1_chk68 v165), ∀ a x, ((![v165] : Fin 1 → IVec S16 32) a x).toNat < S38912.size a := fun v165 k1_hw68 => k1_hw68
def k1_off71 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v166 : Index := Scalar.indexCast arg9
  let c64 : Index := 64#32
  ![v166.toNat, 64]

def k1_chk69 (v167 : IVec S16 32) : Prop :=
  (∀ a x, ((![v167] : Fin 1 → IVec S16 32) a x).toNat < S38912.size a)
theorem k1_idx69_inb : ∀ (v167 : IVec S16 32) (k1_hw69 : k1_chk69 v167), ∀ a x, ((![v167] : Fin 1 → IVec S16 32) a x).toNat < S38912.size a := fun v167 k1_hw69 => k1_hw69
def k1_off72 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v168 : Index := Scalar.indexCast arg9
  let c80 : Index := 80#32
  ![v168.toNat, 80]

def k1_chk70 (v169 : IVec S16 32) : Prop :=
  (∀ a x, ((![v169] : Fin 1 → IVec S16 32) a x).toNat < S38912.size a)
theorem k1_idx70_inb : ∀ (v169 : IVec S16 32) (k1_hw70 : k1_chk70 v169), ∀ a x, ((![v169] : Fin 1 → IVec S16 32) a x).toNat < S38912.size a := fun v169 k1_hw70 => k1_hw70
def k1_off73 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v170 : Index := Scalar.indexCast arg9
  let c96 : Index := 96#32
  ![v170.toNat, 96]

def k1_chk71 (v171 : IVec S16 32) : Prop :=
  (∀ a x, ((![v171] : Fin 1 → IVec S16 32) a x).toNat < S38912.size a)
theorem k1_idx71_inb : ∀ (v171 : IVec S16 32) (k1_hw71 : k1_chk71 v171), ∀ a x, ((![v171] : Fin 1 → IVec S16 32) a x).toNat < S38912.size a := fun v171 k1_hw71 => k1_hw71
def k1_off74 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v172 : Index := Scalar.indexCast arg9
  let c112 : Index := 112#32
  ![v172.toNat, 112]

def k1_chk72 (v173 : IVec S16 32) : Prop :=
  (∀ a x, ((![v173] : Fin 1 → IVec S16 32) a x).toNat < S38912.size a)
theorem k1_idx72_inb : ∀ (v173 : IVec S16 32) (k1_hw72 : k1_chk72 v173), ∀ a x, ((![v173] : Fin 1 → IVec S16 32) a x).toNat < S38912.size a := fun v173 k1_hw72 => k1_hw72
def k1_off75 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v174 : Index := Scalar.indexCast arg9
  let c128 : Index := 128#32
  ![v174.toNat, 128]

def k1_chk73 (v175 : IVec S16 32) : Prop :=
  (∀ a x, ((![v175] : Fin 1 → IVec S16 32) a x).toNat < S38912.size a)
theorem k1_idx73_inb : ∀ (v175 : IVec S16 32) (k1_hw73 : k1_chk73 v175), ∀ a x, ((![v175] : Fin 1 → IVec S16 32) a x).toNat < S38912.size a := fun v175 k1_hw73 => k1_hw73
def k1_off76 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v176 : Index := Scalar.indexCast arg9
  let c144 : Index := 144#32
  ![v176.toNat, 144]

def k1_chk74 (v177 : IVec S16 32) : Prop :=
  (∀ a x, ((![v177] : Fin 1 → IVec S16 32) a x).toNat < S38912.size a)
theorem k1_idx74_inb : ∀ (v177 : IVec S16 32) (k1_hw74 : k1_chk74 v177), ∀ a x, ((![v177] : Fin 1 → IVec S16 32) a x).toNat < S38912.size a := fun v177 k1_hw74 => k1_hw74
def k1_off77 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v178 : Index := Scalar.indexCast arg9
  let c160 : Index := 160#32
  ![v178.toNat, 160]

def k1_chk75 (v179 : IVec S16 32) : Prop :=
  (∀ a x, ((![v179] : Fin 1 → IVec S16 32) a x).toNat < S38912.size a)
theorem k1_idx75_inb : ∀ (v179 : IVec S16 32) (k1_hw75 : k1_chk75 v179), ∀ a x, ((![v179] : Fin 1 → IVec S16 32) a x).toNat < S38912.size a := fun v179 k1_hw75 => k1_hw75
def k1_off78 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v180 : Index := Scalar.indexCast arg9
  let c176 : Index := 176#32
  ![v180.toNat, 176]

def k1_chk76 (v181 : IVec S16 32) : Prop :=
  (∀ a x, ((![v181] : Fin 1 → IVec S16 32) a x).toNat < S38912.size a)
theorem k1_idx76_inb : ∀ (v181 : IVec S16 32) (k1_hw76 : k1_chk76 v181), ∀ a x, ((![v181] : Fin 1 → IVec S16 32) a x).toNat < S38912.size a := fun v181 k1_hw76 => k1_hw76
def k1_off79 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v182 : Index := Scalar.indexCast arg9
  let c192 : Index := 192#32
  ![v182.toNat, 192]

def k1_chk77 (v183 : IVec S16 32) : Prop :=
  (∀ a x, ((![v183] : Fin 1 → IVec S16 32) a x).toNat < S38912.size a)
theorem k1_idx77_inb : ∀ (v183 : IVec S16 32) (k1_hw77 : k1_chk77 v183), ∀ a x, ((![v183] : Fin 1 → IVec S16 32) a x).toNat < S38912.size a := fun v183 k1_hw77 => k1_hw77
def k1_off80 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v184 : Index := Scalar.indexCast arg9
  let c208 : Index := 208#32
  ![v184.toNat, 208]

def k1_chk78 (v185 : IVec S16 32) : Prop :=
  (∀ a x, ((![v185] : Fin 1 → IVec S16 32) a x).toNat < S38912.size a)
theorem k1_idx78_inb : ∀ (v185 : IVec S16 32) (k1_hw78 : k1_chk78 v185), ∀ a x, ((![v185] : Fin 1 → IVec S16 32) a x).toNat < S38912.size a := fun v185 k1_hw78 => k1_hw78
def k1_off81 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v186 : Index := Scalar.indexCast arg9
  let c224 : Index := 224#32
  ![v186.toNat, 224]

def k1_chk79 (v187 : IVec S16 32) : Prop :=
  (∀ a x, ((![v187] : Fin 1 → IVec S16 32) a x).toNat < S38912.size a)
theorem k1_idx79_inb : ∀ (v187 : IVec S16 32) (k1_hw79 : k1_chk79 v187), ∀ a x, ((![v187] : Fin 1 → IVec S16 32) a x).toNat < S38912.size a := fun v187 k1_hw79 => k1_hw79
def k1_off82 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v188 : Index := Scalar.indexCast arg9
  let c240 : Index := 240#32
  ![v188.toNat, 240]

def k1_chk80 (v189 : IVec S16 32) : Prop :=
  (∀ a x, ((![v189] : Fin 1 → IVec S16 32) a x).toNat < S38912.size a)
theorem k1_idx80_inb : ∀ (v189 : IVec S16 32) (k1_hw80 : k1_chk80 v189), ∀ a x, ((![v189] : Fin 1 → IVec S16 32) a x).toNat < S38912.size a := fun v189 k1_hw80 => k1_hw80
def k1_off83 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v190 : Index := Scalar.indexCast arg9
  let c256 : Index := 256#32
  ![v190.toNat, 256]

def k1_chk81 (v191 : IVec S16 32) : Prop :=
  (∀ a x, ((![v191] : Fin 1 → IVec S16 32) a x).toNat < S38912.size a)
theorem k1_idx81_inb : ∀ (v191 : IVec S16 32) (k1_hw81 : k1_chk81 v191), ∀ a x, ((![v191] : Fin 1 → IVec S16 32) a x).toNat < S38912.size a := fun v191 k1_hw81 => k1_hw81
def k1_off84 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v192 : Index := Scalar.indexCast arg9
  let c272 : Index := 272#32
  ![v192.toNat, 272]

def k1_chk82 (v193 : IVec S16 32) : Prop :=
  (∀ a x, ((![v193] : Fin 1 → IVec S16 32) a x).toNat < S38912.size a)
theorem k1_idx82_inb : ∀ (v193 : IVec S16 32) (k1_hw82 : k1_chk82 v193), ∀ a x, ((![v193] : Fin 1 → IVec S16 32) a x).toNat < S38912.size a := fun v193 k1_hw82 => k1_hw82
def k1_off85 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v194 : Index := Scalar.indexCast arg9
  let c288 : Index := 288#32
  ![v194.toNat, 288]

def k1_chk83 (v195 : IVec S16 32) : Prop :=
  (∀ a x, ((![v195] : Fin 1 → IVec S16 32) a x).toNat < S38912.size a)
theorem k1_idx83_inb : ∀ (v195 : IVec S16 32) (k1_hw83 : k1_chk83 v195), ∀ a x, ((![v195] : Fin 1 → IVec S16 32) a x).toNat < S38912.size a := fun v195 k1_hw83 => k1_hw83
def k1_off86 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v196 : Index := Scalar.indexCast arg9
  let c304 : Index := 304#32
  ![v196.toNat, 304]

def k1_chk84 (v197 : IVec S16 32) : Prop :=
  (∀ a x, ((![v197] : Fin 1 → IVec S16 32) a x).toNat < S38912.size a)
theorem k1_idx84_inb : ∀ (v197 : IVec S16 32) (k1_hw84 : k1_chk84 v197), ∀ a x, ((![v197] : Fin 1 → IVec S16 32) a x).toNat < S38912.size a := fun v197 k1_hw84 => k1_hw84
def k1_off87 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v198 : Index := Scalar.indexCast arg9
  let c320 : Index := 320#32
  ![v198.toNat, 320]

def k1_chk85 (v199 : IVec S16 32) : Prop :=
  (∀ a x, ((![v199] : Fin 1 → IVec S16 32) a x).toNat < S38912.size a)
theorem k1_idx85_inb : ∀ (v199 : IVec S16 32) (k1_hw85 : k1_chk85 v199), ∀ a x, ((![v199] : Fin 1 → IVec S16 32) a x).toNat < S38912.size a := fun v199 k1_hw85 => k1_hw85
def k1_off88 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v200 : Index := Scalar.indexCast arg9
  let c336 : Index := 336#32
  ![v200.toNat, 336]

def k1_chk86 (v201 : IVec S16 32) : Prop :=
  (∀ a x, ((![v201] : Fin 1 → IVec S16 32) a x).toNat < S38912.size a)
theorem k1_idx86_inb : ∀ (v201 : IVec S16 32) (k1_hw86 : k1_chk86 v201), ∀ a x, ((![v201] : Fin 1 → IVec S16 32) a x).toNat < S38912.size a := fun v201 k1_hw86 => k1_hw86
def k1_off89 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v202 : Index := Scalar.indexCast arg9
  let c352 : Index := 352#32
  ![v202.toNat, 352]

def k1_chk87 (v203 : IVec S16 32) : Prop :=
  (∀ a x, ((![v203] : Fin 1 → IVec S16 32) a x).toNat < S38912.size a)
theorem k1_idx87_inb : ∀ (v203 : IVec S16 32) (k1_hw87 : k1_chk87 v203), ∀ a x, ((![v203] : Fin 1 → IVec S16 32) a x).toNat < S38912.size a := fun v203 k1_hw87 => k1_hw87
def k1_off90 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v204 : Index := Scalar.indexCast arg9
  let c368 : Index := 368#32
  ![v204.toNat, 368]

def k1_chk88 (v205 : IVec S16 32) : Prop :=
  (∀ a x, ((![v205] : Fin 1 → IVec S16 32) a x).toNat < S38912.size a)
theorem k1_idx88_inb : ∀ (v205 : IVec S16 32) (k1_hw88 : k1_chk88 v205), ∀ a x, ((![v205] : Fin 1 → IVec S16 32) a x).toNat < S38912.size a := fun v205 k1_hw88 => k1_hw88
def k1_off91 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v206 : Index := Scalar.indexCast arg9
  let c384 : Index := 384#32
  ![v206.toNat, 384]

def k1_chk89 (v207 : IVec S16 32) : Prop :=
  (∀ a x, ((![v207] : Fin 1 → IVec S16 32) a x).toNat < S38912.size a)
theorem k1_idx89_inb : ∀ (v207 : IVec S16 32) (k1_hw89 : k1_chk89 v207), ∀ a x, ((![v207] : Fin 1 → IVec S16 32) a x).toNat < S38912.size a := fun v207 k1_hw89 => k1_hw89
def k1_off92 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v208 : Index := Scalar.indexCast arg9
  let c400 : Index := 400#32
  ![v208.toNat, 400]

def k1_chk90 (v209 : IVec S16 32) : Prop :=
  (∀ a x, ((![v209] : Fin 1 → IVec S16 32) a x).toNat < S38912.size a)
theorem k1_idx90_inb : ∀ (v209 : IVec S16 32) (k1_hw90 : k1_chk90 v209), ∀ a x, ((![v209] : Fin 1 → IVec S16 32) a x).toNat < S38912.size a := fun v209 k1_hw90 => k1_hw90
def k1_off93 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v210 : Index := Scalar.indexCast arg9
  let c416 : Index := 416#32
  ![v210.toNat, 416]

def k1_chk91 (v211 : IVec S16 32) : Prop :=
  (∀ a x, ((![v211] : Fin 1 → IVec S16 32) a x).toNat < S38912.size a)
theorem k1_idx91_inb : ∀ (v211 : IVec S16 32) (k1_hw91 : k1_chk91 v211), ∀ a x, ((![v211] : Fin 1 → IVec S16 32) a x).toNat < S38912.size a := fun v211 k1_hw91 => k1_hw91
def k1_off94 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v212 : Index := Scalar.indexCast arg9
  let c432 : Index := 432#32
  ![v212.toNat, 432]

def k1_chk92 (v213 : IVec S16 32) : Prop :=
  (∀ a x, ((![v213] : Fin 1 → IVec S16 32) a x).toNat < S38912.size a)
theorem k1_idx92_inb : ∀ (v213 : IVec S16 32) (k1_hw92 : k1_chk92 v213), ∀ a x, ((![v213] : Fin 1 → IVec S16 32) a x).toNat < S38912.size a := fun v213 k1_hw92 => k1_hw92
def k1_off95 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v214 : Index := Scalar.indexCast arg9
  let c448 : Index := 448#32
  ![v214.toNat, 448]

def k1_chk93 (v215 : IVec S16 32) : Prop :=
  (∀ a x, ((![v215] : Fin 1 → IVec S16 32) a x).toNat < S38912.size a)
theorem k1_idx93_inb : ∀ (v215 : IVec S16 32) (k1_hw93 : k1_chk93 v215), ∀ a x, ((![v215] : Fin 1 → IVec S16 32) a x).toNat < S38912.size a := fun v215 k1_hw93 => k1_hw93
def k1_off96 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v216 : Index := Scalar.indexCast arg9
  let c464 : Index := 464#32
  ![v216.toNat, 464]

def k1_chk94 (v217 : IVec S16 32) : Prop :=
  (∀ a x, ((![v217] : Fin 1 → IVec S16 32) a x).toNat < S38912.size a)
theorem k1_idx94_inb : ∀ (v217 : IVec S16 32) (k1_hw94 : k1_chk94 v217), ∀ a x, ((![v217] : Fin 1 → IVec S16 32) a x).toNat < S38912.size a := fun v217 k1_hw94 => k1_hw94
def k1_off97 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v218 : Index := Scalar.indexCast arg9
  let c480 : Index := 480#32
  ![v218.toNat, 480]

def k1_chk95 (v219 : IVec S16 32) : Prop :=
  (∀ a x, ((![v219] : Fin 1 → IVec S16 32) a x).toNat < S38912.size a)
theorem k1_idx95_inb : ∀ (v219 : IVec S16 32) (k1_hw95 : k1_chk95 v219), ∀ a x, ((![v219] : Fin 1 → IVec S16 32) a x).toNat < S38912.size a := fun v219 k1_hw95 => k1_hw95
def k1_off98 (k1_t4 : Fin k1_t4_loop.trips) : Fin 2 → Nat :=
  let c0_i32_32 : BitVec 32 := 0#32
  let c1_i32_34 : BitVec 32 := 1#32
  let arg9 : BitVec 32 := Scf.iv c0_i32_32 c1_i32_34 k1_t4
  let v220 : Index := Scalar.indexCast arg9
  let c496 : Index := 496#32
  ![v220.toNat, 496]

def k1_chk96 (v221 : IVec S16 32) : Prop :=
  (∀ a x, ((![v221] : Fin 1 → IVec S16 32) a x).toNat < S38912.size a)
theorem k1_idx96_inb : ∀ (v221 : IVec S16 32) (k1_hw96 : k1_chk96 v221), ∀ a x, ((![v221] : Fin 1 → IVec S16 32) a x).toNat < S38912.size a := fun v221 k1_hw96 => k1_hw96
@[reducible] def k1_t5_loop : Scf.Loop 32 :=
  let c0_i32_42 : BitVec 32 := 0#32
  let c64_i32_43 : BitVec 32 := 64#32
  let v39 : BitVec 32 := Scalar.addi c0_i32_42 c64_i32_43
  let c1_i32_44 : BitVec 32 := 1#32
  ⟨c0_i32_42, v39, c1_i32_44⟩
def k1_off99 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v158 : Index := Scalar.indexCast arg9
  let c0 : Index := 0#32
  ![v158.toNat, 0]

def k1_chk97 (v159 : IVec S16 32) : Prop :=
  (∀ a x, ((![v159] : Fin 1 → IVec S16 32) a x).toNat < S38912.size a)
theorem k1_idx97_inb : ∀ (v159 : IVec S16 32) (k1_hw97 : k1_chk97 v159), ∀ a x, ((![v159] : Fin 1 → IVec S16 32) a x).toNat < S38912.size a := fun v159 k1_hw97 => k1_hw97
def k1_off100 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v160 : Index := Scalar.indexCast arg9
  let c16 : Index := 16#32
  ![v160.toNat, 16]

def k1_chk98 (v161 : IVec S16 32) : Prop :=
  (∀ a x, ((![v161] : Fin 1 → IVec S16 32) a x).toNat < S38912.size a)
theorem k1_idx98_inb : ∀ (v161 : IVec S16 32) (k1_hw98 : k1_chk98 v161), ∀ a x, ((![v161] : Fin 1 → IVec S16 32) a x).toNat < S38912.size a := fun v161 k1_hw98 => k1_hw98
def k1_off101 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v162 : Index := Scalar.indexCast arg9
  let c32 : Index := 32#32
  ![v162.toNat, 32]

def k1_chk99 (v163 : IVec S16 32) : Prop :=
  (∀ a x, ((![v163] : Fin 1 → IVec S16 32) a x).toNat < S38912.size a)
theorem k1_idx99_inb : ∀ (v163 : IVec S16 32) (k1_hw99 : k1_chk99 v163), ∀ a x, ((![v163] : Fin 1 → IVec S16 32) a x).toNat < S38912.size a := fun v163 k1_hw99 => k1_hw99
def k1_off102 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v164 : Index := Scalar.indexCast arg9
  let c48 : Index := 48#32
  ![v164.toNat, 48]

def k1_chk100 (v165 : IVec S16 32) : Prop :=
  (∀ a x, ((![v165] : Fin 1 → IVec S16 32) a x).toNat < S38912.size a)
theorem k1_idx100_inb : ∀ (v165 : IVec S16 32) (k1_hw100 : k1_chk100 v165), ∀ a x, ((![v165] : Fin 1 → IVec S16 32) a x).toNat < S38912.size a := fun v165 k1_hw100 => k1_hw100
def k1_off103 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v166 : Index := Scalar.indexCast arg9
  let c64 : Index := 64#32
  ![v166.toNat, 64]

def k1_chk101 (v167 : IVec S16 32) : Prop :=
  (∀ a x, ((![v167] : Fin 1 → IVec S16 32) a x).toNat < S38912.size a)
theorem k1_idx101_inb : ∀ (v167 : IVec S16 32) (k1_hw101 : k1_chk101 v167), ∀ a x, ((![v167] : Fin 1 → IVec S16 32) a x).toNat < S38912.size a := fun v167 k1_hw101 => k1_hw101
def k1_off104 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v168 : Index := Scalar.indexCast arg9
  let c80 : Index := 80#32
  ![v168.toNat, 80]

def k1_chk102 (v169 : IVec S16 32) : Prop :=
  (∀ a x, ((![v169] : Fin 1 → IVec S16 32) a x).toNat < S38912.size a)
theorem k1_idx102_inb : ∀ (v169 : IVec S16 32) (k1_hw102 : k1_chk102 v169), ∀ a x, ((![v169] : Fin 1 → IVec S16 32) a x).toNat < S38912.size a := fun v169 k1_hw102 => k1_hw102
def k1_off105 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v170 : Index := Scalar.indexCast arg9
  let c96 : Index := 96#32
  ![v170.toNat, 96]

def k1_chk103 (v171 : IVec S16 32) : Prop :=
  (∀ a x, ((![v171] : Fin 1 → IVec S16 32) a x).toNat < S38912.size a)
theorem k1_idx103_inb : ∀ (v171 : IVec S16 32) (k1_hw103 : k1_chk103 v171), ∀ a x, ((![v171] : Fin 1 → IVec S16 32) a x).toNat < S38912.size a := fun v171 k1_hw103 => k1_hw103
def k1_off106 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v172 : Index := Scalar.indexCast arg9
  let c112 : Index := 112#32
  ![v172.toNat, 112]

def k1_chk104 (v173 : IVec S16 32) : Prop :=
  (∀ a x, ((![v173] : Fin 1 → IVec S16 32) a x).toNat < S38912.size a)
theorem k1_idx104_inb : ∀ (v173 : IVec S16 32) (k1_hw104 : k1_chk104 v173), ∀ a x, ((![v173] : Fin 1 → IVec S16 32) a x).toNat < S38912.size a := fun v173 k1_hw104 => k1_hw104
def k1_off107 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v174 : Index := Scalar.indexCast arg9
  let c128 : Index := 128#32
  ![v174.toNat, 128]

def k1_chk105 (v175 : IVec S16 32) : Prop :=
  (∀ a x, ((![v175] : Fin 1 → IVec S16 32) a x).toNat < S38912.size a)
theorem k1_idx105_inb : ∀ (v175 : IVec S16 32) (k1_hw105 : k1_chk105 v175), ∀ a x, ((![v175] : Fin 1 → IVec S16 32) a x).toNat < S38912.size a := fun v175 k1_hw105 => k1_hw105
def k1_off108 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v176 : Index := Scalar.indexCast arg9
  let c144 : Index := 144#32
  ![v176.toNat, 144]

def k1_chk106 (v177 : IVec S16 32) : Prop :=
  (∀ a x, ((![v177] : Fin 1 → IVec S16 32) a x).toNat < S38912.size a)
theorem k1_idx106_inb : ∀ (v177 : IVec S16 32) (k1_hw106 : k1_chk106 v177), ∀ a x, ((![v177] : Fin 1 → IVec S16 32) a x).toNat < S38912.size a := fun v177 k1_hw106 => k1_hw106
def k1_off109 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v178 : Index := Scalar.indexCast arg9
  let c160 : Index := 160#32
  ![v178.toNat, 160]

def k1_chk107 (v179 : IVec S16 32) : Prop :=
  (∀ a x, ((![v179] : Fin 1 → IVec S16 32) a x).toNat < S38912.size a)
theorem k1_idx107_inb : ∀ (v179 : IVec S16 32) (k1_hw107 : k1_chk107 v179), ∀ a x, ((![v179] : Fin 1 → IVec S16 32) a x).toNat < S38912.size a := fun v179 k1_hw107 => k1_hw107
def k1_off110 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v180 : Index := Scalar.indexCast arg9
  let c176 : Index := 176#32
  ![v180.toNat, 176]

def k1_chk108 (v181 : IVec S16 32) : Prop :=
  (∀ a x, ((![v181] : Fin 1 → IVec S16 32) a x).toNat < S38912.size a)
theorem k1_idx108_inb : ∀ (v181 : IVec S16 32) (k1_hw108 : k1_chk108 v181), ∀ a x, ((![v181] : Fin 1 → IVec S16 32) a x).toNat < S38912.size a := fun v181 k1_hw108 => k1_hw108
def k1_off111 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v182 : Index := Scalar.indexCast arg9
  let c192 : Index := 192#32
  ![v182.toNat, 192]

def k1_chk109 (v183 : IVec S16 32) : Prop :=
  (∀ a x, ((![v183] : Fin 1 → IVec S16 32) a x).toNat < S38912.size a)
theorem k1_idx109_inb : ∀ (v183 : IVec S16 32) (k1_hw109 : k1_chk109 v183), ∀ a x, ((![v183] : Fin 1 → IVec S16 32) a x).toNat < S38912.size a := fun v183 k1_hw109 => k1_hw109
def k1_off112 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v184 : Index := Scalar.indexCast arg9
  let c208 : Index := 208#32
  ![v184.toNat, 208]

def k1_chk110 (v185 : IVec S16 32) : Prop :=
  (∀ a x, ((![v185] : Fin 1 → IVec S16 32) a x).toNat < S38912.size a)
theorem k1_idx110_inb : ∀ (v185 : IVec S16 32) (k1_hw110 : k1_chk110 v185), ∀ a x, ((![v185] : Fin 1 → IVec S16 32) a x).toNat < S38912.size a := fun v185 k1_hw110 => k1_hw110
def k1_off113 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v186 : Index := Scalar.indexCast arg9
  let c224 : Index := 224#32
  ![v186.toNat, 224]

def k1_chk111 (v187 : IVec S16 32) : Prop :=
  (∀ a x, ((![v187] : Fin 1 → IVec S16 32) a x).toNat < S38912.size a)
theorem k1_idx111_inb : ∀ (v187 : IVec S16 32) (k1_hw111 : k1_chk111 v187), ∀ a x, ((![v187] : Fin 1 → IVec S16 32) a x).toNat < S38912.size a := fun v187 k1_hw111 => k1_hw111
def k1_off114 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v188 : Index := Scalar.indexCast arg9
  let c240 : Index := 240#32
  ![v188.toNat, 240]

def k1_chk112 (v189 : IVec S16 32) : Prop :=
  (∀ a x, ((![v189] : Fin 1 → IVec S16 32) a x).toNat < S38912.size a)
theorem k1_idx112_inb : ∀ (v189 : IVec S16 32) (k1_hw112 : k1_chk112 v189), ∀ a x, ((![v189] : Fin 1 → IVec S16 32) a x).toNat < S38912.size a := fun v189 k1_hw112 => k1_hw112
def k1_off115 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v190 : Index := Scalar.indexCast arg9
  let c256 : Index := 256#32
  ![v190.toNat, 256]

def k1_chk113 (v191 : IVec S16 32) : Prop :=
  (∀ a x, ((![v191] : Fin 1 → IVec S16 32) a x).toNat < S38912.size a)
theorem k1_idx113_inb : ∀ (v191 : IVec S16 32) (k1_hw113 : k1_chk113 v191), ∀ a x, ((![v191] : Fin 1 → IVec S16 32) a x).toNat < S38912.size a := fun v191 k1_hw113 => k1_hw113
def k1_off116 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v192 : Index := Scalar.indexCast arg9
  let c272 : Index := 272#32
  ![v192.toNat, 272]

def k1_chk114 (v193 : IVec S16 32) : Prop :=
  (∀ a x, ((![v193] : Fin 1 → IVec S16 32) a x).toNat < S38912.size a)
theorem k1_idx114_inb : ∀ (v193 : IVec S16 32) (k1_hw114 : k1_chk114 v193), ∀ a x, ((![v193] : Fin 1 → IVec S16 32) a x).toNat < S38912.size a := fun v193 k1_hw114 => k1_hw114
def k1_off117 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v194 : Index := Scalar.indexCast arg9
  let c288 : Index := 288#32
  ![v194.toNat, 288]

def k1_chk115 (v195 : IVec S16 32) : Prop :=
  (∀ a x, ((![v195] : Fin 1 → IVec S16 32) a x).toNat < S38912.size a)
theorem k1_idx115_inb : ∀ (v195 : IVec S16 32) (k1_hw115 : k1_chk115 v195), ∀ a x, ((![v195] : Fin 1 → IVec S16 32) a x).toNat < S38912.size a := fun v195 k1_hw115 => k1_hw115
def k1_off118 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v196 : Index := Scalar.indexCast arg9
  let c304 : Index := 304#32
  ![v196.toNat, 304]

def k1_chk116 (v197 : IVec S16 32) : Prop :=
  (∀ a x, ((![v197] : Fin 1 → IVec S16 32) a x).toNat < S38912.size a)
theorem k1_idx116_inb : ∀ (v197 : IVec S16 32) (k1_hw116 : k1_chk116 v197), ∀ a x, ((![v197] : Fin 1 → IVec S16 32) a x).toNat < S38912.size a := fun v197 k1_hw116 => k1_hw116
def k1_off119 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v198 : Index := Scalar.indexCast arg9
  let c320 : Index := 320#32
  ![v198.toNat, 320]

def k1_chk117 (v199 : IVec S16 32) : Prop :=
  (∀ a x, ((![v199] : Fin 1 → IVec S16 32) a x).toNat < S38912.size a)
theorem k1_idx117_inb : ∀ (v199 : IVec S16 32) (k1_hw117 : k1_chk117 v199), ∀ a x, ((![v199] : Fin 1 → IVec S16 32) a x).toNat < S38912.size a := fun v199 k1_hw117 => k1_hw117
def k1_off120 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v200 : Index := Scalar.indexCast arg9
  let c336 : Index := 336#32
  ![v200.toNat, 336]

def k1_chk118 (v201 : IVec S16 32) : Prop :=
  (∀ a x, ((![v201] : Fin 1 → IVec S16 32) a x).toNat < S38912.size a)
theorem k1_idx118_inb : ∀ (v201 : IVec S16 32) (k1_hw118 : k1_chk118 v201), ∀ a x, ((![v201] : Fin 1 → IVec S16 32) a x).toNat < S38912.size a := fun v201 k1_hw118 => k1_hw118
def k1_off121 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v202 : Index := Scalar.indexCast arg9
  let c352 : Index := 352#32
  ![v202.toNat, 352]

def k1_chk119 (v203 : IVec S16 32) : Prop :=
  (∀ a x, ((![v203] : Fin 1 → IVec S16 32) a x).toNat < S38912.size a)
theorem k1_idx119_inb : ∀ (v203 : IVec S16 32) (k1_hw119 : k1_chk119 v203), ∀ a x, ((![v203] : Fin 1 → IVec S16 32) a x).toNat < S38912.size a := fun v203 k1_hw119 => k1_hw119
def k1_off122 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v204 : Index := Scalar.indexCast arg9
  let c368 : Index := 368#32
  ![v204.toNat, 368]

def k1_chk120 (v205 : IVec S16 32) : Prop :=
  (∀ a x, ((![v205] : Fin 1 → IVec S16 32) a x).toNat < S38912.size a)
theorem k1_idx120_inb : ∀ (v205 : IVec S16 32) (k1_hw120 : k1_chk120 v205), ∀ a x, ((![v205] : Fin 1 → IVec S16 32) a x).toNat < S38912.size a := fun v205 k1_hw120 => k1_hw120
def k1_off123 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v206 : Index := Scalar.indexCast arg9
  let c384 : Index := 384#32
  ![v206.toNat, 384]

def k1_chk121 (v207 : IVec S16 32) : Prop :=
  (∀ a x, ((![v207] : Fin 1 → IVec S16 32) a x).toNat < S38912.size a)
theorem k1_idx121_inb : ∀ (v207 : IVec S16 32) (k1_hw121 : k1_chk121 v207), ∀ a x, ((![v207] : Fin 1 → IVec S16 32) a x).toNat < S38912.size a := fun v207 k1_hw121 => k1_hw121
def k1_off124 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v208 : Index := Scalar.indexCast arg9
  let c400 : Index := 400#32
  ![v208.toNat, 400]

def k1_chk122 (v209 : IVec S16 32) : Prop :=
  (∀ a x, ((![v209] : Fin 1 → IVec S16 32) a x).toNat < S38912.size a)
theorem k1_idx122_inb : ∀ (v209 : IVec S16 32) (k1_hw122 : k1_chk122 v209), ∀ a x, ((![v209] : Fin 1 → IVec S16 32) a x).toNat < S38912.size a := fun v209 k1_hw122 => k1_hw122
def k1_off125 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v210 : Index := Scalar.indexCast arg9
  let c416 : Index := 416#32
  ![v210.toNat, 416]

def k1_chk123 (v211 : IVec S16 32) : Prop :=
  (∀ a x, ((![v211] : Fin 1 → IVec S16 32) a x).toNat < S38912.size a)
theorem k1_idx123_inb : ∀ (v211 : IVec S16 32) (k1_hw123 : k1_chk123 v211), ∀ a x, ((![v211] : Fin 1 → IVec S16 32) a x).toNat < S38912.size a := fun v211 k1_hw123 => k1_hw123
def k1_off126 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v212 : Index := Scalar.indexCast arg9
  let c432 : Index := 432#32
  ![v212.toNat, 432]

def k1_chk124 (v213 : IVec S16 32) : Prop :=
  (∀ a x, ((![v213] : Fin 1 → IVec S16 32) a x).toNat < S38912.size a)
theorem k1_idx124_inb : ∀ (v213 : IVec S16 32) (k1_hw124 : k1_chk124 v213), ∀ a x, ((![v213] : Fin 1 → IVec S16 32) a x).toNat < S38912.size a := fun v213 k1_hw124 => k1_hw124
def k1_off127 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v214 : Index := Scalar.indexCast arg9
  let c448 : Index := 448#32
  ![v214.toNat, 448]

def k1_chk125 (v215 : IVec S16 32) : Prop :=
  (∀ a x, ((![v215] : Fin 1 → IVec S16 32) a x).toNat < S38912.size a)
theorem k1_idx125_inb : ∀ (v215 : IVec S16 32) (k1_hw125 : k1_chk125 v215), ∀ a x, ((![v215] : Fin 1 → IVec S16 32) a x).toNat < S38912.size a := fun v215 k1_hw125 => k1_hw125
def k1_off128 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v216 : Index := Scalar.indexCast arg9
  let c464 : Index := 464#32
  ![v216.toNat, 464]

def k1_chk126 (v217 : IVec S16 32) : Prop :=
  (∀ a x, ((![v217] : Fin 1 → IVec S16 32) a x).toNat < S38912.size a)
theorem k1_idx126_inb : ∀ (v217 : IVec S16 32) (k1_hw126 : k1_chk126 v217), ∀ a x, ((![v217] : Fin 1 → IVec S16 32) a x).toNat < S38912.size a := fun v217 k1_hw126 => k1_hw126
def k1_off129 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v218 : Index := Scalar.indexCast arg9
  let c480 : Index := 480#32
  ![v218.toNat, 480]

def k1_chk127 (v219 : IVec S16 32) : Prop :=
  (∀ a x, ((![v219] : Fin 1 → IVec S16 32) a x).toNat < S38912.size a)
theorem k1_idx127_inb : ∀ (v219 : IVec S16 32) (k1_hw127 : k1_chk127 v219), ∀ a x, ((![v219] : Fin 1 → IVec S16 32) a x).toNat < S38912.size a := fun v219 k1_hw127 => k1_hw127
def k1_off130 (k1_t5 : Fin k1_t5_loop.trips) : Fin 2 → Nat :=
  let c0_i32_42 : BitVec 32 := 0#32
  let c1_i32_44 : BitVec 32 := 1#32
  let arg9 : BitVec 32 := Scf.iv c0_i32_42 c1_i32_44 k1_t5
  let v220 : Index := Scalar.indexCast arg9
  let c496 : Index := 496#32
  ![v220.toNat, 496]

def k1_chk128 (v221 : IVec S16 32) : Prop :=
  (∀ a x, ((![v221] : Fin 1 → IVec S16 32) a x).toNat < S38912.size a)
theorem k1_idx128_inb : ∀ (v221 : IVec S16 32) (k1_hw128 : k1_chk128 v221), ∀ a x, ((![v221] : Fin 1 → IVec S16 32) a x).toNat < S38912.size a := fun v221 k1_hw128 => k1_hw128
@[reducible] def k1_t6_loop : Scf.Loop 32 :=
  let c0_i32_52 : BitVec 32 := 0#32
  let c64_i32_53 : BitVec 32 := 64#32
  let v47 : BitVec 32 := Scalar.addi c0_i32_52 c64_i32_53
  let c1_i32_54 : BitVec 32 := 1#32
  ⟨c0_i32_52, v47, c1_i32_54⟩
def k1_off131 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v158 : Index := Scalar.indexCast arg9
  let c0 : Index := 0#32
  ![v158.toNat, 0]

def k1_chk129 (v159 : IVec S16 32) : Prop :=
  (∀ a x, ((![v159] : Fin 1 → IVec S16 32) a x).toNat < S38912.size a)
theorem k1_idx129_inb : ∀ (v159 : IVec S16 32) (k1_hw129 : k1_chk129 v159), ∀ a x, ((![v159] : Fin 1 → IVec S16 32) a x).toNat < S38912.size a := fun v159 k1_hw129 => k1_hw129
def k1_off132 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v160 : Index := Scalar.indexCast arg9
  let c16 : Index := 16#32
  ![v160.toNat, 16]

def k1_chk130 (v161 : IVec S16 32) : Prop :=
  (∀ a x, ((![v161] : Fin 1 → IVec S16 32) a x).toNat < S38912.size a)
theorem k1_idx130_inb : ∀ (v161 : IVec S16 32) (k1_hw130 : k1_chk130 v161), ∀ a x, ((![v161] : Fin 1 → IVec S16 32) a x).toNat < S38912.size a := fun v161 k1_hw130 => k1_hw130
def k1_off133 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v162 : Index := Scalar.indexCast arg9
  let c32 : Index := 32#32
  ![v162.toNat, 32]

def k1_chk131 (v163 : IVec S16 32) : Prop :=
  (∀ a x, ((![v163] : Fin 1 → IVec S16 32) a x).toNat < S38912.size a)
theorem k1_idx131_inb : ∀ (v163 : IVec S16 32) (k1_hw131 : k1_chk131 v163), ∀ a x, ((![v163] : Fin 1 → IVec S16 32) a x).toNat < S38912.size a := fun v163 k1_hw131 => k1_hw131
def k1_off134 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v164 : Index := Scalar.indexCast arg9
  let c48 : Index := 48#32
  ![v164.toNat, 48]

def k1_chk132 (v165 : IVec S16 32) : Prop :=
  (∀ a x, ((![v165] : Fin 1 → IVec S16 32) a x).toNat < S38912.size a)
theorem k1_idx132_inb : ∀ (v165 : IVec S16 32) (k1_hw132 : k1_chk132 v165), ∀ a x, ((![v165] : Fin 1 → IVec S16 32) a x).toNat < S38912.size a := fun v165 k1_hw132 => k1_hw132
def k1_off135 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v166 : Index := Scalar.indexCast arg9
  let c64 : Index := 64#32
  ![v166.toNat, 64]

def k1_chk133 (v167 : IVec S16 32) : Prop :=
  (∀ a x, ((![v167] : Fin 1 → IVec S16 32) a x).toNat < S38912.size a)
theorem k1_idx133_inb : ∀ (v167 : IVec S16 32) (k1_hw133 : k1_chk133 v167), ∀ a x, ((![v167] : Fin 1 → IVec S16 32) a x).toNat < S38912.size a := fun v167 k1_hw133 => k1_hw133
def k1_off136 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v168 : Index := Scalar.indexCast arg9
  let c80 : Index := 80#32
  ![v168.toNat, 80]

def k1_chk134 (v169 : IVec S16 32) : Prop :=
  (∀ a x, ((![v169] : Fin 1 → IVec S16 32) a x).toNat < S38912.size a)
theorem k1_idx134_inb : ∀ (v169 : IVec S16 32) (k1_hw134 : k1_chk134 v169), ∀ a x, ((![v169] : Fin 1 → IVec S16 32) a x).toNat < S38912.size a := fun v169 k1_hw134 => k1_hw134
def k1_off137 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v170 : Index := Scalar.indexCast arg9
  let c96 : Index := 96#32
  ![v170.toNat, 96]

def k1_chk135 (v171 : IVec S16 32) : Prop :=
  (∀ a x, ((![v171] : Fin 1 → IVec S16 32) a x).toNat < S38912.size a)
theorem k1_idx135_inb : ∀ (v171 : IVec S16 32) (k1_hw135 : k1_chk135 v171), ∀ a x, ((![v171] : Fin 1 → IVec S16 32) a x).toNat < S38912.size a := fun v171 k1_hw135 => k1_hw135
def k1_off138 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v172 : Index := Scalar.indexCast arg9
  let c112 : Index := 112#32
  ![v172.toNat, 112]

def k1_chk136 (v173 : IVec S16 32) : Prop :=
  (∀ a x, ((![v173] : Fin 1 → IVec S16 32) a x).toNat < S38912.size a)
theorem k1_idx136_inb : ∀ (v173 : IVec S16 32) (k1_hw136 : k1_chk136 v173), ∀ a x, ((![v173] : Fin 1 → IVec S16 32) a x).toNat < S38912.size a := fun v173 k1_hw136 => k1_hw136
def k1_off139 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v174 : Index := Scalar.indexCast arg9
  let c128 : Index := 128#32
  ![v174.toNat, 128]

def k1_chk137 (v175 : IVec S16 32) : Prop :=
  (∀ a x, ((![v175] : Fin 1 → IVec S16 32) a x).toNat < S38912.size a)
theorem k1_idx137_inb : ∀ (v175 : IVec S16 32) (k1_hw137 : k1_chk137 v175), ∀ a x, ((![v175] : Fin 1 → IVec S16 32) a x).toNat < S38912.size a := fun v175 k1_hw137 => k1_hw137
def k1_off140 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v176 : Index := Scalar.indexCast arg9
  let c144 : Index := 144#32
  ![v176.toNat, 144]

def k1_chk138 (v177 : IVec S16 32) : Prop :=
  (∀ a x, ((![v177] : Fin 1 → IVec S16 32) a x).toNat < S38912.size a)
theorem k1_idx138_inb : ∀ (v177 : IVec S16 32) (k1_hw138 : k1_chk138 v177), ∀ a x, ((![v177] : Fin 1 → IVec S16 32) a x).toNat < S38912.size a := fun v177 k1_hw138 => k1_hw138
def k1_off141 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v178 : Index := Scalar.indexCast arg9
  let c160 : Index := 160#32
  ![v178.toNat, 160]

def k1_chk139 (v179 : IVec S16 32) : Prop :=
  (∀ a x, ((![v179] : Fin 1 → IVec S16 32) a x).toNat < S38912.size a)
theorem k1_idx139_inb : ∀ (v179 : IVec S16 32) (k1_hw139 : k1_chk139 v179), ∀ a x, ((![v179] : Fin 1 → IVec S16 32) a x).toNat < S38912.size a := fun v179 k1_hw139 => k1_hw139
def k1_off142 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v180 : Index := Scalar.indexCast arg9
  let c176 : Index := 176#32
  ![v180.toNat, 176]

def k1_chk140 (v181 : IVec S16 32) : Prop :=
  (∀ a x, ((![v181] : Fin 1 → IVec S16 32) a x).toNat < S38912.size a)
theorem k1_idx140_inb : ∀ (v181 : IVec S16 32) (k1_hw140 : k1_chk140 v181), ∀ a x, ((![v181] : Fin 1 → IVec S16 32) a x).toNat < S38912.size a := fun v181 k1_hw140 => k1_hw140
def k1_off143 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v182 : Index := Scalar.indexCast arg9
  let c192 : Index := 192#32
  ![v182.toNat, 192]

def k1_chk141 (v183 : IVec S16 32) : Prop :=
  (∀ a x, ((![v183] : Fin 1 → IVec S16 32) a x).toNat < S38912.size a)
theorem k1_idx141_inb : ∀ (v183 : IVec S16 32) (k1_hw141 : k1_chk141 v183), ∀ a x, ((![v183] : Fin 1 → IVec S16 32) a x).toNat < S38912.size a := fun v183 k1_hw141 => k1_hw141
def k1_off144 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v184 : Index := Scalar.indexCast arg9
  let c208 : Index := 208#32
  ![v184.toNat, 208]

def k1_chk142 (v185 : IVec S16 32) : Prop :=
  (∀ a x, ((![v185] : Fin 1 → IVec S16 32) a x).toNat < S38912.size a)
theorem k1_idx142_inb : ∀ (v185 : IVec S16 32) (k1_hw142 : k1_chk142 v185), ∀ a x, ((![v185] : Fin 1 → IVec S16 32) a x).toNat < S38912.size a := fun v185 k1_hw142 => k1_hw142
def k1_off145 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v186 : Index := Scalar.indexCast arg9
  let c224 : Index := 224#32
  ![v186.toNat, 224]

def k1_chk143 (v187 : IVec S16 32) : Prop :=
  (∀ a x, ((![v187] : Fin 1 → IVec S16 32) a x).toNat < S38912.size a)
theorem k1_idx143_inb : ∀ (v187 : IVec S16 32) (k1_hw143 : k1_chk143 v187), ∀ a x, ((![v187] : Fin 1 → IVec S16 32) a x).toNat < S38912.size a := fun v187 k1_hw143 => k1_hw143
def k1_off146 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v188 : Index := Scalar.indexCast arg9
  let c240 : Index := 240#32
  ![v188.toNat, 240]

def k1_chk144 (v189 : IVec S16 32) : Prop :=
  (∀ a x, ((![v189] : Fin 1 → IVec S16 32) a x).toNat < S38912.size a)
theorem k1_idx144_inb : ∀ (v189 : IVec S16 32) (k1_hw144 : k1_chk144 v189), ∀ a x, ((![v189] : Fin 1 → IVec S16 32) a x).toNat < S38912.size a := fun v189 k1_hw144 => k1_hw144
def k1_off147 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v190 : Index := Scalar.indexCast arg9
  let c256 : Index := 256#32
  ![v190.toNat, 256]

def k1_chk145 (v191 : IVec S16 32) : Prop :=
  (∀ a x, ((![v191] : Fin 1 → IVec S16 32) a x).toNat < S38912.size a)
theorem k1_idx145_inb : ∀ (v191 : IVec S16 32) (k1_hw145 : k1_chk145 v191), ∀ a x, ((![v191] : Fin 1 → IVec S16 32) a x).toNat < S38912.size a := fun v191 k1_hw145 => k1_hw145
def k1_off148 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v192 : Index := Scalar.indexCast arg9
  let c272 : Index := 272#32
  ![v192.toNat, 272]

def k1_chk146 (v193 : IVec S16 32) : Prop :=
  (∀ a x, ((![v193] : Fin 1 → IVec S16 32) a x).toNat < S38912.size a)
theorem k1_idx146_inb : ∀ (v193 : IVec S16 32) (k1_hw146 : k1_chk146 v193), ∀ a x, ((![v193] : Fin 1 → IVec S16 32) a x).toNat < S38912.size a := fun v193 k1_hw146 => k1_hw146
def k1_off149 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v194 : Index := Scalar.indexCast arg9
  let c288 : Index := 288#32
  ![v194.toNat, 288]

def k1_chk147 (v195 : IVec S16 32) : Prop :=
  (∀ a x, ((![v195] : Fin 1 → IVec S16 32) a x).toNat < S38912.size a)
theorem k1_idx147_inb : ∀ (v195 : IVec S16 32) (k1_hw147 : k1_chk147 v195), ∀ a x, ((![v195] : Fin 1 → IVec S16 32) a x).toNat < S38912.size a := fun v195 k1_hw147 => k1_hw147
def k1_off150 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v196 : Index := Scalar.indexCast arg9
  let c304 : Index := 304#32
  ![v196.toNat, 304]

def k1_chk148 (v197 : IVec S16 32) : Prop :=
  (∀ a x, ((![v197] : Fin 1 → IVec S16 32) a x).toNat < S38912.size a)
theorem k1_idx148_inb : ∀ (v197 : IVec S16 32) (k1_hw148 : k1_chk148 v197), ∀ a x, ((![v197] : Fin 1 → IVec S16 32) a x).toNat < S38912.size a := fun v197 k1_hw148 => k1_hw148
def k1_off151 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v198 : Index := Scalar.indexCast arg9
  let c320 : Index := 320#32
  ![v198.toNat, 320]

def k1_chk149 (v199 : IVec S16 32) : Prop :=
  (∀ a x, ((![v199] : Fin 1 → IVec S16 32) a x).toNat < S38912.size a)
theorem k1_idx149_inb : ∀ (v199 : IVec S16 32) (k1_hw149 : k1_chk149 v199), ∀ a x, ((![v199] : Fin 1 → IVec S16 32) a x).toNat < S38912.size a := fun v199 k1_hw149 => k1_hw149
def k1_off152 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v200 : Index := Scalar.indexCast arg9
  let c336 : Index := 336#32
  ![v200.toNat, 336]

def k1_chk150 (v201 : IVec S16 32) : Prop :=
  (∀ a x, ((![v201] : Fin 1 → IVec S16 32) a x).toNat < S38912.size a)
theorem k1_idx150_inb : ∀ (v201 : IVec S16 32) (k1_hw150 : k1_chk150 v201), ∀ a x, ((![v201] : Fin 1 → IVec S16 32) a x).toNat < S38912.size a := fun v201 k1_hw150 => k1_hw150
def k1_off153 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v202 : Index := Scalar.indexCast arg9
  let c352 : Index := 352#32
  ![v202.toNat, 352]

def k1_chk151 (v203 : IVec S16 32) : Prop :=
  (∀ a x, ((![v203] : Fin 1 → IVec S16 32) a x).toNat < S38912.size a)
theorem k1_idx151_inb : ∀ (v203 : IVec S16 32) (k1_hw151 : k1_chk151 v203), ∀ a x, ((![v203] : Fin 1 → IVec S16 32) a x).toNat < S38912.size a := fun v203 k1_hw151 => k1_hw151
def k1_off154 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v204 : Index := Scalar.indexCast arg9
  let c368 : Index := 368#32
  ![v204.toNat, 368]

def k1_chk152 (v205 : IVec S16 32) : Prop :=
  (∀ a x, ((![v205] : Fin 1 → IVec S16 32) a x).toNat < S38912.size a)
theorem k1_idx152_inb : ∀ (v205 : IVec S16 32) (k1_hw152 : k1_chk152 v205), ∀ a x, ((![v205] : Fin 1 → IVec S16 32) a x).toNat < S38912.size a := fun v205 k1_hw152 => k1_hw152
def k1_off155 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v206 : Index := Scalar.indexCast arg9
  let c384 : Index := 384#32
  ![v206.toNat, 384]

def k1_chk153 (v207 : IVec S16 32) : Prop :=
  (∀ a x, ((![v207] : Fin 1 → IVec S16 32) a x).toNat < S38912.size a)
theorem k1_idx153_inb : ∀ (v207 : IVec S16 32) (k1_hw153 : k1_chk153 v207), ∀ a x, ((![v207] : Fin 1 → IVec S16 32) a x).toNat < S38912.size a := fun v207 k1_hw153 => k1_hw153
def k1_off156 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v208 : Index := Scalar.indexCast arg9
  let c400 : Index := 400#32
  ![v208.toNat, 400]

def k1_chk154 (v209 : IVec S16 32) : Prop :=
  (∀ a x, ((![v209] : Fin 1 → IVec S16 32) a x).toNat < S38912.size a)
theorem k1_idx154_inb : ∀ (v209 : IVec S16 32) (k1_hw154 : k1_chk154 v209), ∀ a x, ((![v209] : Fin 1 → IVec S16 32) a x).toNat < S38912.size a := fun v209 k1_hw154 => k1_hw154
def k1_off157 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v210 : Index := Scalar.indexCast arg9
  let c416 : Index := 416#32
  ![v210.toNat, 416]

def k1_chk155 (v211 : IVec S16 32) : Prop :=
  (∀ a x, ((![v211] : Fin 1 → IVec S16 32) a x).toNat < S38912.size a)
theorem k1_idx155_inb : ∀ (v211 : IVec S16 32) (k1_hw155 : k1_chk155 v211), ∀ a x, ((![v211] : Fin 1 → IVec S16 32) a x).toNat < S38912.size a := fun v211 k1_hw155 => k1_hw155
def k1_off158 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v212 : Index := Scalar.indexCast arg9
  let c432 : Index := 432#32
  ![v212.toNat, 432]

def k1_chk156 (v213 : IVec S16 32) : Prop :=
  (∀ a x, ((![v213] : Fin 1 → IVec S16 32) a x).toNat < S38912.size a)
theorem k1_idx156_inb : ∀ (v213 : IVec S16 32) (k1_hw156 : k1_chk156 v213), ∀ a x, ((![v213] : Fin 1 → IVec S16 32) a x).toNat < S38912.size a := fun v213 k1_hw156 => k1_hw156
def k1_off159 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v214 : Index := Scalar.indexCast arg9
  let c448 : Index := 448#32
  ![v214.toNat, 448]

def k1_chk157 (v215 : IVec S16 32) : Prop :=
  (∀ a x, ((![v215] : Fin 1 → IVec S16 32) a x).toNat < S38912.size a)
theorem k1_idx157_inb : ∀ (v215 : IVec S16 32) (k1_hw157 : k1_chk157 v215), ∀ a x, ((![v215] : Fin 1 → IVec S16 32) a x).toNat < S38912.size a := fun v215 k1_hw157 => k1_hw157
def k1_off160 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v216 : Index := Scalar.indexCast arg9
  let c464 : Index := 464#32
  ![v216.toNat, 464]

def k1_chk158 (v217 : IVec S16 32) : Prop :=
  (∀ a x, ((![v217] : Fin 1 → IVec S16 32) a x).toNat < S38912.size a)
theorem k1_idx158_inb : ∀ (v217 : IVec S16 32) (k1_hw158 : k1_chk158 v217), ∀ a x, ((![v217] : Fin 1 → IVec S16 32) a x).toNat < S38912.size a := fun v217 k1_hw158 => k1_hw158
def k1_off161 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v218 : Index := Scalar.indexCast arg9
  let c480 : Index := 480#32
  ![v218.toNat, 480]

def k1_chk159 (v219 : IVec S16 32) : Prop :=
  (∀ a x, ((![v219] : Fin 1 → IVec S16 32) a x).toNat < S38912.size a)
theorem k1_idx159_inb : ∀ (v219 : IVec S16 32) (k1_hw159 : k1_chk159 v219), ∀ a x, ((![v219] : Fin 1 → IVec S16 32) a x).toNat < S38912.size a := fun v219 k1_hw159 => k1_hw159
def k1_off162 (k1_t6 : Fin k1_t6_loop.trips) : Fin 2 → Nat :=
  let c0_i32_52 : BitVec 32 := 0#32
  let c1_i32_54 : BitVec 32 := 1#32
  let arg9 : BitVec 32 := Scf.iv c0_i32_52 c1_i32_54 k1_t6
  let v220 : Index := Scalar.indexCast arg9
  let c496 : Index := 496#32
  ![v220.toNat, 496]

def k1_chk160 (v221 : IVec S16 32) : Prop :=
  (∀ a x, ((![v221] : Fin 1 → IVec S16 32) a x).toNat < S38912.size a)
theorem k1_idx160_inb : ∀ (v221 : IVec S16 32) (k1_hw160 : k1_chk160 v221), ∀ a x, ((![v221] : Fin 1 → IVec S16 32) a x).toNat < S38912.size a := fun v221 k1_hw160 => k1_hw160
@[reducible] def k1_t7_loop : Scf.Loop 32 :=
  let c0_i32_62 : BitVec 32 := 0#32
  let c64_i32_63 : BitVec 32 := 64#32
  let v55 : BitVec 32 := Scalar.addi c0_i32_62 c64_i32_63
  let c1_i32_64 : BitVec 32 := 1#32
  ⟨c0_i32_62, v55, c1_i32_64⟩
def k1_off163 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v158 : Index := Scalar.indexCast arg9
  let c0 : Index := 0#32
  ![v158.toNat, 0]

def k1_chk161 (v159 : IVec S16 32) : Prop :=
  (∀ a x, ((![v159] : Fin 1 → IVec S16 32) a x).toNat < S38912.size a)
theorem k1_idx161_inb : ∀ (v159 : IVec S16 32) (k1_hw161 : k1_chk161 v159), ∀ a x, ((![v159] : Fin 1 → IVec S16 32) a x).toNat < S38912.size a := fun v159 k1_hw161 => k1_hw161
def k1_off164 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v160 : Index := Scalar.indexCast arg9
  let c16 : Index := 16#32
  ![v160.toNat, 16]

def k1_chk162 (v161 : IVec S16 32) : Prop :=
  (∀ a x, ((![v161] : Fin 1 → IVec S16 32) a x).toNat < S38912.size a)
theorem k1_idx162_inb : ∀ (v161 : IVec S16 32) (k1_hw162 : k1_chk162 v161), ∀ a x, ((![v161] : Fin 1 → IVec S16 32) a x).toNat < S38912.size a := fun v161 k1_hw162 => k1_hw162
def k1_off165 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v162 : Index := Scalar.indexCast arg9
  let c32 : Index := 32#32
  ![v162.toNat, 32]

def k1_chk163 (v163 : IVec S16 32) : Prop :=
  (∀ a x, ((![v163] : Fin 1 → IVec S16 32) a x).toNat < S38912.size a)
theorem k1_idx163_inb : ∀ (v163 : IVec S16 32) (k1_hw163 : k1_chk163 v163), ∀ a x, ((![v163] : Fin 1 → IVec S16 32) a x).toNat < S38912.size a := fun v163 k1_hw163 => k1_hw163
def k1_off166 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v164 : Index := Scalar.indexCast arg9
  let c48 : Index := 48#32
  ![v164.toNat, 48]

def k1_chk164 (v165 : IVec S16 32) : Prop :=
  (∀ a x, ((![v165] : Fin 1 → IVec S16 32) a x).toNat < S38912.size a)
theorem k1_idx164_inb : ∀ (v165 : IVec S16 32) (k1_hw164 : k1_chk164 v165), ∀ a x, ((![v165] : Fin 1 → IVec S16 32) a x).toNat < S38912.size a := fun v165 k1_hw164 => k1_hw164
def k1_off167 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v166 : Index := Scalar.indexCast arg9
  let c64 : Index := 64#32
  ![v166.toNat, 64]

def k1_chk165 (v167 : IVec S16 32) : Prop :=
  (∀ a x, ((![v167] : Fin 1 → IVec S16 32) a x).toNat < S38912.size a)
theorem k1_idx165_inb : ∀ (v167 : IVec S16 32) (k1_hw165 : k1_chk165 v167), ∀ a x, ((![v167] : Fin 1 → IVec S16 32) a x).toNat < S38912.size a := fun v167 k1_hw165 => k1_hw165
def k1_off168 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v168 : Index := Scalar.indexCast arg9
  let c80 : Index := 80#32
  ![v168.toNat, 80]

def k1_chk166 (v169 : IVec S16 32) : Prop :=
  (∀ a x, ((![v169] : Fin 1 → IVec S16 32) a x).toNat < S38912.size a)
theorem k1_idx166_inb : ∀ (v169 : IVec S16 32) (k1_hw166 : k1_chk166 v169), ∀ a x, ((![v169] : Fin 1 → IVec S16 32) a x).toNat < S38912.size a := fun v169 k1_hw166 => k1_hw166
def k1_off169 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v170 : Index := Scalar.indexCast arg9
  let c96 : Index := 96#32
  ![v170.toNat, 96]

def k1_chk167 (v171 : IVec S16 32) : Prop :=
  (∀ a x, ((![v171] : Fin 1 → IVec S16 32) a x).toNat < S38912.size a)
theorem k1_idx167_inb : ∀ (v171 : IVec S16 32) (k1_hw167 : k1_chk167 v171), ∀ a x, ((![v171] : Fin 1 → IVec S16 32) a x).toNat < S38912.size a := fun v171 k1_hw167 => k1_hw167
def k1_off170 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v172 : Index := Scalar.indexCast arg9
  let c112 : Index := 112#32
  ![v172.toNat, 112]

def k1_chk168 (v173 : IVec S16 32) : Prop :=
  (∀ a x, ((![v173] : Fin 1 → IVec S16 32) a x).toNat < S38912.size a)
theorem k1_idx168_inb : ∀ (v173 : IVec S16 32) (k1_hw168 : k1_chk168 v173), ∀ a x, ((![v173] : Fin 1 → IVec S16 32) a x).toNat < S38912.size a := fun v173 k1_hw168 => k1_hw168
def k1_off171 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v174 : Index := Scalar.indexCast arg9
  let c128 : Index := 128#32
  ![v174.toNat, 128]

def k1_chk169 (v175 : IVec S16 32) : Prop :=
  (∀ a x, ((![v175] : Fin 1 → IVec S16 32) a x).toNat < S38912.size a)
theorem k1_idx169_inb : ∀ (v175 : IVec S16 32) (k1_hw169 : k1_chk169 v175), ∀ a x, ((![v175] : Fin 1 → IVec S16 32) a x).toNat < S38912.size a := fun v175 k1_hw169 => k1_hw169
def k1_off172 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v176 : Index := Scalar.indexCast arg9
  let c144 : Index := 144#32
  ![v176.toNat, 144]

def k1_chk170 (v177 : IVec S16 32) : Prop :=
  (∀ a x, ((![v177] : Fin 1 → IVec S16 32) a x).toNat < S38912.size a)
theorem k1_idx170_inb : ∀ (v177 : IVec S16 32) (k1_hw170 : k1_chk170 v177), ∀ a x, ((![v177] : Fin 1 → IVec S16 32) a x).toNat < S38912.size a := fun v177 k1_hw170 => k1_hw170
def k1_off173 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v178 : Index := Scalar.indexCast arg9
  let c160 : Index := 160#32
  ![v178.toNat, 160]

def k1_chk171 (v179 : IVec S16 32) : Prop :=
  (∀ a x, ((![v179] : Fin 1 → IVec S16 32) a x).toNat < S38912.size a)
theorem k1_idx171_inb : ∀ (v179 : IVec S16 32) (k1_hw171 : k1_chk171 v179), ∀ a x, ((![v179] : Fin 1 → IVec S16 32) a x).toNat < S38912.size a := fun v179 k1_hw171 => k1_hw171
def k1_off174 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v180 : Index := Scalar.indexCast arg9
  let c176 : Index := 176#32
  ![v180.toNat, 176]

def k1_chk172 (v181 : IVec S16 32) : Prop :=
  (∀ a x, ((![v181] : Fin 1 → IVec S16 32) a x).toNat < S38912.size a)
theorem k1_idx172_inb : ∀ (v181 : IVec S16 32) (k1_hw172 : k1_chk172 v181), ∀ a x, ((![v181] : Fin 1 → IVec S16 32) a x).toNat < S38912.size a := fun v181 k1_hw172 => k1_hw172
def k1_off175 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v182 : Index := Scalar.indexCast arg9
  let c192 : Index := 192#32
  ![v182.toNat, 192]

def k1_chk173 (v183 : IVec S16 32) : Prop :=
  (∀ a x, ((![v183] : Fin 1 → IVec S16 32) a x).toNat < S38912.size a)
theorem k1_idx173_inb : ∀ (v183 : IVec S16 32) (k1_hw173 : k1_chk173 v183), ∀ a x, ((![v183] : Fin 1 → IVec S16 32) a x).toNat < S38912.size a := fun v183 k1_hw173 => k1_hw173
def k1_off176 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v184 : Index := Scalar.indexCast arg9
  let c208 : Index := 208#32
  ![v184.toNat, 208]

def k1_chk174 (v185 : IVec S16 32) : Prop :=
  (∀ a x, ((![v185] : Fin 1 → IVec S16 32) a x).toNat < S38912.size a)
theorem k1_idx174_inb : ∀ (v185 : IVec S16 32) (k1_hw174 : k1_chk174 v185), ∀ a x, ((![v185] : Fin 1 → IVec S16 32) a x).toNat < S38912.size a := fun v185 k1_hw174 => k1_hw174
def k1_off177 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v186 : Index := Scalar.indexCast arg9
  let c224 : Index := 224#32
  ![v186.toNat, 224]

def k1_chk175 (v187 : IVec S16 32) : Prop :=
  (∀ a x, ((![v187] : Fin 1 → IVec S16 32) a x).toNat < S38912.size a)
theorem k1_idx175_inb : ∀ (v187 : IVec S16 32) (k1_hw175 : k1_chk175 v187), ∀ a x, ((![v187] : Fin 1 → IVec S16 32) a x).toNat < S38912.size a := fun v187 k1_hw175 => k1_hw175
def k1_off178 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v188 : Index := Scalar.indexCast arg9
  let c240 : Index := 240#32
  ![v188.toNat, 240]

def k1_chk176 (v189 : IVec S16 32) : Prop :=
  (∀ a x, ((![v189] : Fin 1 → IVec S16 32) a x).toNat < S38912.size a)
theorem k1_idx176_inb : ∀ (v189 : IVec S16 32) (k1_hw176 : k1_chk176 v189), ∀ a x, ((![v189] : Fin 1 → IVec S16 32) a x).toNat < S38912.size a := fun v189 k1_hw176 => k1_hw176
def k1_off179 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v190 : Index := Scalar.indexCast arg9
  let c256 : Index := 256#32
  ![v190.toNat, 256]

def k1_chk177 (v191 : IVec S16 32) : Prop :=
  (∀ a x, ((![v191] : Fin 1 → IVec S16 32) a x).toNat < S38912.size a)
theorem k1_idx177_inb : ∀ (v191 : IVec S16 32) (k1_hw177 : k1_chk177 v191), ∀ a x, ((![v191] : Fin 1 → IVec S16 32) a x).toNat < S38912.size a := fun v191 k1_hw177 => k1_hw177
def k1_off180 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v192 : Index := Scalar.indexCast arg9
  let c272 : Index := 272#32
  ![v192.toNat, 272]

def k1_chk178 (v193 : IVec S16 32) : Prop :=
  (∀ a x, ((![v193] : Fin 1 → IVec S16 32) a x).toNat < S38912.size a)
theorem k1_idx178_inb : ∀ (v193 : IVec S16 32) (k1_hw178 : k1_chk178 v193), ∀ a x, ((![v193] : Fin 1 → IVec S16 32) a x).toNat < S38912.size a := fun v193 k1_hw178 => k1_hw178
def k1_off181 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v194 : Index := Scalar.indexCast arg9
  let c288 : Index := 288#32
  ![v194.toNat, 288]

def k1_chk179 (v195 : IVec S16 32) : Prop :=
  (∀ a x, ((![v195] : Fin 1 → IVec S16 32) a x).toNat < S38912.size a)
theorem k1_idx179_inb : ∀ (v195 : IVec S16 32) (k1_hw179 : k1_chk179 v195), ∀ a x, ((![v195] : Fin 1 → IVec S16 32) a x).toNat < S38912.size a := fun v195 k1_hw179 => k1_hw179
def k1_off182 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v196 : Index := Scalar.indexCast arg9
  let c304 : Index := 304#32
  ![v196.toNat, 304]

def k1_chk180 (v197 : IVec S16 32) : Prop :=
  (∀ a x, ((![v197] : Fin 1 → IVec S16 32) a x).toNat < S38912.size a)
theorem k1_idx180_inb : ∀ (v197 : IVec S16 32) (k1_hw180 : k1_chk180 v197), ∀ a x, ((![v197] : Fin 1 → IVec S16 32) a x).toNat < S38912.size a := fun v197 k1_hw180 => k1_hw180
def k1_off183 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v198 : Index := Scalar.indexCast arg9
  let c320 : Index := 320#32
  ![v198.toNat, 320]

def k1_chk181 (v199 : IVec S16 32) : Prop :=
  (∀ a x, ((![v199] : Fin 1 → IVec S16 32) a x).toNat < S38912.size a)
theorem k1_idx181_inb : ∀ (v199 : IVec S16 32) (k1_hw181 : k1_chk181 v199), ∀ a x, ((![v199] : Fin 1 → IVec S16 32) a x).toNat < S38912.size a := fun v199 k1_hw181 => k1_hw181
def k1_off184 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v200 : Index := Scalar.indexCast arg9
  let c336 : Index := 336#32
  ![v200.toNat, 336]

def k1_chk182 (v201 : IVec S16 32) : Prop :=
  (∀ a x, ((![v201] : Fin 1 → IVec S16 32) a x).toNat < S38912.size a)
theorem k1_idx182_inb : ∀ (v201 : IVec S16 32) (k1_hw182 : k1_chk182 v201), ∀ a x, ((![v201] : Fin 1 → IVec S16 32) a x).toNat < S38912.size a := fun v201 k1_hw182 => k1_hw182
def k1_off185 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v202 : Index := Scalar.indexCast arg9
  let c352 : Index := 352#32
  ![v202.toNat, 352]

def k1_chk183 (v203 : IVec S16 32) : Prop :=
  (∀ a x, ((![v203] : Fin 1 → IVec S16 32) a x).toNat < S38912.size a)
theorem k1_idx183_inb : ∀ (v203 : IVec S16 32) (k1_hw183 : k1_chk183 v203), ∀ a x, ((![v203] : Fin 1 → IVec S16 32) a x).toNat < S38912.size a := fun v203 k1_hw183 => k1_hw183
def k1_off186 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v204 : Index := Scalar.indexCast arg9
  let c368 : Index := 368#32
  ![v204.toNat, 368]

def k1_chk184 (v205 : IVec S16 32) : Prop :=
  (∀ a x, ((![v205] : Fin 1 → IVec S16 32) a x).toNat < S38912.size a)
theorem k1_idx184_inb : ∀ (v205 : IVec S16 32) (k1_hw184 : k1_chk184 v205), ∀ a x, ((![v205] : Fin 1 → IVec S16 32) a x).toNat < S38912.size a := fun v205 k1_hw184 => k1_hw184
def k1_off187 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v206 : Index := Scalar.indexCast arg9
  let c384 : Index := 384#32
  ![v206.toNat, 384]

def k1_chk185 (v207 : IVec S16 32) : Prop :=
  (∀ a x, ((![v207] : Fin 1 → IVec S16 32) a x).toNat < S38912.size a)
theorem k1_idx185_inb : ∀ (v207 : IVec S16 32) (k1_hw185 : k1_chk185 v207), ∀ a x, ((![v207] : Fin 1 → IVec S16 32) a x).toNat < S38912.size a := fun v207 k1_hw185 => k1_hw185
def k1_off188 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v208 : Index := Scalar.indexCast arg9
  let c400 : Index := 400#32
  ![v208.toNat, 400]

def k1_chk186 (v209 : IVec S16 32) : Prop :=
  (∀ a x, ((![v209] : Fin 1 → IVec S16 32) a x).toNat < S38912.size a)
theorem k1_idx186_inb : ∀ (v209 : IVec S16 32) (k1_hw186 : k1_chk186 v209), ∀ a x, ((![v209] : Fin 1 → IVec S16 32) a x).toNat < S38912.size a := fun v209 k1_hw186 => k1_hw186
def k1_off189 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v210 : Index := Scalar.indexCast arg9
  let c416 : Index := 416#32
  ![v210.toNat, 416]

def k1_chk187 (v211 : IVec S16 32) : Prop :=
  (∀ a x, ((![v211] : Fin 1 → IVec S16 32) a x).toNat < S38912.size a)
theorem k1_idx187_inb : ∀ (v211 : IVec S16 32) (k1_hw187 : k1_chk187 v211), ∀ a x, ((![v211] : Fin 1 → IVec S16 32) a x).toNat < S38912.size a := fun v211 k1_hw187 => k1_hw187
def k1_off190 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v212 : Index := Scalar.indexCast arg9
  let c432 : Index := 432#32
  ![v212.toNat, 432]

def k1_chk188 (v213 : IVec S16 32) : Prop :=
  (∀ a x, ((![v213] : Fin 1 → IVec S16 32) a x).toNat < S38912.size a)
theorem k1_idx188_inb : ∀ (v213 : IVec S16 32) (k1_hw188 : k1_chk188 v213), ∀ a x, ((![v213] : Fin 1 → IVec S16 32) a x).toNat < S38912.size a := fun v213 k1_hw188 => k1_hw188
def k1_off191 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v214 : Index := Scalar.indexCast arg9
  let c448 : Index := 448#32
  ![v214.toNat, 448]

def k1_chk189 (v215 : IVec S16 32) : Prop :=
  (∀ a x, ((![v215] : Fin 1 → IVec S16 32) a x).toNat < S38912.size a)
theorem k1_idx189_inb : ∀ (v215 : IVec S16 32) (k1_hw189 : k1_chk189 v215), ∀ a x, ((![v215] : Fin 1 → IVec S16 32) a x).toNat < S38912.size a := fun v215 k1_hw189 => k1_hw189
def k1_off192 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v216 : Index := Scalar.indexCast arg9
  let c464 : Index := 464#32
  ![v216.toNat, 464]

def k1_chk190 (v217 : IVec S16 32) : Prop :=
  (∀ a x, ((![v217] : Fin 1 → IVec S16 32) a x).toNat < S38912.size a)
theorem k1_idx190_inb : ∀ (v217 : IVec S16 32) (k1_hw190 : k1_chk190 v217), ∀ a x, ((![v217] : Fin 1 → IVec S16 32) a x).toNat < S38912.size a := fun v217 k1_hw190 => k1_hw190
def k1_off193 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v218 : Index := Scalar.indexCast arg9
  let c480 : Index := 480#32
  ![v218.toNat, 480]

def k1_chk191 (v219 : IVec S16 32) : Prop :=
  (∀ a x, ((![v219] : Fin 1 → IVec S16 32) a x).toNat < S38912.size a)
theorem k1_idx191_inb : ∀ (v219 : IVec S16 32) (k1_hw191 : k1_chk191 v219), ∀ a x, ((![v219] : Fin 1 → IVec S16 32) a x).toNat < S38912.size a := fun v219 k1_hw191 => k1_hw191
def k1_off194 (k1_t7 : Fin k1_t7_loop.trips) : Fin 2 → Nat :=
  let c0_i32_62 : BitVec 32 := 0#32
  let c1_i32_64 : BitVec 32 := 1#32
  let arg9 : BitVec 32 := Scf.iv c0_i32_62 c1_i32_64 k1_t7
  let v220 : Index := Scalar.indexCast arg9
  let c496 : Index := 496#32
  ![v220.toNat, 496]

def k1_chk192 (v221 : IVec S16 32) : Prop :=
  (∀ a x, ((![v221] : Fin 1 → IVec S16 32) a x).toNat < S38912.size a)
theorem k1_idx192_inb : ∀ (v221 : IVec S16 32) (k1_hw192 : k1_chk192 v221), ∀ a x, ((![v221] : Fin 1 → IVec S16 32) a x).toNat < S38912.size a := fun v221 k1_hw192 => k1_hw192
@[reducible] def k1_t8_loop : Scf.Loop 32 :=
  let c0_i32_72 : BitVec 32 := 0#32
  let c64_i32_73 : BitVec 32 := 64#32
  let v63 : BitVec 32 := Scalar.addi c0_i32_72 c64_i32_73
  let c1_i32_74 : BitVec 32 := 1#32
  ⟨c0_i32_72, v63, c1_i32_74⟩
def k1_off195 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v158 : Index := Scalar.indexCast arg9
  let c0 : Index := 0#32
  ![v158.toNat, 0]

def k1_chk193 (v159 : IVec S16 32) : Prop :=
  (∀ a x, ((![v159] : Fin 1 → IVec S16 32) a x).toNat < S38912.size a)
theorem k1_idx193_inb : ∀ (v159 : IVec S16 32) (k1_hw193 : k1_chk193 v159), ∀ a x, ((![v159] : Fin 1 → IVec S16 32) a x).toNat < S38912.size a := fun v159 k1_hw193 => k1_hw193
def k1_off196 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v160 : Index := Scalar.indexCast arg9
  let c16 : Index := 16#32
  ![v160.toNat, 16]

def k1_chk194 (v161 : IVec S16 32) : Prop :=
  (∀ a x, ((![v161] : Fin 1 → IVec S16 32) a x).toNat < S38912.size a)
theorem k1_idx194_inb : ∀ (v161 : IVec S16 32) (k1_hw194 : k1_chk194 v161), ∀ a x, ((![v161] : Fin 1 → IVec S16 32) a x).toNat < S38912.size a := fun v161 k1_hw194 => k1_hw194
def k1_off197 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v162 : Index := Scalar.indexCast arg9
  let c32 : Index := 32#32
  ![v162.toNat, 32]

def k1_chk195 (v163 : IVec S16 32) : Prop :=
  (∀ a x, ((![v163] : Fin 1 → IVec S16 32) a x).toNat < S38912.size a)
theorem k1_idx195_inb : ∀ (v163 : IVec S16 32) (k1_hw195 : k1_chk195 v163), ∀ a x, ((![v163] : Fin 1 → IVec S16 32) a x).toNat < S38912.size a := fun v163 k1_hw195 => k1_hw195
def k1_off198 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v164 : Index := Scalar.indexCast arg9
  let c48 : Index := 48#32
  ![v164.toNat, 48]

def k1_chk196 (v165 : IVec S16 32) : Prop :=
  (∀ a x, ((![v165] : Fin 1 → IVec S16 32) a x).toNat < S38912.size a)
theorem k1_idx196_inb : ∀ (v165 : IVec S16 32) (k1_hw196 : k1_chk196 v165), ∀ a x, ((![v165] : Fin 1 → IVec S16 32) a x).toNat < S38912.size a := fun v165 k1_hw196 => k1_hw196
def k1_off199 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v166 : Index := Scalar.indexCast arg9
  let c64 : Index := 64#32
  ![v166.toNat, 64]

def k1_chk197 (v167 : IVec S16 32) : Prop :=
  (∀ a x, ((![v167] : Fin 1 → IVec S16 32) a x).toNat < S38912.size a)
theorem k1_idx197_inb : ∀ (v167 : IVec S16 32) (k1_hw197 : k1_chk197 v167), ∀ a x, ((![v167] : Fin 1 → IVec S16 32) a x).toNat < S38912.size a := fun v167 k1_hw197 => k1_hw197
def k1_off200 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v168 : Index := Scalar.indexCast arg9
  let c80 : Index := 80#32
  ![v168.toNat, 80]

def k1_chk198 (v169 : IVec S16 32) : Prop :=
  (∀ a x, ((![v169] : Fin 1 → IVec S16 32) a x).toNat < S38912.size a)
theorem k1_idx198_inb : ∀ (v169 : IVec S16 32) (k1_hw198 : k1_chk198 v169), ∀ a x, ((![v169] : Fin 1 → IVec S16 32) a x).toNat < S38912.size a := fun v169 k1_hw198 => k1_hw198
def k1_off201 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v170 : Index := Scalar.indexCast arg9
  let c96 : Index := 96#32
  ![v170.toNat, 96]

def k1_chk199 (v171 : IVec S16 32) : Prop :=
  (∀ a x, ((![v171] : Fin 1 → IVec S16 32) a x).toNat < S38912.size a)
theorem k1_idx199_inb : ∀ (v171 : IVec S16 32) (k1_hw199 : k1_chk199 v171), ∀ a x, ((![v171] : Fin 1 → IVec S16 32) a x).toNat < S38912.size a := fun v171 k1_hw199 => k1_hw199
def k1_off202 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v172 : Index := Scalar.indexCast arg9
  let c112 : Index := 112#32
  ![v172.toNat, 112]

def k1_chk200 (v173 : IVec S16 32) : Prop :=
  (∀ a x, ((![v173] : Fin 1 → IVec S16 32) a x).toNat < S38912.size a)
theorem k1_idx200_inb : ∀ (v173 : IVec S16 32) (k1_hw200 : k1_chk200 v173), ∀ a x, ((![v173] : Fin 1 → IVec S16 32) a x).toNat < S38912.size a := fun v173 k1_hw200 => k1_hw200
def k1_off203 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v174 : Index := Scalar.indexCast arg9
  let c128 : Index := 128#32
  ![v174.toNat, 128]

def k1_chk201 (v175 : IVec S16 32) : Prop :=
  (∀ a x, ((![v175] : Fin 1 → IVec S16 32) a x).toNat < S38912.size a)
theorem k1_idx201_inb : ∀ (v175 : IVec S16 32) (k1_hw201 : k1_chk201 v175), ∀ a x, ((![v175] : Fin 1 → IVec S16 32) a x).toNat < S38912.size a := fun v175 k1_hw201 => k1_hw201
def k1_off204 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v176 : Index := Scalar.indexCast arg9
  let c144 : Index := 144#32
  ![v176.toNat, 144]

def k1_chk202 (v177 : IVec S16 32) : Prop :=
  (∀ a x, ((![v177] : Fin 1 → IVec S16 32) a x).toNat < S38912.size a)
theorem k1_idx202_inb : ∀ (v177 : IVec S16 32) (k1_hw202 : k1_chk202 v177), ∀ a x, ((![v177] : Fin 1 → IVec S16 32) a x).toNat < S38912.size a := fun v177 k1_hw202 => k1_hw202
def k1_off205 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v178 : Index := Scalar.indexCast arg9
  let c160 : Index := 160#32
  ![v178.toNat, 160]

def k1_chk203 (v179 : IVec S16 32) : Prop :=
  (∀ a x, ((![v179] : Fin 1 → IVec S16 32) a x).toNat < S38912.size a)
theorem k1_idx203_inb : ∀ (v179 : IVec S16 32) (k1_hw203 : k1_chk203 v179), ∀ a x, ((![v179] : Fin 1 → IVec S16 32) a x).toNat < S38912.size a := fun v179 k1_hw203 => k1_hw203
def k1_off206 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v180 : Index := Scalar.indexCast arg9
  let c176 : Index := 176#32
  ![v180.toNat, 176]

def k1_chk204 (v181 : IVec S16 32) : Prop :=
  (∀ a x, ((![v181] : Fin 1 → IVec S16 32) a x).toNat < S38912.size a)
theorem k1_idx204_inb : ∀ (v181 : IVec S16 32) (k1_hw204 : k1_chk204 v181), ∀ a x, ((![v181] : Fin 1 → IVec S16 32) a x).toNat < S38912.size a := fun v181 k1_hw204 => k1_hw204
def k1_off207 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v182 : Index := Scalar.indexCast arg9
  let c192 : Index := 192#32
  ![v182.toNat, 192]

def k1_chk205 (v183 : IVec S16 32) : Prop :=
  (∀ a x, ((![v183] : Fin 1 → IVec S16 32) a x).toNat < S38912.size a)
theorem k1_idx205_inb : ∀ (v183 : IVec S16 32) (k1_hw205 : k1_chk205 v183), ∀ a x, ((![v183] : Fin 1 → IVec S16 32) a x).toNat < S38912.size a := fun v183 k1_hw205 => k1_hw205
def k1_off208 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v184 : Index := Scalar.indexCast arg9
  let c208 : Index := 208#32
  ![v184.toNat, 208]

def k1_chk206 (v185 : IVec S16 32) : Prop :=
  (∀ a x, ((![v185] : Fin 1 → IVec S16 32) a x).toNat < S38912.size a)
theorem k1_idx206_inb : ∀ (v185 : IVec S16 32) (k1_hw206 : k1_chk206 v185), ∀ a x, ((![v185] : Fin 1 → IVec S16 32) a x).toNat < S38912.size a := fun v185 k1_hw206 => k1_hw206
def k1_off209 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v186 : Index := Scalar.indexCast arg9
  let c224 : Index := 224#32
  ![v186.toNat, 224]

def k1_chk207 (v187 : IVec S16 32) : Prop :=
  (∀ a x, ((![v187] : Fin 1 → IVec S16 32) a x).toNat < S38912.size a)
theorem k1_idx207_inb : ∀ (v187 : IVec S16 32) (k1_hw207 : k1_chk207 v187), ∀ a x, ((![v187] : Fin 1 → IVec S16 32) a x).toNat < S38912.size a := fun v187 k1_hw207 => k1_hw207
def k1_off210 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v188 : Index := Scalar.indexCast arg9
  let c240 : Index := 240#32
  ![v188.toNat, 240]

def k1_chk208 (v189 : IVec S16 32) : Prop :=
  (∀ a x, ((![v189] : Fin 1 → IVec S16 32) a x).toNat < S38912.size a)
theorem k1_idx208_inb : ∀ (v189 : IVec S16 32) (k1_hw208 : k1_chk208 v189), ∀ a x, ((![v189] : Fin 1 → IVec S16 32) a x).toNat < S38912.size a := fun v189 k1_hw208 => k1_hw208
def k1_off211 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v190 : Index := Scalar.indexCast arg9
  let c256 : Index := 256#32
  ![v190.toNat, 256]

def k1_chk209 (v191 : IVec S16 32) : Prop :=
  (∀ a x, ((![v191] : Fin 1 → IVec S16 32) a x).toNat < S38912.size a)
theorem k1_idx209_inb : ∀ (v191 : IVec S16 32) (k1_hw209 : k1_chk209 v191), ∀ a x, ((![v191] : Fin 1 → IVec S16 32) a x).toNat < S38912.size a := fun v191 k1_hw209 => k1_hw209
def k1_off212 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v192 : Index := Scalar.indexCast arg9
  let c272 : Index := 272#32
  ![v192.toNat, 272]

def k1_chk210 (v193 : IVec S16 32) : Prop :=
  (∀ a x, ((![v193] : Fin 1 → IVec S16 32) a x).toNat < S38912.size a)
theorem k1_idx210_inb : ∀ (v193 : IVec S16 32) (k1_hw210 : k1_chk210 v193), ∀ a x, ((![v193] : Fin 1 → IVec S16 32) a x).toNat < S38912.size a := fun v193 k1_hw210 => k1_hw210
def k1_off213 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v194 : Index := Scalar.indexCast arg9
  let c288 : Index := 288#32
  ![v194.toNat, 288]

def k1_chk211 (v195 : IVec S16 32) : Prop :=
  (∀ a x, ((![v195] : Fin 1 → IVec S16 32) a x).toNat < S38912.size a)
theorem k1_idx211_inb : ∀ (v195 : IVec S16 32) (k1_hw211 : k1_chk211 v195), ∀ a x, ((![v195] : Fin 1 → IVec S16 32) a x).toNat < S38912.size a := fun v195 k1_hw211 => k1_hw211
def k1_off214 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v196 : Index := Scalar.indexCast arg9
  let c304 : Index := 304#32
  ![v196.toNat, 304]

def k1_chk212 (v197 : IVec S16 32) : Prop :=
  (∀ a x, ((![v197] : Fin 1 → IVec S16 32) a x).toNat < S38912.size a)
theorem k1_idx212_inb : ∀ (v197 : IVec S16 32) (k1_hw212 : k1_chk212 v197), ∀ a x, ((![v197] : Fin 1 → IVec S16 32) a x).toNat < S38912.size a := fun v197 k1_hw212 => k1_hw212
def k1_off215 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v198 : Index := Scalar.indexCast arg9
  let c320 : Index := 320#32
  ![v198.toNat, 320]

def k1_chk213 (v199 : IVec S16 32) : Prop :=
  (∀ a x, ((![v199] : Fin 1 → IVec S16 32) a x).toNat < S38912.size a)
theorem k1_idx213_inb : ∀ (v199 : IVec S16 32) (k1_hw213 : k1_chk213 v199), ∀ a x, ((![v199] : Fin 1 → IVec S16 32) a x).toNat < S38912.size a := fun v199 k1_hw213 => k1_hw213
def k1_off216 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v200 : Index := Scalar.indexCast arg9
  let c336 : Index := 336#32
  ![v200.toNat, 336]

def k1_chk214 (v201 : IVec S16 32) : Prop :=
  (∀ a x, ((![v201] : Fin 1 → IVec S16 32) a x).toNat < S38912.size a)
theorem k1_idx214_inb : ∀ (v201 : IVec S16 32) (k1_hw214 : k1_chk214 v201), ∀ a x, ((![v201] : Fin 1 → IVec S16 32) a x).toNat < S38912.size a := fun v201 k1_hw214 => k1_hw214
def k1_off217 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v202 : Index := Scalar.indexCast arg9
  let c352 : Index := 352#32
  ![v202.toNat, 352]

def k1_chk215 (v203 : IVec S16 32) : Prop :=
  (∀ a x, ((![v203] : Fin 1 → IVec S16 32) a x).toNat < S38912.size a)
theorem k1_idx215_inb : ∀ (v203 : IVec S16 32) (k1_hw215 : k1_chk215 v203), ∀ a x, ((![v203] : Fin 1 → IVec S16 32) a x).toNat < S38912.size a := fun v203 k1_hw215 => k1_hw215
def k1_off218 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v204 : Index := Scalar.indexCast arg9
  let c368 : Index := 368#32
  ![v204.toNat, 368]

def k1_chk216 (v205 : IVec S16 32) : Prop :=
  (∀ a x, ((![v205] : Fin 1 → IVec S16 32) a x).toNat < S38912.size a)
theorem k1_idx216_inb : ∀ (v205 : IVec S16 32) (k1_hw216 : k1_chk216 v205), ∀ a x, ((![v205] : Fin 1 → IVec S16 32) a x).toNat < S38912.size a := fun v205 k1_hw216 => k1_hw216
def k1_off219 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v206 : Index := Scalar.indexCast arg9
  let c384 : Index := 384#32
  ![v206.toNat, 384]

def k1_chk217 (v207 : IVec S16 32) : Prop :=
  (∀ a x, ((![v207] : Fin 1 → IVec S16 32) a x).toNat < S38912.size a)
theorem k1_idx217_inb : ∀ (v207 : IVec S16 32) (k1_hw217 : k1_chk217 v207), ∀ a x, ((![v207] : Fin 1 → IVec S16 32) a x).toNat < S38912.size a := fun v207 k1_hw217 => k1_hw217
def k1_off220 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v208 : Index := Scalar.indexCast arg9
  let c400 : Index := 400#32
  ![v208.toNat, 400]

def k1_chk218 (v209 : IVec S16 32) : Prop :=
  (∀ a x, ((![v209] : Fin 1 → IVec S16 32) a x).toNat < S38912.size a)
theorem k1_idx218_inb : ∀ (v209 : IVec S16 32) (k1_hw218 : k1_chk218 v209), ∀ a x, ((![v209] : Fin 1 → IVec S16 32) a x).toNat < S38912.size a := fun v209 k1_hw218 => k1_hw218
def k1_off221 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v210 : Index := Scalar.indexCast arg9
  let c416 : Index := 416#32
  ![v210.toNat, 416]

def k1_chk219 (v211 : IVec S16 32) : Prop :=
  (∀ a x, ((![v211] : Fin 1 → IVec S16 32) a x).toNat < S38912.size a)
theorem k1_idx219_inb : ∀ (v211 : IVec S16 32) (k1_hw219 : k1_chk219 v211), ∀ a x, ((![v211] : Fin 1 → IVec S16 32) a x).toNat < S38912.size a := fun v211 k1_hw219 => k1_hw219
def k1_off222 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v212 : Index := Scalar.indexCast arg9
  let c432 : Index := 432#32
  ![v212.toNat, 432]

def k1_chk220 (v213 : IVec S16 32) : Prop :=
  (∀ a x, ((![v213] : Fin 1 → IVec S16 32) a x).toNat < S38912.size a)
theorem k1_idx220_inb : ∀ (v213 : IVec S16 32) (k1_hw220 : k1_chk220 v213), ∀ a x, ((![v213] : Fin 1 → IVec S16 32) a x).toNat < S38912.size a := fun v213 k1_hw220 => k1_hw220
def k1_off223 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v214 : Index := Scalar.indexCast arg9
  let c448 : Index := 448#32
  ![v214.toNat, 448]

def k1_chk221 (v215 : IVec S16 32) : Prop :=
  (∀ a x, ((![v215] : Fin 1 → IVec S16 32) a x).toNat < S38912.size a)
theorem k1_idx221_inb : ∀ (v215 : IVec S16 32) (k1_hw221 : k1_chk221 v215), ∀ a x, ((![v215] : Fin 1 → IVec S16 32) a x).toNat < S38912.size a := fun v215 k1_hw221 => k1_hw221
def k1_off224 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v216 : Index := Scalar.indexCast arg9
  let c464 : Index := 464#32
  ![v216.toNat, 464]

def k1_chk222 (v217 : IVec S16 32) : Prop :=
  (∀ a x, ((![v217] : Fin 1 → IVec S16 32) a x).toNat < S38912.size a)
theorem k1_idx222_inb : ∀ (v217 : IVec S16 32) (k1_hw222 : k1_chk222 v217), ∀ a x, ((![v217] : Fin 1 → IVec S16 32) a x).toNat < S38912.size a := fun v217 k1_hw222 => k1_hw222
def k1_off225 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v218 : Index := Scalar.indexCast arg9
  let c480 : Index := 480#32
  ![v218.toNat, 480]

def k1_chk223 (v219 : IVec S16 32) : Prop :=
  (∀ a x, ((![v219] : Fin 1 → IVec S16 32) a x).toNat < S38912.size a)
theorem k1_idx223_inb : ∀ (v219 : IVec S16 32) (k1_hw223 : k1_chk223 v219), ∀ a x, ((![v219] : Fin 1 → IVec S16 32) a x).toNat < S38912.size a := fun v219 k1_hw223 => k1_hw223
def k1_off226 (k1_t8 : Fin k1_t8_loop.trips) : Fin 2 → Nat :=
  let c0_i32_72 : BitVec 32 := 0#32
  let c1_i32_74 : BitVec 32 := 1#32
  let arg9 : BitVec 32 := Scf.iv c0_i32_72 c1_i32_74 k1_t8
  let v220 : Index := Scalar.indexCast arg9
  let c496 : Index := 496#32
  ![v220.toNat, 496]

def k1_chk224 (v221 : IVec S16 32) : Prop :=
  (∀ a x, ((![v221] : Fin 1 → IVec S16 32) a x).toNat < S38912.size a)
theorem k1_idx224_inb : ∀ (v221 : IVec S16 32) (k1_hw224 : k1_chk224 v221), ∀ a x, ((![v221] : Fin 1 → IVec S16 32) a x).toNat < S38912.size a := fun v221 k1_hw224 => k1_hw224
@[reducible] def k1_t9_loop : Scf.Loop 32 :=
  let c0_i32_82 : BitVec 32 := 0#32
  let c64_i32_83 : BitVec 32 := 64#32
  let v71 : BitVec 32 := Scalar.addi c0_i32_82 c64_i32_83
  let c1_i32_84 : BitVec 32 := 1#32
  ⟨c0_i32_82, v71, c1_i32_84⟩
def k1_off227 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v158 : Index := Scalar.indexCast arg9
  let c0 : Index := 0#32
  ![v158.toNat, 0]

def k1_chk225 (v159 : IVec S16 32) : Prop :=
  (∀ a x, ((![v159] : Fin 1 → IVec S16 32) a x).toNat < S38912.size a)
theorem k1_idx225_inb : ∀ (v159 : IVec S16 32) (k1_hw225 : k1_chk225 v159), ∀ a x, ((![v159] : Fin 1 → IVec S16 32) a x).toNat < S38912.size a := fun v159 k1_hw225 => k1_hw225
def k1_off228 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v160 : Index := Scalar.indexCast arg9
  let c16 : Index := 16#32
  ![v160.toNat, 16]

def k1_chk226 (v161 : IVec S16 32) : Prop :=
  (∀ a x, ((![v161] : Fin 1 → IVec S16 32) a x).toNat < S38912.size a)
theorem k1_idx226_inb : ∀ (v161 : IVec S16 32) (k1_hw226 : k1_chk226 v161), ∀ a x, ((![v161] : Fin 1 → IVec S16 32) a x).toNat < S38912.size a := fun v161 k1_hw226 => k1_hw226
def k1_off229 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v162 : Index := Scalar.indexCast arg9
  let c32 : Index := 32#32
  ![v162.toNat, 32]

def k1_chk227 (v163 : IVec S16 32) : Prop :=
  (∀ a x, ((![v163] : Fin 1 → IVec S16 32) a x).toNat < S38912.size a)
theorem k1_idx227_inb : ∀ (v163 : IVec S16 32) (k1_hw227 : k1_chk227 v163), ∀ a x, ((![v163] : Fin 1 → IVec S16 32) a x).toNat < S38912.size a := fun v163 k1_hw227 => k1_hw227
def k1_off230 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v164 : Index := Scalar.indexCast arg9
  let c48 : Index := 48#32
  ![v164.toNat, 48]

def k1_chk228 (v165 : IVec S16 32) : Prop :=
  (∀ a x, ((![v165] : Fin 1 → IVec S16 32) a x).toNat < S38912.size a)
theorem k1_idx228_inb : ∀ (v165 : IVec S16 32) (k1_hw228 : k1_chk228 v165), ∀ a x, ((![v165] : Fin 1 → IVec S16 32) a x).toNat < S38912.size a := fun v165 k1_hw228 => k1_hw228
def k1_off231 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v166 : Index := Scalar.indexCast arg9
  let c64 : Index := 64#32
  ![v166.toNat, 64]

def k1_chk229 (v167 : IVec S16 32) : Prop :=
  (∀ a x, ((![v167] : Fin 1 → IVec S16 32) a x).toNat < S38912.size a)
theorem k1_idx229_inb : ∀ (v167 : IVec S16 32) (k1_hw229 : k1_chk229 v167), ∀ a x, ((![v167] : Fin 1 → IVec S16 32) a x).toNat < S38912.size a := fun v167 k1_hw229 => k1_hw229
def k1_off232 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v168 : Index := Scalar.indexCast arg9
  let c80 : Index := 80#32
  ![v168.toNat, 80]

def k1_chk230 (v169 : IVec S16 32) : Prop :=
  (∀ a x, ((![v169] : Fin 1 → IVec S16 32) a x).toNat < S38912.size a)
theorem k1_idx230_inb : ∀ (v169 : IVec S16 32) (k1_hw230 : k1_chk230 v169), ∀ a x, ((![v169] : Fin 1 → IVec S16 32) a x).toNat < S38912.size a := fun v169 k1_hw230 => k1_hw230
def k1_off233 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v170 : Index := Scalar.indexCast arg9
  let c96 : Index := 96#32
  ![v170.toNat, 96]

def k1_chk231 (v171 : IVec S16 32) : Prop :=
  (∀ a x, ((![v171] : Fin 1 → IVec S16 32) a x).toNat < S38912.size a)
theorem k1_idx231_inb : ∀ (v171 : IVec S16 32) (k1_hw231 : k1_chk231 v171), ∀ a x, ((![v171] : Fin 1 → IVec S16 32) a x).toNat < S38912.size a := fun v171 k1_hw231 => k1_hw231
def k1_off234 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v172 : Index := Scalar.indexCast arg9
  let c112 : Index := 112#32
  ![v172.toNat, 112]

def k1_chk232 (v173 : IVec S16 32) : Prop :=
  (∀ a x, ((![v173] : Fin 1 → IVec S16 32) a x).toNat < S38912.size a)
theorem k1_idx232_inb : ∀ (v173 : IVec S16 32) (k1_hw232 : k1_chk232 v173), ∀ a x, ((![v173] : Fin 1 → IVec S16 32) a x).toNat < S38912.size a := fun v173 k1_hw232 => k1_hw232
def k1_off235 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v174 : Index := Scalar.indexCast arg9
  let c128 : Index := 128#32
  ![v174.toNat, 128]

def k1_chk233 (v175 : IVec S16 32) : Prop :=
  (∀ a x, ((![v175] : Fin 1 → IVec S16 32) a x).toNat < S38912.size a)
theorem k1_idx233_inb : ∀ (v175 : IVec S16 32) (k1_hw233 : k1_chk233 v175), ∀ a x, ((![v175] : Fin 1 → IVec S16 32) a x).toNat < S38912.size a := fun v175 k1_hw233 => k1_hw233
def k1_off236 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v176 : Index := Scalar.indexCast arg9
  let c144 : Index := 144#32
  ![v176.toNat, 144]

def k1_chk234 (v177 : IVec S16 32) : Prop :=
  (∀ a x, ((![v177] : Fin 1 → IVec S16 32) a x).toNat < S38912.size a)
theorem k1_idx234_inb : ∀ (v177 : IVec S16 32) (k1_hw234 : k1_chk234 v177), ∀ a x, ((![v177] : Fin 1 → IVec S16 32) a x).toNat < S38912.size a := fun v177 k1_hw234 => k1_hw234
def k1_off237 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v178 : Index := Scalar.indexCast arg9
  let c160 : Index := 160#32
  ![v178.toNat, 160]

def k1_chk235 (v179 : IVec S16 32) : Prop :=
  (∀ a x, ((![v179] : Fin 1 → IVec S16 32) a x).toNat < S38912.size a)
theorem k1_idx235_inb : ∀ (v179 : IVec S16 32) (k1_hw235 : k1_chk235 v179), ∀ a x, ((![v179] : Fin 1 → IVec S16 32) a x).toNat < S38912.size a := fun v179 k1_hw235 => k1_hw235
def k1_off238 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v180 : Index := Scalar.indexCast arg9
  let c176 : Index := 176#32
  ![v180.toNat, 176]

def k1_chk236 (v181 : IVec S16 32) : Prop :=
  (∀ a x, ((![v181] : Fin 1 → IVec S16 32) a x).toNat < S38912.size a)
theorem k1_idx236_inb : ∀ (v181 : IVec S16 32) (k1_hw236 : k1_chk236 v181), ∀ a x, ((![v181] : Fin 1 → IVec S16 32) a x).toNat < S38912.size a := fun v181 k1_hw236 => k1_hw236
def k1_off239 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v182 : Index := Scalar.indexCast arg9
  let c192 : Index := 192#32
  ![v182.toNat, 192]

def k1_chk237 (v183 : IVec S16 32) : Prop :=
  (∀ a x, ((![v183] : Fin 1 → IVec S16 32) a x).toNat < S38912.size a)
theorem k1_idx237_inb : ∀ (v183 : IVec S16 32) (k1_hw237 : k1_chk237 v183), ∀ a x, ((![v183] : Fin 1 → IVec S16 32) a x).toNat < S38912.size a := fun v183 k1_hw237 => k1_hw237
def k1_off240 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v184 : Index := Scalar.indexCast arg9
  let c208 : Index := 208#32
  ![v184.toNat, 208]

def k1_chk238 (v185 : IVec S16 32) : Prop :=
  (∀ a x, ((![v185] : Fin 1 → IVec S16 32) a x).toNat < S38912.size a)
theorem k1_idx238_inb : ∀ (v185 : IVec S16 32) (k1_hw238 : k1_chk238 v185), ∀ a x, ((![v185] : Fin 1 → IVec S16 32) a x).toNat < S38912.size a := fun v185 k1_hw238 => k1_hw238
def k1_off241 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v186 : Index := Scalar.indexCast arg9
  let c224 : Index := 224#32
  ![v186.toNat, 224]

def k1_chk239 (v187 : IVec S16 32) : Prop :=
  (∀ a x, ((![v187] : Fin 1 → IVec S16 32) a x).toNat < S38912.size a)
theorem k1_idx239_inb : ∀ (v187 : IVec S16 32) (k1_hw239 : k1_chk239 v187), ∀ a x, ((![v187] : Fin 1 → IVec S16 32) a x).toNat < S38912.size a := fun v187 k1_hw239 => k1_hw239
def k1_off242 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v188 : Index := Scalar.indexCast arg9
  let c240 : Index := 240#32
  ![v188.toNat, 240]

def k1_chk240 (v189 : IVec S16 32) : Prop :=
  (∀ a x, ((![v189] : Fin 1 → IVec S16 32) a x).toNat < S38912.size a)
theorem k1_idx240_inb : ∀ (v189 : IVec S16 32) (k1_hw240 : k1_chk240 v189), ∀ a x, ((![v189] : Fin 1 → IVec S16 32) a x).toNat < S38912.size a := fun v189 k1_hw240 => k1_hw240
def k1_off243 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v190 : Index := Scalar.indexCast arg9
  let c256 : Index := 256#32
  ![v190.toNat, 256]

def k1_chk241 (v191 : IVec S16 32) : Prop :=
  (∀ a x, ((![v191] : Fin 1 → IVec S16 32) a x).toNat < S38912.size a)
theorem k1_idx241_inb : ∀ (v191 : IVec S16 32) (k1_hw241 : k1_chk241 v191), ∀ a x, ((![v191] : Fin 1 → IVec S16 32) a x).toNat < S38912.size a := fun v191 k1_hw241 => k1_hw241
def k1_off244 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v192 : Index := Scalar.indexCast arg9
  let c272 : Index := 272#32
  ![v192.toNat, 272]

def k1_chk242 (v193 : IVec S16 32) : Prop :=
  (∀ a x, ((![v193] : Fin 1 → IVec S16 32) a x).toNat < S38912.size a)
theorem k1_idx242_inb : ∀ (v193 : IVec S16 32) (k1_hw242 : k1_chk242 v193), ∀ a x, ((![v193] : Fin 1 → IVec S16 32) a x).toNat < S38912.size a := fun v193 k1_hw242 => k1_hw242
def k1_off245 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v194 : Index := Scalar.indexCast arg9
  let c288 : Index := 288#32
  ![v194.toNat, 288]

def k1_chk243 (v195 : IVec S16 32) : Prop :=
  (∀ a x, ((![v195] : Fin 1 → IVec S16 32) a x).toNat < S38912.size a)
theorem k1_idx243_inb : ∀ (v195 : IVec S16 32) (k1_hw243 : k1_chk243 v195), ∀ a x, ((![v195] : Fin 1 → IVec S16 32) a x).toNat < S38912.size a := fun v195 k1_hw243 => k1_hw243
def k1_off246 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v196 : Index := Scalar.indexCast arg9
  let c304 : Index := 304#32
  ![v196.toNat, 304]

def k1_chk244 (v197 : IVec S16 32) : Prop :=
  (∀ a x, ((![v197] : Fin 1 → IVec S16 32) a x).toNat < S38912.size a)
theorem k1_idx244_inb : ∀ (v197 : IVec S16 32) (k1_hw244 : k1_chk244 v197), ∀ a x, ((![v197] : Fin 1 → IVec S16 32) a x).toNat < S38912.size a := fun v197 k1_hw244 => k1_hw244
def k1_off247 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v198 : Index := Scalar.indexCast arg9
  let c320 : Index := 320#32
  ![v198.toNat, 320]

def k1_chk245 (v199 : IVec S16 32) : Prop :=
  (∀ a x, ((![v199] : Fin 1 → IVec S16 32) a x).toNat < S38912.size a)
theorem k1_idx245_inb : ∀ (v199 : IVec S16 32) (k1_hw245 : k1_chk245 v199), ∀ a x, ((![v199] : Fin 1 → IVec S16 32) a x).toNat < S38912.size a := fun v199 k1_hw245 => k1_hw245
def k1_off248 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v200 : Index := Scalar.indexCast arg9
  let c336 : Index := 336#32
  ![v200.toNat, 336]

def k1_chk246 (v201 : IVec S16 32) : Prop :=
  (∀ a x, ((![v201] : Fin 1 → IVec S16 32) a x).toNat < S38912.size a)
theorem k1_idx246_inb : ∀ (v201 : IVec S16 32) (k1_hw246 : k1_chk246 v201), ∀ a x, ((![v201] : Fin 1 → IVec S16 32) a x).toNat < S38912.size a := fun v201 k1_hw246 => k1_hw246
def k1_off249 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v202 : Index := Scalar.indexCast arg9
  let c352 : Index := 352#32
  ![v202.toNat, 352]

def k1_chk247 (v203 : IVec S16 32) : Prop :=
  (∀ a x, ((![v203] : Fin 1 → IVec S16 32) a x).toNat < S38912.size a)
theorem k1_idx247_inb : ∀ (v203 : IVec S16 32) (k1_hw247 : k1_chk247 v203), ∀ a x, ((![v203] : Fin 1 → IVec S16 32) a x).toNat < S38912.size a := fun v203 k1_hw247 => k1_hw247
def k1_off250 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v204 : Index := Scalar.indexCast arg9
  let c368 : Index := 368#32
  ![v204.toNat, 368]

def k1_chk248 (v205 : IVec S16 32) : Prop :=
  (∀ a x, ((![v205] : Fin 1 → IVec S16 32) a x).toNat < S38912.size a)
theorem k1_idx248_inb : ∀ (v205 : IVec S16 32) (k1_hw248 : k1_chk248 v205), ∀ a x, ((![v205] : Fin 1 → IVec S16 32) a x).toNat < S38912.size a := fun v205 k1_hw248 => k1_hw248
def k1_off251 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v206 : Index := Scalar.indexCast arg9
  let c384 : Index := 384#32
  ![v206.toNat, 384]

def k1_chk249 (v207 : IVec S16 32) : Prop :=
  (∀ a x, ((![v207] : Fin 1 → IVec S16 32) a x).toNat < S38912.size a)
theorem k1_idx249_inb : ∀ (v207 : IVec S16 32) (k1_hw249 : k1_chk249 v207), ∀ a x, ((![v207] : Fin 1 → IVec S16 32) a x).toNat < S38912.size a := fun v207 k1_hw249 => k1_hw249
def k1_off252 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v208 : Index := Scalar.indexCast arg9
  let c400 : Index := 400#32
  ![v208.toNat, 400]

def k1_chk250 (v209 : IVec S16 32) : Prop :=
  (∀ a x, ((![v209] : Fin 1 → IVec S16 32) a x).toNat < S38912.size a)
theorem k1_idx250_inb : ∀ (v209 : IVec S16 32) (k1_hw250 : k1_chk250 v209), ∀ a x, ((![v209] : Fin 1 → IVec S16 32) a x).toNat < S38912.size a := fun v209 k1_hw250 => k1_hw250
def k1_off253 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v210 : Index := Scalar.indexCast arg9
  let c416 : Index := 416#32
  ![v210.toNat, 416]

def k1_chk251 (v211 : IVec S16 32) : Prop :=
  (∀ a x, ((![v211] : Fin 1 → IVec S16 32) a x).toNat < S38912.size a)
theorem k1_idx251_inb : ∀ (v211 : IVec S16 32) (k1_hw251 : k1_chk251 v211), ∀ a x, ((![v211] : Fin 1 → IVec S16 32) a x).toNat < S38912.size a := fun v211 k1_hw251 => k1_hw251
def k1_off254 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v212 : Index := Scalar.indexCast arg9
  let c432 : Index := 432#32
  ![v212.toNat, 432]

def k1_chk252 (v213 : IVec S16 32) : Prop :=
  (∀ a x, ((![v213] : Fin 1 → IVec S16 32) a x).toNat < S38912.size a)
theorem k1_idx252_inb : ∀ (v213 : IVec S16 32) (k1_hw252 : k1_chk252 v213), ∀ a x, ((![v213] : Fin 1 → IVec S16 32) a x).toNat < S38912.size a := fun v213 k1_hw252 => k1_hw252
def k1_off255 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v214 : Index := Scalar.indexCast arg9
  let c448 : Index := 448#32
  ![v214.toNat, 448]

def k1_chk253 (v215 : IVec S16 32) : Prop :=
  (∀ a x, ((![v215] : Fin 1 → IVec S16 32) a x).toNat < S38912.size a)
theorem k1_idx253_inb : ∀ (v215 : IVec S16 32) (k1_hw253 : k1_chk253 v215), ∀ a x, ((![v215] : Fin 1 → IVec S16 32) a x).toNat < S38912.size a := fun v215 k1_hw253 => k1_hw253
def k1_off256 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v216 : Index := Scalar.indexCast arg9
  let c464 : Index := 464#32
  ![v216.toNat, 464]

def k1_chk254 (v217 : IVec S16 32) : Prop :=
  (∀ a x, ((![v217] : Fin 1 → IVec S16 32) a x).toNat < S38912.size a)
theorem k1_idx254_inb : ∀ (v217 : IVec S16 32) (k1_hw254 : k1_chk254 v217), ∀ a x, ((![v217] : Fin 1 → IVec S16 32) a x).toNat < S38912.size a := fun v217 k1_hw254 => k1_hw254
def k1_off257 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v218 : Index := Scalar.indexCast arg9
  let c480 : Index := 480#32
  ![v218.toNat, 480]

def k1_chk255 (v219 : IVec S16 32) : Prop :=
  (∀ a x, ((![v219] : Fin 1 → IVec S16 32) a x).toNat < S38912.size a)
theorem k1_idx255_inb : ∀ (v219 : IVec S16 32) (k1_hw255 : k1_chk255 v219), ∀ a x, ((![v219] : Fin 1 → IVec S16 32) a x).toNat < S38912.size a := fun v219 k1_hw255 => k1_hw255
def k1_off258 (k1_t9 : Fin k1_t9_loop.trips) : Fin 2 → Nat :=
  let c0_i32_82 : BitVec 32 := 0#32
  let c1_i32_84 : BitVec 32 := 1#32
  let arg9 : BitVec 32 := Scf.iv c0_i32_82 c1_i32_84 k1_t9
  let v220 : Index := Scalar.indexCast arg9
  let c496 : Index := 496#32
  ![v220.toNat, 496]

def k1_chk256 (v221 : IVec S16 32) : Prop :=
  (∀ a x, ((![v221] : Fin 1 → IVec S16 32) a x).toNat < S38912.size a)
theorem k1_idx256_inb : ∀ (v221 : IVec S16 32) (k1_hw256 : k1_chk256 v221), ∀ a x, ((![v221] : Fin 1 → IVec S16 32) a x).toNat < S38912.size a := fun v221 k1_hw256 => k1_hw256
@[reducible] def k1_t10_loop : Scf.Loop 32 :=
  let c0_i32_92 : BitVec 32 := 0#32
  let c64_i32_93 : BitVec 32 := 64#32
  let v79 : BitVec 32 := Scalar.addi c0_i32_92 c64_i32_93
  let c1_i32_94 : BitVec 32 := 1#32
  ⟨c0_i32_92, v79, c1_i32_94⟩
def k1_off259 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v158 : Index := Scalar.indexCast arg9
  let c0 : Index := 0#32
  ![v158.toNat, 0]

def k1_chk257 (v159 : IVec S16 32) : Prop :=
  (∀ a x, ((![v159] : Fin 1 → IVec S16 32) a x).toNat < S38912.size a)
theorem k1_idx257_inb : ∀ (v159 : IVec S16 32) (k1_hw257 : k1_chk257 v159), ∀ a x, ((![v159] : Fin 1 → IVec S16 32) a x).toNat < S38912.size a := fun v159 k1_hw257 => k1_hw257
def k1_off260 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v160 : Index := Scalar.indexCast arg9
  let c16 : Index := 16#32
  ![v160.toNat, 16]

def k1_chk258 (v161 : IVec S16 32) : Prop :=
  (∀ a x, ((![v161] : Fin 1 → IVec S16 32) a x).toNat < S38912.size a)
theorem k1_idx258_inb : ∀ (v161 : IVec S16 32) (k1_hw258 : k1_chk258 v161), ∀ a x, ((![v161] : Fin 1 → IVec S16 32) a x).toNat < S38912.size a := fun v161 k1_hw258 => k1_hw258
def k1_off261 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v162 : Index := Scalar.indexCast arg9
  let c32 : Index := 32#32
  ![v162.toNat, 32]

def k1_chk259 (v163 : IVec S16 32) : Prop :=
  (∀ a x, ((![v163] : Fin 1 → IVec S16 32) a x).toNat < S38912.size a)
theorem k1_idx259_inb : ∀ (v163 : IVec S16 32) (k1_hw259 : k1_chk259 v163), ∀ a x, ((![v163] : Fin 1 → IVec S16 32) a x).toNat < S38912.size a := fun v163 k1_hw259 => k1_hw259
def k1_off262 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v164 : Index := Scalar.indexCast arg9
  let c48 : Index := 48#32
  ![v164.toNat, 48]

def k1_chk260 (v165 : IVec S16 32) : Prop :=
  (∀ a x, ((![v165] : Fin 1 → IVec S16 32) a x).toNat < S38912.size a)
theorem k1_idx260_inb : ∀ (v165 : IVec S16 32) (k1_hw260 : k1_chk260 v165), ∀ a x, ((![v165] : Fin 1 → IVec S16 32) a x).toNat < S38912.size a := fun v165 k1_hw260 => k1_hw260
def k1_off263 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v166 : Index := Scalar.indexCast arg9
  let c64 : Index := 64#32
  ![v166.toNat, 64]

def k1_chk261 (v167 : IVec S16 32) : Prop :=
  (∀ a x, ((![v167] : Fin 1 → IVec S16 32) a x).toNat < S38912.size a)
theorem k1_idx261_inb : ∀ (v167 : IVec S16 32) (k1_hw261 : k1_chk261 v167), ∀ a x, ((![v167] : Fin 1 → IVec S16 32) a x).toNat < S38912.size a := fun v167 k1_hw261 => k1_hw261
def k1_off264 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v168 : Index := Scalar.indexCast arg9
  let c80 : Index := 80#32
  ![v168.toNat, 80]

def k1_chk262 (v169 : IVec S16 32) : Prop :=
  (∀ a x, ((![v169] : Fin 1 → IVec S16 32) a x).toNat < S38912.size a)
theorem k1_idx262_inb : ∀ (v169 : IVec S16 32) (k1_hw262 : k1_chk262 v169), ∀ a x, ((![v169] : Fin 1 → IVec S16 32) a x).toNat < S38912.size a := fun v169 k1_hw262 => k1_hw262
def k1_off265 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v170 : Index := Scalar.indexCast arg9
  let c96 : Index := 96#32
  ![v170.toNat, 96]

def k1_chk263 (v171 : IVec S16 32) : Prop :=
  (∀ a x, ((![v171] : Fin 1 → IVec S16 32) a x).toNat < S38912.size a)
theorem k1_idx263_inb : ∀ (v171 : IVec S16 32) (k1_hw263 : k1_chk263 v171), ∀ a x, ((![v171] : Fin 1 → IVec S16 32) a x).toNat < S38912.size a := fun v171 k1_hw263 => k1_hw263
def k1_off266 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v172 : Index := Scalar.indexCast arg9
  let c112 : Index := 112#32
  ![v172.toNat, 112]

def k1_chk264 (v173 : IVec S16 32) : Prop :=
  (∀ a x, ((![v173] : Fin 1 → IVec S16 32) a x).toNat < S38912.size a)
theorem k1_idx264_inb : ∀ (v173 : IVec S16 32) (k1_hw264 : k1_chk264 v173), ∀ a x, ((![v173] : Fin 1 → IVec S16 32) a x).toNat < S38912.size a := fun v173 k1_hw264 => k1_hw264
def k1_off267 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v174 : Index := Scalar.indexCast arg9
  let c128 : Index := 128#32
  ![v174.toNat, 128]

def k1_chk265 (v175 : IVec S16 32) : Prop :=
  (∀ a x, ((![v175] : Fin 1 → IVec S16 32) a x).toNat < S38912.size a)
theorem k1_idx265_inb : ∀ (v175 : IVec S16 32) (k1_hw265 : k1_chk265 v175), ∀ a x, ((![v175] : Fin 1 → IVec S16 32) a x).toNat < S38912.size a := fun v175 k1_hw265 => k1_hw265
def k1_off268 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v176 : Index := Scalar.indexCast arg9
  let c144 : Index := 144#32
  ![v176.toNat, 144]

def k1_chk266 (v177 : IVec S16 32) : Prop :=
  (∀ a x, ((![v177] : Fin 1 → IVec S16 32) a x).toNat < S38912.size a)
theorem k1_idx266_inb : ∀ (v177 : IVec S16 32) (k1_hw266 : k1_chk266 v177), ∀ a x, ((![v177] : Fin 1 → IVec S16 32) a x).toNat < S38912.size a := fun v177 k1_hw266 => k1_hw266
def k1_off269 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v178 : Index := Scalar.indexCast arg9
  let c160 : Index := 160#32
  ![v178.toNat, 160]

def k1_chk267 (v179 : IVec S16 32) : Prop :=
  (∀ a x, ((![v179] : Fin 1 → IVec S16 32) a x).toNat < S38912.size a)
theorem k1_idx267_inb : ∀ (v179 : IVec S16 32) (k1_hw267 : k1_chk267 v179), ∀ a x, ((![v179] : Fin 1 → IVec S16 32) a x).toNat < S38912.size a := fun v179 k1_hw267 => k1_hw267
def k1_off270 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v180 : Index := Scalar.indexCast arg9
  let c176 : Index := 176#32
  ![v180.toNat, 176]

def k1_chk268 (v181 : IVec S16 32) : Prop :=
  (∀ a x, ((![v181] : Fin 1 → IVec S16 32) a x).toNat < S38912.size a)
theorem k1_idx268_inb : ∀ (v181 : IVec S16 32) (k1_hw268 : k1_chk268 v181), ∀ a x, ((![v181] : Fin 1 → IVec S16 32) a x).toNat < S38912.size a := fun v181 k1_hw268 => k1_hw268
def k1_off271 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v182 : Index := Scalar.indexCast arg9
  let c192 : Index := 192#32
  ![v182.toNat, 192]

def k1_chk269 (v183 : IVec S16 32) : Prop :=
  (∀ a x, ((![v183] : Fin 1 → IVec S16 32) a x).toNat < S38912.size a)
theorem k1_idx269_inb : ∀ (v183 : IVec S16 32) (k1_hw269 : k1_chk269 v183), ∀ a x, ((![v183] : Fin 1 → IVec S16 32) a x).toNat < S38912.size a := fun v183 k1_hw269 => k1_hw269
def k1_off272 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v184 : Index := Scalar.indexCast arg9
  let c208 : Index := 208#32
  ![v184.toNat, 208]

def k1_chk270 (v185 : IVec S16 32) : Prop :=
  (∀ a x, ((![v185] : Fin 1 → IVec S16 32) a x).toNat < S38912.size a)
theorem k1_idx270_inb : ∀ (v185 : IVec S16 32) (k1_hw270 : k1_chk270 v185), ∀ a x, ((![v185] : Fin 1 → IVec S16 32) a x).toNat < S38912.size a := fun v185 k1_hw270 => k1_hw270
def k1_off273 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v186 : Index := Scalar.indexCast arg9
  let c224 : Index := 224#32
  ![v186.toNat, 224]

def k1_chk271 (v187 : IVec S16 32) : Prop :=
  (∀ a x, ((![v187] : Fin 1 → IVec S16 32) a x).toNat < S38912.size a)
theorem k1_idx271_inb : ∀ (v187 : IVec S16 32) (k1_hw271 : k1_chk271 v187), ∀ a x, ((![v187] : Fin 1 → IVec S16 32) a x).toNat < S38912.size a := fun v187 k1_hw271 => k1_hw271
def k1_off274 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v188 : Index := Scalar.indexCast arg9
  let c240 : Index := 240#32
  ![v188.toNat, 240]

def k1_chk272 (v189 : IVec S16 32) : Prop :=
  (∀ a x, ((![v189] : Fin 1 → IVec S16 32) a x).toNat < S38912.size a)
theorem k1_idx272_inb : ∀ (v189 : IVec S16 32) (k1_hw272 : k1_chk272 v189), ∀ a x, ((![v189] : Fin 1 → IVec S16 32) a x).toNat < S38912.size a := fun v189 k1_hw272 => k1_hw272
def k1_off275 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v190 : Index := Scalar.indexCast arg9
  let c256 : Index := 256#32
  ![v190.toNat, 256]

def k1_chk273 (v191 : IVec S16 32) : Prop :=
  (∀ a x, ((![v191] : Fin 1 → IVec S16 32) a x).toNat < S38912.size a)
theorem k1_idx273_inb : ∀ (v191 : IVec S16 32) (k1_hw273 : k1_chk273 v191), ∀ a x, ((![v191] : Fin 1 → IVec S16 32) a x).toNat < S38912.size a := fun v191 k1_hw273 => k1_hw273
def k1_off276 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v192 : Index := Scalar.indexCast arg9
  let c272 : Index := 272#32
  ![v192.toNat, 272]

def k1_chk274 (v193 : IVec S16 32) : Prop :=
  (∀ a x, ((![v193] : Fin 1 → IVec S16 32) a x).toNat < S38912.size a)
theorem k1_idx274_inb : ∀ (v193 : IVec S16 32) (k1_hw274 : k1_chk274 v193), ∀ a x, ((![v193] : Fin 1 → IVec S16 32) a x).toNat < S38912.size a := fun v193 k1_hw274 => k1_hw274
def k1_off277 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v194 : Index := Scalar.indexCast arg9
  let c288 : Index := 288#32
  ![v194.toNat, 288]

def k1_chk275 (v195 : IVec S16 32) : Prop :=
  (∀ a x, ((![v195] : Fin 1 → IVec S16 32) a x).toNat < S38912.size a)
theorem k1_idx275_inb : ∀ (v195 : IVec S16 32) (k1_hw275 : k1_chk275 v195), ∀ a x, ((![v195] : Fin 1 → IVec S16 32) a x).toNat < S38912.size a := fun v195 k1_hw275 => k1_hw275
def k1_off278 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v196 : Index := Scalar.indexCast arg9
  let c304 : Index := 304#32
  ![v196.toNat, 304]

def k1_chk276 (v197 : IVec S16 32) : Prop :=
  (∀ a x, ((![v197] : Fin 1 → IVec S16 32) a x).toNat < S38912.size a)
theorem k1_idx276_inb : ∀ (v197 : IVec S16 32) (k1_hw276 : k1_chk276 v197), ∀ a x, ((![v197] : Fin 1 → IVec S16 32) a x).toNat < S38912.size a := fun v197 k1_hw276 => k1_hw276
def k1_off279 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v198 : Index := Scalar.indexCast arg9
  let c320 : Index := 320#32
  ![v198.toNat, 320]

def k1_chk277 (v199 : IVec S16 32) : Prop :=
  (∀ a x, ((![v199] : Fin 1 → IVec S16 32) a x).toNat < S38912.size a)
theorem k1_idx277_inb : ∀ (v199 : IVec S16 32) (k1_hw277 : k1_chk277 v199), ∀ a x, ((![v199] : Fin 1 → IVec S16 32) a x).toNat < S38912.size a := fun v199 k1_hw277 => k1_hw277
def k1_off280 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v200 : Index := Scalar.indexCast arg9
  let c336 : Index := 336#32
  ![v200.toNat, 336]

def k1_chk278 (v201 : IVec S16 32) : Prop :=
  (∀ a x, ((![v201] : Fin 1 → IVec S16 32) a x).toNat < S38912.size a)
theorem k1_idx278_inb : ∀ (v201 : IVec S16 32) (k1_hw278 : k1_chk278 v201), ∀ a x, ((![v201] : Fin 1 → IVec S16 32) a x).toNat < S38912.size a := fun v201 k1_hw278 => k1_hw278
def k1_off281 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v202 : Index := Scalar.indexCast arg9
  let c352 : Index := 352#32
  ![v202.toNat, 352]

def k1_chk279 (v203 : IVec S16 32) : Prop :=
  (∀ a x, ((![v203] : Fin 1 → IVec S16 32) a x).toNat < S38912.size a)
theorem k1_idx279_inb : ∀ (v203 : IVec S16 32) (k1_hw279 : k1_chk279 v203), ∀ a x, ((![v203] : Fin 1 → IVec S16 32) a x).toNat < S38912.size a := fun v203 k1_hw279 => k1_hw279
def k1_off282 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v204 : Index := Scalar.indexCast arg9
  let c368 : Index := 368#32
  ![v204.toNat, 368]

def k1_chk280 (v205 : IVec S16 32) : Prop :=
  (∀ a x, ((![v205] : Fin 1 → IVec S16 32) a x).toNat < S38912.size a)
theorem k1_idx280_inb : ∀ (v205 : IVec S16 32) (k1_hw280 : k1_chk280 v205), ∀ a x, ((![v205] : Fin 1 → IVec S16 32) a x).toNat < S38912.size a := fun v205 k1_hw280 => k1_hw280
def k1_off283 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v206 : Index := Scalar.indexCast arg9
  let c384 : Index := 384#32
  ![v206.toNat, 384]

def k1_chk281 (v207 : IVec S16 32) : Prop :=
  (∀ a x, ((![v207] : Fin 1 → IVec S16 32) a x).toNat < S38912.size a)
theorem k1_idx281_inb : ∀ (v207 : IVec S16 32) (k1_hw281 : k1_chk281 v207), ∀ a x, ((![v207] : Fin 1 → IVec S16 32) a x).toNat < S38912.size a := fun v207 k1_hw281 => k1_hw281
def k1_off284 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v208 : Index := Scalar.indexCast arg9
  let c400 : Index := 400#32
  ![v208.toNat, 400]

def k1_chk282 (v209 : IVec S16 32) : Prop :=
  (∀ a x, ((![v209] : Fin 1 → IVec S16 32) a x).toNat < S38912.size a)
theorem k1_idx282_inb : ∀ (v209 : IVec S16 32) (k1_hw282 : k1_chk282 v209), ∀ a x, ((![v209] : Fin 1 → IVec S16 32) a x).toNat < S38912.size a := fun v209 k1_hw282 => k1_hw282
def k1_off285 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v210 : Index := Scalar.indexCast arg9
  let c416 : Index := 416#32
  ![v210.toNat, 416]

def k1_chk283 (v211 : IVec S16 32) : Prop :=
  (∀ a x, ((![v211] : Fin 1 → IVec S16 32) a x).toNat < S38912.size a)
theorem k1_idx283_inb : ∀ (v211 : IVec S16 32) (k1_hw283 : k1_chk283 v211), ∀ a x, ((![v211] : Fin 1 → IVec S16 32) a x).toNat < S38912.size a := fun v211 k1_hw283 => k1_hw283
def k1_off286 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v212 : Index := Scalar.indexCast arg9
  let c432 : Index := 432#32
  ![v212.toNat, 432]

def k1_chk284 (v213 : IVec S16 32) : Prop :=
  (∀ a x, ((![v213] : Fin 1 → IVec S16 32) a x).toNat < S38912.size a)
theorem k1_idx284_inb : ∀ (v213 : IVec S16 32) (k1_hw284 : k1_chk284 v213), ∀ a x, ((![v213] : Fin 1 → IVec S16 32) a x).toNat < S38912.size a := fun v213 k1_hw284 => k1_hw284
def k1_off287 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v214 : Index := Scalar.indexCast arg9
  let c448 : Index := 448#32
  ![v214.toNat, 448]

def k1_chk285 (v215 : IVec S16 32) : Prop :=
  (∀ a x, ((![v215] : Fin 1 → IVec S16 32) a x).toNat < S38912.size a)
theorem k1_idx285_inb : ∀ (v215 : IVec S16 32) (k1_hw285 : k1_chk285 v215), ∀ a x, ((![v215] : Fin 1 → IVec S16 32) a x).toNat < S38912.size a := fun v215 k1_hw285 => k1_hw285
def k1_off288 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v216 : Index := Scalar.indexCast arg9
  let c464 : Index := 464#32
  ![v216.toNat, 464]

def k1_chk286 (v217 : IVec S16 32) : Prop :=
  (∀ a x, ((![v217] : Fin 1 → IVec S16 32) a x).toNat < S38912.size a)
theorem k1_idx286_inb : ∀ (v217 : IVec S16 32) (k1_hw286 : k1_chk286 v217), ∀ a x, ((![v217] : Fin 1 → IVec S16 32) a x).toNat < S38912.size a := fun v217 k1_hw286 => k1_hw286
def k1_off289 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v218 : Index := Scalar.indexCast arg9
  let c480 : Index := 480#32
  ![v218.toNat, 480]

def k1_chk287 (v219 : IVec S16 32) : Prop :=
  (∀ a x, ((![v219] : Fin 1 → IVec S16 32) a x).toNat < S38912.size a)
theorem k1_idx287_inb : ∀ (v219 : IVec S16 32) (k1_hw287 : k1_chk287 v219), ∀ a x, ((![v219] : Fin 1 → IVec S16 32) a x).toNat < S38912.size a := fun v219 k1_hw287 => k1_hw287
def k1_off290 (k1_t10 : Fin k1_t10_loop.trips) : Fin 2 → Nat :=
  let c0_i32_92 : BitVec 32 := 0#32
  let c1_i32_94 : BitVec 32 := 1#32
  let arg9 : BitVec 32 := Scf.iv c0_i32_92 c1_i32_94 k1_t10
  let v220 : Index := Scalar.indexCast arg9
  let c496 : Index := 496#32
  ![v220.toNat, 496]

def k1_chk288 (v221 : IVec S16 32) : Prop :=
  (∀ a x, ((![v221] : Fin 1 → IVec S16 32) a x).toNat < S38912.size a)
theorem k1_idx288_inb : ∀ (v221 : IVec S16 32) (k1_hw288 : k1_chk288 v221), ∀ a x, ((![v221] : Fin 1 → IVec S16 32) a x).toNat < S38912.size a := fun v221 k1_hw288 => k1_hw288
@[reducible] def k1_t11_loop : Scf.Loop 32 :=
  let c0_i32_102 : BitVec 32 := 0#32
  let c64_i32_103 : BitVec 32 := 64#32
  let v87 : BitVec 32 := Scalar.addi c0_i32_102 c64_i32_103
  let c1_i32_104 : BitVec 32 := 1#32
  ⟨c0_i32_102, v87, c1_i32_104⟩
def k1_off291 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v158 : Index := Scalar.indexCast arg9
  let c0 : Index := 0#32
  ![v158.toNat, 0]

def k1_chk289 (v159 : IVec S16 32) : Prop :=
  (∀ a x, ((![v159] : Fin 1 → IVec S16 32) a x).toNat < S38912.size a)
theorem k1_idx289_inb : ∀ (v159 : IVec S16 32) (k1_hw289 : k1_chk289 v159), ∀ a x, ((![v159] : Fin 1 → IVec S16 32) a x).toNat < S38912.size a := fun v159 k1_hw289 => k1_hw289
def k1_off292 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v160 : Index := Scalar.indexCast arg9
  let c16 : Index := 16#32
  ![v160.toNat, 16]

def k1_chk290 (v161 : IVec S16 32) : Prop :=
  (∀ a x, ((![v161] : Fin 1 → IVec S16 32) a x).toNat < S38912.size a)
theorem k1_idx290_inb : ∀ (v161 : IVec S16 32) (k1_hw290 : k1_chk290 v161), ∀ a x, ((![v161] : Fin 1 → IVec S16 32) a x).toNat < S38912.size a := fun v161 k1_hw290 => k1_hw290
def k1_off293 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v162 : Index := Scalar.indexCast arg9
  let c32 : Index := 32#32
  ![v162.toNat, 32]

def k1_chk291 (v163 : IVec S16 32) : Prop :=
  (∀ a x, ((![v163] : Fin 1 → IVec S16 32) a x).toNat < S38912.size a)
theorem k1_idx291_inb : ∀ (v163 : IVec S16 32) (k1_hw291 : k1_chk291 v163), ∀ a x, ((![v163] : Fin 1 → IVec S16 32) a x).toNat < S38912.size a := fun v163 k1_hw291 => k1_hw291
def k1_off294 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v164 : Index := Scalar.indexCast arg9
  let c48 : Index := 48#32
  ![v164.toNat, 48]

def k1_chk292 (v165 : IVec S16 32) : Prop :=
  (∀ a x, ((![v165] : Fin 1 → IVec S16 32) a x).toNat < S38912.size a)
theorem k1_idx292_inb : ∀ (v165 : IVec S16 32) (k1_hw292 : k1_chk292 v165), ∀ a x, ((![v165] : Fin 1 → IVec S16 32) a x).toNat < S38912.size a := fun v165 k1_hw292 => k1_hw292
def k1_off295 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v166 : Index := Scalar.indexCast arg9
  let c64 : Index := 64#32
  ![v166.toNat, 64]

def k1_chk293 (v167 : IVec S16 32) : Prop :=
  (∀ a x, ((![v167] : Fin 1 → IVec S16 32) a x).toNat < S38912.size a)
theorem k1_idx293_inb : ∀ (v167 : IVec S16 32) (k1_hw293 : k1_chk293 v167), ∀ a x, ((![v167] : Fin 1 → IVec S16 32) a x).toNat < S38912.size a := fun v167 k1_hw293 => k1_hw293
def k1_off296 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v168 : Index := Scalar.indexCast arg9
  let c80 : Index := 80#32
  ![v168.toNat, 80]

def k1_chk294 (v169 : IVec S16 32) : Prop :=
  (∀ a x, ((![v169] : Fin 1 → IVec S16 32) a x).toNat < S38912.size a)
theorem k1_idx294_inb : ∀ (v169 : IVec S16 32) (k1_hw294 : k1_chk294 v169), ∀ a x, ((![v169] : Fin 1 → IVec S16 32) a x).toNat < S38912.size a := fun v169 k1_hw294 => k1_hw294
def k1_off297 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v170 : Index := Scalar.indexCast arg9
  let c96 : Index := 96#32
  ![v170.toNat, 96]

def k1_chk295 (v171 : IVec S16 32) : Prop :=
  (∀ a x, ((![v171] : Fin 1 → IVec S16 32) a x).toNat < S38912.size a)
theorem k1_idx295_inb : ∀ (v171 : IVec S16 32) (k1_hw295 : k1_chk295 v171), ∀ a x, ((![v171] : Fin 1 → IVec S16 32) a x).toNat < S38912.size a := fun v171 k1_hw295 => k1_hw295
def k1_off298 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v172 : Index := Scalar.indexCast arg9
  let c112 : Index := 112#32
  ![v172.toNat, 112]

def k1_chk296 (v173 : IVec S16 32) : Prop :=
  (∀ a x, ((![v173] : Fin 1 → IVec S16 32) a x).toNat < S38912.size a)
theorem k1_idx296_inb : ∀ (v173 : IVec S16 32) (k1_hw296 : k1_chk296 v173), ∀ a x, ((![v173] : Fin 1 → IVec S16 32) a x).toNat < S38912.size a := fun v173 k1_hw296 => k1_hw296
def k1_off299 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v174 : Index := Scalar.indexCast arg9
  let c128 : Index := 128#32
  ![v174.toNat, 128]

def k1_chk297 (v175 : IVec S16 32) : Prop :=
  (∀ a x, ((![v175] : Fin 1 → IVec S16 32) a x).toNat < S38912.size a)
theorem k1_idx297_inb : ∀ (v175 : IVec S16 32) (k1_hw297 : k1_chk297 v175), ∀ a x, ((![v175] : Fin 1 → IVec S16 32) a x).toNat < S38912.size a := fun v175 k1_hw297 => k1_hw297
def k1_off300 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v176 : Index := Scalar.indexCast arg9
  let c144 : Index := 144#32
  ![v176.toNat, 144]

def k1_chk298 (v177 : IVec S16 32) : Prop :=
  (∀ a x, ((![v177] : Fin 1 → IVec S16 32) a x).toNat < S38912.size a)
theorem k1_idx298_inb : ∀ (v177 : IVec S16 32) (k1_hw298 : k1_chk298 v177), ∀ a x, ((![v177] : Fin 1 → IVec S16 32) a x).toNat < S38912.size a := fun v177 k1_hw298 => k1_hw298
def k1_off301 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v178 : Index := Scalar.indexCast arg9
  let c160 : Index := 160#32
  ![v178.toNat, 160]

def k1_chk299 (v179 : IVec S16 32) : Prop :=
  (∀ a x, ((![v179] : Fin 1 → IVec S16 32) a x).toNat < S38912.size a)
theorem k1_idx299_inb : ∀ (v179 : IVec S16 32) (k1_hw299 : k1_chk299 v179), ∀ a x, ((![v179] : Fin 1 → IVec S16 32) a x).toNat < S38912.size a := fun v179 k1_hw299 => k1_hw299
def k1_off302 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v180 : Index := Scalar.indexCast arg9
  let c176 : Index := 176#32
  ![v180.toNat, 176]

def k1_chk300 (v181 : IVec S16 32) : Prop :=
  (∀ a x, ((![v181] : Fin 1 → IVec S16 32) a x).toNat < S38912.size a)
theorem k1_idx300_inb : ∀ (v181 : IVec S16 32) (k1_hw300 : k1_chk300 v181), ∀ a x, ((![v181] : Fin 1 → IVec S16 32) a x).toNat < S38912.size a := fun v181 k1_hw300 => k1_hw300
def k1_off303 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v182 : Index := Scalar.indexCast arg9
  let c192 : Index := 192#32
  ![v182.toNat, 192]

def k1_chk301 (v183 : IVec S16 32) : Prop :=
  (∀ a x, ((![v183] : Fin 1 → IVec S16 32) a x).toNat < S38912.size a)
theorem k1_idx301_inb : ∀ (v183 : IVec S16 32) (k1_hw301 : k1_chk301 v183), ∀ a x, ((![v183] : Fin 1 → IVec S16 32) a x).toNat < S38912.size a := fun v183 k1_hw301 => k1_hw301
def k1_off304 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v184 : Index := Scalar.indexCast arg9
  let c208 : Index := 208#32
  ![v184.toNat, 208]

def k1_chk302 (v185 : IVec S16 32) : Prop :=
  (∀ a x, ((![v185] : Fin 1 → IVec S16 32) a x).toNat < S38912.size a)
theorem k1_idx302_inb : ∀ (v185 : IVec S16 32) (k1_hw302 : k1_chk302 v185), ∀ a x, ((![v185] : Fin 1 → IVec S16 32) a x).toNat < S38912.size a := fun v185 k1_hw302 => k1_hw302
def k1_off305 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v186 : Index := Scalar.indexCast arg9
  let c224 : Index := 224#32
  ![v186.toNat, 224]

def k1_chk303 (v187 : IVec S16 32) : Prop :=
  (∀ a x, ((![v187] : Fin 1 → IVec S16 32) a x).toNat < S38912.size a)
theorem k1_idx303_inb : ∀ (v187 : IVec S16 32) (k1_hw303 : k1_chk303 v187), ∀ a x, ((![v187] : Fin 1 → IVec S16 32) a x).toNat < S38912.size a := fun v187 k1_hw303 => k1_hw303
def k1_off306 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v188 : Index := Scalar.indexCast arg9
  let c240 : Index := 240#32
  ![v188.toNat, 240]

def k1_chk304 (v189 : IVec S16 32) : Prop :=
  (∀ a x, ((![v189] : Fin 1 → IVec S16 32) a x).toNat < S38912.size a)
theorem k1_idx304_inb : ∀ (v189 : IVec S16 32) (k1_hw304 : k1_chk304 v189), ∀ a x, ((![v189] : Fin 1 → IVec S16 32) a x).toNat < S38912.size a := fun v189 k1_hw304 => k1_hw304
def k1_off307 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v190 : Index := Scalar.indexCast arg9
  let c256 : Index := 256#32
  ![v190.toNat, 256]

def k1_chk305 (v191 : IVec S16 32) : Prop :=
  (∀ a x, ((![v191] : Fin 1 → IVec S16 32) a x).toNat < S38912.size a)
theorem k1_idx305_inb : ∀ (v191 : IVec S16 32) (k1_hw305 : k1_chk305 v191), ∀ a x, ((![v191] : Fin 1 → IVec S16 32) a x).toNat < S38912.size a := fun v191 k1_hw305 => k1_hw305
def k1_off308 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v192 : Index := Scalar.indexCast arg9
  let c272 : Index := 272#32
  ![v192.toNat, 272]

def k1_chk306 (v193 : IVec S16 32) : Prop :=
  (∀ a x, ((![v193] : Fin 1 → IVec S16 32) a x).toNat < S38912.size a)
theorem k1_idx306_inb : ∀ (v193 : IVec S16 32) (k1_hw306 : k1_chk306 v193), ∀ a x, ((![v193] : Fin 1 → IVec S16 32) a x).toNat < S38912.size a := fun v193 k1_hw306 => k1_hw306
def k1_off309 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v194 : Index := Scalar.indexCast arg9
  let c288 : Index := 288#32
  ![v194.toNat, 288]

def k1_chk307 (v195 : IVec S16 32) : Prop :=
  (∀ a x, ((![v195] : Fin 1 → IVec S16 32) a x).toNat < S38912.size a)
theorem k1_idx307_inb : ∀ (v195 : IVec S16 32) (k1_hw307 : k1_chk307 v195), ∀ a x, ((![v195] : Fin 1 → IVec S16 32) a x).toNat < S38912.size a := fun v195 k1_hw307 => k1_hw307
def k1_off310 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v196 : Index := Scalar.indexCast arg9
  let c304 : Index := 304#32
  ![v196.toNat, 304]

def k1_chk308 (v197 : IVec S16 32) : Prop :=
  (∀ a x, ((![v197] : Fin 1 → IVec S16 32) a x).toNat < S38912.size a)
theorem k1_idx308_inb : ∀ (v197 : IVec S16 32) (k1_hw308 : k1_chk308 v197), ∀ a x, ((![v197] : Fin 1 → IVec S16 32) a x).toNat < S38912.size a := fun v197 k1_hw308 => k1_hw308
def k1_off311 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v198 : Index := Scalar.indexCast arg9
  let c320 : Index := 320#32
  ![v198.toNat, 320]

def k1_chk309 (v199 : IVec S16 32) : Prop :=
  (∀ a x, ((![v199] : Fin 1 → IVec S16 32) a x).toNat < S38912.size a)
theorem k1_idx309_inb : ∀ (v199 : IVec S16 32) (k1_hw309 : k1_chk309 v199), ∀ a x, ((![v199] : Fin 1 → IVec S16 32) a x).toNat < S38912.size a := fun v199 k1_hw309 => k1_hw309
def k1_off312 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v200 : Index := Scalar.indexCast arg9
  let c336 : Index := 336#32
  ![v200.toNat, 336]

def k1_chk310 (v201 : IVec S16 32) : Prop :=
  (∀ a x, ((![v201] : Fin 1 → IVec S16 32) a x).toNat < S38912.size a)
theorem k1_idx310_inb : ∀ (v201 : IVec S16 32) (k1_hw310 : k1_chk310 v201), ∀ a x, ((![v201] : Fin 1 → IVec S16 32) a x).toNat < S38912.size a := fun v201 k1_hw310 => k1_hw310
def k1_off313 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v202 : Index := Scalar.indexCast arg9
  let c352 : Index := 352#32
  ![v202.toNat, 352]

def k1_chk311 (v203 : IVec S16 32) : Prop :=
  (∀ a x, ((![v203] : Fin 1 → IVec S16 32) a x).toNat < S38912.size a)
theorem k1_idx311_inb : ∀ (v203 : IVec S16 32) (k1_hw311 : k1_chk311 v203), ∀ a x, ((![v203] : Fin 1 → IVec S16 32) a x).toNat < S38912.size a := fun v203 k1_hw311 => k1_hw311
def k1_off314 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v204 : Index := Scalar.indexCast arg9
  let c368 : Index := 368#32
  ![v204.toNat, 368]

def k1_chk312 (v205 : IVec S16 32) : Prop :=
  (∀ a x, ((![v205] : Fin 1 → IVec S16 32) a x).toNat < S38912.size a)
theorem k1_idx312_inb : ∀ (v205 : IVec S16 32) (k1_hw312 : k1_chk312 v205), ∀ a x, ((![v205] : Fin 1 → IVec S16 32) a x).toNat < S38912.size a := fun v205 k1_hw312 => k1_hw312
def k1_off315 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v206 : Index := Scalar.indexCast arg9
  let c384 : Index := 384#32
  ![v206.toNat, 384]

def k1_chk313 (v207 : IVec S16 32) : Prop :=
  (∀ a x, ((![v207] : Fin 1 → IVec S16 32) a x).toNat < S38912.size a)
theorem k1_idx313_inb : ∀ (v207 : IVec S16 32) (k1_hw313 : k1_chk313 v207), ∀ a x, ((![v207] : Fin 1 → IVec S16 32) a x).toNat < S38912.size a := fun v207 k1_hw313 => k1_hw313
def k1_off316 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v208 : Index := Scalar.indexCast arg9
  let c400 : Index := 400#32
  ![v208.toNat, 400]

def k1_chk314 (v209 : IVec S16 32) : Prop :=
  (∀ a x, ((![v209] : Fin 1 → IVec S16 32) a x).toNat < S38912.size a)
theorem k1_idx314_inb : ∀ (v209 : IVec S16 32) (k1_hw314 : k1_chk314 v209), ∀ a x, ((![v209] : Fin 1 → IVec S16 32) a x).toNat < S38912.size a := fun v209 k1_hw314 => k1_hw314
def k1_off317 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v210 : Index := Scalar.indexCast arg9
  let c416 : Index := 416#32
  ![v210.toNat, 416]

def k1_chk315 (v211 : IVec S16 32) : Prop :=
  (∀ a x, ((![v211] : Fin 1 → IVec S16 32) a x).toNat < S38912.size a)
theorem k1_idx315_inb : ∀ (v211 : IVec S16 32) (k1_hw315 : k1_chk315 v211), ∀ a x, ((![v211] : Fin 1 → IVec S16 32) a x).toNat < S38912.size a := fun v211 k1_hw315 => k1_hw315
def k1_off318 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v212 : Index := Scalar.indexCast arg9
  let c432 : Index := 432#32
  ![v212.toNat, 432]

def k1_chk316 (v213 : IVec S16 32) : Prop :=
  (∀ a x, ((![v213] : Fin 1 → IVec S16 32) a x).toNat < S38912.size a)
theorem k1_idx316_inb : ∀ (v213 : IVec S16 32) (k1_hw316 : k1_chk316 v213), ∀ a x, ((![v213] : Fin 1 → IVec S16 32) a x).toNat < S38912.size a := fun v213 k1_hw316 => k1_hw316
def k1_off319 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v214 : Index := Scalar.indexCast arg9
  let c448 : Index := 448#32
  ![v214.toNat, 448]

def k1_chk317 (v215 : IVec S16 32) : Prop :=
  (∀ a x, ((![v215] : Fin 1 → IVec S16 32) a x).toNat < S38912.size a)
theorem k1_idx317_inb : ∀ (v215 : IVec S16 32) (k1_hw317 : k1_chk317 v215), ∀ a x, ((![v215] : Fin 1 → IVec S16 32) a x).toNat < S38912.size a := fun v215 k1_hw317 => k1_hw317
def k1_off320 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v216 : Index := Scalar.indexCast arg9
  let c464 : Index := 464#32
  ![v216.toNat, 464]

def k1_chk318 (v217 : IVec S16 32) : Prop :=
  (∀ a x, ((![v217] : Fin 1 → IVec S16 32) a x).toNat < S38912.size a)
theorem k1_idx318_inb : ∀ (v217 : IVec S16 32) (k1_hw318 : k1_chk318 v217), ∀ a x, ((![v217] : Fin 1 → IVec S16 32) a x).toNat < S38912.size a := fun v217 k1_hw318 => k1_hw318
def k1_off321 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v218 : Index := Scalar.indexCast arg9
  let c480 : Index := 480#32
  ![v218.toNat, 480]

def k1_chk319 (v219 : IVec S16 32) : Prop :=
  (∀ a x, ((![v219] : Fin 1 → IVec S16 32) a x).toNat < S38912.size a)
theorem k1_idx319_inb : ∀ (v219 : IVec S16 32) (k1_hw319 : k1_chk319 v219), ∀ a x, ((![v219] : Fin 1 → IVec S16 32) a x).toNat < S38912.size a := fun v219 k1_hw319 => k1_hw319
def k1_off322 (k1_t11 : Fin k1_t11_loop.trips) : Fin 2 → Nat :=
  let c0_i32_102 : BitVec 32 := 0#32
  let c1_i32_104 : BitVec 32 := 1#32
  let arg9 : BitVec 32 := Scf.iv c0_i32_102 c1_i32_104 k1_t11
  let v220 : Index := Scalar.indexCast arg9
  let c496 : Index := 496#32
  ![v220.toNat, 496]

def k1_chk320 (v221 : IVec S16 32) : Prop :=
  (∀ a x, ((![v221] : Fin 1 → IVec S16 32) a x).toNat < S38912.size a)
theorem k1_idx320_inb : ∀ (v221 : IVec S16 32) (k1_hw320 : k1_chk320 v221), ∀ a x, ((![v221] : Fin 1 → IVec S16 32) a x).toNat < S38912.size a := fun v221 k1_hw320 => k1_hw320
@[reducible] def k1_t12_loop : Scf.Loop 32 :=
  let c0_i32_112 : BitVec 32 := 0#32
  let c64_i32_113 : BitVec 32 := 64#32
  let v95 : BitVec 32 := Scalar.addi c0_i32_112 c64_i32_113
  let c1_i32_114 : BitVec 32 := 1#32
  ⟨c0_i32_112, v95, c1_i32_114⟩
def k1_off323 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v158 : Index := Scalar.indexCast arg9
  let c0 : Index := 0#32
  ![v158.toNat, 0]

def k1_chk321 (v159 : IVec S16 32) : Prop :=
  (∀ a x, ((![v159] : Fin 1 → IVec S16 32) a x).toNat < S38912.size a)
theorem k1_idx321_inb : ∀ (v159 : IVec S16 32) (k1_hw321 : k1_chk321 v159), ∀ a x, ((![v159] : Fin 1 → IVec S16 32) a x).toNat < S38912.size a := fun v159 k1_hw321 => k1_hw321
def k1_off324 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v160 : Index := Scalar.indexCast arg9
  let c16 : Index := 16#32
  ![v160.toNat, 16]

def k1_chk322 (v161 : IVec S16 32) : Prop :=
  (∀ a x, ((![v161] : Fin 1 → IVec S16 32) a x).toNat < S38912.size a)
theorem k1_idx322_inb : ∀ (v161 : IVec S16 32) (k1_hw322 : k1_chk322 v161), ∀ a x, ((![v161] : Fin 1 → IVec S16 32) a x).toNat < S38912.size a := fun v161 k1_hw322 => k1_hw322
def k1_off325 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v162 : Index := Scalar.indexCast arg9
  let c32 : Index := 32#32
  ![v162.toNat, 32]

def k1_chk323 (v163 : IVec S16 32) : Prop :=
  (∀ a x, ((![v163] : Fin 1 → IVec S16 32) a x).toNat < S38912.size a)
theorem k1_idx323_inb : ∀ (v163 : IVec S16 32) (k1_hw323 : k1_chk323 v163), ∀ a x, ((![v163] : Fin 1 → IVec S16 32) a x).toNat < S38912.size a := fun v163 k1_hw323 => k1_hw323
def k1_off326 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v164 : Index := Scalar.indexCast arg9
  let c48 : Index := 48#32
  ![v164.toNat, 48]

def k1_chk324 (v165 : IVec S16 32) : Prop :=
  (∀ a x, ((![v165] : Fin 1 → IVec S16 32) a x).toNat < S38912.size a)
theorem k1_idx324_inb : ∀ (v165 : IVec S16 32) (k1_hw324 : k1_chk324 v165), ∀ a x, ((![v165] : Fin 1 → IVec S16 32) a x).toNat < S38912.size a := fun v165 k1_hw324 => k1_hw324
def k1_off327 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v166 : Index := Scalar.indexCast arg9
  let c64 : Index := 64#32
  ![v166.toNat, 64]

def k1_chk325 (v167 : IVec S16 32) : Prop :=
  (∀ a x, ((![v167] : Fin 1 → IVec S16 32) a x).toNat < S38912.size a)
theorem k1_idx325_inb : ∀ (v167 : IVec S16 32) (k1_hw325 : k1_chk325 v167), ∀ a x, ((![v167] : Fin 1 → IVec S16 32) a x).toNat < S38912.size a := fun v167 k1_hw325 => k1_hw325
def k1_off328 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v168 : Index := Scalar.indexCast arg9
  let c80 : Index := 80#32
  ![v168.toNat, 80]

def k1_chk326 (v169 : IVec S16 32) : Prop :=
  (∀ a x, ((![v169] : Fin 1 → IVec S16 32) a x).toNat < S38912.size a)
theorem k1_idx326_inb : ∀ (v169 : IVec S16 32) (k1_hw326 : k1_chk326 v169), ∀ a x, ((![v169] : Fin 1 → IVec S16 32) a x).toNat < S38912.size a := fun v169 k1_hw326 => k1_hw326
def k1_off329 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v170 : Index := Scalar.indexCast arg9
  let c96 : Index := 96#32
  ![v170.toNat, 96]

def k1_chk327 (v171 : IVec S16 32) : Prop :=
  (∀ a x, ((![v171] : Fin 1 → IVec S16 32) a x).toNat < S38912.size a)
theorem k1_idx327_inb : ∀ (v171 : IVec S16 32) (k1_hw327 : k1_chk327 v171), ∀ a x, ((![v171] : Fin 1 → IVec S16 32) a x).toNat < S38912.size a := fun v171 k1_hw327 => k1_hw327
def k1_off330 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v172 : Index := Scalar.indexCast arg9
  let c112 : Index := 112#32
  ![v172.toNat, 112]

def k1_chk328 (v173 : IVec S16 32) : Prop :=
  (∀ a x, ((![v173] : Fin 1 → IVec S16 32) a x).toNat < S38912.size a)
theorem k1_idx328_inb : ∀ (v173 : IVec S16 32) (k1_hw328 : k1_chk328 v173), ∀ a x, ((![v173] : Fin 1 → IVec S16 32) a x).toNat < S38912.size a := fun v173 k1_hw328 => k1_hw328
def k1_off331 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v174 : Index := Scalar.indexCast arg9
  let c128 : Index := 128#32
  ![v174.toNat, 128]

def k1_chk329 (v175 : IVec S16 32) : Prop :=
  (∀ a x, ((![v175] : Fin 1 → IVec S16 32) a x).toNat < S38912.size a)
theorem k1_idx329_inb : ∀ (v175 : IVec S16 32) (k1_hw329 : k1_chk329 v175), ∀ a x, ((![v175] : Fin 1 → IVec S16 32) a x).toNat < S38912.size a := fun v175 k1_hw329 => k1_hw329
def k1_off332 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v176 : Index := Scalar.indexCast arg9
  let c144 : Index := 144#32
  ![v176.toNat, 144]

def k1_chk330 (v177 : IVec S16 32) : Prop :=
  (∀ a x, ((![v177] : Fin 1 → IVec S16 32) a x).toNat < S38912.size a)
theorem k1_idx330_inb : ∀ (v177 : IVec S16 32) (k1_hw330 : k1_chk330 v177), ∀ a x, ((![v177] : Fin 1 → IVec S16 32) a x).toNat < S38912.size a := fun v177 k1_hw330 => k1_hw330
def k1_off333 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v178 : Index := Scalar.indexCast arg9
  let c160 : Index := 160#32
  ![v178.toNat, 160]

def k1_chk331 (v179 : IVec S16 32) : Prop :=
  (∀ a x, ((![v179] : Fin 1 → IVec S16 32) a x).toNat < S38912.size a)
theorem k1_idx331_inb : ∀ (v179 : IVec S16 32) (k1_hw331 : k1_chk331 v179), ∀ a x, ((![v179] : Fin 1 → IVec S16 32) a x).toNat < S38912.size a := fun v179 k1_hw331 => k1_hw331
def k1_off334 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v180 : Index := Scalar.indexCast arg9
  let c176 : Index := 176#32
  ![v180.toNat, 176]

def k1_chk332 (v181 : IVec S16 32) : Prop :=
  (∀ a x, ((![v181] : Fin 1 → IVec S16 32) a x).toNat < S38912.size a)
theorem k1_idx332_inb : ∀ (v181 : IVec S16 32) (k1_hw332 : k1_chk332 v181), ∀ a x, ((![v181] : Fin 1 → IVec S16 32) a x).toNat < S38912.size a := fun v181 k1_hw332 => k1_hw332
def k1_off335 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v182 : Index := Scalar.indexCast arg9
  let c192 : Index := 192#32
  ![v182.toNat, 192]

def k1_chk333 (v183 : IVec S16 32) : Prop :=
  (∀ a x, ((![v183] : Fin 1 → IVec S16 32) a x).toNat < S38912.size a)
theorem k1_idx333_inb : ∀ (v183 : IVec S16 32) (k1_hw333 : k1_chk333 v183), ∀ a x, ((![v183] : Fin 1 → IVec S16 32) a x).toNat < S38912.size a := fun v183 k1_hw333 => k1_hw333
def k1_off336 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v184 : Index := Scalar.indexCast arg9
  let c208 : Index := 208#32
  ![v184.toNat, 208]

def k1_chk334 (v185 : IVec S16 32) : Prop :=
  (∀ a x, ((![v185] : Fin 1 → IVec S16 32) a x).toNat < S38912.size a)
theorem k1_idx334_inb : ∀ (v185 : IVec S16 32) (k1_hw334 : k1_chk334 v185), ∀ a x, ((![v185] : Fin 1 → IVec S16 32) a x).toNat < S38912.size a := fun v185 k1_hw334 => k1_hw334
def k1_off337 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v186 : Index := Scalar.indexCast arg9
  let c224 : Index := 224#32
  ![v186.toNat, 224]

def k1_chk335 (v187 : IVec S16 32) : Prop :=
  (∀ a x, ((![v187] : Fin 1 → IVec S16 32) a x).toNat < S38912.size a)
theorem k1_idx335_inb : ∀ (v187 : IVec S16 32) (k1_hw335 : k1_chk335 v187), ∀ a x, ((![v187] : Fin 1 → IVec S16 32) a x).toNat < S38912.size a := fun v187 k1_hw335 => k1_hw335
def k1_off338 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v188 : Index := Scalar.indexCast arg9
  let c240 : Index := 240#32
  ![v188.toNat, 240]

def k1_chk336 (v189 : IVec S16 32) : Prop :=
  (∀ a x, ((![v189] : Fin 1 → IVec S16 32) a x).toNat < S38912.size a)
theorem k1_idx336_inb : ∀ (v189 : IVec S16 32) (k1_hw336 : k1_chk336 v189), ∀ a x, ((![v189] : Fin 1 → IVec S16 32) a x).toNat < S38912.size a := fun v189 k1_hw336 => k1_hw336
def k1_off339 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v190 : Index := Scalar.indexCast arg9
  let c256 : Index := 256#32
  ![v190.toNat, 256]

def k1_chk337 (v191 : IVec S16 32) : Prop :=
  (∀ a x, ((![v191] : Fin 1 → IVec S16 32) a x).toNat < S38912.size a)
theorem k1_idx337_inb : ∀ (v191 : IVec S16 32) (k1_hw337 : k1_chk337 v191), ∀ a x, ((![v191] : Fin 1 → IVec S16 32) a x).toNat < S38912.size a := fun v191 k1_hw337 => k1_hw337
def k1_off340 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v192 : Index := Scalar.indexCast arg9
  let c272 : Index := 272#32
  ![v192.toNat, 272]

def k1_chk338 (v193 : IVec S16 32) : Prop :=
  (∀ a x, ((![v193] : Fin 1 → IVec S16 32) a x).toNat < S38912.size a)
theorem k1_idx338_inb : ∀ (v193 : IVec S16 32) (k1_hw338 : k1_chk338 v193), ∀ a x, ((![v193] : Fin 1 → IVec S16 32) a x).toNat < S38912.size a := fun v193 k1_hw338 => k1_hw338
def k1_off341 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v194 : Index := Scalar.indexCast arg9
  let c288 : Index := 288#32
  ![v194.toNat, 288]

def k1_chk339 (v195 : IVec S16 32) : Prop :=
  (∀ a x, ((![v195] : Fin 1 → IVec S16 32) a x).toNat < S38912.size a)
theorem k1_idx339_inb : ∀ (v195 : IVec S16 32) (k1_hw339 : k1_chk339 v195), ∀ a x, ((![v195] : Fin 1 → IVec S16 32) a x).toNat < S38912.size a := fun v195 k1_hw339 => k1_hw339
def k1_off342 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v196 : Index := Scalar.indexCast arg9
  let c304 : Index := 304#32
  ![v196.toNat, 304]

def k1_chk340 (v197 : IVec S16 32) : Prop :=
  (∀ a x, ((![v197] : Fin 1 → IVec S16 32) a x).toNat < S38912.size a)
theorem k1_idx340_inb : ∀ (v197 : IVec S16 32) (k1_hw340 : k1_chk340 v197), ∀ a x, ((![v197] : Fin 1 → IVec S16 32) a x).toNat < S38912.size a := fun v197 k1_hw340 => k1_hw340
def k1_off343 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v198 : Index := Scalar.indexCast arg9
  let c320 : Index := 320#32
  ![v198.toNat, 320]

def k1_chk341 (v199 : IVec S16 32) : Prop :=
  (∀ a x, ((![v199] : Fin 1 → IVec S16 32) a x).toNat < S38912.size a)
theorem k1_idx341_inb : ∀ (v199 : IVec S16 32) (k1_hw341 : k1_chk341 v199), ∀ a x, ((![v199] : Fin 1 → IVec S16 32) a x).toNat < S38912.size a := fun v199 k1_hw341 => k1_hw341
def k1_off344 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v200 : Index := Scalar.indexCast arg9
  let c336 : Index := 336#32
  ![v200.toNat, 336]

def k1_chk342 (v201 : IVec S16 32) : Prop :=
  (∀ a x, ((![v201] : Fin 1 → IVec S16 32) a x).toNat < S38912.size a)
theorem k1_idx342_inb : ∀ (v201 : IVec S16 32) (k1_hw342 : k1_chk342 v201), ∀ a x, ((![v201] : Fin 1 → IVec S16 32) a x).toNat < S38912.size a := fun v201 k1_hw342 => k1_hw342
def k1_off345 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v202 : Index := Scalar.indexCast arg9
  let c352 : Index := 352#32
  ![v202.toNat, 352]

def k1_chk343 (v203 : IVec S16 32) : Prop :=
  (∀ a x, ((![v203] : Fin 1 → IVec S16 32) a x).toNat < S38912.size a)
theorem k1_idx343_inb : ∀ (v203 : IVec S16 32) (k1_hw343 : k1_chk343 v203), ∀ a x, ((![v203] : Fin 1 → IVec S16 32) a x).toNat < S38912.size a := fun v203 k1_hw343 => k1_hw343
def k1_off346 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v204 : Index := Scalar.indexCast arg9
  let c368 : Index := 368#32
  ![v204.toNat, 368]

def k1_chk344 (v205 : IVec S16 32) : Prop :=
  (∀ a x, ((![v205] : Fin 1 → IVec S16 32) a x).toNat < S38912.size a)
theorem k1_idx344_inb : ∀ (v205 : IVec S16 32) (k1_hw344 : k1_chk344 v205), ∀ a x, ((![v205] : Fin 1 → IVec S16 32) a x).toNat < S38912.size a := fun v205 k1_hw344 => k1_hw344
def k1_off347 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v206 : Index := Scalar.indexCast arg9
  let c384 : Index := 384#32
  ![v206.toNat, 384]

def k1_chk345 (v207 : IVec S16 32) : Prop :=
  (∀ a x, ((![v207] : Fin 1 → IVec S16 32) a x).toNat < S38912.size a)
theorem k1_idx345_inb : ∀ (v207 : IVec S16 32) (k1_hw345 : k1_chk345 v207), ∀ a x, ((![v207] : Fin 1 → IVec S16 32) a x).toNat < S38912.size a := fun v207 k1_hw345 => k1_hw345
def k1_off348 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v208 : Index := Scalar.indexCast arg9
  let c400 : Index := 400#32
  ![v208.toNat, 400]

def k1_chk346 (v209 : IVec S16 32) : Prop :=
  (∀ a x, ((![v209] : Fin 1 → IVec S16 32) a x).toNat < S38912.size a)
theorem k1_idx346_inb : ∀ (v209 : IVec S16 32) (k1_hw346 : k1_chk346 v209), ∀ a x, ((![v209] : Fin 1 → IVec S16 32) a x).toNat < S38912.size a := fun v209 k1_hw346 => k1_hw346
def k1_off349 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v210 : Index := Scalar.indexCast arg9
  let c416 : Index := 416#32
  ![v210.toNat, 416]

def k1_chk347 (v211 : IVec S16 32) : Prop :=
  (∀ a x, ((![v211] : Fin 1 → IVec S16 32) a x).toNat < S38912.size a)
theorem k1_idx347_inb : ∀ (v211 : IVec S16 32) (k1_hw347 : k1_chk347 v211), ∀ a x, ((![v211] : Fin 1 → IVec S16 32) a x).toNat < S38912.size a := fun v211 k1_hw347 => k1_hw347
def k1_off350 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v212 : Index := Scalar.indexCast arg9
  let c432 : Index := 432#32
  ![v212.toNat, 432]

def k1_chk348 (v213 : IVec S16 32) : Prop :=
  (∀ a x, ((![v213] : Fin 1 → IVec S16 32) a x).toNat < S38912.size a)
theorem k1_idx348_inb : ∀ (v213 : IVec S16 32) (k1_hw348 : k1_chk348 v213), ∀ a x, ((![v213] : Fin 1 → IVec S16 32) a x).toNat < S38912.size a := fun v213 k1_hw348 => k1_hw348
def k1_off351 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v214 : Index := Scalar.indexCast arg9
  let c448 : Index := 448#32
  ![v214.toNat, 448]

def k1_chk349 (v215 : IVec S16 32) : Prop :=
  (∀ a x, ((![v215] : Fin 1 → IVec S16 32) a x).toNat < S38912.size a)
theorem k1_idx349_inb : ∀ (v215 : IVec S16 32) (k1_hw349 : k1_chk349 v215), ∀ a x, ((![v215] : Fin 1 → IVec S16 32) a x).toNat < S38912.size a := fun v215 k1_hw349 => k1_hw349
def k1_off352 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v216 : Index := Scalar.indexCast arg9
  let c464 : Index := 464#32
  ![v216.toNat, 464]

def k1_chk350 (v217 : IVec S16 32) : Prop :=
  (∀ a x, ((![v217] : Fin 1 → IVec S16 32) a x).toNat < S38912.size a)
theorem k1_idx350_inb : ∀ (v217 : IVec S16 32) (k1_hw350 : k1_chk350 v217), ∀ a x, ((![v217] : Fin 1 → IVec S16 32) a x).toNat < S38912.size a := fun v217 k1_hw350 => k1_hw350
def k1_off353 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v218 : Index := Scalar.indexCast arg9
  let c480 : Index := 480#32
  ![v218.toNat, 480]

def k1_chk351 (v219 : IVec S16 32) : Prop :=
  (∀ a x, ((![v219] : Fin 1 → IVec S16 32) a x).toNat < S38912.size a)
theorem k1_idx351_inb : ∀ (v219 : IVec S16 32) (k1_hw351 : k1_chk351 v219), ∀ a x, ((![v219] : Fin 1 → IVec S16 32) a x).toNat < S38912.size a := fun v219 k1_hw351 => k1_hw351
def k1_off354 (k1_t12 : Fin k1_t12_loop.trips) : Fin 2 → Nat :=
  let c0_i32_112 : BitVec 32 := 0#32
  let c1_i32_114 : BitVec 32 := 1#32
  let arg9 : BitVec 32 := Scf.iv c0_i32_112 c1_i32_114 k1_t12
  let v220 : Index := Scalar.indexCast arg9
  let c496 : Index := 496#32
  ![v220.toNat, 496]

def k1_chk352 (v221 : IVec S16 32) : Prop :=
  (∀ a x, ((![v221] : Fin 1 → IVec S16 32) a x).toNat < S38912.size a)
theorem k1_idx352_inb : ∀ (v221 : IVec S16 32) (k1_hw352 : k1_chk352 v221), ∀ a x, ((![v221] : Fin 1 → IVec S16 32) a x).toNat < S38912.size a := fun v221 k1_hw352 => k1_hw352
@[reducible] def k1_t13_loop : Scf.Loop 32 :=
  let c0_i32_122 : BitVec 32 := 0#32
  let c64_i32_123 : BitVec 32 := 64#32
  let v103 : BitVec 32 := Scalar.addi c0_i32_122 c64_i32_123
  let c1_i32_124 : BitVec 32 := 1#32
  ⟨c0_i32_122, v103, c1_i32_124⟩
def k1_off355 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v158 : Index := Scalar.indexCast arg9
  let c0 : Index := 0#32
  ![v158.toNat, 0]

def k1_chk353 (v159 : IVec S16 32) : Prop :=
  (∀ a x, ((![v159] : Fin 1 → IVec S16 32) a x).toNat < S38912.size a)
theorem k1_idx353_inb : ∀ (v159 : IVec S16 32) (k1_hw353 : k1_chk353 v159), ∀ a x, ((![v159] : Fin 1 → IVec S16 32) a x).toNat < S38912.size a := fun v159 k1_hw353 => k1_hw353
def k1_off356 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v160 : Index := Scalar.indexCast arg9
  let c16 : Index := 16#32
  ![v160.toNat, 16]

def k1_chk354 (v161 : IVec S16 32) : Prop :=
  (∀ a x, ((![v161] : Fin 1 → IVec S16 32) a x).toNat < S38912.size a)
theorem k1_idx354_inb : ∀ (v161 : IVec S16 32) (k1_hw354 : k1_chk354 v161), ∀ a x, ((![v161] : Fin 1 → IVec S16 32) a x).toNat < S38912.size a := fun v161 k1_hw354 => k1_hw354
def k1_off357 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v162 : Index := Scalar.indexCast arg9
  let c32 : Index := 32#32
  ![v162.toNat, 32]

def k1_chk355 (v163 : IVec S16 32) : Prop :=
  (∀ a x, ((![v163] : Fin 1 → IVec S16 32) a x).toNat < S38912.size a)
theorem k1_idx355_inb : ∀ (v163 : IVec S16 32) (k1_hw355 : k1_chk355 v163), ∀ a x, ((![v163] : Fin 1 → IVec S16 32) a x).toNat < S38912.size a := fun v163 k1_hw355 => k1_hw355
def k1_off358 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v164 : Index := Scalar.indexCast arg9
  let c48 : Index := 48#32
  ![v164.toNat, 48]

def k1_chk356 (v165 : IVec S16 32) : Prop :=
  (∀ a x, ((![v165] : Fin 1 → IVec S16 32) a x).toNat < S38912.size a)
theorem k1_idx356_inb : ∀ (v165 : IVec S16 32) (k1_hw356 : k1_chk356 v165), ∀ a x, ((![v165] : Fin 1 → IVec S16 32) a x).toNat < S38912.size a := fun v165 k1_hw356 => k1_hw356
def k1_off359 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v166 : Index := Scalar.indexCast arg9
  let c64 : Index := 64#32
  ![v166.toNat, 64]

def k1_chk357 (v167 : IVec S16 32) : Prop :=
  (∀ a x, ((![v167] : Fin 1 → IVec S16 32) a x).toNat < S38912.size a)
theorem k1_idx357_inb : ∀ (v167 : IVec S16 32) (k1_hw357 : k1_chk357 v167), ∀ a x, ((![v167] : Fin 1 → IVec S16 32) a x).toNat < S38912.size a := fun v167 k1_hw357 => k1_hw357
def k1_off360 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v168 : Index := Scalar.indexCast arg9
  let c80 : Index := 80#32
  ![v168.toNat, 80]

def k1_chk358 (v169 : IVec S16 32) : Prop :=
  (∀ a x, ((![v169] : Fin 1 → IVec S16 32) a x).toNat < S38912.size a)
theorem k1_idx358_inb : ∀ (v169 : IVec S16 32) (k1_hw358 : k1_chk358 v169), ∀ a x, ((![v169] : Fin 1 → IVec S16 32) a x).toNat < S38912.size a := fun v169 k1_hw358 => k1_hw358
def k1_off361 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v170 : Index := Scalar.indexCast arg9
  let c96 : Index := 96#32
  ![v170.toNat, 96]

def k1_chk359 (v171 : IVec S16 32) : Prop :=
  (∀ a x, ((![v171] : Fin 1 → IVec S16 32) a x).toNat < S38912.size a)
theorem k1_idx359_inb : ∀ (v171 : IVec S16 32) (k1_hw359 : k1_chk359 v171), ∀ a x, ((![v171] : Fin 1 → IVec S16 32) a x).toNat < S38912.size a := fun v171 k1_hw359 => k1_hw359
def k1_off362 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v172 : Index := Scalar.indexCast arg9
  let c112 : Index := 112#32
  ![v172.toNat, 112]

def k1_chk360 (v173 : IVec S16 32) : Prop :=
  (∀ a x, ((![v173] : Fin 1 → IVec S16 32) a x).toNat < S38912.size a)
theorem k1_idx360_inb : ∀ (v173 : IVec S16 32) (k1_hw360 : k1_chk360 v173), ∀ a x, ((![v173] : Fin 1 → IVec S16 32) a x).toNat < S38912.size a := fun v173 k1_hw360 => k1_hw360
def k1_off363 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v174 : Index := Scalar.indexCast arg9
  let c128 : Index := 128#32
  ![v174.toNat, 128]

def k1_chk361 (v175 : IVec S16 32) : Prop :=
  (∀ a x, ((![v175] : Fin 1 → IVec S16 32) a x).toNat < S38912.size a)
theorem k1_idx361_inb : ∀ (v175 : IVec S16 32) (k1_hw361 : k1_chk361 v175), ∀ a x, ((![v175] : Fin 1 → IVec S16 32) a x).toNat < S38912.size a := fun v175 k1_hw361 => k1_hw361
def k1_off364 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v176 : Index := Scalar.indexCast arg9
  let c144 : Index := 144#32
  ![v176.toNat, 144]

def k1_chk362 (v177 : IVec S16 32) : Prop :=
  (∀ a x, ((![v177] : Fin 1 → IVec S16 32) a x).toNat < S38912.size a)
theorem k1_idx362_inb : ∀ (v177 : IVec S16 32) (k1_hw362 : k1_chk362 v177), ∀ a x, ((![v177] : Fin 1 → IVec S16 32) a x).toNat < S38912.size a := fun v177 k1_hw362 => k1_hw362
def k1_off365 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v178 : Index := Scalar.indexCast arg9
  let c160 : Index := 160#32
  ![v178.toNat, 160]

def k1_chk363 (v179 : IVec S16 32) : Prop :=
  (∀ a x, ((![v179] : Fin 1 → IVec S16 32) a x).toNat < S38912.size a)
theorem k1_idx363_inb : ∀ (v179 : IVec S16 32) (k1_hw363 : k1_chk363 v179), ∀ a x, ((![v179] : Fin 1 → IVec S16 32) a x).toNat < S38912.size a := fun v179 k1_hw363 => k1_hw363
def k1_off366 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v180 : Index := Scalar.indexCast arg9
  let c176 : Index := 176#32
  ![v180.toNat, 176]

def k1_chk364 (v181 : IVec S16 32) : Prop :=
  (∀ a x, ((![v181] : Fin 1 → IVec S16 32) a x).toNat < S38912.size a)
theorem k1_idx364_inb : ∀ (v181 : IVec S16 32) (k1_hw364 : k1_chk364 v181), ∀ a x, ((![v181] : Fin 1 → IVec S16 32) a x).toNat < S38912.size a := fun v181 k1_hw364 => k1_hw364
def k1_off367 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v182 : Index := Scalar.indexCast arg9
  let c192 : Index := 192#32
  ![v182.toNat, 192]

def k1_chk365 (v183 : IVec S16 32) : Prop :=
  (∀ a x, ((![v183] : Fin 1 → IVec S16 32) a x).toNat < S38912.size a)
theorem k1_idx365_inb : ∀ (v183 : IVec S16 32) (k1_hw365 : k1_chk365 v183), ∀ a x, ((![v183] : Fin 1 → IVec S16 32) a x).toNat < S38912.size a := fun v183 k1_hw365 => k1_hw365
def k1_off368 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v184 : Index := Scalar.indexCast arg9
  let c208 : Index := 208#32
  ![v184.toNat, 208]

def k1_chk366 (v185 : IVec S16 32) : Prop :=
  (∀ a x, ((![v185] : Fin 1 → IVec S16 32) a x).toNat < S38912.size a)
theorem k1_idx366_inb : ∀ (v185 : IVec S16 32) (k1_hw366 : k1_chk366 v185), ∀ a x, ((![v185] : Fin 1 → IVec S16 32) a x).toNat < S38912.size a := fun v185 k1_hw366 => k1_hw366
def k1_off369 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v186 : Index := Scalar.indexCast arg9
  let c224 : Index := 224#32
  ![v186.toNat, 224]

def k1_chk367 (v187 : IVec S16 32) : Prop :=
  (∀ a x, ((![v187] : Fin 1 → IVec S16 32) a x).toNat < S38912.size a)
theorem k1_idx367_inb : ∀ (v187 : IVec S16 32) (k1_hw367 : k1_chk367 v187), ∀ a x, ((![v187] : Fin 1 → IVec S16 32) a x).toNat < S38912.size a := fun v187 k1_hw367 => k1_hw367
def k1_off370 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v188 : Index := Scalar.indexCast arg9
  let c240 : Index := 240#32
  ![v188.toNat, 240]

def k1_chk368 (v189 : IVec S16 32) : Prop :=
  (∀ a x, ((![v189] : Fin 1 → IVec S16 32) a x).toNat < S38912.size a)
theorem k1_idx368_inb : ∀ (v189 : IVec S16 32) (k1_hw368 : k1_chk368 v189), ∀ a x, ((![v189] : Fin 1 → IVec S16 32) a x).toNat < S38912.size a := fun v189 k1_hw368 => k1_hw368
def k1_off371 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v190 : Index := Scalar.indexCast arg9
  let c256 : Index := 256#32
  ![v190.toNat, 256]

def k1_chk369 (v191 : IVec S16 32) : Prop :=
  (∀ a x, ((![v191] : Fin 1 → IVec S16 32) a x).toNat < S38912.size a)
theorem k1_idx369_inb : ∀ (v191 : IVec S16 32) (k1_hw369 : k1_chk369 v191), ∀ a x, ((![v191] : Fin 1 → IVec S16 32) a x).toNat < S38912.size a := fun v191 k1_hw369 => k1_hw369
def k1_off372 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v192 : Index := Scalar.indexCast arg9
  let c272 : Index := 272#32
  ![v192.toNat, 272]

def k1_chk370 (v193 : IVec S16 32) : Prop :=
  (∀ a x, ((![v193] : Fin 1 → IVec S16 32) a x).toNat < S38912.size a)
theorem k1_idx370_inb : ∀ (v193 : IVec S16 32) (k1_hw370 : k1_chk370 v193), ∀ a x, ((![v193] : Fin 1 → IVec S16 32) a x).toNat < S38912.size a := fun v193 k1_hw370 => k1_hw370
def k1_off373 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v194 : Index := Scalar.indexCast arg9
  let c288 : Index := 288#32
  ![v194.toNat, 288]

def k1_chk371 (v195 : IVec S16 32) : Prop :=
  (∀ a x, ((![v195] : Fin 1 → IVec S16 32) a x).toNat < S38912.size a)
theorem k1_idx371_inb : ∀ (v195 : IVec S16 32) (k1_hw371 : k1_chk371 v195), ∀ a x, ((![v195] : Fin 1 → IVec S16 32) a x).toNat < S38912.size a := fun v195 k1_hw371 => k1_hw371
def k1_off374 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v196 : Index := Scalar.indexCast arg9
  let c304 : Index := 304#32
  ![v196.toNat, 304]

def k1_chk372 (v197 : IVec S16 32) : Prop :=
  (∀ a x, ((![v197] : Fin 1 → IVec S16 32) a x).toNat < S38912.size a)
theorem k1_idx372_inb : ∀ (v197 : IVec S16 32) (k1_hw372 : k1_chk372 v197), ∀ a x, ((![v197] : Fin 1 → IVec S16 32) a x).toNat < S38912.size a := fun v197 k1_hw372 => k1_hw372
def k1_off375 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v198 : Index := Scalar.indexCast arg9
  let c320 : Index := 320#32
  ![v198.toNat, 320]

def k1_chk373 (v199 : IVec S16 32) : Prop :=
  (∀ a x, ((![v199] : Fin 1 → IVec S16 32) a x).toNat < S38912.size a)
theorem k1_idx373_inb : ∀ (v199 : IVec S16 32) (k1_hw373 : k1_chk373 v199), ∀ a x, ((![v199] : Fin 1 → IVec S16 32) a x).toNat < S38912.size a := fun v199 k1_hw373 => k1_hw373
def k1_off376 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v200 : Index := Scalar.indexCast arg9
  let c336 : Index := 336#32
  ![v200.toNat, 336]

def k1_chk374 (v201 : IVec S16 32) : Prop :=
  (∀ a x, ((![v201] : Fin 1 → IVec S16 32) a x).toNat < S38912.size a)
theorem k1_idx374_inb : ∀ (v201 : IVec S16 32) (k1_hw374 : k1_chk374 v201), ∀ a x, ((![v201] : Fin 1 → IVec S16 32) a x).toNat < S38912.size a := fun v201 k1_hw374 => k1_hw374
def k1_off377 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v202 : Index := Scalar.indexCast arg9
  let c352 : Index := 352#32
  ![v202.toNat, 352]

def k1_chk375 (v203 : IVec S16 32) : Prop :=
  (∀ a x, ((![v203] : Fin 1 → IVec S16 32) a x).toNat < S38912.size a)
theorem k1_idx375_inb : ∀ (v203 : IVec S16 32) (k1_hw375 : k1_chk375 v203), ∀ a x, ((![v203] : Fin 1 → IVec S16 32) a x).toNat < S38912.size a := fun v203 k1_hw375 => k1_hw375
def k1_off378 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v204 : Index := Scalar.indexCast arg9
  let c368 : Index := 368#32
  ![v204.toNat, 368]

def k1_chk376 (v205 : IVec S16 32) : Prop :=
  (∀ a x, ((![v205] : Fin 1 → IVec S16 32) a x).toNat < S38912.size a)
theorem k1_idx376_inb : ∀ (v205 : IVec S16 32) (k1_hw376 : k1_chk376 v205), ∀ a x, ((![v205] : Fin 1 → IVec S16 32) a x).toNat < S38912.size a := fun v205 k1_hw376 => k1_hw376
def k1_off379 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v206 : Index := Scalar.indexCast arg9
  let c384 : Index := 384#32
  ![v206.toNat, 384]

def k1_chk377 (v207 : IVec S16 32) : Prop :=
  (∀ a x, ((![v207] : Fin 1 → IVec S16 32) a x).toNat < S38912.size a)
theorem k1_idx377_inb : ∀ (v207 : IVec S16 32) (k1_hw377 : k1_chk377 v207), ∀ a x, ((![v207] : Fin 1 → IVec S16 32) a x).toNat < S38912.size a := fun v207 k1_hw377 => k1_hw377
def k1_off380 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v208 : Index := Scalar.indexCast arg9
  let c400 : Index := 400#32
  ![v208.toNat, 400]

def k1_chk378 (v209 : IVec S16 32) : Prop :=
  (∀ a x, ((![v209] : Fin 1 → IVec S16 32) a x).toNat < S38912.size a)
theorem k1_idx378_inb : ∀ (v209 : IVec S16 32) (k1_hw378 : k1_chk378 v209), ∀ a x, ((![v209] : Fin 1 → IVec S16 32) a x).toNat < S38912.size a := fun v209 k1_hw378 => k1_hw378
def k1_off381 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v210 : Index := Scalar.indexCast arg9
  let c416 : Index := 416#32
  ![v210.toNat, 416]

def k1_chk379 (v211 : IVec S16 32) : Prop :=
  (∀ a x, ((![v211] : Fin 1 → IVec S16 32) a x).toNat < S38912.size a)
theorem k1_idx379_inb : ∀ (v211 : IVec S16 32) (k1_hw379 : k1_chk379 v211), ∀ a x, ((![v211] : Fin 1 → IVec S16 32) a x).toNat < S38912.size a := fun v211 k1_hw379 => k1_hw379
def k1_off382 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v212 : Index := Scalar.indexCast arg9
  let c432 : Index := 432#32
  ![v212.toNat, 432]

def k1_chk380 (v213 : IVec S16 32) : Prop :=
  (∀ a x, ((![v213] : Fin 1 → IVec S16 32) a x).toNat < S38912.size a)
theorem k1_idx380_inb : ∀ (v213 : IVec S16 32) (k1_hw380 : k1_chk380 v213), ∀ a x, ((![v213] : Fin 1 → IVec S16 32) a x).toNat < S38912.size a := fun v213 k1_hw380 => k1_hw380
def k1_off383 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v214 : Index := Scalar.indexCast arg9
  let c448 : Index := 448#32
  ![v214.toNat, 448]

def k1_chk381 (v215 : IVec S16 32) : Prop :=
  (∀ a x, ((![v215] : Fin 1 → IVec S16 32) a x).toNat < S38912.size a)
theorem k1_idx381_inb : ∀ (v215 : IVec S16 32) (k1_hw381 : k1_chk381 v215), ∀ a x, ((![v215] : Fin 1 → IVec S16 32) a x).toNat < S38912.size a := fun v215 k1_hw381 => k1_hw381
def k1_off384 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v216 : Index := Scalar.indexCast arg9
  let c464 : Index := 464#32
  ![v216.toNat, 464]

def k1_chk382 (v217 : IVec S16 32) : Prop :=
  (∀ a x, ((![v217] : Fin 1 → IVec S16 32) a x).toNat < S38912.size a)
theorem k1_idx382_inb : ∀ (v217 : IVec S16 32) (k1_hw382 : k1_chk382 v217), ∀ a x, ((![v217] : Fin 1 → IVec S16 32) a x).toNat < S38912.size a := fun v217 k1_hw382 => k1_hw382
def k1_off385 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v218 : Index := Scalar.indexCast arg9
  let c480 : Index := 480#32
  ![v218.toNat, 480]

def k1_chk383 (v219 : IVec S16 32) : Prop :=
  (∀ a x, ((![v219] : Fin 1 → IVec S16 32) a x).toNat < S38912.size a)
theorem k1_idx383_inb : ∀ (v219 : IVec S16 32) (k1_hw383 : k1_chk383 v219), ∀ a x, ((![v219] : Fin 1 → IVec S16 32) a x).toNat < S38912.size a := fun v219 k1_hw383 => k1_hw383
def k1_off386 (k1_t13 : Fin k1_t13_loop.trips) : Fin 2 → Nat :=
  let c0_i32_122 : BitVec 32 := 0#32
  let c1_i32_124 : BitVec 32 := 1#32
  let arg9 : BitVec 32 := Scf.iv c0_i32_122 c1_i32_124 k1_t13
  let v220 : Index := Scalar.indexCast arg9
  let c496 : Index := 496#32
  ![v220.toNat, 496]

def k1_chk384 (v221 : IVec S16 32) : Prop :=
  (∀ a x, ((![v221] : Fin 1 → IVec S16 32) a x).toNat < S38912.size a)
theorem k1_idx384_inb : ∀ (v221 : IVec S16 32) (k1_hw384 : k1_chk384 v221), ∀ a x, ((![v221] : Fin 1 → IVec S16 32) a x).toNat < S38912.size a := fun v221 k1_hw384 => k1_hw384
@[reducible] def k1_t14_loop : Scf.Loop 32 :=
  let c0_i32_132 : BitVec 32 := 0#32
  let c64_i32_133 : BitVec 32 := 64#32
  let v111 : BitVec 32 := Scalar.addi c0_i32_132 c64_i32_133
  let c1_i32_134 : BitVec 32 := 1#32
  ⟨c0_i32_132, v111, c1_i32_134⟩
def k1_off387 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v158 : Index := Scalar.indexCast arg9
  let c0 : Index := 0#32
  ![v158.toNat, 0]

def k1_chk385 (v159 : IVec S16 32) : Prop :=
  (∀ a x, ((![v159] : Fin 1 → IVec S16 32) a x).toNat < S38912.size a)
theorem k1_idx385_inb : ∀ (v159 : IVec S16 32) (k1_hw385 : k1_chk385 v159), ∀ a x, ((![v159] : Fin 1 → IVec S16 32) a x).toNat < S38912.size a := fun v159 k1_hw385 => k1_hw385
def k1_off388 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v160 : Index := Scalar.indexCast arg9
  let c16 : Index := 16#32
  ![v160.toNat, 16]

def k1_chk386 (v161 : IVec S16 32) : Prop :=
  (∀ a x, ((![v161] : Fin 1 → IVec S16 32) a x).toNat < S38912.size a)
theorem k1_idx386_inb : ∀ (v161 : IVec S16 32) (k1_hw386 : k1_chk386 v161), ∀ a x, ((![v161] : Fin 1 → IVec S16 32) a x).toNat < S38912.size a := fun v161 k1_hw386 => k1_hw386
def k1_off389 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v162 : Index := Scalar.indexCast arg9
  let c32 : Index := 32#32
  ![v162.toNat, 32]

def k1_chk387 (v163 : IVec S16 32) : Prop :=
  (∀ a x, ((![v163] : Fin 1 → IVec S16 32) a x).toNat < S38912.size a)
theorem k1_idx387_inb : ∀ (v163 : IVec S16 32) (k1_hw387 : k1_chk387 v163), ∀ a x, ((![v163] : Fin 1 → IVec S16 32) a x).toNat < S38912.size a := fun v163 k1_hw387 => k1_hw387
def k1_off390 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v164 : Index := Scalar.indexCast arg9
  let c48 : Index := 48#32
  ![v164.toNat, 48]

def k1_chk388 (v165 : IVec S16 32) : Prop :=
  (∀ a x, ((![v165] : Fin 1 → IVec S16 32) a x).toNat < S38912.size a)
theorem k1_idx388_inb : ∀ (v165 : IVec S16 32) (k1_hw388 : k1_chk388 v165), ∀ a x, ((![v165] : Fin 1 → IVec S16 32) a x).toNat < S38912.size a := fun v165 k1_hw388 => k1_hw388
def k1_off391 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v166 : Index := Scalar.indexCast arg9
  let c64 : Index := 64#32
  ![v166.toNat, 64]

def k1_chk389 (v167 : IVec S16 32) : Prop :=
  (∀ a x, ((![v167] : Fin 1 → IVec S16 32) a x).toNat < S38912.size a)
theorem k1_idx389_inb : ∀ (v167 : IVec S16 32) (k1_hw389 : k1_chk389 v167), ∀ a x, ((![v167] : Fin 1 → IVec S16 32) a x).toNat < S38912.size a := fun v167 k1_hw389 => k1_hw389
def k1_off392 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v168 : Index := Scalar.indexCast arg9
  let c80 : Index := 80#32
  ![v168.toNat, 80]

def k1_chk390 (v169 : IVec S16 32) : Prop :=
  (∀ a x, ((![v169] : Fin 1 → IVec S16 32) a x).toNat < S38912.size a)
theorem k1_idx390_inb : ∀ (v169 : IVec S16 32) (k1_hw390 : k1_chk390 v169), ∀ a x, ((![v169] : Fin 1 → IVec S16 32) a x).toNat < S38912.size a := fun v169 k1_hw390 => k1_hw390
def k1_off393 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v170 : Index := Scalar.indexCast arg9
  let c96 : Index := 96#32
  ![v170.toNat, 96]

def k1_chk391 (v171 : IVec S16 32) : Prop :=
  (∀ a x, ((![v171] : Fin 1 → IVec S16 32) a x).toNat < S38912.size a)
theorem k1_idx391_inb : ∀ (v171 : IVec S16 32) (k1_hw391 : k1_chk391 v171), ∀ a x, ((![v171] : Fin 1 → IVec S16 32) a x).toNat < S38912.size a := fun v171 k1_hw391 => k1_hw391
def k1_off394 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v172 : Index := Scalar.indexCast arg9
  let c112 : Index := 112#32
  ![v172.toNat, 112]

def k1_chk392 (v173 : IVec S16 32) : Prop :=
  (∀ a x, ((![v173] : Fin 1 → IVec S16 32) a x).toNat < S38912.size a)
theorem k1_idx392_inb : ∀ (v173 : IVec S16 32) (k1_hw392 : k1_chk392 v173), ∀ a x, ((![v173] : Fin 1 → IVec S16 32) a x).toNat < S38912.size a := fun v173 k1_hw392 => k1_hw392
def k1_off395 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v174 : Index := Scalar.indexCast arg9
  let c128 : Index := 128#32
  ![v174.toNat, 128]

def k1_chk393 (v175 : IVec S16 32) : Prop :=
  (∀ a x, ((![v175] : Fin 1 → IVec S16 32) a x).toNat < S38912.size a)
theorem k1_idx393_inb : ∀ (v175 : IVec S16 32) (k1_hw393 : k1_chk393 v175), ∀ a x, ((![v175] : Fin 1 → IVec S16 32) a x).toNat < S38912.size a := fun v175 k1_hw393 => k1_hw393
def k1_off396 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v176 : Index := Scalar.indexCast arg9
  let c144 : Index := 144#32
  ![v176.toNat, 144]

def k1_chk394 (v177 : IVec S16 32) : Prop :=
  (∀ a x, ((![v177] : Fin 1 → IVec S16 32) a x).toNat < S38912.size a)
theorem k1_idx394_inb : ∀ (v177 : IVec S16 32) (k1_hw394 : k1_chk394 v177), ∀ a x, ((![v177] : Fin 1 → IVec S16 32) a x).toNat < S38912.size a := fun v177 k1_hw394 => k1_hw394
def k1_off397 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v178 : Index := Scalar.indexCast arg9
  let c160 : Index := 160#32
  ![v178.toNat, 160]

def k1_chk395 (v179 : IVec S16 32) : Prop :=
  (∀ a x, ((![v179] : Fin 1 → IVec S16 32) a x).toNat < S38912.size a)
theorem k1_idx395_inb : ∀ (v179 : IVec S16 32) (k1_hw395 : k1_chk395 v179), ∀ a x, ((![v179] : Fin 1 → IVec S16 32) a x).toNat < S38912.size a := fun v179 k1_hw395 => k1_hw395
def k1_off398 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v180 : Index := Scalar.indexCast arg9
  let c176 : Index := 176#32
  ![v180.toNat, 176]

def k1_chk396 (v181 : IVec S16 32) : Prop :=
  (∀ a x, ((![v181] : Fin 1 → IVec S16 32) a x).toNat < S38912.size a)
theorem k1_idx396_inb : ∀ (v181 : IVec S16 32) (k1_hw396 : k1_chk396 v181), ∀ a x, ((![v181] : Fin 1 → IVec S16 32) a x).toNat < S38912.size a := fun v181 k1_hw396 => k1_hw396
def k1_off399 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v182 : Index := Scalar.indexCast arg9
  let c192 : Index := 192#32
  ![v182.toNat, 192]

def k1_chk397 (v183 : IVec S16 32) : Prop :=
  (∀ a x, ((![v183] : Fin 1 → IVec S16 32) a x).toNat < S38912.size a)
theorem k1_idx397_inb : ∀ (v183 : IVec S16 32) (k1_hw397 : k1_chk397 v183), ∀ a x, ((![v183] : Fin 1 → IVec S16 32) a x).toNat < S38912.size a := fun v183 k1_hw397 => k1_hw397
def k1_off400 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v184 : Index := Scalar.indexCast arg9
  let c208 : Index := 208#32
  ![v184.toNat, 208]

def k1_chk398 (v185 : IVec S16 32) : Prop :=
  (∀ a x, ((![v185] : Fin 1 → IVec S16 32) a x).toNat < S38912.size a)
theorem k1_idx398_inb : ∀ (v185 : IVec S16 32) (k1_hw398 : k1_chk398 v185), ∀ a x, ((![v185] : Fin 1 → IVec S16 32) a x).toNat < S38912.size a := fun v185 k1_hw398 => k1_hw398
def k1_off401 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v186 : Index := Scalar.indexCast arg9
  let c224 : Index := 224#32
  ![v186.toNat, 224]

def k1_chk399 (v187 : IVec S16 32) : Prop :=
  (∀ a x, ((![v187] : Fin 1 → IVec S16 32) a x).toNat < S38912.size a)
theorem k1_idx399_inb : ∀ (v187 : IVec S16 32) (k1_hw399 : k1_chk399 v187), ∀ a x, ((![v187] : Fin 1 → IVec S16 32) a x).toNat < S38912.size a := fun v187 k1_hw399 => k1_hw399
def k1_off402 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v188 : Index := Scalar.indexCast arg9
  let c240 : Index := 240#32
  ![v188.toNat, 240]

def k1_chk400 (v189 : IVec S16 32) : Prop :=
  (∀ a x, ((![v189] : Fin 1 → IVec S16 32) a x).toNat < S38912.size a)
theorem k1_idx400_inb : ∀ (v189 : IVec S16 32) (k1_hw400 : k1_chk400 v189), ∀ a x, ((![v189] : Fin 1 → IVec S16 32) a x).toNat < S38912.size a := fun v189 k1_hw400 => k1_hw400
def k1_off403 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v190 : Index := Scalar.indexCast arg9
  let c256 : Index := 256#32
  ![v190.toNat, 256]

def k1_chk401 (v191 : IVec S16 32) : Prop :=
  (∀ a x, ((![v191] : Fin 1 → IVec S16 32) a x).toNat < S38912.size a)
theorem k1_idx401_inb : ∀ (v191 : IVec S16 32) (k1_hw401 : k1_chk401 v191), ∀ a x, ((![v191] : Fin 1 → IVec S16 32) a x).toNat < S38912.size a := fun v191 k1_hw401 => k1_hw401
def k1_off404 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v192 : Index := Scalar.indexCast arg9
  let c272 : Index := 272#32
  ![v192.toNat, 272]

def k1_chk402 (v193 : IVec S16 32) : Prop :=
  (∀ a x, ((![v193] : Fin 1 → IVec S16 32) a x).toNat < S38912.size a)
theorem k1_idx402_inb : ∀ (v193 : IVec S16 32) (k1_hw402 : k1_chk402 v193), ∀ a x, ((![v193] : Fin 1 → IVec S16 32) a x).toNat < S38912.size a := fun v193 k1_hw402 => k1_hw402
def k1_off405 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v194 : Index := Scalar.indexCast arg9
  let c288 : Index := 288#32
  ![v194.toNat, 288]

def k1_chk403 (v195 : IVec S16 32) : Prop :=
  (∀ a x, ((![v195] : Fin 1 → IVec S16 32) a x).toNat < S38912.size a)
theorem k1_idx403_inb : ∀ (v195 : IVec S16 32) (k1_hw403 : k1_chk403 v195), ∀ a x, ((![v195] : Fin 1 → IVec S16 32) a x).toNat < S38912.size a := fun v195 k1_hw403 => k1_hw403
def k1_off406 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v196 : Index := Scalar.indexCast arg9
  let c304 : Index := 304#32
  ![v196.toNat, 304]

def k1_chk404 (v197 : IVec S16 32) : Prop :=
  (∀ a x, ((![v197] : Fin 1 → IVec S16 32) a x).toNat < S38912.size a)
theorem k1_idx404_inb : ∀ (v197 : IVec S16 32) (k1_hw404 : k1_chk404 v197), ∀ a x, ((![v197] : Fin 1 → IVec S16 32) a x).toNat < S38912.size a := fun v197 k1_hw404 => k1_hw404
def k1_off407 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v198 : Index := Scalar.indexCast arg9
  let c320 : Index := 320#32
  ![v198.toNat, 320]

def k1_chk405 (v199 : IVec S16 32) : Prop :=
  (∀ a x, ((![v199] : Fin 1 → IVec S16 32) a x).toNat < S38912.size a)
theorem k1_idx405_inb : ∀ (v199 : IVec S16 32) (k1_hw405 : k1_chk405 v199), ∀ a x, ((![v199] : Fin 1 → IVec S16 32) a x).toNat < S38912.size a := fun v199 k1_hw405 => k1_hw405
def k1_off408 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v200 : Index := Scalar.indexCast arg9
  let c336 : Index := 336#32
  ![v200.toNat, 336]

def k1_chk406 (v201 : IVec S16 32) : Prop :=
  (∀ a x, ((![v201] : Fin 1 → IVec S16 32) a x).toNat < S38912.size a)
theorem k1_idx406_inb : ∀ (v201 : IVec S16 32) (k1_hw406 : k1_chk406 v201), ∀ a x, ((![v201] : Fin 1 → IVec S16 32) a x).toNat < S38912.size a := fun v201 k1_hw406 => k1_hw406
def k1_off409 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v202 : Index := Scalar.indexCast arg9
  let c352 : Index := 352#32
  ![v202.toNat, 352]

def k1_chk407 (v203 : IVec S16 32) : Prop :=
  (∀ a x, ((![v203] : Fin 1 → IVec S16 32) a x).toNat < S38912.size a)
theorem k1_idx407_inb : ∀ (v203 : IVec S16 32) (k1_hw407 : k1_chk407 v203), ∀ a x, ((![v203] : Fin 1 → IVec S16 32) a x).toNat < S38912.size a := fun v203 k1_hw407 => k1_hw407
def k1_off410 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v204 : Index := Scalar.indexCast arg9
  let c368 : Index := 368#32
  ![v204.toNat, 368]

def k1_chk408 (v205 : IVec S16 32) : Prop :=
  (∀ a x, ((![v205] : Fin 1 → IVec S16 32) a x).toNat < S38912.size a)
theorem k1_idx408_inb : ∀ (v205 : IVec S16 32) (k1_hw408 : k1_chk408 v205), ∀ a x, ((![v205] : Fin 1 → IVec S16 32) a x).toNat < S38912.size a := fun v205 k1_hw408 => k1_hw408
def k1_off411 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v206 : Index := Scalar.indexCast arg9
  let c384 : Index := 384#32
  ![v206.toNat, 384]

def k1_chk409 (v207 : IVec S16 32) : Prop :=
  (∀ a x, ((![v207] : Fin 1 → IVec S16 32) a x).toNat < S38912.size a)
theorem k1_idx409_inb : ∀ (v207 : IVec S16 32) (k1_hw409 : k1_chk409 v207), ∀ a x, ((![v207] : Fin 1 → IVec S16 32) a x).toNat < S38912.size a := fun v207 k1_hw409 => k1_hw409
def k1_off412 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v208 : Index := Scalar.indexCast arg9
  let c400 : Index := 400#32
  ![v208.toNat, 400]

def k1_chk410 (v209 : IVec S16 32) : Prop :=
  (∀ a x, ((![v209] : Fin 1 → IVec S16 32) a x).toNat < S38912.size a)
theorem k1_idx410_inb : ∀ (v209 : IVec S16 32) (k1_hw410 : k1_chk410 v209), ∀ a x, ((![v209] : Fin 1 → IVec S16 32) a x).toNat < S38912.size a := fun v209 k1_hw410 => k1_hw410
def k1_off413 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v210 : Index := Scalar.indexCast arg9
  let c416 : Index := 416#32
  ![v210.toNat, 416]

def k1_chk411 (v211 : IVec S16 32) : Prop :=
  (∀ a x, ((![v211] : Fin 1 → IVec S16 32) a x).toNat < S38912.size a)
theorem k1_idx411_inb : ∀ (v211 : IVec S16 32) (k1_hw411 : k1_chk411 v211), ∀ a x, ((![v211] : Fin 1 → IVec S16 32) a x).toNat < S38912.size a := fun v211 k1_hw411 => k1_hw411
def k1_off414 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v212 : Index := Scalar.indexCast arg9
  let c432 : Index := 432#32
  ![v212.toNat, 432]

def k1_chk412 (v213 : IVec S16 32) : Prop :=
  (∀ a x, ((![v213] : Fin 1 → IVec S16 32) a x).toNat < S38912.size a)
theorem k1_idx412_inb : ∀ (v213 : IVec S16 32) (k1_hw412 : k1_chk412 v213), ∀ a x, ((![v213] : Fin 1 → IVec S16 32) a x).toNat < S38912.size a := fun v213 k1_hw412 => k1_hw412
def k1_off415 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v214 : Index := Scalar.indexCast arg9
  let c448 : Index := 448#32
  ![v214.toNat, 448]

def k1_chk413 (v215 : IVec S16 32) : Prop :=
  (∀ a x, ((![v215] : Fin 1 → IVec S16 32) a x).toNat < S38912.size a)
theorem k1_idx413_inb : ∀ (v215 : IVec S16 32) (k1_hw413 : k1_chk413 v215), ∀ a x, ((![v215] : Fin 1 → IVec S16 32) a x).toNat < S38912.size a := fun v215 k1_hw413 => k1_hw413
def k1_off416 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v216 : Index := Scalar.indexCast arg9
  let c464 : Index := 464#32
  ![v216.toNat, 464]

def k1_chk414 (v217 : IVec S16 32) : Prop :=
  (∀ a x, ((![v217] : Fin 1 → IVec S16 32) a x).toNat < S38912.size a)
theorem k1_idx414_inb : ∀ (v217 : IVec S16 32) (k1_hw414 : k1_chk414 v217), ∀ a x, ((![v217] : Fin 1 → IVec S16 32) a x).toNat < S38912.size a := fun v217 k1_hw414 => k1_hw414
def k1_off417 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v218 : Index := Scalar.indexCast arg9
  let c480 : Index := 480#32
  ![v218.toNat, 480]

def k1_chk415 (v219 : IVec S16 32) : Prop :=
  (∀ a x, ((![v219] : Fin 1 → IVec S16 32) a x).toNat < S38912.size a)
theorem k1_idx415_inb : ∀ (v219 : IVec S16 32) (k1_hw415 : k1_chk415 v219), ∀ a x, ((![v219] : Fin 1 → IVec S16 32) a x).toNat < S38912.size a := fun v219 k1_hw415 => k1_hw415
def k1_off418 (k1_t14 : Fin k1_t14_loop.trips) : Fin 2 → Nat :=
  let c0_i32_132 : BitVec 32 := 0#32
  let c1_i32_134 : BitVec 32 := 1#32
  let arg9 : BitVec 32 := Scf.iv c0_i32_132 c1_i32_134 k1_t14
  let v220 : Index := Scalar.indexCast arg9
  let c496 : Index := 496#32
  ![v220.toNat, 496]

def k1_chk416 (v221 : IVec S16 32) : Prop :=
  (∀ a x, ((![v221] : Fin 1 → IVec S16 32) a x).toNat < S38912.size a)
theorem k1_idx416_inb : ∀ (v221 : IVec S16 32) (k1_hw416 : k1_chk416 v221), ∀ a x, ((![v221] : Fin 1 → IVec S16 32) a x).toNat < S38912.size a := fun v221 k1_hw416 => k1_hw416
@[reducible] def k1_t15_loop : Scf.Loop 32 :=
  let c0_i32_142 : BitVec 32 := 0#32
  let c64_i32_143 : BitVec 32 := 64#32
  let v119 : BitVec 32 := Scalar.addi c0_i32_142 c64_i32_143
  let c1_i32_144 : BitVec 32 := 1#32
  ⟨c0_i32_142, v119, c1_i32_144⟩
def k1_off419 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v158 : Index := Scalar.indexCast arg9
  let c0 : Index := 0#32
  ![v158.toNat, 0]

def k1_chk417 (v159 : IVec S16 32) : Prop :=
  (∀ a x, ((![v159] : Fin 1 → IVec S16 32) a x).toNat < S38912.size a)
theorem k1_idx417_inb : ∀ (v159 : IVec S16 32) (k1_hw417 : k1_chk417 v159), ∀ a x, ((![v159] : Fin 1 → IVec S16 32) a x).toNat < S38912.size a := fun v159 k1_hw417 => k1_hw417
def k1_off420 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v160 : Index := Scalar.indexCast arg9
  let c16 : Index := 16#32
  ![v160.toNat, 16]

def k1_chk418 (v161 : IVec S16 32) : Prop :=
  (∀ a x, ((![v161] : Fin 1 → IVec S16 32) a x).toNat < S38912.size a)
theorem k1_idx418_inb : ∀ (v161 : IVec S16 32) (k1_hw418 : k1_chk418 v161), ∀ a x, ((![v161] : Fin 1 → IVec S16 32) a x).toNat < S38912.size a := fun v161 k1_hw418 => k1_hw418
def k1_off421 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v162 : Index := Scalar.indexCast arg9
  let c32 : Index := 32#32
  ![v162.toNat, 32]

def k1_chk419 (v163 : IVec S16 32) : Prop :=
  (∀ a x, ((![v163] : Fin 1 → IVec S16 32) a x).toNat < S38912.size a)
theorem k1_idx419_inb : ∀ (v163 : IVec S16 32) (k1_hw419 : k1_chk419 v163), ∀ a x, ((![v163] : Fin 1 → IVec S16 32) a x).toNat < S38912.size a := fun v163 k1_hw419 => k1_hw419
def k1_off422 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v164 : Index := Scalar.indexCast arg9
  let c48 : Index := 48#32
  ![v164.toNat, 48]

def k1_chk420 (v165 : IVec S16 32) : Prop :=
  (∀ a x, ((![v165] : Fin 1 → IVec S16 32) a x).toNat < S38912.size a)
theorem k1_idx420_inb : ∀ (v165 : IVec S16 32) (k1_hw420 : k1_chk420 v165), ∀ a x, ((![v165] : Fin 1 → IVec S16 32) a x).toNat < S38912.size a := fun v165 k1_hw420 => k1_hw420
def k1_off423 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v166 : Index := Scalar.indexCast arg9
  let c64 : Index := 64#32
  ![v166.toNat, 64]

def k1_chk421 (v167 : IVec S16 32) : Prop :=
  (∀ a x, ((![v167] : Fin 1 → IVec S16 32) a x).toNat < S38912.size a)
theorem k1_idx421_inb : ∀ (v167 : IVec S16 32) (k1_hw421 : k1_chk421 v167), ∀ a x, ((![v167] : Fin 1 → IVec S16 32) a x).toNat < S38912.size a := fun v167 k1_hw421 => k1_hw421
def k1_off424 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v168 : Index := Scalar.indexCast arg9
  let c80 : Index := 80#32
  ![v168.toNat, 80]

def k1_chk422 (v169 : IVec S16 32) : Prop :=
  (∀ a x, ((![v169] : Fin 1 → IVec S16 32) a x).toNat < S38912.size a)
theorem k1_idx422_inb : ∀ (v169 : IVec S16 32) (k1_hw422 : k1_chk422 v169), ∀ a x, ((![v169] : Fin 1 → IVec S16 32) a x).toNat < S38912.size a := fun v169 k1_hw422 => k1_hw422
def k1_off425 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v170 : Index := Scalar.indexCast arg9
  let c96 : Index := 96#32
  ![v170.toNat, 96]

def k1_chk423 (v171 : IVec S16 32) : Prop :=
  (∀ a x, ((![v171] : Fin 1 → IVec S16 32) a x).toNat < S38912.size a)
theorem k1_idx423_inb : ∀ (v171 : IVec S16 32) (k1_hw423 : k1_chk423 v171), ∀ a x, ((![v171] : Fin 1 → IVec S16 32) a x).toNat < S38912.size a := fun v171 k1_hw423 => k1_hw423
def k1_off426 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v172 : Index := Scalar.indexCast arg9
  let c112 : Index := 112#32
  ![v172.toNat, 112]

def k1_chk424 (v173 : IVec S16 32) : Prop :=
  (∀ a x, ((![v173] : Fin 1 → IVec S16 32) a x).toNat < S38912.size a)
theorem k1_idx424_inb : ∀ (v173 : IVec S16 32) (k1_hw424 : k1_chk424 v173), ∀ a x, ((![v173] : Fin 1 → IVec S16 32) a x).toNat < S38912.size a := fun v173 k1_hw424 => k1_hw424
def k1_off427 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v174 : Index := Scalar.indexCast arg9
  let c128 : Index := 128#32
  ![v174.toNat, 128]

def k1_chk425 (v175 : IVec S16 32) : Prop :=
  (∀ a x, ((![v175] : Fin 1 → IVec S16 32) a x).toNat < S38912.size a)
theorem k1_idx425_inb : ∀ (v175 : IVec S16 32) (k1_hw425 : k1_chk425 v175), ∀ a x, ((![v175] : Fin 1 → IVec S16 32) a x).toNat < S38912.size a := fun v175 k1_hw425 => k1_hw425
def k1_off428 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v176 : Index := Scalar.indexCast arg9
  let c144 : Index := 144#32
  ![v176.toNat, 144]

def k1_chk426 (v177 : IVec S16 32) : Prop :=
  (∀ a x, ((![v177] : Fin 1 → IVec S16 32) a x).toNat < S38912.size a)
theorem k1_idx426_inb : ∀ (v177 : IVec S16 32) (k1_hw426 : k1_chk426 v177), ∀ a x, ((![v177] : Fin 1 → IVec S16 32) a x).toNat < S38912.size a := fun v177 k1_hw426 => k1_hw426
def k1_off429 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v178 : Index := Scalar.indexCast arg9
  let c160 : Index := 160#32
  ![v178.toNat, 160]

def k1_chk427 (v179 : IVec S16 32) : Prop :=
  (∀ a x, ((![v179] : Fin 1 → IVec S16 32) a x).toNat < S38912.size a)
theorem k1_idx427_inb : ∀ (v179 : IVec S16 32) (k1_hw427 : k1_chk427 v179), ∀ a x, ((![v179] : Fin 1 → IVec S16 32) a x).toNat < S38912.size a := fun v179 k1_hw427 => k1_hw427
def k1_off430 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v180 : Index := Scalar.indexCast arg9
  let c176 : Index := 176#32
  ![v180.toNat, 176]

def k1_chk428 (v181 : IVec S16 32) : Prop :=
  (∀ a x, ((![v181] : Fin 1 → IVec S16 32) a x).toNat < S38912.size a)
theorem k1_idx428_inb : ∀ (v181 : IVec S16 32) (k1_hw428 : k1_chk428 v181), ∀ a x, ((![v181] : Fin 1 → IVec S16 32) a x).toNat < S38912.size a := fun v181 k1_hw428 => k1_hw428
def k1_off431 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v182 : Index := Scalar.indexCast arg9
  let c192 : Index := 192#32
  ![v182.toNat, 192]

def k1_chk429 (v183 : IVec S16 32) : Prop :=
  (∀ a x, ((![v183] : Fin 1 → IVec S16 32) a x).toNat < S38912.size a)
theorem k1_idx429_inb : ∀ (v183 : IVec S16 32) (k1_hw429 : k1_chk429 v183), ∀ a x, ((![v183] : Fin 1 → IVec S16 32) a x).toNat < S38912.size a := fun v183 k1_hw429 => k1_hw429
def k1_off432 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v184 : Index := Scalar.indexCast arg9
  let c208 : Index := 208#32
  ![v184.toNat, 208]

def k1_chk430 (v185 : IVec S16 32) : Prop :=
  (∀ a x, ((![v185] : Fin 1 → IVec S16 32) a x).toNat < S38912.size a)
theorem k1_idx430_inb : ∀ (v185 : IVec S16 32) (k1_hw430 : k1_chk430 v185), ∀ a x, ((![v185] : Fin 1 → IVec S16 32) a x).toNat < S38912.size a := fun v185 k1_hw430 => k1_hw430
def k1_off433 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v186 : Index := Scalar.indexCast arg9
  let c224 : Index := 224#32
  ![v186.toNat, 224]

def k1_chk431 (v187 : IVec S16 32) : Prop :=
  (∀ a x, ((![v187] : Fin 1 → IVec S16 32) a x).toNat < S38912.size a)
theorem k1_idx431_inb : ∀ (v187 : IVec S16 32) (k1_hw431 : k1_chk431 v187), ∀ a x, ((![v187] : Fin 1 → IVec S16 32) a x).toNat < S38912.size a := fun v187 k1_hw431 => k1_hw431
def k1_off434 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v188 : Index := Scalar.indexCast arg9
  let c240 : Index := 240#32
  ![v188.toNat, 240]

def k1_chk432 (v189 : IVec S16 32) : Prop :=
  (∀ a x, ((![v189] : Fin 1 → IVec S16 32) a x).toNat < S38912.size a)
theorem k1_idx432_inb : ∀ (v189 : IVec S16 32) (k1_hw432 : k1_chk432 v189), ∀ a x, ((![v189] : Fin 1 → IVec S16 32) a x).toNat < S38912.size a := fun v189 k1_hw432 => k1_hw432
def k1_off435 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v190 : Index := Scalar.indexCast arg9
  let c256 : Index := 256#32
  ![v190.toNat, 256]

def k1_chk433 (v191 : IVec S16 32) : Prop :=
  (∀ a x, ((![v191] : Fin 1 → IVec S16 32) a x).toNat < S38912.size a)
theorem k1_idx433_inb : ∀ (v191 : IVec S16 32) (k1_hw433 : k1_chk433 v191), ∀ a x, ((![v191] : Fin 1 → IVec S16 32) a x).toNat < S38912.size a := fun v191 k1_hw433 => k1_hw433
def k1_off436 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v192 : Index := Scalar.indexCast arg9
  let c272 : Index := 272#32
  ![v192.toNat, 272]

def k1_chk434 (v193 : IVec S16 32) : Prop :=
  (∀ a x, ((![v193] : Fin 1 → IVec S16 32) a x).toNat < S38912.size a)
theorem k1_idx434_inb : ∀ (v193 : IVec S16 32) (k1_hw434 : k1_chk434 v193), ∀ a x, ((![v193] : Fin 1 → IVec S16 32) a x).toNat < S38912.size a := fun v193 k1_hw434 => k1_hw434
def k1_off437 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v194 : Index := Scalar.indexCast arg9
  let c288 : Index := 288#32
  ![v194.toNat, 288]

def k1_chk435 (v195 : IVec S16 32) : Prop :=
  (∀ a x, ((![v195] : Fin 1 → IVec S16 32) a x).toNat < S38912.size a)
theorem k1_idx435_inb : ∀ (v195 : IVec S16 32) (k1_hw435 : k1_chk435 v195), ∀ a x, ((![v195] : Fin 1 → IVec S16 32) a x).toNat < S38912.size a := fun v195 k1_hw435 => k1_hw435
def k1_off438 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v196 : Index := Scalar.indexCast arg9
  let c304 : Index := 304#32
  ![v196.toNat, 304]

def k1_chk436 (v197 : IVec S16 32) : Prop :=
  (∀ a x, ((![v197] : Fin 1 → IVec S16 32) a x).toNat < S38912.size a)
theorem k1_idx436_inb : ∀ (v197 : IVec S16 32) (k1_hw436 : k1_chk436 v197), ∀ a x, ((![v197] : Fin 1 → IVec S16 32) a x).toNat < S38912.size a := fun v197 k1_hw436 => k1_hw436
def k1_off439 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v198 : Index := Scalar.indexCast arg9
  let c320 : Index := 320#32
  ![v198.toNat, 320]

def k1_chk437 (v199 : IVec S16 32) : Prop :=
  (∀ a x, ((![v199] : Fin 1 → IVec S16 32) a x).toNat < S38912.size a)
theorem k1_idx437_inb : ∀ (v199 : IVec S16 32) (k1_hw437 : k1_chk437 v199), ∀ a x, ((![v199] : Fin 1 → IVec S16 32) a x).toNat < S38912.size a := fun v199 k1_hw437 => k1_hw437
def k1_off440 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v200 : Index := Scalar.indexCast arg9
  let c336 : Index := 336#32
  ![v200.toNat, 336]

def k1_chk438 (v201 : IVec S16 32) : Prop :=
  (∀ a x, ((![v201] : Fin 1 → IVec S16 32) a x).toNat < S38912.size a)
theorem k1_idx438_inb : ∀ (v201 : IVec S16 32) (k1_hw438 : k1_chk438 v201), ∀ a x, ((![v201] : Fin 1 → IVec S16 32) a x).toNat < S38912.size a := fun v201 k1_hw438 => k1_hw438
def k1_off441 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v202 : Index := Scalar.indexCast arg9
  let c352 : Index := 352#32
  ![v202.toNat, 352]

def k1_chk439 (v203 : IVec S16 32) : Prop :=
  (∀ a x, ((![v203] : Fin 1 → IVec S16 32) a x).toNat < S38912.size a)
theorem k1_idx439_inb : ∀ (v203 : IVec S16 32) (k1_hw439 : k1_chk439 v203), ∀ a x, ((![v203] : Fin 1 → IVec S16 32) a x).toNat < S38912.size a := fun v203 k1_hw439 => k1_hw439
def k1_off442 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v204 : Index := Scalar.indexCast arg9
  let c368 : Index := 368#32
  ![v204.toNat, 368]

def k1_chk440 (v205 : IVec S16 32) : Prop :=
  (∀ a x, ((![v205] : Fin 1 → IVec S16 32) a x).toNat < S38912.size a)
theorem k1_idx440_inb : ∀ (v205 : IVec S16 32) (k1_hw440 : k1_chk440 v205), ∀ a x, ((![v205] : Fin 1 → IVec S16 32) a x).toNat < S38912.size a := fun v205 k1_hw440 => k1_hw440
def k1_off443 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v206 : Index := Scalar.indexCast arg9
  let c384 : Index := 384#32
  ![v206.toNat, 384]

def k1_chk441 (v207 : IVec S16 32) : Prop :=
  (∀ a x, ((![v207] : Fin 1 → IVec S16 32) a x).toNat < S38912.size a)
theorem k1_idx441_inb : ∀ (v207 : IVec S16 32) (k1_hw441 : k1_chk441 v207), ∀ a x, ((![v207] : Fin 1 → IVec S16 32) a x).toNat < S38912.size a := fun v207 k1_hw441 => k1_hw441
def k1_off444 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v208 : Index := Scalar.indexCast arg9
  let c400 : Index := 400#32
  ![v208.toNat, 400]

def k1_chk442 (v209 : IVec S16 32) : Prop :=
  (∀ a x, ((![v209] : Fin 1 → IVec S16 32) a x).toNat < S38912.size a)
theorem k1_idx442_inb : ∀ (v209 : IVec S16 32) (k1_hw442 : k1_chk442 v209), ∀ a x, ((![v209] : Fin 1 → IVec S16 32) a x).toNat < S38912.size a := fun v209 k1_hw442 => k1_hw442
def k1_off445 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v210 : Index := Scalar.indexCast arg9
  let c416 : Index := 416#32
  ![v210.toNat, 416]

def k1_chk443 (v211 : IVec S16 32) : Prop :=
  (∀ a x, ((![v211] : Fin 1 → IVec S16 32) a x).toNat < S38912.size a)
theorem k1_idx443_inb : ∀ (v211 : IVec S16 32) (k1_hw443 : k1_chk443 v211), ∀ a x, ((![v211] : Fin 1 → IVec S16 32) a x).toNat < S38912.size a := fun v211 k1_hw443 => k1_hw443
def k1_off446 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v212 : Index := Scalar.indexCast arg9
  let c432 : Index := 432#32
  ![v212.toNat, 432]

def k1_chk444 (v213 : IVec S16 32) : Prop :=
  (∀ a x, ((![v213] : Fin 1 → IVec S16 32) a x).toNat < S38912.size a)
theorem k1_idx444_inb : ∀ (v213 : IVec S16 32) (k1_hw444 : k1_chk444 v213), ∀ a x, ((![v213] : Fin 1 → IVec S16 32) a x).toNat < S38912.size a := fun v213 k1_hw444 => k1_hw444
def k1_off447 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v214 : Index := Scalar.indexCast arg9
  let c448 : Index := 448#32
  ![v214.toNat, 448]

def k1_chk445 (v215 : IVec S16 32) : Prop :=
  (∀ a x, ((![v215] : Fin 1 → IVec S16 32) a x).toNat < S38912.size a)
theorem k1_idx445_inb : ∀ (v215 : IVec S16 32) (k1_hw445 : k1_chk445 v215), ∀ a x, ((![v215] : Fin 1 → IVec S16 32) a x).toNat < S38912.size a := fun v215 k1_hw445 => k1_hw445
def k1_off448 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v216 : Index := Scalar.indexCast arg9
  let c464 : Index := 464#32
  ![v216.toNat, 464]

def k1_chk446 (v217 : IVec S16 32) : Prop :=
  (∀ a x, ((![v217] : Fin 1 → IVec S16 32) a x).toNat < S38912.size a)
theorem k1_idx446_inb : ∀ (v217 : IVec S16 32) (k1_hw446 : k1_chk446 v217), ∀ a x, ((![v217] : Fin 1 → IVec S16 32) a x).toNat < S38912.size a := fun v217 k1_hw446 => k1_hw446
def k1_off449 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v218 : Index := Scalar.indexCast arg9
  let c480 : Index := 480#32
  ![v218.toNat, 480]

def k1_chk447 (v219 : IVec S16 32) : Prop :=
  (∀ a x, ((![v219] : Fin 1 → IVec S16 32) a x).toNat < S38912.size a)
theorem k1_idx447_inb : ∀ (v219 : IVec S16 32) (k1_hw447 : k1_chk447 v219), ∀ a x, ((![v219] : Fin 1 → IVec S16 32) a x).toNat < S38912.size a := fun v219 k1_hw447 => k1_hw447
def k1_off450 (k1_t15 : Fin k1_t15_loop.trips) : Fin 2 → Nat :=
  let c0_i32_142 : BitVec 32 := 0#32
  let c1_i32_144 : BitVec 32 := 1#32
  let arg9 : BitVec 32 := Scf.iv c0_i32_142 c1_i32_144 k1_t15
  let v220 : Index := Scalar.indexCast arg9
  let c496 : Index := 496#32
  ![v220.toNat, 496]

def k1_chk448 (v221 : IVec S16 32) : Prop :=
  (∀ a x, ((![v221] : Fin 1 → IVec S16 32) a x).toNat < S38912.size a)
theorem k1_idx448_inb : ∀ (v221 : IVec S16 32) (k1_hw448 : k1_chk448 v221), ∀ a x, ((![v221] : Fin 1 → IVec S16 32) a x).toNat < S38912.size a := fun v221 k1_hw448 => k1_hw448
@[reducible] def k1_t16_loop : Scf.Loop 32 :=
  let c0_i32_152 : BitVec 32 := 0#32
  let c64_i32_153 : BitVec 32 := 64#32
  let v127 : BitVec 32 := Scalar.addi c0_i32_152 c64_i32_153
  let c1_i32_154 : BitVec 32 := 1#32
  ⟨c0_i32_152, v127, c1_i32_154⟩
def k1_off451 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v158 : Index := Scalar.indexCast arg9
  let c0 : Index := 0#32
  ![v158.toNat, 0]

def k1_chk449 (v159 : IVec S16 32) : Prop :=
  (∀ a x, ((![v159] : Fin 1 → IVec S16 32) a x).toNat < S38912.size a)
theorem k1_idx449_inb : ∀ (v159 : IVec S16 32) (k1_hw449 : k1_chk449 v159), ∀ a x, ((![v159] : Fin 1 → IVec S16 32) a x).toNat < S38912.size a := fun v159 k1_hw449 => k1_hw449
def k1_off452 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v160 : Index := Scalar.indexCast arg9
  let c16 : Index := 16#32
  ![v160.toNat, 16]

def k1_chk450 (v161 : IVec S16 32) : Prop :=
  (∀ a x, ((![v161] : Fin 1 → IVec S16 32) a x).toNat < S38912.size a)
theorem k1_idx450_inb : ∀ (v161 : IVec S16 32) (k1_hw450 : k1_chk450 v161), ∀ a x, ((![v161] : Fin 1 → IVec S16 32) a x).toNat < S38912.size a := fun v161 k1_hw450 => k1_hw450
def k1_off453 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v162 : Index := Scalar.indexCast arg9
  let c32 : Index := 32#32
  ![v162.toNat, 32]

def k1_chk451 (v163 : IVec S16 32) : Prop :=
  (∀ a x, ((![v163] : Fin 1 → IVec S16 32) a x).toNat < S38912.size a)
theorem k1_idx451_inb : ∀ (v163 : IVec S16 32) (k1_hw451 : k1_chk451 v163), ∀ a x, ((![v163] : Fin 1 → IVec S16 32) a x).toNat < S38912.size a := fun v163 k1_hw451 => k1_hw451
def k1_off454 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v164 : Index := Scalar.indexCast arg9
  let c48 : Index := 48#32
  ![v164.toNat, 48]

def k1_chk452 (v165 : IVec S16 32) : Prop :=
  (∀ a x, ((![v165] : Fin 1 → IVec S16 32) a x).toNat < S38912.size a)
theorem k1_idx452_inb : ∀ (v165 : IVec S16 32) (k1_hw452 : k1_chk452 v165), ∀ a x, ((![v165] : Fin 1 → IVec S16 32) a x).toNat < S38912.size a := fun v165 k1_hw452 => k1_hw452
def k1_off455 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v166 : Index := Scalar.indexCast arg9
  let c64 : Index := 64#32
  ![v166.toNat, 64]

def k1_chk453 (v167 : IVec S16 32) : Prop :=
  (∀ a x, ((![v167] : Fin 1 → IVec S16 32) a x).toNat < S38912.size a)
theorem k1_idx453_inb : ∀ (v167 : IVec S16 32) (k1_hw453 : k1_chk453 v167), ∀ a x, ((![v167] : Fin 1 → IVec S16 32) a x).toNat < S38912.size a := fun v167 k1_hw453 => k1_hw453
def k1_off456 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v168 : Index := Scalar.indexCast arg9
  let c80 : Index := 80#32
  ![v168.toNat, 80]

def k1_chk454 (v169 : IVec S16 32) : Prop :=
  (∀ a x, ((![v169] : Fin 1 → IVec S16 32) a x).toNat < S38912.size a)
theorem k1_idx454_inb : ∀ (v169 : IVec S16 32) (k1_hw454 : k1_chk454 v169), ∀ a x, ((![v169] : Fin 1 → IVec S16 32) a x).toNat < S38912.size a := fun v169 k1_hw454 => k1_hw454
def k1_off457 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v170 : Index := Scalar.indexCast arg9
  let c96 : Index := 96#32
  ![v170.toNat, 96]

def k1_chk455 (v171 : IVec S16 32) : Prop :=
  (∀ a x, ((![v171] : Fin 1 → IVec S16 32) a x).toNat < S38912.size a)
theorem k1_idx455_inb : ∀ (v171 : IVec S16 32) (k1_hw455 : k1_chk455 v171), ∀ a x, ((![v171] : Fin 1 → IVec S16 32) a x).toNat < S38912.size a := fun v171 k1_hw455 => k1_hw455
def k1_off458 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v172 : Index := Scalar.indexCast arg9
  let c112 : Index := 112#32
  ![v172.toNat, 112]

def k1_chk456 (v173 : IVec S16 32) : Prop :=
  (∀ a x, ((![v173] : Fin 1 → IVec S16 32) a x).toNat < S38912.size a)
theorem k1_idx456_inb : ∀ (v173 : IVec S16 32) (k1_hw456 : k1_chk456 v173), ∀ a x, ((![v173] : Fin 1 → IVec S16 32) a x).toNat < S38912.size a := fun v173 k1_hw456 => k1_hw456
def k1_off459 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v174 : Index := Scalar.indexCast arg9
  let c128 : Index := 128#32
  ![v174.toNat, 128]

def k1_chk457 (v175 : IVec S16 32) : Prop :=
  (∀ a x, ((![v175] : Fin 1 → IVec S16 32) a x).toNat < S38912.size a)
theorem k1_idx457_inb : ∀ (v175 : IVec S16 32) (k1_hw457 : k1_chk457 v175), ∀ a x, ((![v175] : Fin 1 → IVec S16 32) a x).toNat < S38912.size a := fun v175 k1_hw457 => k1_hw457
def k1_off460 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v176 : Index := Scalar.indexCast arg9
  let c144 : Index := 144#32
  ![v176.toNat, 144]

def k1_chk458 (v177 : IVec S16 32) : Prop :=
  (∀ a x, ((![v177] : Fin 1 → IVec S16 32) a x).toNat < S38912.size a)
theorem k1_idx458_inb : ∀ (v177 : IVec S16 32) (k1_hw458 : k1_chk458 v177), ∀ a x, ((![v177] : Fin 1 → IVec S16 32) a x).toNat < S38912.size a := fun v177 k1_hw458 => k1_hw458
def k1_off461 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v178 : Index := Scalar.indexCast arg9
  let c160 : Index := 160#32
  ![v178.toNat, 160]

def k1_chk459 (v179 : IVec S16 32) : Prop :=
  (∀ a x, ((![v179] : Fin 1 → IVec S16 32) a x).toNat < S38912.size a)
theorem k1_idx459_inb : ∀ (v179 : IVec S16 32) (k1_hw459 : k1_chk459 v179), ∀ a x, ((![v179] : Fin 1 → IVec S16 32) a x).toNat < S38912.size a := fun v179 k1_hw459 => k1_hw459
def k1_off462 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v180 : Index := Scalar.indexCast arg9
  let c176 : Index := 176#32
  ![v180.toNat, 176]

def k1_chk460 (v181 : IVec S16 32) : Prop :=
  (∀ a x, ((![v181] : Fin 1 → IVec S16 32) a x).toNat < S38912.size a)
theorem k1_idx460_inb : ∀ (v181 : IVec S16 32) (k1_hw460 : k1_chk460 v181), ∀ a x, ((![v181] : Fin 1 → IVec S16 32) a x).toNat < S38912.size a := fun v181 k1_hw460 => k1_hw460
def k1_off463 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v182 : Index := Scalar.indexCast arg9
  let c192 : Index := 192#32
  ![v182.toNat, 192]

def k1_chk461 (v183 : IVec S16 32) : Prop :=
  (∀ a x, ((![v183] : Fin 1 → IVec S16 32) a x).toNat < S38912.size a)
theorem k1_idx461_inb : ∀ (v183 : IVec S16 32) (k1_hw461 : k1_chk461 v183), ∀ a x, ((![v183] : Fin 1 → IVec S16 32) a x).toNat < S38912.size a := fun v183 k1_hw461 => k1_hw461
def k1_off464 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v184 : Index := Scalar.indexCast arg9
  let c208 : Index := 208#32
  ![v184.toNat, 208]

def k1_chk462 (v185 : IVec S16 32) : Prop :=
  (∀ a x, ((![v185] : Fin 1 → IVec S16 32) a x).toNat < S38912.size a)
theorem k1_idx462_inb : ∀ (v185 : IVec S16 32) (k1_hw462 : k1_chk462 v185), ∀ a x, ((![v185] : Fin 1 → IVec S16 32) a x).toNat < S38912.size a := fun v185 k1_hw462 => k1_hw462
def k1_off465 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v186 : Index := Scalar.indexCast arg9
  let c224 : Index := 224#32
  ![v186.toNat, 224]

def k1_chk463 (v187 : IVec S16 32) : Prop :=
  (∀ a x, ((![v187] : Fin 1 → IVec S16 32) a x).toNat < S38912.size a)
theorem k1_idx463_inb : ∀ (v187 : IVec S16 32) (k1_hw463 : k1_chk463 v187), ∀ a x, ((![v187] : Fin 1 → IVec S16 32) a x).toNat < S38912.size a := fun v187 k1_hw463 => k1_hw463
def k1_off466 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v188 : Index := Scalar.indexCast arg9
  let c240 : Index := 240#32
  ![v188.toNat, 240]

def k1_chk464 (v189 : IVec S16 32) : Prop :=
  (∀ a x, ((![v189] : Fin 1 → IVec S16 32) a x).toNat < S38912.size a)
theorem k1_idx464_inb : ∀ (v189 : IVec S16 32) (k1_hw464 : k1_chk464 v189), ∀ a x, ((![v189] : Fin 1 → IVec S16 32) a x).toNat < S38912.size a := fun v189 k1_hw464 => k1_hw464
def k1_off467 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v190 : Index := Scalar.indexCast arg9
  let c256 : Index := 256#32
  ![v190.toNat, 256]

def k1_chk465 (v191 : IVec S16 32) : Prop :=
  (∀ a x, ((![v191] : Fin 1 → IVec S16 32) a x).toNat < S38912.size a)
theorem k1_idx465_inb : ∀ (v191 : IVec S16 32) (k1_hw465 : k1_chk465 v191), ∀ a x, ((![v191] : Fin 1 → IVec S16 32) a x).toNat < S38912.size a := fun v191 k1_hw465 => k1_hw465
def k1_off468 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v192 : Index := Scalar.indexCast arg9
  let c272 : Index := 272#32
  ![v192.toNat, 272]

def k1_chk466 (v193 : IVec S16 32) : Prop :=
  (∀ a x, ((![v193] : Fin 1 → IVec S16 32) a x).toNat < S38912.size a)
theorem k1_idx466_inb : ∀ (v193 : IVec S16 32) (k1_hw466 : k1_chk466 v193), ∀ a x, ((![v193] : Fin 1 → IVec S16 32) a x).toNat < S38912.size a := fun v193 k1_hw466 => k1_hw466
def k1_off469 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v194 : Index := Scalar.indexCast arg9
  let c288 : Index := 288#32
  ![v194.toNat, 288]

def k1_chk467 (v195 : IVec S16 32) : Prop :=
  (∀ a x, ((![v195] : Fin 1 → IVec S16 32) a x).toNat < S38912.size a)
theorem k1_idx467_inb : ∀ (v195 : IVec S16 32) (k1_hw467 : k1_chk467 v195), ∀ a x, ((![v195] : Fin 1 → IVec S16 32) a x).toNat < S38912.size a := fun v195 k1_hw467 => k1_hw467
def k1_off470 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v196 : Index := Scalar.indexCast arg9
  let c304 : Index := 304#32
  ![v196.toNat, 304]

def k1_chk468 (v197 : IVec S16 32) : Prop :=
  (∀ a x, ((![v197] : Fin 1 → IVec S16 32) a x).toNat < S38912.size a)
theorem k1_idx468_inb : ∀ (v197 : IVec S16 32) (k1_hw468 : k1_chk468 v197), ∀ a x, ((![v197] : Fin 1 → IVec S16 32) a x).toNat < S38912.size a := fun v197 k1_hw468 => k1_hw468
def k1_off471 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v198 : Index := Scalar.indexCast arg9
  let c320 : Index := 320#32
  ![v198.toNat, 320]

def k1_chk469 (v199 : IVec S16 32) : Prop :=
  (∀ a x, ((![v199] : Fin 1 → IVec S16 32) a x).toNat < S38912.size a)
theorem k1_idx469_inb : ∀ (v199 : IVec S16 32) (k1_hw469 : k1_chk469 v199), ∀ a x, ((![v199] : Fin 1 → IVec S16 32) a x).toNat < S38912.size a := fun v199 k1_hw469 => k1_hw469
def k1_off472 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v200 : Index := Scalar.indexCast arg9
  let c336 : Index := 336#32
  ![v200.toNat, 336]

def k1_chk470 (v201 : IVec S16 32) : Prop :=
  (∀ a x, ((![v201] : Fin 1 → IVec S16 32) a x).toNat < S38912.size a)
theorem k1_idx470_inb : ∀ (v201 : IVec S16 32) (k1_hw470 : k1_chk470 v201), ∀ a x, ((![v201] : Fin 1 → IVec S16 32) a x).toNat < S38912.size a := fun v201 k1_hw470 => k1_hw470
def k1_off473 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v202 : Index := Scalar.indexCast arg9
  let c352 : Index := 352#32
  ![v202.toNat, 352]

def k1_chk471 (v203 : IVec S16 32) : Prop :=
  (∀ a x, ((![v203] : Fin 1 → IVec S16 32) a x).toNat < S38912.size a)
theorem k1_idx471_inb : ∀ (v203 : IVec S16 32) (k1_hw471 : k1_chk471 v203), ∀ a x, ((![v203] : Fin 1 → IVec S16 32) a x).toNat < S38912.size a := fun v203 k1_hw471 => k1_hw471
def k1_off474 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v204 : Index := Scalar.indexCast arg9
  let c368 : Index := 368#32
  ![v204.toNat, 368]

def k1_chk472 (v205 : IVec S16 32) : Prop :=
  (∀ a x, ((![v205] : Fin 1 → IVec S16 32) a x).toNat < S38912.size a)
theorem k1_idx472_inb : ∀ (v205 : IVec S16 32) (k1_hw472 : k1_chk472 v205), ∀ a x, ((![v205] : Fin 1 → IVec S16 32) a x).toNat < S38912.size a := fun v205 k1_hw472 => k1_hw472
def k1_off475 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v206 : Index := Scalar.indexCast arg9
  let c384 : Index := 384#32
  ![v206.toNat, 384]

def k1_chk473 (v207 : IVec S16 32) : Prop :=
  (∀ a x, ((![v207] : Fin 1 → IVec S16 32) a x).toNat < S38912.size a)
theorem k1_idx473_inb : ∀ (v207 : IVec S16 32) (k1_hw473 : k1_chk473 v207), ∀ a x, ((![v207] : Fin 1 → IVec S16 32) a x).toNat < S38912.size a := fun v207 k1_hw473 => k1_hw473
def k1_off476 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v208 : Index := Scalar.indexCast arg9
  let c400 : Index := 400#32
  ![v208.toNat, 400]

def k1_chk474 (v209 : IVec S16 32) : Prop :=
  (∀ a x, ((![v209] : Fin 1 → IVec S16 32) a x).toNat < S38912.size a)
theorem k1_idx474_inb : ∀ (v209 : IVec S16 32) (k1_hw474 : k1_chk474 v209), ∀ a x, ((![v209] : Fin 1 → IVec S16 32) a x).toNat < S38912.size a := fun v209 k1_hw474 => k1_hw474
def k1_off477 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v210 : Index := Scalar.indexCast arg9
  let c416 : Index := 416#32
  ![v210.toNat, 416]

def k1_chk475 (v211 : IVec S16 32) : Prop :=
  (∀ a x, ((![v211] : Fin 1 → IVec S16 32) a x).toNat < S38912.size a)
theorem k1_idx475_inb : ∀ (v211 : IVec S16 32) (k1_hw475 : k1_chk475 v211), ∀ a x, ((![v211] : Fin 1 → IVec S16 32) a x).toNat < S38912.size a := fun v211 k1_hw475 => k1_hw475
def k1_off478 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v212 : Index := Scalar.indexCast arg9
  let c432 : Index := 432#32
  ![v212.toNat, 432]

def k1_chk476 (v213 : IVec S16 32) : Prop :=
  (∀ a x, ((![v213] : Fin 1 → IVec S16 32) a x).toNat < S38912.size a)
theorem k1_idx476_inb : ∀ (v213 : IVec S16 32) (k1_hw476 : k1_chk476 v213), ∀ a x, ((![v213] : Fin 1 → IVec S16 32) a x).toNat < S38912.size a := fun v213 k1_hw476 => k1_hw476
def k1_off479 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v214 : Index := Scalar.indexCast arg9
  let c448 : Index := 448#32
  ![v214.toNat, 448]

def k1_chk477 (v215 : IVec S16 32) : Prop :=
  (∀ a x, ((![v215] : Fin 1 → IVec S16 32) a x).toNat < S38912.size a)
theorem k1_idx477_inb : ∀ (v215 : IVec S16 32) (k1_hw477 : k1_chk477 v215), ∀ a x, ((![v215] : Fin 1 → IVec S16 32) a x).toNat < S38912.size a := fun v215 k1_hw477 => k1_hw477
def k1_off480 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v216 : Index := Scalar.indexCast arg9
  let c464 : Index := 464#32
  ![v216.toNat, 464]

def k1_chk478 (v217 : IVec S16 32) : Prop :=
  (∀ a x, ((![v217] : Fin 1 → IVec S16 32) a x).toNat < S38912.size a)
theorem k1_idx478_inb : ∀ (v217 : IVec S16 32) (k1_hw478 : k1_chk478 v217), ∀ a x, ((![v217] : Fin 1 → IVec S16 32) a x).toNat < S38912.size a := fun v217 k1_hw478 => k1_hw478
def k1_off481 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v218 : Index := Scalar.indexCast arg9
  let c480 : Index := 480#32
  ![v218.toNat, 480]

def k1_chk479 (v219 : IVec S16 32) : Prop :=
  (∀ a x, ((![v219] : Fin 1 → IVec S16 32) a x).toNat < S38912.size a)
theorem k1_idx479_inb : ∀ (v219 : IVec S16 32) (k1_hw479 : k1_chk479 v219), ∀ a x, ((![v219] : Fin 1 → IVec S16 32) a x).toNat < S38912.size a := fun v219 k1_hw479 => k1_hw479
def k1_off482 (k1_t16 : Fin k1_t16_loop.trips) : Fin 2 → Nat :=
  let c0_i32_152 : BitVec 32 := 0#32
  let c1_i32_154 : BitVec 32 := 1#32
  let arg9 : BitVec 32 := Scf.iv c0_i32_152 c1_i32_154 k1_t16
  let v220 : Index := Scalar.indexCast arg9
  let c496 : Index := 496#32
  ![v220.toNat, 496]

def k1_chk480 (v221 : IVec S16 32) : Prop :=
  (∀ a x, ((![v221] : Fin 1 → IVec S16 32) a x).toNat < S38912.size a)
theorem k1_idx480_inb : ∀ (v221 : IVec S16 32) (k1_hw480 : k1_chk480 v221), ∀ a x, ((![v221] : Fin 1 → IVec S16 32) a x).toNat < S38912.size a := fun v221 k1_hw480 => k1_hw480
@[reducible] def k1_t17_loop : Scf.Loop 32 :=
  let c0_i32_162 : BitVec 32 := 0#32
  let c64_i32_163 : BitVec 32 := 64#32
  let v135 : BitVec 32 := Scalar.addi c0_i32_162 c64_i32_163
  let c1_i32_164 : BitVec 32 := 1#32
  ⟨c0_i32_162, v135, c1_i32_164⟩
def k1_off483 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v158 : Index := Scalar.indexCast arg9
  let c0 : Index := 0#32
  ![v158.toNat, 0]

def k1_chk481 (v159 : IVec S16 32) : Prop :=
  (∀ a x, ((![v159] : Fin 1 → IVec S16 32) a x).toNat < S38912.size a)
theorem k1_idx481_inb : ∀ (v159 : IVec S16 32) (k1_hw481 : k1_chk481 v159), ∀ a x, ((![v159] : Fin 1 → IVec S16 32) a x).toNat < S38912.size a := fun v159 k1_hw481 => k1_hw481
def k1_off484 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v160 : Index := Scalar.indexCast arg9
  let c16 : Index := 16#32
  ![v160.toNat, 16]

def k1_chk482 (v161 : IVec S16 32) : Prop :=
  (∀ a x, ((![v161] : Fin 1 → IVec S16 32) a x).toNat < S38912.size a)
theorem k1_idx482_inb : ∀ (v161 : IVec S16 32) (k1_hw482 : k1_chk482 v161), ∀ a x, ((![v161] : Fin 1 → IVec S16 32) a x).toNat < S38912.size a := fun v161 k1_hw482 => k1_hw482
def k1_off485 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v162 : Index := Scalar.indexCast arg9
  let c32 : Index := 32#32
  ![v162.toNat, 32]

def k1_chk483 (v163 : IVec S16 32) : Prop :=
  (∀ a x, ((![v163] : Fin 1 → IVec S16 32) a x).toNat < S38912.size a)
theorem k1_idx483_inb : ∀ (v163 : IVec S16 32) (k1_hw483 : k1_chk483 v163), ∀ a x, ((![v163] : Fin 1 → IVec S16 32) a x).toNat < S38912.size a := fun v163 k1_hw483 => k1_hw483
def k1_off486 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v164 : Index := Scalar.indexCast arg9
  let c48 : Index := 48#32
  ![v164.toNat, 48]

def k1_chk484 (v165 : IVec S16 32) : Prop :=
  (∀ a x, ((![v165] : Fin 1 → IVec S16 32) a x).toNat < S38912.size a)
theorem k1_idx484_inb : ∀ (v165 : IVec S16 32) (k1_hw484 : k1_chk484 v165), ∀ a x, ((![v165] : Fin 1 → IVec S16 32) a x).toNat < S38912.size a := fun v165 k1_hw484 => k1_hw484
def k1_off487 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v166 : Index := Scalar.indexCast arg9
  let c64 : Index := 64#32
  ![v166.toNat, 64]

def k1_chk485 (v167 : IVec S16 32) : Prop :=
  (∀ a x, ((![v167] : Fin 1 → IVec S16 32) a x).toNat < S38912.size a)
theorem k1_idx485_inb : ∀ (v167 : IVec S16 32) (k1_hw485 : k1_chk485 v167), ∀ a x, ((![v167] : Fin 1 → IVec S16 32) a x).toNat < S38912.size a := fun v167 k1_hw485 => k1_hw485
def k1_off488 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v168 : Index := Scalar.indexCast arg9
  let c80 : Index := 80#32
  ![v168.toNat, 80]

def k1_chk486 (v169 : IVec S16 32) : Prop :=
  (∀ a x, ((![v169] : Fin 1 → IVec S16 32) a x).toNat < S38912.size a)
theorem k1_idx486_inb : ∀ (v169 : IVec S16 32) (k1_hw486 : k1_chk486 v169), ∀ a x, ((![v169] : Fin 1 → IVec S16 32) a x).toNat < S38912.size a := fun v169 k1_hw486 => k1_hw486
def k1_off489 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v170 : Index := Scalar.indexCast arg9
  let c96 : Index := 96#32
  ![v170.toNat, 96]

def k1_chk487 (v171 : IVec S16 32) : Prop :=
  (∀ a x, ((![v171] : Fin 1 → IVec S16 32) a x).toNat < S38912.size a)
theorem k1_idx487_inb : ∀ (v171 : IVec S16 32) (k1_hw487 : k1_chk487 v171), ∀ a x, ((![v171] : Fin 1 → IVec S16 32) a x).toNat < S38912.size a := fun v171 k1_hw487 => k1_hw487
def k1_off490 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v172 : Index := Scalar.indexCast arg9
  let c112 : Index := 112#32
  ![v172.toNat, 112]

def k1_chk488 (v173 : IVec S16 32) : Prop :=
  (∀ a x, ((![v173] : Fin 1 → IVec S16 32) a x).toNat < S38912.size a)
theorem k1_idx488_inb : ∀ (v173 : IVec S16 32) (k1_hw488 : k1_chk488 v173), ∀ a x, ((![v173] : Fin 1 → IVec S16 32) a x).toNat < S38912.size a := fun v173 k1_hw488 => k1_hw488
def k1_off491 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v174 : Index := Scalar.indexCast arg9
  let c128 : Index := 128#32
  ![v174.toNat, 128]

def k1_chk489 (v175 : IVec S16 32) : Prop :=
  (∀ a x, ((![v175] : Fin 1 → IVec S16 32) a x).toNat < S38912.size a)
theorem k1_idx489_inb : ∀ (v175 : IVec S16 32) (k1_hw489 : k1_chk489 v175), ∀ a x, ((![v175] : Fin 1 → IVec S16 32) a x).toNat < S38912.size a := fun v175 k1_hw489 => k1_hw489
def k1_off492 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v176 : Index := Scalar.indexCast arg9
  let c144 : Index := 144#32
  ![v176.toNat, 144]

def k1_chk490 (v177 : IVec S16 32) : Prop :=
  (∀ a x, ((![v177] : Fin 1 → IVec S16 32) a x).toNat < S38912.size a)
theorem k1_idx490_inb : ∀ (v177 : IVec S16 32) (k1_hw490 : k1_chk490 v177), ∀ a x, ((![v177] : Fin 1 → IVec S16 32) a x).toNat < S38912.size a := fun v177 k1_hw490 => k1_hw490
def k1_off493 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v178 : Index := Scalar.indexCast arg9
  let c160 : Index := 160#32
  ![v178.toNat, 160]

def k1_chk491 (v179 : IVec S16 32) : Prop :=
  (∀ a x, ((![v179] : Fin 1 → IVec S16 32) a x).toNat < S38912.size a)
theorem k1_idx491_inb : ∀ (v179 : IVec S16 32) (k1_hw491 : k1_chk491 v179), ∀ a x, ((![v179] : Fin 1 → IVec S16 32) a x).toNat < S38912.size a := fun v179 k1_hw491 => k1_hw491
def k1_off494 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v180 : Index := Scalar.indexCast arg9
  let c176 : Index := 176#32
  ![v180.toNat, 176]

def k1_chk492 (v181 : IVec S16 32) : Prop :=
  (∀ a x, ((![v181] : Fin 1 → IVec S16 32) a x).toNat < S38912.size a)
theorem k1_idx492_inb : ∀ (v181 : IVec S16 32) (k1_hw492 : k1_chk492 v181), ∀ a x, ((![v181] : Fin 1 → IVec S16 32) a x).toNat < S38912.size a := fun v181 k1_hw492 => k1_hw492
def k1_off495 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v182 : Index := Scalar.indexCast arg9
  let c192 : Index := 192#32
  ![v182.toNat, 192]

def k1_chk493 (v183 : IVec S16 32) : Prop :=
  (∀ a x, ((![v183] : Fin 1 → IVec S16 32) a x).toNat < S38912.size a)
theorem k1_idx493_inb : ∀ (v183 : IVec S16 32) (k1_hw493 : k1_chk493 v183), ∀ a x, ((![v183] : Fin 1 → IVec S16 32) a x).toNat < S38912.size a := fun v183 k1_hw493 => k1_hw493
def k1_off496 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v184 : Index := Scalar.indexCast arg9
  let c208 : Index := 208#32
  ![v184.toNat, 208]

def k1_chk494 (v185 : IVec S16 32) : Prop :=
  (∀ a x, ((![v185] : Fin 1 → IVec S16 32) a x).toNat < S38912.size a)
theorem k1_idx494_inb : ∀ (v185 : IVec S16 32) (k1_hw494 : k1_chk494 v185), ∀ a x, ((![v185] : Fin 1 → IVec S16 32) a x).toNat < S38912.size a := fun v185 k1_hw494 => k1_hw494
def k1_off497 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v186 : Index := Scalar.indexCast arg9
  let c224 : Index := 224#32
  ![v186.toNat, 224]

def k1_chk495 (v187 : IVec S16 32) : Prop :=
  (∀ a x, ((![v187] : Fin 1 → IVec S16 32) a x).toNat < S38912.size a)
theorem k1_idx495_inb : ∀ (v187 : IVec S16 32) (k1_hw495 : k1_chk495 v187), ∀ a x, ((![v187] : Fin 1 → IVec S16 32) a x).toNat < S38912.size a := fun v187 k1_hw495 => k1_hw495
def k1_off498 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v188 : Index := Scalar.indexCast arg9
  let c240 : Index := 240#32
  ![v188.toNat, 240]

def k1_chk496 (v189 : IVec S16 32) : Prop :=
  (∀ a x, ((![v189] : Fin 1 → IVec S16 32) a x).toNat < S38912.size a)
theorem k1_idx496_inb : ∀ (v189 : IVec S16 32) (k1_hw496 : k1_chk496 v189), ∀ a x, ((![v189] : Fin 1 → IVec S16 32) a x).toNat < S38912.size a := fun v189 k1_hw496 => k1_hw496
def k1_off499 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v190 : Index := Scalar.indexCast arg9
  let c256 : Index := 256#32
  ![v190.toNat, 256]

def k1_chk497 (v191 : IVec S16 32) : Prop :=
  (∀ a x, ((![v191] : Fin 1 → IVec S16 32) a x).toNat < S38912.size a)
theorem k1_idx497_inb : ∀ (v191 : IVec S16 32) (k1_hw497 : k1_chk497 v191), ∀ a x, ((![v191] : Fin 1 → IVec S16 32) a x).toNat < S38912.size a := fun v191 k1_hw497 => k1_hw497
def k1_off500 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v192 : Index := Scalar.indexCast arg9
  let c272 : Index := 272#32
  ![v192.toNat, 272]

def k1_chk498 (v193 : IVec S16 32) : Prop :=
  (∀ a x, ((![v193] : Fin 1 → IVec S16 32) a x).toNat < S38912.size a)
theorem k1_idx498_inb : ∀ (v193 : IVec S16 32) (k1_hw498 : k1_chk498 v193), ∀ a x, ((![v193] : Fin 1 → IVec S16 32) a x).toNat < S38912.size a := fun v193 k1_hw498 => k1_hw498
def k1_off501 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v194 : Index := Scalar.indexCast arg9
  let c288 : Index := 288#32
  ![v194.toNat, 288]

def k1_chk499 (v195 : IVec S16 32) : Prop :=
  (∀ a x, ((![v195] : Fin 1 → IVec S16 32) a x).toNat < S38912.size a)
theorem k1_idx499_inb : ∀ (v195 : IVec S16 32) (k1_hw499 : k1_chk499 v195), ∀ a x, ((![v195] : Fin 1 → IVec S16 32) a x).toNat < S38912.size a := fun v195 k1_hw499 => k1_hw499
def k1_off502 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v196 : Index := Scalar.indexCast arg9
  let c304 : Index := 304#32
  ![v196.toNat, 304]

def k1_chk500 (v197 : IVec S16 32) : Prop :=
  (∀ a x, ((![v197] : Fin 1 → IVec S16 32) a x).toNat < S38912.size a)
theorem k1_idx500_inb : ∀ (v197 : IVec S16 32) (k1_hw500 : k1_chk500 v197), ∀ a x, ((![v197] : Fin 1 → IVec S16 32) a x).toNat < S38912.size a := fun v197 k1_hw500 => k1_hw500
def k1_off503 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v198 : Index := Scalar.indexCast arg9
  let c320 : Index := 320#32
  ![v198.toNat, 320]

def k1_chk501 (v199 : IVec S16 32) : Prop :=
  (∀ a x, ((![v199] : Fin 1 → IVec S16 32) a x).toNat < S38912.size a)
theorem k1_idx501_inb : ∀ (v199 : IVec S16 32) (k1_hw501 : k1_chk501 v199), ∀ a x, ((![v199] : Fin 1 → IVec S16 32) a x).toNat < S38912.size a := fun v199 k1_hw501 => k1_hw501
def k1_off504 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v200 : Index := Scalar.indexCast arg9
  let c336 : Index := 336#32
  ![v200.toNat, 336]

def k1_chk502 (v201 : IVec S16 32) : Prop :=
  (∀ a x, ((![v201] : Fin 1 → IVec S16 32) a x).toNat < S38912.size a)
theorem k1_idx502_inb : ∀ (v201 : IVec S16 32) (k1_hw502 : k1_chk502 v201), ∀ a x, ((![v201] : Fin 1 → IVec S16 32) a x).toNat < S38912.size a := fun v201 k1_hw502 => k1_hw502
def k1_off505 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v202 : Index := Scalar.indexCast arg9
  let c352 : Index := 352#32
  ![v202.toNat, 352]

def k1_chk503 (v203 : IVec S16 32) : Prop :=
  (∀ a x, ((![v203] : Fin 1 → IVec S16 32) a x).toNat < S38912.size a)
theorem k1_idx503_inb : ∀ (v203 : IVec S16 32) (k1_hw503 : k1_chk503 v203), ∀ a x, ((![v203] : Fin 1 → IVec S16 32) a x).toNat < S38912.size a := fun v203 k1_hw503 => k1_hw503
def k1_off506 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v204 : Index := Scalar.indexCast arg9
  let c368 : Index := 368#32
  ![v204.toNat, 368]

def k1_chk504 (v205 : IVec S16 32) : Prop :=
  (∀ a x, ((![v205] : Fin 1 → IVec S16 32) a x).toNat < S38912.size a)
theorem k1_idx504_inb : ∀ (v205 : IVec S16 32) (k1_hw504 : k1_chk504 v205), ∀ a x, ((![v205] : Fin 1 → IVec S16 32) a x).toNat < S38912.size a := fun v205 k1_hw504 => k1_hw504
def k1_off507 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v206 : Index := Scalar.indexCast arg9
  let c384 : Index := 384#32
  ![v206.toNat, 384]

def k1_chk505 (v207 : IVec S16 32) : Prop :=
  (∀ a x, ((![v207] : Fin 1 → IVec S16 32) a x).toNat < S38912.size a)
theorem k1_idx505_inb : ∀ (v207 : IVec S16 32) (k1_hw505 : k1_chk505 v207), ∀ a x, ((![v207] : Fin 1 → IVec S16 32) a x).toNat < S38912.size a := fun v207 k1_hw505 => k1_hw505
def k1_off508 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v208 : Index := Scalar.indexCast arg9
  let c400 : Index := 400#32
  ![v208.toNat, 400]

def k1_chk506 (v209 : IVec S16 32) : Prop :=
  (∀ a x, ((![v209] : Fin 1 → IVec S16 32) a x).toNat < S38912.size a)
theorem k1_idx506_inb : ∀ (v209 : IVec S16 32) (k1_hw506 : k1_chk506 v209), ∀ a x, ((![v209] : Fin 1 → IVec S16 32) a x).toNat < S38912.size a := fun v209 k1_hw506 => k1_hw506
def k1_off509 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v210 : Index := Scalar.indexCast arg9
  let c416 : Index := 416#32
  ![v210.toNat, 416]

def k1_chk507 (v211 : IVec S16 32) : Prop :=
  (∀ a x, ((![v211] : Fin 1 → IVec S16 32) a x).toNat < S38912.size a)
theorem k1_idx507_inb : ∀ (v211 : IVec S16 32) (k1_hw507 : k1_chk507 v211), ∀ a x, ((![v211] : Fin 1 → IVec S16 32) a x).toNat < S38912.size a := fun v211 k1_hw507 => k1_hw507
def k1_off510 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v212 : Index := Scalar.indexCast arg9
  let c432 : Index := 432#32
  ![v212.toNat, 432]

def k1_chk508 (v213 : IVec S16 32) : Prop :=
  (∀ a x, ((![v213] : Fin 1 → IVec S16 32) a x).toNat < S38912.size a)
theorem k1_idx508_inb : ∀ (v213 : IVec S16 32) (k1_hw508 : k1_chk508 v213), ∀ a x, ((![v213] : Fin 1 → IVec S16 32) a x).toNat < S38912.size a := fun v213 k1_hw508 => k1_hw508
def k1_off511 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v214 : Index := Scalar.indexCast arg9
  let c448 : Index := 448#32
  ![v214.toNat, 448]

def k1_chk509 (v215 : IVec S16 32) : Prop :=
  (∀ a x, ((![v215] : Fin 1 → IVec S16 32) a x).toNat < S38912.size a)
theorem k1_idx509_inb : ∀ (v215 : IVec S16 32) (k1_hw509 : k1_chk509 v215), ∀ a x, ((![v215] : Fin 1 → IVec S16 32) a x).toNat < S38912.size a := fun v215 k1_hw509 => k1_hw509
def k1_off512 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v216 : Index := Scalar.indexCast arg9
  let c464 : Index := 464#32
  ![v216.toNat, 464]

def k1_chk510 (v217 : IVec S16 32) : Prop :=
  (∀ a x, ((![v217] : Fin 1 → IVec S16 32) a x).toNat < S38912.size a)
theorem k1_idx510_inb : ∀ (v217 : IVec S16 32) (k1_hw510 : k1_chk510 v217), ∀ a x, ((![v217] : Fin 1 → IVec S16 32) a x).toNat < S38912.size a := fun v217 k1_hw510 => k1_hw510
def k1_off513 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v218 : Index := Scalar.indexCast arg9
  let c480 : Index := 480#32
  ![v218.toNat, 480]

def k1_chk511 (v219 : IVec S16 32) : Prop :=
  (∀ a x, ((![v219] : Fin 1 → IVec S16 32) a x).toNat < S38912.size a)
theorem k1_idx511_inb : ∀ (v219 : IVec S16 32) (k1_hw511 : k1_chk511 v219), ∀ a x, ((![v219] : Fin 1 → IVec S16 32) a x).toNat < S38912.size a := fun v219 k1_hw511 => k1_hw511
def k1_off514 (k1_t17 : Fin k1_t17_loop.trips) : Fin 2 → Nat :=
  let c0_i32_162 : BitVec 32 := 0#32
  let c1_i32_164 : BitVec 32 := 1#32
  let arg9 : BitVec 32 := Scf.iv c0_i32_162 c1_i32_164 k1_t17
  let v220 : Index := Scalar.indexCast arg9
  let c496 : Index := 496#32
  ![v220.toNat, 496]

def k1_chk512 (v221 : IVec S16 32) : Prop :=
  (∀ a x, ((![v221] : Fin 1 → IVec S16 32) a x).toNat < S38912.size a)
theorem k1_idx512_inb : ∀ (v221 : IVec S16 32) (k1_hw512 : k1_chk512 v221), ∀ a x, ((![v221] : Fin 1 → IVec S16 32) a x).toNat < S38912.size a := fun v221 k1_hw512 => k1_hw512
@[reducible] def k1_t18_loop : Scf.Loop 32 :=
  let c0_i32_172 : BitVec 32 := 0#32
  let c64_i32_173 : BitVec 32 := 64#32
  let v143 : BitVec 32 := Scalar.addi c0_i32_172 c64_i32_173
  let c1_i32_174 : BitVec 32 := 1#32
  ⟨c0_i32_172, v143, c1_i32_174⟩
def k1_off515 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v158 : Index := Scalar.indexCast arg9
  let c0 : Index := 0#32
  ![v158.toNat, 0]

def k1_chk513 (v159 : IVec S16 32) : Prop :=
  (∀ a x, ((![v159] : Fin 1 → IVec S16 32) a x).toNat < S38912.size a)
theorem k1_idx513_inb : ∀ (v159 : IVec S16 32) (k1_hw513 : k1_chk513 v159), ∀ a x, ((![v159] : Fin 1 → IVec S16 32) a x).toNat < S38912.size a := fun v159 k1_hw513 => k1_hw513
def k1_off516 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v160 : Index := Scalar.indexCast arg9
  let c16 : Index := 16#32
  ![v160.toNat, 16]

def k1_chk514 (v161 : IVec S16 32) : Prop :=
  (∀ a x, ((![v161] : Fin 1 → IVec S16 32) a x).toNat < S38912.size a)
theorem k1_idx514_inb : ∀ (v161 : IVec S16 32) (k1_hw514 : k1_chk514 v161), ∀ a x, ((![v161] : Fin 1 → IVec S16 32) a x).toNat < S38912.size a := fun v161 k1_hw514 => k1_hw514
def k1_off517 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v162 : Index := Scalar.indexCast arg9
  let c32 : Index := 32#32
  ![v162.toNat, 32]

def k1_chk515 (v163 : IVec S16 32) : Prop :=
  (∀ a x, ((![v163] : Fin 1 → IVec S16 32) a x).toNat < S38912.size a)
theorem k1_idx515_inb : ∀ (v163 : IVec S16 32) (k1_hw515 : k1_chk515 v163), ∀ a x, ((![v163] : Fin 1 → IVec S16 32) a x).toNat < S38912.size a := fun v163 k1_hw515 => k1_hw515
def k1_off518 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v164 : Index := Scalar.indexCast arg9
  let c48 : Index := 48#32
  ![v164.toNat, 48]

def k1_chk516 (v165 : IVec S16 32) : Prop :=
  (∀ a x, ((![v165] : Fin 1 → IVec S16 32) a x).toNat < S38912.size a)
theorem k1_idx516_inb : ∀ (v165 : IVec S16 32) (k1_hw516 : k1_chk516 v165), ∀ a x, ((![v165] : Fin 1 → IVec S16 32) a x).toNat < S38912.size a := fun v165 k1_hw516 => k1_hw516
def k1_off519 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v166 : Index := Scalar.indexCast arg9
  let c64 : Index := 64#32
  ![v166.toNat, 64]

def k1_chk517 (v167 : IVec S16 32) : Prop :=
  (∀ a x, ((![v167] : Fin 1 → IVec S16 32) a x).toNat < S38912.size a)
theorem k1_idx517_inb : ∀ (v167 : IVec S16 32) (k1_hw517 : k1_chk517 v167), ∀ a x, ((![v167] : Fin 1 → IVec S16 32) a x).toNat < S38912.size a := fun v167 k1_hw517 => k1_hw517
def k1_off520 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v168 : Index := Scalar.indexCast arg9
  let c80 : Index := 80#32
  ![v168.toNat, 80]

def k1_chk518 (v169 : IVec S16 32) : Prop :=
  (∀ a x, ((![v169] : Fin 1 → IVec S16 32) a x).toNat < S38912.size a)
theorem k1_idx518_inb : ∀ (v169 : IVec S16 32) (k1_hw518 : k1_chk518 v169), ∀ a x, ((![v169] : Fin 1 → IVec S16 32) a x).toNat < S38912.size a := fun v169 k1_hw518 => k1_hw518
def k1_off521 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v170 : Index := Scalar.indexCast arg9
  let c96 : Index := 96#32
  ![v170.toNat, 96]

def k1_chk519 (v171 : IVec S16 32) : Prop :=
  (∀ a x, ((![v171] : Fin 1 → IVec S16 32) a x).toNat < S38912.size a)
theorem k1_idx519_inb : ∀ (v171 : IVec S16 32) (k1_hw519 : k1_chk519 v171), ∀ a x, ((![v171] : Fin 1 → IVec S16 32) a x).toNat < S38912.size a := fun v171 k1_hw519 => k1_hw519
def k1_off522 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v172 : Index := Scalar.indexCast arg9
  let c112 : Index := 112#32
  ![v172.toNat, 112]

def k1_chk520 (v173 : IVec S16 32) : Prop :=
  (∀ a x, ((![v173] : Fin 1 → IVec S16 32) a x).toNat < S38912.size a)
theorem k1_idx520_inb : ∀ (v173 : IVec S16 32) (k1_hw520 : k1_chk520 v173), ∀ a x, ((![v173] : Fin 1 → IVec S16 32) a x).toNat < S38912.size a := fun v173 k1_hw520 => k1_hw520
def k1_off523 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v174 : Index := Scalar.indexCast arg9
  let c128 : Index := 128#32
  ![v174.toNat, 128]

def k1_chk521 (v175 : IVec S16 32) : Prop :=
  (∀ a x, ((![v175] : Fin 1 → IVec S16 32) a x).toNat < S38912.size a)
theorem k1_idx521_inb : ∀ (v175 : IVec S16 32) (k1_hw521 : k1_chk521 v175), ∀ a x, ((![v175] : Fin 1 → IVec S16 32) a x).toNat < S38912.size a := fun v175 k1_hw521 => k1_hw521
def k1_off524 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v176 : Index := Scalar.indexCast arg9
  let c144 : Index := 144#32
  ![v176.toNat, 144]

def k1_chk522 (v177 : IVec S16 32) : Prop :=
  (∀ a x, ((![v177] : Fin 1 → IVec S16 32) a x).toNat < S38912.size a)
theorem k1_idx522_inb : ∀ (v177 : IVec S16 32) (k1_hw522 : k1_chk522 v177), ∀ a x, ((![v177] : Fin 1 → IVec S16 32) a x).toNat < S38912.size a := fun v177 k1_hw522 => k1_hw522
def k1_off525 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v178 : Index := Scalar.indexCast arg9
  let c160 : Index := 160#32
  ![v178.toNat, 160]

def k1_chk523 (v179 : IVec S16 32) : Prop :=
  (∀ a x, ((![v179] : Fin 1 → IVec S16 32) a x).toNat < S38912.size a)
theorem k1_idx523_inb : ∀ (v179 : IVec S16 32) (k1_hw523 : k1_chk523 v179), ∀ a x, ((![v179] : Fin 1 → IVec S16 32) a x).toNat < S38912.size a := fun v179 k1_hw523 => k1_hw523
def k1_off526 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v180 : Index := Scalar.indexCast arg9
  let c176 : Index := 176#32
  ![v180.toNat, 176]

def k1_chk524 (v181 : IVec S16 32) : Prop :=
  (∀ a x, ((![v181] : Fin 1 → IVec S16 32) a x).toNat < S38912.size a)
theorem k1_idx524_inb : ∀ (v181 : IVec S16 32) (k1_hw524 : k1_chk524 v181), ∀ a x, ((![v181] : Fin 1 → IVec S16 32) a x).toNat < S38912.size a := fun v181 k1_hw524 => k1_hw524
def k1_off527 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v182 : Index := Scalar.indexCast arg9
  let c192 : Index := 192#32
  ![v182.toNat, 192]

def k1_chk525 (v183 : IVec S16 32) : Prop :=
  (∀ a x, ((![v183] : Fin 1 → IVec S16 32) a x).toNat < S38912.size a)
theorem k1_idx525_inb : ∀ (v183 : IVec S16 32) (k1_hw525 : k1_chk525 v183), ∀ a x, ((![v183] : Fin 1 → IVec S16 32) a x).toNat < S38912.size a := fun v183 k1_hw525 => k1_hw525
def k1_off528 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v184 : Index := Scalar.indexCast arg9
  let c208 : Index := 208#32
  ![v184.toNat, 208]

def k1_chk526 (v185 : IVec S16 32) : Prop :=
  (∀ a x, ((![v185] : Fin 1 → IVec S16 32) a x).toNat < S38912.size a)
theorem k1_idx526_inb : ∀ (v185 : IVec S16 32) (k1_hw526 : k1_chk526 v185), ∀ a x, ((![v185] : Fin 1 → IVec S16 32) a x).toNat < S38912.size a := fun v185 k1_hw526 => k1_hw526
def k1_off529 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v186 : Index := Scalar.indexCast arg9
  let c224 : Index := 224#32
  ![v186.toNat, 224]

def k1_chk527 (v187 : IVec S16 32) : Prop :=
  (∀ a x, ((![v187] : Fin 1 → IVec S16 32) a x).toNat < S38912.size a)
theorem k1_idx527_inb : ∀ (v187 : IVec S16 32) (k1_hw527 : k1_chk527 v187), ∀ a x, ((![v187] : Fin 1 → IVec S16 32) a x).toNat < S38912.size a := fun v187 k1_hw527 => k1_hw527
def k1_off530 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v188 : Index := Scalar.indexCast arg9
  let c240 : Index := 240#32
  ![v188.toNat, 240]

def k1_chk528 (v189 : IVec S16 32) : Prop :=
  (∀ a x, ((![v189] : Fin 1 → IVec S16 32) a x).toNat < S38912.size a)
theorem k1_idx528_inb : ∀ (v189 : IVec S16 32) (k1_hw528 : k1_chk528 v189), ∀ a x, ((![v189] : Fin 1 → IVec S16 32) a x).toNat < S38912.size a := fun v189 k1_hw528 => k1_hw528
def k1_off531 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v190 : Index := Scalar.indexCast arg9
  let c256 : Index := 256#32
  ![v190.toNat, 256]

def k1_chk529 (v191 : IVec S16 32) : Prop :=
  (∀ a x, ((![v191] : Fin 1 → IVec S16 32) a x).toNat < S38912.size a)
theorem k1_idx529_inb : ∀ (v191 : IVec S16 32) (k1_hw529 : k1_chk529 v191), ∀ a x, ((![v191] : Fin 1 → IVec S16 32) a x).toNat < S38912.size a := fun v191 k1_hw529 => k1_hw529
def k1_off532 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v192 : Index := Scalar.indexCast arg9
  let c272 : Index := 272#32
  ![v192.toNat, 272]

def k1_chk530 (v193 : IVec S16 32) : Prop :=
  (∀ a x, ((![v193] : Fin 1 → IVec S16 32) a x).toNat < S38912.size a)
theorem k1_idx530_inb : ∀ (v193 : IVec S16 32) (k1_hw530 : k1_chk530 v193), ∀ a x, ((![v193] : Fin 1 → IVec S16 32) a x).toNat < S38912.size a := fun v193 k1_hw530 => k1_hw530
def k1_off533 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v194 : Index := Scalar.indexCast arg9
  let c288 : Index := 288#32
  ![v194.toNat, 288]

def k1_chk531 (v195 : IVec S16 32) : Prop :=
  (∀ a x, ((![v195] : Fin 1 → IVec S16 32) a x).toNat < S38912.size a)
theorem k1_idx531_inb : ∀ (v195 : IVec S16 32) (k1_hw531 : k1_chk531 v195), ∀ a x, ((![v195] : Fin 1 → IVec S16 32) a x).toNat < S38912.size a := fun v195 k1_hw531 => k1_hw531
def k1_off534 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v196 : Index := Scalar.indexCast arg9
  let c304 : Index := 304#32
  ![v196.toNat, 304]

def k1_chk532 (v197 : IVec S16 32) : Prop :=
  (∀ a x, ((![v197] : Fin 1 → IVec S16 32) a x).toNat < S38912.size a)
theorem k1_idx532_inb : ∀ (v197 : IVec S16 32) (k1_hw532 : k1_chk532 v197), ∀ a x, ((![v197] : Fin 1 → IVec S16 32) a x).toNat < S38912.size a := fun v197 k1_hw532 => k1_hw532
def k1_off535 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v198 : Index := Scalar.indexCast arg9
  let c320 : Index := 320#32
  ![v198.toNat, 320]

def k1_chk533 (v199 : IVec S16 32) : Prop :=
  (∀ a x, ((![v199] : Fin 1 → IVec S16 32) a x).toNat < S38912.size a)
theorem k1_idx533_inb : ∀ (v199 : IVec S16 32) (k1_hw533 : k1_chk533 v199), ∀ a x, ((![v199] : Fin 1 → IVec S16 32) a x).toNat < S38912.size a := fun v199 k1_hw533 => k1_hw533
def k1_off536 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v200 : Index := Scalar.indexCast arg9
  let c336 : Index := 336#32
  ![v200.toNat, 336]

def k1_chk534 (v201 : IVec S16 32) : Prop :=
  (∀ a x, ((![v201] : Fin 1 → IVec S16 32) a x).toNat < S38912.size a)
theorem k1_idx534_inb : ∀ (v201 : IVec S16 32) (k1_hw534 : k1_chk534 v201), ∀ a x, ((![v201] : Fin 1 → IVec S16 32) a x).toNat < S38912.size a := fun v201 k1_hw534 => k1_hw534
def k1_off537 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v202 : Index := Scalar.indexCast arg9
  let c352 : Index := 352#32
  ![v202.toNat, 352]

def k1_chk535 (v203 : IVec S16 32) : Prop :=
  (∀ a x, ((![v203] : Fin 1 → IVec S16 32) a x).toNat < S38912.size a)
theorem k1_idx535_inb : ∀ (v203 : IVec S16 32) (k1_hw535 : k1_chk535 v203), ∀ a x, ((![v203] : Fin 1 → IVec S16 32) a x).toNat < S38912.size a := fun v203 k1_hw535 => k1_hw535
def k1_off538 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v204 : Index := Scalar.indexCast arg9
  let c368 : Index := 368#32
  ![v204.toNat, 368]

def k1_chk536 (v205 : IVec S16 32) : Prop :=
  (∀ a x, ((![v205] : Fin 1 → IVec S16 32) a x).toNat < S38912.size a)
theorem k1_idx536_inb : ∀ (v205 : IVec S16 32) (k1_hw536 : k1_chk536 v205), ∀ a x, ((![v205] : Fin 1 → IVec S16 32) a x).toNat < S38912.size a := fun v205 k1_hw536 => k1_hw536
def k1_off539 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v206 : Index := Scalar.indexCast arg9
  let c384 : Index := 384#32
  ![v206.toNat, 384]

def k1_chk537 (v207 : IVec S16 32) : Prop :=
  (∀ a x, ((![v207] : Fin 1 → IVec S16 32) a x).toNat < S38912.size a)
theorem k1_idx537_inb : ∀ (v207 : IVec S16 32) (k1_hw537 : k1_chk537 v207), ∀ a x, ((![v207] : Fin 1 → IVec S16 32) a x).toNat < S38912.size a := fun v207 k1_hw537 => k1_hw537
def k1_off540 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v208 : Index := Scalar.indexCast arg9
  let c400 : Index := 400#32
  ![v208.toNat, 400]

def k1_chk538 (v209 : IVec S16 32) : Prop :=
  (∀ a x, ((![v209] : Fin 1 → IVec S16 32) a x).toNat < S38912.size a)
theorem k1_idx538_inb : ∀ (v209 : IVec S16 32) (k1_hw538 : k1_chk538 v209), ∀ a x, ((![v209] : Fin 1 → IVec S16 32) a x).toNat < S38912.size a := fun v209 k1_hw538 => k1_hw538
def k1_off541 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v210 : Index := Scalar.indexCast arg9
  let c416 : Index := 416#32
  ![v210.toNat, 416]

def k1_chk539 (v211 : IVec S16 32) : Prop :=
  (∀ a x, ((![v211] : Fin 1 → IVec S16 32) a x).toNat < S38912.size a)
theorem k1_idx539_inb : ∀ (v211 : IVec S16 32) (k1_hw539 : k1_chk539 v211), ∀ a x, ((![v211] : Fin 1 → IVec S16 32) a x).toNat < S38912.size a := fun v211 k1_hw539 => k1_hw539
def k1_off542 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v212 : Index := Scalar.indexCast arg9
  let c432 : Index := 432#32
  ![v212.toNat, 432]

def k1_chk540 (v213 : IVec S16 32) : Prop :=
  (∀ a x, ((![v213] : Fin 1 → IVec S16 32) a x).toNat < S38912.size a)
theorem k1_idx540_inb : ∀ (v213 : IVec S16 32) (k1_hw540 : k1_chk540 v213), ∀ a x, ((![v213] : Fin 1 → IVec S16 32) a x).toNat < S38912.size a := fun v213 k1_hw540 => k1_hw540
def k1_off543 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v214 : Index := Scalar.indexCast arg9
  let c448 : Index := 448#32
  ![v214.toNat, 448]

def k1_chk541 (v215 : IVec S16 32) : Prop :=
  (∀ a x, ((![v215] : Fin 1 → IVec S16 32) a x).toNat < S38912.size a)
theorem k1_idx541_inb : ∀ (v215 : IVec S16 32) (k1_hw541 : k1_chk541 v215), ∀ a x, ((![v215] : Fin 1 → IVec S16 32) a x).toNat < S38912.size a := fun v215 k1_hw541 => k1_hw541
def k1_off544 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v216 : Index := Scalar.indexCast arg9
  let c464 : Index := 464#32
  ![v216.toNat, 464]

def k1_chk542 (v217 : IVec S16 32) : Prop :=
  (∀ a x, ((![v217] : Fin 1 → IVec S16 32) a x).toNat < S38912.size a)
theorem k1_idx542_inb : ∀ (v217 : IVec S16 32) (k1_hw542 : k1_chk542 v217), ∀ a x, ((![v217] : Fin 1 → IVec S16 32) a x).toNat < S38912.size a := fun v217 k1_hw542 => k1_hw542
def k1_off545 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v218 : Index := Scalar.indexCast arg9
  let c480 : Index := 480#32
  ![v218.toNat, 480]

def k1_chk543 (v219 : IVec S16 32) : Prop :=
  (∀ a x, ((![v219] : Fin 1 → IVec S16 32) a x).toNat < S38912.size a)
theorem k1_idx543_inb : ∀ (v219 : IVec S16 32) (k1_hw543 : k1_chk543 v219), ∀ a x, ((![v219] : Fin 1 → IVec S16 32) a x).toNat < S38912.size a := fun v219 k1_hw543 => k1_hw543
def k1_off546 (k1_t18 : Fin k1_t18_loop.trips) : Fin 2 → Nat :=
  let c0_i32_172 : BitVec 32 := 0#32
  let c1_i32_174 : BitVec 32 := 1#32
  let arg9 : BitVec 32 := Scf.iv c0_i32_172 c1_i32_174 k1_t18
  let v220 : Index := Scalar.indexCast arg9
  let c496 : Index := 496#32
  ![v220.toNat, 496]

def k1_chk544 (v221 : IVec S16 32) : Prop :=
  (∀ a x, ((![v221] : Fin 1 → IVec S16 32) a x).toNat < S38912.size a)
theorem k1_idx544_inb : ∀ (v221 : IVec S16 32) (k1_hw544 : k1_chk544 v221), ∀ a x, ((![v221] : Fin 1 → IVec S16 32) a x).toNat < S38912.size a := fun v221 k1_hw544 => k1_hw544
@[reducible] def k1_t19_loop : Scf.Loop 32 :=
  let c0_i32_182 : BitVec 32 := 0#32
  let c64_i32_183 : BitVec 32 := 64#32
  let v151 : BitVec 32 := Scalar.addi c0_i32_182 c64_i32_183
  let c1_i32_184 : BitVec 32 := 1#32
  ⟨c0_i32_182, v151, c1_i32_184⟩
def k1_off547 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v158 : Index := Scalar.indexCast arg9
  let c0 : Index := 0#32
  ![v158.toNat, 0]

def k1_chk545 (v159 : IVec S16 32) : Prop :=
  (∀ a x, ((![v159] : Fin 1 → IVec S16 32) a x).toNat < S38912.size a)
theorem k1_idx545_inb : ∀ (v159 : IVec S16 32) (k1_hw545 : k1_chk545 v159), ∀ a x, ((![v159] : Fin 1 → IVec S16 32) a x).toNat < S38912.size a := fun v159 k1_hw545 => k1_hw545
def k1_off548 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v160 : Index := Scalar.indexCast arg9
  let c16 : Index := 16#32
  ![v160.toNat, 16]

def k1_chk546 (v161 : IVec S16 32) : Prop :=
  (∀ a x, ((![v161] : Fin 1 → IVec S16 32) a x).toNat < S38912.size a)
theorem k1_idx546_inb : ∀ (v161 : IVec S16 32) (k1_hw546 : k1_chk546 v161), ∀ a x, ((![v161] : Fin 1 → IVec S16 32) a x).toNat < S38912.size a := fun v161 k1_hw546 => k1_hw546
def k1_off549 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v162 : Index := Scalar.indexCast arg9
  let c32 : Index := 32#32
  ![v162.toNat, 32]

def k1_chk547 (v163 : IVec S16 32) : Prop :=
  (∀ a x, ((![v163] : Fin 1 → IVec S16 32) a x).toNat < S38912.size a)
theorem k1_idx547_inb : ∀ (v163 : IVec S16 32) (k1_hw547 : k1_chk547 v163), ∀ a x, ((![v163] : Fin 1 → IVec S16 32) a x).toNat < S38912.size a := fun v163 k1_hw547 => k1_hw547
def k1_off550 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v164 : Index := Scalar.indexCast arg9
  let c48 : Index := 48#32
  ![v164.toNat, 48]

def k1_chk548 (v165 : IVec S16 32) : Prop :=
  (∀ a x, ((![v165] : Fin 1 → IVec S16 32) a x).toNat < S38912.size a)
theorem k1_idx548_inb : ∀ (v165 : IVec S16 32) (k1_hw548 : k1_chk548 v165), ∀ a x, ((![v165] : Fin 1 → IVec S16 32) a x).toNat < S38912.size a := fun v165 k1_hw548 => k1_hw548
def k1_off551 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v166 : Index := Scalar.indexCast arg9
  let c64 : Index := 64#32
  ![v166.toNat, 64]

def k1_chk549 (v167 : IVec S16 32) : Prop :=
  (∀ a x, ((![v167] : Fin 1 → IVec S16 32) a x).toNat < S38912.size a)
theorem k1_idx549_inb : ∀ (v167 : IVec S16 32) (k1_hw549 : k1_chk549 v167), ∀ a x, ((![v167] : Fin 1 → IVec S16 32) a x).toNat < S38912.size a := fun v167 k1_hw549 => k1_hw549
def k1_off552 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v168 : Index := Scalar.indexCast arg9
  let c80 : Index := 80#32
  ![v168.toNat, 80]

def k1_chk550 (v169 : IVec S16 32) : Prop :=
  (∀ a x, ((![v169] : Fin 1 → IVec S16 32) a x).toNat < S38912.size a)
theorem k1_idx550_inb : ∀ (v169 : IVec S16 32) (k1_hw550 : k1_chk550 v169), ∀ a x, ((![v169] : Fin 1 → IVec S16 32) a x).toNat < S38912.size a := fun v169 k1_hw550 => k1_hw550
def k1_off553 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v170 : Index := Scalar.indexCast arg9
  let c96 : Index := 96#32
  ![v170.toNat, 96]

def k1_chk551 (v171 : IVec S16 32) : Prop :=
  (∀ a x, ((![v171] : Fin 1 → IVec S16 32) a x).toNat < S38912.size a)
theorem k1_idx551_inb : ∀ (v171 : IVec S16 32) (k1_hw551 : k1_chk551 v171), ∀ a x, ((![v171] : Fin 1 → IVec S16 32) a x).toNat < S38912.size a := fun v171 k1_hw551 => k1_hw551
def k1_off554 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v172 : Index := Scalar.indexCast arg9
  let c112 : Index := 112#32
  ![v172.toNat, 112]

def k1_chk552 (v173 : IVec S16 32) : Prop :=
  (∀ a x, ((![v173] : Fin 1 → IVec S16 32) a x).toNat < S38912.size a)
theorem k1_idx552_inb : ∀ (v173 : IVec S16 32) (k1_hw552 : k1_chk552 v173), ∀ a x, ((![v173] : Fin 1 → IVec S16 32) a x).toNat < S38912.size a := fun v173 k1_hw552 => k1_hw552
def k1_off555 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v174 : Index := Scalar.indexCast arg9
  let c128 : Index := 128#32
  ![v174.toNat, 128]

def k1_chk553 (v175 : IVec S16 32) : Prop :=
  (∀ a x, ((![v175] : Fin 1 → IVec S16 32) a x).toNat < S38912.size a)
theorem k1_idx553_inb : ∀ (v175 : IVec S16 32) (k1_hw553 : k1_chk553 v175), ∀ a x, ((![v175] : Fin 1 → IVec S16 32) a x).toNat < S38912.size a := fun v175 k1_hw553 => k1_hw553
def k1_off556 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v176 : Index := Scalar.indexCast arg9
  let c144 : Index := 144#32
  ![v176.toNat, 144]

def k1_chk554 (v177 : IVec S16 32) : Prop :=
  (∀ a x, ((![v177] : Fin 1 → IVec S16 32) a x).toNat < S38912.size a)
theorem k1_idx554_inb : ∀ (v177 : IVec S16 32) (k1_hw554 : k1_chk554 v177), ∀ a x, ((![v177] : Fin 1 → IVec S16 32) a x).toNat < S38912.size a := fun v177 k1_hw554 => k1_hw554
def k1_off557 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v178 : Index := Scalar.indexCast arg9
  let c160 : Index := 160#32
  ![v178.toNat, 160]

def k1_chk555 (v179 : IVec S16 32) : Prop :=
  (∀ a x, ((![v179] : Fin 1 → IVec S16 32) a x).toNat < S38912.size a)
theorem k1_idx555_inb : ∀ (v179 : IVec S16 32) (k1_hw555 : k1_chk555 v179), ∀ a x, ((![v179] : Fin 1 → IVec S16 32) a x).toNat < S38912.size a := fun v179 k1_hw555 => k1_hw555
def k1_off558 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v180 : Index := Scalar.indexCast arg9
  let c176 : Index := 176#32
  ![v180.toNat, 176]

def k1_chk556 (v181 : IVec S16 32) : Prop :=
  (∀ a x, ((![v181] : Fin 1 → IVec S16 32) a x).toNat < S38912.size a)
theorem k1_idx556_inb : ∀ (v181 : IVec S16 32) (k1_hw556 : k1_chk556 v181), ∀ a x, ((![v181] : Fin 1 → IVec S16 32) a x).toNat < S38912.size a := fun v181 k1_hw556 => k1_hw556
def k1_off559 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v182 : Index := Scalar.indexCast arg9
  let c192 : Index := 192#32
  ![v182.toNat, 192]

def k1_chk557 (v183 : IVec S16 32) : Prop :=
  (∀ a x, ((![v183] : Fin 1 → IVec S16 32) a x).toNat < S38912.size a)
theorem k1_idx557_inb : ∀ (v183 : IVec S16 32) (k1_hw557 : k1_chk557 v183), ∀ a x, ((![v183] : Fin 1 → IVec S16 32) a x).toNat < S38912.size a := fun v183 k1_hw557 => k1_hw557
def k1_off560 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v184 : Index := Scalar.indexCast arg9
  let c208 : Index := 208#32
  ![v184.toNat, 208]

def k1_chk558 (v185 : IVec S16 32) : Prop :=
  (∀ a x, ((![v185] : Fin 1 → IVec S16 32) a x).toNat < S38912.size a)
theorem k1_idx558_inb : ∀ (v185 : IVec S16 32) (k1_hw558 : k1_chk558 v185), ∀ a x, ((![v185] : Fin 1 → IVec S16 32) a x).toNat < S38912.size a := fun v185 k1_hw558 => k1_hw558
def k1_off561 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v186 : Index := Scalar.indexCast arg9
  let c224 : Index := 224#32
  ![v186.toNat, 224]

def k1_chk559 (v187 : IVec S16 32) : Prop :=
  (∀ a x, ((![v187] : Fin 1 → IVec S16 32) a x).toNat < S38912.size a)
theorem k1_idx559_inb : ∀ (v187 : IVec S16 32) (k1_hw559 : k1_chk559 v187), ∀ a x, ((![v187] : Fin 1 → IVec S16 32) a x).toNat < S38912.size a := fun v187 k1_hw559 => k1_hw559
def k1_off562 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v188 : Index := Scalar.indexCast arg9
  let c240 : Index := 240#32
  ![v188.toNat, 240]

def k1_chk560 (v189 : IVec S16 32) : Prop :=
  (∀ a x, ((![v189] : Fin 1 → IVec S16 32) a x).toNat < S38912.size a)
theorem k1_idx560_inb : ∀ (v189 : IVec S16 32) (k1_hw560 : k1_chk560 v189), ∀ a x, ((![v189] : Fin 1 → IVec S16 32) a x).toNat < S38912.size a := fun v189 k1_hw560 => k1_hw560
def k1_off563 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v190 : Index := Scalar.indexCast arg9
  let c256 : Index := 256#32
  ![v190.toNat, 256]

def k1_chk561 (v191 : IVec S16 32) : Prop :=
  (∀ a x, ((![v191] : Fin 1 → IVec S16 32) a x).toNat < S38912.size a)
theorem k1_idx561_inb : ∀ (v191 : IVec S16 32) (k1_hw561 : k1_chk561 v191), ∀ a x, ((![v191] : Fin 1 → IVec S16 32) a x).toNat < S38912.size a := fun v191 k1_hw561 => k1_hw561
def k1_off564 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v192 : Index := Scalar.indexCast arg9
  let c272 : Index := 272#32
  ![v192.toNat, 272]

def k1_chk562 (v193 : IVec S16 32) : Prop :=
  (∀ a x, ((![v193] : Fin 1 → IVec S16 32) a x).toNat < S38912.size a)
theorem k1_idx562_inb : ∀ (v193 : IVec S16 32) (k1_hw562 : k1_chk562 v193), ∀ a x, ((![v193] : Fin 1 → IVec S16 32) a x).toNat < S38912.size a := fun v193 k1_hw562 => k1_hw562
def k1_off565 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v194 : Index := Scalar.indexCast arg9
  let c288 : Index := 288#32
  ![v194.toNat, 288]

def k1_chk563 (v195 : IVec S16 32) : Prop :=
  (∀ a x, ((![v195] : Fin 1 → IVec S16 32) a x).toNat < S38912.size a)
theorem k1_idx563_inb : ∀ (v195 : IVec S16 32) (k1_hw563 : k1_chk563 v195), ∀ a x, ((![v195] : Fin 1 → IVec S16 32) a x).toNat < S38912.size a := fun v195 k1_hw563 => k1_hw563
def k1_off566 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v196 : Index := Scalar.indexCast arg9
  let c304 : Index := 304#32
  ![v196.toNat, 304]

def k1_chk564 (v197 : IVec S16 32) : Prop :=
  (∀ a x, ((![v197] : Fin 1 → IVec S16 32) a x).toNat < S38912.size a)
theorem k1_idx564_inb : ∀ (v197 : IVec S16 32) (k1_hw564 : k1_chk564 v197), ∀ a x, ((![v197] : Fin 1 → IVec S16 32) a x).toNat < S38912.size a := fun v197 k1_hw564 => k1_hw564
def k1_off567 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v198 : Index := Scalar.indexCast arg9
  let c320 : Index := 320#32
  ![v198.toNat, 320]

def k1_chk565 (v199 : IVec S16 32) : Prop :=
  (∀ a x, ((![v199] : Fin 1 → IVec S16 32) a x).toNat < S38912.size a)
theorem k1_idx565_inb : ∀ (v199 : IVec S16 32) (k1_hw565 : k1_chk565 v199), ∀ a x, ((![v199] : Fin 1 → IVec S16 32) a x).toNat < S38912.size a := fun v199 k1_hw565 => k1_hw565
def k1_off568 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v200 : Index := Scalar.indexCast arg9
  let c336 : Index := 336#32
  ![v200.toNat, 336]

def k1_chk566 (v201 : IVec S16 32) : Prop :=
  (∀ a x, ((![v201] : Fin 1 → IVec S16 32) a x).toNat < S38912.size a)
theorem k1_idx566_inb : ∀ (v201 : IVec S16 32) (k1_hw566 : k1_chk566 v201), ∀ a x, ((![v201] : Fin 1 → IVec S16 32) a x).toNat < S38912.size a := fun v201 k1_hw566 => k1_hw566
def k1_off569 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v202 : Index := Scalar.indexCast arg9
  let c352 : Index := 352#32
  ![v202.toNat, 352]

def k1_chk567 (v203 : IVec S16 32) : Prop :=
  (∀ a x, ((![v203] : Fin 1 → IVec S16 32) a x).toNat < S38912.size a)
theorem k1_idx567_inb : ∀ (v203 : IVec S16 32) (k1_hw567 : k1_chk567 v203), ∀ a x, ((![v203] : Fin 1 → IVec S16 32) a x).toNat < S38912.size a := fun v203 k1_hw567 => k1_hw567
def k1_off570 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v204 : Index := Scalar.indexCast arg9
  let c368 : Index := 368#32
  ![v204.toNat, 368]

def k1_chk568 (v205 : IVec S16 32) : Prop :=
  (∀ a x, ((![v205] : Fin 1 → IVec S16 32) a x).toNat < S38912.size a)
theorem k1_idx568_inb : ∀ (v205 : IVec S16 32) (k1_hw568 : k1_chk568 v205), ∀ a x, ((![v205] : Fin 1 → IVec S16 32) a x).toNat < S38912.size a := fun v205 k1_hw568 => k1_hw568
def k1_off571 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v206 : Index := Scalar.indexCast arg9
  let c384 : Index := 384#32
  ![v206.toNat, 384]

def k1_chk569 (v207 : IVec S16 32) : Prop :=
  (∀ a x, ((![v207] : Fin 1 → IVec S16 32) a x).toNat < S38912.size a)
theorem k1_idx569_inb : ∀ (v207 : IVec S16 32) (k1_hw569 : k1_chk569 v207), ∀ a x, ((![v207] : Fin 1 → IVec S16 32) a x).toNat < S38912.size a := fun v207 k1_hw569 => k1_hw569
def k1_off572 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v208 : Index := Scalar.indexCast arg9
  let c400 : Index := 400#32
  ![v208.toNat, 400]

def k1_chk570 (v209 : IVec S16 32) : Prop :=
  (∀ a x, ((![v209] : Fin 1 → IVec S16 32) a x).toNat < S38912.size a)
theorem k1_idx570_inb : ∀ (v209 : IVec S16 32) (k1_hw570 : k1_chk570 v209), ∀ a x, ((![v209] : Fin 1 → IVec S16 32) a x).toNat < S38912.size a := fun v209 k1_hw570 => k1_hw570
def k1_off573 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v210 : Index := Scalar.indexCast arg9
  let c416 : Index := 416#32
  ![v210.toNat, 416]

def k1_chk571 (v211 : IVec S16 32) : Prop :=
  (∀ a x, ((![v211] : Fin 1 → IVec S16 32) a x).toNat < S38912.size a)
theorem k1_idx571_inb : ∀ (v211 : IVec S16 32) (k1_hw571 : k1_chk571 v211), ∀ a x, ((![v211] : Fin 1 → IVec S16 32) a x).toNat < S38912.size a := fun v211 k1_hw571 => k1_hw571
def k1_off574 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v212 : Index := Scalar.indexCast arg9
  let c432 : Index := 432#32
  ![v212.toNat, 432]

def k1_chk572 (v213 : IVec S16 32) : Prop :=
  (∀ a x, ((![v213] : Fin 1 → IVec S16 32) a x).toNat < S38912.size a)
theorem k1_idx572_inb : ∀ (v213 : IVec S16 32) (k1_hw572 : k1_chk572 v213), ∀ a x, ((![v213] : Fin 1 → IVec S16 32) a x).toNat < S38912.size a := fun v213 k1_hw572 => k1_hw572
def k1_off575 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v214 : Index := Scalar.indexCast arg9
  let c448 : Index := 448#32
  ![v214.toNat, 448]

def k1_chk573 (v215 : IVec S16 32) : Prop :=
  (∀ a x, ((![v215] : Fin 1 → IVec S16 32) a x).toNat < S38912.size a)
theorem k1_idx573_inb : ∀ (v215 : IVec S16 32) (k1_hw573 : k1_chk573 v215), ∀ a x, ((![v215] : Fin 1 → IVec S16 32) a x).toNat < S38912.size a := fun v215 k1_hw573 => k1_hw573
def k1_off576 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v216 : Index := Scalar.indexCast arg9
  let c464 : Index := 464#32
  ![v216.toNat, 464]

def k1_chk574 (v217 : IVec S16 32) : Prop :=
  (∀ a x, ((![v217] : Fin 1 → IVec S16 32) a x).toNat < S38912.size a)
theorem k1_idx574_inb : ∀ (v217 : IVec S16 32) (k1_hw574 : k1_chk574 v217), ∀ a x, ((![v217] : Fin 1 → IVec S16 32) a x).toNat < S38912.size a := fun v217 k1_hw574 => k1_hw574
def k1_off577 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v218 : Index := Scalar.indexCast arg9
  let c480 : Index := 480#32
  ![v218.toNat, 480]

def k1_chk575 (v219 : IVec S16 32) : Prop :=
  (∀ a x, ((![v219] : Fin 1 → IVec S16 32) a x).toNat < S38912.size a)
theorem k1_idx575_inb : ∀ (v219 : IVec S16 32) (k1_hw575 : k1_chk575 v219), ∀ a x, ((![v219] : Fin 1 → IVec S16 32) a x).toNat < S38912.size a := fun v219 k1_hw575 => k1_hw575
def k1_off578 (k1_t19 : Fin k1_t19_loop.trips) : Fin 2 → Nat :=
  let c0_i32_182 : BitVec 32 := 0#32
  let c1_i32_184 : BitVec 32 := 1#32
  let arg9 : BitVec 32 := Scf.iv c0_i32_182 c1_i32_184 k1_t19
  let v220 : Index := Scalar.indexCast arg9
  let c496 : Index := 496#32
  ![v220.toNat, 496]

def k1_chk576 (v221 : IVec S16 32) : Prop :=
  (∀ a x, ((![v221] : Fin 1 → IVec S16 32) a x).toNat < S38912.size a)
theorem k1_idx576_inb : ∀ (v221 : IVec S16 32) (k1_hw576 : k1_chk576 v221), ∀ a x, ((![v221] : Fin 1 → IVec S16 32) a x).toNat < S38912.size a := fun v221 k1_hw576 => k1_hw576
@[reducible] def k1_t20_loop : Scf.Loop 32 :=
  let c0_i32_190 : BitVec 32 := 0#32
  let c64_i32_191 : BitVec 32 := 64#32
  let v156 : BitVec 32 := Scalar.addi c0_i32_190 c64_i32_191
  let c1_i32_192 : BitVec 32 := 1#32
  ⟨c0_i32_190, v156, c1_i32_192⟩
def k1_off579 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v158 : Index := Scalar.indexCast arg9
  let c0 : Index := 0#32
  ![v158.toNat, 0]

def k1_chk577 (v159 : IVec S16 32) : Prop :=
  (∀ a x, ((![v159] : Fin 1 → IVec S16 32) a x).toNat < S38912.size a)
theorem k1_idx577_inb : ∀ (v159 : IVec S16 32) (k1_hw577 : k1_chk577 v159), ∀ a x, ((![v159] : Fin 1 → IVec S16 32) a x).toNat < S38912.size a := fun v159 k1_hw577 => k1_hw577
def k1_off580 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v160 : Index := Scalar.indexCast arg9
  let c16 : Index := 16#32
  ![v160.toNat, 16]

def k1_chk578 (v161 : IVec S16 32) : Prop :=
  (∀ a x, ((![v161] : Fin 1 → IVec S16 32) a x).toNat < S38912.size a)
theorem k1_idx578_inb : ∀ (v161 : IVec S16 32) (k1_hw578 : k1_chk578 v161), ∀ a x, ((![v161] : Fin 1 → IVec S16 32) a x).toNat < S38912.size a := fun v161 k1_hw578 => k1_hw578
def k1_off581 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v162 : Index := Scalar.indexCast arg9
  let c32 : Index := 32#32
  ![v162.toNat, 32]

def k1_chk579 (v163 : IVec S16 32) : Prop :=
  (∀ a x, ((![v163] : Fin 1 → IVec S16 32) a x).toNat < S38912.size a)
theorem k1_idx579_inb : ∀ (v163 : IVec S16 32) (k1_hw579 : k1_chk579 v163), ∀ a x, ((![v163] : Fin 1 → IVec S16 32) a x).toNat < S38912.size a := fun v163 k1_hw579 => k1_hw579
def k1_off582 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v164 : Index := Scalar.indexCast arg9
  let c48 : Index := 48#32
  ![v164.toNat, 48]

def k1_chk580 (v165 : IVec S16 32) : Prop :=
  (∀ a x, ((![v165] : Fin 1 → IVec S16 32) a x).toNat < S38912.size a)
theorem k1_idx580_inb : ∀ (v165 : IVec S16 32) (k1_hw580 : k1_chk580 v165), ∀ a x, ((![v165] : Fin 1 → IVec S16 32) a x).toNat < S38912.size a := fun v165 k1_hw580 => k1_hw580
def k1_off583 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v166 : Index := Scalar.indexCast arg9
  let c64 : Index := 64#32
  ![v166.toNat, 64]

def k1_chk581 (v167 : IVec S16 32) : Prop :=
  (∀ a x, ((![v167] : Fin 1 → IVec S16 32) a x).toNat < S38912.size a)
theorem k1_idx581_inb : ∀ (v167 : IVec S16 32) (k1_hw581 : k1_chk581 v167), ∀ a x, ((![v167] : Fin 1 → IVec S16 32) a x).toNat < S38912.size a := fun v167 k1_hw581 => k1_hw581
def k1_off584 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v168 : Index := Scalar.indexCast arg9
  let c80 : Index := 80#32
  ![v168.toNat, 80]

def k1_chk582 (v169 : IVec S16 32) : Prop :=
  (∀ a x, ((![v169] : Fin 1 → IVec S16 32) a x).toNat < S38912.size a)
theorem k1_idx582_inb : ∀ (v169 : IVec S16 32) (k1_hw582 : k1_chk582 v169), ∀ a x, ((![v169] : Fin 1 → IVec S16 32) a x).toNat < S38912.size a := fun v169 k1_hw582 => k1_hw582
def k1_off585 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v170 : Index := Scalar.indexCast arg9
  let c96 : Index := 96#32
  ![v170.toNat, 96]

def k1_chk583 (v171 : IVec S16 32) : Prop :=
  (∀ a x, ((![v171] : Fin 1 → IVec S16 32) a x).toNat < S38912.size a)
theorem k1_idx583_inb : ∀ (v171 : IVec S16 32) (k1_hw583 : k1_chk583 v171), ∀ a x, ((![v171] : Fin 1 → IVec S16 32) a x).toNat < S38912.size a := fun v171 k1_hw583 => k1_hw583
def k1_off586 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v172 : Index := Scalar.indexCast arg9
  let c112 : Index := 112#32
  ![v172.toNat, 112]

def k1_chk584 (v173 : IVec S16 32) : Prop :=
  (∀ a x, ((![v173] : Fin 1 → IVec S16 32) a x).toNat < S38912.size a)
theorem k1_idx584_inb : ∀ (v173 : IVec S16 32) (k1_hw584 : k1_chk584 v173), ∀ a x, ((![v173] : Fin 1 → IVec S16 32) a x).toNat < S38912.size a := fun v173 k1_hw584 => k1_hw584
def k1_off587 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v174 : Index := Scalar.indexCast arg9
  let c128 : Index := 128#32
  ![v174.toNat, 128]

def k1_chk585 (v175 : IVec S16 32) : Prop :=
  (∀ a x, ((![v175] : Fin 1 → IVec S16 32) a x).toNat < S38912.size a)
theorem k1_idx585_inb : ∀ (v175 : IVec S16 32) (k1_hw585 : k1_chk585 v175), ∀ a x, ((![v175] : Fin 1 → IVec S16 32) a x).toNat < S38912.size a := fun v175 k1_hw585 => k1_hw585
def k1_off588 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v176 : Index := Scalar.indexCast arg9
  let c144 : Index := 144#32
  ![v176.toNat, 144]

def k1_chk586 (v177 : IVec S16 32) : Prop :=
  (∀ a x, ((![v177] : Fin 1 → IVec S16 32) a x).toNat < S38912.size a)
theorem k1_idx586_inb : ∀ (v177 : IVec S16 32) (k1_hw586 : k1_chk586 v177), ∀ a x, ((![v177] : Fin 1 → IVec S16 32) a x).toNat < S38912.size a := fun v177 k1_hw586 => k1_hw586
def k1_off589 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v178 : Index := Scalar.indexCast arg9
  let c160 : Index := 160#32
  ![v178.toNat, 160]

def k1_chk587 (v179 : IVec S16 32) : Prop :=
  (∀ a x, ((![v179] : Fin 1 → IVec S16 32) a x).toNat < S38912.size a)
theorem k1_idx587_inb : ∀ (v179 : IVec S16 32) (k1_hw587 : k1_chk587 v179), ∀ a x, ((![v179] : Fin 1 → IVec S16 32) a x).toNat < S38912.size a := fun v179 k1_hw587 => k1_hw587
def k1_off590 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v180 : Index := Scalar.indexCast arg9
  let c176 : Index := 176#32
  ![v180.toNat, 176]

def k1_chk588 (v181 : IVec S16 32) : Prop :=
  (∀ a x, ((![v181] : Fin 1 → IVec S16 32) a x).toNat < S38912.size a)
theorem k1_idx588_inb : ∀ (v181 : IVec S16 32) (k1_hw588 : k1_chk588 v181), ∀ a x, ((![v181] : Fin 1 → IVec S16 32) a x).toNat < S38912.size a := fun v181 k1_hw588 => k1_hw588
def k1_off591 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v182 : Index := Scalar.indexCast arg9
  let c192 : Index := 192#32
  ![v182.toNat, 192]

def k1_chk589 (v183 : IVec S16 32) : Prop :=
  (∀ a x, ((![v183] : Fin 1 → IVec S16 32) a x).toNat < S38912.size a)
theorem k1_idx589_inb : ∀ (v183 : IVec S16 32) (k1_hw589 : k1_chk589 v183), ∀ a x, ((![v183] : Fin 1 → IVec S16 32) a x).toNat < S38912.size a := fun v183 k1_hw589 => k1_hw589
def k1_off592 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v184 : Index := Scalar.indexCast arg9
  let c208 : Index := 208#32
  ![v184.toNat, 208]

def k1_chk590 (v185 : IVec S16 32) : Prop :=
  (∀ a x, ((![v185] : Fin 1 → IVec S16 32) a x).toNat < S38912.size a)
theorem k1_idx590_inb : ∀ (v185 : IVec S16 32) (k1_hw590 : k1_chk590 v185), ∀ a x, ((![v185] : Fin 1 → IVec S16 32) a x).toNat < S38912.size a := fun v185 k1_hw590 => k1_hw590
def k1_off593 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v186 : Index := Scalar.indexCast arg9
  let c224 : Index := 224#32
  ![v186.toNat, 224]

def k1_chk591 (v187 : IVec S16 32) : Prop :=
  (∀ a x, ((![v187] : Fin 1 → IVec S16 32) a x).toNat < S38912.size a)
theorem k1_idx591_inb : ∀ (v187 : IVec S16 32) (k1_hw591 : k1_chk591 v187), ∀ a x, ((![v187] : Fin 1 → IVec S16 32) a x).toNat < S38912.size a := fun v187 k1_hw591 => k1_hw591
def k1_off594 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v188 : Index := Scalar.indexCast arg9
  let c240 : Index := 240#32
  ![v188.toNat, 240]

def k1_chk592 (v189 : IVec S16 32) : Prop :=
  (∀ a x, ((![v189] : Fin 1 → IVec S16 32) a x).toNat < S38912.size a)
theorem k1_idx592_inb : ∀ (v189 : IVec S16 32) (k1_hw592 : k1_chk592 v189), ∀ a x, ((![v189] : Fin 1 → IVec S16 32) a x).toNat < S38912.size a := fun v189 k1_hw592 => k1_hw592
def k1_off595 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v190 : Index := Scalar.indexCast arg9
  let c256 : Index := 256#32
  ![v190.toNat, 256]

def k1_chk593 (v191 : IVec S16 32) : Prop :=
  (∀ a x, ((![v191] : Fin 1 → IVec S16 32) a x).toNat < S38912.size a)
theorem k1_idx593_inb : ∀ (v191 : IVec S16 32) (k1_hw593 : k1_chk593 v191), ∀ a x, ((![v191] : Fin 1 → IVec S16 32) a x).toNat < S38912.size a := fun v191 k1_hw593 => k1_hw593
def k1_off596 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v192 : Index := Scalar.indexCast arg9
  let c272 : Index := 272#32
  ![v192.toNat, 272]

def k1_chk594 (v193 : IVec S16 32) : Prop :=
  (∀ a x, ((![v193] : Fin 1 → IVec S16 32) a x).toNat < S38912.size a)
theorem k1_idx594_inb : ∀ (v193 : IVec S16 32) (k1_hw594 : k1_chk594 v193), ∀ a x, ((![v193] : Fin 1 → IVec S16 32) a x).toNat < S38912.size a := fun v193 k1_hw594 => k1_hw594
def k1_off597 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v194 : Index := Scalar.indexCast arg9
  let c288 : Index := 288#32
  ![v194.toNat, 288]

def k1_chk595 (v195 : IVec S16 32) : Prop :=
  (∀ a x, ((![v195] : Fin 1 → IVec S16 32) a x).toNat < S38912.size a)
theorem k1_idx595_inb : ∀ (v195 : IVec S16 32) (k1_hw595 : k1_chk595 v195), ∀ a x, ((![v195] : Fin 1 → IVec S16 32) a x).toNat < S38912.size a := fun v195 k1_hw595 => k1_hw595
def k1_off598 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v196 : Index := Scalar.indexCast arg9
  let c304 : Index := 304#32
  ![v196.toNat, 304]

def k1_chk596 (v197 : IVec S16 32) : Prop :=
  (∀ a x, ((![v197] : Fin 1 → IVec S16 32) a x).toNat < S38912.size a)
theorem k1_idx596_inb : ∀ (v197 : IVec S16 32) (k1_hw596 : k1_chk596 v197), ∀ a x, ((![v197] : Fin 1 → IVec S16 32) a x).toNat < S38912.size a := fun v197 k1_hw596 => k1_hw596
def k1_off599 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v198 : Index := Scalar.indexCast arg9
  let c320 : Index := 320#32
  ![v198.toNat, 320]

def k1_chk597 (v199 : IVec S16 32) : Prop :=
  (∀ a x, ((![v199] : Fin 1 → IVec S16 32) a x).toNat < S38912.size a)
theorem k1_idx597_inb : ∀ (v199 : IVec S16 32) (k1_hw597 : k1_chk597 v199), ∀ a x, ((![v199] : Fin 1 → IVec S16 32) a x).toNat < S38912.size a := fun v199 k1_hw597 => k1_hw597
def k1_off600 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v200 : Index := Scalar.indexCast arg9
  let c336 : Index := 336#32
  ![v200.toNat, 336]

def k1_chk598 (v201 : IVec S16 32) : Prop :=
  (∀ a x, ((![v201] : Fin 1 → IVec S16 32) a x).toNat < S38912.size a)
theorem k1_idx598_inb : ∀ (v201 : IVec S16 32) (k1_hw598 : k1_chk598 v201), ∀ a x, ((![v201] : Fin 1 → IVec S16 32) a x).toNat < S38912.size a := fun v201 k1_hw598 => k1_hw598
def k1_off601 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v202 : Index := Scalar.indexCast arg9
  let c352 : Index := 352#32
  ![v202.toNat, 352]

def k1_chk599 (v203 : IVec S16 32) : Prop :=
  (∀ a x, ((![v203] : Fin 1 → IVec S16 32) a x).toNat < S38912.size a)
theorem k1_idx599_inb : ∀ (v203 : IVec S16 32) (k1_hw599 : k1_chk599 v203), ∀ a x, ((![v203] : Fin 1 → IVec S16 32) a x).toNat < S38912.size a := fun v203 k1_hw599 => k1_hw599
def k1_off602 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v204 : Index := Scalar.indexCast arg9
  let c368 : Index := 368#32
  ![v204.toNat, 368]

def k1_chk600 (v205 : IVec S16 32) : Prop :=
  (∀ a x, ((![v205] : Fin 1 → IVec S16 32) a x).toNat < S38912.size a)
theorem k1_idx600_inb : ∀ (v205 : IVec S16 32) (k1_hw600 : k1_chk600 v205), ∀ a x, ((![v205] : Fin 1 → IVec S16 32) a x).toNat < S38912.size a := fun v205 k1_hw600 => k1_hw600
def k1_off603 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v206 : Index := Scalar.indexCast arg9
  let c384 : Index := 384#32
  ![v206.toNat, 384]

def k1_chk601 (v207 : IVec S16 32) : Prop :=
  (∀ a x, ((![v207] : Fin 1 → IVec S16 32) a x).toNat < S38912.size a)
theorem k1_idx601_inb : ∀ (v207 : IVec S16 32) (k1_hw601 : k1_chk601 v207), ∀ a x, ((![v207] : Fin 1 → IVec S16 32) a x).toNat < S38912.size a := fun v207 k1_hw601 => k1_hw601
def k1_off604 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v208 : Index := Scalar.indexCast arg9
  let c400 : Index := 400#32
  ![v208.toNat, 400]

def k1_chk602 (v209 : IVec S16 32) : Prop :=
  (∀ a x, ((![v209] : Fin 1 → IVec S16 32) a x).toNat < S38912.size a)
theorem k1_idx602_inb : ∀ (v209 : IVec S16 32) (k1_hw602 : k1_chk602 v209), ∀ a x, ((![v209] : Fin 1 → IVec S16 32) a x).toNat < S38912.size a := fun v209 k1_hw602 => k1_hw602
def k1_off605 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v210 : Index := Scalar.indexCast arg9
  let c416 : Index := 416#32
  ![v210.toNat, 416]

def k1_chk603 (v211 : IVec S16 32) : Prop :=
  (∀ a x, ((![v211] : Fin 1 → IVec S16 32) a x).toNat < S38912.size a)
theorem k1_idx603_inb : ∀ (v211 : IVec S16 32) (k1_hw603 : k1_chk603 v211), ∀ a x, ((![v211] : Fin 1 → IVec S16 32) a x).toNat < S38912.size a := fun v211 k1_hw603 => k1_hw603
def k1_off606 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v212 : Index := Scalar.indexCast arg9
  let c432 : Index := 432#32
  ![v212.toNat, 432]

def k1_chk604 (v213 : IVec S16 32) : Prop :=
  (∀ a x, ((![v213] : Fin 1 → IVec S16 32) a x).toNat < S38912.size a)
theorem k1_idx604_inb : ∀ (v213 : IVec S16 32) (k1_hw604 : k1_chk604 v213), ∀ a x, ((![v213] : Fin 1 → IVec S16 32) a x).toNat < S38912.size a := fun v213 k1_hw604 => k1_hw604
def k1_off607 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v214 : Index := Scalar.indexCast arg9
  let c448 : Index := 448#32
  ![v214.toNat, 448]

def k1_chk605 (v215 : IVec S16 32) : Prop :=
  (∀ a x, ((![v215] : Fin 1 → IVec S16 32) a x).toNat < S38912.size a)
theorem k1_idx605_inb : ∀ (v215 : IVec S16 32) (k1_hw605 : k1_chk605 v215), ∀ a x, ((![v215] : Fin 1 → IVec S16 32) a x).toNat < S38912.size a := fun v215 k1_hw605 => k1_hw605
def k1_off608 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v216 : Index := Scalar.indexCast arg9
  let c464 : Index := 464#32
  ![v216.toNat, 464]

def k1_chk606 (v217 : IVec S16 32) : Prop :=
  (∀ a x, ((![v217] : Fin 1 → IVec S16 32) a x).toNat < S38912.size a)
theorem k1_idx606_inb : ∀ (v217 : IVec S16 32) (k1_hw606 : k1_chk606 v217), ∀ a x, ((![v217] : Fin 1 → IVec S16 32) a x).toNat < S38912.size a := fun v217 k1_hw606 => k1_hw606
def k1_off609 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v218 : Index := Scalar.indexCast arg9
  let c480 : Index := 480#32
  ![v218.toNat, 480]

def k1_chk607 (v219 : IVec S16 32) : Prop :=
  (∀ a x, ((![v219] : Fin 1 → IVec S16 32) a x).toNat < S38912.size a)
theorem k1_idx607_inb : ∀ (v219 : IVec S16 32) (k1_hw607 : k1_chk607 v219), ∀ a x, ((![v219] : Fin 1 → IVec S16 32) a x).toNat < S38912.size a := fun v219 k1_hw607 => k1_hw607
def k1_off610 (k1_t20 : Fin k1_t20_loop.trips) : Fin 2 → Nat :=
  let c0_i32_190 : BitVec 32 := 0#32
  let c1_i32_192 : BitVec 32 := 1#32
  let arg9 : BitVec 32 := Scf.iv c0_i32_190 c1_i32_192 k1_t20
  let v220 : Index := Scalar.indexCast arg9
  let c496 : Index := 496#32
  ![v220.toNat, 496]

def k1_chk608 (v221 : IVec S16 32) : Prop :=
  (∀ a x, ((![v221] : Fin 1 → IVec S16 32) a x).toNat < S38912.size a)
theorem k1_idx608_inb : ∀ (v221 : IVec S16 32) (k1_hw608 : k1_chk608 v221), ∀ a x, ((![v221] : Fin 1 → IVec S16 32) a x).toNat < S38912.size a := fun v221 k1_hw608 => k1_hw608
def k1_off611 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_194_r0 : BitVec 32 := 0#32
  ![v1.toNat, 0]
abbrev grid2 : Pipeline.Grid := .none

abbrev stage2_0 : Fin 1 → Memref sig .tc .vmem S32x38x1024 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .smem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x19x512x512 : Shape := ⟨4, ![4, 19, 512, 512]⟩
abbrev S4x512x512 : Shape := ⟨3, ![4, 512, 512]⟩
abbrev S_ : Shape := ⟨0, ![]⟩
abbrev S4x1x512x512 : Shape := ⟨4, ![4, 1, 512, 512]⟩
abbrev S19x4x512x512 : Shape := ⟨4, ![19, 4, 512, 512]⟩
abbrev S19x1048576 : Shape := ⟨2, ![19, 1048576]⟩
abbrev S1048576 : Shape := ⟨1, ![1048576]⟩
abbrev S1x1048576 : Shape := ⟨2, ![1, 1048576]⟩
abbrev S19 : Shape := ⟨1, ![19]⟩
abbrev S19x1 : Shape := ⟨2, ![19, 1]⟩
abbrev S19x1048575 : Shape := ⟨2, ![19, 1048575]⟩
abbrev S4x1x512x512x1 : Shape := ⟨5, ![4, 1, 512, 512, 1]⟩
abbrev S1 : Shape := ⟨1, ![1]⟩
abbrev S1x1x1x1x1 : Shape := ⟨5, ![1, 1, 1, 1, 1]⟩

abbrev nBuf : Space → Nat
  | .hbm => 124
  | .vmem => 0
  | .smem => 0
  | _ => 0

abbrev bufTy : (tb : Table) → Fin (tcTables nBuf tb) → BufTy
  | .hbm, ⟨0, _⟩ => ⟨S4x19x512x512, .f32⟩
  | .hbm, ⟨1, _⟩ => ⟨S4x512x512, .i32⟩
  | .hbm, ⟨2, _⟩ => ⟨S_, .f32⟩
  | .hbm, ⟨3, _⟩ => ⟨S4x512x512, .f32⟩
  | .hbm, ⟨4, _⟩ => ⟨S_, .f32⟩
  | .hbm, ⟨5, _⟩ => ⟨S4x512x512, .f32⟩
  | .hbm, ⟨6, _⟩ => ⟨S4x512x512, .f32⟩
  | .hbm, ⟨7, _⟩ => ⟨S4x1x512x512, .f32⟩
  | .hbm, ⟨8, _⟩ => ⟨S4x19x512x512, .f32⟩
  | .hbm, ⟨9, _⟩ => ⟨S4x19x512x512, .f32⟩
  | .hbm, ⟨10, _⟩ => ⟨S4x19x512x512, .f32⟩
  | .hbm, ⟨11, _⟩ => ⟨S_, .f32⟩
  | .hbm, ⟨12, _⟩ => ⟨S4x512x512, .f32⟩
  | .hbm, ⟨13, _⟩ => ⟨S4x1x512x512, .f32⟩
  | .hbm, ⟨14, _⟩ => ⟨S4x19x512x512, .f32⟩
  | .hbm, ⟨15, _⟩ => ⟨S4x19x512x512, .f32⟩
  | .hbm, ⟨16, _⟩ => ⟨S19x4x512x512, .f32⟩
  | .hbm, ⟨17, _⟩ => ⟨S19x1048576, .f32⟩
  | .hbm, ⟨18, _⟩ => ⟨S1048576, .i32⟩
  | .hbm, ⟨19, _⟩ => ⟨S1x1048576, .i32⟩
  | .hbm, ⟨20, _⟩ => ⟨S19x1048576, .i32⟩
  | .hbm, ⟨21, _⟩ => ⟨S19x1048576, .i32⟩
  | .hbm, ⟨22, _⟩ => ⟨S19x1048576, .i1⟩
  | .hbm, ⟨23, _⟩ => ⟨S19x1048576, .f32⟩
  | .hbm, ⟨24, _⟩ => ⟨S19x1048576, .f32⟩
  | .hbm, ⟨25, _⟩ => ⟨S19x1048576, .f32⟩
  | .hbm, ⟨26, _⟩ => ⟨S_, .f32⟩
  | .hbm, ⟨27, _⟩ => ⟨S19x1048576, .f32⟩
  | .hbm, ⟨28, _⟩ => ⟨S19x1048576, .f32⟩
  | .hbm, ⟨29, _⟩ => ⟨S19x1048576, .f32⟩
  | .hbm, ⟨30, _⟩ => ⟨S_, .f32⟩
  | .hbm, ⟨31, _⟩ => ⟨S19x1048576, .f32⟩
  | .hbm, ⟨32, _⟩ => ⟨S19x1048576, .f32⟩
  | .hbm, ⟨33, _⟩ => ⟨S_, .f32⟩
  | .hbm, ⟨34, _⟩ => ⟨S19x1048576, .f32⟩
  | .hbm, ⟨35, _⟩ => ⟨S19x1048576, .f32⟩
  | .hbm, ⟨36, _⟩ => ⟨S_, .f32⟩
  | .hbm, ⟨37, _⟩ => ⟨S19x1048576, .f32⟩
  | .hbm, ⟨38, _⟩ => ⟨S19x1048576, .f32⟩
  | .hbm, ⟨39, _⟩ => ⟨S19x1048576, .f32⟩
  | .hbm, ⟨40, _⟩ => ⟨S19x1048576, .f32⟩
  | .hbm, ⟨41, _⟩ => ⟨S19x1048576, .f32⟩
  | .hbm, ⟨42, _⟩ => ⟨S19x1048576, .f32⟩
  | .hbm, ⟨43, _⟩ => ⟨S_, .f32⟩
  | .hbm, ⟨44, _⟩ => ⟨S19, .f32⟩
  | .hbm, ⟨45, _⟩ => ⟨S19x1, .f32⟩
  | .hbm, ⟨46, _⟩ => ⟨S_, .f32⟩
  | .hbm, ⟨47, _⟩ => ⟨S_, .f32⟩
  | .hbm, ⟨48, _⟩ => ⟨S19x1048576, .f32⟩
  | .hbm, ⟨49, _⟩ => ⟨S19x1048576, .f32⟩
  | .hbm, ⟨50, _⟩ => ⟨S19x1048576, .f32⟩
  | .hbm, ⟨51, _⟩ => ⟨S_, .f32⟩
  | .hbm, ⟨52, _⟩ => ⟨S19x1048576, .f32⟩
  | .hbm, ⟨53, _⟩ => ⟨S19x1048576, .f32⟩
  | .hbm, ⟨54, _⟩ => ⟨S_, .f32⟩
  | .hbm, ⟨55, _⟩ => ⟨S_, .f32⟩
  | .hbm, ⟨56, _⟩ => ⟨S19x1048576, .f32⟩
  | .hbm, ⟨57, _⟩ => ⟨S19x1048576, .f32⟩
  | .hbm, ⟨58, _⟩ => ⟨S19x1048576, .f32⟩
  | .hbm, ⟨59, _⟩ => ⟨S19x1048576, .f32⟩
  | .hbm, ⟨60, _⟩ => ⟨S_, .f32⟩
  | .hbm, ⟨61, _⟩ => ⟨S19x1048576, .f32⟩
  | .hbm, ⟨62, _⟩ => ⟨S19x1048576, .f32⟩
  | .hbm, ⟨63, _⟩ => ⟨S19x1, .f32⟩
  | .hbm, ⟨64, _⟩ => ⟨S19x1048575, .f32⟩
  | .hbm, ⟨65, _⟩ => ⟨S19x1048575, .f32⟩
  | .hbm, ⟨66, _⟩ => ⟨S19x1048575, .f32⟩
  | .hbm, ⟨67, _⟩ => ⟨S19x1048576, .f32⟩
  | .hbm, ⟨68, _⟩ => ⟨S19x1048576, .f32⟩
  | .hbm, ⟨69, _⟩ => ⟨S_, .f32⟩
  | .hbm, ⟨70, _⟩ => ⟨S19, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S4x512x512, .f32⟩
  | .hbm, ⟨77, _⟩ => ⟨S_, .f32⟩
  | .hbm, ⟨78, _⟩ => ⟨S4x512x512, .f32⟩
  | .hbm, ⟨79, _⟩ => ⟨S4x512x512, .f32⟩
  | .hbm, ⟨80, _⟩ => ⟨S4x1x512x512, .f32⟩
  | .hbm, ⟨81, _⟩ => ⟨S4x19x512x512, .f32⟩
  | .hbm, ⟨82, _⟩ => ⟨S4x19x512x512, .f32⟩
  | .hbm, ⟨83, _⟩ => ⟨S4x19x512x512, .f32⟩
  | .hbm, ⟨84, _⟩ => ⟨S_, .f32⟩
  | .hbm, ⟨85, _⟩ => ⟨S4x512x512, .f32⟩
  | .hbm, ⟨86, _⟩ => ⟨S4x1x512x512, .f32⟩
  | .hbm, ⟨87, _⟩ => ⟨S4x1x512x512, .f32⟩
  | .hbm, ⟨88, _⟩ => ⟨S4x19x512x512, .f32⟩
  | .hbm, ⟨89, _⟩ => ⟨S4x19x512x512, .f32⟩
  | .hbm, ⟨90, _⟩ => ⟨S4x1x512x512, .i32⟩
  | .hbm, ⟨91, _⟩ => ⟨S_, .i32⟩
  | .hbm, ⟨92, _⟩ => ⟨S4x1x512x512, .i32⟩
  | .hbm, ⟨93, _⟩ => ⟨S4x1x512x512, .i1⟩
  | .hbm, ⟨94, _⟩ => ⟨S_, .i32⟩
  | .hbm, ⟨95, _⟩ => ⟨S4x1x512x512, .i32⟩
  | .hbm, ⟨96, _⟩ => ⟨S4x1x512x512, .i32⟩
  | .hbm, ⟨97, _⟩ => ⟨S4x1x512x512, .i32⟩
  | .hbm, ⟨98, _⟩ => ⟨S4x1x512x512x1, .i32⟩
  | .hbm, ⟨99, _⟩ => ⟨S1, .i32⟩
  | .hbm, ⟨100, _⟩ => ⟨S_, .i32⟩
  | .hbm, ⟨101, _⟩ => ⟨S4x1x512x512x1, .i32⟩
  | .hbm, ⟨102, _⟩ => ⟨S4x1x512x512x1, .i1⟩
  | .hbm, ⟨103, _⟩ => ⟨S1x1x1x1x1, .i32⟩
  | .hbm, ⟨104, _⟩ => ⟨S4x1x512x512x1, .i32⟩
  | .hbm, ⟨105, _⟩ => ⟨S4x1x512x512x1, .i1⟩
  | .hbm, ⟨106, _⟩ => ⟨S4x1x512x512x1, .i1⟩
  | .hbm, ⟨107, _⟩ => ⟨S_, .i1⟩
  | .hbm, ⟨108, _⟩ => ⟨S4x1x512x512, .i1⟩
  | .hbm, ⟨109, _⟩ => ⟨S4x1x512x512, .f32⟩
  | .hbm, ⟨110, _⟩ => ⟨S_, .f32⟩
  | .hbm, ⟨111, _⟩ => ⟨S4x1x512x512, .f32⟩
  | .hbm, ⟨112, _⟩ => ⟨S4x1x512x512, .f32⟩
  | .hbm, ⟨113, _⟩ => ⟨S4x512x512, .f32⟩
  | .hbm, ⟨114, _⟩ => ⟨S4x512x512, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S4x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_3 : Ref sig .tc := ⟨.hbm, 30, rfl⟩
abbrev main_v24 : Ref sig .tc := ⟨.hbm, 31, rfl⟩
abbrev main_v25 : Ref sig .tc := ⟨.hbm, 32, rfl⟩
abbrev main_cst_4 : Ref sig .tc := ⟨.hbm, 33, rfl⟩
abbrev main_v26 : Ref sig .tc := ⟨.hbm, 34, rfl⟩
abbrev main_v27 : Ref sig .tc := ⟨.hbm, 35, rfl⟩
abbrev main_cst_5 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31_0 : Ref sig .tc := ⟨.hbm, 40, rfl⟩
abbrev main_v31_1 : Ref sig .tc := ⟨.hbm, 41, rfl⟩
abbrev main_v32 : Ref sig .tc := ⟨.hbm, 42, rfl⟩
abbrev main_cst_6 : Ref sig .tc := ⟨.hbm, 43, rfl⟩
abbrev main_v33 : Ref sig .tc := ⟨.hbm, 44, rfl⟩
abbrev main_v34 : Ref sig .tc := ⟨.hbm, 45, rfl⟩
abbrev main_call0_call0_cst : Ref sig .tc := ⟨.hbm, 46, rfl⟩
abbrev main_call0_call0_v0 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_v38 : Ref sig .tc := ⟨.hbm, 52, rfl⟩
abbrev main_v39 : Ref sig .tc := ⟨.hbm, 53, rfl⟩
abbrev main_call1_call0_cst : Ref sig .tc := ⟨.hbm, 54, rfl⟩
abbrev main_call1_call0_v0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_9 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_call2_cst : Ref sig .tc := ⟨.hbm, 75, rfl⟩
abbrev main_call2_v0 : Ref sig .tc := ⟨.hbm, 76, rfl⟩
abbrev main_call2_cst_0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_v6 : Ref sig .tc := ⟨.hbm, 83, rfl⟩
abbrev main_call2_cst_1 : Ref sig .tc := ⟨.hbm, 84, rfl⟩
abbrev main_call2_v7 : Ref sig .tc := ⟨.hbm, 85, rfl⟩
abbrev main_call2_v8 : Ref sig .tc := ⟨.hbm, 86, rfl⟩
abbrev main_call2_v9 : Ref sig .tc := ⟨.hbm, 87, rfl⟩
abbrev main_call2_v10 : Ref sig .tc := ⟨.hbm, 88, rfl⟩
abbrev main_v55 : Ref sig .tc := ⟨.hbm, 89, rfl⟩
abbrev main_v56 : Ref sig .tc := ⟨.hbm, 90, rfl⟩
abbrev main_call3_c : Ref sig .tc := ⟨.hbm, 91, rfl⟩
abbrev main_call3_v0 : Ref sig .tc := ⟨.hbm, 92, rfl⟩
abbrev main_call3_v1 : Ref sig .tc := ⟨.hbm, 93, rfl⟩
abbrev main_call3_c_0 : Ref sig .tc := ⟨.hbm, 94, rfl⟩
abbrev main_call3_v2 : Ref sig .tc := ⟨.hbm, 95, rfl⟩
abbrev main_call3_v3 : Ref sig .tc := ⟨.hbm, 96, rfl⟩
abbrev main_call3_v4 : Ref sig .tc := ⟨.hbm, 97, rfl⟩
abbrev main_call3_v5 : Ref sig .tc := ⟨.hbm, 98, rfl⟩
abbrev main_call3_c_1 : Ref sig .tc := ⟨.hbm, 99, rfl⟩
abbrev main_call3_c_2 : Ref sig .tc := ⟨.hbm, 100, rfl⟩
abbrev main_call3_v6 : Ref sig .tc := ⟨.hbm, 101, rfl⟩
abbrev main_call3_v7 : Ref sig .tc := ⟨.hbm, 102, rfl⟩
abbrev main_call3_v8 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_c_3 : Ref sig .tc := ⟨.hbm, 107, rfl⟩
abbrev main_call3_v12 : Ref sig .tc := ⟨.hbm, 108, rfl⟩
abbrev main_call3_v13 : Ref sig .tc := ⟨.hbm, 109, rfl⟩
abbrev main_call3_cst : Ref sig .tc := ⟨.hbm, 110, rfl⟩
abbrev main_call3_v14 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_cst_12 : Ref sig .tc := ⟨.hbm, 115, rfl⟩
abbrev main_v60 : Ref sig .tc := ⟨.hbm, 116, rfl⟩
abbrev main_cst_13 : Ref sig .tc := ⟨.hbm, 117, rfl⟩
abbrev main_v61 : Ref sig .tc := ⟨.hbm, 118, rfl⟩
abbrev main_cst_14 : Ref sig .tc := ⟨.hbm, 119, rfl⟩
abbrev main_v62 : Ref sig .tc := ⟨.hbm, 120, rfl⟩
abbrev main_cst_15 : Ref sig .tc := ⟨.hbm, 121, rfl⟩
abbrev main_v63 : Ref sig .tc := ⟨.hbm, 122, rfl⟩
abbrev main_v64 : Ref sig .tc := ⟨.hbm, 123, rfl⟩

abbrev nD : Nat := 1
abbrev τ : Topo := Topo.v7x

variable {F : FTy → Type} [FloatOps F]
-- ==== Proof.TileProg.lean ====
/-
  The text every tile of the histogram call runs, stated once over the places it touches: a tile zeroes
  its histogram, then takes nineteen chunks of sixty-four rows of its slab through two row buffers — the
  next chunk's transfer started before the present one's is waited for —, adding one to the histogram at
  each of the thirty-two times sixteen words of each row, and copies the histogram out.
-/
module

public import Idealize.ShloMosaic.Lib.Pipeline
public import Idealize.ShloMosaic.Lib.Scf
public import Idealize.ShloMosaic.Lib.StableHlo
public import Idealize.ShloMosaic.Lib.SparseCore
public import Idealize.ShloMosaic.Lib.SparseCore.Ops
public import Idealize.ShloMosaic.PureOps

@[expose] public section

noncomputable section

namespace Cert.Proof.Tile

open Idealize.ShloMosaic Idealize.SL.Sem

abbrev L16 : Shape := ⟨1, ![16]⟩
abbrev R16 : Shape := ⟨2, ![1, 16]⟩
abbrev CB : Shape := ⟨2, ![64, 512]⟩
abbrev HB : Shape := ⟨1, ![38912]⟩
abbrev IB : Shape := ⟨2, ![38912, 512]⟩
abbrev OB : Shape := ⟨2, ![32, 38912]⟩
abbrev OR : Shape := ⟨2, ![1, 38912]⟩

/-- Sixteen words that each name a histogram cell. -/
def Chk (v : IVec L16 32) : Prop := ∀ a x, ((![v] : Fin 1 → IVec L16 32) a x).toNat < HB.size a
instance Chk.dec (v : IVec L16 32) : Decidable (Chk v) := decidable_of_iff' _ (Iff.of_eq (Chk.eq_1 v))

@[reducible] def zeroL : Scf.Loop 32 := ⟨0#32, Scalar.addi 0#32 2432#32, 1#32⟩
@[reducible] def rowL : Scf.Loop 32 := ⟨0#32, Scalar.addi 0#32 64#32, 1#32⟩

theorem zeroL_ok : zeroL.OK := by decide
theorem rowL_ok : rowL.OK := by decide
theorem zeroL_trips : zeroL.trips = 2432 := by decide
theorem rowL_trips : rowL.trips = 64 := by decide

/-- Where trip `t` of the zeroing loop stores. -/
def zoff (t : ℕ) : Fin 1 → ℕ := ![(Scalar.indexCast (Scalar.muli (Scf.iv 0#32 1#32 t) 16#32)).toNat]
/-- Where step `k` of trip `t` of a row loop loads. -/
def roff (t k : ℕ) : Fin 2 → ℕ := ![(Scalar.indexCast (Scf.iv 0#32 1#32 t)).toNat, 16 * k]

theorem zoff_eq (t : ℕ) (ht : t < 2432) : zoff t = ![16 * t] := by
  have h1 : (Scalar.indexCast (Scalar.muli (Scf.iv 0#32 1#32 t) 16#32)).toNat = 16 * t := by
    simp only [Scalar.indexCast, Scalar.muli, Scf.iv, IntOp.muli]
    simp [BitVec.toNat_mul, BitVec.toNat_ofNat]
    omega
  unfold zoff; rw [h1]

theorem roff_eq (t k : ℕ) (ht : t < 64) : roff t k = ![t, 16 * k] := by
  have h1 : (Scalar.indexCast (Scf.iv 0#32 1#32 t)).toNat = t := by
    simp only [Scalar.indexCast, Scf.iv]
    simp [BitVec.toNat_ofNat]
    omega
  unfold roff; rw [h1]

theorem zoff_inb (t : Fin zeroL.trips) : ∀ a, zoff t a + L16.size a ≤ HB.size a := by
  have ht : t.val < 2432 := zeroL_trips ▸ t.isLt
  rw [zoff_eq _ ht]
  intro a; fin_cases a; simp; omega

theorem roff_inb (t : Fin rowL.trips) (k : ℕ) (hk : k < 32) : ∀ a, roff t k a + R16.size a ≤ CB.size a := by
  have ht : t.val < 64 := rowL_trips ▸ t.isLt
  rw [roff_eq _ _ ht]
  intro a; fin_cases a <;> simp <;> omega

theorem pos16 : 0 < L16.numel := by decide
theorem posR16 : 0 < R16.numel := by decide
theorem posHB : 0 < HB.numel := by decide
theorem castR16 : R16.ShapeCasts L16 := by decide

variable {nD : Nat} {τ : Topo} {sig : RefSig} {F : FTy → Type} [FloatOps F] {Λ : Labels} {p : Proc τ}

abbrev ones16 : IVec L16 32 := broadcast L16 1#32

/-- One trip of the zeroing loop. -/
def zeroRow (hist : Memref sig p.kind .vmem HB .i32) (t : Fin zeroL.trips) (_ : BitVec 32) :
    Prog (TpuEff nD τ sig (Elt F) Λ p) (BitVec 32) :=
  .op (.load hist (Rect.unit (s := HB) (zoff t) L16.size (zoff_inb t)).toLoadRect (View.loadsAt_vmem pos16)) fun _ =>
  .op (.store hist (Rect.unit (s := HB) (zoff t) L16.size (zoff_inb t)) (broadcast L16 0#32) Finset.univ
    (View.stores_vmem_bits_univ pos16 rfl) (.inl rfl)) fun _ => .ret 0#32

/-- The last `n` of a row's thirty-two steps, the next being step `k`. -/
def rowGo (buf : Memref sig p.kind .vmem CB .i32) (hist : Memref sig p.kind .vmem HB .i32) (t : Fin rowL.trips) :
    (n k : ℕ) → n + k = 32 → Prog (TpuEff nD τ sig (Elt F) Λ p) (BitVec 32)
  | 0, _, _ => .ret 0#32
  | n + 1, k, h =>
    .op (.load buf (Rect.unit (s := CB) (roff t k) R16.size (roff_inb t k (by omega))).toLoadRect (View.loadsAt_vmem posR16)) fun x =>
    .op (.assume (Chk (shapeCast L16 x castR16)) (Chk.dec _)) fun hw =>
    SparseCore.vectorStoreIdx (F := F) hist ![shapeCast L16 x castR16] ones16 (fun _ => 1#1) true hw.down
      (View.stores_vmem_bits_univ posHB rfl) >>= fun _ => rowGo buf hist t n (k + 1) (by omega)

/-- The chunks left, the present one `j` in (or on its way into) `A`, `n` more after it. -/
def chunks (src : (j : ℕ) → j < 19 → Memref sig p.kind .hbm CB .i32) (hsrc : ∀ j h, (src j h).view.WordExact)
    (hist : Memref sig p.kind .vmem HB .i32) (rest : Prog (TpuEff nD τ sig (Elt F) Λ p) PUnit) :
    (n j : ℕ) → n + j < 19 → (A B : Memref sig p.kind .vmem CB .i32) → A.view.WordExact → B.view.WordExact →
    (sA sB : DmaSem sig) → Prog (TpuEff nD τ sig (Elt F) Λ p) PUnit
  | 0, j, h, A, _, hA, _, sA, _ =>
    .op (.waitDma2 sA (src j (by omega)) A (hsrc _ _) hA) fun _ =>
    Scf.Loop.for rowL rowL_ok 0#32 (fun t _ => rowGo A hist t 32 0 rfl) >>= fun _ => rest
  | n + 1, j, h, A, B, hA, hB, sA, sB =>
    .op (.enqueueDma (src (j + 1) (by omega)) (.here B) (.dma sB) (hsrc _ _) hB ⟨Or.inl rfl, trivial⟩) fun _ =>
    .op (.waitDma2 sA (src j (by omega)) A (hsrc _ _) hA) fun _ =>
    Scf.Loop.for rowL rowL_ok 0#32 (fun t _ => rowGo A hist t 32 0 rfl) >>= fun _ =>
    chunks src hsrc hist rest n (j + 1) (by omega) B A hB hA sB sA

/-- A tile's whole program: `src j` its slab's chunk `j`, `out` its row of the result. -/
def tile (src : (j : ℕ) → j < 19 → Memref sig p.kind .hbm CB .i32) (hsrc : ∀ j h, (src j h).view.WordExact)
    (out : Memref sig p.kind .hbm HB .i32) (hout : out.view.WordExact)
    (A B : Memref sig p.kind .vmem CB .i32) (hA : A.view.WordExact) (hB : B.view.WordExact)
    (hist : Memref sig p.kind .vmem HB .i32) (hhist : hist.view.WordExact) (sA sB sO : DmaSem sig) :
    Prog (TpuEff nD τ sig (Elt F) Λ p) PUnit :=
  Scf.Loop.for zeroL zeroL_ok 0#32 (zeroRow hist) >>= fun _ =>
  .op (.enqueueDma (src 0 (by omega)) (.here A) (.dma sA) (hsrc _ _) hA ⟨Or.inl rfl, trivial⟩) fun _ =>
  chunks src hsrc hist
    (.op (.enqueueDma hist (.here out) (.dma sO) hhist hout ⟨Or.inl rfl, trivial⟩) fun _ =>
      .op (.waitDma2 sO hist out hhist hout) fun _ => .ret ⟨⟩)
    18 0 (by omega) A B hA hB sA sB

end Cert.Proof.Tile

end
-- ==== Proof.TileRun.lean ====
/-
  What a tile's program does: from its slab's words `W`, each naming a histogram cell, the tile ends with
  its row of the result counting, at each cell, the words that name it. The histogram after the first `n`
  words reads `counts W n`, from the zeroing loop to the copy out.
-/
module

public import proofs.«01_k».proof.Proof.TileProg
public import Idealize.ShloMosaic.Lib.Memref
public import Idealize.ShloMosaic.Lib.Pointwise.Index
public import Idealize.ShloMosaic.Lib.ValueLayout
public import Idealize.ShloMosaic.Lib.Pipeline.Value
public import Idealize.ShloMosaic.Lib.Transfers
public import Idealize.ShloMosaic.Rules

@[expose] public section

noncomputable section

namespace Cert.Proof.Tile

open Idealize.ShloMosaic Idealize.SL.Sem
open Idealize.SL Idealize.SL.RA Idealize.SL.BI
open scoped Idealize.SL.BI
open Idealize.SL.BI.BIBase Idealize.SL.BI.Laws Idealize.SL.ProofMode

/-! ## Counting -/

/-- How many of the first `n` words of `W` name the cell `j`. -/
def cnt (W : ℕ → BitVec 32) (n j : ℕ) : ℕ := ((Finset.range n).filter fun p => (W p).toNat = j).card

/-- The histogram of the first `n` words of `W`. -/
def counts (W : ℕ → BitVec 32) (n : ℕ) : HB.Idx → BitVec 32 := fun j => BitVec.ofNat 32 (cnt W n (j 0).val)

theorem cnt_succ (W : ℕ → BitVec 32) (n j : ℕ) : cnt W (n + 1) j = cnt W n j + if (W n).toNat = j then 1 else 0 := by
  unfold cnt
  rw [Finset.range_add_one, Finset.filter_insert]
  split
  · rw [Finset.card_insert_of_notMem (by simp)]
  · rfl

theorem counts_zero (W : ℕ → BitVec 32) : counts W 0 = fun _ => 0#32 := rfl

/-- One lane of the scatter is one more word counted. -/
theorem counts_succ (W : ℕ → BitVec 32) (n : ℕ) (i : HB.Idx) (hi : (i 0).val = (W n).toNat) :
    (fun j => if ∀ a, (j a).val = (i a).val then counts W n i + 1#32 else counts W n j) = counts W (n + 1) := by
  funext j
  unfold counts
  have h0 : (∀ a, (j a).val = (i a).val) ↔ (W n).toNat = (j 0).val := by
    constructor
    · intro h; rw [h 0, hi]
    · intro h a; obtain rfl : a = 0 := Subsingleton.elim _ _; rw [hi, h]
  simp only [h0, cnt_succ]
  split
  · next h => rw [hi, h, BitVec.ofNat_add]
  · rfl

/-- Sixteen lanes scattered are sixteen words counted. -/
theorem storeIdx_counts {F : FTy → Type} [FloatOps F] (W : ℕ → BitVec 32) (n : ℕ) (v : IVec L16 32) (h : Chk v)
    (hv : ∀ k : Fin 16, v (Shape.ofLane k) = W (n + k.val)) :
    storeIdx (F := F) (e := .i32) (counts W n) (![v] : Fin 1 → IVec L16 32) ones16 (fun _ => 1#1) true h = counts W (n + 16) := by
  have key : ∀ m, m ≤ 16 → ((List.finRange 16).take m).foldl (fun (g : HB.Idx → BitVec 32) (k : Fin 16) =>
      fun j => if ∀ a, (j a).val = ((idxAt (s := HB) ![v] h (Shape.ofLane (d := ![16]) k)) a).val then g (idxAt (s := HB) ![v] h (Shape.ofLane (d := ![16]) k)) + 1#32 else g j)
      (counts W n) = counts W (n + m) := by
    intro m
    induction m with
    | zero => intro _; rfl
    | succ m ih =>
      intro hm
      have hl : (List.finRange 16).take (m + 1) = (List.finRange 16).take m ++ [(⟨m, hm⟩ : Fin 16)] := by
        rw [List.take_add_one]; congr 1
        rw [List.getElem?_eq_getElem (by simp; omega)]; simp
      rw [hl, List.foldl_append, ih (by omega)]
      exact counts_succ W (n + m) _ (by
        have := hv ⟨m, hm⟩
        rw [← this]; rfl)
  have h16 := key 16 le_rfl
  rw [List.take_of_length_le (by simp)] at h16
  rw [← h16]
  unfold storeIdx
  simp only [if_true]
  rfl

/-- A chunk's sixty-four rows of five hundred and twelve words, from word `b` of the slab on. -/
def chunkOf (W : ℕ → BitVec 32) (b : ℕ) : CB.Idx → BitVec 32 := fun y => W (b + (y 0).val * 512 + (y 1).val)

/-- Lane `k` of a row's step `s` is the slab's word there. -/
theorem lane_read (W : ℕ → BitVec 32) (b : ℕ) (t : Fin rowL.trips) (s : ℕ) (hs : s < 32) (k : Fin 16) :
    shapeCast L16 (fun x => chunkOf W b ((Rect.unit (s := CB) (roff t s) R16.size (roff_inb t s hs)).emb x)) castR16 (Shape.ofLane k)
      = W (b + t.val * 512 + 16 * s + k.val) := by
  rw [shapeCast_apply _ castR16 (Shape.ofLane k) (ix2 (0 : Fin 1) k) (by
    rw [Shape.rowMajor_val_two, Shape.rowMajor_val_one]
    show 0 * 16 + k.val = k.val
    omega)]
  show W (b + (roff t s 0 + 1 * 0) * 512 + (roff t s 1 + 1 * k.val)) = _
  rw [roff_eq _ _ (rowL_trips ▸ t.isLt)]
  congr 1
  show b + (t.val + 1 * 0) * 512 + (16 * s + 1 * k.val) = _
  omega

/-! ## Running it -/

variable {nD : Nat} {τ : Topo} {sig : RefSig} {Ix : Type} [DecidableEq Ix]
variable {F : FTy → Type} [FloatOps F] {Name : Type} [DecidableEq Name] [Infinite Name]
variable {U : Type} [URA U] {Lvl : Type} [Preorder Lvl] {Λ : Labels}
variable {defs : Defs nD τ sig (Elt F) Λ} (𝒱 : Variants) (c : Thread nD τ) (bd : Option 𝒱.V)

local notation "𝕄" => MT nD τ sig Ix (Elt F) Name U Lvl

/-- A memref held outright, whatever it reads. -/
def held {sp : Space} {s : Shape} {e : EltTy} (m : Memref sig c.2.kind sp s e) : sProp 𝕄 := iprop(∃ X, owns c m fullShare X)

theorem owns_held {sp : Space} {s : Shape} {e : EltTy} (m : Memref sig c.2.kind sp s e) (X : s.Idx → Elt F e) :
    (owns c m fullShare X : sProp 𝕄) ⊢ held c m := by
  unfold held; exact exists_intro X

/-- A rectangle of an owned buffer, loaded. -/
theorem wp_load_owns {α : Type} {Q : α → sProp 𝕄} {s : Shape} {e : EltTy} {m : Memref sig c.2.kind .vmem s e} {r : Rect s}
    {hl : m.view.LoadsAt r} {k : (r.shape.Idx → Elt F e) → Prog (TpuEff nD τ sig (Elt F) Λ c.2) α} (X : s.Idx → Elt F e) :
    (owns c m fullShare X)
      ⊢ iprop((owns c m fullShare X -∗ wp frame (wpE defs 𝒱 c bd) Set.univ (k fun x => X (r.emb x)) Q)
        -∗ wp frame (wpE defs 𝒱 c bd) Set.univ (.op (.load m r.toLoadRect hl) k) Q) := by
  unfold owns
  iintro ⟨%f, %hf, H⟩ Hk
  subst hf
  iapply (wp_load_rect (defs := defs) 𝒱 c bd Set.univ (Q := Q) (m := m) (r := r) (hl := hl) (k := k) (S := m.view.set) (q := fullShare) (f := f) (View.set_slice_subset _ _)) $$ H
  iintro H
  iapply Hk
  iexists f
  isplitr; · ipureintro; rfl
  iexact H

/-- A scatter into an owned buffer. -/
theorem wp_scatter {α : Type} {Q : α → sProp 𝕄} {m : Memref sig c.2.kind .vmem HB .i32} {v : IVec L16 32} {h : Chk v}
    {hs : (m.access (.whole HB)).Stores Finset.univ} {k : PUnit → Prog (TpuEff nD τ sig (Elt F) Λ c.2) α}
    (W : ℕ → BitVec 32) (n : ℕ) (hv : ∀ k : Fin 16, v (Shape.ofLane k) = W (n + k.val)) :
    (owns c m fullShare (counts W n))
      ⊢ iprop((owns c m fullShare (counts W (n + 16)) -∗ wp frame (wpE defs 𝒱 c bd) Set.univ (k ⟨⟩) Q)
        -∗ wp frame (wpE defs 𝒱 c bd) Set.univ (SparseCore.vectorStoreIdx (F := F) m ![v] ones16 (fun _ => 1#1) true h hs >>= k) Q) := by
  have hset : (m.access (.whole HB)).set = m.view.set := by
    rw [View.set_slice, Rect.set_whole]; rfl
  have hrd : ∀ f, (m.access (.whole HB)).read (Elt F) f = m.view.read (Elt F) f := fun f => funext fun x => by
    show m.view.read (Elt F) f ((Rect.whole HB).emb x) = _
    rw [Rect.emb_whole_apply]
  unfold owns
  iintro ⟨%f, %hf, H⟩ Hk
  iapply (SparseCore.wp_vectorStoreIdx (defs := defs) 𝒱 c bd Set.univ (f := f)) $$ [H]
  · rw [hset]; iexact H
  iintro H
  iapply Hk
  iexists _
  isplitr
  swap
  · rw [hset]; iexact H
  ipureintro
  have h1 := View.read_write_univ (v := m.access (.whole HB)) (Val := Elt F) f
    (storeIdx (F := F) (e := .i32) ((m.access (.whole HB)).read (Elt F) f) (![v] : Fin 1 → IVec L16 32) ones16 (fun _ => 1#1) true h)
  rw [hrd] at h1
  rw [hrd, hf] at h1
  rw [hrd, hf]
  exact h1.trans (storeIdx_counts W n v h hv)

/-- A row's last `n` steps, from step `k`. -/
theorem wp_rowGo {buf : Memref sig c.2.kind .vmem CB .i32} {hist : Memref sig c.2.kind .vmem HB .i32}
    (W : ℕ → BitVec 32) (hW : ∀ p, (W p).toNat < 38912) (b : ℕ) (t : Fin rowL.trips) (n : ℕ) :
    ∀ (k : ℕ) (h : n + k = 32),
    iprop(owns c buf fullShare (chunkOf W b) ∗ owns c hist fullShare (counts W (b + t.val * 512 + 16 * k)))
      ⊢ wp (M := 𝕄) frame (wpE defs 𝒱 c bd) Set.univ (rowGo (F := F) buf hist t n k h)
        (fun _ => iprop(owns c buf fullShare (chunkOf W b) ∗ owns c hist fullShare (counts W (b + (t.val + 1) * 512)))) := by
  induction n with
  | zero =>
    intro k h
    obtain rfl : k = 32 := by omega
    rw [show b + t.val * 512 + 16 * 32 = b + (t.val + 1) * 512 by omega]
    rw [rowGo, wp_ret]
    exact BI.fupd_intro
  | succ n ih =>
    intro k h
    have hlane := lane_read W b t k (by omega)
    have hchk : Chk (shapeCast L16 (fun x => chunkOf W b ((Rect.unit (s := CB) (roff t k) R16.size (roff_inb t k (by omega))).emb x)) castR16) := by
      intro a x
      obtain rfl : a = 0 := Subsingleton.elim _ _
      obtain ⟨j, rfl⟩ : ∃ j : Fin 16, x = Shape.ofLane j := ⟨x 0, funext fun a => by obtain rfl : a = 0 := Subsingleton.elim _ _; rfl⟩
      have hj := hW (b + t.val * 512 + 16 * k + j.val)
      rw [← hlane j] at hj
      exact hj
    iintro ⟨Hb, Hh⟩
    rw [rowGo]
    iapply (wp_load_owns (defs := defs) 𝒱 c bd (chunkOf W b)) $$ Hb
    iintro Hb
    iapply (wp_assume 𝒱 c bd Set.univ hchk)
    iapply (wp_scatter (defs := defs) 𝒱 c bd W (b + t.val * 512 + 16 * k) hlane) $$ Hh
    iintro Hh
    iapply (ih (k + 1) _)
    isplitl [Hb]; · iexact Hb
    iexact Hh

/-- A chunk's sixty-four rows. -/
theorem wp_rows {α : Type} {Q : α → sProp 𝕄} {buf : Memref sig c.2.kind .vmem CB .i32} {hist : Memref sig c.2.kind .vmem HB .i32}
    (W : ℕ → BitVec 32) (hW : ∀ p, (W p).toNat < 38912) (b : ℕ) {kk : BitVec 32 → Prog (TpuEff nD τ sig (Elt F) Λ c.2) α} :
    iprop(owns c buf fullShare (chunkOf W b) ∗ owns c hist fullShare (counts W b))
      ⊢ iprop((∀ acc, iprop(owns c buf fullShare (chunkOf W b) ∗ owns c hist fullShare (counts W (b + 32768)))
            -∗ wp frame (wpE defs 𝒱 c bd) Set.univ (kk acc) Q)
        -∗ wp frame (wpE defs 𝒱 c bd) Set.univ
          (Scf.Loop.for rowL rowL_ok 0#32 (fun t _ => rowGo (F := F) buf hist t 32 0 rfl) >>= kk) Q) := by
  have h := Scf.wp_for_bind frame (wpE defs 𝒱 c bd) Set.univ rowL.lb rowL.ub rowL.st rowL_ok 0#32
    (fun t _ => rowGo (F := F) buf hist t 32 0 rfl)
    (fun t _ => iprop(owns c buf fullShare (chunkOf W b) ∗ owns c hist fullShare (counts W (b + t * 512))))
    (fun t _ => wp_rowGo (defs := defs) 𝒱 c bd W hW b t 32 0 rfl) (kk := kk) (Q := Q)
  have eN : counts W (b + Scf.trips rowL.lb rowL.ub rowL.st * 512) = counts W (b + 32768) := by
    rw [show Scf.trips rowL.lb rowL.ub rowL.st = 64 from rowL_trips]
  rw [eN, show counts W (b + 0 * 512) = counts W b by rw [Nat.zero_mul, Nat.add_zero]] at h
  exact h

/-- The zeroing loop. -/
theorem wp_zero {α : Type} {Q : α → sProp 𝕄} {hist : Memref sig c.2.kind .vmem HB .i32}
    {kk : BitVec 32 → Prog (TpuEff nD τ sig (Elt F) Λ c.2) α} :
    (held c hist)
      ⊢ iprop((∀ acc, owns c hist fullShare (fun _ => (0#32 : BitVec 32))
            -∗ wp frame (wpE defs 𝒱 c bd) Set.univ (kk acc) Q)
        -∗ wp frame (wpE defs 𝒱 c bd) Set.univ (Scf.Loop.for zeroL zeroL_ok 0#32 (zeroRow (F := F) hist) >>= kk) Q) := by
  have h := Scf.wp_for_bind frame (wpE defs 𝒱 c bd) Set.univ zeroL.lb zeroL.ub zeroL.st zeroL_ok 0#32
    (zeroRow (F := F) hist)
    (fun t _ => iprop(∃ X : HB.Idx → BitVec 32, ⌜∀ j, (j 0).val < 16 * t → X j = 0#32⌝ ∗ (owns c hist fullShare X : sProp 𝕄)))
    (fun t _ => by
      have ht : t.val < 2432 := zeroL_trips ▸ t.isLt
      iintro ⟨%X, %hX, Hh⟩
      rw [zeroRow]
      iapply (wp_load_owns (defs := defs) 𝒱 c bd X) $$ Hh
      iintro Hh
      unfold owns
      icases Hh with ⟨%f, %hf, Hh⟩
      iapply (wp_store 𝒱 c bd Set.univ (m := hist) (r := Rect.unit (s := HB) (zoff t) L16.size (zoff_inb t)) (S := hist.view.set) (f := f)
        ((View.setOn_subset_set _ _).trans (View.set_slice_subset _ _))) $$ Hh
      iintro Hh
      rw [wp_ret]
      imodintro
      iexists _
      isplitr
      swap
      · iexists _
        isplitr
        swap
        · iexact Hh
        · ipureintro; rfl
      ipureintro
      intro j hj
      by_cases hm : j ∈ (Finset.univ : Finset L16.Idx).map (Rect.unit (s := HB) (zoff t) L16.size (zoff_inb t)).emb
      · obtain ⟨x, -, rfl⟩ := Finset.mem_map.mp hm
        rw [View.read_slice_write_emb _ _ _ (Finset.mem_univ x)]
        rfl
      · rw [View.read_slice_write_of_not_mem _ _ _ _ hm, hf]
        refine hX j (lt_of_not_ge fun hge => hm (Finset.mem_map.mpr ⟨ix1 ⟨(j 0).val - 16 * t.val, ?_⟩, Finset.mem_univ _, ?_⟩))
        · have := hj; show (j 0).val - 16 * t.val < 16; omega
        · funext a
          obtain rfl : a = 0 := Subsingleton.elim _ _
          refine Fin.ext ?_
          show zoff t 0 + 1 * ((j 0).val - 16 * t.val) = (j 0).val
          rw [zoff_eq _ ht]
          show 16 * t.val + 1 * ((j 0).val - 16 * t.val) = (j 0).val
          omega) (kk := kk) (Q := Q)
  iintro Hh Hk
  unfold held
  icases Hh with ⟨%X, Hh⟩
  iapply h $$ [Hh]
  · iexists X
    isplitr; · ipureintro; intro j hj; omega
    iexact Hh
  iintro %acc ⟨%Y, %hY, Hh⟩
  iapply Hk
  rw [show (fun _ => 0#32 : HB.Idx → BitVec 32) = Y from funext fun j => (hY j (by
    rw [show Scf.trips zeroL.lb zeroL.ub zeroL.st = 2432 from zeroL_trips]; exact (j 0).isLt)).symm]
  iexact Hh

/-! ## The chunks -/

section Chunks

variable (EC : UEmb Counters (MT nD τ sig Ix (Elt F) Name U Lvl)) [EC.LandsIn (upEmb : UEmb _ (MT nD τ sig Ix (Elt F) Name U Lvl))]

variable (src : (j : ℕ) → j < 19 → Memref sig c.2.kind .hbm CB .i32) (W : ℕ → BitVec 32)
  (ι : Ix) (O : CellTallies nD τ sig Ix) (W₀ : Waits sig Ix)

/-- The slab's `n` chunks from chunk `j` on, each reading its part of the slab. -/
def pieces : (n j : ℕ) → n + j ≤ 19 → sProp 𝕄
  | 0, _, _ => iprop(emp)
  | n + 1, j, h => iprop(owns c (src j (by omega)) fullShare (chunkOf W (j * 32768)) ∗ pieces n (j + 1) (by omega))

theorem pieces_succ (n j : ℕ) (h : n + 1 + j ≤ 19) :
    (pieces c src W (n + 1) j h : sProp 𝕄)
      = iprop(owns c (src j (by omega)) fullShare (chunkOf W (j * 32768)) ∗ pieces c src W n (j + 1) (by omega)) := rfl

/-- Chunk `j` on its way into a row buffer: once waited for, the buffer reads it and the chunk is back. -/
def incoming (j : ℕ) (h : j < 19) (A : Memref sig c.2.kind .vmem CB .i32) (sA : DmaSem sig) : sProp 𝕄 :=
  iprop(∃ D : sProp 𝕄, ⌜D ⊢ iprop(owns c A fullShare (chunkOf W (j * 32768)) ∗ owns c (src j h) fullShare (chunkOf W (j * 32768)))⌝
    ∗ Transfers.Flight EC c (.dma sA) ι (A.view.amount (.dma sA)) D)

/-- What the thread owes, its waits so far all at the kernel's own index. -/
def owing : sProp 𝕄 := iprop(∃ W', ⌜∀ p ∈ W', p ∈ W₀ ∨ p.2 = ι⌝ ∗ owes c O W')

/-- The start of a transfer of an owned memref into a held one. -/
theorem wp_start {α : Type} {Q : α → sProp 𝕄} {sp sp' : Space} {s : Shape} {e : EltTy}
    {S : Memref sig c.2.kind sp s e} {A : Memref sig c.2.kind sp' s e} (X : s.Idx → Elt F e) {sA : DmaSem sig}
    {hsrc : S.view.WordExact} {hdst : A.view.WordExact} {hsem : DmaTarget.Typed (nD := nD) sp (.dma sA) (.here A)}
    {k : PUnit → Prog (TpuEff nD τ sig (Elt F) Λ c.2) α} (hs : 0 < s.numel) :
    iprop(owns c S fullShare X ∗ held c A ∗ semVal (c, .dma sA) 0)
      ⊢ iprop((∀ D : sProp 𝕄, iprop(⌜D ⊢ iprop(owns c A fullShare X ∗ owns c S fullShare X)⌝
            ∗ Transfers.Flight EC c (.dma sA) ι (A.view.amount (.dma sA)) D) -∗ wp frame (wpE defs 𝒱 c bd) Set.univ (k ⟨⟩) Q)
        -∗ wp frame (wpE defs 𝒱 c bd) Set.univ (.op (.enqueueDma S (.here A) (.dma sA) hsrc hdst hsem) k) Q) := by
  unfold held owns
  iintro ⟨⟨%f, %hf, Hs⟩, ⟨%Y, %g, %hg, Ha⟩, Hv⟩ Hk
  iapply (Transfers.wp_dmaLocal EC 𝒱 c bd (src := S) (via := .same) (dst := A) (sm := .dma sA) (q := fullShare) (fs := f)
    (Sd := A.view.set) (fd := g) ι (A.view.amount (.dma sA)) rfl (A.view.amount_pos _ hs) subset_rfl) $$ [Hs Ha Hv]
  · isplitl [Hs]; · iexact Hs
    isplitl [Ha]; · iexact Ha
    iexact Hv
  iintro HF
  iapply Hk
  isplitr
  swap
  · iexact HF
  ipureintro
  iintro ⟨Ha, Hs⟩
  isplitl [Ha]
  · iexists _
    isplitr
    swap
    · iexact Ha
    ipureintro
    rw [View.read_write_univ, ← hf]
  · iexists f
    isplitr; · ipureintro; exact hf
    iexact Hs

/-- The wait for a transfer. -/
theorem wp_end {α : Type} {Q : α → sProp 𝕄} {sp sp' : Space} {s : Shape} {e : EltTy}
    {S : Memref sig c.2.kind sp s e} {A : Memref sig c.2.kind sp' s e} {sA : DmaSem sig}
    {hsrc : S.view.WordExact} {hdst : A.view.WordExact}
    {k : PUnit → Prog (TpuEff nD τ sig (Elt F) Λ c.2) α} {D R : sProp 𝕄} (hD : D ⊢ R) :
    iprop(Transfers.Flight EC c (.dma sA) ι (A.view.amount (.dma sA)) D ∗ owing c ι O W₀ ∗ Transfers.MayWaits c ι O)
      ⊢ iprop((iprop(R ∗ semVal (c, .dma sA) 0 ∗ owing c ι O W₀) -∗ wp frame (wpE defs 𝒱 c bd) Set.univ (k ⟨⟩) Q)
        -∗ wp frame (wpE defs 𝒱 c bd) Set.univ (.op (.waitDma2 sA S A hsrc hdst) k) Q) := by
  unfold owing
  iintro ⟨HF, ⟨%W', %hW', HO⟩, #HM⟩ Hk
  iapply (Transfers.wp_waitLocalO EC 𝒱 c bd (srcw := S) (dstw := A) (sem := sA) ι (N := A.view.amount (.dma sA)) rfl (D := D) (O := O) (W := W')) $$ [HF HO]
  · isplitl [HF]; · iexact HF
    isplitl [HO]; · iexact HO
    iapply (Transfers.MayWaits.elim (SemLoc.dma sA)); iexact HM
  iintro ⟨HD, Hv, HO⟩
  iapply Hk
  isplitl [HD]; · iapply hD; iexact HD
  isplitl [Hv]; · iexact Hv
  iexists _
  isplitr
  swap
  · iexact HO
  ipureintro
  intro p hp
  rcases Finset.mem_insert.mp hp with rfl | hp
  · exact .inr rfl
  · exact hW' p hp

variable (hW : ∀ p, (W p).toNat < 38912) {hist : Memref sig c.2.kind .vmem HB .i32}

include hW in
/-- The chunks from chunk `j` on, `n` more after it. -/
theorem wp_chunks {Q : PUnit → sProp 𝕄} {hsrc : ∀ j h, (src j h).view.WordExact}
    {rest : Prog (TpuEff nD τ sig (Elt F) Λ c.2) PUnit} (n : ℕ) :
    ∀ (j : ℕ) (h : n + j < 19) (A B : Memref sig c.2.kind .vmem CB .i32) (hA : A.view.WordExact) (hB : B.view.WordExact)
      (sA sB : DmaSem sig),
    iprop(incoming c EC src W ι j (by omega) A sA ∗ held c B ∗ semVal (c, .dma sB) 0 ∗ pieces c src W n (j + 1) (by omega)
        ∗ owns c hist fullShare (counts W (j * 32768)) ∗ owing c ι O W₀ ∗ Transfers.MayWaits c ι O)
      ⊢ iprop((iprop((held c A ∗ held c B) ∗ (semVal (c, .dma sA) 0 ∗ semVal (c, .dma sB) 0) ∗ pieces c src W (n + 1) j (by omega)
            ∗ owns c hist fullShare (counts W ((n + j + 1) * 32768)) ∗ owing c ι O W₀)
            -∗ wp frame (wpE defs 𝒱 c bd) Set.univ rest Q)
        -∗ wp frame (wpE defs 𝒱 c bd) Set.univ (chunks (F := F) src hsrc hist rest n j h A B hA hB sA sB) Q) := by
  induction n with
  | zero =>
    intro j h A B hA hB sA sB
    rw [chunks]
    simp only [pieces]
    unfold incoming
    iintro ⟨⟨%D, %hD, HF⟩, HB, HvB, Hp, Hh, HO, #HM⟩ Hk
    iapply (wp_end (defs := defs) 𝒱 c bd EC ι O W₀ hD) $$ [HF HO]
    · isplitl [HF]; · iexact HF
      isplitl [HO]; · iexact HO
      iexact HM
    iintro ⟨⟨HA, Hs⟩, HvA, HO⟩
    iapply (wp_rows (defs := defs) 𝒱 c bd W hW (j * 32768)) $$ [HA Hh]
    · isplitl [HA]; · iexact HA
      iexact Hh
    iintro %acc ⟨HA, Hh⟩
    iapply Hk
    isplitl [HA HB]
    · isplitl [HA]; · iapply (owns_held c A _); iexact HA
      iexact HB
    isplitl [HvA HvB]
    · isplitl [HvA]; · iexact HvA
      iexact HvB
    isplitl [Hs Hp]
    · isplitl [Hs]; · iexact Hs
      iexact Hp
    isplitl [Hh]
    · rw [show (0 + j + 1) * 32768 = j * 32768 + 32768 by omega]; iexact Hh
    iexact HO
  | succ n ih =>
    intro j h A B hA hB sA sB
    rw [chunks]
    rw [pieces, pieces]
    unfold incoming
    iintro ⟨⟨%D, %hD, HF⟩, HB, HvB, ⟨Hn, Hp⟩, Hh, HO, #HM⟩ Hk
    iapply (wp_start (defs := defs) 𝒱 c bd EC ι (S := src (j + 1) _) (A := B) (sA := sB) (chunkOf W ((j + 1) * 32768)) (by decide)) $$ [Hn HB HvB]
    · isplitl [Hn]; · iexact Hn
      isplitl [HB]; · iexact HB
      iexact HvB
    iintro %D' ⟨%hD', HF'⟩
    iapply (wp_end (defs := defs) 𝒱 c bd EC ι O W₀ hD) $$ [HF HO]
    · isplitl [HF]; · iexact HF
      isplitl [HO]; · iexact HO
      iexact HM
    iintro ⟨⟨HA, Hs⟩, HvA, HO⟩
    iapply (wp_rows (defs := defs) 𝒱 c bd W hW (j * 32768)) $$ [HA Hh]
    · isplitl [HA]; · iexact HA
      iexact Hh
    iintro %acc ⟨HA, Hh⟩
    iapply (ih (j + 1) _ B A hB hA sB sA) $$ [HF' HA HvA Hp Hh HO]
    · isplitl [HF']
      · unfold incoming
        iexists D'
        isplitr; · ipureintro; exact hD'
        iexact HF'
      isplitl [HA]; · iapply (owns_held c A _); iexact HA
      isplitl [HvA]; · iexact HvA
      isplitl [Hp]; · iexact Hp
      isplitl [Hh]
      · rw [show (j + 1) * 32768 = j * 32768 + 32768 by omega]; iexact Hh
      isplitl [HO]; · iexact HO
      iexact HM
    iintro ⟨⟨HB, HA⟩, ⟨HvB, HvA⟩, Hp, Hh, HO⟩
    iapply Hk
    isplitl [HA HB]
    · isplitl [HA]; · iexact HA
      iexact HB
    isplitl [HvA HvB]
    · isplitl [HvA]; · iexact HvA
      iexact HvB
    isplitl [Hs Hp]
    · isplitl [Hs]; · iexact Hs
      iexact Hp
    isplitl [Hh]
    · rw [show (n + 1 + j + 1) * 32768 = (n + (j + 1) + 1) * 32768 by omega]; iexact Hh
    iexact HO

include EC hW in
/-- A tile's run: the result's row counts the slab's words; all else is held as before. -/
theorem wp_tile {hsrc : ∀ j h, (src j h).view.WordExact} {out : Memref sig c.2.kind .hbm HB .i32} {hout : out.view.WordExact}
    {A B : Memref sig c.2.kind .vmem CB .i32} {hA : A.view.WordExact} {hB : B.view.WordExact} {hhist : hist.view.WordExact}
    {sA sB sO : DmaSem sig} :
    iprop((held c hist ∗ held c A ∗ held c B) ∗ (semVal (c, .dma sA) 0 ∗ semVal (c, .dma sB) 0 ∗ semVal (c, .dma sO) 0)
        ∗ pieces c src W 19 0 (by omega) ∗ held c out ∗ owing c ι O W₀ ∗ Transfers.MayWaits c ι O)
      ⊢ wp (M := 𝕄) frame (wpE defs 𝒱 c bd) Set.univ (tile (F := F) src hsrc out hout A B hA hB hist hhist sA sB sO)
        (fun _ => iprop((held c hist ∗ held c A ∗ held c B) ∗ (semVal (c, .dma sA) 0 ∗ semVal (c, .dma sB) 0 ∗ semVal (c, .dma sO) 0)
          ∗ pieces c src W 19 0 (by omega) ∗ owns c out fullShare (counts W 622592) ∗ owing c ι O W₀)) := by
  unfold tile
  iintro ⟨⟨Hh, HA, HB⟩, ⟨HvA, HvB, HvO⟩, Hp, Ho, HO, #HM⟩
  ihave Hp' := (Entails.of_eq (pieces_succ c src W 18 0 _)) $$ Hp
  icases Hp' with ⟨Hn, Hp⟩
  iapply (wp_zero (defs := defs) 𝒱 c bd) $$ Hh
  iintro %acc Hh
  iapply (wp_start (defs := defs) 𝒱 c bd EC ι (S := src 0 _) (A := A) (sA := sA) (chunkOf W (0 * 32768)) (by decide)) $$ [Hn HA HvA]
  · isplitl [Hn]; · iexact Hn
    isplitl [HA]; · iexact HA
    iexact HvA
  iintro %D ⟨%hD, HF⟩
  iapply (wp_chunks (defs := defs) 𝒱 c bd EC src W ι O W₀ hW (hist := hist) 18 0 _ A B hA hB sA sB) $$ [HF HB HvB Hp Hh HO]
  · isplitl [HF]
    · unfold incoming
      iexists D
      isplitr; · ipureintro; exact hD
      iexact HF
    isplitl [HB]; · iexact HB
    isplitl [HvB]; · iexact HvB
    isplitl [Hp]; · iexact Hp
    isplitl [Hh]; · rw [Nat.zero_mul, counts_zero]; iexact Hh
    isplitl [HO]; · iexact HO
    iexact HM
  iintro ⟨⟨HA, HB⟩, ⟨HvA, HvB⟩, Hp, Hh, HO⟩
  iapply (wp_start (defs := defs) 𝒱 c bd EC ι (S := hist) (A := out) (sA := sO) (counts W ((18 + 0 + 1) * 32768)) (by decide)) $$ [Hh Ho HvO]
  · isplitl [Hh]; · iexact Hh
    isplitl [Ho]; · iexact Ho
    iexact HvO
  iintro %D' ⟨%hD', HF⟩
  iapply (wp_end (defs := defs) 𝒱 c bd EC ι O W₀ hD') $$ [HF HO]
  · isplitl [HF]; · iexact HF
    isplitl [HO]; · iexact HO
    iexact HM
  iintro ⟨⟨Ho, Hh⟩, HvO, HO⟩
  rw [wp_ret]
  imodintro
  isplitl [Hh HA HB]
  · isplitl [Hh]; · iapply (owns_held c hist _); iexact Hh
    isplitl [HA]; · iexact HA
    iexact HB
  isplitl [HvA HvB HvO]
  · isplitl [HvA]; · iexact HvA
    isplitl [HvB]; · iexact HvB
    iexact HvO
  isplitl [Hp]; · iexact Hp
  isplitl [Ho]; · iexact Ho
  iexact HO

end Chunks

end Cert.Proof.Tile

end
-- ==== Proof.TileSplit.lean ====
/-
  How the call's two arrays are dealt out to the 32 tiles: the index array as each tile's slab of 19 chunks,
  the result as each tile's one row, and the histogram the rows make together.
-/
module

public import proofs.«01_k».proof.Proof.TileRun
public import Idealize.ShloMosaic.Lib.SparseCore.Stream

@[expose] public section

noncomputable section

namespace Cert.Proof.Tile

open Idealize.ShloMosaic Idealize.SL.Sem
open Idealize.SL Idealize.SL.RA Idealize.SL.BI
open scoped Idealize.SL.BI
open Idealize.SL.BI.BIBase Idealize.SL.BI.Laws Idealize.SL.ProofMode

/-! ## The values -/

/-- The words of slab `w`, in order: rows `1216 w` to `1216 w + 1215` of the index array. -/
def slabWords (x : IB.Idx → BitVec 32) (w p : ℕ) : BitVec 32 :=
  if h : w * 1216 + p / 512 < 38912 then x (ix2 ⟨w * 1216 + p / 512, h⟩ ⟨p % 512, Nat.mod_lt _ (by decide)⟩) else 0#32

theorem slabWords_lt {x : IB.Idx → BitVec 32} (hx : ∀ i, (x i).toNat < 38912) (w p : ℕ) : (slabWords x w p).toNat < 38912 := by
  unfold slabWords; split
  · exact hx _
  · decide

/-- What the call computes: row `w` counts the words of slab `w`. -/
def histOf (x : IB.Idx → BitVec 32) : OB.Idx → BitVec 32 :=
  fun y => BitVec.ofNat 32 (cnt (slabWords x (y 0).val) 622592 (y 1).val)

/-! ## The arrays by tile -/

section Split

variable {nD : Nat} {τ : Topo} {sig : RefSig} {F : FTy → Type}
variable {Ix : Type} [DecidableEq Ix] {Name : Type} [DecidableEq Name] {U : Type} [URA U] {Lvl : Type}

local notation "𝕄" => MT nD τ sig Ix (Elt F) Name U Lvl

variable (c : Thread nD τ)

/-- A memref read at another shape of as many elements is owned at the contents so read. -/
theorem owns_squeeze {sp : Space} {s s' : Shape} {e : EltTy} (m : Memref sig c.2.kind sp s e) (q : PosShare TreeShare)
    (h : s.Squeezes s') (X : s.Idx → Elt F e) :
    (owns c (m.squeeze s' h) q (fun x => X (Shape.reshapeEquiv h.numel_eq x)) : sProp 𝕄) = owns c m q X := by
  have key (f : m.view.ty.Contents (Elt F)) : (m.squeeze s' h).view.read (Elt F) f = (fun x => X (Shape.reshapeEquiv h.numel_eq x)) ↔ m.view.read (Elt F) f = X := by
    constructor
    · intro e; funext y
      have he : m.view.read (Elt F) f (Shape.reshapeEquiv h.numel_eq ((Shape.reshapeEquiv h.numel_eq).symm y))
          = X (Shape.reshapeEquiv h.numel_eq ((Shape.reshapeEquiv h.numel_eq).symm y)) := congrFun e ((Shape.reshapeEquiv h.numel_eq).symm y)
      rwa [Equiv.apply_symm_apply] at he
    · intro e; funext x
      exact congrFun e (Shape.reshapeEquiv h.numel_eq x)
  have hset : (m.squeeze s' h).view.set = m.view.set := View.set_reshape _ _
  unfold owns
  refine congrArg (fun Φ : _ → sProp 𝕄 => iprop(∃ f, Φ f)) (funext fun f => ?_)
  rw [show (iprop(⌜(m.squeeze s' h).view.read (Elt F) f = (fun x => X (Shape.reshapeEquiv h.numel_eq x))⌝) : sProp 𝕄) = iprop(⌜m.view.read (Elt F) f = X⌝) from
    congrArg _ (propext (key f)), hset]

theorem pieces_eq (src : (j : ℕ) → j < 19 → Memref sig c.2.kind .hbm CB .i32) (W : ℕ → BitVec 32) : ∀ (n j : ℕ) (h : n + j ≤ 19),
    (bigSep Finset.univ (fun k : Fin n => owns c (src (j + k.val) (by omega)) fullShare (chunkOf W ((j + k.val) * 32768))) : sProp 𝕄)
      = pieces c src W n j h := by
  intro n
  induction n with
  | zero => intro j h; rfl
  | succ n ih =>
    intro j h
    rw [bigSep_univ_succ]
    refine congrArg₂ (fun A B : sProp 𝕄 => iprop(A ∗ B)) rfl ((BI.bigSep_congr fun k _ => ?_).trans (ih (j + 1) (by omega)))
    have e : j + k.succ.val = j + 1 + k.val := by rw [Fin.val_succ]; omega
    simp only [e]

theorem chunk_of_row (n : ℕ) (h : n < 38912) : ∃ (a : Fin 2) (s : Fin 16) (j : Fin 19),
    2432 * s.val + 1216 * a.val + 64 * j.val ≤ n ∧ n < 2432 * s.val + 1216 * a.val + 64 * j.val + 64 := by
  refine ⟨⟨n % 2432 / 1216, by omega⟩, ⟨n / 2432, by omega⟩, ⟨n % 1216 / 64, by omega⟩, ?_, ?_⟩ <;> dsimp only <;> omega

section Deal

variable (q : PosShare TreeShare) [∀ e, Nonempty (Elt F e)]

set_option maxRecDepth 20000 in
/-- The index array is the tiles' chunks. -/
theorem owns_slabs (m : Memref sig c.2.kind .hbm IB .i32) (off : Fin 2 → Fin 16 → Fin 19 → Fin 2 → ℕ)
    (inb : ∀ a s j b, off a s j b + CB.size b ≤ IB.size b)
    (hoff : ∀ a s j, off a s j = ![2432 * s.val + 1216 * a.val + 64 * j.val, 0]) (x : IB.Idx → BitVec 32) :
    (owns c m q x : sProp 𝕄)
      = bigSep Finset.univ fun a : Fin 2 => bigSep Finset.univ fun s : Fin 16 => bigSep Finset.univ fun j : Fin 19 =>
          owns c (m.slice (Rect.unit (s := IB) (off a s j) CB.size (inb a s j)) (fun _ => rfl)) q
            (chunkOf (slabWords x (2 * s.val + a.val)) (j.val * 32768)) := by
  let r : Fin 2 × Fin 16 × Fin 19 → Rect IB := fun t => Rect.unit (s := IB) (off t.1 t.2.1 t.2.2) CB.size (inb t.1 t.2.1 t.2.2)
  have hd : ∀ t t', t ≠ t' → Disjoint (r t).set (r t').set := by
    rintro ⟨a, s, j⟩ ⟨a', s', j'⟩ ht
    refine Rect.unit_disjoint 0 ?_
    simp only [hoff, Matrix.cons_val_zero]
    show _ + 64 ≤ _ ∨ _ + 64 ≤ _
    by_contra hn
    refine ht ?_
    have := a.isLt; have := a'.isLt; have := s.isLt; have := s'.isLt; have := j.isLt; have := j'.isLt
    have h1 : s.val = s'.val := by omega
    have h2 : a.val = a'.val := by omega
    have h3 : j.val = j'.val := by omega
    rw [Fin.ext h1, Fin.ext h2, Fin.ext h3]
  have hcov : (Finset.univ : Finset (Fin 2 × Fin 16 × Fin 19)).biUnion (fun t => (r t).set) = Finset.univ := by
    refine Finset.eq_univ_of_forall fun i => ?_
    have h0 : (i 0).val < 38912 := (i 0).isLt
    have h1 : (i 1).val < 512 := (i 1).isLt
    obtain ⟨a, s, j, hlo, hhi⟩ := chunk_of_row (i 0).val h0
    refine Finset.mem_biUnion.mpr ⟨(a, s, j), Finset.mem_univ _, ?_⟩
    show i ∈ (Rect.unit (s := IB) (off a s j) CB.size (inb a s j)).set
    rw [Rect.mem_set_unit, hoff]
    refine Fin.forall_fin_two.mpr ⟨?_, ?_⟩
    · show 2432 * s.val + 1216 * a.val + 64 * j.val ≤ (i 0).val ∧ (i 0).val < 2432 * s.val + 1216 * a.val + 64 * j.val + 64
      omega
    · show 0 ≤ (i 1).val ∧ (i 1).val < 0 + 512
      omega
  have hval (t : Fin 2 × Fin 16 × Fin 19) : (fun j => x ((r t).emb j)) = chunkOf (slabWords x (2 * t.2.1.val + t.1.val)) (t.2.2.val * 32768) := by
    obtain ⟨a, s, j⟩ := t
    funext y
    have h0 : (y 0).val < 64 := (y 0).isLt
    have h1 : (y 1).val < 512 := (y 1).isLt
    have := a.isLt; have := s.isLt; have := j.isLt
    have e0 : (j.val * 32768 + (y 0).val * 512 + (y 1).val) / 512 = j.val * 64 + (y 0).val := by omega
    have e1 : (j.val * 32768 + (y 0).val * 512 + (y 1).val) % 512 = (y 1).val := by omega
    unfold chunkOf slabWords
    rw [dif_pos (by show (2 * s.val + a.val) * 1216 + (j.val * 32768 + (y 0).val * 512 + (y 1).val) / 512 < 38912; omega)]
    refine congrArg x (funext fun b => Fin.ext ?_)
    revert b
    refine Fin.forall_fin_two.mpr ⟨?_, ?_⟩
    · show off a s j 0 + 1 * (y 0).val = (2 * s.val + a.val) * 1216 + (j.val * 32768 + (y 0).val * 512 + (y 1).val) / 512
      rw [hoff, e0]; show 2432 * s.val + 1216 * a.val + 64 * j.val + 1 * (y 0).val = _; omega
    · show off a s j 1 + 1 * (y 1).val = (j.val * 32768 + (y 0).val * 512 + (y 1).val) % 512
      rw [hoff, e1]; show 0 + 1 * (y 1).val = _; omega
  have hE : (bigSep Finset.univ (fun t => owns c (m.slice (r t) (fun _ => rfl)) q (fun j => x ((r t).emb j))) : sProp 𝕄)
      = bigSep Finset.univ fun a : Fin 2 => bigSep Finset.univ fun s : Fin 16 => bigSep Finset.univ fun j : Fin 19 =>
          owns c (m.slice (Rect.unit (s := IB) (off a s j) CB.size (inb a s j)) (fun _ => rfl)) q
            (chunkOf (slabWords x (2 * s.val + a.val)) (j.val * 32768)) := by
    simp only [hval]
    rw [BI.bigSep_univ_prod]
    exact BI.bigSep_congr fun a _ => BI.bigSep_univ_prod _
  rw [← hE]
  have h₁ := owns_rects (Val := Elt F) (Ix := Ix) (Name := Name) (U := U) (Lvl := Lvl) c m q r (fun _ _ => rfl) hd hcov x
  have h₂ := owns_of_rects (Val := Elt F) (Ix := Ix) (Name := Name) (U := U) (Lvl := Lvl) c m q r (fun _ _ => rfl) hd hcov x
  exact BI.equiv_iff.mp ⟨h₁, h₂⟩

/-- The result array is the tiles' rows. -/
theorem owns_rows (m : Memref sig c.2.kind .hbm OB .i32) (off : Fin 2 → Fin 16 → Fin 2 → ℕ)
    (inb : ∀ a s b, off a s b + OR.size b ≤ OB.size b) (hoff : ∀ a s, off a s = ![2 * s.val + a.val, 0]) (h : OR.Squeezes HB)
    (y : OB.Idx → BitVec 32) :
    (owns c m q y : sProp 𝕄)
      = bigSep Finset.univ fun a : Fin 2 => bigSep Finset.univ fun s : Fin 16 =>
          owns c ((m.slice (Rect.unit (s := OB) (off a s) OR.size (inb a s)) (fun _ => rfl)).squeeze HB h) q
            (fun j => y (ix2 ⟨2 * s.val + a.val, by have := a.isLt; have := s.isLt; show _ < 32; omega⟩ (j 0))) := by
  let r : Fin 2 × Fin 16 → Rect OB := fun t => Rect.unit (s := OB) (off t.1 t.2) OR.size (inb t.1 t.2)
  have hd : ∀ t t', t ≠ t' → Disjoint (r t).set (r t').set := by
    rintro ⟨a, s⟩ ⟨a', s'⟩ ht
    refine Rect.unit_disjoint 0 ?_
    simp only [hoff, Matrix.cons_val_zero]
    show _ + 1 ≤ _ ∨ _ + 1 ≤ _
    by_contra hn
    refine ht ?_
    have := a.isLt; have := a'.isLt; have := s.isLt; have := s'.isLt
    have h1 : s.val = s'.val := by omega
    have h2 : a.val = a'.val := by omega
    rw [Fin.ext h1, Fin.ext h2]
  have hcov : (Finset.univ : Finset (Fin 2 × Fin 16)).biUnion (fun t => (r t).set) = Finset.univ := by
    refine Finset.eq_univ_of_forall fun i => ?_
    have h0 : (i 0).val < 32 := (i 0).isLt
    have h1 : (i 1).val < 38912 := (i 1).isLt
    obtain ⟨a, ha⟩ : ∃ a : Fin 2, a.val = (i 0).val % 2 := ⟨⟨_, by omega⟩, rfl⟩
    obtain ⟨s, hs⟩ : ∃ s : Fin 16, s.val = (i 0).val / 2 := ⟨⟨_, by omega⟩, rfl⟩
    refine Finset.mem_biUnion.mpr ⟨(a, s), Finset.mem_univ _, ?_⟩
    show i ∈ (Rect.unit (s := OB) (off a s) OR.size (inb a s)).set
    rw [Rect.mem_set_unit, hoff]
    refine Fin.forall_fin_two.mpr ⟨?_, ?_⟩
    · show 2 * s.val + a.val ≤ (i 0).val ∧ (i 0).val < 2 * s.val + a.val + 1
      omega
    · show 0 ≤ (i 1).val ∧ (i 1).val < 0 + 38912
      omega
  have hrow (t : Fin 2 × Fin 16) : (owns c (m.slice (r t) (fun _ => rfl)) q (fun j => y ((r t).emb j)) : sProp 𝕄)
      = owns c ((m.slice (Rect.unit (s := OB) (off t.1 t.2) OR.size (inb t.1 t.2)) (fun _ => rfl)).squeeze HB h) q
            (fun j => y (ix2 ⟨2 * t.2.val + t.1.val, by have := t.1.isLt; have := t.2.isLt; show _ < 32; omega⟩ (j 0))) := by
    rw [← owns_squeeze c (m.slice (r t) (fun _ => rfl)) q h (fun j => (y ((r t).emb j) : Elt F .i32))]
    refine congrArg _ (funext fun j => congrArg y (funext fun b => Fin.ext ?_))
    have hj : Shape.reshapeEquiv (s := OR) (s' := HB) h.numel_eq j = Fin.cons ⟨0, Nat.one_pos⟩ j := Shape.reshapeEquiv_cons_one _ j
    revert b
    refine Fin.forall_fin_two.mpr ⟨?_, ?_⟩
    · show off t.1 t.2 0 + 1 * (Shape.reshapeEquiv (s := OR) (s' := HB) h.numel_eq j 0).val = 2 * t.2.val + t.1.val
      rw [hj, hoff]; show 2 * t.2.val + t.1.val + 1 * 0 = _; omega
    · show off t.1 t.2 1 + 1 * (Shape.reshapeEquiv (s := OR) (s' := HB) h.numel_eq j 1).val = (j 0).val
      rw [hj, hoff]; show 0 + 1 * (j 0).val = _; omega
  have hE : (bigSep Finset.univ (fun t => owns c (m.slice (r t) (fun _ => rfl)) q (fun j => y ((r t).emb j))) : sProp 𝕄)
      = bigSep Finset.univ fun a : Fin 2 => bigSep Finset.univ fun s : Fin 16 =>
          owns c ((m.slice (Rect.unit (s := OB) (off a s) OR.size (inb a s)) (fun _ => rfl)).squeeze HB h) q
            (fun j => y (ix2 ⟨2 * s.val + a.val, by have := a.isLt; have := s.isLt; show _ < 32; omega⟩ (j 0))) := by
    rw [BI.bigSep_congr (fun t _ => hrow t), BI.bigSep_univ_prod]
  rw [← hE]
  have h₁ := owns_rects (Val := Elt F) (Ix := Ix) (Name := Name) (U := U) (Lvl := Lvl) c m q r (fun _ _ => rfl) hd hcov y
  have h₂ := owns_of_rects (Val := Elt F) (Ix := Ix) (Name := Name) (U := U) (Lvl := Lvl) c m q r (fun _ _ => rfl) hd hcov y
  exact BI.equiv_iff.mp ⟨h₁, h₂⟩

end Deal

end Split

end Cert.Proof.Tile

end
-- ==== Proof.HistRun.lean ====
/-
  The histogram call: its own program's launch. Each tile takes its slab of the indices and its row of the
  result; the run ends with every row counting its slab.
-/
module

public import proofs.«01_k».proof.Defs
public import proofs.«01_k».proof.Proof.TileSplit
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.HistIdeal

@[expose] public section

noncomputable section

namespace Cert.Proof.Hist

open Cert.HistIdeal Cert.HistIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL
abbrev EC : UEmb Counters (MT nD τ sig (HIx 1) (Elt F) ℕ UU ℕ) := countersEmb

/-! ## The body -/

abbrev srcOf (i : grid0.Coords) (arg2 : Memref sig .scVector .hbm S38912x512 .i32) (j : ℕ) (h : j < 19) : Memref sig .scVector .hbm S64x512 .i32 :=
  arg2.slice (Rect.unit (s := S38912x512) (k0_off2 i (BitVec.ofNat 32 (64 * j))) S64x512.size (k0_off2_inb i ⟨j, h⟩)) (fun _ => rfl)
abbrev outOf (i : grid0.Coords) (arg3 : Memref sig .scVector .hbm S32x38912 .i32) : Memref sig .scVector .hbm S38912 .i32 :=
  (arg3.slice (Rect.unit (s := S32x38912) (k0_off611 i) S1x38912.size (k0_off611_inb i)) (fun _ => rfl)).squeeze S38912 squeezes_S1x38912_S38912

variable [FloatOps F]

set_option maxRecDepth 100000 in
set_option maxHeartbeats 4000000 in
/-- The printed body is the tile's program at the tile's slab and row. -/
theorem body_eq (i : grid0.Coords) (arg2 : Memref sig .scVector .hbm S38912x512 .i32) (harg2 : arg2.IsWhole) (arg3 : Memref sig .scVector .hbm S32x38912 .i32) (harg3 : arg3.IsWhole) (arg4 : Memref sig .scVector .vmem S64x512 .i32) (harg4 : arg4.IsWhole) (arg5 : Memref sig .scVector .vmem S64x512 .i32) (harg5 : arg5.IsWhole) (arg6 : Memref sig .scVector .vmem S38912 .i32) (harg6 : arg6.IsWhole) (arg7 : DmaSems sig S_) (arg8 : DmaSems sig S_) (v158_r0 : DmaSems sig S_) :
    cc0__sc_hist_body (F := F) i arg2 harg2 arg3 harg3 arg4 harg4 arg5 harg5 arg6 harg6 arg7 arg8 v158_r0
      = Tile.tile (F := F) (p := .scVector ((i 0).castLE hcore0) ((i 1).castLE hsub0)) (srcOf i arg2) (fun _ _ => View.wordExact_bits rfl) (outOf i arg3) ((View.wordExact_bits rfl).reshape _ _) arg4 arg5 harg4.wordExact harg5.wordExact arg6 harg6.wordExact arg7.sem arg8.sem v158_r0.sem := by
  unfold cc0__sc_hist_body k0_part58 k0_part59 k0_part60 k0_part61 k0_part62 k0_part63 k0_part64
  simp only [bind_assoc, pure_bind]
  unfold Tile.tile
  rfl

/-! ## The launch memory and the buffers -/

variable (m : (ℓ : Loc nD τ sig) → Buf (Elt F) ℓ) (ρ : Dev nD → PrngReg)

abbrev iV : Memref sig .scVector .hbm S38912x512 .i32 := Memref.whole main_arg0_scv
abbrev oV : Memref sig .scVector .hbm S32x38912 .i32 := Memref.whole main_v0_scv
abbrev sA : Memref sig .scVector .vmem S64x512 .i32 := Memref.whole cc0_scratch0
abbrev sB : Memref sig .scVector .vmem S64x512 .i32 := Memref.whole cc0_scratch1
abbrev sH : Memref sig .scVector .vmem S38912 .i32 := Memref.whole cc0_scratch2
abbrev iLoc (d : Dev nD) : Loc nD τ sig := (SparseCore.T d).loc main_arg0
abbrev oLoc (d : Dev nD) : Loc nD τ sig := (SparseCore.T d).loc main_v0

/-- The indices of device `d`, as words. -/
abbrev inds (d : Dev nD) : Tile.IB.Idx → BitVec 32 := m (iLoc d)

/-- Every index names a histogram cell. -/
def PreOK : Prop := ∀ (d : Dev nD) (i : Tile.IB.Idx), (inds m d i).toNat < 38912

abbrev cV (L : grid0.Coords) : Fin τ.nSC := (L 0).castLE hcore0
abbrev jV (L : grid0.Coords) : Fin τ.nSub := (L 1).castLE hsub0
/-- The tile's slab and row number. -/
abbrev wid (L : grid0.Coords) : ℕ := 2 * (L 1).val + (L 0).val

section Tile

variable (d : Dev nD) (L : grid0.Coords)

/-- The tile's slab, chunk by chunk. -/
def slab : sProp 𝕄 :=
  bigSep Finset.univ fun j : Fin 19 => owns (V d (cV L) (jV L)) (srcOf L iV j.val j.isLt) fullShare (Tile.chunkOf (Tile.slabWords (inds m d) (wid L)) (j.val * 32768))
/-- The tile's row of the result, at any contents and at the slab's counts. -/
def rowAny : sProp 𝕄 := Tile.held (F := F) (V d (cV L) (jV L)) (outOf L oV)
def rowDone : sProp 𝕄 := owns (V d (cV L) (jV L)) (outOf L oV) fullShare (Tile.counts (Tile.slabWords (inds m d) (wid L)) 622592)

instance slab_storable : BI.Storable (upEmb : UEmb _ 𝕄) (slab m d L) := by unfold slab; infer_instance
instance rowAny_storable : BI.Storable (upEmb : UEmb _ 𝕄) (rowAny (F := F) d L) := by unfold rowAny Tile.held; infer_instance
instance rowDone_storable : BI.Storable (upEmb : UEmb _ 𝕄) (rowDone m d L) := by unfold rowDone; infer_instance

abbrev cAcell : GSem nD τ sig := (V d (cV L) (jV L), .dma cc0_scratch3.sem)
abbrev cBcell : GSem nD τ sig := (V d (cV L) (jV L), .dma cc0_scratch4.sem)
abbrev cOcell : GSem nD τ sig := (V d (cV L) (jV L), .dma cc0_scoped0.sem)

omit [FloatOps F] in
theorem ownSems0_V :
    (ownSems0 (V d (cV L) (jV L)) : sProp 𝕄)
      = iprop(semVal (cAcell d L) 0 ∗ semVal (cBcell d L) 0 ∗ semVal (cOcell d L) 0
          ∗ bigSep ((((ownCells (V d (cV L) (jV L))).erase (cAcell d L)).erase (cBcell d L)).erase (cOcell d L)) fun g => semVal g 0) := by
  unfold SparseCore.Cfg.ownSems0
  rw [SparseCore.bigSep_erase' ((mem_ownCells (g := cAcell d L)).mpr ⟨rfl, by
      show (SemLoc.dma cc0_scratch3.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc0_scratch4.sem : SemLoc sig).isScoped .scVector = true; decide⟩⟩),
    SparseCore.bigSep_erase' (Finset.mem_erase.mpr ⟨by simp [cBcell, cOcell]; decide, Finset.mem_erase.mpr ⟨by simp [cAcell, cOcell]; decide,
      (mem_ownCells (g := cOcell d L)).mpr ⟨rfl, by show (SemLoc.dma cc0_scoped0.sem : SemLoc sig).isScoped .scVector = true; decide⟩⟩⟩)]

omit [FloatOps F] in
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

omit [FloatOps F] in
theorem held_A : (Tile.held (F := F) (V d (cV L) (jV L)) sA : sProp 𝕄) = iprop(∃ f, (V d (cV L) (jV L)).loc cc0_scratch0 ↦{fullShare} f) := by
  unfold Tile.held; exact congrArg _ (funext fun f => owns_whole (V d (cV L) (jV L)) cc0_scratch0 fullShare f)
omit [FloatOps F] in
theorem held_B : (Tile.held (F := F) (V d (cV L) (jV L)) sB : sProp 𝕄) = iprop(∃ f, (V d (cV L) (jV L)).loc cc0_scratch1 ↦{fullShare} f) := by
  unfold Tile.held; exact congrArg _ (funext fun f => owns_whole (V d (cV L) (jV L)) cc0_scratch1 fullShare f)
omit [FloatOps F] in
theorem held_H : (Tile.held (F := F) (V d (cV L) (jV L)) sH : sProp 𝕄) = iprop(∃ f, (V d (cV L) (jV L)).loc cc0_scratch2 ↦{fullShare} f) := by
  unfold Tile.held; exact congrArg _ (funext fun f => owns_whole (V d (cV L) (jV L)) cc0_scratch2 fullShare f)

theorem slab_pieces : slab m d L = Tile.pieces (V d (cV L) (jV L)) (srcOf L iV) (Tile.slabWords (inds m d) (wid L)) 19 0 (by omega) := by
  rw [← Tile.pieces_eq]
  unfold slab
  refine BI.bigSep_congr fun j _ => ?_
  have e : 0 + j.val = j.val := Nat.zero_add _
  simp only [e]

/-- The tile `L`'s task. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ (slab m d L ∗ rowAny d L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_hist_body L iV (Memref.isWhole_whole _) oV (Memref.isWhole_whole _) sA (Memref.isWhole_whole _) sB (Memref.isWhole_whole _)
            sH (Memref.isWhole_whole _) cc0_scratch3 cc0_scratch4 cc0_scoped0)
          fun _ => iprop((slab m d L ∗ rowDone m d L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]
  rw [(K (F := F)).scopedBufs_V hF d (cV L) (jV L), SparseCore.Cfg.scopedSems0_V (Val := Elt F) d (cV L) (jV L), ownSems0_V, ownBufs_V,
    slab_pieces, ← held_A, ← held_B, ← held_H]
  unfold rowAny rowDone
  iintro ⟨#Hlv, -, ⟨Hp, Ho⟩, ⟨HA, HB, HH, Hbufs⟩, ⟨HvA, HvB, HvO, Hsems⟩, HO⟩
  ihave #Hmw := ((K (F := F)).mayWaits_none (thr := V d (cV L) (jV L)) hO) $$ Hlv
  ihave Hrun := (Tile.wp_tile (defs := defs₀ (F := F)) 𝒱₀ (V d (cV L) (jV L)) none EC (srcOf L iV) (Tile.slabWords (inds m d) (wid L)) none O W
      (Tile.slabWords_lt (fun i => hpre d i) (wid L)) (hist := sH) (hsrc := fun _ _ => View.wordExact_bits rfl) (out := outOf L oV)
      (hout := (View.wordExact_bits rfl).reshape _ _) (A := sA) (B := sB) (hA := (Memref.isWhole_whole _).wordExact) (hB := (Memref.isWhole_whole _).wordExact)
      (hhist := (Memref.isWhole_whole _).wordExact) (sA := cc0_scratch3.sem) (sB := cc0_scratch4.sem) (sO := cc0_scoped0.sem)) $$ [Hp Ho HA HB HH HvA HvB HvO HO]
  · isplitl [HA HB HH]
    · isplitl [HH]; · iexact HH
      isplitl [HA]; · iexact HA
      iexact HB
    isplitl [HvA HvB HvO]
    · isplitl [HvA]; · iexact HvA
      isplitl [HvB]; · iexact HvB
      iexact HvO
    isplitl [Hp]; · iexact Hp
    isplitl [Ho]; · iexact Ho
    isplitl [HO]
    · unfold Tile.owing
      iexists W
      isplitr; · ipureintro; exact fun p hp => Or.inl hp
      iexact HO
    iexact Hmw
  iapply (wp_wand frame _ _) $$ Hrun
  iintro %_ ⟨⟨HH, HA, HB⟩, ⟨HvA, HvB, HvO⟩, Hp, Ho, HO⟩
  isplitl [Hp Ho]
  · isplitl [Hp]; · iexact Hp
    iexact Ho
  isplitl [HH HA HB Hbufs]
  · isplitl [HA]; · iexact HA
    isplitl [HB]; · iexact HB
    isplitl [HH]; · iexact HH
    iexact Hbufs
  isplitl [HvA HvB HvO Hsems]
  · isplitl [HvA]; · iexact HvA
    isplitl [HvB]; · iexact HvB
    isplitl [HvO]; · iexact HvO
    iexact Hsems
  unfold Tile.owing
  iexact HO

end Tile

/-! ## What the handshakes carry -/

def coordsV (c : Fin (grid0.bound 0)) (s : Fin (grid0.bound 1)) : grid0.Coords :=
  fun | 0 => c | 1 => s | ⟨_ + 2, h⟩ => absurd h (Nat.not_lt.2 (Nat.le_add_left _ _))

def goOf (d : Dev nD) (c : Fin 2) (s : Fin 16) : sProp 𝕄 := iprop(slab m d (coordsV c s) ∗ rowAny d (coordsV c s))
def tdOf (d : Dev nD) (c : Fin 2) (s : Fin 16) : sProp 𝕄 := iprop(slab m d (coordsV c s) ∗ rowDone m d (coordsV c s))

instance goOf_storable (d : Dev nD) (c : Fin 2) (s : Fin 16) : BI.Storable (upEmb : UEmb _ 𝕄) (goOf m d c s) := by unfold goOf; infer_instance
instance tdOf_storable (d : Dev nD) (c : Fin 2) (s : Fin 16) : BI.Storable (upEmb : UEmb _ 𝕄) (tdOf m d c s) := by unfold tdOf; infer_instance

@[irreducible] def stOf (d : Dev nD) (c : Fin 2) : sProp 𝕄 := bigSep Finset.univ fun s : Fin 16 => goOf m d c s
@[irreducible] def dnOf (d : Dev nD) (c : Fin 2) : sProp 𝕄 := bigSep Finset.univ fun s : Fin 16 => tdOf m d c s

instance stOf_storable (d : Dev nD) (c : Fin 2) : BI.Storable (upEmb : UEmb _ 𝕄) (stOf m d c) := by unfold stOf; infer_instance
instance dnOf_storable (d : Dev nD) (c : Fin 2) : BI.Storable (upEmb : UEmb _ 𝕄) (dnOf m d c) := by unfold dnOf; infer_instance

def P : (K (F := F)).Pay (nD := nD) (Val := Elt F) (Name := ℕ) (U := UU) where
  st := fun q d c => match q with | 0 => stOf m d (Fin.cast (nCore_zero (F := F)) c)
  dn := fun q d c => match q with | 0 => dnOf m d (Fin.cast (nCore_zero (F := F)) c)
  go := fun q d c s => match q with | 0 => goOf m d (Fin.cast (nCore_zero (F := F)) c) (Fin.cast (nSub_zero (F := F)) s)
  td := fun q d c s => match q with | 0 => tdOf m d (Fin.cast (nCore_zero (F := F)) c) (Fin.cast (nSub_zero (F := F)) s)
  x := fun _ _ => iprop(emp)

instance P_storable : (P (F := F) m).IsStorable where
  st q d c := match q with | 0 => stOf_storable m d _
  dn q d c := match q with | 0 => dnOf_storable m d _
  go q d c s := match q with | 0 => goOf_storable m d _ _
  td q d c s := match q with | 0 => tdOf_storable m d _ _

/-! ## The launch theorem's obligations -/

theorem defs₀_vector (c : Fin τ.nSC) (s : Fin τ.nSub) :
    defs₀ (F := F) (.scVector c s) 0 ()
      = SparseCore.onTile hcore0 hsub0 (fun c s => cc0__sc_hist_body (coordsV c s)
          iV (Memref.isWhole_whole _) oV (Memref.isWhole_whole _) sA (Memref.isWhole_whole _) sB (Memref.isWhole_whole _)
          sH (Memref.isWhole_whole _) cc0_scratch3 cc0_scratch4 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast (nSub_zero (F := F)) i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast (nCore_zero (F := F)) i)) = bigSep Finset.univ Φ :=
  bigSep_congr fun _ _ => congrArg Φ (Fin.ext rfl)

theorem vecSplit : (K (F := F)).VecSplit' (P m) 0 := by
  intro d c
  show stOf m d (Fin.cast (nCore_zero (F := F)) c) ⊢ |={Set.univ}=> iprop(
      (bigSep Finset.univ fun i : Fin ((K (F := F)).nSub 0) => goOf m d (Fin.cast (nCore_zero (F := F)) c) (Fin.cast (nSub_zero (F := F)) i))
      ∗ ((bigSep Finset.univ fun i : Fin ((K (F := F)).nSub 0) => tdOf m d (Fin.cast (nCore_zero (F := F)) c) (Fin.cast (nSub_zero (F := F)) i))
          -∗ dnOf m d (Fin.cast (nCore_zero (F := F)) c)))
  rw [bigSep_tasks (F := F) (fun i => goOf m d (Fin.cast (nCore_zero (F := F)) c) i), bigSep_tasks (F := F) (fun i => tdOf m d (Fin.cast (nCore_zero (F := F)) c) i)]
  unfold stOf dnOf
  iintro H; imodintro
  isplitl [H]; · iexact H
  iintro H; iexact H

/-! ## The launch element of the ghost state -/

def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_none]; iempintro
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The two arrays by tile -/

/-- The counts of every slab. -/
abbrev hist (d : Dev nD) : Buf (Elt F) (oLoc d) := Tile.histOf (inds m d)

theorem off2_eq (a : Fin 2) (s : Fin 16) (j : Fin 19) :
    k0_off2 (coordsV a s) (BitVec.ofNat 32 (64 * j.val)) = ![2432 * s.val + 1216 * a.val + 64 * j.val, 0] := k0_off2_eq (coordsV a s) j
theorem off611_eq (a : Fin 2) (s : Fin 16) : k0_off611 (coordsV a s) = ![2 * s.val + a.val, 0] := k0_off611_eq (coordsV a s)

variable [∀ e, Nonempty (Elt F e)]

/-- A thread to name the arrays' memrefs at. -/
abbrev t₀ (d : Dev nD) : Thread nD τ := V d (cV (coordsV (0 : Fin 2) (0 : Fin 16))) (jV (coordsV (0 : Fin 2) (0 : Fin 16)))

theorem inds_slabs (d : Dev nD) :
    (iLoc d ↦{fullShare} m (iLoc d) : sProp 𝕄) = bigSep Finset.univ fun a : Fin 2 => bigSep Finset.univ fun s : Fin 16 => slab m d (coordsV a s) := by
  have h1 : (owns (t₀ d) iV fullShare (inds m d) : sProp 𝕄) = iLoc d ↦{fullShare} m (iLoc d) := owns_whole (t₀ d) main_arg0_scv fullShare _
  rw [← h1, Tile.owns_slabs (t₀ d) fullShare iV (fun a s j => k0_off2 (coordsV a s) (BitVec.ofNat 32 (64 * j.val)))
    (fun a s j => k0_off2_inb (coordsV a s) j) off2_eq (inds m d)]
  rfl

theorem hist_rows (d : Dev nD) :
    (oLoc d ↦{fullShare} hist m d : sProp 𝕄) = bigSep Finset.univ fun a : Fin 2 => bigSep Finset.univ fun s : Fin 16 => rowDone m d (coordsV a s) := by
  have h1 : (owns (t₀ d) oV fullShare (hist m d) : sProp 𝕄) = oLoc d ↦{fullShare} hist m d := owns_whole (t₀ d) main_v0_scv fullShare _
  rw [← h1, Tile.owns_rows (t₀ d) fullShare oV (fun a s => k0_off611 (coordsV a s)) (fun a s => k0_off611_inb (coordsV a s)) off611_eq
    squeezes_S1x38912_S38912 (hist m d)]
  rfl

theorem any_rows (d : Dev nD) (f : Buf (Elt F) (oLoc d)) :
    (oLoc d ↦{fullShare} f : sProp 𝕄) ⊢ bigSep Finset.univ fun a : Fin 2 => bigSep Finset.univ fun s : Fin 16 => rowAny d (coordsV a s) := by
  have h1 : (owns (t₀ d) oV fullShare f : sProp 𝕄) = oLoc d ↦{fullShare} f := owns_whole (t₀ d) main_v0_scv fullShare _
  rw [← h1, Tile.owns_rows (t₀ d) fullShare oV (fun a s => k0_off611 (coordsV a s)) (fun a s => k0_off611_inb (coordsV a s)) off611_eq
    squeezes_S1x38912_S38912 f]
  exact BI.bigSep_mono fun a _ => BI.bigSep_mono fun s _ => Tile.owns_held (F := F) (V d (cV (coordsV a s)) (jV (coordsV a s))) (outOf (coordsV a s) oV) _

theorem deal (d : Dev nD) :
    iprop((iLoc d ↦{fullShare} m (iLoc d)) ∗ oLoc d ↦{fullShare} m (oLoc d))
      ⊢ (bigSep Finset.univ fun c : Fin ((K (F := F)).nCore 0) => (P m).st 0 d c : sProp 𝕄) := by
  show _ ⊢ bigSep Finset.univ fun c : Fin ((K (F := F)).nCore 0) => stOf m d (Fin.cast (nCore_zero (F := F)) c)
  rw [bigSep_cores (F := F) (fun c => stOf m d c)]
  unfold stOf goOf
  simp only [bigSep_sep']
  rw [inds_slabs]
  iintro ⟨Hi, Ho⟩
  isplitl [Hi]; · iexact Hi
  iapply (any_rows (F := F) d _); iexact Ho

theorem undeal (d : Dev nD) :
    (bigSep Finset.univ fun c : Fin ((K (F := F)).nCore 0) => (P m).dn 0 d c : sProp 𝕄)
      ⊢ iprop((iLoc d ↦{fullShare} m (iLoc d)) ∗ oLoc d ↦{fullShare} hist m d) := by
  show (bigSep Finset.univ fun c : Fin ((K (F := F)).nCore 0) => dnOf m d (Fin.cast (nCore_zero (F := F)) c)) ⊢ _
  rw [bigSep_cores (F := F) (fun c => dnOf m d c)]
  unfold dnOf tdOf
  simp only [bigSep_sep']
  rw [inds_slabs, hist_rows]

/-! ## @main on the TensorCore -/

omit [FloatOps F] [∀ e, Nonempty (Elt F e)] in
theorem unscopedBufs_eq (d : Dev nD) (W : (b : Ref sig .tc) → Buf (Elt F) ((d.tc : Thread nD τ).loc b)) :
    (unscopedBufs d W : sProp 𝕄) = iprop((iLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

abbrev FIN (d : Dev nD) : sProp 𝕄 := iprop((iLoc d ↦{fullShare} m (iLoc d)) ∗ oLoc d ↦{fullShare} hist m d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hi, Ho⟩, Hts, -⟩, -⟩
  iapply ((K (F := F)).wp_run (D (F := F)) 𝒱 (EH := EH) (P := P m) κ d 0) $$ [Hst Hi Ho Hb Hts]
  isplitr; · iexact Hctx
  isplitl [Hst]; · iexact Hst
  isplitl [Hi Ho]
  · iapply (deal m d)
    isplitl [Hi]; · iexact Hi
    iexact Ho
  iintro ⟨Hst, Hdn⟩
  ihave Hdn' := (undeal m d) $$ Hdn
  imodintro
  isplitl [Hst]; · iexact Hst
  isplitr [Hb Hts]; · iexact Hdn'
  isplitl [Hb] <;> iassumption

def fq (d : Dev nD) (s' : Phys nD τ sig (Elt F)) : Prop := s'.mem.mem (iLoc d) = m (iLoc d) ∧ s'.mem.mem (oLoc d) = hist m d

omit [∀ e, Nonempty (Elt F e)] in
theorem hfin (d : Dev nD) (s' : Phys nD τ sig (Elt F)) : iprop(FIN m d ∗ SI s') ⊢ (⌜fq m d s'⌝ : sProp 𝕄) := by
  iintro ⟨⟨Hi, Hx⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := hist m d)) $$ [HSI Hx]
  · isplitl [HSI] <;> iassumption
  icases H with %h2
  ipureintro; exact ⟨funext fun i => h1 i (Finset.mem_univ i), funext fun i => h2 i (Finset.mem_univ i)⟩

/-! ## The program's run -/

def QC : PUnit × MemSt nD τ sig (Elt F) → Prop := fun r =>
  (∀ c : Dev nD, r.2.mem (iLoc c) = m (iLoc c) ∧ r.2.mem (oLoc c) = hist m c) ∧ r.2.sem = fun _ => 0

theorem run_main (hpre : PreOK m) :
    θ_run (Cert.HistIdeal.defs (F := F)) (Cert.HistIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Hist

end
-- ==== Proof.Scatter.lean ====
/-
  A scatter of ones into zeros counts: each entry ends at the number of indices naming it. And counting over
  all slabs at once, cells apart by slab, is counting each slab by itself.
-/
module

public import Idealize.ShloMosaic.Lib.Routing.Ops

@[expose] public section

namespace Cert.Proof.Scatter

open Idealize.ShloMosaic Idealize.ShloMosaic.ValueIdx Idealize.ShloMosaic.Routing

section

variable {C N : ℕ} (d : ScatterDims (shape1 C) (shape2 N 1) (shape1 N)) (hiw : d.insertedWindowDims = [0])
  (hsd : d.scatterDimsToOperandDims = [0]) (hivd : d.indexVectorDim = 1) (idx : IVec (shape2 N 1) 32)
include hiw hsd hivd

theorem window_zero (i : Fin N) : d.window (ix1 i) 0 = 0 := by
  unfold ScatterDims.window
  refine dif_neg fun h => ?_
  have hm : (0 : Fin 1) ∈ d.insertedWindowDims := hiw ▸ List.mem_singleton.2 rfl
  have h2 := (List.mem_filter.1 h).2
  simp [hm] at h2

theorem start_index (i : Fin N) : d.start (ix1 i) idx 0 = (idx (ix2 i (0 : Fin 1))).toInt := by
  have hm : (0 : Fin 1) ∈ d.scatterDimsToOperandDims := hsd ▸ List.mem_singleton.2 rfl
  unfold ScatterDims.start
  rw [dif_pos hm]
  refine congrArg (fun j => (idx j).toInt) (funext fun b => Fin.ext ?_)
  unfold ScatterDims.siIdx
  match b with
  | ⟨0, _⟩ =>
    rw [dif_neg (by rw [hivd]; exact Nat.zero_ne_one)]
    unfold ScatterDims.siCoord
    simp only [Fin.val_cast]
    exact (fun X : Fin 1 => by obtain rfl : X = 0 := Subsingleton.elim _ _; rfl : ∀ X : Fin 1, (ix1 i X).val = i.val) _
  | ⟨1, _⟩ =>
    rw [dif_pos (by rw [hivd])]
    show List.idxOf (0 : Fin 1) d.scatterDimsToOperandDims = 0
    rw [hsd]; simp

/-- Update `i` lands at the entry its index names. -/
theorem lands (g : ℕ → ℕ) (hg : ∀ i : Fin N, idx (ix2 i (0 : Fin 1)) = BitVec.ofNat 32 (g i.val)) (hg31 : ∀ i : Fin N, g i.val < 2 ^ 31)
    (i : Fin N) (x : Fin C) : d.resultIdx? (ix1 i) idx = some (ix1 x) ↔ g i.val = x.val := by
  have hs : d.start (ix1 i) idx 0 + (d.window (ix1 i) 0 : ℤ) = (g i.val : ℤ) := by
    rw [start_index d hiw hsd hivd, window_zero d hiw hsd hivd, hg, StableHlo.Predicate.toInt_ofNat_small _ (hg31 i)]
    omega
  have hx := x.isLt
  unfold ScatterDims.resultIdx?
  by_cases h : ∀ a, 0 ≤ d.start (ix1 i) idx a + (d.window (ix1 i) a : ℤ) ∧ d.start (ix1 i) idx a + (d.window (ix1 i) a : ℤ) < ((shape1 C).size a : ℤ)
  · rw [dif_pos h]
    constructor
    · intro e
      have e0 : (d.start (ix1 i) idx 0 + (d.window (ix1 i) 0 : ℤ)).toNat = x.val := congrArg Fin.val (congrFun (Option.some.inj e) 0)
      rw [hs] at e0; omega
    · intro e
      refine congrArg some (funext fun a => Fin.ext ?_)
      obtain rfl : a = 0 := Subsingleton.elim _ _
      show (d.start (ix1 i) idx 0 + (d.window (ix1 i) 0 : ℤ)).toNat = x.val
      rw [hs]; omega
  · rw [dif_neg h]
    refine iff_of_false (by simp) fun e => h fun a => ?_
    obtain rfl : a = 0 := Subsingleton.elim _ _
    show 0 ≤ d.start (ix1 i) idx 0 + (d.window (ix1 i) 0 : ℤ) ∧ d.start (ix1 i) idx 0 + (d.window (ix1 i) 0 : ℤ) < (C : ℤ)
    rw [hs]; omega

/-- The scatter of ones into zeros. -/
theorem scatter_counts (g : ℕ → ℕ) (hg : ∀ i : Fin N, idx (ix2 i (0 : Fin 1)) = BitVec.ofNat 32 (g i.val)) (hg31 : ∀ i : Fin N, g i.val < 2 ^ 31)
    (x0 : IVec (shape1 C) 32) (hx0 : ∀ i, x0 i = 0#32) (upd : IVec (shape1 N) 32) (hupd : ∀ i, upd i = 1#32) (x : Fin C) :
    Host.scatter d IntOp.addi x0 idx upd (ix1 x) = BitVec.ofNat 32 (Nat.count (fun i => g i = x.val) N) := by
  unfold Host.scatter
  rw [foldl_count _ (ix1 x) (fun n => decide (g n.val = x.val)) ?_ _ x0 0 (hx0 _), Nat.zero_add, countP_finRange _ (fun i => g i = x.val), numel1]
  intro r n
  have hl := lands d hiw hsd hivd idx g hg hg31 (n.cast (numel1 N)) x
  rw [symm1]
  change _ ↔ g n.val = x.val at hl
  by_cases e : g n.val = x.val
  · rw [hl.2 e]
    simp only [e, decide_true, if_true, hupd]
  · simp only [e, decide_false, Bool.false_eq_true, if_false]
    have hne : d.resultIdx? (ix1 (n.cast (numel1 N))) idx ≠ some (ix1 x) := fun h => e (hl.1 h)
    revert hne
    generalize d.resultIdx? (ix1 (n.cast (numel1 N))) idx = o
    intro hne
    cases o with
    | none => rfl
    | some k => exact if_neg fun h => hne (congrArg some h.symm)

end

/-- Word `n` of `NW` slabs of `M` words sent to cell `f n` of its own slab's `B` cells. -/
theorem count_slab (M B NW : ℕ) (f : ℕ → ℕ) (hf : ∀ n, f n < B) (w b : ℕ) (hw : w < NW) (hb : b < B) :
    Nat.count (fun n => n / M * B + f n = w * B + b) (NW * M) = ((Finset.range M).filter fun p => f (w * M + p) = b).card := by
  rw [Nat.count_eq_card_filter_range]
  symm
  refine Finset.card_bij (fun p _ => w * M + p) ?_ ?_ ?_
  · intro p hp
    obtain ⟨hp, e⟩ := Finset.mem_filter.1 hp
    have hp := Finset.mem_range.1 hp
    refine Finset.mem_filter.2 ⟨Finset.mem_range.2 ?_, ?_⟩
    · have : (w + 1) * M ≤ NW * M := Nat.mul_le_mul_right M hw
      rw [Nat.add_mul, Nat.one_mul] at this; omega
    · have : (w * M + p) / M = w := by
        rw [Nat.mul_comm, Nat.mul_add_div (by omega), Nat.div_eq_of_lt hp, Nat.add_zero]
      rw [this, e]
  · intro p _ q _ e; omega
  · intro n hn
    obtain ⟨hn, e⟩ := Finset.mem_filter.1 hn
    have hM : 0 < M := Nat.pos_of_ne_zero fun h => by rw [h, Nat.mul_zero] at hn; simp at hn
    have hfn := hf n
    have hq : n / M = w := by
      have h1 : (n / M * B + f n) / B = n / M := by
        rw [Nat.mul_comm, Nat.mul_add_div (by omega), Nat.div_eq_of_lt hfn, Nat.add_zero]
      have h2 : (w * B + b) / B = w := by
        rw [Nat.mul_comm, Nat.mul_add_div (by omega), Nat.div_eq_of_lt hb, Nat.add_zero]
      rw [← h1, e, h2]
    have hn' : w * M + n % M = n := by rw [← hq, Nat.mul_comm]; exact Nat.div_add_mod n M
    refine ⟨n % M, Finset.mem_filter.2 ⟨Finset.mem_range.2 (Nat.mod_lt _ hM), ?_⟩, hn'⟩
    rw [hn']; rw [hq] at e; omega

end Cert.Proof.Scatter

end
-- ==== Proof.HistRef.lean ====
/-
  The histogram's reference: its run on the host, and the counts it returns.
-/
module

public import proofs.«01_k».proof.Defs
public import proofs.«01_k».proof.Proof.Scatter
public import proofs.«01_k».proof.Proof.TileSplit
public import Idealize.ShloMosaic.Lib.StableHlo.Run
public import Idealize.ShloMosaic.Lib.StableHlo.RunRead
public import Idealize.ShloMosaic.Lib.Claim
public import proofs.«01_k».proof.Proof.Gen.HistRefIdeal

@[expose] public section

noncomputable section

namespace Cert.Proof.HistRef

open Cert.HistRefIdeal Cert.HistRefIdeal.Gen
open Idealize.ShloMosaic Idealize.ShloMosaic.TcCoe Idealize.ShloMosaic.StableHlo Idealize.SL.Sem

variable {F : FTy → Type} [FloatOps F]

abbrev ops : List (HloOp τ sig (Elt F)) :=
  [ StableHlo.reshape main_arg0 main_v0 (rfl : (.i32 : EltTy) = .i32) shapeCasts_S38912x512_S32x622592,
    StableHlo.nullary main_v1 (iotaInDim S32x622592 32 0),
    StableHlo.nullary main_c (constantI S_ 32 38912#32),
    StableHlo.unary main_c main_v2 (broadcastInDim S32x622592 ![] bcast_S_S32x622592 : (⟨S_, .i32⟩ : BufTy).Contents (Elt F) → (⟨S32x622592, .i32⟩ : BufTy).Contents (Elt F)),
    StableHlo.binary main_v2 main_v1 main_v3 (muli : (⟨S32x622592, .i32⟩ : BufTy).Contents (Elt F) → (⟨S32x622592, .i32⟩ : BufTy).Contents (Elt F) → (⟨S32x622592, .i32⟩ : BufTy).Contents (Elt F)),
    StableHlo.binary main_v0 main_v3 main_v4 (addi : (⟨S32x622592, .i32⟩ : BufTy).Contents (Elt F) → (⟨S32x622592, .i32⟩ : BufTy).Contents (Elt F) → (⟨S32x622592, .i32⟩ : BufTy).Contents (Elt F)),
    StableHlo.nullary main_c_0 (constantI S_ 32 0#32),
    StableHlo.unary main_c_0 main_v5 (broadcastInDim S1245184 ![] bcast_S_S1245184 : (⟨S_, .i32⟩ : BufTy).Contents (Elt F) → (⟨S1245184, .i32⟩ : BufTy).Contents (Elt F)),
    StableHlo.reshape main_v4 main_v6 (rfl : (.i32 : EltTy) = .i32) shapeCasts_S32x622592_S19922944,
    StableHlo.nullary main_c_1 (constantI S_ 32 0#32),
    StableHlo.unary main_c_1 main_v7 (broadcastInDim S19922944 ![] bcast_S_S19922944 : (⟨S_, .i32⟩ : BufTy).Contents (Elt F) → (⟨S19922944, .i32⟩ : BufTy).Contents (Elt F)),
    StableHlo.binary main_v6 main_v7 main_v8 (cmpi .slt : (⟨S19922944, .i32⟩ : BufTy).Contents (Elt F) → (⟨S19922944, .i32⟩ : BufTy).Contents (Elt F) → (⟨S19922944, .i1⟩ : BufTy).Contents (Elt F)),
    StableHlo.nullary main_c_2 (constantI S_ 32 1245184#32),
    StableHlo.unary main_c_2 main_v9 (broadcastInDim S19922944 ![] bcast_S_S19922944 : (⟨S_, .i32⟩ : BufTy).Contents (Elt F) → (⟨S19922944, .i32⟩ : BufTy).Contents (Elt F)),
    StableHlo.binary main_v6 main_v9 main_v10 (addi : (⟨S19922944, .i32⟩ : BufTy).Contents (Elt F) → (⟨S19922944, .i32⟩ : BufTy).Contents (Elt F) → (⟨S19922944, .i32⟩ : BufTy).Contents (Elt F)),
    StableHlo.ternary main_v8 main_v10 main_v6 main_v11 (select : (⟨S19922944, .i1⟩ : BufTy).Contents (Elt F) → (⟨S19922944, .i32⟩ : BufTy).Contents (Elt F) → (⟨S19922944, .i32⟩ : BufTy).Contents (Elt F) → (⟨S19922944, .i32⟩ : BufTy).Contents (Elt F)),
    StableHlo.unary main_v11 main_v12 (broadcastInDim S19922944x1 ![0] bcast_S19922944_S19922944x1_0 : (⟨S19922944, .i32⟩ : BufTy).Contents (Elt F) → (⟨S19922944x1, .i32⟩ : BufTy).Contents (Elt F)),
    StableHlo.nullary main_c_3 (constantI S_ 32 1#32),
    StableHlo.unary main_c_3 main_v13 (broadcastInDim S19922944 ![] bcast_S_S19922944 : (⟨S_, .i32⟩ : BufTy).Contents (Elt F) → (⟨S19922944, .i32⟩ : BufTy).Contents (Elt F)),
    StableHlo.ternary main_v5 main_v12 main_v13 main_v14 ((fun x i u => Host.scatter scatter_S1245184_S19922944x1_S19922944_n_0_0_1 IntOp.addi x i u) : (⟨S1245184, .i32⟩ : BufTy).Contents (Elt F) → (⟨S19922944x1, .i32⟩ : BufTy).Contents (Elt F) → (⟨S19922944, .i32⟩ : BufTy).Contents (Elt F) → (⟨S1245184, .i32⟩ : BufTy).Contents (Elt F)),
    StableHlo.reshape main_v14 main_v15 (rfl : (.i32 : EltTy) = .i32) shapeCasts_S1245184_S32x38912 ]

set_option maxRecDepth 20000 in
theorem main_eq (c : Dev nD) : main (F := F) c = seq ops := by
  simp only [main, seq]

/-- Each word moved to its slab's own cells, in one row. -/
def cells (x : IVec S38912x512 32) : IVec S19922944 32 :=
  shapeCast S19922944 (addi (shapeCast S32x622592 x shapeCasts_S38912x512_S32x622592)
    (muli (broadcastInDim S32x622592 ![] bcast_S_S32x622592 (constantI S_ 32 38912#32)) (iotaInDim S32x622592 32 0))) shapeCasts_S32x622592_S19922944

/-- What the reference computes of its argument. -/
def out (x : IVec S38912x512 32) : IVec S32x38912 32 :=
  shapeCast S32x38912 (Host.scatter scatter_S1245184_S19922944x1_S19922944_n_0_0_1 IntOp.addi
    (broadcastInDim S1245184 ![] bcast_S_S1245184 (constantI S_ 32 0#32))
    (broadcastInDim S19922944x1 ![0] bcast_S19922944_S19922944x1_0
      (select (cmpi .slt (cells x) (broadcastInDim S19922944 ![] bcast_S_S19922944 (constantI S_ 32 0#32)))
        (addi (cells x) (broadcastInDim S19922944 ![] bcast_S_S19922944 (constantI S_ 32 1245184#32))) (cells x)))
    (broadcastInDim S19922944 ![] bcast_S_S19922944 (constantI S_ 32 1#32))) shapeCasts_S1245184_S32x38912

set_option maxRecDepth 20000 in
theorem out_eq (V : Valuation τ sig (Elt F)) : after ops V (main_v15 : DevRef τ sig) = out (V (main_arg0 : DevRef τ sig)) := by
  after_reads_simp
  simp only [out, cells]
  rfl

set_option maxRecDepth 20000 in
theorem arg0_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  simp only [List.Forall, reshape_bufs_sub, nullary_bufs_sub, unary_bufs_sub, binary_bufs_sub, ternary_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The value -/

section Value

open Idealize.ShloMosaic.Routing

variable (x : IVec S38912x512 32) (hx : ∀ i, (x i).toNat < 38912)

set_option maxRecDepth 20000 in
theorem slab_read (w : Fin 32) (p : Fin 622592) :
    shapeCast S32x622592 x shapeCasts_S38912x512_S32x622592 (ValueIdx.ix2 w p) = Tile.slabWords x w.val p.val := by
  have hw := w.isLt
  have hp := p.isLt
  have hlt : w.val * 1216 + p.val / 512 < 38912 := by omega
  unfold Tile.slabWords
  rw [dif_pos hlt]
  refine shapeCast_apply x _ _ _ ?_
  rw [Shape.rowMajor_val_two, Shape.rowMajor_val_two]
  show (w.val * 1216 + p.val / 512) * 512 + p.val % 512 = w.val * 622592 + p.val
  omega

/-- Word `n`'s cell. -/
def cell (n : ℕ) : ℕ := n / 622592 * 38912 + (Tile.slabWords x (n / 622592) (n % 622592)).toNat

include hx in
theorem cell_lt (n : Fin 19922944) : cell x n.val < 1245184 := by
  have hn := n.isLt
  have := Tile.slabWords_lt hx (n.val / 622592) (n.val % 622592)
  unfold cell; omega

theorem cells_apply (n : Fin 19922944) : cells x (ValueIdx.ix1 n) = BitVec.ofNat 32 (cell x n.val) := by
  have hn := n.isLt
  have hw : n.val / 622592 < 32 := by omega
  have hp : n.val % 622592 < 622592 := by omega
  unfold cells
  rw [cast21 (a := 32) (b := 622592) _ _ ⟨n.val / 622592, hw⟩ ⟨n.val % 622592, hp⟩ n (by show n.val = n.val / 622592 * 622592 + n.val % 622592; omega)]
  show IntOp.addi _ (IntOp.muli 38912#32 (BitVec.ofNat 32 (n.val / 622592))) = _
  rw [slab_read]
  show Tile.slabWords x (n.val / 622592) (n.val % 622592) + 38912#32 * BitVec.ofNat 32 (n.val / 622592) = _
  unfold cell
  apply BitVec.eq_of_toNat_eq
  rw [BitVec.toNat_add, BitVec.toNat_mul, BitVec.toNat_ofNat, BitVec.toNat_ofNat, BitVec.toNat_ofNat]
  omega

include hx in
theorem index_apply (n : Fin 19922944) :
    select (cmpi .slt (cells x) (broadcastInDim S19922944 ![] bcast_S_S19922944 (constantI S_ 32 0#32)))
        (addi (cells x) (broadcastInDim S19922944 ![] bcast_S_S19922944 (constantI S_ 32 1245184#32))) (cells x) (ValueIdx.ix1 n)
      = BitVec.ofNat 32 (cell x n.val) := by
  have hc := cell_lt x hx n
  have hs : cmpi .slt (cells x) (broadcastInDim S19922944 ![] bcast_S_S19922944 (constantI S_ 32 0#32)) (ValueIdx.ix1 n) = 0#1 := by
    change IntOp.cmpi .slt (cells x (ValueIdx.ix1 n)) 0#32 = 0#1
    rw [cells_apply]
    have : (BitVec.ofNat 32 (cell x n.val)).slt 0#32 = false := by
      rw [BitVec.slt_eq_decide, decide_eq_false_iff_not, StableHlo.Predicate.toInt_ofNat_small _ (by omega)]
      simp
    simp only [IntOp.cmpi, this]
    rfl
  show (if cmpi .slt (cells x) (broadcastInDim S19922944 ![] bcast_S_S19922944 (constantI S_ 32 0#32)) (ValueIdx.ix1 n) = 1#1 then _ else cells x (ValueIdx.ix1 n)) = _
  rw [hs, if_neg (by decide), cells_apply]

include hx in
theorem out_value : out x = Tile.histOf x := by
  funext y
  obtain ⟨w, b, rfl⟩ : ∃ (w : Fin 32) (b : Fin 38912), y = ValueIdx.ix2 w b := ⟨y 0, y 1, ValueIdx.eq_ix2 y⟩
  have hw := w.isLt
  have hb := b.isLt
  have hlt : w.val * 38912 + b.val < 1245184 := by omega
  unfold out
  rw [cast12 (a := 32) (b := 38912) _ _ w b ⟨w.val * 38912 + b.val, hlt⟩ rfl]
  refine (Scatter.scatter_counts (C := 1245184) (N := 19922944) _ rfl rfl rfl _ (cell x) (fun i => index_apply x hx i)
    (fun i => by have := cell_lt x hx i; omega) _ (fun _ => rfl) _ (fun _ => rfl) _).trans ?_
  show BitVec.ofNat 32 _ = BitVec.ofNat 32 (Tile.cnt (Tile.slabWords x w.val) 622592 b.val)
  refine congrArg (BitVec.ofNat 32) ?_
  have h := Scatter.count_slab 622592 38912 32 (fun n => (Tile.slabWords x (n / 622592) (n % 622592)).toNat)
    (fun n => Tile.slabWords_lt hx _ _) w.val b.val hw hb
  refine h.trans ?_
  unfold Tile.cnt
  refine congrArg Finset.card (Finset.filter_congr fun p hp => ?_)
  have hp := Finset.mem_range.1 hp
  have h1 : (w.val * 622592 + p) / 622592 = w.val := by omega
  have h2 : (w.val * 622592 + p) % 622592 = p := by omega
  show (Tile.slabWords x ((w.val * 622592 + p) / 622592) ((w.val * 622592 + p) % 622592)).toNat = b.val ↔ _
  rw [h1, h2]

end Value

end Cert.Proof.HistRef

end
-- ==== Proof.HistClaim.lean ====
/-
  The claims of the histogram call: both runs of the kernel, the reference's run, and that they return the
  same counts.
-/
module

public import proofs.«01_k».proof.Defs
public import proofs.«01_k».proof.Proof.HistRun
public import proofs.«01_k».proof.Proof.HistRef
public import Idealize.ShloMosaic.Lib.ReduceAll
public import proofs.«01_k».proof.Proof.Gen.Hist
public import proofs.«01_k».proof.Proof.Gen.HistIdeal
public import proofs.«01_k».proof.Proof.Gen.HistRefIdeal
public import proofs.«01_k».proof.Proof.Gen.Pre_in_range

@[expose] public section

noncomputable section

namespace Cert.Proof.HistClaim

open Idealize.ShloMosaic Idealize.SL.Sem

/-- What the precondition says of a word. -/
theorem word_lt (v : BitVec 32) (e : IntOp.andi (IntOp.cmpi .sge v 0#32) (IntOp.cmpi .slt v 38912#32) = 1#1) : v.toNat < 38912 := by
  have andi_ofBool (a b : Bool) : IntOp.andi (BitVec.ofBool a) (BitVec.ofBool b) = BitVec.ofBool (a && b) := by
    cases a <;> cases b <;> rfl
  have ofBool_eq_one (a : Bool) : BitVec.ofBool a = 1#1 ↔ a = true := by
    cases a <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have := v.isLt
  omega

/-- The precondition: every index in range. -/
theorem words_lt {F : FTy → Type} [FloatOps F] (x : IVec Cert.Pre_in_range.S38912x512 32)
    (h : ∀ i, Cert.Pre_in_range.fn (F := F) x i = 1#1) (i : Cert.Pre_in_range.S38912x512.Idx) : (x i).toNat < 38912 := by
  haveI : Subsingleton Cert.Pre_in_range.S_.Idx := ⟨fun a b => funext fun k => k.elim0⟩
  exact word_lt _ (Host.reduce_andi_all _ _ _ _ (fun k => k.elim0) (h fun k => k.elim0) i)

instance (e : EltTy) : Nonempty (Elt Bits e) := by cases e <;> exact ⟨0⟩

instance (e : EltTy) : Nonempty (Elt Ideal e) := by cases e <;> first | exact ⟨0⟩ | exact ⟨(0 : EReal)⟩

section

variable [Cert.Pre_in_range.Facts]

theorem ok_ideal (m : (ℓ : Loc Cert.HistIdeal.nD Cert.HistIdeal.τ Cert.HistIdeal.sig) → Buf (Elt Ideal) ℓ) (h : Cert.Pre_HistIdeal m) :
    Hist.PreOK (F := Ideal) m := fun d i => words_lt (F := Ideal) _ (fun j => congrFun (h d) j) i

theorem frame_bits : Cert.quiescent_Hist := fun m ρ h =>
  (θ_run (Cert.HistIdeal.defs (F := Bits)) _ _).mono (fun _ q => ⟨fun c => (q.1 c).1, q.2⟩)
    (Hist.run_main (F := Bits) m ρ fun d i => words_lt (F := Bits) _ (fun j => congrFun (h d) j) i)

theorem frame_ideal : Cert.quiescent_HistIdeal := fun m ρ h =>
  (θ_run (Cert.HistIdeal.defs (F := Ideal)) _ _).mono (fun _ q => ⟨fun c => (q.1 c).1, q.2⟩) (Hist.run_main (F := Ideal) m ρ (ok_ideal m h))

theorem frame_ref : Cert.quiescent_HistRefIdeal := by
  intro m ρ _
  exact (θ_run Cert.HistRefIdeal.defs _ _).mono (fun r h => ⟨fun c => (h c Cert.HistRefIdeal.main_arg0).trans (HistRef.arg0_eq _),
      Idealize.ShloMosaic.sem_eq_zero_of_no_sems (by decide) r.2⟩)
    (HistRef.run_main (F := Ideal) m ρ)

theorem same_counts : Cert.algebraic_HistIdeal_HistRefIdeal := by
  intro m ρ m' ρ' h hagree
  refine ⟨fun c => Hist.hist m c, (θ_run (Cert.HistIdeal.defs (F := Ideal)) _ _).mono (fun _ q c => ⟨(q.1 c).2, (q.1 c).1⟩)
    (Hist.run_main (F := Ideal) m ρ (ok_ideal m h)), ?_⟩
  refine (θ_run Cert.HistRefIdeal.defs _ _).mono
    (fun _ q c => ⟨((q c Cert.HistRefIdeal.main_v15).trans (HistRef.out_eq _)).trans ?_, (q c Cert.HistRefIdeal.main_arg0).trans (HistRef.arg0_eq _)⟩)
    (HistRef.run_main (F := Ideal) m' ρ')
  exact (congrArg HistRef.out (hagree c)).trans (HistRef.out_value _ (ok_ideal m h c))

end

end Cert.Proof.HistClaim

end
-- ==== Proof.RefRun.lean ====
/-
  The whole reference: its run on the host, and its result as the printed operations on its two arguments.
-/
module

public import proofs.«01_k».proof.Defs
public import Idealize.ShloMosaic.Lib.StableHlo.Run
public import Idealize.ShloMosaic.Lib.StableHlo.RunRead
public import Idealize.ShloMosaic.Lib.Claim
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The operations, in eight stretches -/

abbrev ops0 : List (HloOp τ sig (Elt F)) :=
  [ StableHlo.nullary main_cst (constant S_ .f32 0xFF800000#32),
    StableHlo.binary main_arg0 main_cst main_v0 ((fun x v => Host.reduce FloatOps.maximumf x v reducesTo_S4x19x512x512_S4x512x512_d1 h_S_) : (⟨S4x19x512x512, .f32⟩ : BufTy).Contents (Elt F) → (⟨S_, .f32⟩ : BufTy).Contents (Elt F) → (⟨S4x512x512, .f32⟩ : BufTy).Contents (Elt F)),
    StableHlo.nullary main_cst_0 (constant S_ .f32 0xFF800000#32),
    StableHlo.unary main_cst_0 main_v1 (broadcastInDim S4x512x512 ![] bcast_S_S4x512x512 : (⟨S_, .f32⟩ : BufTy).Contents (Elt F) → (⟨S4x512x512, .f32⟩ : BufTy).Contents (Elt F)),
    StableHlo.binary main_v1 main_v0 main_v2 (maximumf : (⟨S4x512x512, .f32⟩ : BufTy).Contents (Elt F) → (⟨S4x512x512, .f32⟩ : BufTy).Contents (Elt F) → (⟨S4x512x512, .f32⟩ : BufTy).Contents (Elt F)),
    StableHlo.unary main_v2 main_v3 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    StableHlo.unary main_v3 main_v4 (broadcastInDim S4x19x512x512 ![0, 1, 2, 3] bcast_S4x1x512x512_S4x19x512x512_0_1_2_3 : (⟨S4x1x512x512, .f32⟩ : BufTy).Contents (Elt F) → (⟨S4x19x512x512, .f32⟩ : BufTy).Contents (Elt F)),
    StableHlo.binary main_arg0 main_v4 main_v5 (subf : (⟨S4x19x512x512, .f32⟩ : BufTy).Contents (Elt F) → (⟨S4x19x512x512, .f32⟩ : BufTy).Contents (Elt F) → (⟨S4x19x512x512, .f32⟩ : BufTy).Contents (Elt F)),
    StableHlo.unary main_v5 main_v6 (Host.exp : (⟨S4x19x512x512, .f32⟩ : BufTy).Contents (Elt F) → (⟨S4x19x512x512, .f32⟩ : BufTy).Contents (Elt F)),
    StableHlo.nullary main_cst_1 (constant S_ .f32 0x00000000#32),
    StableHlo.binary main_v6 main_cst_1 main_v7 ((fun x v => Host.reduceAdd x v reducesTo_S4x19x512x512_S4x512x512_d1 h_S_) : (⟨S4x19x512x512, .f32⟩ : BufTy).Contents (Elt F) → (⟨S_, .f32⟩ : BufTy).Contents (Elt F) → (⟨S4x512x512, .f32⟩ : BufTy).Contents (Elt F)),
    StableHlo.unary main_v7 main_v8 (broadcastInDim S4x1x512x512 ![0, 2, 3] bcast_S4x512x512_S4x1x512x512_0_2_3 : (⟨S4x512x512, .f32⟩ : BufTy).Contents (Elt F) → (⟨S4x1x512x512, .f32⟩ : BufTy).Contents (Elt F)),
    StableHlo.unary main_v8 main_v9 (broadcastInDim S4x19x512x512 ![0, 1, 2, 3] bcast_S4x1x512x512_S4x19x512x512_0_1_2_3 : (⟨S4x1x512x512, .f32⟩ : BufTy).Contents (Elt F) → (⟨S4x19x512x512, .f32⟩ : BufTy).Contents (Elt F)),
    StableHlo.binary main_v6 main_v9 main_v10 (Host.divf : (⟨S4x19x512x512, .f32⟩ : BufTy).Contents (Elt F) → (⟨S4x19x512x512, .f32⟩ : BufTy).Contents (Elt F) → (⟨S4x19x512x512, .f32⟩ : BufTy).Contents (Elt F)),
    StableHlo.unary main_v10 main_v11 ((transpose S19x4x512x512 [1, 0, 2, 3] · transposes_S4x19x512x512_S19x4x512x512_1_0_2_3) : (⟨S4x19x512x512, .f32⟩ : BufTy).Contents (Elt F) → (⟨S19x4x512x512, .f32⟩ : BufTy).Contents (Elt F)),
    StableHlo.reshape main_v11 main_v12 (rfl : (.f32 : EltTy) = .f32) shapeCasts_S19x4x512x512_S19x1048576,
    StableHlo.reshape main_arg1 main_v13 (rfl : (.i32 : EltTy) = .i32) shapeCasts_S4x512x512_S1048576,
    StableHlo.unary main_v13 main_v14 (broadcastInDim S1x1048576 ![1] bcast_S1048576_S1x1048576_1 : (⟨S1048576, .i32⟩ : BufTy).Contents (Elt F) → (⟨S1x1048576, .i32⟩ : BufTy).Contents (Elt F)),
    StableHlo.nullary main_v15 (iotaInDim S19x1048576 32 0),
    StableHlo.unary main_v14 main_v16 (broadcastInDim S19x1048576 ![0, 1] bcast_S1x1048576_S19x1048576_0_1 : (⟨S1x1048576, .i32⟩ : BufTy).Contents (Elt F) → (⟨S19x1048576, .i32⟩ : BufTy).Contents (Elt F)),
    StableHlo.binary main_v16 main_v15 main_v17 (cmpi .eq : (⟨S19x1048576, .i32⟩ : BufTy).Contents (Elt F) → (⟨S19x1048576, .i32⟩ : BufTy).Contents (Elt F) → (⟨S19x1048576, .i1⟩ : BufTy).Contents (Elt F)),
    StableHlo.unary main_v17 main_v18 (uitofp .f32 : (⟨S19x1048576, .i1⟩ : BufTy).Contents (Elt F) → (⟨S19x1048576, .f32⟩ : BufTy).Contents (Elt F)) ]

abbrev ops1 : List (HloOp τ sig (Elt F)) :=
  [ StableHlo.binary main_v18 main_v12 main_v19 (subf : (⟨S19x1048576, .f32⟩ : BufTy).Contents (Elt F) → (⟨S19x1048576, .f32⟩ : BufTy).Contents (Elt F) → (⟨S19x1048576, .f32⟩ : BufTy).Contents (Elt F)),
    StableHlo.unary main_v19 main_v20 (Host.absf : (⟨S19x1048576, .f32⟩ : BufTy).Contents (Elt F) → (⟨S19x1048576, .f32⟩ : BufTy).Contents (Elt F)),
    StableHlo.nullary main_cst_2 (constant S_ .f32 0x44800000#32),
    StableHlo.unary main_cst_2 main_v21 (broadcastInDim S19x1048576 ![] bcast_S_S19x1048576 : (⟨S_, .f32⟩ : BufTy).Contents (Elt F) → (⟨S19x1048576, .f32⟩ : BufTy).Contents (Elt F)),
    StableHlo.binary main_v20 main_v21 main_v22 (mulf : (⟨S19x1048576, .f32⟩ : BufTy).Contents (Elt F) → (⟨S19x1048576, .f32⟩ : BufTy).Contents (Elt F) → (⟨S19x1048576, .f32⟩ : BufTy).Contents (Elt F)),
    StableHlo.unary main_v22 main_v23 (Host.floor : (⟨S19x1048576, .f32⟩ : BufTy).Contents (Elt F) → (⟨S19x1048576, .f32⟩ : BufTy).Contents (Elt F)),
    StableHlo.nullary main_cst_3 (constant S_ .f32 0x447FC000#32),
    StableHlo.unary main_cst_3 main_v24 (broadcastInDim S19x1048576 ![] bcast_S_S19x1048576 : (⟨S_, .f32⟩ : BufTy).Contents (Elt F) → (⟨S19x1048576, .f32⟩ : BufTy).Contents (Elt F)),
    StableHlo.binary main_v23 main_v24 main_v25 (minimumf : (⟨S19x1048576, .f32⟩ : BufTy).Contents (Elt F) → (⟨S19x1048576, .f32⟩ : BufTy).Contents (Elt F) → (⟨S19x1048576, .f32⟩ : BufTy).Contents (Elt F)),
    StableHlo.nullary main_cst_4 (constant S_ .f32 0x3F000000#32),
    StableHlo.unary main_cst_4 main_v26 (broadcastInDim S19x1048576 ![] bcast_S_S19x1048576 : (⟨S_, .f32⟩ : BufTy).Contents (Elt F) → (⟨S19x1048576, .f32⟩ : BufTy).Contents (Elt F)),
    StableHlo.binary main_v25 main_v26 main_v27 (addf : (⟨S19x1048576, .f32⟩ : BufTy).Contents (Elt F) → (⟨S19x1048576, .f32⟩ : BufTy).Contents (Elt F) → (⟨S19x1048576, .f32⟩ : BufTy).Contents (Elt F)),
    StableHlo.nullary main_cst_5 (constant S_ .f32 0x44800000#32),
    StableHlo.unary main_cst_5 main_v28 (broadcastInDim S19x1048576 ![] bcast_S_S19x1048576 : (⟨S_, .f32⟩ : BufTy).Contents (Elt F) → (⟨S19x1048576, .f32⟩ : BufTy).Contents (Elt F)),
    StableHlo.binary main_v27 main_v28 main_v29 (Host.divf : (⟨S19x1048576, .f32⟩ : BufTy).Contents (Elt F) → (⟨S19x1048576, .f32⟩ : BufTy).Contents (Elt F) → (⟨S19x1048576, .f32⟩ : BufTy).Contents (Elt F)),
    StableHlo.unary main_v29 main_v30 (Host.negf : (⟨S19x1048576, .f32⟩ : BufTy).Contents (Elt F) → (⟨S19x1048576, .f32⟩ : BufTy).Contents (Elt F)) ]

abbrev ops2 : List (HloOp τ sig (Elt F)) :=
  [ StableHlo.binary main_v30 main_v18 main_v31_0 ((fun x y => (Host.sort2 S19x1048576 1 comparator_f32_f32_d1 x y).1) : (⟨S19x1048576, .f32⟩ : BufTy).Contents (Elt F) → (⟨S19x1048576, .f32⟩ : BufTy).Contents (Elt F) → (⟨S19x1048576, .f32⟩ : BufTy).Contents (Elt F)),
    StableHlo.binary main_v30 main_v18 main_v31_1 ((fun x y => (Host.sort2 S19x1048576 1 comparator_f32_f32_d1 x y).2) : (⟨S19x1048576, .f32⟩ : BufTy).Contents (Elt F) → (⟨S19x1048576, .f32⟩ : BufTy).Contents (Elt F) → (⟨S19x1048576, .f32⟩ : BufTy).Contents (Elt F)),
    StableHlo.unary main_v31_0 main_v32 (Host.negf : (⟨S19x1048576, .f32⟩ : BufTy).Contents (Elt F) → (⟨S19x1048576, .f32⟩ : BufTy).Contents (Elt F)),
    StableHlo.nullary main_cst_6 (constant S_ .f32 0x00000000#32),
    StableHlo.binary main_v31_1 main_cst_6 main_v33 ((fun x v => Host.reduceAdd x v reducesTo_S19x1048576_S19_d1 h_S_) : (⟨S19x1048576, .f32⟩ : BufTy).Contents (Elt F) → (⟨S_, .f32⟩ : BufTy).Contents (Elt F) → (⟨S19, .f32⟩ : BufTy).Contents (Elt F)),
    StableHlo.unary main_v33 main_v34 (broadcastInDim S19x1 ![0] bcast_S19_S19x1_0 : (⟨S19, .f32⟩ : BufTy).Contents (Elt F) → (⟨S19x1, .f32⟩ : BufTy).Contents (Elt F)) ]

abbrev ops3 : List (HloOp τ sig (Elt F)) :=
  [ StableHlo.TRef.nullary main_call0_call0.cst (constant S_ .f32 0x00000000#32),
    StableHlo.TRef.unary main_call0_call0.cst main_call0_call0.v0 (broadcastInDim S_ ![] bcast_S_S_),
    StableHlo.TRef.binary (.of main_v31_1 : StableHlo.TRef sig ⟨S19x1048576, .f32⟩) main_call0_call0.v0 main_call0_call0.v1 (fun x v => Host.reduceWindowAdd ![1, 1048576] ![1, 1] ![0, 1048575] ![0, 0] x v reduceWindows_S19x1048576_S19x1048576_w1s1p0_0_w1048576s1p1048575_0 h_S_),
    StableHlo.unary main_v34 main_v36 (broadcastInDim S19x1048576 ![0, 1] bcast_S19x1_S19x1048576_0_1 : (⟨S19x1, .f32⟩ : BufTy).Contents (Elt F) → (⟨S19x1048576, .f32⟩ : BufTy).Contents (Elt F)),
    StableHlo.binary main_v36 main_v35 main_v37 (subf : (⟨S19x1048576, .f32⟩ : BufTy).Contents (Elt F) → (⟨S19x1048576, .f32⟩ : BufTy).Contents (Elt F) → (⟨S19x1048576, .f32⟩ : BufTy).Contents (Elt F)),
    StableHlo.nullary main_cst_7 (constant S_ .f32 0x3F800000#32),
    StableHlo.unary main_cst_7 main_v38 (broadcastInDim S19x1048576 ![] bcast_S_S19x1048576 : (⟨S_, .f32⟩ : BufTy).Contents (Elt F) → (⟨S19x1048576, .f32⟩ : BufTy).Contents (Elt F)),
    StableHlo.binary main_v38 main_v31_1 main_v39 (subf : (⟨S19x1048576, .f32⟩ : BufTy).Contents (Elt F) → (⟨S19x1048576, .f32⟩ : BufTy).Contents (Elt F) → (⟨S19x1048576, .f32⟩ : BufTy).Contents (Elt F)),
    StableHlo.TRef.nullary main_call1_call0.cst (constant S_ .f32 0x00000000#32),
    StableHlo.TRef.unary main_call1_call0.cst main_call1_call0.v0 (broadcastInDim S_ ![] bcast_S_S_),
    StableHlo.TRef.binary (.of main_v39 : StableHlo.TRef sig ⟨S19x1048576, .f32⟩) main_call1_call0.v0 main_call1_call0.v1 (fun x v => Host.reduceWindowAdd ![1, 1048576] ![1, 1] ![0, 1048575] ![0, 0] x v reduceWindows_S19x1048576_S19x1048576_w1s1p0_0_w1048576s1p1048575_0 h_S_),
    StableHlo.unary main_v34 main_v41 (broadcastInDim S19x1048576 ![0, 1] bcast_S19x1_S19x1048576_0_1 : (⟨S19x1, .f32⟩ : BufTy).Contents (Elt F) → (⟨S19x1048576, .f32⟩ : BufTy).Contents (Elt F)),
    StableHlo.binary main_v41 main_v40 main_v42 (addf : (⟨S19x1048576, .f32⟩ : BufTy).Contents (Elt F) → (⟨S19x1048576, .f32⟩ : BufTy).Contents (Elt F) → (⟨S19x1048576, .f32⟩ : BufTy).Contents (Elt F)),
    StableHlo.binary main_v37 main_v42 main_v43 (Host.divf : (⟨S19x1048576, .f32⟩ : BufTy).Contents (Elt F) → (⟨S19x1048576, .f32⟩ : BufTy).Contents (Elt F) → (⟨S19x1048576, .f32⟩ : BufTy).Contents (Elt F)),
    StableHlo.nullary main_cst_8 (constant S_ .f32 0x3F800000#32),
    StableHlo.unary main_cst_8 main_v44 (broadcastInDim S19x1048576 ![] bcast_S_S19x1048576 : (⟨S_, .f32⟩ : BufTy).Contents (Elt F) → (⟨S19x1048576, .f32⟩ : BufTy).Contents (Elt F)),
    StableHlo.binary main_v44 main_v43 main_v45 (subf : (⟨S19x1048576, .f32⟩ : BufTy).Contents (Elt F) → (⟨S19x1048576, .f32⟩ : BufTy).Contents (Elt F) → (⟨S19x1048576, .f32⟩ : BufTy).Contents (Elt F)) ]

abbrev ops4 : List (HloOp τ sig (Elt F)) :=
  [ StableHlo.unary main_v45 main_v46 ((extractStridedSlice S19x1 ![0, 0] · slices_S19x1048576_S19x1_0_0) : (⟨S19x1048576, .f32⟩ : BufTy).Contents (Elt F) → (⟨S19x1, .f32⟩ : BufTy).Contents (Elt F)),
    StableHlo.unary main_v45 main_v47 ((extractStridedSlice S19x1048575 ![0, 1] · slices_S19x1048576_S19x1048575_0_1) : (⟨S19x1048576, .f32⟩ : BufTy).Contents (Elt F) → (⟨S19x1048575, .f32⟩ : BufTy).Contents (Elt F)),
    StableHlo.unary main_v45 main_v48 ((extractStridedSlice S19x1048575 ![0, 0] · slices_S19x1048576_S19x1048575_0_0) : (⟨S19x1048576, .f32⟩ : BufTy).Contents (Elt F) → (⟨S19x1048575, .f32⟩ : BufTy).Contents (Elt F)),
    StableHlo.binary main_v47 main_v48 main_v49 (subf : (⟨S19x1048575, .f32⟩ : BufTy).Contents (Elt F) → (⟨S19x1048575, .f32⟩ : BufTy).Contents (Elt F) → (⟨S19x1048575, .f32⟩ : BufTy).Contents (Elt F)),
    StableHlo.binary main_v46 main_v49 main_v50 ((fun a b => concatenate S19x1048576 1 [⟨S19x1, a⟩, ⟨S19x1048575, b⟩] concatenates_S19x1_S19x1048575_S19x1048576_d1) : (⟨S19x1, .f32⟩ : BufTy).Contents (Elt F) → (⟨S19x1048575, .f32⟩ : BufTy).Contents (Elt F) → (⟨S19x1048576, .f32⟩ : BufTy).Contents (Elt F)),
    StableHlo.binary main_v32 main_v50 main_v51 (mulf : (⟨S19x1048576, .f32⟩ : BufTy).Contents (Elt F) → (⟨S19x1048576, .f32⟩ : BufTy).Contents (Elt F) → (⟨S19x1048576, .f32⟩ : BufTy).Contents (Elt F)),
    StableHlo.nullary main_cst_9 (constant S_ .f32 0x00000000#32),
    StableHlo.binary main_v51 main_cst_9 main_v52 ((fun x v => Host.reduceAdd x v reducesTo_S19x1048576_S19_d1 h_S_) : (⟨S19x1048576, .f32⟩ : BufTy).Contents (Elt F) → (⟨S_, .f32⟩ : BufTy).Contents (Elt F) → (⟨S19, .f32⟩ : BufTy).Contents (Elt F)),
    StableHlo.nullary main_cst_10 (constant S_ .f32 0x00000000#32),
    StableHlo.binary main_v52 main_cst_10 main_v53 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
    StableHlo.nullary main_cst_11 (constant S_ .f32 0x41980000#32),
    StableHlo.binary main_v53 main_cst_11 main_v54 (Host.divf : (⟨S_, .f32⟩ : BufTy).Contents (Elt F) → (⟨S_, .f32⟩ : BufTy).Contents (Elt F) → (⟨S_, .f32⟩ : BufTy).Contents (Elt F)) ]

abbrev ops5 : List (HloOp τ sig (Elt F)) :=
  [ StableHlo.TRef.nullary main_call2.cst (constant S_ .f32 0xFF800000#32),
    StableHlo.TRef.binary (.of main_arg0 : StableHlo.TRef sig ⟨S4x19x512x512, .f32⟩) main_call2.cst main_call2.v0 (fun x v => Host.reduce FloatOps.maximumf x v reducesTo_S4x19x512x512_S4x512x512_d1 h_S_),
    StableHlo.TRef.nullary main_call2.cst_0 (constant S_ .f32 0xFF800000#32),
    StableHlo.TRef.unary main_call2.cst_0 main_call2.v1 (broadcastInDim S4x512x512 ![] bcast_S_S4x512x512),
    StableHlo.TRef.binary main_call2.v1 main_call2.v0 main_call2.v2 maximumf,
    StableHlo.TRef.unary main_call2.v2 main_call2.v3 (broadcastInDim S4x1x512x512 ![0, 2, 3] bcast_S4x512x512_S4x1x512x512_0_2_3),
    StableHlo.TRef.unary main_call2.v3 main_call2.v4 (broadcastInDim S4x19x512x512 ![0, 1, 2, 3] bcast_S4x1x512x512_S4x19x512x512_0_1_2_3),
    StableHlo.TRef.binary (.of main_arg0 : StableHlo.TRef sig ⟨S4x19x512x512, .f32⟩) main_call2.v4 main_call2.v5 subf,
    StableHlo.TRef.unary main_call2.v5 main_call2.v6 Host.exp,
    StableHlo.TRef.nullary main_call2.cst_1 (constant S_ .f32 0x00000000#32),
    StableHlo.TRef.binary main_call2.v6 main_call2.cst_1 main_call2.v7 (fun x v => Host.reduceAdd x v reducesTo_S4x19x512x512_S4x512x512_d1 h_S_),
    StableHlo.TRef.unary main_call2.v7 main_call2.v8 (broadcastInDim S4x1x512x512 ![0, 2, 3] bcast_S4x512x512_S4x1x512x512_0_2_3),
    StableHlo.TRef.unary main_call2.v8 main_call2.v9 Host.log,
    StableHlo.TRef.unary main_call2.v9 main_call2.v10 (broadcastInDim S4x19x512x512 ![0, 1, 2, 3] bcast_S4x1x512x512_S4x19x512x512_0_1_2_3),
    StableHlo.TRef.binary main_call2.v5 main_call2.v10 main_call2.v11 subf ]

abbrev ops6 : List (HloOp τ sig (Elt F)) :=
  [ StableHlo.unary main_arg1 main_v56 (broadcastInDim S4x1x512x512 ![0, 2, 3] bcast_S4x512x512_S4x1x512x512_0_2_3 : (⟨S4x512x512, .i32⟩ : BufTy).Contents (Elt F) → (⟨S4x1x512x512, .i32⟩ : BufTy).Contents (Elt F)),
    StableHlo.TRef.nullary main_call3.c (constantI S_ 32 0#32),
    StableHlo.TRef.unary main_call3.c main_call3.v0 (broadcastInDim S4x1x512x512 ![] bcast_S_S4x1x512x512),
    StableHlo.TRef.binary (.of main_v56 : StableHlo.TRef sig ⟨S4x1x512x512, .i32⟩) main_call3.v0 main_call3.v1 (cmpi .slt),
    StableHlo.TRef.nullary main_call3.c_0 (constantI S_ 32 19#32),
    StableHlo.TRef.unary main_call3.c_0 main_call3.v2 (broadcastInDim S4x1x512x512 ![] bcast_S_S4x1x512x512),
    StableHlo.TRef.binary (.of main_v56 : StableHlo.TRef sig ⟨S4x1x512x512, .i32⟩) main_call3.v2 main_call3.v3 addi,
    StableHlo.TRef.ternary main_call3.v1 main_call3.v3 (.of main_v56 : StableHlo.TRef sig ⟨S4x1x512x512, .i32⟩) main_call3.v4 select,
    StableHlo.TRef.reshape main_call3.v4 main_call3.v5 (rfl : (.i32 : EltTy) = .i32) shapeCasts_S4x1x512x512_S4x1x512x512x1,
    StableHlo.TRef.nullary main_call3.c_1 (constantI S1 32 18#32),
    StableHlo.TRef.nullary main_call3.c_2 (constantI S_ 32 0#32),
    StableHlo.TRef.unary main_call3.c_2 main_call3.v6 (broadcastInDim S4x1x512x512x1 ![] bcast_S_S4x1x512x512x1),
    StableHlo.TRef.binary main_call3.v5 main_call3.v6 main_call3.v7 (cmpi .sge),
    StableHlo.TRef.unary main_call3.c_1 main_call3.v8 (broadcastInDim S1x1x1x1x1 ![4] bcast_S1_S1x1x1x1x1_4),
    StableHlo.TRef.unary main_call3.v8 main_call3.v9 (broadcastInDim S4x1x512x512x1 ![0, 1, 2, 3, 4] bcast_S1x1x1x1x1_S4x1x512x512x1_0_1_2_3_4),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S4x1x512x512x1_S4x1x512x512_d4 h_S_),
    StableHlo.TRef.binary (.of main_v55 : StableHlo.TRef sig ⟨S4x19x512x512, .f32⟩) main_call3.v5 main_call3.v13 (fun x i => Host.gather gather_S4x19x512x512_S4x1x512x512x1_S4x1x512x512_n_1_023_023_1_4_1111 x i),
    StableHlo.TRef.nullary main_call3.cst (constant S_ .f32 0x7FC00000#32),
    StableHlo.TRef.unary main_call3.cst main_call3.v14 (broadcastInDim S4x1x512x512 ![] bcast_S_S4x1x512x512),
    StableHlo.TRef.ternary main_call3.v12 main_call3.v13 main_call3.v14 main_call3.v15 select ]

abbrev ops7 : List (HloOp τ sig (Elt F)) :=
  [ StableHlo.reshape main_v57 main_v58 (rfl : (.f32 : EltTy) = .f32) shapeCasts_S4x1x512x512_S4x512x512,
    StableHlo.unary main_v58 main_v59 (Host.negf : (⟨S4x512x512, .f32⟩ : BufTy).Contents (Elt F) → (⟨S4x512x512, .f32⟩ : BufTy).Contents (Elt F)),
    StableHlo.nullary main_cst_12 (constant S_ .f32 0x00000000#32),
    StableHlo.binary main_v59 main_cst_12 main_v60 ((fun x v => Host.reduceAdd x v reducesTo_S4x512x512_S_d0_1_2 h_S_) : (⟨S4x512x512, .f32⟩ : BufTy).Contents (Elt F) → (⟨S_, .f32⟩ : BufTy).Contents (Elt F) → (⟨S_, .f32⟩ : BufTy).Contents (Elt F)),
    StableHlo.nullary main_cst_13 (constant S_ .f32 0x49800000#32),
    StableHlo.binary main_v60 main_cst_13 main_v61 (Host.divf : (⟨S_, .f32⟩ : BufTy).Contents (Elt F) → (⟨S_, .f32⟩ : BufTy).Contents (Elt F) → (⟨S_, .f32⟩ : BufTy).Contents (Elt F)),
    StableHlo.nullary main_cst_14 (constant S_ .f32 0x3F333333#32),
    StableHlo.binary main_cst_14 main_v54 main_v62 (mulf : (⟨S_, .f32⟩ : BufTy).Contents (Elt F) → (⟨S_, .f32⟩ : BufTy).Contents (Elt F) → (⟨S_, .f32⟩ : BufTy).Contents (Elt F)),
    StableHlo.nullary main_cst_15 (constant S_ .f32 0x3E99999A#32),
    StableHlo.binary main_cst_15 main_v61 main_v63 (mulf : (⟨S_, .f32⟩ : BufTy).Contents (Elt F) → (⟨S_, .f32⟩ : BufTy).Contents (Elt F) → (⟨S_, .f32⟩ : BufTy).Contents (Elt F)),
    StableHlo.binary main_v62 main_v63 main_v64 (addf : (⟨S_, .f32⟩ : BufTy).Contents (Elt F) → (⟨S_, .f32⟩ : BufTy).Contents (Elt F) → (⟨S_, .f32⟩ : BufTy).Contents (Elt F)) ]

abbrev ops : List (HloOp τ sig (Elt F)) := ops0 ++ (ops1 ++ (ops2 ++ (ops3 ++ (ops4 ++ (ops5 ++ (ops6 ++ ops7))))))

set_option maxRecDepth 20000 in
set_option maxHeartbeats 4000000 in
theorem main_eq (c : Dev nD) : main (F := F) c = seq ops := by
  simp only [main, main_part0, main_part1, fn_cumsum.body, fn_cumsum_0.body, fn_log_softmax.body, fn_take_along_axis.body, ops, ops0, ops1, ops2, ops3, ops4, ops5, ops6, ops7,
    List.cons_append, List.nil_append, seq, bind_assoc, pure_bind]

/-! ## The values -/

/-- A point's logits less their greatest. -/
def shiftR (x : FVec F S4x19x512x512 .f32) : FVec F S4x19x512x512 .f32 :=
  subf x (broadcastInDim S4x19x512x512 ![0, 1, 2, 3] bcast_S4x1x512x512_S4x19x512x512_0_1_2_3 (broadcastInDim S4x1x512x512 ![0, 2, 3] bcast_S4x512x512_S4x1x512x512_0_2_3
    (maximumf (broadcastInDim S4x512x512 ![] bcast_S_S4x512x512 (constant S_ .f32 0xFF800000#32))
      (Host.reduce FloatOps.maximumf x (constant S_ .f32 0xFF800000#32) reducesTo_S4x19x512x512_S4x512x512_d1 h_S_))))
def sumR (x : FVec F S4x19x512x512 .f32) : FVec F S4x1x512x512 .f32 :=
  broadcastInDim S4x1x512x512 ![0, 2, 3] bcast_S4x512x512_S4x1x512x512_0_2_3
    (Host.reduceAdd (Host.exp (shiftR x)) (constant S_ .f32 0x00000000#32) reducesTo_S4x19x512x512_S4x512x512_d1 h_S_)
/-- The softmax, by class and point. -/
def probR (x : FVec F S4x19x512x512 .f32) : FVec F S19x1048576 .f32 :=
  shapeCast S19x1048576 (transpose S19x4x512x512 [1, 0, 2, 3]
    (Host.divf (Host.exp (shiftR x)) (broadcastInDim S4x19x512x512 ![0, 1, 2, 3] bcast_S4x1x512x512_S4x19x512x512_0_1_2_3 (sumR x)))
    transposes_S4x19x512x512_S19x4x512x512_1_0_2_3) shapeCasts_S19x4x512x512_S19x1048576
/-- One where the point is labelled with the class. -/
def fgR (t : IVec S4x512x512 32) : FVec F S19x1048576 .f32 :=
  uitofp .f32 (cmpi .eq (broadcastInDim S19x1048576 ![0, 1] bcast_S1x1048576_S19x1048576_0_1
    (broadcastInDim S1x1048576 ![1] bcast_S1048576_S1x1048576_1 (shapeCast S1048576 t shapeCasts_S4x512x512_S1048576))) (iotaInDim S19x1048576 32 0))
/-- One number everywhere. -/
def allR (b : BitVec 32) : FVec F S19x1048576 .f32 := broadcastInDim S19x1048576 ![] bcast_S_S19x1048576 (constant S_ .f32 b)
/-- The quantised errors, negated. -/
def negR (p f : FVec F S19x1048576 .f32) : FVec F S19x1048576 .f32 :=
  Host.negf (Host.divf (addf (minimumf (Host.floor (mulf (Host.absf (subf f p)) (allR 0x44800000#32))) (allR 0x447FC000#32)) (allR 0x3F000000#32)) (allR 0x44800000#32))
/-- A class's labelled points. -/
def totalR (y : FVec F S19x1048576 .f32) : FVec F S19x1 .f32 :=
  broadcastInDim S19x1 ![0] bcast_S19_S19x1_0 (Host.reduceAdd y (constant S_ .f32 0x00000000#32) reducesTo_S19x1048576_S19_d1 h_S_)
def cumR (y : FVec F S19x1048576 .f32) : FVec F S19x1048576 .f32 :=
  Host.reduceWindowAdd ![1, 1048576] ![1, 1] ![0, 1048575] ![0, 0] y (broadcastInDim S_ ![] bcast_S_S_ (constant S_ .f32 0x00000000#32))
    reduceWindows_S19x1048576_S19x1048576_w1s1p0_0_w1048576s1p1048575_0 h_S_
/-- The Jaccard losses along the sorted errors. -/
def jacR (g : FVec F S19x1 .f32) (y : FVec F S19x1048576 .f32) : FVec F S19x1048576 .f32 :=
  subf (allR 0x3F800000#32) (Host.divf
    (subf (broadcastInDim S19x1048576 ![0, 1] bcast_S19x1_S19x1048576_0_1 g) (cumR y))
    (addf (broadcastInDim S19x1048576 ![0, 1] bcast_S19x1_S19x1048576_0_1 g) (cumR (subf (allR 0x3F800000#32) y))))
/-- Their steps. -/
def stepR (j : FVec F S19x1048576 .f32) : FVec F S19x1048576 .f32 :=
  concatenate S19x1048576 1 [⟨S19x1, extractStridedSlice S19x1 ![0, 0] j slices_S19x1048576_S19x1_0_0⟩,
    ⟨S19x1048575, subf (extractStridedSlice S19x1048575 ![0, 1] j slices_S19x1048576_S19x1048575_0_1) (extractStridedSlice S19x1048575 ![0, 0] j slices_S19x1048576_S19x1048575_0_0)⟩]
    concatenates_S19x1_S19x1048575_S19x1048576_d1
/-- The Lovász loss of sorted errors and the Jaccard losses along them. -/
def lovR (e j : FVec F S19x1048576 .f32) : FVec F S_ .f32 :=
  Host.divf (Host.reduceAdd (Host.reduceAdd (mulf e (stepR j)) (constant S_ .f32 0x00000000#32) reducesTo_S19x1048576_S19_d1 h_S_)
    (constant S_ .f32 0x00000000#32) reducesTo_S19_S_d0 h_S_) (constant S_ .f32 0x41980000#32)
def logR (x : FVec F S4x19x512x512 .f32) : FVec F S4x19x512x512 .f32 :=
  subf (shiftR x) (broadcastInDim S4x19x512x512 ![0, 1, 2, 3] bcast_S4x1x512x512_S4x19x512x512_0_1_2_3 (Host.log (sumR x)))
/-- The label as an index along the classes. -/
def labR (t : IVec S4x512x512 32) : IVec S4x1x512x512x1 32 :=
  let v56 : IVec S4x1x512x512 32 := broadcastInDim S4x1x512x512 ![0, 2, 3] bcast_S4x512x512_S4x1x512x512_0_2_3 t
  shapeCast S4x1x512x512x1 (select (cmpi .slt v56 (broadcastInDim S4x1x512x512 ![] bcast_S_S4x1x512x512 (constantI S_ 32 0#32)))
    (addi v56 (broadcastInDim S4x1x512x512 ![] bcast_S_S4x1x512x512 (constantI S_ 32 19#32))) v56) shapeCasts_S4x1x512x512_S4x1x512x512x1
/-- The labelled class's entry. -/
def takeR (l : FVec F S4x19x512x512 .f32) (t : IVec S4x512x512 32) : FVec F S4x1x512x512 .f32 :=
  select (Host.reduce IntOp.andi (andi (cmpi .sge (labR t) (broadcastInDim S4x1x512x512x1 ![] bcast_S_S4x1x512x512x1 (constantI S_ 32 0#32)))
      (cmpi .sle (labR t) (broadcastInDim S4x1x512x512x1 ![0, 1, 2, 3, 4] bcast_S1x1x1x1x1_S4x1x512x512x1_0_1_2_3_4
        (broadcastInDim S1x1x1x1x1 ![4] bcast_S1_S1x1x1x1x1_4 (constantI S1 32 18#32))))) (constantI S_ 1 1#1) reducesTo_S4x1x512x512x1_S4x1x512x512_d4 h_S_)
    (Host.gather gather_S4x19x512x512_S4x1x512x512x1_S4x1x512x512_n_1_023_023_1_4_1111 l (labR t))
    (broadcastInDim S4x1x512x512 ![] bcast_S_S4x1x512x512 (constant S_ .f32 0x7FC00000#32))
/-- The cross-entropy and the whole loss. -/
def lossR (v : FVec F S_ .f32) (l : FVec F S4x1x512x512 .f32) : FVec F S_ .f32 :=
  addf (mulf (constant S_ .f32 0x3F333333#32) v)
    (mulf (constant S_ .f32 0x3E99999A#32) (Host.divf (Host.reduceAdd (Host.negf (shapeCast S4x512x512 l shapeCasts_S4x1x512x512_S4x512x512))
      (constant S_ .f32 0x00000000#32) reducesTo_S4x512x512_S_d0_1_2 h_S_) (constant S_ .f32 0x49800000#32)))

section

variable (V : Valuation τ sig (Elt F))

set_option maxRecDepth 20000

theorem r0_prob : after ops0 V (main_v12 : DevRef τ sig) = probR (V (main_arg0 : DevRef τ sig)) := by
  after_reads_simp
  simp only [probR, sumR, shiftR]
  rfl
theorem r0_fg : after ops0 V (main_v18 : DevRef τ sig) = fgR (V (main_arg1 : DevRef τ sig)) := by
  after_reads_simp
  simp only [fgR]
  rfl
theorem r0_a0 : after ops0 V (main_arg0 : DevRef τ sig) = V (main_arg0 : DevRef τ sig) := by
  after_reads_simp
theorem r0_a1 : after ops0 V (main_arg1 : DevRef τ sig) = V (main_arg1 : DevRef τ sig) := by
  after_reads_simp

theorem r1_neg : after ops1 V (main_v30 : DevRef τ sig) = negR (V (main_v12 : DevRef τ sig)) (V (main_v18 : DevRef τ sig)) := by
  after_reads_simp
  simp only [negR, allR]
theorem r1_fg : after ops1 V (main_v18 : DevRef τ sig) = V (main_v18 : DevRef τ sig) := by
  after_reads_simp
theorem r1_a0 : after ops1 V (main_arg0 : DevRef τ sig) = V (main_arg0 : DevRef τ sig) := by
  after_reads_simp
theorem r1_a1 : after ops1 V (main_arg1 : DevRef τ sig) = V (main_arg1 : DevRef τ sig) := by
  after_reads_simp

theorem r2_e : after ops2 V (main_v32 : DevRef τ sig)
    = Host.negf (Host.sort2 S19x1048576 1 comparator_f32_f32_d1 (V (main_v30 : DevRef τ sig) : FVec F S19x1048576 .f32) (V (main_v18 : DevRef τ sig) : FVec F S19x1048576 .f32)).1 := by
  after_reads_simp
theorem r2_y : after ops2 V (main_v31_1 : DevRef τ sig)
    = (Host.sort2 S19x1048576 1 comparator_f32_f32_d1 (V (main_v30 : DevRef τ sig) : FVec F S19x1048576 .f32) (V (main_v18 : DevRef τ sig) : FVec F S19x1048576 .f32)).2 := by
  after_reads_simp
theorem r2_g : after ops2 V (main_v34 : DevRef τ sig)
    = totalR (Host.sort2 S19x1048576 1 comparator_f32_f32_d1 (V (main_v30 : DevRef τ sig) : FVec F S19x1048576 .f32) (V (main_v18 : DevRef τ sig) : FVec F S19x1048576 .f32)).2 := by
  after_reads_simp
  simp only [totalR]
theorem r2_a0 : after ops2 V (main_arg0 : DevRef τ sig) = V (main_arg0 : DevRef τ sig) := by
  after_reads_simp
theorem r2_a1 : after ops2 V (main_arg1 : DevRef τ sig) = V (main_arg1 : DevRef τ sig) := by
  after_reads_simp

theorem r3_j : after ops3 V (main_v45 : DevRef τ sig) = jacR (V (main_v34 : DevRef τ sig)) (V (main_v31_1 : DevRef τ sig)) := by
  after_reads_simp
  simp only [jacR, cumR, allR]
  rfl
theorem r3_e : after ops3 V (main_v32 : DevRef τ sig) = V (main_v32 : DevRef τ sig) := by
  after_reads_simp
theorem r3_a0 : after ops3 V (main_arg0 : DevRef τ sig) = V (main_arg0 : DevRef τ sig) := by
  after_reads_simp
theorem r3_a1 : after ops3 V (main_arg1 : DevRef τ sig) = V (main_arg1 : DevRef τ sig) := by
  after_reads_simp

theorem r4_v : after ops4 V (main_v54 : DevRef τ sig) = lovR (V (main_v32 : DevRef τ sig)) (V (main_v45 : DevRef τ sig)) := by
  have e1 : upto ops4 V 4 (main_v46 : DevRef τ sig) = extractStridedSlice S19x1 ![0, 0] (V (main_v45 : DevRef τ sig) : FVec F S19x1048576 .f32) slices_S19x1048576_S19x1_0_0 := by
    after_reads_simp
  have e2 : upto ops4 V 4 (main_v49 : DevRef τ sig) = subf (extractStridedSlice S19x1048575 ![0, 1] (V (main_v45 : DevRef τ sig) : FVec F S19x1048576 .f32) slices_S19x1048576_S19x1048575_0_1)
      (extractStridedSlice S19x1048575 ![0, 0] (V (main_v45 : DevRef τ sig) : FVec F S19x1048576 .f32) slices_S19x1048576_S19x1048575_0_0) := by
    after_reads_simp
  after_reads_simp
  rw [e1, e2]
  simp only [lovR, stepR]
theorem r4_a0 : after ops4 V (main_arg0 : DevRef τ sig) = V (main_arg0 : DevRef τ sig) := by
  after_reads_simp
theorem r4_a1 : after ops4 V (main_arg1 : DevRef τ sig) = V (main_arg1 : DevRef τ sig) := by
  after_reads_simp

theorem r5_l : after ops5 V (main_v55 : DevRef τ sig) = logR (V (main_arg0 : DevRef τ sig)) := by
  after_reads_simp
  simp -implicitDefEqProofs only [StableHlo.TRef.toBuf, StableHlo.TRef.ofBuf, cast_cast, cast_eq]
  simp only [logR, sumR, shiftR]
theorem r5_v : after ops5 V (main_v54 : DevRef τ sig) = V (main_v54 : DevRef τ sig) := by
  after_reads_simp
theorem r5_a0 : after ops5 V (main_arg0 : DevRef τ sig) = V (main_arg0 : DevRef τ sig) := by
  after_reads_simp
theorem r5_a1 : after ops5 V (main_arg1 : DevRef τ sig) = V (main_arg1 : DevRef τ sig) := by
  after_reads_simp

theorem r6_l : after ops6 V (main_v57 : DevRef τ sig) = takeR (V (main_v55 : DevRef τ sig)) (V (main_arg1 : DevRef τ sig)) := by
  after_reads_simp
  simp -implicitDefEqProofs only [StableHlo.TRef.toBuf, StableHlo.TRef.ofBuf, cast_cast, cast_eq]
  simp only [takeR, labR]
  rfl
theorem r6_v : after ops6 V (main_v54 : DevRef τ sig) = V (main_v54 : DevRef τ sig) := by
  after_reads_simp
theorem r6_a0 : after ops6 V (main_arg0 : DevRef τ sig) = V (main_arg0 : DevRef τ sig) := by
  after_reads_simp
theorem r6_a1 : after ops6 V (main_arg1 : DevRef τ sig) = V (main_arg1 : DevRef τ sig) := by
  after_reads_simp

theorem r7_out : after ops7 V (main_v64 : DevRef τ sig) = lossR (V (main_v54 : DevRef τ sig)) (V (main_v57 : DevRef τ sig)) := by
  after_reads_simp
  simp only [lossR]
  rfl
theorem r7_a0 : after ops7 V (main_arg0 : DevRef τ sig) = V (main_arg0 : DevRef τ sig) := by
  after_reads_simp
theorem r7_a1 : after ops7 V (main_arg1 : DevRef τ sig) = V (main_arg1 : DevRef τ sig) := by
  after_reads_simp

end

/-- The errors and the labels in the order of descending errors. -/
def sortR (x : FVec F S4x19x512x512 .f32) (t : IVec S4x512x512 32) : FVec F S19x1048576 .f32 × FVec F S19x1048576 .f32 :=
  Host.sort2 S19x1048576 1 comparator_f32_f32_d1 (negR (probR x) (fgR t)) (fgR t)

/-- What the reference computes of its arguments. -/
def out (x : FVec F S4x19x512x512 .f32) (t : IVec S4x512x512 32) : FVec F S_ .f32 :=
  lossR (lovR (Host.negf (sortR x t).1) (jacR (totalR (sortR x t).2) (sortR x t).2)) (takeR (logR x) t)

theorem out_eq (V : Valuation τ sig (Elt F)) : after ops V (main_v64 : DevRef τ sig) = out (V (main_arg0 : DevRef τ sig)) (V (main_arg1 : DevRef τ sig)) := by
  simp only [ops, after_append]
  rw [r7_out, r6_v, r6_l, r5_v, r5_l, r5_a1, r4_v, r4_a0, r4_a1, r3_e, r3_j, r3_a0, r3_a1, r2_e, r2_y, r2_g, r2_a0, r2_a1, r1_neg, r1_fg, r1_a0, r1_a1, r0_prob, r0_fg, r0_a0, r0_a1]
  rfl

theorem arg0_eq (V : Valuation τ sig (Elt F)) : after ops V (main_arg0 : DevRef τ sig) = V (main_arg0 : DevRef τ sig) := by
  simp only [ops, after_append]
  rw [r7_a0, r6_a0, r5_a0, r4_a0, r3_a0, r2_a0, r1_a0, r0_a0]
theorem arg1_eq (V : Valuation τ sig (Elt F)) : after ops V (main_arg1 : DevRef τ sig) = V (main_arg1 : DevRef τ sig) := by
  simp only [ops, after_append]
  rw [r7_a1, r6_a1, r5_a1, r4_a1, r3_a1, r2_a1, r1_a1, r0_a1]

theorem scopedRefs_eq : (Finset.univ.filter fun b : Ref sig .tc => b.isScoped) = ∅ := by decide
theorem scopedSems_eq : (Finset.univ.filter fun sm : SemLoc sig => sm.isScoped .tc) = ∅ := by decide
set_option maxRecDepth 20000 in
theorem ops_sub : (ops : List (HloOp τ sig (Elt F))).Forall fun op => op.bufs ⊆ tcRefs τ sig := by
  simp only [ops, ops0, ops1, ops2, ops3, ops4, ops5, ops6, ops7, List.cons_append, List.nil_append,
    List.Forall, reshape_bufs_sub, nullary_bufs_sub, unary_bufs_sub, binary_bufs_sub, ternary_bufs_sub, and_self]

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

theorem frame_reference [Cert.Pre_finite_and_labelled.Facts] : Cert.quiescent_ReferenceIdeal := by
  intro m ρ _
  exact (θ_run Cert.ReferenceIdeal.defs _ _).mono (fun r h => ⟨fun c => ⟨(h c Cert.ReferenceIdeal.main_arg0).trans (arg0_eq _), (h c Cert.ReferenceIdeal.main_arg1).trans (arg1_eq _)⟩,
      Idealize.ShloMosaic.sem_eq_zero_of_no_sems (by decide) r.2⟩)
    (run_main (F := Ideal) m ρ)

end Cert.Proof.Ref

end
-- ==== Proof.Bodies.lean ====
/-
  The two TensorCore calls' bodies: what each computes from its staging buffers' contents, as the printed
  vector operations, and the body run on the buffers it is handed.
-/
module

public import proofs.«01_k».proof.Proof.TileRun
public import Idealize.ShloMosaic.Lib.Memref
public import Idealize.ShloMosaic.Lib.Tactic
public import proofs.«01_k».proof.Proof.Gen.KernelIdeal

@[expose] public section

noncomputable section

namespace Cert.Proof.Call

open Cert.KernelIdeal Cert.KernelIdeal.Gen

open Idealize.ShloMosaic Idealize.SL.Sem
open Idealize.SL Idealize.SL.RA Idealize.SL.BI
open scoped Idealize.SL.BI
open Idealize.SL.BI.BIBase Idealize.SL.BI.Laws Idealize.SL.ProofMode

/-! ## Whole buffers read and written -/

theorem emb_full {s : Shape} {off : Fin s.rank → ℕ} {h : ∀ a, off a + s.size a ≤ s.size a} (h0 : ∀ a, off a = 0) (x : s.Idx) :
    (Rect.unit (s := s) off s.size h).emb x = x := by
  funext a; apply Fin.ext
  show off a + 1 * (x a).val = (x a).val
  rw [h0]; omega

section Whole

variable {nD : Nat} {τ : Topo} {sig : RefSig} {Ix : Type} [DecidableEq Ix]
variable {F : FTy → Type} {Name : Type} [DecidableEq Name] [Infinite Name]
variable {U : Type} [URA U] {Lvl : Type} [Preorder Lvl] {Λ : Labels}
variable {defs : Defs nD τ sig (Elt F) Λ} (𝒱 : Variants) (c : Thread nD τ) (bd : Option 𝒱.V)

local notation "𝕄" => MT nD τ sig Ix (Elt F) Name U Lvl

/-- A whole buffer, loaded. -/
theorem wp_load_full {α : Type} {Q : α → sProp 𝕄} {cs : CoreSpace} {s : Shape} {e : EltTy} {m : Memref sig c.2.kind cs s e}
    {off : Fin s.rank → ℕ} {h : ∀ a, off a + s.size a ≤ s.size a} (h0 : ∀ a, off a = 0) {hl : m.view.LoadsAt (Rect.unit (s := s) off s.size h).toLoadRect}
    {k : (s.Idx → Elt F e) → Prog (TpuEff nD τ sig (Elt F) Λ c.2) α} (X : s.Idx → Elt F e) :
    (owns c m fullShare X)
      ⊢ iprop((owns c m fullShare X -∗ wp frame (wpE defs 𝒱 c bd) Set.univ (k X) Q)
        -∗ wp frame (wpE defs 𝒱 c bd) Set.univ (.op (.load m (Rect.unit (s := s) off s.size h).toLoadRect hl) k) Q) := by
  unfold owns
  iintro ⟨%f, %hf, H⟩ Hk
  subst hf
  iapply (wp_load_rect (defs := defs) 𝒱 c bd Set.univ (Q := Q) (m := m) (r := Rect.unit (s := s) off s.size h) (hl := hl) (k := k) (S := m.view.set) (q := fullShare) (f := f) (View.set_slice_subset _ _)) $$ H
  iintro H
  have e : (m.access (Rect.unit (s := s) off s.size h)).read (Elt F) f = m.view.read (Elt F) f := by
    funext x
    show m.view.read (Elt F) f ((Rect.unit (s := s) off s.size h).emb x) = _
    exact congrArg (m.view.read (Elt F) f) (emb_full h0 x)
  rw [show (k ((m.access (Rect.unit (s := s) off s.size h)).read (Elt F) f)) = k (m.view.read (Elt F) f) from congrArg k e]
  iapply Hk
  iexists f
  isplitr; · ipureintro; rfl
  iexact H

/-- A whole buffer, stored. -/
theorem wp_store_full {α : Type} {Q : α → sProp 𝕄} {cs : CoreSpace} {s : Shape} {e : EltTy} {m : Memref sig c.2.kind cs s e}
    {off : Fin s.rank → ℕ} {h : ∀ a, off a + s.size a ≤ s.size a} (h0 : ∀ a, off a = 0) {w : s.Idx → Elt F e}
    {hx : (m.access (Rect.unit (s := s) off s.size h)).Stores Finset.univ} {hm : (Finset.univ : Finset s.Idx) = Finset.univ ∨ ∀ a, (Rect.unit (s := s) off s.size h).stride a = 1}
    {k : PUnit → Prog (TpuEff nD τ sig (Elt F) Λ c.2) α} (X : s.Idx → Elt F e) :
    (owns c m fullShare X)
      ⊢ iprop((owns c m fullShare w -∗ wp frame (wpE defs 𝒱 c bd) Set.univ (k ⟨⟩) Q)
        -∗ wp frame (wpE defs 𝒱 c bd) Set.univ (.op (.store m (Rect.unit (s := s) off s.size h) w Finset.univ hx hm) k) Q) := by
  unfold owns
  iintro ⟨%f, %hf, H⟩ Hk
  iapply (wp_store (defs := defs) 𝒱 c bd Set.univ (Q := Q) (m := m) (r := Rect.unit (s := s) off s.size h) (w := w) (Mk := Finset.univ) (hx := hx) (hm := hm) (k := k) (S := m.view.set) (f := f)
    ((View.setOn_subset_set _ _).trans (View.set_slice_subset _ _))) $$ H
  iintro H
  iapply Hk
  iexists _
  isplitr
  rotate_left
  · iexact H
  · ipureintro
    funext x
    have := View.read_slice_write_emb (Val := Elt F) (v := m.view) (Rect.unit (s := s) off s.size h) f w (M := Finset.univ) (x := x) (Finset.mem_univ _)
    rwa [emb_full h0 x] at this

end Whole

variable {F : FTy → Type} [FloatOps F]

/-! ## The first call's values, of its block of logits and of targets -/

def logitV (x : Vec F S1x19x8x512 .f32) : FVec F S19x8x512 .f32 := shapeCast S19x8x512 x shapeCasts_S1x19x8x512_S19x8x512
def maxV (x : Vec F S1x19x8x512 .f32) : FVec F S8x512 .f32 := multiReduction .maximumf [0] S8x512 (logitV x) 0xFF800000#32 reduces_S19x8x512_S8x512 (.inl rfl) rfl
def expV (x : Vec F S1x19x8x512 .f32) : FVec F S19x8x512 .f32 :=
  let v5 : FVec F S1x8x512 .f32 := shapeCast S1x8x512 (maxV x) shapeCasts_S8x512_S1x8x512
  let v6 : FVec F S19x8x512 .f32 := broadcastTo S19x8x512 v5 broadcasts_S1x8x512_S19x8x512
  let v7 : FVec F S19x8x512 .f32 := subf (logitV x) v6
  exp v7
def sumV (x : Vec F S1x19x8x512 .f32) : FVec F S8x512 .f32 := multiReduction .add [0] S8x512 (expV x) 0x00000000#32 reduces_S19x8x512_S8x512 (.inl rfl) rfl
def hitV (t : Vec F S1x8x512 .i32) : IVec S19x8x512 1 :=
  let v3 : IVec S8x512 32 := shapeCast S8x512 t shapeCasts_S1x8x512_S8x512
  let v12 : IVec S19x8x512 32 := iota .tc S19x8x512 32 [0] iota_S19x8x512_d0_w32
  let v13 : IVec S1x8x512 32 := shapeCast S1x8x512 v3 shapeCasts_S8x512_S1x8x512
  let v14 : IVec S19x8x512 32 := broadcastTo S19x8x512 v13 broadcasts_S1x8x512_S19x8x512
  cmpi .eq v14 v12
def probV (x : Vec F S1x19x8x512 .f32) : FVec F S19x8x512 .f32 :=
  let v16 : FVec F S1x8x512 .f32 := shapeCast S1x8x512 (sumV x) shapeCasts_S8x512_S1x8x512
  let v17 : FVec F S19x8x512 .f32 := broadcastTo S19x8x512 v16 broadcasts_S1x8x512_S19x8x512
  divf (expV x) v17
def errV (x : Vec F S1x19x8x512 .f32) (t : Vec F S1x8x512 .i32) : FVec F S19x8x512 .f32 :=
  let cst_7 : F .f32 := Scalar.ofBits .f32 0x3F800000#32
  let v19 : FVec F S19x8x512 .f32 := broadcast S19x8x512 cst_7
  let v20 : FVec F S19x8x512 .f32 := subf v19 (probV x)
  select (hitV t) v20 (probV x)
def binV (x : Vec F S1x19x8x512 .f32) (t : Vec F S1x8x512 .i32) : IVec S19x8x512 32 :=
  let cst_8 : F .f32 := Scalar.ofBits .f32 0x44800000#32
  let v22 : FVec F S19x8x512 .f32 := broadcast S19x8x512 cst_8
  let v23 : FVec F S19x8x512 .f32 := mulf (errV x t) v22
  let v24 : IVec S19x8x512 32 := fptosi 32 v23
  let v25 : IVec S19x8x512 32 := broadcast S19x8x512 1023#32
  minsi v24 v25
/-- The cell indices: the hit flag, the class and the bin of each point of the block. -/
def idxV (x : Vec F S1x19x8x512 .f32) (t : Vec F S1x8x512 .i32) : Vec F S1x19x8x512 .i32 :=
  let v12 : IVec S19x8x512 32 := iota .tc S19x8x512 32 [0] iota_S19x8x512_d0_w32
  let v27 : IVec S19x8x512 32 := broadcast S19x8x512 19456#32
  let v28 : IVec S19x8x512 32 := broadcast S19x8x512 0#32
  let v29 : IVec S19x8x512 32 := select (hitV t) v27 v28
  let v30 : IVec S19x8x512 32 := broadcast S19x8x512 1024#32
  let v31 : IVec S19x8x512 32 := muli v12 v30
  let v32 : IVec S19x8x512 32 := addi v29 v31
  let v33 : IVec S19x8x512 32 := addi v32 (binV x t)
  shapeCast S1x19x8x512 v33 shapeCasts_S19x8x512_S1x19x8x512
def nllV (x : Vec F S1x19x8x512 .f32) (t : Vec F S1x8x512 .i32) : FVec F S8x512 .f32 :=
  let v10 : FVec F S8x512 .f32 := log (sumV x)
  let v11 : FVec F S8x512 .f32 := addf (maxV x) v10
  let cst_13 : F .f32 := Scalar.ofBits .f32 0x00000000#32
  let v37 : FVec F S19x8x512 .f32 := broadcast S19x8x512 cst_13
  let v38 : FVec F S19x8x512 .f32 := select (hitV t) (logitV x) v37
  let v39 : FVec F S8x512 .f32 := multiReduction .add [0] S8x512 v38 0x00000000#32 reduces_S19x8x512_S8x512 (.inl rfl) rfl
  subf v11 v39
def ceV (x : Vec F S1x19x8x512 .f32) (t : Vec F S1x8x512 .i32) : FVec F S8x128 .f32 :=
  let v41 : FVec F S8x4x128 .f32 := shapeCast S8x4x128 (nllV x t) shapeCasts_S8x512_S8x4x128
  multiReduction .add [1] S8x128 v41 0x00000000#32 reduces_S8x4x128_S8x128 (.inl rfl) rfl
def zeroV : FVec F S8x128 .f32 := broadcast S8x128 (Scalar.ofBits .f32 0x00000000#32)
def ceNext (acc : Vec F S8x128 .f32) (x : Vec F S1x19x8x512 .f32) (t : Vec F S1x8x512 .i32) : FVec F S8x128 .f32 := addf (shapeCast S8x128 acc shapeCasts_S8x128_S8x128) (ceV x t)
/-- The kernel's test that the point is the grid's first. -/
abbrev firstP (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

/-! ## The last call's value, of the histograms and the accumulated lanes -/

def histV (h : Vec F S32x38x1024 .i32) : FVec F S38x1024 .f32 :=
  let v1 : IVec S32x38x1024 32 := shapeCast S32x38x1024 h shapeCasts_S32x38x1024_S32x38x1024
  let v2 : FVec F S32x38x1024 .f32 := sitofp .f32 v1
  multiReduction .add [0] S38x1024 v2 0x00000000#32 reduces_S32x38x1024_S38x1024 (.inl rfl) rfl
def triV : FVec F S1024x1024 .f32 :=
  let v8 : IVec S1024x1024 32 := iota .tc S1024x1024 32 [0] iota_S1024x1024_d0_w32
  let v9 : IVec S1024x1024 32 := iota .tc S1024x1024 32 [1] iota_S1024x1024_d1_w32
  let v10 : IVec S1024x1024 1 := cmpi .sge v8 v9
  let v11 : IVec S1024x1024 32 := extui 32 v10 natLt_1_32
  sitofp .f32 v11
def allV (h : Vec F S32x38x1024 .i32) : FVec F S19x1024 .f32 :=
  let v4 : FVec F S19x1024 .f32 := extractStridedSlice S19x1024 ![0, 0] (histV h) slices_S38x1024_o0_0_S19x1024
  let v5 : FVec F S19x1024 .f32 := extractStridedSlice S19x1024 ![19, 0] (histV h) slices_S38x1024_o19_0_S19x1024
  addf v4 v5
def posV (h : Vec F S32x38x1024 .i32) : FVec F S19x1024 .f32 := extractStridedSlice S19x1024 ![19, 0] (histV h) slices_S38x1024_o19_0_S19x1024
def geV (v : FVec F S19x1024 .f32) : FVec F S19x1024 .f32 := matmul dot_S19x1024_S1024x1024_S19x1024_1_0_0_1_n_n none v triV (constant S19x1024 .f32 0x00000000#32)
def jacV (h : Vec F S32x38x1024 .i32) : FVec F S19x1024 .f32 :=
  let v15 : FVec F S19x1 .f32 := extractStridedSlice S19x1 ![0, 0] (geV (posV h)) slices_S19x1024_o0_0_S19x1
  let cst_4 : F .f32 := Scalar.ofBits .f32 0x00000000#32
  let v16 : FVec F S19x1024 .f32 := broadcast S19x1024 cst_4
  let v17 : IVec S19x1024 1 := cmpf .ogt (geV (allV h)) v16
  let v18 : FVec F S19x1024 .f32 := broadcastTo S19x1024 v15 broadcasts_S19x1_S19x1024
  let v19 : FVec F S19x1024 .f32 := subf v18 (geV (posV h))
  let v20 : FVec F S19x1024 .f32 := broadcastTo S19x1024 v15 broadcasts_S19x1_S19x1024
  let v21 : FVec F S19x1024 .f32 := addf v20 (geV (allV h))
  let v22 : FVec F S19x1024 .f32 := subf v21 (geV (posV h))
  let v23 : FVec F S19x1024 .f32 := divf v19 v22
  let cst_5 : F .f32 := Scalar.ofBits .f32 0x3F800000#32
  let v24 : FVec F S19x1024 .f32 := broadcast S19x1024 cst_5
  let v25 : FVec F S19x1024 .f32 := subf v24 v23
  let cst_6 : F .f32 := Scalar.ofBits .f32 0x00000000#32
  let v26 : FVec F S19x1024 .f32 := broadcast S19x1024 cst_6
  select v17 v25 v26
def classV (h : Vec F S32x38x1024 .i32) : FVec F S19 .f32 :=
  let v28 : FVec F S19 .f32 := multiReduction .add [1] S19 (jacV h) 0x00000000#32 reduces_S19x1024_S19 (.inl rfl) rfl
  let cst_8 : F .f32 := Scalar.ofBits .f32 0x3F000000#32
  let v29 : FVec F S19 .f32 := broadcast S19 cst_8
  let v30 : FVec F S19 .f32 := subf v28 v29
  let cst_9 : F .f32 := Scalar.ofBits .f32 0x44800000#32
  let v31 : FVec F S19 .f32 := broadcast S19 cst_9
  divf v30 v31
def lovV (h : Vec F S32x38x1024 .i32) : F .f32 :=
  let v33 : FVec F S1x19 .f32 := shapeCast S1x19 (classV h) shapeCasts_S19_S1x19
  let cst_10 : FVec F S1 .f32 := constant S1 .f32 0x00000000#32
  let v34 : FVec F S1 .f32 := multiReduction .add [1] S1 v33 0x00000000#32 reduces_S1x19_S1 (.inl rfl) rfl
  let v35 : FVec F S1x1 .f32 := shapeCast S1x1 v34 shapeCasts_S1_S1x1
  let v36 : F .f32 := extractAt ![0, 0] v35 inpos_S1x1_p0_0
  let cst_11 : F .f32 := Scalar.ofBits .f32 0x41980000#32
  Scalar.divf v36 cst_11
def ceSumV (a : Vec F S8x128 .f32) : F .f32 :=
  let v39 : FVec F S8x128 .f32 := shapeCast S8x128 a shapeCasts_S8x128_S8x128
  let v40 : FVec F S1x8x128 .f32 := shapeCast S1x8x128 v39 shapeCasts_S8x128_S1x8x128
  let cst_14 : FVec F S1 .f32 := constant S1 .f32 0x00000000#32
  let v41 : FVec F S1 .f32 := multiReduction .add [1, 2] S1 v40 0x00000000#32 reduces_S1x8x128_S1 (.inl rfl) rfl
  let v42 : FVec F S1x1x1 .f32 := shapeCast S1x1x1 v41 shapeCasts_S1_S1x1x1
  let v43 : F .f32 := extractAt ![0, 0, 0] v42 inpos_S1x1x1_p0_0_0
  let cst_15 : F .f32 := Scalar.ofBits .f32 0x49800000#32
  Scalar.divf v43 cst_15
/-- The loss. -/
def lossV (h : Vec F S32x38x1024 .i32) (a : Vec F S8x128 .f32) : F .f32 :=
  Scalar.addf (Scalar.mulf (Scalar.ofBits .f32 0x3F333333#32) (lovV h)) (Scalar.mulf (Scalar.ofBits .f32 0x3E99999A#32) (ceSumV a))

/-! ## The bodies as runs of loads and stores -/

/-- The last part of the first call's body: one block's cross-entropy lanes added in. -/
def accProg (arg5 : Memref sig .tc .vmem S8x128 .f32) (c : FVec F S8x128 .f32) : Prog (TpuEff nD τ sig (Elt F) Λ₀ .tc) PUnit :=
  .op (.load arg5 (Rect.unit (s := S8x128) ![0, 0] S8x128.size inb_S8x128_S8x128_0_0).toLoadRect (View.loadsAt_vmem h_S8x128)) fun v48 : Vec F S8x128 .f32 =>
  .op (.load arg5 (Rect.unit (s := S8x128) ![0, 0] S8x128.size inb_S8x128_S8x128_0_0).toLoadRect (View.loadsAt_vmem h_S8x128)) fun _ =>
  .op (.store arg5 (Rect.unit (s := S8x128) ![0, 0] S8x128.size inb_S8x128_S8x128_0_0) (addf (shapeCast S8x128 v48 shapeCasts_S8x128_S8x128) c) Finset.univ (View.stores_vmem_bits_univ h_S8x128 rfl) (.inl rfl)) fun _ => .ret ⟨⟩

def initProg (arg5 : Memref sig .tc .vmem S8x128 .f32) (c : FVec F S8x128 .f32) : Prog (TpuEff nD τ sig (Elt F) Λ₀ .tc) PUnit :=
  .op (.load arg5 (Rect.unit (s := S8x128) ![0, 0] S8x128.size inb_S8x128_S8x128_0_0).toLoadRect (View.loadsAt_vmem h_S8x128)) fun _ =>
  .op (.store arg5 (Rect.unit (s := S8x128) ![0, 0] S8x128.size inb_S8x128_S8x128_0_0) (zeroV) Finset.univ (View.stores_vmem_bits_univ h_S8x128 rfl) (.inl rfl)) fun _ => accProg arg5 c

def idxProg (arg2 : Memref sig .tc .vmem S1x19x8x512 .f32) (arg3 : Memref sig .tc .vmem S1x8x512 .i32) (arg4 : Memref sig .tc .vmem S1x19x8x512 .i32)
    (k : Vec F S1x19x8x512 .f32 → Vec F S1x8x512 .i32 → Prog (TpuEff nD τ sig (Elt F) Λ₀ .tc) PUnit) : Prog (TpuEff nD τ sig (Elt F) Λ₀ .tc) PUnit :=
  .op (.load arg2 (Rect.unit (s := S1x19x8x512) ![0, 0, 0, 0] S1x19x8x512.size inb_S1x19x8x512_S1x19x8x512_0_0_0_0).toLoadRect (View.loadsAt_vmem h_S1x19x8x512)) fun x : Vec F S1x19x8x512 .f32 =>
  .op (.load arg3 (Rect.unit (s := S1x8x512) ![0, 0, 0] S1x8x512.size inb_S1x8x512_S1x8x512_0_0_0).toLoadRect (View.loadsAt_vmem h_S1x8x512)) fun t : Vec F S1x8x512 .i32 =>
  .op (.load arg4 (Rect.unit (s := S1x19x8x512) ![0, 0, 0, 0] S1x19x8x512.size inb_S1x19x8x512_S1x19x8x512_0_0_0_0).toLoadRect (View.loadsAt_vmem h_S1x19x8x512)) fun _ =>
  .op (.store arg4 (Rect.unit (s := S1x19x8x512) ![0, 0, 0, 0] S1x19x8x512.size inb_S1x19x8x512_S1x19x8x512_0_0_0_0) (idxV x t) Finset.univ (View.stores_vmem_bits_univ h_S1x19x8x512 rfl) (.inl rfl)) fun _ => k x t

def finalProg (arg0 : Memref sig .tc .vmem S32x38x1024 .i32) (arg1 : Memref sig .tc .vmem S8x128 .f32) (arg2 : Memref sig .tc .smem S1x1 .f32) : Prog (TpuEff nD τ sig (Elt F) Λ₀ .tc) PUnit :=
  .op (.load arg0 (Rect.unit (s := S32x38x1024) ![0, 0, 0] S32x38x1024.size inb_S32x38x1024_S32x38x1024_0_0_0).toLoadRect (View.loadsAt_vmem h_S32x38x1024)) fun h : Vec F S32x38x1024 .i32 =>
  .op (.load arg1 (Rect.unit (s := S8x128) ![0, 0] S8x128.size inb_S8x128_S8x128_0_0).toLoadRect (View.loadsAt_vmem h_S8x128)) fun a : Vec F S8x128 .f32 =>
  smemLoadElt arg2 (Rect.unit (s := S1x1) ![0, 0] S1x1.size inb_S1x1_S1x1_0_0) (View.loads_smem_one rfl numel1_S1x1) (Shape.Idx.first (numel1_S1x1.symm ▸ Nat.one_pos)) fun _ =>
  .op (.store arg2 (Rect.unit (s := S1x1) ![0, 0] S1x1.size inb_S1x1_S1x1_0_0) (fun _ => lossV h a) Finset.univ (View.stores_smem_one rfl numel1_S1x1) (.inl rfl)) fun _ => .ret ⟨⟩

set_option maxRecDepth 100000 in
set_option maxHeartbeats 4000000 in
theorem prep_eq (i : grid0.Coords) (arg2 : Memref sig .tc .vmem S1x19x8x512 .f32) (harg2 : arg2.IsWhole) (arg3 : Memref sig .tc .vmem S1x8x512 .i32) (harg3 : arg3.IsWhole) (arg4 : Memref sig .tc .vmem S1x19x8x512 .i32) (harg4 : arg4.IsWhole) (arg5 : Memref sig .tc .vmem S8x128 .f32) (harg5 : arg5.IsWhole) :
    cc0__prep_body (F := F) i arg2 harg2 arg3 harg3 arg4 harg4 arg5 harg5
      = idxProg arg2 arg3 arg4 fun x t => if _ : firstP i = 1#1 then initProg arg5 (ceV x t) else accProg arg5 (ceV x t) := by
  unfold cc0__prep_body k0_part1
  simp only [bind_assoc, pure_bind]
  rfl

set_option maxRecDepth 100000 in
set_option maxHeartbeats 4000000 in
theorem final_eq (arg0 : Memref sig .tc .vmem S32x38x1024 .i32) (harg0 : arg0.IsWhole) (arg1 : Memref sig .tc .vmem S8x128 .f32) (harg1 : arg1.IsWhole) (arg2 : Memref sig .tc .smem S1x1 .f32) (harg2 : arg2.IsWhole) :
    cc2__final_body (F := F) arg0 harg0 arg1 harg1 arg2 harg2 = finalProg arg0 arg1 arg2 := by
  unfold cc2__final_body k2_part1
  simp only [bind_assoc, pure_bind]
  rfl

/-! ## Run -/

section Run

variable {Ix : Type} [DecidableEq Ix] {Name : Type} [DecidableEq Name] [Infinite Name] {U : Type} [URA U] {Lvl : Type} [Preorder Lvl]
variable {defs : Defs nD τ sig (Elt F) Λ₀} (𝒱 : Variants) (d : Dev nD) (bd : Option 𝒱.V)

local notation "𝕄" => MT nD τ sig Ix (Elt F) Name U Lvl

theorem zero2 : ∀ a : Fin 2, (![0, 0] : Fin 2 → ℕ) a = 0 := by decide
theorem zero3 : ∀ a : Fin 3, (![0, 0, 0] : Fin 3 → ℕ) a = 0 := by decide
theorem zero4 : ∀ a : Fin 4, (![0, 0, 0, 0] : Fin 4 → ℕ) a = 0 := by decide

theorem wp_acc (arg5 : Memref sig .tc .vmem S8x128 .f32) (c : FVec F S8x128 .f32) (a : Vec F S8x128 .f32) {Q : PUnit → sProp 𝕄} :
    iprop(owns (d.tc : Thread nD τ) arg5 fullShare a)
      ⊢ iprop((owns (d.tc : Thread nD τ) arg5 fullShare (addf (shapeCast S8x128 a shapeCasts_S8x128_S8x128) c) -∗ Q ⟨⟩)
        -∗ wp frame (wpE defs 𝒱 (d.tc : Thread nD τ) bd) Set.univ (accProg arg5 c) Q) := by
  unfold accProg
  iintro H Hk
  iapply (wp_load_full (defs := defs) 𝒱 (d.tc : Thread nD τ) bd (s := S8x128) zero2 a) $$ H
  iintro H
  iapply (wp_load_full (defs := defs) 𝒱 (d.tc : Thread nD τ) bd (s := S8x128) zero2 a) $$ H
  iintro H
  iapply (wp_store_full (defs := defs) 𝒱 (d.tc : Thread nD τ) bd (s := S8x128) zero2 a) $$ H
  iintro H
  rw [wp_ret]; imodintro
  iapply Hk; iexact H

theorem wp_init (arg5 : Memref sig .tc .vmem S8x128 .f32) (c : FVec F S8x128 .f32) (a : Vec F S8x128 .f32) {Q : PUnit → sProp 𝕄} :
    iprop(owns (d.tc : Thread nD τ) arg5 fullShare a)
      ⊢ iprop((owns (d.tc : Thread nD τ) arg5 fullShare (addf (shapeCast S8x128 zeroV shapeCasts_S8x128_S8x128) c) -∗ Q ⟨⟩)
        -∗ wp frame (wpE defs 𝒱 (d.tc : Thread nD τ) bd) Set.univ (initProg arg5 c) Q) := by
  unfold initProg
  iintro H Hk
  iapply (wp_load_full (defs := defs) 𝒱 (d.tc : Thread nD τ) bd (s := S8x128) zero2 a) $$ H
  iintro H
  iapply (wp_store_full (defs := defs) 𝒱 (d.tc : Thread nD τ) bd (s := S8x128) zero2 a) $$ H
  iintro H
  iapply (wp_acc (defs := defs) 𝒱 d bd arg5 c zeroV) $$ H Hk

theorem wp_idx (arg2 : Memref sig .tc .vmem S1x19x8x512 .f32) (arg3 : Memref sig .tc .vmem S1x8x512 .i32) (arg4 : Memref sig .tc .vmem S1x19x8x512 .i32)
    {k : Vec F S1x19x8x512 .f32 → Vec F S1x8x512 .i32 → Prog (TpuEff nD τ sig (Elt F) Λ₀ .tc) PUnit}
    (x : Vec F S1x19x8x512 .f32) (t : Vec F S1x8x512 .i32) (j : Vec F S1x19x8x512 .i32) {Q : PUnit → sProp 𝕄} :
    iprop(owns (d.tc : Thread nD τ) arg2 fullShare x ∗ owns (d.tc : Thread nD τ) arg3 fullShare t ∗ owns (d.tc : Thread nD τ) arg4 fullShare j)
      ⊢ iprop((iprop(owns (d.tc : Thread nD τ) arg2 fullShare x ∗ owns (d.tc : Thread nD τ) arg3 fullShare t ∗ owns (d.tc : Thread nD τ) arg4 fullShare (idxV x t))
          -∗ wp frame (wpE defs 𝒱 (d.tc : Thread nD τ) bd) Set.univ (k x t) Q)
        -∗ wp frame (wpE defs 𝒱 (d.tc : Thread nD τ) bd) Set.univ (idxProg arg2 arg3 arg4 k) Q) := by
  unfold idxProg
  iintro ⟨H2, H3, H4⟩ Hk
  iapply (wp_load_full (defs := defs) 𝒱 (d.tc : Thread nD τ) bd (s := S1x19x8x512) zero4 x) $$ H2
  iintro H2
  iapply (wp_load_full (defs := defs) 𝒱 (d.tc : Thread nD τ) bd (s := S1x8x512) zero3 t) $$ H3
  iintro H3
  iapply (wp_load_full (defs := defs) 𝒱 (d.tc : Thread nD τ) bd (s := S1x19x8x512) zero4 j) $$ H4
  iintro H4
  iapply (wp_store_full (defs := defs) 𝒱 (d.tc : Thread nD τ) bd (s := S1x19x8x512) zero4 j) $$ H4
  iintro H4
  iapply Hk
  isplitl [H2]; · iexact H2
  isplitl [H3]; · iexact H3
  iexact H4

theorem wp_final (arg0 : Memref sig .tc .vmem S32x38x1024 .i32) (arg1 : Memref sig .tc .vmem S8x128 .f32) (arg2 : Memref sig .tc .smem S1x1 .f32)
    (h : Vec F S32x38x1024 .i32) (a : Vec F S8x128 .f32) (r : Vec F S1x1 .f32) {Q : PUnit → sProp 𝕄} :
    iprop(owns (d.tc : Thread nD τ) arg0 fullShare h ∗ owns (d.tc : Thread nD τ) arg1 fullShare a ∗ owns (d.tc : Thread nD τ) arg2 fullShare r)
      ⊢ iprop((iprop(owns (d.tc : Thread nD τ) arg0 fullShare h ∗ owns (d.tc : Thread nD τ) arg1 fullShare a ∗ owns (d.tc : Thread nD τ) arg2 fullShare (fun _ => lossV h a)) -∗ Q ⟨⟩)
        -∗ wp frame (wpE defs 𝒱 (d.tc : Thread nD τ) bd) Set.univ (finalProg arg0 arg1 arg2) Q) := by
  unfold finalProg smemLoadElt
  iintro ⟨H0, H1, H2⟩ Hk
  iapply (wp_load_full (defs := defs) 𝒱 (d.tc : Thread nD τ) bd (s := S32x38x1024) zero3 h) $$ H0
  iintro H0
  iapply (wp_load_full (defs := defs) 𝒱 (d.tc : Thread nD τ) bd (s := S8x128) zero2 a) $$ H1
  iintro H1
  iapply (wp_load_full (defs := defs) 𝒱 (d.tc : Thread nD τ) bd (s := S1x1) zero2 r) $$ H2
  iintro H2
  iapply (wp_store_full (defs := defs) 𝒱 (d.tc : Thread nD τ) bd (s := S1x1) zero2 r) $$ H2
  iintro H2
  rw [wp_ret]; imodintro
  iapply Hk
  isplitl [H0]; · iexact H0
  isplitl [H1]; · iexact H1
  iexact H2

end Run

end Cert.Proof.Call

end
-- ==== Proof.Pixel.lean ====
/-
  One point of the image at the extended reals: the softmax of its logits, the error of a class, the error's bin; and
  the first call's block values at a point of the block.
-/
module

public import proofs.«01_k».proof.Proof.Bodies
public import Idealize.ShloMosaic.PureOps.Ideal
public import Idealize.ShloMosaic.PureOps.Ideal.Laws
public import Idealize.ShloMosaic.Lib.IdealHost
public import Idealize.ShloMosaic.Lib.Pipeline.Value
public import Idealize.ShloMosaic.Lib.StableHlo.Predicate

@[expose] public section

noncomputable section

namespace Cert.Proof.Px

open Idealize.ShloMosaic
open scoped BigOperators

/-! ## A point's softmax -/

/-- The greatest logit, from `-∞`. -/
def mx (z : Fin 19 → EReal) : EReal := (Finset.univ : Finset (Fin 19)).fold max ⊥ z
def ex (z : Fin 19 → EReal) (k : Fin 19) : EReal := Ideal.exp (z k - mx z)
def sm (z : Fin 19 → EReal) : EReal := ∑ k, ex z k
def pr (z : Fin 19 → EReal) (k : Fin 19) : EReal := Ideal.div (ex z k) (sm z)

/-- The same over the reals. -/
def mR (r : Fin 19 → ℝ) : ℝ := (mx fun k => (r k : EReal)).toReal
def sR (r : Fin 19 → ℝ) : ℝ := ∑ k, Real.exp (r k - mR r)
def pR (r : Fin 19 → ℝ) (k : Fin 19) : ℝ := Real.exp (r k - mR r) / sR r
/-- The error of class `k` at a point labelled `t`. -/
def eR (r : Fin 19 → ℝ) (t : ℕ) (k : Fin 19) : ℝ := if t = k.val then 1 - pR r k else pR r k
/-- Its bin. -/
def bR (r : Fin 19 → ℝ) (t : ℕ) (k : Fin 19) : ℕ := min ⌊eR r t k * 1024⌋₊ 1023

theorem fold_coe (s : Finset (Fin 19)) (r : Fin 19 → ℝ) : s.fold max ⊥ (fun k => (r k : EReal)) = ⊥ ∧ s = ∅ ∨ ∃ m : ℝ, s.fold max ⊥ (fun k => (r k : EReal)) = (m : EReal) := by
  classical
  induction s using Finset.induction_on with
  | empty => left; exact ⟨rfl, rfl⟩
  | insert a s ha ih =>
    right
    rw [Finset.fold_insert ha]
    rcases ih with ⟨h, _⟩ | ⟨m, h⟩
    · exact ⟨r a, by rw [h]; exact max_eq_left bot_le⟩
    · exact ⟨max (r a) m, by rw [h]; exact (EReal.coe_strictMono.monotone.map_max).symm⟩

variable (r : Fin 19 → ℝ)

theorem mx_coe : mx (fun k => (r k : EReal)) = (mR r : EReal) := by
  rcases fold_coe Finset.univ r with ⟨_, h⟩ | ⟨m, h⟩
  · exact absurd h (Finset.univ_nonempty.ne_empty)
  · unfold mR mx; rw [h]; rfl

theorem ex_coe (k : Fin 19) : ex (fun k => (r k : EReal)) k = (Real.exp (r k - mR r) : EReal) := by
  unfold ex; rw [mx_coe, ← EReal.coe_sub]; rfl

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

theorem sm_coe : sm (fun k => (r k : EReal)) = (sR r : EReal) := by
  unfold sm sR; rw [← coe_sum]; exact Finset.sum_congr rfl fun k _ => ex_coe r k

theorem sR_pos : 0 < sR r := Finset.sum_pos (fun k _ => Real.exp_pos _) Finset.univ_nonempty

theorem div_coe (a b : ℝ) (hb : b ≠ 0) : Ideal.div (a : EReal) (b : EReal) = ((a / b : ℝ) : EReal) := by
  unfold Ideal.div
  rw [if_neg (by exact_mod_cast hb), ← EReal.coe_inv, ← EReal.coe_mul]; rfl

theorem pr_coe (k : Fin 19) : pr (fun k => (r k : EReal)) k = (pR r k : EReal) := by
  unfold pr pR; rw [ex_coe, sm_coe, div_coe _ _ (sR_pos r).ne']

theorem pR_nonneg (k : Fin 19) : 0 ≤ pR r k := div_nonneg (Real.exp_pos _).le (sR_pos r).le
theorem pR_le_one (k : Fin 19) : pR r k ≤ 1 :=
  (div_le_one (sR_pos r)).2 (Finset.single_le_sum (f := fun k => Real.exp (r k - mR r)) (fun k _ => (Real.exp_pos _).le) (Finset.mem_univ k))

theorem eR_nonneg (t : ℕ) (k : Fin 19) : 0 ≤ eR r t k := by
  unfold eR; split
  · linarith [pR_le_one r k]
  · exact pR_nonneg r k
theorem eR_le_one (t : ℕ) (k : Fin 19) : eR r t k ≤ 1 := by
  unfold eR; split
  · linarith [pR_nonneg r k]
  · exact pR_le_one r k

theorem bR_lt (t : ℕ) (k : Fin 19) : bR r t k < 1024 := by unfold bR; omega

/-! ## The constants -/

theorem ofBits_neg_inf : Ideal.ofBits .f32 0xFF800000#32 = ⊥ := by simp [Ideal.ofBits, Ideal.ieee]
theorem ofBits_1024 : Ideal.ofBits .f32 0x44800000#32 = ((1024 : ℝ) : EReal) := by
  simp [Ideal.ofBits, Ideal.ieee, -EReal.coe_mul]; norm_num
theorem ofBits_1023 : Ideal.ofBits .f32 0x447FC000#32 = ((1023 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_19 : Ideal.ofBits .f32 0x41980000#32 = ((19 : ℝ) : EReal) := by
  simp [Ideal.ofBits, Ideal.ieee, -EReal.coe_mul]; norm_num
theorem ofBits_mega : Ideal.ofBits .f32 0x49800000#32 = ((1048576 : ℝ) : EReal) := by
  simp [Ideal.ofBits, Ideal.ieee, -EReal.coe_mul]; norm_num
theorem ofBits_one : Ideal.ofBits .f32 0x3F800000#32 = ((1 : ℝ) : EReal) := Ideal.ofBits_one_f32

/-- The kernel's bin: the product, converted toward zero, at most 1023. -/
theorem bin_word (e : ℝ) (h0 : 0 ≤ e) (h1 : e ≤ 1) :
    IntOp.minsi (Ideal.fptosi 32 ((e : EReal) * ((1024 : ℝ) : EReal))) 1023#32 = BitVec.ofNat 32 (min ⌊e * 1024⌋₊ 1023) := by
  rw [← EReal.coe_mul]
  have hn : (0 : ℝ) ≤ e * 1024 := by positivity
  have hle : ⌊e * 1024⌋₊ ≤ 1024 := by
    have : e * 1024 ≤ ((1024 : ℕ) : ℝ) := by push_cast; linarith
    exact Nat.floor_le_of_le this
  have hf : ⌊e * 1024⌋ = (⌊e * 1024⌋₊ : ℤ) := (Int.natCast_floor_eq_floor hn).symm
  have hp : Ideal.fptosi 32 ((e * 1024 : ℝ) : EReal) = BitVec.ofNat 32 ⌊e * 1024⌋₊ := by
    show BitVec.ofInt 32 (max _ (min _ (if 0 ≤ e * 1024 then ⌊e * 1024⌋ else ⌈e * 1024⌉))) = _
    rw [if_pos hn, hf, min_eq_right (by norm_num; omega), max_eq_right (by norm_num)]
    exact BitVec.ofInt_natCast _ _
  rw [hp]
  generalize ⌊e * 1024⌋₊ = n at hle ⊢
  have ht : (BitVec.ofNat 32 n).toInt = n := StableHlo.Predicate.toInt_ofNat_small _ (by omega)
  unfold IntOp.minsi
  by_cases hc : n < 1023
  · have : (BitVec.ofNat 32 n).slt 1023#32 = true := by
      rw [BitVec.slt_eq_decide, decide_eq_true_iff, ht]; show (n : ℤ) < 1023; omega
    rw [min_eq_left (by omega)]
    simp [this]
  · have : (BitVec.ofNat 32 n).slt 1023#32 = false := by
      rw [BitVec.slt_eq_decide, decide_eq_false_iff_not, ht]; show ¬ (n : ℤ) < 1023; omega
    rw [min_eq_right (by omega)]
    simp [this]

end Cert.Proof.Px

namespace Cert.Proof.Call

open Cert.KernelIdeal Cert.KernelIdeal.Gen Cert.Proof.Px
open Idealize.ShloMosaic

/-! ## The first call's block values, at a point of the block -/

variable (x : Vec Ideal S1x19x8x512 .f32) (t : Vec Ideal S1x8x512 .i32)

/-- The logits of one point of the block. -/
def zOf (a : Fin 8) (w : Fin 512) : Fin 19 → EReal := fun k => x (ValueIdx.ix4 (0 : Fin 1) k a w)

theorem logitV_apply (k : Fin 19) (a : Fin 8) (w : Fin 512) : logitV x (ValueIdx.ix3 k a w) = zOf x a w k := by
  have := a.isLt; have := w.isLt
  refine shapeCast_apply x _ _ _ ?_
  rw [Shape.rowMajor_val_four, Shape.rowMajor_val_three]
  show ((0 * 19 + k.val) * 8 + a.val) * 512 + w.val = (k.val * 8 + a.val) * 512 + w.val
  omega

theorem lift3 (k : Fin 19) (a : Fin 8) (w : Fin 512) : (reduces_S19x8x512_S8x512).lift (ValueIdx.ix2 a w) k = ValueIdx.ix3 k a w := by
  funext b; apply Fin.ext
  match b with
  | ⟨0, _⟩ => rfl
  | ⟨1, _⟩ => rfl
  | ⟨2, _⟩ => rfl

theorem maxV_apply (a : Fin 8) (w : Fin 512) : maxV x (ValueIdx.ix2 a w) = mx (zOf x a w) := by
  refine (Ideal.multiReduction_maximumf_single (logitV x) _ _ _ _ _).trans ?_
  unfold mx
  rw [show FloatOps.ofBits (F := Ideal) .f32 0xFF800000#32 = ⊥ from ofBits_neg_inf]
  refine congrArg (fun f : Fin 19 → EReal => Finset.fold max ⊥ f Finset.univ) (funext fun k => ?_)
  exact (congrArg (logitV x) (lift3 k a w)).trans (logitV_apply x k a w)

theorem spread_apply {α : Type} (v : S8x512.Idx → α) (k : Fin 19) (a : Fin 8) (w : Fin 512) :
    broadcastTo S19x8x512 (shapeCast S1x8x512 v shapeCasts_S8x512_S1x8x512) broadcasts_S1x8x512_S19x8x512 (ValueIdx.ix3 k a w) = v (ValueIdx.ix2 a w) := by
  refine (broadcastTo_apply _ _ _ (ValueIdx.ix3 (0 : Fin 1) a w) ?_).trans ?_
  · intro b
    match b with
    | ⟨0, _⟩ => rfl
    | ⟨1, _⟩ => rfl
    | ⟨2, _⟩ => rfl
  · refine shapeCast_apply v _ _ _ ?_
    rw [Shape.rowMajor_val_two, Shape.rowMajor_val_three]
    show a.val * 512 + w.val = (0 * 8 + a.val) * 512 + w.val
    omega

theorem expV_apply (k : Fin 19) (a : Fin 8) (w : Fin 512) : expV x (ValueIdx.ix3 k a w) = ex (zOf x a w) k := by
  show Ideal.exp (logitV x (ValueIdx.ix3 k a w) - _) = _
  rw [logitV_apply]
  refine congrArg (fun y => Ideal.exp (zOf x a w k - y)) ?_
  exact (spread_apply (maxV x) k a w).trans (maxV_apply x a w)

theorem sumV_apply (a : Fin 8) (w : Fin 512) : sumV x (ValueIdx.ix2 a w) = sm (zOf x a w) := by
  refine (Ideal.multiReduction_add_single (expV x) _ _ _ _ _).trans ?_
  refine Finset.sum_congr rfl fun k _ => ?_
  exact (congrArg (expV x) (lift3 k a w)).trans (expV_apply x k a w)

theorem probV_apply (k : Fin 19) (a : Fin 8) (w : Fin 512) : probV x (ValueIdx.ix3 k a w) = pr (zOf x a w) k := by
  show Ideal.div (expV x (ValueIdx.ix3 k a w)) _ = _
  rw [expV_apply]
  refine congrArg (Ideal.div (ex (zOf x a w) k)) ?_
  exact (spread_apply (sumV x) k a w).trans (sumV_apply x a w)

/-- The label of one point of the block. -/
def tOf (a : Fin 8) (w : Fin 512) : BitVec 32 := t (ValueIdx.ix3 (0 : Fin 1) a w)

theorem hitV_apply (k : Fin 19) (a : Fin 8) (w : Fin 512) : hitV t (ValueIdx.ix3 k a w) = if (tOf t a w).toNat = k.val then 1#1 else 0#1 := by
  have e1 := spread_apply (shapeCast S8x512 t shapeCasts_S1x8x512_S8x512) k a w
  have e2 : shapeCast S8x512 t shapeCasts_S1x8x512_S8x512 (ValueIdx.ix2 a w) = tOf t a w := by
    refine shapeCast_apply t _ _ _ ?_
    rw [Shape.rowMajor_val_two, Shape.rowMajor_val_three]
    show (0 * 8 + a.val) * 512 + w.val = a.val * 512 + w.val
    omega
  have hk := k.isLt
  have e3 : iota .tc S19x8x512 32 [0] iota_S19x8x512_d0_w32 (ValueIdx.ix3 k a w) = BitVec.ofNat 32 k.val := iota_single_apply ..
  show IntOp.cmpi .eq (broadcastTo S19x8x512 (shapeCast S1x8x512 (shapeCast S8x512 t shapeCasts_S1x8x512_S8x512) shapeCasts_S8x512_S1x8x512) broadcasts_S1x8x512_S19x8x512 (ValueIdx.ix3 k a w)) (iota .tc S19x8x512 32 [0] iota_S19x8x512_d0_w32 (ValueIdx.ix3 k a w)) = _
  rw [e1, e2, e3]
  show BitVec.ofBool (tOf t a w == BitVec.ofNat 32 k.val) = _
  by_cases h : (tOf t a w).toNat = k.val
  · have he : tOf t a w = BitVec.ofNat 32 k.val := BitVec.eq_of_toNat_eq (by rw [h, BitVec.toNat_ofNat]; omega)
    rw [if_pos h, show (tOf t a w == BitVec.ofNat 32 k.val) = true from beq_iff_eq.2 he]
    rfl
  · rw [if_neg h]
    have : tOf t a w ≠ BitVec.ofNat 32 k.val := fun e => h (by rw [e, BitVec.toNat_ofNat]; omega)
    rw [show (tOf t a w == BitVec.ofNat 32 k.val) = false from beq_eq_false_iff_ne.2 this]
    rfl

variable {x} {r : Fin 19 → ℝ} {a : Fin 8} {w : Fin 512} (hr : ∀ k, zOf x a w k = (r k : EReal))

include hr
theorem zOf_eq : zOf x a w = fun k => (r k : EReal) := funext hr

theorem errV_apply (k : Fin 19) : errV x t (ValueIdx.ix3 k a w) = (eR r (tOf t a w).toNat k : EReal) := by
  show (if hitV t (ValueIdx.ix3 k a w) = 1#1 then Ideal.ofBits .f32 0x3F800000#32 - probV x (ValueIdx.ix3 k a w) else probV x (ValueIdx.ix3 k a w)) = _
  rw [hitV_apply, probV_apply, zOf_eq hr, pr_coe, ofBits_one, ← EReal.coe_sub]
  unfold eR
  by_cases h : (tOf t a w).toNat = k.val
  · simp only [if_pos h, if_true]
  · simp only [if_neg h]; rfl

theorem binV_apply (k : Fin 19) : binV x t (ValueIdx.ix3 k a w) = BitVec.ofNat 32 (bR r (tOf t a w).toNat k) := by
  show IntOp.minsi (Ideal.fptosi 32 (errV x t (ValueIdx.ix3 k a w) * Ideal.ofBits .f32 0x44800000#32)) 1023#32 = _
  rw [errV_apply t hr, ofBits_1024]
  exact bin_word _ (eR_nonneg r _ k) (eR_le_one r _ k)

/-- The cell of class `k` at a point. -/
theorem idxV_apply (k : Fin 19) : idxV x t (ValueIdx.ix4 (0 : Fin 1) k a w)
    = BitVec.ofNat 32 ((if (tOf t a w).toNat = k.val then 19456 else 0) + k.val * 1024 + bR r (tOf t a w).toNat k) := by
  have := a.isLt; have := w.isLt
  have e3 : iota .tc S19x8x512 32 [0] iota_S19x8x512_d0_w32 (ValueIdx.ix3 k a w) = BitVec.ofNat 32 k.val := iota_single_apply ..
  unfold idxV
  refine (shapeCast_apply (s := S19x8x512) _ _ _ (ValueIdx.ix3 k a w) ?_).trans ?_
  · rw [Shape.rowMajor_val_four, Shape.rowMajor_val_three]
    show (k.val * 8 + a.val) * 512 + w.val = ((0 * 19 + k.val) * 8 + a.val) * 512 + w.val
    omega
  show ((if hitV t (ValueIdx.ix3 k a w) = 1#1 then 19456#32 else 0#32) + iota .tc S19x8x512 32 [0] iota_S19x8x512_d0_w32 (ValueIdx.ix3 k a w) * 1024#32) + binV x t (ValueIdx.ix3 k a w) = _
  rw [e3, hitV_apply, binV_apply t hr]
  have h1 := bR_lt r (tOf t a w).toNat k
  have h2 := k.isLt
  generalize bR r (tOf t a w).toNat k = n at h1 ⊢
  apply BitVec.eq_of_toNat_eq
  by_cases h : (tOf t a w).toNat = k.val
  · rw [if_pos h, if_pos h, if_pos rfl]
    simp only [BitVec.toNat_add, BitVec.toNat_mul, BitVec.toNat_ofNat]
    omega
  · rw [if_neg h, if_neg h, if_neg (by decide)]
    simp only [BitVec.toNat_add, BitVec.toNat_mul, BitVec.toNat_ofNat]
    omega

/-- What the point adds to the cross-entropy. -/
theorem nllV_apply (hx : (tOf t a w).toNat < 19) : nllV x t (ValueIdx.ix2 a w) = ((mR r + Real.log (sR r) - r ⟨(tOf t a w).toNat, hx⟩ : ℝ) : EReal) := by
  show (maxV x (ValueIdx.ix2 a w) + Ideal.log (sumV x (ValueIdx.ix2 a w))) - _ = _
  have e : multiReduction .add [0] S8x512 (select (hitV t) (logitV x) (broadcast S19x8x512 (Scalar.ofBits .f32 0x00000000#32 : Ideal .f32))) 0x00000000#32 reduces_S19x8x512_S8x512 (.inl rfl) rfl (ValueIdx.ix2 a w)
      = (r ⟨(tOf t a w).toNat, hx⟩ : EReal) := by
    refine (Ideal.multiReduction_add_single (select (hitV t) (logitV x) (broadcast S19x8x512 (Scalar.ofBits .f32 0x00000000#32 : Ideal .f32))) _ _ _ _ _).trans ?_
    refine (Finset.sum_eq_single (⟨(tOf t a w).toNat, hx⟩ : Fin 19) ?_ ?_).trans ?_
    · intro k _ hk
      refine (congrArg (select (hitV t) (logitV x) (broadcast S19x8x512 (Scalar.ofBits .f32 0x00000000#32 : Ideal .f32))) (lift3 k a w)).trans ?_
      show (if hitV t (ValueIdx.ix3 k a w) = 1#1 then logitV x (ValueIdx.ix3 k a w) else Ideal.ofBits .f32 0x00000000#32) = 0
      have hne : ¬ (tOf t a w).toNat = k.val := fun e => hk (Fin.ext e.symm)
      rw [hitV_apply, if_neg hne, if_neg (by decide), Ideal.ofBits_zero_f32]
    · intro h; exact absurd (Finset.mem_univ _) h
    · refine (congrArg (select (hitV t) (logitV x) (broadcast S19x8x512 (Scalar.ofBits .f32 0x00000000#32 : Ideal .f32))) (lift3 ⟨(tOf t a w).toNat, hx⟩ a w)).trans ?_
      show (if hitV t (ValueIdx.ix3 _ a w) = 1#1 then logitV x (ValueIdx.ix3 _ a w) else Ideal.ofBits .f32 0x00000000#32) = _
      rw [hitV_apply, if_pos rfl, if_pos rfl, logitV_apply, hr]
  rw [maxV_apply, sumV_apply, zOf_eq hr, mx_coe, sm_coe]
  refine (congrArg (fun y => ((mR r : EReal) + Ideal.log (sR r : EReal)) - y) e).trans ?_
  rw [show Ideal.log (sR r : EReal) = (Real.log (sR r) : EReal) from (by show (if sR r ≤ 0 then ⊥ else _) = _; rw [if_neg (not_le.2 (sR_pos r))]), ← EReal.coe_add, ← EReal.coe_sub]

end Cert.Proof.Call

end
-- ==== Proof.CallTile.lean ====
/-
  The whole program's SparseCore call, from any index array: each tile takes its slab of the indices and its
  row of the result, and every row ends counting its slab.
-/
module

public import proofs.«01_k».proof.Defs
public import proofs.«01_k».proof.Proof.TileSplit
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.Proof.Call

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds beside the transfers' counters -/

abbrev UH : Type := URounds (GSem nD τ sig) ℕ
/-- The staged calls' rounds. -/
abbrev UP : Type := UR sig nD τ
abbrev UU : Type := UH × (UP × Counters)

local notation "𝕄" => MT nD τ sig (HIx 1) (Elt F) ℕ UU ℕ

abbrev EH : Emb UH (MT nD τ sig (HIx 1) (Elt F) ℕ UU ℕ) := embL
abbrev EP : Emb UP (MT nD τ sig (HIx 1) (Elt F) ℕ UU ℕ) := (Emb.inl : Emb UP (UP × Counters)).trans embR
abbrev EC : UEmb Counters (MT nD τ sig (HIx 1) (Elt F) ℕ UU ℕ) := countersEmb

/-! ## The body -/

abbrev srcOf (i : grid1.Coords) (arg2 : Memref sig .scVector .hbm S38912x512 .i32) (j : ℕ) (h : j < 19) : Memref sig .scVector .hbm S64x512 .i32 :=
  arg2.slice (Rect.unit (s := S38912x512) (k1_off2 i (BitVec.ofNat 32 (64 * j))) S64x512.size (k1_off2_inb i ⟨j, h⟩)) (fun _ => rfl)
abbrev outOf (i : grid1.Coords) (arg3 : Memref sig .scVector .hbm S32x38912 .i32) : Memref sig .scVector .hbm S38912 .i32 :=
  (arg3.slice (Rect.unit (s := S32x38912) (k1_off611 i) S1x38912.size (k1_off611_inb i)) (fun _ => rfl)).squeeze S38912 squeezes_S1x38912_S38912

variable [FloatOps F]

set_option maxRecDepth 100000 in
set_option maxHeartbeats 4000000 in
/-- The printed body is the tile's program at the tile's slab and row. -/
theorem body_eq (i : grid1.Coords) (arg2 : Memref sig .scVector .hbm S38912x512 .i32) (harg2 : arg2.IsWhole) (arg3 : Memref sig .scVector .hbm S32x38912 .i32) (harg3 : arg3.IsWhole) (arg4 : Memref sig .scVector .vmem S64x512 .i32) (harg4 : arg4.IsWhole) (arg5 : Memref sig .scVector .vmem S64x512 .i32) (harg5 : arg5.IsWhole) (arg6 : Memref sig .scVector .vmem S38912 .i32) (harg6 : arg6.IsWhole) (arg7 : DmaSems sig S_) (arg8 : DmaSems sig S_) (v158_r0 : DmaSems sig S_) :
    cc1__sc_hist_body (F := F) i arg2 harg2 arg3 harg3 arg4 harg4 arg5 harg5 arg6 harg6 arg7 arg8 v158_r0
      = Tile.tile (F := F) (p := .scVector ((i 0).castLE hcore1) ((i 1).castLE hsub1)) (srcOf i arg2) (fun _ _ => View.wordExact_bits rfl) (outOf i arg3) ((View.wordExact_bits rfl).reshape _ _) arg4 arg5 harg4.wordExact harg5.wordExact arg6 harg6.wordExact arg7.sem arg8.sem v158_r0.sem := by
  unfold cc1__sc_hist_body k1_part58 k1_part59 k1_part60 k1_part61 k1_part62 k1_part63 k1_part64
  simp only [bind_assoc, pure_bind]
  unfold Tile.tile
  rfl

/-! ## The launch memory and the buffers -/

variable (x : Dev nD → Tile.IB.Idx → Elt F .i32)

abbrev iV : Memref sig .scVector .hbm S38912x512 .i32 := Memref.whole main_v1_scv
abbrev oV : Memref sig .scVector .hbm S32x38912 .i32 := Memref.whole main_v2_scv
abbrev sA : Memref sig .scVector .vmem S64x512 .i32 := Memref.whole cc1_scratch0
abbrev sB : Memref sig .scVector .vmem S64x512 .i32 := Memref.whole cc1_scratch1
abbrev sH : Memref sig .scVector .vmem S38912 .i32 := Memref.whole cc1_scratch2
abbrev iLoc (d : Dev nD) : Loc nD τ sig := (SparseCore.T d).loc main_v1
abbrev oLoc (d : Dev nD) : Loc nD τ sig := (SparseCore.T d).loc main_v2

/-- The indices of device `d`, as words. -/
abbrev inds (d : Dev nD) : Tile.IB.Idx → BitVec 32 := x d

/-- Every index names a histogram cell. -/
def PreOK : Prop := ∀ (d : Dev nD) (i : Tile.IB.Idx), (inds x d i).toNat < 38912

abbrev cV (L : grid1.Coords) : Fin τ.nSC := (L 0).castLE hcore1
abbrev jV (L : grid1.Coords) : Fin τ.nSub := (L 1).castLE hsub1
/-- The tile's slab and row number. -/
abbrev wid (L : grid1.Coords) : ℕ := 2 * (L 1).val + (L 0).val

section Tile

variable (d : Dev nD) (L : grid1.Coords)

/-- The tile's slab, chunk by chunk. -/
def slab : sProp 𝕄 :=
  bigSep Finset.univ fun j : Fin 19 => owns (V d (cV L) (jV L)) (srcOf L iV j.val j.isLt) fullShare (Tile.chunkOf (Tile.slabWords (inds x d) (wid L)) (j.val * 32768))
/-- The tile's row of the result, at any contents and at the slab's counts. -/
def rowAny : sProp 𝕄 := Tile.held (F := F) (V d (cV L) (jV L)) (outOf L oV)
def rowDone : sProp 𝕄 := owns (V d (cV L) (jV L)) (outOf L oV) fullShare (Tile.counts (Tile.slabWords (inds x d) (wid L)) 622592)

instance slab_storable : BI.Storable (upEmb : UEmb _ 𝕄) (slab x d L) := by unfold slab; infer_instance
instance rowAny_storable : BI.Storable (upEmb : UEmb _ 𝕄) (rowAny (F := F) d L) := by unfold rowAny Tile.held; infer_instance
instance rowDone_storable : BI.Storable (upEmb : UEmb _ 𝕄) (rowDone x d L) := by unfold rowDone; infer_instance

abbrev cAcell : GSem nD τ sig := (V d (cV L) (jV L), .dma cc1_scratch3.sem)
abbrev cBcell : GSem nD τ sig := (V d (cV L) (jV L), .dma cc1_scratch4.sem)
abbrev cOcell : GSem nD τ sig := (V d (cV L) (jV L), .dma cc1_scoped0.sem)

omit [FloatOps F] in
theorem ownSems0_V :
    (ownSems0 (V d (cV L) (jV L)) : sProp 𝕄)
      = iprop(semVal (cAcell d L) 0 ∗ semVal (cBcell d L) 0 ∗ semVal (cOcell d L) 0
          ∗ bigSep ((((ownCells (V d (cV L) (jV L))).erase (cAcell d L)).erase (cBcell d L)).erase (cOcell d L)) fun g => semVal g 0) := by
  unfold SparseCore.Cfg.ownSems0
  rw [SparseCore.bigSep_erase' ((mem_ownCells (g := cAcell d L)).mpr ⟨rfl, by
      show (SemLoc.dma cc1_scratch3.sem : SemLoc sig).isScoped .scVector = true; decide⟩),
    SparseCore.bigSep_erase' (Finset.mem_erase.mpr ⟨by simp [cAcell, cBcell]; decide, (mem_ownCells (g := cBcell d L)).mpr ⟨rfl, by
      show (SemLoc.dma cc1_scratch4.sem : SemLoc sig).isScoped .scVector = true; decide⟩⟩),
    SparseCore.bigSep_erase' (Finset.mem_erase.mpr ⟨by simp [cBcell, cOcell]; decide, Finset.mem_erase.mpr ⟨by simp [cAcell, cOcell]; decide,
      (mem_ownCells (g := cOcell d L)).mpr ⟨rfl, by show (SemLoc.dma cc1_scoped0.sem : SemLoc sig).isScoped .scVector = true; decide⟩⟩⟩)]

omit [FloatOps F] in
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
    SparseCore.Cfg.mem_ownRefs_of_owner (p := Proc.scVector (cV L) (jV L)) (b := (Proc.scVector (cV L) (jV L)).devRef cc1_scratch2) rfl⟩⟩)]

omit [FloatOps F] in
theorem held_A : (Tile.held (F := F) (V d (cV L) (jV L)) sA : sProp 𝕄) = iprop(∃ f, (V d (cV L) (jV L)).loc cc1_scratch0 ↦{fullShare} f) := by
  unfold Tile.held; exact congrArg _ (funext fun f => owns_whole (V d (cV L) (jV L)) cc1_scratch0 fullShare f)
omit [FloatOps F] in
theorem held_B : (Tile.held (F := F) (V d (cV L) (jV L)) sB : sProp 𝕄) = iprop(∃ f, (V d (cV L) (jV L)).loc cc1_scratch1 ↦{fullShare} f) := by
  unfold Tile.held; exact congrArg _ (funext fun f => owns_whole (V d (cV L) (jV L)) cc1_scratch1 fullShare f)
omit [FloatOps F] in
theorem held_H : (Tile.held (F := F) (V d (cV L) (jV L)) sH : sProp 𝕄) = iprop(∃ f, (V d (cV L) (jV L)).loc cc1_scratch2 ↦{fullShare} f) := by
  unfold Tile.held; exact congrArg _ (funext fun f => owns_whole (V d (cV L) (jV L)) cc1_scratch2 fullShare f)

theorem slab_pieces : slab x d L = Tile.pieces (V d (cV L) (jV L)) (srcOf L iV) (Tile.slabWords (inds x d) (wid L)) 19 0 (by omega) := by
  rw [← Tile.pieces_eq]
  unfold slab
  refine BI.bigSep_congr fun j _ => ?_
  have e : 0 + j.val = j.val := Nat.zero_add _
  simp only [e]

/-- The tile `L`'s task. -/
theorem tile_body (hF : (K (F := F)).Facts) (hpre : PreOK x) (O : CellTallies nD τ sig (HIx 1)) (W : Waits sig (HIx 1)) (hO : ∀ g, O g none = 0) :
    iprop(levAts (K (F := F)).L (K (F := F)).lev ∗ emp ∗ (slab x d L ∗ rowAny d L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_hist_body L iV (Memref.isWhole_whole _) oV (Memref.isWhole_whole _) sA (Memref.isWhole_whole _) sB (Memref.isWhole_whole _)
            sH (Memref.isWhole_whole _) cc1_scratch3 cc1_scratch4 cc1_scoped0)
          fun _ => iprop((slab x d L ∗ rowDone x d L) ∗ scopedBufs (V d (cV L) (jV L)) ∗ scopedSems0 (V d (cV L) (jV L))
            ∗ ∃ W', ⌜∀ p ∈ W', p ∈ W ∨ p.2 = none⌝ ∗ owes (V d (cV L) (jV L)) O W') := by
  rw [body_eq]
  rw [(K (F := F)).scopedBufs_V hF d (cV L) (jV L), SparseCore.Cfg.scopedSems0_V (Val := Elt F) d (cV L) (jV L), ownSems0_V, ownBufs_V,
    slab_pieces, ← held_A, ← held_B, ← held_H]
  unfold rowAny rowDone
  iintro ⟨#Hlv, -, ⟨Hp, Ho⟩, ⟨HA, HB, HH, Hbufs⟩, ⟨HvA, HvB, HvO, Hsems⟩, HO⟩
  ihave #Hmw := ((K (F := F)).mayWaits_none (thr := V d (cV L) (jV L)) hO) $$ Hlv
  ihave Hrun := (Tile.wp_tile (defs := defs₀ (F := F)) 𝒱₀ (V d (cV L) (jV L)) none EC (srcOf L iV) (Tile.slabWords (inds x d) (wid L)) none O W
      (Tile.slabWords_lt (fun i => hpre d i) (wid L)) (hist := sH) (hsrc := fun _ _ => View.wordExact_bits rfl) (out := outOf L oV)
      (hout := (View.wordExact_bits rfl).reshape _ _) (A := sA) (B := sB) (hA := (Memref.isWhole_whole _).wordExact) (hB := (Memref.isWhole_whole _).wordExact)
      (hhist := (Memref.isWhole_whole _).wordExact) (sA := cc1_scratch3.sem) (sB := cc1_scratch4.sem) (sO := cc1_scoped0.sem)) $$ [Hp Ho HA HB HH HvA HvB HvO HO]
  · isplitl [HA HB HH]
    · isplitl [HH]; · iexact HH
      isplitl [HA]; · iexact HA
      iexact HB
    isplitl [HvA HvB HvO]
    · isplitl [HvA]; · iexact HvA
      isplitl [HvB]; · iexact HvB
      iexact HvO
    isplitl [Hp]; · iexact Hp
    isplitl [Ho]; · iexact Ho
    isplitl [HO]
    · unfold Tile.owing
      iexists W
      isplitr; · ipureintro; exact fun p hp => Or.inl hp
      iexact HO
    iexact Hmw
  iapply (wp_wand frame _ _) $$ Hrun
  iintro %_ ⟨⟨HH, HA, HB⟩, ⟨HvA, HvB, HvO⟩, Hp, Ho, HO⟩
  isplitl [Hp Ho]
  · isplitl [Hp]; · iexact Hp
    iexact Ho
  isplitl [HH HA HB Hbufs]
  · isplitl [HA]; · iexact HA
    isplitl [HB]; · iexact HB
    isplitl [HH]; · iexact HH
    iexact Hbufs
  isplitl [HvA HvB HvO Hsems]
  · isplitl [HvA]; · iexact HvA
    isplitl [HvB]; · iexact HvB
    isplitl [HvO]; · iexact HvO
    iexact Hsems
  unfold Tile.owing
  iexact HO

end Tile

/-! ## What the handshakes carry -/

def coordsV (c : Fin (grid1.bound 0)) (s : Fin (grid1.bound 1)) : grid1.Coords :=
  fun | 0 => c | 1 => s | ⟨_ + 2, h⟩ => absurd h (Nat.not_lt.2 (Nat.le_add_left _ _))

def goOf (d : Dev nD) (c : Fin 2) (s : Fin 16) : sProp 𝕄 := iprop(slab x d (coordsV c s) ∗ rowAny d (coordsV c s))
def tdOf (d : Dev nD) (c : Fin 2) (s : Fin 16) : sProp 𝕄 := iprop(slab x d (coordsV c s) ∗ rowDone x d (coordsV c s))

instance goOf_storable (d : Dev nD) (c : Fin 2) (s : Fin 16) : BI.Storable (upEmb : UEmb _ 𝕄) (goOf x d c s) := by unfold goOf; infer_instance
instance tdOf_storable (d : Dev nD) (c : Fin 2) (s : Fin 16) : BI.Storable (upEmb : UEmb _ 𝕄) (tdOf x d c s) := by unfold tdOf; infer_instance

@[irreducible] def stOf (d : Dev nD) (c : Fin 2) : sProp 𝕄 := bigSep Finset.univ fun s : Fin 16 => goOf x d c s
@[irreducible] def dnOf (d : Dev nD) (c : Fin 2) : sProp 𝕄 := bigSep Finset.univ fun s : Fin 16 => tdOf x d c s

instance stOf_storable (d : Dev nD) (c : Fin 2) : BI.Storable (upEmb : UEmb _ 𝕄) (stOf x d c) := by unfold stOf; infer_instance
instance dnOf_storable (d : Dev nD) (c : Fin 2) : BI.Storable (upEmb : UEmb _ 𝕄) (dnOf x d c) := by unfold dnOf; infer_instance

def P : (K (F := F)).Pay (nD := nD) (Val := Elt F) (Name := ℕ) (U := UU) where
  st := fun q d c => match q with | 0 => stOf x d (Fin.cast (nCore_zero (F := F)) c)
  dn := fun q d c => match q with | 0 => dnOf x d (Fin.cast (nCore_zero (F := F)) c)
  go := fun q d c s => match q with | 0 => goOf x d (Fin.cast (nCore_zero (F := F)) c) (Fin.cast (nSub_zero (F := F)) s)
  td := fun q d c s => match q with | 0 => tdOf x d (Fin.cast (nCore_zero (F := F)) c) (Fin.cast (nSub_zero (F := F)) s)
  x := fun _ _ => iprop(emp)

instance P_storable : (P (F := F) x).IsStorable where
  st q d c := match q with | 0 => stOf_storable x d _
  dn q d c := match q with | 0 => dnOf_storable x d _
  go q d c s := match q with | 0 => goOf_storable x d _ _
  td q d c s := match q with | 0 => tdOf_storable x d _ _

/-! ## The launch theorem's obligations -/

theorem defs₀_vector (c : Fin τ.nSC) (s : Fin τ.nSub) :
    defs₀ (F := F) (.scVector c s) 1 ()
      = SparseCore.onTile hcore1 hsub1 (fun c s => cc1__sc_hist_body (coordsV c s)
          iV (Memref.isWhole_whole _) oV (Memref.isWhole_whole _) sA (Memref.isWhole_whole _) sB (Memref.isWhole_whole _)
          sH (Memref.isWhole_whole _) cc1_scratch3 cc1_scratch4 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 4096 in
theorem tileObl (hF : (K (F := F)).Facts) (hpre : PreOK x) : (K (F := F)).TileObl (D (F := F)) 𝒱 (P x) v₀ 0 := by
  intro d c i O W hO _ _
  simp only [show (P x).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body x d (coordsV ⟨_, hc.1⟩ ⟨_, hc.2⟩) hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast (nSub_zero (F := F)) i)) = bigSep Finset.univ Φ :=
  bigSep_congr fun _ _ => congrArg Φ (Fin.ext rfl)
omit [FloatOps F] in
theorem bigSep_cores (Φ : Fin 2 → sProp 𝕄) :
    (bigSep Finset.univ fun i : Fin ((K (F := F)).nCore 0) => Φ (Fin.cast (nCore_zero (F := F)) i)) = bigSep Finset.univ Φ :=
  bigSep_congr fun _ _ => congrArg Φ (Fin.ext rfl)

theorem vecSplit : (K (F := F)).VecSplit' (P x) 0 := by
  intro d c
  show stOf x d (Fin.cast (nCore_zero (F := F)) c) ⊢ |={Set.univ}=> iprop(
      (bigSep Finset.univ fun i : Fin ((K (F := F)).nSub 0) => goOf x d (Fin.cast (nCore_zero (F := F)) c) (Fin.cast (nSub_zero (F := F)) i))
      ∗ ((bigSep Finset.univ fun i : Fin ((K (F := F)).nSub 0) => tdOf x d (Fin.cast (nCore_zero (F := F)) c) (Fin.cast (nSub_zero (F := F)) i))
          -∗ dnOf x d (Fin.cast (nCore_zero (F := F)) c)))
  rw [bigSep_tasks (F := F) (fun i => goOf x d (Fin.cast (nCore_zero (F := F)) c) i), bigSep_tasks (F := F) (fun i => tdOf x d (Fin.cast (nCore_zero (F := F)) c) i)]
  unfold stOf dnOf
  iintro H; imodintro
  isplitl [H]; · iexact H
  iintro H; iexact H

/-! ## The two arrays by tile -/

/-- The counts of every slab. -/
abbrev hist (d : Dev nD) : Buf (Elt F) (oLoc d) := Tile.histOf (inds x d)

theorem off2_eq (a : Fin 2) (s : Fin 16) (j : Fin 19) :
    k1_off2 (coordsV a s) (BitVec.ofNat 32 (64 * j.val)) = ![2432 * s.val + 1216 * a.val + 64 * j.val, 0] := k1_off2_eq (coordsV a s) j
theorem off611_eq (a : Fin 2) (s : Fin 16) : k1_off611 (coordsV a s) = ![2 * s.val + a.val, 0] := k1_off611_eq (coordsV a s)

variable [∀ e, Nonempty (Elt F e)]

/-- A thread to name the arrays' memrefs at. -/
abbrev t₀ (d : Dev nD) : Thread nD τ := V d (cV (coordsV (0 : Fin 2) (0 : Fin 16))) (jV (coordsV (0 : Fin 2) (0 : Fin 16)))

theorem inds_slabs (d : Dev nD) :
    (iLoc d ↦{fullShare} (show Buf (Elt F) (iLoc d) from x d) : sProp 𝕄) = bigSep Finset.univ fun a : Fin 2 => bigSep Finset.univ fun s : Fin 16 => slab x d (coordsV a s) := by
  have h1 : (owns (t₀ d) iV fullShare (inds x d) : sProp 𝕄) = iLoc d ↦{fullShare} (show Buf (Elt F) (iLoc d) from x d) := owns_whole (t₀ d) main_v1_scv fullShare _
  rw [← h1, Tile.owns_slabs (t₀ d) fullShare iV (fun a s j => k1_off2 (coordsV a s) (BitVec.ofNat 32 (64 * j.val)))
    (fun a s j => k1_off2_inb (coordsV a s) j) off2_eq (inds x d)]
  rfl

theorem hist_rows (d : Dev nD) :
    (oLoc d ↦{fullShare} hist x d : sProp 𝕄) = bigSep Finset.univ fun a : Fin 2 => bigSep Finset.univ fun s : Fin 16 => rowDone x d (coordsV a s) := by
  have h1 : (owns (t₀ d) oV fullShare (hist x d) : sProp 𝕄) = oLoc d ↦{fullShare} hist x d := owns_whole (t₀ d) main_v2_scv fullShare _
  rw [← h1, Tile.owns_rows (t₀ d) fullShare oV (fun a s => k1_off611 (coordsV a s)) (fun a s => k1_off611_inb (coordsV a s)) off611_eq
    squeezes_S1x38912_S38912 (hist x d)]
  rfl

theorem any_rows (d : Dev nD) (f : Buf (Elt F) (oLoc d)) :
    (oLoc d ↦{fullShare} f : sProp 𝕄) ⊢ bigSep Finset.univ fun a : Fin 2 => bigSep Finset.univ fun s : Fin 16 => rowAny d (coordsV a s) := by
  have h1 : (owns (t₀ d) oV fullShare f : sProp 𝕄) = oLoc d ↦{fullShare} f := owns_whole (t₀ d) main_v2_scv fullShare _
  rw [← h1, Tile.owns_rows (t₀ d) fullShare oV (fun a s => k1_off611 (coordsV a s)) (fun a s => k1_off611_inb (coordsV a s)) off611_eq
    squeezes_S1x38912_S38912 f]
  exact BI.bigSep_mono fun a _ => BI.bigSep_mono fun s _ => Tile.owns_held (F := F) (V d (cV (coordsV a s)) (jV (coordsV a s))) (outOf (coordsV a s) oV) _

theorem deal (d : Dev nD) (f : Buf (Elt F) (oLoc d)) :
    iprop((iLoc d ↦{fullShare} (show Buf (Elt F) (iLoc d) from x d)) ∗ oLoc d ↦{fullShare} f)
      ⊢ (bigSep Finset.univ fun c : Fin ((K (F := F)).nCore 0) => (P x).st 0 d c : sProp 𝕄) := by
  show _ ⊢ bigSep Finset.univ fun c : Fin ((K (F := F)).nCore 0) => stOf x d (Fin.cast (nCore_zero (F := F)) c)
  rw [bigSep_cores (F := F) (fun c => stOf x d c)]
  unfold stOf goOf
  simp only [bigSep_sep']
  rw [inds_slabs]
  iintro ⟨Hi, Ho⟩
  isplitl [Hi]; · iexact Hi
  iapply (any_rows (F := F) d _); iexact Ho

theorem undeal (d : Dev nD) :
    (bigSep Finset.univ fun c : Fin ((K (F := F)).nCore 0) => (P x).dn 0 d c : sProp 𝕄)
      ⊢ iprop((iLoc d ↦{fullShare} (show Buf (Elt F) (iLoc d) from x d)) ∗ oLoc d ↦{fullShare} hist x d) := by
  show (bigSep Finset.univ fun c : Fin ((K (F := F)).nCore 0) => dnOf x d (Fin.cast (nCore_zero (F := F)) c)) ⊢ _
  rw [bigSep_cores (F := F) (fun c => dnOf x d c)]
  unfold dnOf tdOf
  simp only [bigSep_sep']
  rw [inds_slabs, hist_rows]

end Cert.Proof.Call

end
-- ==== Proof.Staged.lean ====
/-
  The two TensorCore calls as regions of @main: from the arrays at any contents, each leaves its results at
  the contents its body computes, while the core still owes the SparseCore call its start or owes nothing.
-/
module

public import proofs.«01_k».proof.Proof.Bodies
public import proofs.«01_k».proof.Proof.CallTile
public import proofs.«01_k».proof.Proof.Gen.KernelIdeal.Launch
public import proofs.«01_k».proof.Proof.Gen.KernelIdeal.Points
public import Idealize.ShloMosaic.Lib.Pipeline.Regions
public import Idealize.ShloMosaic.Lib.Pipeline.RegionArrays
public import Idealize.ShloMosaic.Lib.Pipeline.FrameBody

@[expose] public section

noncomputable section

namespace Cert.Proof.Call

open Cert.KernelIdeal Cert.KernelIdeal.Gen

open Idealize.ShloMosaic Idealize.SL.Sem
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Pipeline (Dat Cfg Window BodyObligation)

variable {F : FTy → Type} [FloatOps F]

local notation "𝕄" => MT nD τ sig (HIx 1) (Elt F) ℕ UU ℕ

/-- Memref `M`'s buffer on core `c`. -/
abbrev BufOf (c : Dev nD) (b : Ref sig .tc) : Type := Buf (Elt F) ((c.tc : Thread nD τ).loc b)

/-- The pairs a core may have waited at before the calls from `n` on. -/
def seen (n : ℕ) (c : Dev nD) : Set (SemLoc sig × HIx 1) := {p | (K (F := F)).lev ((SparseCore.T c : Thread nD τ), p.1) p.2 ≤ 8 * n}

/-! ## The first call -/

section Prep

variable (c : Dev nD) (X : BufOf (F := F) c main_arg0) (T : BufOf (F := F) c main_arg1) (J : BufOf (F := F) c main_v0_0) (C : BufOf (F := F) c main_v0_1)

/-- The blocks of the logits and of the targets the fetches at point `t` stage. -/
def blkX (t : Fin cfg0.N) : Vec F S1x19x8x512 .f32 := ((cfg0.win 0).blk t).view.read (Elt F) X
def blkT (t : Fin cfg0.N) : Vec F S1x8x512 .i32 := ((cfg0.win 1).blk t).view.read (Elt F) T

/-- The accumulated lanes after point `n`. -/
def accAt : (n : ℕ) → n < cfg0.N → FVec F S8x128 .f32
  | 0, h => ceNext zeroV (blkX c X ⟨0, h⟩) (blkT c T ⟨0, h⟩)
  | n + 1, h => ceNext (accAt n (Nat.lt_of_succ_lt h)) (blkX c X ⟨n + 1, h⟩) (blkT c T ⟨n + 1, h⟩)

def dat0 (n : ℕ) : Dat τ (Elt F) (HIx 1) ℕ UU ℕ cfg0 c where
  A w := match w with
    | ⟨0, _⟩ => X
    | ⟨1, _⟩ => T
    | ⟨2, _⟩ => J
    | ⟨3, _⟩ => C
  after w t := match w with
    | ⟨0, _⟩ => blkX c X t
    | ⟨1, _⟩ => blkT c T t
    | ⟨2, _⟩ => idxV (blkX c X t) (blkT c T t)
    | ⟨3, _⟩ => accAt c X T t.val t.isLt
  Φ _ := Pipeline.scopedRest (Ix := HIx 1) (Name := ℕ) (U := UU) (Lvl := ℕ) (Val := Elt F) spec0 c
  q _ := fullShare
  owed _ := (K (F := F)).Otc c n
  recorded _ := seen (F := F) n c

theorem before0_0 (n : ℕ) (t : Fin cfg0.N) (d : (cfg0.win 0).block.Idx → Elt F (cfg0.win 0).elt) : (dat0 c X T J C n).before 0 t d = blkX c X t := by
  unfold Dat.before; rw [if_pos (fetch0_0 t)]; rfl
theorem before0_1 (n : ℕ) (t : Fin cfg0.N) (d : (cfg0.win 1).block.Idx → Elt F (cfg0.win 1).elt) : (dat0 c X T J C n).before 1 t d = blkT c T t := by
  unfold Dat.before; rw [if_pos (fetch0_1 t)]; rfl
theorem before0_3 (n k : ℕ) (hk : k + 1 < cfg0.N) (d : (cfg0.win 3).block.Idx → Elt F (cfg0.win 3).elt) :
    (dat0 c X T J C n).before 3 ⟨k + 1, hk⟩ d = accAt c X T k (Nat.lt_of_succ_lt hk) := by
  rw [Dat.before_of_pos _ 3 ⟨k + 1, hk⟩ (Nat.succ_ne_zero k) rfl, if_neg]
  · rfl
  · intro h
    have h1 := (flush0_3 _).mp h
    have h2 : k + 1 < 256 := hk.trans_eq N_0
    have h3 : (k + 1 - 1) % 256 = 255 := h1
    omega

theorem firstP_iff (t : Fin grid0.N) : firstP (grid0.coords t) = 1#1 ↔ t.val = 0 := by
  have h : ∀ t : Fin 256, Scalar.cmpi .ne (Scalar.extui (Scalar.andi (Scalar.cmpi .eq (BitVec.ofNat 32 (t.val / 64 % 4)) 0#32) (Scalar.cmpi .eq (BitVec.ofNat 32 (t.val % 64)) 0#32)) : BitVec 32) 0#32 = 1#1 ↔ t.val = 0 := by decide
  have h1 : (grid0.coords t 0).val = t.val / 64 % 4 := rfl
  have h2 : (grid0.coords t 1).val = t.val % 64 := by
    show t.val / 1 % 64 = _
    rw [Nat.div_one]
  have := h (t.cast N_0)
  unfold firstP
  rw [h1, h2]
  exact this

theorem row0 (t : Fin cfg0.N) : defs₀ (F := F) .tc cfg0.body (cfg0.bodyArgs t (cfg0.slots t)) = bodyAt0 t := rfl

theorem body0 (n : ℕ) : BodyObligation (dat0 c X T J C n) (defs₀ (F := F)) 𝒱₀ none Set.univ := fun t => by
  rw [bigSep_W0, bigSep_W0, row0]
  unfold bodyAt0
  rw [prep_eq]
  rw [show (dat0 c X T J C n).Φ t.castSucc = (dat0 c X T J C n).Φ t.succ from rfl,
    show (dat0 c X T J C n).owesAt none t.castSucc = (dat0 c X T J C n).owesAt none t.succ from rfl]
  iintro ⟨HΦ, Howes, ⟨%d0, H0⟩, ⟨%d1, H1⟩, ⟨%d2, H2⟩, ⟨%d3, H3⟩⟩
  rw [before0_0, before0_1]
  iapply (wp_idx (defs := defs₀ (F := F)) 𝒱₀ c none (st0_0 t) (st0_1 t) (st0_2 t) (blkX c X t) (blkT c T t) _) $$ [H0 H1 H2]
  · isplitl [H0]; · iexact H0
    isplitl [H1]; · iexact H1
    iexact H2
  iintro ⟨H0, H1, H2⟩
  by_cases hf : firstP (grid0.coords t) = 1#1
  · rw [dif_pos hf]
    iapply (wp_init (defs := defs₀ (F := F)) 𝒱₀ c none (st0_3 t) _ _) $$ H3
    iintro H3
    have ht : t = ⟨0, (by decide : 0 < 256).trans_eq N_0.symm⟩ := Fin.ext ((firstP_iff t).mp hf)
    subst ht
    isplitl [HΦ]; · iexact HΦ
    isplitl [Howes]; · iexact Howes
    isplitl [H0]; · iexact H0
    isplitl [H1]; · iexact H1
    isplitl [H2]; · iexact H2
    iexact H3
  · rw [dif_neg hf]
    iapply (wp_acc (defs := defs₀ (F := F)) 𝒱₀ c none (st0_3 t) _ _) $$ H3
    iintro H3
    obtain ⟨k, hk⟩ : ∃ k, t.val = k + 1 := Nat.exists_eq_succ_of_ne_zero fun h => hf ((firstP_iff t).mpr h)
    obtain ⟨tv, htv⟩ := t
    obtain rfl : tv = k + 1 := hk
    rw [before0_3]
    isplitl [HΦ]; · iexact HΦ
    isplitl [Howes]; · iexact Howes
    isplitl [H0]; · iexact H0
    isplitl [H1]; · iexact H1
    isplitl [H2]; · iexact H2
    iexact H3

end Prep

/-! ## The last call -/

section Final

variable (c : Dev nD) (H : BufOf (F := F) c main_v3) (C : BufOf (F := F) c main_v0_1) (R : BufOf (F := F) c main_v4)

def blkH : Vec F S32x38x1024 .i32 := ((cfg2.win 0).blk t2_0).view.read (Elt F) H
def blkC : Vec F S8x128 .f32 := ((cfg2.win 1).blk t2_0).view.read (Elt F) C

def dat2 (n : ℕ) : Dat τ (Elt F) (HIx 1) ℕ UU ℕ cfg2 c where
  A w := match w with
    | ⟨0, _⟩ => H
    | ⟨1, _⟩ => C
    | ⟨2, _⟩ => R
  after w _ := match w with
    | ⟨0, _⟩ => blkH c H
    | ⟨1, _⟩ => blkC c C
    | ⟨2, _⟩ => fun _ => lossV (blkH c H) (blkC c C)
  Φ _ := Pipeline.scopedRest (Ix := HIx 1) (Name := ℕ) (U := UU) (Lvl := ℕ) (Val := Elt F) spec2 c
  q _ := fullShare
  owed _ := (K (F := F)).Otc c n
  recorded _ := seen (F := F) n c

theorem before2_0 (n : ℕ) (d : (cfg2.win 0).block.Idx → Elt F (cfg2.win 0).elt) : (dat2 c H C R n).before 0 t2_0 d = blkH c H := by
  unfold Dat.before; rw [if_pos (fetch2_0 _)]; rfl
theorem before2_1 (n : ℕ) (d : (cfg2.win 1).block.Idx → Elt F (cfg2.win 1).elt) : (dat2 c H C R n).before 1 t2_0 d = blkC c C := by
  unfold Dat.before; rw [if_pos (fetch2_1 _)]; rfl

theorem row2 (t : Fin cfg2.N) : defs₀ (F := F) .tc cfg2.body (cfg2.bodyArgs t (cfg2.slots t)) = bodyAt2 t := rfl

theorem body2 (n : ℕ) : BodyObligation (dat2 c H C R n) (defs₀ (F := F)) 𝒱₀ none Set.univ := fun t => by
  obtain rfl := fin_N2 t
  rw [bigSep_W2, bigSep_W2, row2]
  unfold bodyAt2
  rw [final_eq]
  rw [show (dat2 c H C R n).Φ t2_0.castSucc = (dat2 c H C R n).Φ t2_0.succ from rfl,
    show (dat2 c H C R n).owesAt none t2_0.castSucc = (dat2 c H C R n).owesAt none t2_0.succ from rfl]
  iintro ⟨HΦ, Howes, ⟨%d0, H0⟩, ⟨%d1, H1⟩, ⟨%d2, H2⟩⟩
  rw [before2_0, before2_1]
  iapply (wp_final (defs := defs₀ (F := F)) 𝒱₀ c none (st2_0 t2_0) (st2_1 t2_0) (st2_2 t2_0) (blkH c H) (blkC c C) _) $$ [H0 H1 H2]
  · isplitl [H0]; · iexact H0
    isplitl [H1]; · iexact H1
    iexact H2
  iintro ⟨H0, H1, H2⟩
  isplitl [HΦ]; · iexact HΦ
  isplitl [Howes]; · iexact Howes
  isplitl [H0]; · iexact H0
  isplitl [H1]; · iexact H1
  iexact H2

end Final

/-! ## The regions -/

def adm : (p : Fin 2) → ((pcfgs (F := F)) p).Adm := fun p => (cfgs p).toPCfg_adm

section Regions

variable (X : (c : Dev nD) → BufOf (F := F) c main_arg0) (T : (c : Dev nD) → BufOf (F := F) c main_arg1)
  (J : (c : Dev nD) → BufOf (F := F) c main_v0_0) (C₀ C : (c : Dev nD) → BufOf (F := F) c main_v0_1)
  (H : (c : Dev nD) → BufOf (F := F) c main_v3) (R : (c : Dev nD) → BufOf (F := F) c main_v4) (n : ℕ)

def pdats : (p : Fin 2) → (c : Dev nD) → Dat τ (Elt F) (HIx 1) ℕ UU ℕ (Pipeline.pin (pcfgs (F := F)) adm p) c
  | ⟨0, _⟩ => fun c => dat0 c (X c) (T c) (J c) (C₀ c) n
  | ⟨1, _⟩ => fun c => dat2 c (H c) (C c) (R c) n

/-- What the core owes, having waited only before the calls from `n` on. -/
def owesTo (c : Dev nD) : sProp 𝕄 := iprop(∃ W, ⌜(K (F := F)).WBelow (SparseCore.T c) W (8 * n)⌝ ∗ owes (SparseCore.T c : Thread nD τ) ((K (F := F)).Otc c n) W)

include C H R in
theorem arrays0 (c : Dev nD) (G : (w : Fin cfg0.W) → Buf (Elt F) ((cfg0.win w).arr.view.loc (c.tc : Thread nD τ))) :
    ((dat0 c (X c) (T c) (J c) (C₀ c) n).arrays G : sProp 𝕄) = iprop(((c.tc : Thread nD τ).loc main_arg0 ↦{fullShare} G 0) ∗ ((c.tc : Thread nD τ).loc main_arg1 ↦{fullShare} G 1)
      ∗ ((c.tc : Thread nD τ).loc main_v0_0 ↦{fullShare} G 2) ∗ ((c.tc : Thread nD τ).loc main_v0_1 ↦{fullShare} G 3)) := by
  exact (Pipeline.arrays_eq (Pipeline.pin (pcfgs (F := F)) adm) (pdats X T J C₀ C H R n) 0 c arr_whole0 ((dat0 c (X c) (T c) (J c) (C₀ c) n).share_full fun _ => rfl) G).trans (bigSep_W0 _)

include X T J C₀ in
theorem arrays2 (c : Dev nD) (G : (w : Fin cfg2.W) → Buf (Elt F) ((cfg2.win w).arr.view.loc (c.tc : Thread nD τ))) :
    ((dat2 c (H c) (C c) (R c) n).arrays G : sProp 𝕄) = iprop(((c.tc : Thread nD τ).loc main_v3 ↦{fullShare} G 0) ∗ ((c.tc : Thread nD τ).loc main_v0_1 ↦{fullShare} G 1)
      ∗ ((c.tc : Thread nD τ).loc main_v4 ↦{fullShare} G 2)) := by
  exact (Pipeline.arrays_eq (Pipeline.pin (pcfgs (F := F)) adm) (pdats X T J C₀ C H R n) 1 c arr_whole2 ((dat2 c (H c) (C c) (R c) n).share_full fun _ => rfl) G).trans (bigSep_W2 _)

theorem owes_in {cfg : Cfg sig Λ₀} (c : Dev nD) (D : Dat τ (Elt F) (HIx 1) ℕ UU ℕ cfg c) (t : Fin (cfg.N + 1)) (ho : D.owed t = (K (F := F)).Otc c n) (hr : D.recorded t = seen (F := F) n c) :
    owesTo n c ⊢ D.owesAt none t := by
  unfold owesTo Pipeline.Dat.owesAt Pipeline.owesWithin Pipeline.Dat.bound
  rw [ho, hr]
  iintro ⟨%W, %hW, HO⟩
  iexists W
  isplitr
  · ipureintro; exact fun q hq => Or.inl (hW q hq)
  iexact HO

theorem owes_out {cfg : Cfg sig Λ₀} (c : Dev nD) (D : Dat τ (Elt F) (HIx 1) ℕ UU ℕ cfg c) (t : Fin (cfg.N + 1)) (ho : D.owed t = (K (F := F)).Otc c n) (hr : D.recorded t = seen (F := F) n c) :
    D.owesAt none t ⊢ owesTo n c := by
  unfold owesTo Pipeline.Dat.owesAt Pipeline.owesWithin Pipeline.Dat.bound
  rw [ho, hr]
  iintro ⟨%W, %hW, HO⟩
  iexists W
  isplitr
  · ipureintro
    intro q hq
    rcases hW hq with h | ⟨w, s, h⟩
    · exact h
    · rw [h]; exact Nat.zero_le _
  iexact HO

/-- What the first call leaves in the index and loss arrays, the last in the result. -/
def idxOut (c : Dev nD) : BufOf (F := F) c main_v0_0 := (dat0 c (X c) (T c) (J c) (C₀ c) n).arrAt 2 cfg0.N
def ceOut (c : Dev nD) : BufOf (F := F) c main_v0_1 := (dat0 c (X c) (T c) (J c) (C₀ c) n).arrAt 3 cfg0.N
def lossOut (c : Dev nD) : BufOf (F := F) c main_v4 := (dat2 c (H c) (C c) (R c) n).arrAt 2 cfg2.N

include X T J C₀ C H R in
theorem entry0 (c : Dev nD) : iprop((((c.tc : Thread nD τ).loc main_arg0 ↦{fullShare} X c) ∗ ((c.tc : Thread nD τ).loc main_arg1 ↦{fullShare} T c) ∗ ((c.tc : Thread nD τ).loc main_v0_0 ↦{fullShare} J c) ∗ ((c.tc : Thread nD τ).loc main_v0_1 ↦{fullShare} C₀ c)) ∗ owesTo n c)
    ⊢ iprop((dat0 c (X c) (T c) (J c) (C₀ c) n).arrays ((dat0 c (X c) (T c) (J c) (C₀ c) n).arrAt · 0) ∗ (dat0 c (X c) (T c) (J c) (C₀ c) n).owesAt none 0) := by
  rw [arrays0 X T J C₀ C H R n c]
  iintro ⟨Ha, HO⟩
  isplitl [Ha]; · iexact Ha
  iapply (owes_in n c (dat0 c (X c) (T c) (J c) (C₀ c) n) 0 rfl rfl)
  iexact HO

include X T J C₀ C H R in
theorem exit0 (c : Dev nD) : iprop((dat0 c (X c) (T c) (J c) (C₀ c) n).arrays ((dat0 c (X c) (T c) (J c) (C₀ c) n).arrAt · cfg0.N) ∗ (dat0 c (X c) (T c) (J c) (C₀ c) n).owesAt none (Fin.last cfg0.N))
    ⊢ iprop((((c.tc : Thread nD τ).loc main_arg0 ↦{fullShare} X c) ∗ ((c.tc : Thread nD τ).loc main_arg1 ↦{fullShare} T c) ∗ ((c.tc : Thread nD τ).loc main_v0_0 ↦{fullShare} idxOut X T J C₀ n c) ∗ ((c.tc : Thread nD τ).loc main_v0_1 ↦{fullShare} ceOut X T J C₀ n c)) ∗ owesTo n c) := by
  rw [arrays0 X T J C₀ C H R n c]
  iintro ⟨Ha, HO⟩
  isplitl [Ha]; · iexact Ha
  iapply (owes_out n c (dat0 c (X c) (T c) (J c) (C₀ c) n) (Fin.last cfg0.N) rfl rfl)
  iexact HO

theorem waits0 (c : Dev nD) : (levAts (K (F := F)).L (K (F := F)).lev : sProp 𝕄) ⊢ Pipeline.cellsWaits (Pipeline.pin (pcfgs (F := F)) adm) (pdats X T J C₀ C H R n) none 0 c :=
  Pipeline.cellsWaits_of_cut (Pipeline.pin (pcfgs (F := F)) adm) (pdats X T J C₀ C H R n) none 0 c 0 ((K (F := F)).Otc c n) (fun _ => rfl)
    (fun _ _ => Finset.mem_univ _) (fun _ _ => le_refl _) (fun _ _ h => ⟨Finset.mem_univ _, lt_of_lt_of_le (Nat.succ_pos _) ((K (F := F)).lev_of_Otc_pos h)⟩)

set_option maxHeartbeats 2000000 in
set_option backward.isDefEq.respectTransparency.types false in
def reg0 : Pipeline.RegionSeg (pcfgs (F := F)) adm (pdats X T J C₀ C H R n) none (defs₀ (F := F)) 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body0 c (X c) (T c) (J c) (C₀ c) n).loose
  hwaits c := waits0 X T J C₀ C H R n c
  pre c := iprop((((c.tc : Thread nD τ).loc main_arg0 ↦{fullShare} X c) ∗ ((c.tc : Thread nD τ).loc main_arg1 ↦{fullShare} T c) ∗ ((c.tc : Thread nD τ).loc main_v0_0 ↦{fullShare} J c) ∗ ((c.tc : Thread nD τ).loc main_v0_1 ↦{fullShare} C₀ c)) ∗ owesTo n c)
  post c := iprop((((c.tc : Thread nD τ).loc main_arg0 ↦{fullShare} X c) ∗ ((c.tc : Thread nD τ).loc main_arg1 ↦{fullShare} T c) ∗ ((c.tc : Thread nD τ).loc main_v0_0 ↦{fullShare} idxOut X T J C₀ n c) ∗ ((c.tc : Thread nD τ).loc main_v0_1 ↦{fullShare} ceOut X T J C₀ n c)) ∗ owesTo n c)
  X _ := iprop(emp)
  Y _ := iprop(emp)
  Z _ := iprop(emp)
  hentry c := by
    rw [Pipeline.ownSems0_none, Pipeline.prefHeld_of_none _ rfl]
    refine (sep_elim_left.trans (entry0 X T J C₀ C H R n c)).trans ?_
    iintro ⟨Ha, HO⟩
    imodintro
    isplitl [Ha]; · iexact Ha
    isplitr; · iempintro
    isplitl [HO]; · iexact HO
    isplitr <;> iempintro
  hin c := by
    refine BI.BIBase.Entails.trans ?_ (show (Pipeline.scopedRest (Ix := HIx 1) (Name := ℕ) (U := UU) (Lvl := ℕ) (Val := Elt F) spec0 c : sProp 𝕄) ⊢ (dat0 c (X c) (T c) (J c) (C₀ c) n).Φ 0 from Entails.rfl)
    iintro ⟨-, -, H⟩
    iexact H
  hout c := by
    rw [Pipeline.ownSems0_none]
    refine (show _ ⊢ (Pipeline.scopedRest (Ix := HIx 1) (Name := ℕ) (U := UU) (Lvl := ℕ) (Val := Elt F) spec0 c : sProp 𝕄) from Entails.rfl).trans ?_
    iintro H
    isplitr; · iempintro
    isplitr; · iempintro
    iexact H
  hexit c := by
    refine BI.BIBase.Entails.trans ?_ ((exit0 X T J C₀ C H R n c).trans fupd_intro)
    iintro ⟨Ha, HO, -, -⟩
    isplitl [Ha]; · iexact Ha
    iexact HO

include X T J C₀ C H R in
theorem entry2 (c : Dev nD) : iprop((((c.tc : Thread nD τ).loc main_v3 ↦{fullShare} H c) ∗ ((c.tc : Thread nD τ).loc main_v0_1 ↦{fullShare} C c) ∗ ((c.tc : Thread nD τ).loc main_v4 ↦{fullShare} R c)) ∗ owesTo n c)
    ⊢ iprop((dat2 c (H c) (C c) (R c) n).arrays ((dat2 c (H c) (C c) (R c) n).arrAt · 0) ∗ (dat2 c (H c) (C c) (R c) n).owesAt none 0) := by
  rw [arrays2 X T J C₀ C H R n c]
  iintro ⟨Ha, HO⟩
  isplitl [Ha]; · iexact Ha
  iapply (owes_in n c (dat2 c (H c) (C c) (R c) n) 0 rfl rfl)
  iexact HO

include X T J C₀ C H R in
theorem exit2 (c : Dev nD) : iprop((dat2 c (H c) (C c) (R c) n).arrays ((dat2 c (H c) (C c) (R c) n).arrAt · cfg2.N) ∗ (dat2 c (H c) (C c) (R c) n).owesAt none (Fin.last cfg2.N))
    ⊢ iprop((((c.tc : Thread nD τ).loc main_v3 ↦{fullShare} H c) ∗ ((c.tc : Thread nD τ).loc main_v0_1 ↦{fullShare} C c) ∗ ((c.tc : Thread nD τ).loc main_v4 ↦{fullShare} lossOut C H R n c)) ∗ owesTo n c) := by
  rw [arrays2 X T J C₀ C H R n c]
  iintro ⟨Ha, HO⟩
  isplitl [Ha]; · iexact Ha
  iapply (owes_out n c (dat2 c (H c) (C c) (R c) n) (Fin.last cfg2.N) rfl rfl)
  iexact HO

theorem waits2 (c : Dev nD) : (levAts (K (F := F)).L (K (F := F)).lev : sProp 𝕄) ⊢ Pipeline.cellsWaits (Pipeline.pin (pcfgs (F := F)) adm) (pdats X T J C₀ C H R n) none 1 c :=
  Pipeline.cellsWaits_of_cut (Pipeline.pin (pcfgs (F := F)) adm) (pdats X T J C₀ C H R n) none 1 c 0 ((K (F := F)).Otc c n) (fun _ => rfl)
    (fun _ _ => Finset.mem_univ _) (fun _ _ => le_refl _) (fun _ _ h => ⟨Finset.mem_univ _, lt_of_lt_of_le (Nat.succ_pos _) ((K (F := F)).lev_of_Otc_pos h)⟩)

set_option maxHeartbeats 2000000 in
set_option backward.isDefEq.respectTransparency.types false in
def reg2 : Pipeline.RegionSeg (pcfgs (F := F)) adm (pdats X T J C₀ C H R n) none (defs₀ (F := F)) 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body2 c (H c) (C c) (R c) n).loose
  hwaits c := waits2 X T J C₀ C H R n c
  pre c := iprop((((c.tc : Thread nD τ).loc main_v3 ↦{fullShare} H c) ∗ ((c.tc : Thread nD τ).loc main_v0_1 ↦{fullShare} C c) ∗ ((c.tc : Thread nD τ).loc main_v4 ↦{fullShare} R c)) ∗ owesTo n c)
  post c := iprop((((c.tc : Thread nD τ).loc main_v3 ↦{fullShare} H c) ∗ ((c.tc : Thread nD τ).loc main_v0_1 ↦{fullShare} C c) ∗ ((c.tc : Thread nD τ).loc main_v4 ↦{fullShare} lossOut C H R n c)) ∗ owesTo n c)
  X _ := iprop(emp)
  Y _ := iprop(emp)
  Z _ := iprop(emp)
  hentry c := by
    rw [Pipeline.ownSems0_none, Pipeline.prefHeld_of_none _ rfl]
    refine (sep_elim_left.trans (entry2 X T J C₀ C H R n c)).trans ?_
    iintro ⟨Ha, HO⟩
    imodintro
    isplitl [Ha]; · iexact Ha
    isplitr; · iempintro
    isplitl [HO]; · iexact HO
    isplitr <;> iempintro
  hin c := by
    refine BI.BIBase.Entails.trans ?_ (show (Pipeline.scopedRest (Ix := HIx 1) (Name := ℕ) (U := UU) (Lvl := ℕ) (Val := Elt F) spec2 c : sProp 𝕄) ⊢ (dat2 c (H c) (C c) (R c) n).Φ 0 from Entails.rfl)
    iintro ⟨-, -, H⟩
    iexact H
  hout c := by
    rw [Pipeline.ownSems0_none]
    refine (show _ ⊢ (Pipeline.scopedRest (Ix := HIx 1) (Name := ℕ) (U := UU) (Lvl := ℕ) (Val := Elt F) spec2 c : sProp 𝕄) from Entails.rfl).trans ?_
    iintro H
    isplitr; · iempintro
    isplitr; · iempintro
    iexact H
  hexit c := by
    refine BI.BIBase.Entails.trans ?_ ((exit2 X T J C₀ C H R n c).trans fupd_intro)
    iintro ⟨Ha, HO, -, -⟩
    isplitl [Ha]; · iexact Ha
    iexact HO

end Regions

end Cert.Proof.Call

end
-- ==== Proof.Whole.lean ====
/-
  The whole program's run: the two TensorCore calls, the SparseCore call between them and the reshapes that
  join them, from any launch memory whose indices name histogram cells.
-/
module

public import proofs.«01_k».proof.Proof.Staged

@[expose] public section

noncomputable section

namespace Cert.Proof.Call

open Cert.KernelIdeal Cert.KernelIdeal.Gen

open Idealize.ShloMosaic Idealize.SL.Sem
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The buffer `b` at launch on device `d`. -/
abbrev at0 (b : Ref sig .tc) (d : Dev nD) : BufOf (F := F) d b := m ((d.tc : Thread nD τ).loc b)

/-- The arrays of the run, in the order @main makes them. -/
def idxA (d : Dev nD) : BufOf (F := F) d main_v0_0 := idxOut (at0 m main_arg0) (at0 m main_arg1) (at0 m main_v0_0) (at0 m main_v0_1) 0 d
def ceA (d : Dev nD) : BufOf (F := F) d main_v0_1 := ceOut (at0 m main_arg0) (at0 m main_arg1) (at0 m main_v0_0) (at0 m main_v0_1) 0 d
def flatA (d : Dev nD) : Tile.IB.Idx → Elt F .i32 := shapeCast S38912x512 (show Vec F S4x19x512x512 .i32 from idxA m d) shapeCasts_S4x19x512x512_S38912x512
def histA (d : Dev nD) : BufOf (F := F) d main_v3 := shapeCast S32x38x1024 (show Vec F S32x38912 .i32 from hist (flatA m) d) shapeCasts_S32x38912_S32x38x1024
def lossA (d : Dev nD) : BufOf (F := F) d main_v4 := lossOut (ceA m) (histA m) (at0 m main_v4) 1 d
def outA (d : Dev nD) : BufOf (F := F) d main_v5 := shapeCast S_ (show Vec F S1x1 .f32 from lossA m d) shapeCasts_S1x1_S_

/-! ## The launch element of the ghost state -/

def u₀ : UU := (initOf (K (F := F)).hsCells (K (F := F)).hsToks,
  (initOf (Pipeline.cells cfgs cellOf_inj) (Pipeline.launchToks cfgs cellOf_inj), 1))

/-- The staged calls' ghost state, as the launch deals it to a core. -/
def G (d : Dev nD) : sProp 𝕄 := iprop((bigSep Finset.univ fun p : Fin 2 => Pipeline.cellsGhost cfgs EP p d) ∗ bigSep Finset.univ fun p : Fin 2 => Pipeline.toksInit cfgs EP p d)

theorem bigSep_none {I : Type} (s : Finset I) : (bigSep s fun _ => iprop(emp)) = (iprop(emp) : sProp 𝕄) := bigSep_emp_const s

theorem hu₀ (x : Dev nD → Tile.IB.Idx → Elt F .i32) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P x).x q thr) := by
  unfold u₀
  iintro Hu
  ihave H := (ownU_pair _ _) $$ Hu
  icases H with ⟨HH, HR⟩
  ihave H := (own_pair_emb (embR (A := UH) (B := UP × Counters)) _ _) $$ HR
  icases H with ⟨HP, -⟩
  imod (Pipeline.fund_ghost cfgs (EP (F := F)) cellOf_inj) $$ HP with ⟨Hc, Ht⟩
  imodintro
  isplitl [HH]; · iexact HH
  isplitl [Hc Ht]
  · unfold G
    rw [bigSep_sep']
    isplitl [Hc]; · iexact Hc
    iexact Ht
  unfold P; dsimp only
  rw [show (bigSep Finset.univ fun _ : Thread nD τ => bigSep Finset.univ fun _ : Fin 1 => (iprop(emp) : sProp 𝕄)) = iprop(emp) from by
    rw [bigSep_congr fun _ _ => bigSep_none _, bigSep_none]]
  iempintro

/-! ## The steps of @main -/

instance : (EP (F := F)).LandsIn (upEmb : UEmb _ 𝕄) := by unfold EP; infer_instance

theorem bigSep_two {M : Type} [URA M] (Φ : Fin 2 → sProp M) : bigSep Finset.univ Φ = iprop(Φ (0 : Fin 2) ∗ Φ (1 : Fin 2)) :=
  bigSep_univ_eq_bigSepL [(0 : Fin 2), (1 : Fin 2)] (by decide) (by decide) Φ

/-- A reshape between two distinct buffers. -/
theorem wp_reshape (W₀ : Valuation τ sig (Elt F)) (d : Dev nD) (a r : Ref sig .tc) (he : a.ty.elt = r.ty.elt) (hn : a.ty.shape.ShapeCasts r.ty.shape) (ha hr)
    (hne : Proc.devRef (τ := τ) .tc a ≠ Proc.devRef .tc r)
    (f : BufOf (F := F) d a) (g : BufOf (F := F) d r) (Q : PUnit → sProp 𝕄) :
    iprop(boundary (T d : Thread nD τ) ∗ ((T d : Thread nD τ).loc a ↦{fullShare} f) ∗ ((T d : Thread nD τ).loc r ↦{fullShare} g)
      ∗ ((boundary (T d : Thread nD τ) ∗ ((T d : Thread nD τ).loc a ↦{fullShare} f) ∗ ((T d : Thread nD τ).loc r ↦{fullShare} (fun i => he ▸ shapeCast r.ty.shape f hn i : BufOf (F := F) d r))) -∗ Q ⟨⟩))
    ⊢ wp frame (wpE ((K (F := F)).defs (D (F := F))) 𝒱 (T d) none) Set.univ
        (hlo rfl (StableHlo.reshape (τ := τ) (Val := Elt F) a r he hn ha hr) fun _ => .ret ⟨⟩) Q := by
  classical
  let W : Valuation τ sig (Elt F) := Function.update (Function.update W₀ (Proc.devRef .tc a) f) (Proc.devRef .tc r) g
  have hWa : W (Proc.devRef .tc a) = f := by
    show Function.update (Function.update W₀ _ f) _ g _ = f
    rw [Function.update_of_ne hne, Function.update_self]
  have hWr : W (Proc.devRef .tc r) = g := Function.update_self _ _ _
  have hb : ∀ V : Valuation τ sig (Elt F), (bigSep (StableHlo.reshape (τ := τ) (Val := Elt F) a r he hn ha hr).bufs fun b => (((T d : Thread nD τ).1, b) : Loc nD τ sig) ↦{fullShare} V b)
      = (iprop(((T d : Thread nD τ).loc a ↦{fullShare} V (Proc.devRef .tc a)) ∗ ((T d : Thread nD τ).loc r ↦{fullShare} V (Proc.devRef .tc r))) : sProp 𝕄) := fun V => by
    rw [StableHlo.reshape_bufs, SparseCore.bigSep_insert' (by rw [Finset.mem_singleton]; exact hne), bigSep_singleton]
  have hra : (StableHlo.reshape (τ := τ) (Val := Elt F) a r he hn ha hr).result W (Proc.devRef .tc a) = f :=
    (HloOp.result_of_not_mem _ _ (show Proc.devRef .tc a ∉ ({Proc.devRef .tc r} : Finset (DevRef τ sig)) by rw [Finset.mem_singleton]; exact hne)).trans hWa
  have hrr : (StableHlo.reshape (τ := τ) (Val := Elt F) a r he hn ha hr).result W (Proc.devRef .tc r) = (fun i => he ▸ shapeCast r.ty.shape f hn i : BufOf (F := F) d r) := by
    rw [StableHlo.reshape_result, hWa]
  iintro ⟨Hb, Ha, Hr, Hk⟩
  iapply (wp_hlo 𝒱 (T d : Thread nD τ) none Set.univ (q := fun _ => fullShare) (F := W) (fun _ _ => rfl)) $$ [Hb Ha Hr]
  · isplitl [Hb]; · iexact Hb
    rw [hb W, hWa, hWr]
    isplitl [Ha]; · iexact Ha
    iexact Hr
  rw [hb, hra, hrr]
  iintro ⟨Hb, Ha, Hr⟩
  rw [wp_ret]
  imodintro
  iapply Hk
  isplitl [Hb]; · iexact Hb
  isplitl [Ha]; · iexact Ha
  iexact Hr

theorem unscopedBufs_eq (d : Dev nD) (W : (b : Ref sig .tc) → Buf (Elt F) ((d.tc : Thread nD τ).loc b)) :
    (unscopedBufs d W : sProp 𝕄) = iprop(((d.tc : Thread nD τ).loc main_arg0 ↦{fullShare} W main_arg0) ∗ ((d.tc : Thread nD τ).loc main_arg1 ↦{fullShare} W main_arg1)
      ∗ ((d.tc : Thread nD τ).loc main_v0_0 ↦{fullShare} W main_v0_0) ∗ ((d.tc : Thread nD τ).loc main_v0_1 ↦{fullShare} W main_v0_1)
      ∗ ((d.tc : Thread nD τ).loc main_v1 ↦{fullShare} W main_v1) ∗ ((d.tc : Thread nD τ).loc main_v2 ↦{fullShare} W main_v2)
      ∗ ((d.tc : Thread nD τ).loc main_v3 ↦{fullShare} W main_v3) ∗ ((d.tc : Thread nD τ).loc main_v4 ↦{fullShare} W main_v4)
      ∗ ((d.tc : Thread nD τ).loc main_v5 ↦{fullShare} W main_v5)) := by
  unfold unscopedBufs
  rw [show (Finset.univ.filter fun b : Ref sig .tc => ¬ b.isScoped) = {main_arg0, main_arg1, main_v0_0, main_v0_1, main_v1, main_v2, main_v3, main_v4, main_v5} by decide]
  rw [SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), SparseCore.bigSep_insert' (by decide), bigSep_singleton]

/-! ## The calls -/

/-- The SparseCore thread state is what the core owes beside the rest. -/
def tcTail (d : Dev nD) (n : ℕ) : sProp 𝕄 := iprop(owesTo n d -∗ (K (F := F)).tcSt EH d n)

theorem tcSt_open (d : Dev nD) (n : ℕ) : ((K (F := F)).tcSt EH d n : sProp 𝕄) ⊢ iprop(owesTo n d ∗ tcTail d n) := by
  unfold tcTail owesTo SparseCore.Cfg.tcSt
  iintro ⟨HO, Hr⟩
  isplitl [HO]; · iexact HO
  iintro HO
  isplitl [HO]; · iexact HO
  iexact Hr

theorem tcSt_open_one (d : Dev nD) : ((K (F := F)).tcSt EH d ((0 : Fin 1).val + 1) : sProp 𝕄) ⊢ iprop(owesTo 1 d ∗ tcTail d 1) := tcSt_open d 1

/-- A staged call of @main before the labels are lifted. -/
def callP (p : Fin 2) : Prog (TpuEff nD τ sig (Elt F) (ΛP (F := F)) .tc) PUnit := .op (TpuEff.customCall (Pipeline.entry p) ()) fun _ => .ret ⟨⟩

theorem lift_callP (p : Fin 2) : SparseCore.liftProg (Q := 1) (callP (F := F) p) = Prog.lift (TpuEff.customCall (SparseCore.inner (Pipeline.entry p)) ()) := rfl

theorem wp_lifted (p : Fin 2) (Q : PUnit → sProp 𝕄) (d : Dev nD) :
    wp frame (wpE (D (F := F)) 𝒱 (T d) none) Set.univ (callP p) Q
    ⊢ wp frame (wpE ((K (F := F)).defs (D (F := F))) 𝒱 (T d) none) Set.univ (SparseCore.liftProg (Q := 1) (callP (F := F) p)) Q :=
  (K (F := F)).wp_liftProg (D (F := F)) 𝒱 (T d) Set.univ none (callP (F := F) p) Q

theorem cells_inj : Function.Injective (Pipeline.cellOf (nD := nD) (τ := τ) (Pipeline.pin (pcfgs (F := F)) adm)) := cellOf_inj

theorem wp_callP {X T' J C₀ C H R} {n : ℕ} (p : Fin 2)
    (Rg : Pipeline.RegionSeg (pcfgs (F := F)) adm (pdats X T' J C₀ C H R n) none (defs₀ (F := F)) 𝒱₀ (K (F := F)).L (K (F := F)).lev p) (d : Dev nD) (Q : PUnit → sProp 𝕄) :
    iprop((iprop(boundary (d.tc : Thread nD τ) ∗ Rg.post d) -∗ wp frame (wpE (D (F := F)) 𝒱 (T d) none) Set.univ (Prog.ret PUnit.unit) Q)
      ∗ boundary (d.tc : Thread nD τ) ∗ Rg.pre d ∗ levAts (K (F := F)).L (K (F := F)).lev ∗ Pipeline.cellsGhost (Pipeline.pin (pcfgs (F := F)) adm) EP p d ∗ Pipeline.toksInit (Pipeline.pin (pcfgs (F := F)) adm) EP p d)
    ⊢ wp frame (wpE (D (F := F)) 𝒱 (T d) none) Set.univ (callP p) Q :=
  Pipeline.RegionSeg.wp (pcfgs (F := F)) adm (pdats X T' J C₀ C H R n) none cells_inj EP (defs₀ (F := F)) 𝒱₀ (K (F := F)).L (K (F := F)).lev Rg d none (fun _ h => nomatch h) (fun _ => Prog.ret PUnit.unit) Q

/-- A staged call of @main, by its region. -/
theorem wp_region {X T' J C₀ C H R} {n : ℕ} (p : Fin 2)
    (Rg : Pipeline.RegionSeg (pcfgs (F := F)) adm (pdats X T' J C₀ C H R n) none (defs₀ (F := F)) 𝒱₀ (K (F := F)).L (K (F := F)).lev p) (d : Dev nD) (Q : PUnit → sProp 𝕄) :
    iprop(levAts (K (F := F)).L (K (F := F)).lev ∗ Pipeline.cellsGhost (Pipeline.pin (pcfgs (F := F)) adm) EP p d ∗ Pipeline.toksInit (Pipeline.pin (pcfgs (F := F)) adm) EP p d ∗ boundary (d.tc : Thread nD τ) ∗ Rg.pre d
      ∗ ((boundary (d.tc : Thread nD τ) ∗ Rg.post d) -∗ Q ⟨⟩))
    ⊢ wp frame (wpE ((K (F := F)).defs (D (F := F))) 𝒱 (T d) none) Set.univ (Prog.lift (TpuEff.customCall (SparseCore.inner (Pipeline.entry p)) ())) Q := by
  rw [← lift_callP]
  refine BI.BIBase.Entails.trans ?_ (wp_lifted p Q d)
  refine BI.BIBase.Entails.trans ?_ (wp_callP p Rg d Q)
  iintro ⟨Hl, Hc, Ht, Hb, Hp, Hk⟩
  isplitl [Hk]
  · iintro H
    rw [wp_ret]
    imodintro
    iapply Hk
    iexact H
  isplitl [Hb]; · iexact Hb
  isplitl [Hp]; · iexact Hp
  isplitl [Hl]; · iexact Hl
  isplitl [Hc]; · iexact Hc
  iexact Ht

/-! ## @main -/

abbrev FIN (d : Dev nD) : sProp 𝕄 := iprop(((d.tc : Thread nD τ).loc main_arg0 ↦{fullShare} at0 m main_arg0 d) ∗ ((d.tc : Thread nD τ).loc main_arg1 ↦{fullShare} at0 m main_arg1 d)
  ∗ ((d.tc : Thread nD τ).loc main_v5 ↦{fullShare} outA m d))

abbrev regA : Pipeline.RegionSeg (pcfgs (F := F)) adm (pdats (at0 m main_arg0) (at0 m main_arg1) (at0 m main_v0_0) (at0 m main_v0_1) (at0 m main_v0_1) (at0 m main_v3) (at0 m main_v4) 0) none (defs₀ (F := F)) 𝒱₀ (K (F := F)).L (K (F := F)).lev 0 :=
  reg0 (at0 m main_arg0) (at0 m main_arg1) (at0 m main_v0_0) (at0 m main_v0_1) (at0 m main_v0_1) (at0 m main_v3) (at0 m main_v4) 0
abbrev regB : Pipeline.RegionSeg (pcfgs (F := F)) adm (pdats (at0 m main_arg0) (at0 m main_arg1) (at0 m main_v0_0) (at0 m main_v0_1) (ceA m) (histA m) (at0 m main_v4) 1) none (defs₀ (F := F)) 𝒱₀ (K (F := F)).L (K (F := F)).lev 1 :=
  reg2 (at0 m main_arg0) (at0 m main_arg1) (at0 m main_v0_0) (at0 m main_v0_1) (ceA m) (histA m) (at0 m main_v4) 1

theorem regA_pre (d : Dev nD) : (regA m).pre d = (iprop((((d.tc : Thread nD τ).loc main_arg0 ↦{fullShare} at0 m main_arg0 d) ∗ ((d.tc : Thread nD τ).loc main_arg1 ↦{fullShare} at0 m main_arg1 d) ∗ ((d.tc : Thread nD τ).loc main_v0_0 ↦{fullShare} at0 m main_v0_0 d) ∗ ((d.tc : Thread nD τ).loc main_v0_1 ↦{fullShare} at0 m main_v0_1 d)) ∗ owesTo 0 d) : sProp 𝕄) := rfl
theorem regA_post (d : Dev nD) : (regA m).post d = (iprop((((d.tc : Thread nD τ).loc main_arg0 ↦{fullShare} at0 m main_arg0 d) ∗ ((d.tc : Thread nD τ).loc main_arg1 ↦{fullShare} at0 m main_arg1 d) ∗ ((d.tc : Thread nD τ).loc main_v0_0 ↦{fullShare} idxA m d) ∗ ((d.tc : Thread nD τ).loc main_v0_1 ↦{fullShare} ceA m d)) ∗ owesTo 0 d) : sProp 𝕄) := rfl
theorem regB_pre (d : Dev nD) : (regB m).pre d = (iprop((((d.tc : Thread nD τ).loc main_v3 ↦{fullShare} histA m d) ∗ ((d.tc : Thread nD τ).loc main_v0_1 ↦{fullShare} ceA m d) ∗ ((d.tc : Thread nD τ).loc main_v4 ↦{fullShare} at0 m main_v4 d)) ∗ owesTo 1 d) : sProp 𝕄) := rfl
theorem regB_post (d : Dev nD) : (regB m).post d = (iprop((((d.tc : Thread nD τ).loc main_v3 ↦{fullShare} histA m d) ∗ ((d.tc : Thread nD τ).loc main_v0_1 ↦{fullShare} ceA m d) ∗ ((d.tc : Thread nD τ).loc main_v4 ↦{fullShare} lossA m d)) ∗ owesTo 1 d) : sProp 𝕄) := rfl

theorem hmain (κ : GSem nD τ sig → ℕ) (d : Dev nD) :
    iprop((K (F := F)).ctx EH (P (flatA m)) κ ∗ (K (F := F)).tcSt EH d 0 ∗ (K (F := F)).tcRes m ρ d ∗ G (F := F) d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd G
  rw [unscopedBufs_eq, bigSep_two, bigSep_two]
  simp only [main, wp_bind, wp_pure]
  iintro ⟨#Hctx, Hst, ⟨Hb, ⟨Hx, Ht, Hv00, Hv01, Hv1, Hv2, Hv3, Hv4, Hv5⟩, Hts, -⟩, ⟨Hc0, Hc1⟩, Hk0, Hk1⟩
  ihave #Hlev := (SparseCore.Cfg.ctx_levAts κ) $$ Hctx
  ihave H := (tcSt_open d 0) $$ Hst
  icases H with ⟨HO, Htail⟩
  iapply (wp_region 0 (regA m) d _)
  rw [regA_pre, regA_post]
  isplitr; · iexact Hlev
  isplitl [Hc0]; · iexact Hc0
  isplitl [Hk0]; · iexact Hk0
  isplitl [Hb]; · iexact Hb
  isplitl [Hx Ht Hv00 Hv01 HO]
  · isplitr [HO]
    · isplitl [Hx]; · iexact Hx
      isplitl [Ht]; · iexact Ht
      isplitl [Hv00]; · iexact Hv00
      iexact Hv01
    iexact HO
  iintro ⟨Hb, ⟨Hx, Ht, Hv00, Hv01⟩, HO⟩
  iapply (wp_reshape (fun b => m (d, b)) d main_v0_0 main_v1 rfl shapeCasts_S4x19x512x512_S38912x512 _ _ (by decide) (idxA m d) (at0 m main_v1 d) _)
  isplitl [Hb]; · iexact Hb
  isplitl [Hv00]; · iexact Hv00
  isplitl [Hv1]; · iexact Hv1
  iintro ⟨Hb, Hv00, Hv1⟩
  unfold tcTail
  ihave Hst := Htail $$ HO
  iapply ((K (F := F)).wp_run (D (F := F)) 𝒱 (EH := EH) (P := P (flatA m)) κ d 0) $$ [Hst Hv1 Hv2 Hb Hts Hx Ht Hv00 Hv01 Hv3 Hv4 Hv5 Hc1 Hk1]
  isplitr; · iexact Hctx
  isplitl [Hst]; · iexact Hst
  isplitl [Hv1 Hv2]
  · iapply (deal (flatA m) d)
    isplitl [Hv1]; · iexact Hv1
    iexact Hv2
  iintro ⟨Hst, Hdn⟩
  ihave Hdn' := (undeal (flatA m) d) $$ Hdn
  icases Hdn' with ⟨Hv1, Hv2⟩
  iapply (wp_reshape (fun b => m (d, b)) d main_v2 main_v3 rfl shapeCasts_S32x38912_S32x38x1024 _ _ (by decide) (hist (flatA m) d) (at0 m main_v3 d) _)
  isplitl [Hb]; · iexact Hb
  isplitl [Hv2]; · iexact Hv2
  isplitl [Hv3]; · iexact Hv3
  iintro ⟨Hb, Hv2, Hv3⟩
  ihave H := (tcSt_open_one d) $$ Hst
  icases H with ⟨HO, Htail⟩
  iapply (wp_region 1 (regB m) d _)
  rw [regB_pre, regB_post]
  isplitr; · iexact Hlev
  isplitl [Hc1]; · iexact Hc1
  isplitl [Hk1]; · iexact Hk1
  isplitl [Hb]; · iexact Hb
  isplitl [Hv3 Hv01 Hv4 HO]
  · isplitr [HO]
    · isplitl [Hv3]; · iexact Hv3
      isplitl [Hv01]; · iexact Hv01
      iexact Hv4
    iexact HO
  iintro ⟨Hb, ⟨Hv3, Hv01, Hv4⟩, HO⟩
  iapply (wp_reshape (fun b => m (d, b)) d main_v4 main_v5 rfl shapeCasts_S1x1_S_ _ _ (by decide) (lossA m d) (at0 m main_v5 d) _)
  isplitl [Hb]; · iexact Hb
  isplitl [Hv4]; · iexact Hv4
  isplitl [Hv5]; · iexact Hv5
  iintro ⟨Hb, Hv4, Hv5⟩
  unfold tcTail
  ihave Hst := Htail $$ HO
  imodintro
  isplitl [Hst]; · iexact Hst
  isplitr [Hb Hts]
  · isplitl [Hx]; · iexact Hx
    isplitl [Ht]; · iexact Ht
    iexact Hv5
  isplitl [Hb] <;> iassumption

def fq (d : Dev nD) (s' : Phys nD τ sig (Elt F)) : Prop :=
  s'.mem.mem ((d.tc : Thread nD τ).loc main_arg0) = at0 m main_arg0 d ∧ s'.mem.mem ((d.tc : Thread nD τ).loc main_arg1) = at0 m main_arg1 d ∧ s'.mem.mem ((d.tc : Thread nD τ).loc main_v5) = outA m d

theorem hfin (d : Dev nD) (s' : Phys nD τ sig (Elt F)) : iprop(FIN m d ∗ SI s') ⊢ (⌜fq m d s'⌝ : sProp 𝕄) := by
  iintro ⟨⟨Hx, Ht, Ho⟩, HSI⟩
  ihave H := (persistent_entails_right (SI_pointsTo_agree (st := s') (ℓ := (d.tc : Thread nD τ).loc main_arg0) (I := Finset.univ) (q := fullShare) (f := at0 m main_arg0 d))) $$ [HSI Hx]
  · isplitl [HSI] <;> iassumption
  icases H with ⟨%h1, HSI, -⟩
  ihave H := (persistent_entails_right (SI_pointsTo_agree (st := s') (ℓ := (d.tc : Thread nD τ).loc main_arg1) (I := Finset.univ) (q := fullShare) (f := at0 m main_arg1 d))) $$ [HSI Ht]
  · isplitl [HSI] <;> iassumption
  icases H with ⟨%h2, HSI, -⟩
  ihave H := (SI_pointsTo_agree (st := s') (ℓ := (d.tc : Thread nD τ).loc main_v5) (I := Finset.univ) (q := fullShare) (f := outA m d)) $$ [HSI Ho]
  · isplitl [HSI] <;> iassumption
  icases H with %h3
  ipureintro; exact ⟨funext fun i => h1 i (Finset.mem_univ i), funext fun i => h2 i (Finset.mem_univ i), funext fun i => h3 i (Finset.mem_univ i)⟩

/-! ## The program's run -/

def QC : PUnit × MemSt nD τ sig (Elt F) → Prop := fun r =>
  (∀ c : Dev nD, r.2.mem ((c.tc : Thread nD τ).loc main_arg0) = at0 m main_arg0 c ∧ r.2.mem ((c.tc : Thread nD τ).loc main_arg1) = at0 m main_arg1 c
    ∧ r.2.mem ((c.tc : Thread nD τ).loc main_v5) = outA m c) ∧ r.2.sem = fun _ => 0

theorem run_main (hpre : PreOK (flatA m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (flatA m)) (A := ∅) facts v₀
    (fun q hq => match q with | 0 => nomatch hq)
    (fun q _ => match q with | 0 => tileObl (flatA m) facts hpre)
    (fun q _ => match q with | 0 => SparseCore.Cfg.VecSplit.of_plain (vecSplit (flatA m)))
    m ρ main (fun d => G (F := F) d) (FIN m) (u₀ (F := F)) (sep_elim_left.trans (hu₀ (flatA m))) (hmain m ρ) (fq m) (hfin m) (QC m) (fun _ h hz => ⟨h, hz⟩)

end Cert.Proof.Call

end
-- ==== Proof.Vals.lean ====
/-
  What the two TensorCore calls leave in their arrays, as functions of what they read.
-/
module

public import proofs.«01_k».proof.Proof.Whole
public import Idealize.ShloMosaic.Lib.Pipeline.ValueKit

@[expose] public section

noncomputable section

namespace Cert.Proof.Call

open Cert.KernelIdeal Cert.KernelIdeal.Gen
open Idealize.ShloMosaic Idealize.SL.Sem

variable {F : FTy → Type} [FloatOps F]

theorem idx0_0 : ∀ t : Fin cfg0.N, win0_0.index t = ![t.val / 64, 0, t.val % 64, 0] := (by decide +kernel : ∀ t : Fin grid0.N, _)
theorem idx0_1 : ∀ t : Fin cfg0.N, win0_1.index t = ![t.val / 64, t.val % 64, 0] := (by decide +kernel : ∀ t : Fin grid0.N, _)
theorem idx0_2 : ∀ t : Fin cfg0.N, win0_2.index t = ![t.val / 64, 0, t.val % 64, 0] := (by decide +kernel : ∀ t : Fin grid0.N, _)

theorem idx2_0 : win2_0.index t2_0 = ![0, 0, 0] := by decide +kernel
theorem idx2_1 : win2_1.index t2_0 = ![0, 0] := by decide +kernel

/-- The point whose block holds row `h` of image `n`. -/
def ptOf (n : Fin 4) (h : Fin 512) : Fin cfg0.N := ⟨n.val * 64 + h.val / 8, by rw [show cfg0.N = 256 from N_0]; omega⟩

variable (c : Dev nD) (X : BufOf (F := F) c main_arg0) (T : BufOf (F := F) c main_arg1) (J : BufOf (F := F) c main_v0_0) (C : BufOf (F := F) c main_v0_1)

theorem blkX_apply (t : Fin cfg0.N) (k : Fin 19) (a : Fin 8) (w : Fin 512) :
    blkX c X t (ValueIdx.ix4 0 k a w) = (show Vec F S4x19x512x512 .f32 from X) (ValueIdx.ix4 ⟨t.val / 64, by have := t.isLt.trans_eq N_0; omega⟩ k ⟨t.val % 64 * 8 + a.val, by omega⟩ w) := by
  unfold blkX
  blk_simp
  refine congrArg X ?_
  blk_ext [idx0_0 t]

theorem blkT_apply (t : Fin cfg0.N) (a : Fin 8) (w : Fin 512) :
    blkT c T t (ValueIdx.ix3 0 a w) = (show Vec F S4x512x512 .i32 from T) (ValueIdx.ix3 ⟨t.val / 64, by have := t.isLt.trans_eq N_0; omega⟩ ⟨t.val % 64 * 8 + a.val, by omega⟩ w) := by
  unfold blkT
  blk_simp
  refine congrArg T ?_
  blk_ext [idx0_1 t]

/-- Every index of the index array, from the block holding it. -/
def idxAll : Vec F S4x19x512x512 .i32 := fun i =>
  idxV (blkX c X (ptOf (i 0) (i 2))) (blkT c T (ptOf (i 0) (i 2))) (ValueIdx.ix4 0 (i 1) ⟨(i 2).val % 8, Nat.mod_lt _ (by decide)⟩ (i 3))

theorem idx_arr (n : ℕ) : (dat0 c X T J C n).arrAt 2 cfg0.N = idxAll c X T := by
  refine Pipeline.Dat.arrAt_eq_of_covers _ 2 _ (by decide +kernel) fun t hf y => ?_
  have hv : ∀ a, ((((cfg0.win 2).blk t).view.emb y) a).val = win0_2.index t a * win0_2.size a + (y a).val := fun a => by
    blk_simp
  have h0 : ((((cfg0.win 2).blk t).view.emb y) 0).val = t.val / 64 * 1 + (y 0).val := by rw [hv 0, idx0_2 t]; rfl
  have h1 : ((((cfg0.win 2).blk t).view.emb y) 1).val = 0 * 19 + (y 1).val := by rw [hv 1, idx0_2 t]; rfl
  have h2 : ((((cfg0.win 2).blk t).view.emb y) 2).val = t.val % 64 * 8 + (y 2).val := by rw [hv 2, idx0_2 t]; rfl
  have h3 : ((((cfg0.win 2).blk t).view.emb y) 3).val = 0 * 512 + (y 3).val := by rw [hv 3, idx0_2 t]; rfl
  have b0 : (y 0).val < 1 := (y 0).isLt
  have b2 : (y 2).val < 8 := (y 2).isLt
  have hp : ptOf ((((cfg0.win 2).blk t).view.emb y) 0) ((((cfg0.win 2).blk t).view.emb y) 2) = t := by
    apply Fin.ext
    show ((((cfg0.win 2).blk t).view.emb y) 0).val * 64 + ((((cfg0.win 2).blk t).view.emb y) 2).val / 8 = t.val
    omega
  show idxV (blkX c X t) (blkT c T t) y = _
  unfold idxAll
  rw [hp]
  refine congrArg (idxV (blkX c X t) (blkT c T t)) ?_
  funext a
  apply Fin.ext
  match a with
  | ⟨0, _⟩ => show (y 0).val = 0; omega
  | ⟨1, _⟩ => show (y 1).val = ((((cfg0.win 2).blk t).view.emb y) 1).val; omega
  | ⟨2, _⟩ => show (y 2).val = ((((cfg0.win 2).blk t).view.emb y) 2).val % 8; omega
  | ⟨3, _⟩ => show (y 3).val = ((((cfg0.win 2).blk t).view.emb y) 3).val; omega

theorem ce_arr (n : ℕ) : (dat0 c X T J C n).arrAt 3 cfg0.N = accAt c X T 255 (by rw [show cfg0.N = 256 from N_0]; decide) := by
  refine Pipeline.Dat.arrAt_eq_of_after_last _ 3 ⟨255, by rw [show cfg0.N = 256 from N_0]; decide⟩ (by decide +kernel) _ fun j => ?_
  blk_simp
  rfl

theorem blkH_eq (H : BufOf (F := F) c main_v3) : blkH c H = H := by
  funext j
  unfold blkH
  blk_simp
  refine congrArg H ?_
  blk_ext [idx2_0]

theorem blkC_eq (C : BufOf (F := F) c main_v0_1) : blkC c C = C := by
  funext j
  unfold blkC
  blk_simp
  refine congrArg C ?_
  blk_ext [idx2_1]

theorem loss_arr (H : BufOf (F := F) c main_v3) (C : BufOf (F := F) c main_v0_1) (R : BufOf (F := F) c main_v4) (n : ℕ) :
    (dat2 c H C R n).arrAt 2 cfg2.N = fun _ => lossV H C := by
  refine Pipeline.Dat.arrAt_eq_of_after_last _ 2 t2_0 (by decide +kernel) _ fun j => ?_
  blk_simp
  show lossV (blkH c H) (blkC c C) = lossV H C
  rw [blkH_eq, blkC_eq]

/-! ## The arrays of the run -/

variable [∀ e, Nonempty (Elt F e)] (m : (ℓ : Loc nD τ sig) → Buf (Elt F) ℓ) (d : Dev nD)

theorem idxA_eq : idxA m d = idxAll d (at0 m main_arg0 d) (at0 m main_arg1 d) := idx_arr _ _ _ _ _ _
theorem ceA_eq : ceA m d = accAt d (at0 m main_arg0 d) (at0 m main_arg1 d) 255 (by rw [show cfg0.N = 256 from N_0]; decide) := ce_arr _ _ _ _ _ _
theorem lossA_eq : lossA m d = fun _ => lossV (histA m d) (ceA m d) := loss_arr _ _ _ _ _

theorem outA_eq : outA m d = fun _ => lossV (histA m d) (ceA m d) := by
  funext i
  unfold outA
  rw [lossA_eq]
  rfl

end Cert.Proof.Call

end
-- ==== Proof.Labels.lean ====
/-
  The inputs the precondition admits: finite logits and labels below 19; every cell index the first call writes is then
  in range, and the whole kernel runs.
-/
module

public import proofs.«01_k».proof.Defs
public import proofs.«01_k».proof.Proof.Pixel
public import proofs.«01_k».proof.Proof.Vals
public import proofs.«01_k».proof.Proof.HistClaim

@[expose] public section

noncomputable section

namespace Cert.Proof.Call

open Cert.KernelIdeal Cert.KernelIdeal.Gen Cert.Proof.Px
open Idealize.ShloMosaic Idealize.SL.Sem

/-! ## Arrays of finite logits and of labels -/

/-- Finite logits and labels below 19. -/
structure Good (X : Vec Ideal S4x19x512x512 .f32) (T : Vec Ideal S4x512x512 .i32) : Prop where
  fin : ∀ i, X i = ((X i).toReal : EReal)
  lab : ∀ i, (T i : BitVec 32).toNat < 19

/-- A point's logits and label. -/
def XR (X : Vec Ideal S4x19x512x512 .f32) (n : Fin 4) (h w : Fin 512) : Fin 19 → ℝ := fun k => (X (ValueIdx.ix4 n k h w)).toReal
def TR (T : Vec Ideal S4x512x512 .i32) (n : Fin 4) (h w : Fin 512) : ℕ := (T (ValueIdx.ix3 n h w) : BitVec 32).toNat

section

variable {c : Dev nD} {X : BufOf (F := Ideal) c main_arg0} {T : BufOf (F := Ideal) c main_arg1} (hg : Good X T)

theorem ptOf_div (n : Fin 4) (h : Fin 512) : (ptOf n h).val / 64 = n.val := by
  have := h.isLt; show (n.val * 64 + h.val / 8) / 64 = n.val; omega
theorem ptOf_mod (n : Fin 4) (h : Fin 512) : (ptOf n h).val % 64 = h.val / 8 := by
  have := h.isLt; show (n.val * 64 + h.val / 8) % 64 = h.val / 8; omega

include hg in
theorem zOf_pt (n : Fin 4) (h w : Fin 512) (k : Fin 19) :
    zOf (blkX c X (ptOf n h)) ⟨h.val % 8, by omega⟩ w k = (XR X n h w k : EReal) := by
  unfold zOf XR
  rw [blkX_apply, ← hg.fin]
  have h1 := ptOf_div n h
  have h2 := ptOf_mod n h
  refine congrArg X ?_
  funext b
  apply Fin.ext
  match b with
  | ⟨0, _⟩ => exact h1
  | ⟨1, _⟩ => rfl
  | ⟨2, _⟩ => show (ptOf n h).val % 64 * 8 + h.val % 8 = h.val; omega
  | ⟨3, _⟩ => rfl

theorem tOf_pt (n : Fin 4) (h w : Fin 512) : (tOf (blkT c T (ptOf n h)) ⟨h.val % 8, by omega⟩ w).toNat = TR T n h w := by
  unfold tOf TR
  rw [blkT_apply]
  have h1 := ptOf_div n h
  have h2 := ptOf_mod n h
  refine congrArg (fun i => (T i : BitVec 32).toNat) ?_
  funext b
  apply Fin.ext
  match b with
  | ⟨0, _⟩ => exact h1
  | ⟨1, _⟩ => show (ptOf n h).val % 64 * 8 + h.val % 8 = h.val; omega
  | ⟨2, _⟩ => rfl

/-- The cell of class `k` at a point of the image. -/
def cellN (X : Vec Ideal S4x19x512x512 .f32) (T : Vec Ideal S4x512x512 .i32) (n : Fin 4) (k : Fin 19) (h w : Fin 512) : ℕ :=
  (if TR T n h w = k.val then 19456 else 0) + k.val * 1024 + bR (XR X n h w) (TR T n h w) k

theorem cellN_lt (X : Vec Ideal S4x19x512x512 .f32) (T : Vec Ideal S4x512x512 .i32) (n : Fin 4) (k : Fin 19) (h w : Fin 512) : cellN X T n k h w < 38912 := by
  unfold cellN
  have := bR_lt (XR X n h w) (TR T n h w) k
  have := k.isLt
  split <;> omega

include hg in
theorem idxAll_apply (n : Fin 4) (k : Fin 19) (h w : Fin 512) : idxAll c X T (ValueIdx.ix4 n k h w) = BitVec.ofNat 32 (cellN X T n k h w) := by
  show idxV (blkX c X (ptOf n h)) (blkT c T (ptOf n h)) (ValueIdx.ix4 (0 : Fin 1) k (⟨h.val % 8, by omega⟩ : Fin 8) w) = _
  rw [idxV_apply (blkT c T (ptOf n h)) (zOf_pt hg n h w) k, tOf_pt]
  rfl

include hg in
theorem idxAll_lt (i : S4x19x512x512.Idx) : (idxAll c X T i : BitVec 32).toNat < 38912 := by
  obtain ⟨n, k, h, w, rfl⟩ : ∃ (n : Fin 4) (k : Fin 19) (h w : Fin 512), i = ValueIdx.ix4 n k h w := ⟨i 0, i 1, i 2, i 3, ValueIdx.eq_ix4 i⟩
  rw [idxAll_apply hg, BitVec.toNat_ofNat]
  have := cellN_lt X T n k h w
  omega

end

/-! ## The precondition -/

theorem finite_of (v : EReal) (e : Ideal.cmp .olt (max v (-v)) (Ideal.ofBits .f32 0x7F800000#32) = 1#1) : v = ((v.toReal : ℝ) : EReal) := by
  have ht : Ideal.ofBits .f32 0x7F800000#32 = ⊤ := by simp [Ideal.ofBits, Ideal.ieee]
  rw [ht] at e
  have hlt : max v (-v) < ⊤ := by
    by_contra hc
    rw [show Ideal.cmp .olt (max v (-v)) ⊤ = BitVec.ofBool (decide (max v (-v) < ⊤)) from rfl, decide_eq_false hc] at e
    exact absurd e (by decide)
  have h1 : v ≠ ⊤ := fun h => by rw [h] at hlt; simp at hlt
  have h2 : v ≠ ⊥ := fun h => by rw [h] at hlt; simp at hlt
  exact (EReal.coe_toReal h1 h2).symm

theorem label_lt (v : BitVec 32) (e : IntOp.andi (IntOp.cmpi .sge v 0#32) (IntOp.cmpi .slt v 19#32) = 1#1) : v.toNat < 19 := by
  have andi_ofBool (a b : Bool) : IntOp.andi (BitVec.ofBool a) (BitVec.ofBool b) = BitVec.ofBool (a && b) := by
    cases a <;> cases b <;> rfl
  have ofBool_eq_one (a : Bool) : BitVec.ofBool a = 1#1 ↔ a = true := by
    cases a <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  have := v.isLt
  omega

variable [Cert.Pre_finite_and_labelled.Facts]

set_option maxRecDepth 20000 in
theorem good_of (X : Vec Ideal S4x19x512x512 .f32) (T : Vec Ideal S4x512x512 .i32)
    (h0 : ∀ i, (Cert.Pre_finite_and_labelled.fn (F := Ideal) X T).1 i = 1#1)
    (h1 : ∀ i, (Cert.Pre_finite_and_labelled.fn (F := Ideal) X T).2 i = 1#1) : Good X T := by
  haveI : Subsingleton Cert.Pre_finite_and_labelled.S_.Idx := ⟨fun a b => funext fun k => k.elim0⟩
  have e0 := h0 fun k => k.elim0
  have e1 := h1 fun k => k.elim0
  unfold Cert.Pre_finite_and_labelled.fn at e0 e1
  dsimp only at e0 e1
  refine ⟨fun i => ?_, fun i => ?_⟩
  · have e := Host.reduce_andi_all _ _ _ _ _ e0 i
    exact finite_of _ e
  · have e := Host.reduce_andi_all _ _ _ _ _ e1 i
    exact label_lt _ e

variable (m : (ℓ : Loc nD τ sig) → Buf (Elt Ideal) ℓ)

theorem good_at (h : Cert.Pre_KernelIdeal m) (d : Dev nD) : Good (at0 m main_arg0 d) (at0 m main_arg1 d) :=
  good_of _ _ (fun i => congrFun (h d).1 i) (fun i => congrFun (h d).2 i)

theorem flat_ok (h : Cert.Pre_KernelIdeal m) : PreOK (F := Ideal) (flatA m) := by
  intro d i
  show (idxA m d _ : BitVec 32).toNat < 38912
  rw [idxA_eq]
  exact idxAll_lt (good_at m h d) _

theorem frame_kernel : Cert.quiescent_KernelIdeal := fun m ρ h =>
  (θ_run (Cert.KernelIdeal.defs (F := Ideal)) _ _).mono (fun _ q => ⟨fun c => ⟨(q.1 c).1, (q.1 c).2.1⟩, q.2⟩) (run_main m ρ (flat_ok m h))

end Cert.Proof.Call

end
-- ==== Proof.Lovasz.lean ====
/-
  The Lovász sum of quantised errors, by counts: the sum along the descending errors of each error times the step of the
  Jaccard loss is a sum over the bins of the Jaccard loss at the number of points whose bin is at least that bin.
-/
module

public import Mathlib.Algebra.BigOperators.Fin
public import Mathlib.Algebra.BigOperators.Intervals
public import Mathlib.Data.Real.Basic
public import Mathlib.Tactic.Linarith
public import Mathlib.Tactic.FieldSimp
public import Mathlib.Tactic.Ring

@[expose] public section

noncomputable section

namespace Cert.Proof.Lov

open scoped BigOperators
open Finset

/-- Of the first `m` of a row, how many are labelled. -/
def Cn (f : ℕ → ℕ) (m : ℕ) : ℝ := ∑ i ∈ range m, (f i : ℝ)
/-- The Jaccard loss of the first `m` of `N`. -/
def J (f : ℕ → ℕ) (N m : ℕ) : ℝ := if m = 0 then 0 else 1 - (Cn f N - Cn f m) / (Cn f N + (m - Cn f m))
/-- How many points' bins are at least `k`, and how many labelled points'. -/
def S (N : ℕ) (b : ℕ → ℕ) (k : ℕ) : ℝ := ∑ p ∈ range N, if k ≤ b p then 1 else 0
def P (N : ℕ) (b f : ℕ → ℕ) (k : ℕ) : ℝ := ∑ p ∈ range N, if k ≤ b p then (f p : ℝ) else 0
/-- The Jaccard loss of the points whose bin is at least `k`. -/
def H (N : ℕ) (b f : ℕ → ℕ) (k : ℕ) : ℝ := if 0 < S N b k then 1 - (P N b f 0 - P N b f k) / ((P N b f 0 + S N b k) - P N b f k) else 0

section Sorted

variable {N : ℕ} {b : ℕ → ℕ} (hb : ∀ n, n < N → b n < 1024) (hs : ∀ i j, i ≤ j → j < N → b j ≤ b i)

/-- Along a descending row the points whose bin is at least `k` come first. -/
theorem prefix_eq (k : ℕ) : ∀ (M : ℕ), (∀ i j, i ≤ j → j < M → b j ≤ b i) → (range M).filter (fun n => k ≤ b n) = range ((range M).filter fun n => k ≤ b n).card := by
  intro M
  induction M with
  | zero => intro _; rfl
  | succ M ih =>
    intro h
    by_cases hk : k ≤ b M
    · have : (range (M + 1)).filter (fun n => k ≤ b n) = range (M + 1) := by
        refine filter_true_of_mem fun n hn => ?_
        exact hk.trans (h n M (Nat.lt_succ_iff.1 (mem_range.1 hn)) (Nat.lt_succ_self M))
      rw [this, card_range]
    · rw [range_add_one, filter_insert, if_neg hk]
      exact ih fun i j hij hj => h i j hij (hj.trans (Nat.lt_succ_self M))

theorem card_le (k M : ℕ) : ((range M).filter fun n => k ≤ b n).card ≤ M := (card_filter_le _ _).trans (card_range M).le

include hb hs in
/-- The sum along the row, by bins. -/
theorem by_bins (j : ℕ → ℝ) (h0 : j 0 = 0) : ∑ n ∈ range N, (((b n : ℝ) + 1 / 2) / 1024) * (j (n + 1) - j n)
    = ((∑ k ∈ range 1024, j ((range N).filter fun n => k ≤ b n).card) - 1 / 2 * j N) / 1024 := by
  have tele : ∀ M, ∑ n ∈ range M, (j (n + 1) - j n) = j M := fun M => by rw [sum_range_sub, h0, sub_zero]
  have hbin : ∀ n ∈ range N, (b n : ℝ) = ∑ k ∈ range 1023, if k + 1 ≤ b n then (1 : ℝ) else 0 := by
    intro n hn
    have h := hb n (mem_range.1 hn)
    rw [← sum_filter, sum_const, nsmul_eq_mul, mul_one]
    have : (range 1023).filter (fun k => k + 1 ≤ b n) = range (b n) := by
      ext k; simp only [mem_filter, mem_range]; omega
    rw [this, card_range]
  have hk : ∀ k, ∑ n ∈ range N, (if k + 1 ≤ b n then (1 : ℝ) else 0) * (j (n + 1) - j n) = j ((range N).filter fun n => k + 1 ≤ b n).card := by
    intro k
    rw [← tele, ← prefix_eq (b := b) (k + 1) N hs, sum_filter]
    refine sum_congr rfl fun n _ => ?_
    split
    · rw [one_mul]
    · rw [zero_mul]
  have h0' : ((range N).filter fun n => 0 ≤ b n).card = N := by
    rw [filter_true_of_mem fun n _ => Nat.zero_le _, card_range]
  have hsum : ∑ n ∈ range N, (b n : ℝ) * (j (n + 1) - j n) = ∑ k ∈ range 1023, j ((range N).filter fun n => k + 1 ≤ b n).card := by
    rw [← sum_congr rfl fun k _ => hk k, sum_comm]
    refine sum_congr rfl fun n hn => ?_
    rw [← sum_mul]
    exact congrArg (fun z => z * (j (n + 1) - j n)) (hbin n hn)
  rw [sum_range_succ' (fun k => j ((range N).filter fun n => k ≤ b n).card) 1023, ← hsum, h0']
  rw [eq_div_iff (by norm_num : (1024 : ℝ) ≠ 0), sum_mul]
  have e : ∀ n ∈ range N, ((b n : ℝ) + 1 / 2) / 1024 * (j (n + 1) - j n) * 1024 = (b n : ℝ) * (j (n + 1) - j n) + 1 / 2 * (j (n + 1) - j n) := by
    intro n _
    have : ((b n : ℝ) + 1 / 2) / 1024 * (j (n + 1) - j n) * 1024 = ((b n : ℝ) + 1 / 2) * (j (n + 1) - j n) := by
      rw [div_mul_eq_mul_div, div_mul_cancel₀ _ (by norm_num : (1024 : ℝ) ≠ 0)]
    rw [this, add_mul]
  rw [sum_congr rfl e, sum_add_distrib, ← mul_sum, tele]
  linarith

include hs in
theorem S_sorted (k : ℕ) : S N b k = ((range N).filter fun n => k ≤ b n).card := by
  unfold S; rw [← sum_filter, sum_const, nsmul_eq_mul, mul_one]

include hs in
theorem P_sorted (f : ℕ → ℕ) (k : ℕ) : P N b f k = Cn f ((range N).filter fun n => k ≤ b n).card := by
  unfold P Cn; rw [← prefix_eq (b := b) k N hs, sum_filter]

include hb hs in
theorem sorted_sum (f : ℕ → ℕ) (hN : 0 < N) : ∑ n ∈ range N, (((b n : ℝ) + 1 / 2) / 1024) * (J f N (n + 1) - J f N n)
    = ((∑ k ∈ range 1024, H N b f k) - 1 / 2) / 1024 := by
  rw [by_bins hb hs (J f N) (if_pos rfl)]
  have hJN : J f N N = 1 := by unfold J; rw [if_neg hN.ne', sub_self, zero_div, sub_zero]
  have hP0 : P N b f 0 = Cn f N := by
    rw [P_sorted hs, filter_true_of_mem fun n _ => Nat.zero_le _, card_range]
  rw [hJN, mul_one]
  refine congrArg (fun z : ℝ => (z - 1 / 2) / 1024) (sum_congr rfl fun k _ => ?_)
  unfold H J
  rw [hP0, S_sorted hs, P_sorted hs]
  generalize ((range N).filter fun n => k ≤ b n).card = s
  by_cases h : s = 0
  · subst h; rw [if_pos rfl, if_neg (by norm_num)]
  · rw [if_neg h, if_pos (by exact_mod_cast Nat.pos_of_ne_zero h), add_sub_assoc]

end Sorted

/-- The same of any row the sorted one is a rearrangement of. -/
theorem lovasz {N : ℕ} (hN : 0 < N) (b f bs fs : ℕ → ℕ) (σ : Fin N → Fin N) (hσ : Function.Bijective σ)
    (h1 : ∀ n : Fin N, bs n.val = b (σ n).val) (h2 : ∀ n : Fin N, fs n.val = f (σ n).val)
    (hb : ∀ n, n < N → b n < 1024) (hs : ∀ i j, i ≤ j → j < N → bs j ≤ bs i) :
    ∑ n ∈ range N, (((bs n : ℝ) + 1 / 2) / 1024) * (J fs N (n + 1) - J fs N n) = ((∑ k ∈ range 1024, H N b f k) - 1 / 2) / 1024 := by
  have re : ∀ g : ℕ → ℕ → ℝ, ∑ n ∈ range N, g (bs n) (fs n) = ∑ n ∈ range N, g (b n) (f n) := by
    intro g
    rw [Finset.sum_range, Finset.sum_range]
    rw [← (Equiv.ofBijective σ hσ).sum_comp (fun n : Fin N => g (b n.val) (f n.val))]
    refine Finset.sum_congr rfl fun n _ => ?_
    rw [h1, h2]; rfl
  rw [sorted_sum (fun n hn => by rw [h1 ⟨n, hn⟩]; exact hb _ (σ _).isLt) hs fs hN]
  refine congrArg (fun z : ℝ => (z - 1 / 2) / 1024) (sum_congr rfl fun k _ => ?_)
  have hS : ∀ k, S N bs k = S N b k := fun k => re fun x _ => if k ≤ x then 1 else 0
  have hP : ∀ k, P N bs fs k = P N b f k := fun k => re fun x y => if k ≤ x then (y : ℝ) else 0
  unfold H
  rw [hS, hP, hP]

end Cert.Proof.Lov

end
-- ==== Proof.Counts.lean ====
/-
  The image's points as one row of 1048576, and the cells' counts over it.
-/
module

public import proofs.«01_k».proof.Proof.Labels
public import proofs.«01_k».proof.Proof.Lovasz

@[expose] public section

noncomputable section

namespace Cert.Proof.Call

open Cert.KernelIdeal Cert.KernelIdeal.Gen Cert.Proof.Px
open Idealize.ShloMosaic
open Finset
open scoped BigOperators

/-! ## Sums over a row cut in equal parts -/

theorem sum_cut {M : Type} [AddCommMonoid M] (a b : ℕ) (g : ℕ → M) : ∑ q ∈ range (a * b), g q = ∑ i ∈ range a, ∑ j ∈ range b, g (i * b + j) := by
  induction a with
  | zero => rw [Nat.zero_mul]; rfl
  | succ a ih => rw [Nat.succ_mul, Finset.sum_range_add, ih, sum_range_succ]

/-! ## A point of the row -/

def pn (p : ℕ) : Fin 4 := ⟨p / 262144 % 4, Nat.mod_lt _ (by decide)⟩
def ph (p : ℕ) : Fin 512 := ⟨p / 512 % 512, Nat.mod_lt _ (by decide)⟩
def pw (p : ℕ) : Fin 512 := ⟨p % 512, Nat.mod_lt _ (by decide)⟩

section

variable (X : Vec Ideal S4x19x512x512 .f32) (T : Vec Ideal S4x512x512 .i32)

def rowN (p : ℕ) : Fin 19 → ℝ := XR X (pn p) (ph p) (pw p)
def tarN (p : ℕ) : ℕ := TR T (pn p) (ph p) (pw p)
/-- The bin of class `c` at point `p`, and whether the point is labelled `c`. -/
def binN (c : Fin 19) (p : ℕ) : ℕ := bR (rowN X p) (tarN T p) c
def labN (c : Fin 19) (p : ℕ) : ℕ := if tarN T p = c.val then 1 else 0
/-- The cross-entropy at point `p`. -/
def nllN (p : ℕ) : ℝ := mR (rowN X p) + Real.log (sR (rowN X p)) - rowN X p ⟨tarN T p % 19, Nat.mod_lt _ (by decide)⟩

/-- The cell of position `q` of the flat array of cells. -/
def cellQ (q : ℕ) : ℕ := cellN X T ⟨q / 4980736 % 4, Nat.mod_lt _ (by decide)⟩ ⟨q / 262144 % 19, Nat.mod_lt _ (by decide)⟩ (ph q) (pw q)

theorem cellQ_eq (n k r : ℕ) (hn : n < 4) (hk : k < 19) (hr : r < 262144) :
    cellQ X T ((n * 19 + k) * 262144 + r) = (if labN T ⟨k, hk⟩ (n * 262144 + r) = 1 then 19456 else 0) + k * 1024 + binN X T ⟨k, hk⟩ (n * 262144 + r) := by
  have e1 : (⟨((n * 19 + k) * 262144 + r) / 4980736 % 4, Nat.mod_lt _ (by decide)⟩ : Fin 4) = pn (n * 262144 + r) := by
    apply Fin.ext; show _ / _ % _ = (n * 262144 + r) / 262144 % 4; omega
  have e2 : (⟨((n * 19 + k) * 262144 + r) / 262144 % 19, Nat.mod_lt _ (by decide)⟩ : Fin 19) = ⟨k, hk⟩ := by
    apply Fin.ext; show _ / _ % _ = k; omega
  have e3 : ph ((n * 19 + k) * 262144 + r) = ph (n * 262144 + r) := by
    apply Fin.ext; show _ / _ % _ = (n * 262144 + r) / 512 % 512; omega
  have e4 : pw ((n * 19 + k) * 262144 + r) = pw (n * 262144 + r) := by
    apply Fin.ext; show _ % _ = (n * 262144 + r) % 512; omega
  unfold cellQ cellN labN binN rowN tarN
  rw [e1, e2, e3, e4]
  by_cases h : TR T (pn (n * 262144 + r)) (ph (n * 262144 + r)) (pw (n * 262144 + r)) = k
  · simp only [h, if_true]
  · simp only [h, if_false, zero_ne_one]

theorem binN_lt (c : Fin 19) (p : ℕ) : binN X T c p < 1024 := bR_lt _ _ _
theorem labN_le (c : Fin 19) (p : ℕ) : labN T c p = 0 ∨ labN T c p = 1 := by
  unfold labN; split
  · exact .inr rfl
  · exact .inl rfl

/-- The positions of the flat array that hold cell `v`. -/
def tot (v : ℕ) : ℝ := ∑ q ∈ range (32 * 622592), if cellQ X T q = v then 1 else 0

/-- The points whose label flag for class `c` is `l` and whose bin is `b`. -/
def sel (c : Fin 19) (l b : ℕ) : ℝ := ∑ p ∈ range 1048576, if labN T c p = l ∧ binN X T c p = b then 1 else 0

theorem tot_eq (c : Fin 19) (l b : ℕ) (hl : l = 0 ∨ l = 1) (hb : b < 1024) : tot X T ((l * 19 + c.val) * 1024 + b) = sel X T c l b := by
  have hc := c.isLt
  unfold tot sel
  rw [show 32 * 622592 = 4 * 19 * 262144 by norm_num, show 1048576 = 4 * 262144 by norm_num, sum_cut, sum_cut, sum_cut]
  refine sum_congr rfl fun n hn => ?_
  have hn := mem_range.1 hn
  rw [Finset.sum_eq_single c.val]
  · refine sum_congr rfl fun r hr => ?_
    have hr := mem_range.1 hr
    rw [cellQ_eq X T n c.val r hn hc hr]
    have h1 := binN_lt X T c (n * 262144 + r)
    refine if_congr ?_ rfl rfl
    rcases labN_le T c (n * 262144 + r) with h | h
    · rw [if_neg (by show ¬ labN T c _ = 1; omega), h]; rcases hl with rfl | rfl <;> constructor <;> intro h2
      · exact ⟨rfl, by change 0 + c.val * 1024 + binN X T c _ = _ at h2; omega⟩
      · show 0 + c.val * 1024 + binN X T c _ = _; omega
      · change 0 + c.val * 1024 + binN X T c _ = _ at h2; omega
      · exact absurd h2.1 (by decide)
    · rw [if_pos h, h]; rcases hl with rfl | rfl <;> constructor <;> intro h2
      · change 19456 + c.val * 1024 + binN X T c _ = _ at h2; omega
      · exact absurd h2.1 (by decide)
      · exact ⟨rfl, by change 19456 + c.val * 1024 + binN X T c _ = _ at h2; omega⟩
      · show 19456 + c.val * 1024 + binN X T c _ = _; omega
  · intro k hk hne
    have hk := mem_range.1 hk
    refine Finset.sum_eq_zero fun r hr => if_neg ?_
    have hr := mem_range.1 hr
    rw [cellQ_eq X T n k r hn hk hr]
    have h1 := binN_lt X T ⟨k, hk⟩ (n * 262144 + r)
    split <;> rcases hl with rfl | rfl <;> omega
  · intro h; exact absurd (mem_range.2 hc) h

/-- The points of a bin at least `k`, from the bins. -/
theorem sel_all (c : Fin 19) (k : ℕ) : ∑ j ∈ range 1024, (if k ≤ j then sel X T c 0 j + sel X T c 1 j else 0) = Lov.S 1048576 (binN X T c) k := by
  unfold Lov.S sel
  have e : ∀ j ∈ range 1024, (if k ≤ j then (∑ p ∈ range 1048576, if labN T c p = 0 ∧ binN X T c p = j then (1 : ℝ) else 0) + ∑ p ∈ range 1048576, (if labN T c p = 1 ∧ binN X T c p = j then (1 : ℝ) else 0) else 0)
      = ∑ p ∈ range 1048576, if binN X T c p = j then (if k ≤ j then (1 : ℝ) else 0) else 0 := by
    intro j _
    split
    · rw [← sum_add_distrib]
      refine sum_congr rfl fun p _ => ?_
      rcases labN_le T c p with h | h <;> rw [h] <;> simp
    · simp
  rw [sum_congr rfl e, sum_comm]
  refine sum_congr rfl fun p _ => ?_
  rw [Finset.sum_ite_eq, if_pos (mem_range.2 (binN_lt X T c p))]

theorem sel_pos (c : Fin 19) (k : ℕ) : ∑ j ∈ range 1024, (if k ≤ j then sel X T c 1 j else 0) = Lov.P 1048576 (binN X T c) (labN T c) k := by
  unfold Lov.P sel
  have e : ∀ j ∈ range 1024, (if k ≤ j then ∑ p ∈ range 1048576, (if labN T c p = 1 ∧ binN X T c p = j then (1 : ℝ) else 0) else 0)
      = ∑ p ∈ range 1048576, if binN X T c p = j then (if k ≤ j then (labN T c p : ℝ) else 0) else 0 := by
    intro j _
    split
    · refine sum_congr rfl fun p _ => ?_
      rcases labN_le T c p with h | h <;> rw [h] <;> simp
    · simp
  rw [sum_congr rfl e, sum_comm]
  refine sum_congr rfl fun p _ => ?_
  rw [Finset.sum_ite_eq, if_pos (mem_range.2 (binN_lt X T c p))]

/-- The two losses over the reals, and the loss. -/
def lovN : ℝ := (∑ c : Fin 19, ((∑ k ∈ range 1024, Lov.H 1048576 (binN X T c) (labN T c) k) - 1 / 2) / 1024) / 19
def ceN : ℝ := (∑ p ∈ range 1048576, nllN X T p) / 1048576
def lossN : EReal := Ideal.ofBits .f32 0x3F333333#32 * (lovN X T : EReal) + Ideal.ofBits .f32 0x3E99999A#32 * (ceN X T : EReal)

end

end Cert.Proof.Call

end
-- ==== Proof.RVal.lean ====
/-
  The reference's softmax, labels and quantised errors at the extended reals, point by point.
-/
module

public import proofs.«01_k».proof.Proof.RefRun
public import proofs.«01_k».proof.Proof.Counts
public import Idealize.ShloMosaic.Lib.Pointwise.Reduce
public import Idealize.ShloMosaic.Lib.IdealHost

@[expose] public section

noncomputable section

namespace Cert.Proof.Ref

open Cert.ReferenceIdeal Cert.ReferenceIdeal.Gen Cert.Proof.Px
open Idealize.ShloMosaic
open Finset
open scoped BigOperators

/-! ## The broadcasts at an index -/

section

variable {α : Type}

theorem spread (v : S4x1x512x512.Idx → α) (n : Fin 4) (k : Fin 19) (h w : Fin 512) :
    broadcastInDim S4x19x512x512 ![0, 1, 2, 3] bcast_S4x1x512x512_S4x19x512x512_0_1_2_3 v (ValueIdx.ix4 n k h w) = v (ValueIdx.ix4 n (0 : Fin 1) h w) := by
  refine broadcastInDim_apply _ _ v _ _ fun a => ?_
  fin_cases a <;> rfl

theorem unsq (v : S4x512x512.Idx → α) (n : Fin 4) (h w : Fin 512) :
    broadcastInDim S4x1x512x512 ![0, 2, 3] bcast_S4x512x512_S4x1x512x512_0_2_3 v (ValueIdx.ix4 n (0 : Fin 1) h w) = v (ValueIdx.ix3 n h w) := by
  refine broadcastInDim_apply _ _ v _ _ fun a => ?_
  fin_cases a <;> rfl

/-- A row of labels, spread over the classes. -/
theorem row_spread (v : S1048576.Idx → α) (c : Fin 19) (p : Fin 1048576) :
    broadcastInDim S19x1048576 ![0, 1] bcast_S1x1048576_S19x1048576_0_1 (broadcastInDim S1x1048576 ![1] bcast_S1048576_S1x1048576_1 v) (ValueIdx.ix2 c p) = v (ValueIdx.ix1 p) := by
  rw [broadcastInDim_apply _ _ _ (ValueIdx.ix2 c p) (ValueIdx.ix2 (0 : Fin 1) p) (fun a => by fin_cases a <;> rfl)]
  exact broadcastInDim_apply _ _ v _ _ fun a => by fin_cases a; rfl

/-- One number by class, spread over the points. -/
theorem col_spread (v : S19x1.Idx → α) (c : Fin 19) (p : Fin 1048576) :
    broadcastInDim S19x1048576 ![0, 1] bcast_S19x1_S19x1048576_0_1 v (ValueIdx.ix2 c p) = v (ValueIdx.ix2 c (0 : Fin 1)) := by
  refine broadcastInDim_apply _ _ v _ _ fun a => ?_
  fin_cases a <;> rfl

theorem col_unsq (v : S19.Idx → α) (c : Fin 19) :
    broadcastInDim S19x1 ![0] bcast_S19_S19x1_0 v (ValueIdx.ix2 c (0 : Fin 1)) = v (ValueIdx.ix1 c) := by
  refine broadcastInDim_apply _ _ v _ _ fun a => ?_
  fin_cases a; rfl

end

theorem allR_apply (b : BitVec 32) (i : S19x1048576.Idx) : (allR b : FVec Ideal S19x1048576 .f32) i = Ideal.ofBits .f32 b :=
  ValueIdx.broadcastInDim_scalar_apply _ _ _

/-! ## The elementwise operations at an index -/

section

variable {s : Shape} (a b : FVec Ideal s .f32) (i : s.Idx)

theorem at_sub : subf a b i = (show EReal from a i) - (show EReal from b i) := rfl
theorem at_add : addf a b i = (show EReal from a i) + (show EReal from b i) := rfl
theorem at_mul : mulf a b i = (show EReal from a i) * (show EReal from b i) := rfl
theorem at_max : maximumf a b i = max (show EReal from a i) (show EReal from b i) := rfl
theorem at_min : minimumf a b i = min (show EReal from a i) (show EReal from b i) := rfl
theorem at_div : Host.divf a b i = Ideal.div (a i) (b i) := rfl
theorem at_exp : Host.exp a i = Ideal.exp (a i) := rfl
theorem at_log : Host.log a i = Ideal.log (a i) := rfl
theorem at_neg : Host.negf a i = -(show EReal from a i) := rfl
theorem at_abs : Host.absf a i = max (show EReal from a i) (-(show EReal from a i)) := rfl
theorem at_floor : Host.floor a i = Ideal.liftRound Int.floor (a i) := rfl
theorem at_const (v : BitVec 32) : (constant s .f32 v : FVec Ideal s .f32) i = Ideal.ofBits .f32 v := rfl

end

/-! ## The softmax -/

section

variable {X : FVec Ideal S4x19x512x512 .f32} {T : IVec S4x512x512 32} (hg : Call.Good X T)

include hg

theorem X_at (n : Fin 4) (k : Fin 19) (h w : Fin 512) : X (ValueIdx.ix4 n k h w) = ((Call.XR X n h w k : ℝ) : EReal) := hg.fin _

theorem max_at (n : Fin 4) (h w : Fin 512) :
    Host.reduce (FloatOps.maximumf (F := Ideal) (φ := .f32)) X (constant S_ .f32 0xFF800000#32) reducesTo_S4x19x512x512_S4x512x512_d1 h_S_ (ValueIdx.ix3 n h w)
      = ((mR (Call.XR X n h w) : ℝ) : EReal) := by
  have e : Host.reduce (fun a b : EReal => max a b) X (constant S_ .f32 0xFF800000#32 : FVec Ideal S_ .f32) reducesTo_S4x19x512x512_S4x512x512_d1 h_S_ (ValueIdx.ix3 n h w)
      = (Finset.univ : Finset (Fin 19)).fold max (Ideal.ofBits .f32 0xFF800000#32) (fun k => X (ValueIdx.ix4 n k h w)) :=
    (Host.reduce_eq_fold _ _ _ _ _ _).trans (Shape.ReducesTo.fold_fiber_r4_a1 _ _ _ _ _)
  refine Eq.trans e ?_
  rw [ofBits_neg_inf, ← mx_coe]
  unfold mx
  exact Finset.fold_congr fun k _ => X_at hg n k h w

theorem shift_at (n : Fin 4) (k : Fin 19) (h w : Fin 512) :
    shiftR X (ValueIdx.ix4 n k h w) = ((Call.XR X n h w k - mR (Call.XR X n h w) : ℝ) : EReal) := by
  unfold shiftR
  rw [at_sub, spread, unsq, at_max, ValueIdx.broadcastInDim_scalar_apply, at_const, ofBits_neg_inf, max_at hg, X_at hg, EReal.coe_sub]
  exact congrArg (fun z : EReal => ((Call.XR X n h w k : ℝ) : EReal) - z) (max_eq_right bot_le)

theorem exp_at (n : Fin 4) (k : Fin 19) (h w : Fin 512) :
    Host.exp (shiftR X) (ValueIdx.ix4 n k h w) = ((Real.exp (Call.XR X n h w k - mR (Call.XR X n h w)) : ℝ) : EReal) := by
  rw [at_exp, shift_at hg]; rfl

theorem sum_at (n : Fin 4) (h w : Fin 512) : sumR X (ValueIdx.ix4 n (0 : Fin 1) h w) = ((sR (Call.XR X n h w) : ℝ) : EReal) := by
  unfold sumR
  rw [unsq]
  refine Eq.trans (Ideal.hostReduceAdd_r4_a1 _ _ _ _) ?_
  rw [at_const, Ideal.ofBits_zero_f32, zero_add]
  unfold sR
  rw [← coe_sum (Finset.univ : Finset (Fin 19))]
  exact Finset.sum_congr rfl fun k _ => exp_at hg n k h w

theorem soft_at (n : Fin 4) (k : Fin 19) (h w : Fin 512) :
    Host.divf (Host.exp (shiftR X)) (broadcastInDim S4x19x512x512 ![0, 1, 2, 3] bcast_S4x1x512x512_S4x19x512x512_0_1_2_3 (sumR X)) (ValueIdx.ix4 n k h w)
      = ((pR (Call.XR X n h w) k : ℝ) : EReal) := by
  rw [at_div, spread, sum_at hg, exp_at hg, div_coe _ _ (sR_pos _).ne']; rfl

theorem prob_at (c : Fin 19) (p : Fin 1048576) : probR X (ValueIdx.ix2 c p) = ((pR (Call.rowN X p.val) c : ℝ) : EReal) := by
  unfold probR
  rw [shapeCast_apply _ _ (ValueIdx.ix2 c p) (ValueIdx.ix4 c (Call.pn p.val) (Call.ph p.val) (Call.pw p.val)),
    transpose_apply _ _ _ (ValueIdx.ix4 c (Call.pn p.val) (Call.ph p.val) (Call.pw p.val)) (ValueIdx.ix4 (Call.pn p.val) c (Call.ph p.val) (Call.pw p.val))]
  · exact soft_at hg _ _ _ _
  · intro b; fin_cases b <;> rfl
  · rw [Shape.rowMajor_val_two, Shape.rowMajor_val_four]
    show ((c.val * 4 + p.val / 262144 % 4) * 512 + p.val / 512 % 512) * 512 + p.val % 512 = c.val * 1048576 + p.val
    have := p.isLt
    omega

theorem T_at (p : Fin 1048576) : shapeCast S1048576 T shapeCasts_S4x512x512_S1048576 (ValueIdx.ix1 p) = T (ValueIdx.ix3 (Call.pn p.val) (Call.ph p.val) (Call.pw p.val)) := by
  refine shapeCast_apply _ _ _ _ ?_
  rw [Shape.rowMajor_val_one, Shape.rowMajor_val_three]
  show (p.val / 262144 % 4 * 512 + p.val / 512 % 512) * 512 + p.val % 512 = p.val
  have := p.isLt
  omega

theorem fg_at (c : Fin 19) (p : Fin 1048576) : (fgR T : FVec Ideal S19x1048576 .f32) (ValueIdx.ix2 c p) = (((Call.labN T c p.val : ℕ) : ℝ) : EReal) := by
  show (((IntOp.cmpi .eq _ (BitVec.ofNat 32 c.val) : BitVec 1).toNat : ℝ) : EReal) = _
  rw [row_spread, T_at hg]
  have ht : (T (ValueIdx.ix3 (Call.pn p.val) (Call.ph p.val) (Call.pw p.val))).toNat = Call.tarN T p.val := rfl
  generalize T (ValueIdx.ix3 (Call.pn p.val) (Call.ph p.val) (Call.pw p.val)) = z at ht
  have hc := c.isLt
  unfold Call.labN
  by_cases h : Call.tarN T p.val = c.val
  · have e : z = BitVec.ofNat 32 c.val := by
      apply BitVec.eq_of_toNat_eq
      rw [ht, h, BitVec.toNat_ofNat]; omega
    rw [if_pos h, e]
    simp [IntOp.cmpi]
  · have e : ¬ z = BitVec.ofNat 32 c.val := by
      intro e
      apply h
      rw [← ht, e, BitVec.toNat_ofNat]; omega
    rw [if_neg h]
    simp [IntOp.cmpi, e]

/-- The quantised error, negated: the middle of the error's bin. -/
def negN (b : ℕ) : ℝ := -(((b : ℝ) + 1 / 2) / 1024)

theorem neg_at (c : Fin 19) (p : Fin 1048576) : negR (probR X) (fgR T) (ValueIdx.ix2 c p) = ((negN (Call.binN X T c p.val) : ℝ) : EReal) := by
  unfold negR
  rw [at_neg, at_div, at_add, at_min, at_floor, at_mul, at_abs, at_sub, allR_apply, allR_apply, allR_apply, ofBits_1024, ofBits_1023, ofBits_half, fg_at hg, prob_at hg]
  dsimp only
  have he : max ((((Call.labN T c p.val : ℕ) : ℝ) : EReal) - ((pR (Call.rowN X p.val) c : ℝ) : EReal)) (-((((Call.labN T c p.val : ℕ) : ℝ) : EReal) - ((pR (Call.rowN X p.val) c : ℝ) : EReal)))
      = ((eR (Call.rowN X p.val) (Call.tarN T p.val) c : ℝ) : EReal) := by
    rw [← EReal.coe_sub, ← EReal.coe_neg, ← EReal.coe_strictMono.monotone.map_max]
    refine congrArg _ ?_
    have h0 := pR_nonneg (Call.rowN X p.val) c
    have h1 := pR_le_one (Call.rowN X p.val) c
    unfold Call.labN eR
    split
    · rw [max_eq_left (by push_cast; linarith)]; push_cast; ring
    · rw [max_eq_right (by push_cast; linarith)]; push_cast; ring
  rw [he, ← EReal.coe_mul]
  have hn : 0 ≤ eR (Call.rowN X p.val) (Call.tarN T p.val) c * 1024 := mul_nonneg (eR_nonneg _ _ _) (by norm_num)
  have hb : (min ((⌊eR (Call.rowN X p.val) (Call.tarN T p.val) c * 1024⌋ : ℤ) : ℝ) 1023 : ℝ) = (Call.binN X T c p.val : ℝ) := by
    unfold Call.binN bR
    rw [← Int.natCast_floor_eq_floor hn, Nat.cast_min, Int.cast_natCast]; norm_num
  show -(Ideal.div (min (((⌊eR (Call.rowN X p.val) (Call.tarN T p.val) c * 1024⌋ : ℤ) : ℝ) : EReal) ((1023 : ℝ) : EReal) + ((1 / 2 : ℝ) : EReal)) ((1024 : ℝ) : EReal)) = _
  rw [← EReal.coe_strictMono.monotone.map_min, hb, ← EReal.coe_add, div_coe _ _ (by norm_num), ← EReal.coe_neg]
  rfl

end

end Cert.Proof.Ref
-- ==== Proof.KVal.lean ====
/-
  The last call's Lovász value at the extended reals, of the histograms the tiles leave.
-/
module

public import proofs.«01_k».proof.Proof.Counts
public import Idealize.ShloMosaic.Lib.MatmulPlain

@[expose] public section

noncomputable section

namespace Cert.Proof.Call

open Cert.KernelIdeal Cert.KernelIdeal.Gen Cert.Proof.Px
open Idealize.ShloMosaic Idealize.SL.Sem
open Finset
open scoped BigOperators

/-- A sum over a row of reals. -/
theorem fin_sum (n : ℕ) (f : ℕ → ℝ) : ∑ k : Fin n, (f k.val : EReal) = ((∑ k ∈ range n, f k : ℝ) : EReal) := by
  rw [coe_sum, Finset.sum_range]

section

variable (h : Vec Ideal S32x38x1024 .i32) (X : Vec Ideal S4x19x512x512 .f32) (T : Vec Ideal S4x512x512 .i32)
  (hh : ∀ (w : Fin 32) (r : Fin 38) (b : Fin 1024), (((h (ValueIdx.ix3 w r b) : BitVec 32).toInt : ℝ)) = ∑ p ∈ range 622592, if cellQ X T (w.val * 622592 + p) = r.val * 1024 + b.val then 1 else 0)

include hh

theorem histV_apply (r : Fin 38) (b : Fin 1024) : histV h (ValueIdx.ix2 r b) = (tot X T (r.val * 1024 + b.val) : EReal) := by
  refine (Ideal.multiReduction_add_single (φ := .f32) _ 0x00000000#32 _ (.inl rfl) rfl _).trans ?_
  have e : ∀ k : Fin 32, (reduces_S32x38x1024_S38x1024).lift (ValueIdx.ix2 r b) k = ValueIdx.ix3 k r b := by
    intro k; funext a; apply Fin.ext
    match a with
    | ⟨0, _⟩ => rfl
    | ⟨1, _⟩ => rfl
    | ⟨2, _⟩ => rfl
  have e2 : ∀ k : Fin 32, (sitofp .f32 (shapeCast S32x38x1024 h shapeCasts_S32x38x1024_S32x38x1024 : IVec S32x38x1024 32) : FVec Ideal S32x38x1024 .f32) (ValueIdx.ix3 k r b)
      = ((∑ p ∈ range 622592, if cellQ X T (k.val * 622592 + p) = r.val * 1024 + b.val then 1 else 0 : ℝ) : EReal) := by
    intro k
    rw [← hh k r b]
    refine congrArg (fun v : BitVec 32 => ((v.toInt : ℝ) : EReal)) (shapeCast_apply h _ _ _ rfl)
  refine (Finset.sum_congr rfl fun k _ => (congrArg _ (e k)).trans (e2 k)).trans ?_
  unfold tot
  rw [sum_cut]
  exact fin_sum 32 fun k => ∑ p ∈ range 622592, if cellQ X T (k * 622592 + p) = r.val * 1024 + b.val then 1 else 0

theorem allV_apply (c : Fin 19) (b : Fin 1024) : allV h (ValueIdx.ix2 c b) = ((sel X T c 0 b.val + sel X T c 1 b.val : ℝ) : EReal) := by
  have hc := c.isLt
  show extractStridedSlice S19x1024 ![0, 0] (histV h) slices_S38x1024_o0_0_S19x1024 (ValueIdx.ix2 c b) + extractStridedSlice S19x1024 ![19, 0] (histV h) slices_S38x1024_o19_0_S19x1024 (ValueIdx.ix2 c b) = _
  rw [extractStridedSlice_apply _ _ _ _ (ValueIdx.ix2 (⟨c.val, by omega⟩ : Fin 38) b) (fun a => by match a with | ⟨0, _⟩ => exact (Nat.zero_add _).symm | ⟨1, _⟩ => exact (Nat.zero_add _).symm),
    extractStridedSlice_apply _ _ _ _ (ValueIdx.ix2 (⟨19 + c.val, by omega⟩ : Fin 38) b) (fun a => by match a with | ⟨0, _⟩ => rfl | ⟨1, _⟩ => exact (Nat.zero_add _).symm),
    histV_apply h X T hh, histV_apply h X T hh, ← tot_eq X T c 0 b.val (.inl rfl) b.isLt, ← tot_eq X T c 1 b.val (.inr rfl) b.isLt, ← EReal.coe_add]
  norm_num

theorem posV_apply (c : Fin 19) (b : Fin 1024) : posV h (ValueIdx.ix2 c b) = (sel X T c 1 b.val : EReal) := by
  have hc := c.isLt
  show extractStridedSlice S19x1024 ![19, 0] (histV h) slices_S38x1024_o19_0_S19x1024 (ValueIdx.ix2 c b) = _
  rw [extractStridedSlice_apply _ _ _ _ (ValueIdx.ix2 (⟨19 + c.val, by omega⟩ : Fin 38) b) (fun a => by match a with | ⟨0, _⟩ => rfl | ⟨1, _⟩ => exact (Nat.zero_add _).symm),
    histV_apply h X T hh, ← tot_eq X T c 1 b.val (.inr rfl) b.isLt]

end

theorem triV_apply (j k : Fin 1024) : (triV : FVec Ideal S1024x1024 .f32) (ValueIdx.ix2 j k) = ((if k.val ≤ j.val then 1 else 0 : ℝ) : EReal) := by
  have e0 : iota .tc S1024x1024 32 [0] iota_S1024x1024_d0_w32 (ValueIdx.ix2 j k) = BitVec.ofNat 32 j.val := iota_single_apply ..
  have e1 : iota .tc S1024x1024 32 [1] iota_S1024x1024_d1_w32 (ValueIdx.ix2 j k) = BitVec.ofNat 32 k.val := iota_single_apply ..
  show ((((IntOp.cmpi .sge (iota .tc S1024x1024 32 [0] iota_S1024x1024_d0_w32 (ValueIdx.ix2 j k)) (iota .tc S1024x1024 32 [1] iota_S1024x1024_d1_w32 (ValueIdx.ix2 j k))).setWidth 32).toInt : ℝ) : EReal) = _
  rw [e0, e1]
  have hj := j.isLt
  have hk := k.isLt
  have hd : IntOp.cmpi .sge (BitVec.ofNat 32 j.val) (BitVec.ofNat 32 k.val) = BitVec.ofBool (decide (k.val ≤ j.val)) := by
    show BitVec.ofBool (BitVec.sle _ _) = _
    rw [BitVec.sle_eq_decide, StableHlo.Predicate.toInt_ofNat_small k.val (by omega), StableHlo.Predicate.toInt_ofNat_small j.val (by omega)]
    refine congrArg BitVec.ofBool (decide_eq_decide.2 ?_)
    exact Int.ofNat_le
  rw [hd]
  by_cases hle : k.val ≤ j.val
  · rw [decide_eq_true hle, if_pos hle]
    have : ((BitVec.ofBool true).setWidth 32).toInt = 1 := by decide
    rw [this]; norm_num
  · rw [decide_eq_false hle, if_neg hle]
    have : ((BitVec.ofBool false).setWidth 32).toInt = 0 := by decide
    rw [this]; norm_num

theorem geV_apply (v : FVec Ideal S19x1024 .f32) (f : ℕ → ℝ) (c : Fin 19) (hv : ∀ b : Fin 1024, v (ValueIdx.ix2 c b) = (f b.val : EReal)) (k : Fin 1024) :
    geV v (ValueIdx.ix2 c k) = ((∑ j ∈ range 1024, if k.val ≤ j then f j else 0 : ℝ) : EReal) := by
  refine (Ideal.matmul_plain_apply (M := 19) (K := 1024) (N := 1024) none v triV _ c k).trans ?_
  rw [show (constant S19x1024 .f32 0x00000000#32 : FVec Ideal S19x1024 .f32) (ValueIdx.ix2 c k) = 0 from Ideal.ofBits_zero_f32, zero_add]
  have e : ∀ j : Fin 1024, v (ValueIdx.ix2 c j) * (triV : FVec Ideal S1024x1024 .f32) (ValueIdx.ix2 j k) = ((if k.val ≤ j.val then f j.val else 0 : ℝ) : EReal) := by
    intro j
    rw [hv, triV_apply, ← EReal.coe_mul]
    refine congrArg (fun z : ℝ => (z : EReal)) ?_
    split
    · exact mul_one _
    · exact mul_zero _
  refine (Finset.sum_congr rfl fun j _ => e j).trans ?_
  rw [coe_sum, Finset.sum_range]

section

variable (h : Vec Ideal S32x38x1024 .i32) (X : Vec Ideal S4x19x512x512 .f32) (T : Vec Ideal S4x512x512 .i32)
  (hh : ∀ (w : Fin 32) (r : Fin 38) (b : Fin 1024), (((h (ValueIdx.ix3 w r b) : BitVec 32).toInt : ℝ)) = ∑ p ∈ range 622592, if cellQ X T (w.val * 622592 + p) = r.val * 1024 + b.val then 1 else 0)

include hh

theorem geAll (c : Fin 19) (k : Fin 1024) : geV (allV h) (ValueIdx.ix2 c k) = (Lov.S 1048576 (binN X T c) k.val : EReal) := by
  rw [geV_apply (allV h) (fun j => sel X T c 0 j + sel X T c 1 j) c (fun b => allV_apply h X T hh c b) k, sel_all]
theorem gePos (c : Fin 19) (k : Fin 1024) : geV (posV h) (ValueIdx.ix2 c k) = (Lov.P 1048576 (binN X T c) (labN T c) k.val : EReal) := by
  rw [geV_apply (posV h) (fun j => sel X T c 1 j) c (fun b => posV_apply h X T hh c b) k, sel_pos]

theorem jacV_apply (c : Fin 19) (k : Fin 1024) : jacV h (ValueIdx.ix2 c k) = (Lov.H 1048576 (binN X T c) (labN T c) k.val : EReal) := by
  have e1 : broadcastTo S19x1024 (extractStridedSlice S19x1 ![0, 0] (geV (posV h)) slices_S19x1024_o0_0_S19x1 : FVec Ideal S19x1 .f32) broadcasts_S19x1_S19x1024 (ValueIdx.ix2 c k)
      = (Lov.P 1048576 (binN X T c) (labN T c) 0 : EReal) := by
    refine (broadcastTo_apply _ _ _ (ValueIdx.ix2 c (0 : Fin 1)) ?_).trans ?_
    · intro b
      match b with
      | ⟨0, _⟩ => rfl
      | ⟨1, _⟩ => rfl
    · refine (extractStridedSlice_apply _ _ _ _ (ValueIdx.ix2 c (0 : Fin 1024)) ?_).trans (gePos h X T hh c 0)
      intro b
      match b with
      | ⟨0, _⟩ => exact (Nat.zero_add _).symm
      | ⟨1, _⟩ => rfl
  unfold jacV
  show (if Ideal.cmp .ogt (geV (allV h) (ValueIdx.ix2 c k)) (Ideal.ofBits .f32 0x00000000#32) = 1#1 then
      Ideal.ofBits .f32 0x3F800000#32 - Ideal.div (_ - geV (posV h) (ValueIdx.ix2 c k)) ((_ + geV (allV h) (ValueIdx.ix2 c k)) - geV (posV h) (ValueIdx.ix2 c k))
    else Ideal.ofBits .f32 0x00000000#32) = _
  rw [e1, geAll h X T hh, gePos h X T hh, Ideal.ofBits_zero_f32, ofBits_one]
  unfold Lov.H
  have hP : Lov.P 1048576 (binN X T c) (labN T c) k.val ≤ Lov.P 1048576 (binN X T c) (labN T c) 0 := by
    unfold Lov.P
    refine Finset.sum_le_sum fun p _ => ?_
    rw [if_pos (Nat.zero_le _)]
    split
    · exact le_refl _
    · exact Nat.cast_nonneg _
  generalize Lov.S 1048576 (binN X T c) k.val = s
  generalize Lov.P 1048576 (binN X T c) (labN T c) k.val = p at hP ⊢
  generalize Lov.P 1048576 (binN X T c) (labN T c) 0 = g at hP ⊢
  have hc : Ideal.cmp .ogt (s : EReal) 0 = BitVec.ofBool (decide ((0 : ℝ) < s)) := by
    show BitVec.ofBool (decide ((0 : EReal) < (s : EReal))) = _
    exact congrArg BitVec.ofBool (decide_eq_decide.2 (by exact_mod_cast Iff.rfl))
  rw [hc]
  by_cases hs : 0 < s
  · rw [decide_eq_true hs, if_pos hs, if_pos (by rfl), ← EReal.coe_sub, ← EReal.coe_add, ← EReal.coe_sub, div_coe _ _ (by linarith : g + s - p ≠ 0), ← EReal.coe_sub]
  · rw [decide_eq_false hs, if_neg hs, if_neg (by decide)]
    rfl

theorem classV_apply (c : Fin 19) : classV h (ValueIdx.ix1 c) = ((((∑ k ∈ range 1024, Lov.H 1048576 (binN X T c) (labN T c) k) - 1 / 2) / 1024 : ℝ) : EReal) := by
  have e0 : multiReduction .add [1] S19 (jacV h) 0x00000000#32 reduces_S19x1024_S19 (.inl rfl) rfl (ValueIdx.ix1 c) = ((∑ k ∈ range 1024, Lov.H 1048576 (binN X T c) (labN T c) k : ℝ) : EReal) := by
    refine (Ideal.multiReduction_add_single (jacV h) _ _ _ _ _).trans ?_
    have e : ∀ k : Fin 1024, (reduces_S19x1024_S19).lift (ValueIdx.ix1 c) k = ValueIdx.ix2 c k := by
      intro k; funext a; apply Fin.ext
      match a with
      | ⟨0, _⟩ => rfl
      | ⟨1, _⟩ => rfl
    refine (Finset.sum_congr rfl fun k _ => (congrArg (jacV h) (e k)).trans (jacV_apply h X T hh c k)).trans ?_
    exact fin_sum 1024 fun k => Lov.H 1048576 (binN X T c) (labN T c) k
  show Ideal.div (multiReduction .add [1] S19 (jacV h) 0x00000000#32 reduces_S19x1024_S19 (.inl rfl) rfl (ValueIdx.ix1 c) - Ideal.ofBits .f32 0x3F000000#32) (Ideal.ofBits .f32 0x44800000#32) = _
  rw [e0, ofBits_half, ofBits_1024, ← EReal.coe_sub, div_coe _ _ (by norm_num)]

theorem lovV_eq : lovV h = (lovN X T : EReal) := by
  have e0 : extractAt ![0, 0] (shapeCast S1x1 (multiReduction .add [1] S1 (shapeCast S1x19 (classV h) shapeCasts_S19_S1x19) 0x00000000#32 reduces_S1x19_S1 (.inl rfl) rfl) shapeCasts_S1_S1x1) inpos_S1x1_p0_0
      = ((∑ c : Fin 19, ((∑ k ∈ range 1024, Lov.H 1048576 (binN X T c) (labN T c) k) - 1 / 2) / 1024 : ℝ) : EReal) := by
    refine (shapeCast_apply (s := S1) _ _ _ (ValueIdx.ix1 (0 : Fin 1)) (by rfl)).trans ?_
    refine (Ideal.multiReduction_add_single _ _ _ _ _ _).trans ?_
    have e : ∀ k : Fin 19, (reduces_S1x19_S1).lift (ValueIdx.ix1 (0 : Fin 1)) k = ValueIdx.ix2 (0 : Fin 1) k := by
      intro k; funext a; apply Fin.ext
      match a with
      | ⟨0, _⟩ => rfl
      | ⟨1, _⟩ => rfl
    have e2 : ∀ k : Fin 19, shapeCast S1x19 (classV h) shapeCasts_S19_S1x19 (ValueIdx.ix2 (0 : Fin 1) k) = _ := fun k =>
      (shapeCast_apply (classV h) _ _ (ValueIdx.ix1 k) (by
        rw [Shape.rowMajor_val_one, Shape.rowMajor_val_two]; show k.val = 0 * 19 + k.val; omega)).trans (classV_apply h X T hh k)
    refine (Finset.sum_congr rfl fun k _ => (congrArg _ (e k)).trans (e2 k)).trans ?_
    exact coe_sum (Finset.univ : Finset (Fin 19)) fun c => ((∑ k ∈ range 1024, Lov.H 1048576 (binN X T c) (labN T c) k) - 1 / 2) / 1024
  unfold lovV
  show Ideal.div (extractAt ![0, 0] (shapeCast S1x1 (multiReduction .add [1] S1 (shapeCast S1x19 (classV h) shapeCasts_S19_S1x19) 0x00000000#32 reduces_S1x19_S1 (.inl rfl) rfl) shapeCasts_S1_S1x1) inpos_S1x1_p0_0) (Ideal.ofBits .f32 0x41980000#32) = _
  rw [e0, ofBits_19, div_coe _ _ (by norm_num)]
  rfl

end

/-! ## The histograms of the run -/

section

variable (m : (ℓ : Loc nD τ sig) → Buf (Elt Ideal) ℓ) (d : Dev nD) (hg : Good (at0 m main_arg0 d) (at0 m main_arg1 d))

include hg

theorem flat_word (w : Fin 32) (p : ℕ) (hp : p < 622592) :
    Tile.slabWords (flatA m d) w.val p = BitVec.ofNat 32 (cellQ (at0 m main_arg0 d) (at0 m main_arg1 d) (w.val * 622592 + p)) := by
  have hw := w.isLt
  have hlt : w.val * 1216 + p / 512 < 38912 := by omega
  unfold Tile.slabWords
  rw [dif_pos hlt]
  unfold cellQ
  rw [← idxAll_apply hg, ← idxA_eq]
  refine shapeCast_apply (s := S4x19x512x512) _ _ _ _ ?_
  rw [Shape.rowMajor_val_two, Shape.rowMajor_val_four]
  show (((w.val * 622592 + p) / 4980736 % 4 * 19 + (w.val * 622592 + p) / 262144 % 19) * 512 + (w.val * 622592 + p) / 512 % 512) * 512 + (w.val * 622592 + p) % 512
    = (w.val * 1216 + p / 512) * 512 + p % 512
  have e1 : (w.val * 1216 + p / 512) * 512 + p % 512 = w.val * 622592 + p := by omega
  rw [e1]
  have e2 : w.val * 622592 + p < 19922944 := by omega
  generalize w.val * 622592 + p = q at e2 ⊢
  have e3 : q / 4980736 = q / 262144 / 19 := (Nat.div_div_eq_div_mul q 262144 19).symm
  have e4 : q / 262144 = q / 512 / 512 := (Nat.div_div_eq_div_mul q 512 512).symm
  omega

theorem hist_word (w : Fin 32) (r : Fin 38) (b : Fin 1024) :
    (((histA m d : Vec Ideal S32x38x1024 .i32) (ValueIdx.ix3 w r b) : BitVec 32).toInt : ℝ)
      = ∑ p ∈ range 622592, if cellQ (at0 m main_arg0 d) (at0 m main_arg1 d) (w.val * 622592 + p) = r.val * 1024 + b.val then 1 else 0 := by
  have hr := r.isLt
  have hb := b.isLt
  have e : (histA m d : Vec Ideal S32x38x1024 .i32) (ValueIdx.ix3 w r b) = BitVec.ofNat 32 (Tile.cnt (Tile.slabWords (flatA m d) w.val) 622592 (r.val * 1024 + b.val)) := by
    have hlt : r.val * 1024 + b.val < 38912 := by omega
    refine (shapeCast_apply (s := S32x38912) _ _ _ (ValueIdx.ix2 w (⟨r.val * 1024 + b.val, hlt⟩ : Fin 38912)) ?_).trans rfl
    rw [Shape.rowMajor_val_two, Shape.rowMajor_val_three]
    show w.val * 38912 + (r.val * 1024 + b.val) = (w.val * 38 + r.val) * 1024 + b.val
    omega
  have hle : Tile.cnt (Tile.slabWords (flatA m d) w.val) 622592 (r.val * 1024 + b.val) ≤ 622592 := (Finset.card_filter_le _ _).trans (Finset.card_range _).le
  rw [e, StableHlo.Predicate.toInt_ofNat_small _ (by omega)]
  unfold Tile.cnt
  rw [← Finset.sum_filter, Finset.sum_const, nsmul_eq_mul, mul_one]
  have hf : (range 622592).filter (fun p => (Tile.slabWords (flatA m d) w.val p).toNat = r.val * 1024 + b.val)
      = (range 622592).filter fun p => cellQ (at0 m main_arg0 d) (at0 m main_arg1 d) (w.val * 622592 + p) = r.val * 1024 + b.val := by
    refine Finset.filter_congr fun p hp => ?_
    rw [flat_word m d hg w p (mem_range.1 hp), BitVec.toNat_ofNat, Nat.mod_eq_of_lt]
    exact (cellN_lt _ _ _ _ _ _).trans (by norm_num)
  rw [hf]
  exact Int.cast_natCast _

theorem lovA : lovV (histA m d) = (lovN (at0 m main_arg0 d) (at0 m main_arg1 d) : EReal) := lovV_eq _ _ _ (hist_word m d hg)

end

end Cert.Proof.Call

end
-- ==== Proof.RSort.lean ====
/-
  The reference's Lovász loss at the extended reals: the sorted errors, the running counts of the labels along them, the
  Jaccard losses and their steps.
-/
module

public import proofs.«01_k».proof.Proof.RVal
public import proofs.«01_k».proof.Proof.KVal
public import Idealize.ShloMosaic.Lib.SortFacts

@[expose] public section

noncomputable section

namespace Cert.Proof.Ref

open Cert.ReferenceIdeal Cert.ReferenceIdeal.Gen Cert.Proof.Px
open Idealize.ShloMosaic
open Finset
open scoped BigOperators

/-! ## A two-operand sort along the second axis -/

section

variable {A N : ℕ} {α β : Type} (cmp : α × β → α × β → BitVec 1) (x : (⟨2, ![A, N]⟩ : Shape).Idx → α) (y : (⟨2, ![A, N]⟩ : Shape).Idx → β)

theorem along2 (c : Fin A) (n k : Fin N) : Shape.Idx.along (s := ⟨2, ![A, N]⟩) (ValueIdx.ix2 c n) 1 k = ValueIdx.ix2 c k := by
  unfold Shape.Idx.along
  funext a
  fin_cases a <;> rfl

/-- Which of a row's positions comes before which. -/
def bef (c : Fin A) (k k' : Fin N) : Bool := cmp (x (ValueIdx.ix2 c k), y (ValueIdx.ix2 c k)) (x (ValueIdx.ix2 c k'), y (ValueIdx.ix2 c k')) == 1#1

theorem sort2_at (c : Fin A) (n : Fin N) :
    (Host.sort2 ⟨2, ![A, N]⟩ 1 cmp x y).1 (ValueIdx.ix2 c n) = x (ValueIdx.ix2 c (sortedFrom (bef cmp x y c) n))
      ∧ (Host.sort2 ⟨2, ![A, N]⟩ 1 cmp x y).2 (ValueIdx.ix2 c n) = y (ValueIdx.ix2 c (sortedFrom (bef cmp x y c) n)) := by
  have e : sortedFrom (fun k k' : Fin N => cmp (x (Shape.Idx.along (s := ⟨2, ![A, N]⟩) (ValueIdx.ix2 c n) 1 k), y (Shape.Idx.along (s := ⟨2, ![A, N]⟩) (ValueIdx.ix2 c n) 1 k))
      (x (Shape.Idx.along (s := ⟨2, ![A, N]⟩) (ValueIdx.ix2 c n) 1 k'), y (Shape.Idx.along (s := ⟨2, ![A, N]⟩) (ValueIdx.ix2 c n) 1 k')) == 1#1) = sortedFrom (bef cmp x y c) := by
    refine congrArg sortedFrom (funext fun k => funext fun k' => ?_)
    rw [along2, along2]; rfl
  unfold Host.sort2
  rw [dif_pos (show 1 < (⟨2, ![A, N]⟩ : Shape).rank from Nat.one_lt_two)]
  exact ⟨congrArg x ((along2 c n _).trans (congrArg (ValueIdx.ix2 c) (congrFun e n))), congrArg y ((along2 c n _).trans (congrArg (ValueIdx.ix2 c) (congrFun e n)))⟩

end

/-! ## The comparator -/

theorem comparator_at (a b : ℝ) (u v : EReal) (ha : a ≠ 0) (hb : b ≠ 0) :
    (comparator_f32_f32_d1 (F := Ideal) ((a : EReal), u) ((b : EReal), v) == 1#1) = decide (a < b) := by
  have h0 (z : ℝ) (hz : z ≠ 0) : Ideal.cmp .oeq (z : EReal) (Ideal.ofBits .f32 0x00000000#32) = 0#1 := by
    rw [Ideal.ofBits_zero_f32]
    show BitVec.ofBool (decide ((z : EReal) = 0)) = 0#1
    rw [decide_eq_false (by exact_mod_cast hz)]; rfl
  have h1 (z : ℝ) : Ideal.cmp .une (z : EReal) (z : EReal) = 0#1 := by
    show BitVec.ofBool (decide ((z : EReal) ≠ z)) = 0#1
    rw [decide_eq_false (by simp)]; rfl
  show (Ideal.cmpTotal .lt (Scalar.select (Ideal.cmp .une (a : EReal) (a : EReal)) (Ideal.ofBits .f32 0x7FC00000#32)
      (Scalar.select (Ideal.cmp .oeq (a : EReal) (Ideal.ofBits .f32 0x00000000#32)) (Ideal.ofBits .f32 0x00000000#32) (a : EReal)))
    (Scalar.select (Ideal.cmp .une (b : EReal) (b : EReal)) (Ideal.ofBits .f32 0x7FC00000#32)
      (Scalar.select (Ideal.cmp .oeq (b : EReal) (Ideal.ofBits .f32 0x00000000#32)) (Ideal.ofBits .f32 0x00000000#32) (b : EReal))) == 1#1) = _
  rw [h0 a ha, h0 b hb, h1, h1]
  show (BitVec.ofBool (decide ((a : EReal) < (b : EReal))) == 1#1) = _
  by_cases h : a < b
  · rw [decide_eq_true h, decide_eq_true (by exact_mod_cast h)]; rfl
  · rw [decide_eq_false h, decide_eq_false (by exact_mod_cast h)]; rfl

theorem negN_ne (b : ℕ) : negN b ≠ 0 := by
  unfold negN
  have : (0 : ℝ) < ((b : ℝ) + 1 / 2) / 1024 := by positivity
  linarith

theorem negN_lt (a b : ℕ) : negN a < negN b ↔ b < a := by
  unfold negN
  rw [neg_lt_neg_iff, div_lt_div_iff_of_pos_right (by norm_num), add_lt_add_iff_right]
  exact Nat.cast_lt

/-! ## The sorted errors and labels -/

section

variable {X : FVec Ideal S4x19x512x512 .f32} {T : IVec S4x512x512 32} (hg : Call.Good X T)

/-- Where a sorted position of class `c` comes from. -/
def srcR (X : FVec Ideal S4x19x512x512 .f32) (T : IVec S4x512x512 32) (c : Fin 19) : Fin 1048576 → Fin 1048576 :=
  sortedFrom (bef (A := 19) (N := 1048576) (comparator_f32_f32_d1 (F := Ideal)) (negR (probR X) (fgR T)) (fgR T) c)

theorem src_bij (c : Fin 19) : Function.Bijective (srcR X T c) := ⟨sortedFrom_injective _, sortedFrom_surjective _⟩

def srcN (X : FVec Ideal S4x19x512x512 .f32) (T : IVec S4x512x512 32) (c : Fin 19) (n : ℕ) : ℕ := if h : n < 1048576 then (srcR X T c ⟨n, h⟩).val else 0

theorem srcN_fin (c : Fin 19) (n : Fin 1048576) : srcN X T c n.val = (srcR X T c n).val := by
  unfold srcN; rw [dif_pos n.isLt]

def bs (X : FVec Ideal S4x19x512x512 .f32) (T : IVec S4x512x512 32) (c : Fin 19) (n : ℕ) : ℕ := Call.binN X T c (srcN X T c n)
def fs (X : FVec Ideal S4x19x512x512 .f32) (T : IVec S4x512x512 32) (c : Fin 19) (n : ℕ) : ℕ := Call.labN T c (srcN X T c n)

include hg

theorem sort_fst (c : Fin 19) (n : Fin 1048576) : (sortR X T).1 (ValueIdx.ix2 c n) = ((negN (bs X T c n.val) : ℝ) : EReal) := by
  unfold bs
  rw [srcN_fin]
  exact (sort2_at _ _ _ c n).1.trans (neg_at hg c _)

theorem sort_snd (c : Fin 19) (n : Fin 1048576) : (sortR X T).2 (ValueIdx.ix2 c n) = (((fs X T c n.val : ℕ) : ℝ) : EReal) := by
  unfold fs
  rw [srcN_fin]
  exact (sort2_at _ _ _ c n).2.trans (fg_at hg c _)

theorem bef_at (c : Fin 19) (k k' : Fin 1048576) :
    bef (A := 19) (N := 1048576) (comparator_f32_f32_d1 (F := Ideal)) (negR (probR X) (fgR T)) (fgR T) c k k' = decide (Call.binN X T c k'.val < Call.binN X T c k.val) := by
  unfold bef
  rw [neg_at hg, neg_at hg]
  refine (comparator_at _ _ _ _ (negN_ne _) (negN_ne _)).trans ?_
  exact decide_eq_decide.2 (negN_lt _ _)

theorem bs_anti (c : Fin 19) (i j : ℕ) (hij : i ≤ j) (hj : j < 1048576) : bs X T c j ≤ bs X T c i := by
  rcases Nat.lt_or_ge i j with h | h
  · have e := sortedFrom_noInversion (bef (A := 19) (N := 1048576) (comparator_f32_f32_d1 (F := Ideal)) (negR (probR X) (fgR T)) (fgR T) c)
      (bef (A := 19) (N := 1048576) (comparator_f32_f32_d1 (F := Ideal)) (negR (probR X) (fgR T)) (fgR T) c)
      (fun a b hab => by
        rw [bef_at hg] at hab ⊢
        rw [decide_eq_true_iff] at hab
        rw [decide_eq_false_iff_not]; omega)
      (fun a b hab => hab)
      (fun a b d hab hbd => by
        rw [bef_at hg] at hab hbd ⊢
        rw [decide_eq_false_iff_not] at hab hbd ⊢; omega)
      ⟨i, by omega⟩ ⟨j, hj⟩ h
    rw [bef_at hg, decide_eq_false_iff_not] at e
    unfold bs srcN
    rw [dif_pos hj, dif_pos (show i < 1048576 by omega)]
    exact Nat.le_of_not_lt e
  · rw [Nat.le_antisymm hij h]

end

/-! ## Running sums -/

theorem numel_row (N : ℕ) : (⟨2, ![1, N]⟩ : Shape).numel = N := by
  show ∏ a : Fin 2, (![1, N] : Fin 2 → ℕ) a = N
  rw [Fin.prod_univ_two]
  exact Nat.one_mul N

theorem symm_row {N : ℕ} (n : Fin (⟨2, ![1, N]⟩ : Shape).numel) : (⟨2, ![1, N]⟩ : Shape).rowMajor.symm n = ValueIdx.ix2 (0 : Fin 1) (n.cast (numel_row N)) :=
  ((⟨2, ![1, N]⟩ : Shape).rowMajor.symm_apply_eq).2 (Fin.ext (by
    rw [Shape.rowMajor_val_two]
    show n.val = 0 * N + n.val
    omega))

theorem foldl_coe {ι : Type} (l : List ι) (g : ι → EReal) (G : ι → ℝ) (h : ∀ i ∈ l, g i = (G i : EReal)) (z : EReal) (v : ℝ) (hz : z = (v : EReal)) :
    l.foldl (fun r i => r + g i) z = ((v + (l.map G).sum : ℝ) : EReal) := by
  subst hz
  induction l generalizing v with
  | nil => rw [List.foldl_nil, List.map_nil, List.sum_nil, add_zero]
  | cons a l ih =>
    rw [List.foldl_cons, h a (List.mem_cons_self ..), ← EReal.coe_add, ih (fun i hi => h i (List.mem_cons_of_mem _ hi)), List.map_cons, List.sum_cons, add_assoc]

theorem sum_tail (M j : ℕ) (hj : j ≤ M) (f : ℕ → ℝ) :
    ∑ n ∈ range (M + 1), (if M ≤ j + n then f (j + n - M) else 0) = ∑ i ∈ range (j + 1), f i := by
  have e : M + 1 = (M - j) + (j + 1) := by omega
  rw [e, Finset.sum_range_add, Finset.sum_eq_zero, zero_add]
  · refine sum_congr rfl fun i hi => ?_
    rw [if_pos (by omega)]
    exact congrArg f (by omega)
  · intro n hn
    rw [mem_range] at hn
    exact if_neg (by omega)

theorem cum_at {A M : ℕ} (x : (⟨2, ![A, M + 1]⟩ : Shape).Idx → EReal) (c : Fin A) (f : ℕ → ℝ) (hx : ∀ i : Fin (M + 1), x (ValueIdx.ix2 c i) = (f i.val : EReal))
    (h : (⟨2, ![A, M + 1]⟩ : Shape).ReduceWindows (![1, M + 1] : Fin 2 → ℕ) ![1, 1] ![0, M] ![0, 0] ⟨2, ![A, M + 1]⟩) (j : Fin (M + 1)) :
    Ideal.hostReduceWindowAdd ![1, M + 1] ![1, 1] ![0, M] ![0, 0] h x 0 (ValueIdx.ix2 c j) = ((∑ i ∈ range (j.val + 1), f i : ℝ) : EReal) := by
  have hj := j.isLt
  have hc := c.isLt
  unfold Ideal.hostReduceWindowAdd Host.reduceWindow
  refine (foldl_coe _ _ (fun n => if M ≤ j.val + n.val then f (j.val + n.val - M) else 0) (fun n _ => ?_) _ 0 rfl).trans ?_
  · have hw0 : ((⟨2, ![1, M + 1]⟩ : Shape).rowMajor.symm n 0).val = 0 := by rw [symm_row]; rfl
    have hw : ((⟨2, ![1, M + 1]⟩ : Shape).rowMajor.symm n 1).val = n.val := by rw [symm_row]; rfl
    have hn : n.val < M + 1 := (n.cast (numel_row _)).isLt
    dsimp only
    split
    · next hin =>
      have h1 := hin 1
      change M ≤ j.val * 1 + ((⟨2, ![1, M + 1]⟩ : Shape).rowMajor.symm n 1).val
        ∧ j.val * 1 + ((⟨2, ![1, M + 1]⟩ : Shape).rowMajor.symm n 1).val - M < M + 1 at h1
      rw [hw] at h1
      rw [if_pos (by omega)]
      refine (congrArg x (funext fun a => Fin.ext ?_)).trans (hx ⟨j.val + n.val - M, by omega⟩)
      match a with
      | ⟨0, _⟩ =>
        show c.val * 1 + ((⟨2, ![1, M + 1]⟩ : Shape).rowMajor.symm n 0).val - 0 = c.val
        rw [hw0]; omega
      | ⟨1, _⟩ =>
        show j.val * 1 + ((⟨2, ![1, M + 1]⟩ : Shape).rowMajor.symm n 1).val - M = j.val + n.val - M
        rw [hw, Nat.mul_one]
    · next hin =>
      rw [if_neg fun hle => hin fun a => by
        match a with
        | ⟨0, _⟩ =>
          show 0 ≤ c.val * 1 + ((⟨2, ![1, M + 1]⟩ : Shape).rowMajor.symm n 0).val ∧ c.val * 1 + ((⟨2, ![1, M + 1]⟩ : Shape).rowMajor.symm n 0).val - 0 < A
          rw [hw0]; omega
        | ⟨1, _⟩ =>
          show M ≤ j.val * 1 + ((⟨2, ![1, M + 1]⟩ : Shape).rowMajor.symm n 1).val
            ∧ j.val * 1 + ((⟨2, ![1, M + 1]⟩ : Shape).rowMajor.symm n 1).val - M < M + 1
          rw [hw]; omega]
      rfl
  rw [zero_add]
  refine congrArg _ ?_
  rw [← Fin.sum_univ_def, Fin.sum_univ_eq_sum_range (fun n => if M ≤ j.val + n then f (j.val + n - M) else 0), numel_row]
  exact sum_tail M j.val (by omega) f

/-! ## The Jaccard losses -/

section

variable (y : FVec Ideal S19x1048576 .f32) (c : Fin 19) (f : ℕ → ℕ) (hy : ∀ i : Fin 1048576, y (ValueIdx.ix2 c i) = (((f i.val : ℕ) : ℝ) : EReal))

include hy

theorem total_at : totalR y (ValueIdx.ix2 c (0 : Fin 1)) = ((Lov.Cn f 1048576 : ℝ) : EReal) := by
  unfold totalR
  rw [col_unsq]
  refine Eq.trans (Ideal.hostReduceAdd_r2_a1 _ _ _ _) ?_
  rw [at_const, Ideal.ofBits_zero_f32, zero_add]
  refine Eq.trans (Finset.sum_congr rfl fun k _ => hy k) ?_
  exact Call.fin_sum 1048576 fun k => (f k : ℝ)

theorem cumR_at (n : Fin 1048576) : cumR y (ValueIdx.ix2 c n) = ((Lov.Cn f (n.val + 1) : ℝ) : EReal) := by
  have e := cum_at (A := 19) (M := 1048575) y c (fun i => (f i : ℝ)) hy reduceWindows_S19x1048576_S19x1048576_w1s1p0_0_w1048576s1p1048575_0 n
  refine Eq.trans ?_ e
  unfold cumR Host.reduceWindowAdd
  rw [ValueIdx.broadcastInDim_scalar_apply, at_const, Ideal.ofBits_zero_f32]
  rfl

theorem cumNot_at (n : Fin 1048576) : cumR (subf (allR 0x3F800000#32) y) (ValueIdx.ix2 c n) = (((n.val + 1 : ℕ) - Lov.Cn f (n.val + 1) : ℝ) : EReal) := by
  have e := cum_at (A := 19) (M := 1048575) (subf (allR 0x3F800000#32) y) c (fun i => 1 - (f i : ℝ)) (fun i => by
    rw [at_sub, allR_apply, ofBits_one, hy, ← EReal.coe_sub]) reduceWindows_S19x1048576_S19x1048576_w1s1p0_0_w1048576s1p1048575_0 n
  refine Eq.trans ?_ (e.trans ?_)
  · unfold cumR Host.reduceWindowAdd
    rw [ValueIdx.broadcastInDim_scalar_apply, at_const, Ideal.ofBits_zero_f32]
    rfl
  · refine congrArg _ ?_
    rw [Finset.sum_sub_distrib, Finset.sum_const, Finset.card_range, nsmul_eq_mul, mul_one]; rfl

theorem jac_at (n : Fin 1048576) : jacR (totalR y) y (ValueIdx.ix2 c n) = ((Lov.J f 1048576 (n.val + 1) : ℝ) : EReal) := by
  have hle : Lov.Cn f (n.val + 1) ≤ Lov.Cn f 1048576 := by
    have hn := n.isLt
    unfold Lov.Cn
    exact Finset.sum_le_sum_of_subset_of_nonneg (Finset.range_subset_range.2 (by omega)) fun i _ _ => Nat.cast_nonneg _
  have hpos : (0 : ℝ) < ((n.val + 1 : ℕ) : ℝ) := by exact_mod_cast Nat.succ_pos _
  unfold jacR
  rw [at_sub, at_div, at_sub, at_add, allR_apply, ofBits_one, col_spread, total_at y c f hy, cumR_at y c f hy, cumNot_at y c f hy]
  dsimp only
  rw [← EReal.coe_sub, ← EReal.coe_add, div_coe _ _ (by linarith), ← EReal.coe_sub]
  refine congrArg _ ?_
  unfold Lov.J
  rw [if_neg (Nat.succ_ne_zero _)]

end

/-! ## Their steps, and the loss -/

theorem step_at (j : FVec Ideal S19x1048576 .f32) (c : Fin 19) (g : ℕ → ℝ) (h0 : g 0 = 0) (hj : ∀ n : Fin 1048576, j (ValueIdx.ix2 c n) = ((g (n.val + 1) : ℝ) : EReal))
    (n : Fin 1048576) : stepR j (ValueIdx.ix2 c n) = ((g (n.val + 1) - g n.val : ℝ) : EReal) := by
  have hn := n.isLt
  unfold stepR
  by_cases h : n.val = 0
  · rw [concatenate_pair_apply_left (t := S19x1048576) (s₁ := S19x1) (s₂ := S19x1048575) 1 _ _ _ (ValueIdx.ix2 c n) rfl (ValueIdx.ix2 c (0 : Fin 1)) (fun b => by
      match b with
      | ⟨0, _⟩ => rfl
      | ⟨1, _⟩ => exact h.symm)]
    rw [extractStridedSlice_apply ![0, 0] j _ (ValueIdx.ix2 c (0 : Fin 1)) (ValueIdx.ix2 c n) (fun b => by
      match b with
      | ⟨0, _⟩ => show c.val = 0 + c.val; omega
      | ⟨1, _⟩ => show n.val = 0 + 0; omega), hj, h, h0, sub_zero]
  · rw [concatenate_pair_apply_right (t := S19x1048576) (s₁ := S19x1) (s₂ := S19x1048575) 1 _ _ _ (ValueIdx.ix2 c n) rfl rfl (ValueIdx.ix2 c (⟨n.val - 1, by omega⟩ : Fin 1048575)) (fun b hb => by
      match b with
      | ⟨0, _⟩ => rfl
      | ⟨1, _⟩ => exact absurd rfl hb) (show (n.val - 1) + 1 = n.val by omega)]
    rw [at_sub, extractStridedSlice_apply ![0, 1] j _ (ValueIdx.ix2 c (⟨n.val - 1, by omega⟩ : Fin 1048575)) (ValueIdx.ix2 c n) (fun b => by
      match b with
      | ⟨0, _⟩ => show c.val = 0 + c.val; omega
      | ⟨1, _⟩ => show n.val = 1 + (n.val - 1); omega),
      extractStridedSlice_apply ![0, 0] j _ (ValueIdx.ix2 c (⟨n.val - 1, by omega⟩ : Fin 1048575)) (ValueIdx.ix2 c (⟨n.val - 1, by omega⟩ : Fin 1048576)) (fun b => by
      match b with
      | ⟨0, _⟩ => show c.val = 0 + c.val; omega
      | ⟨1, _⟩ => show n.val - 1 = 0 + (n.val - 1); omega), hj, hj, ← EReal.coe_sub]
    refine congrArg (fun k => ((g (n.val + 1) - g k : ℝ) : EReal)) ?_
    show n.val - 1 + 1 = n.val
    omega

theorem lovR_at (e j : FVec Ideal S19x1048576 .f32) (b : Fin 19 → ℕ → ℝ) (g : Fin 19 → ℕ → ℝ) (h0 : ∀ c, g c 0 = 0)
    (he : ∀ c (n : Fin 1048576), e (ValueIdx.ix2 c n) = ((b c n.val : ℝ) : EReal)) (hj : ∀ c (n : Fin 1048576), j (ValueIdx.ix2 c n) = ((g c (n.val + 1) : ℝ) : EReal)) :
    lovR e j = fun _ => (((∑ c, ∑ n ∈ range 1048576, b c n * (g c (n + 1) - g c n)) / 19 : ℝ) : EReal) := by
  funext i
  have e1 (c : Fin 19) : Host.reduceAdd (mulf e (stepR j)) (constant S_ .f32 0x00000000#32) reducesTo_S19x1048576_S19_d1 h_S_ (ValueIdx.ix1 c)
      = ((∑ n ∈ range 1048576, b c n * (g c (n + 1) - g c n) : ℝ) : EReal) := by
    refine Eq.trans (Ideal.hostReduceAdd_r2_a1 _ _ _ _) ?_
    rw [at_const, Ideal.ofBits_zero_f32, zero_add]
    refine Eq.trans (Finset.sum_congr rfl fun n _ => ?_) (Call.fin_sum 1048576 fun n => b c n * (g c (n + 1) - g c n))
    refine (at_mul _ _ _).trans ?_
    refine Eq.trans (congrArg₂ (fun u v : EReal => u * v) (he c n) (step_at j c (g c) (h0 c) (hj c) n)) ?_
    exact (EReal.coe_mul _ _).symm
  unfold lovR
  rw [at_div, at_const, ofBits_19]
  refine Eq.trans (congrArg (fun z => Ideal.div z ((19 : ℝ) : EReal)) ?_) (div_coe _ _ (by norm_num))
  refine Eq.trans (Ideal.hostReduceAdd_r1_a0 _ _ _ _) ?_
  rw [at_const, Ideal.ofBits_zero_f32, zero_add]
  exact Eq.trans (Finset.sum_congr rfl fun c _ => e1 c) (coe_sum (Finset.univ : Finset (Fin 19)) fun c => ∑ n ∈ range 1048576, b c n * (g c (n + 1) - g c n))

theorem lov_out {X : FVec Ideal S4x19x512x512 .f32} {T : IVec S4x512x512 32} (hg : Call.Good X T) :
    lovR (Host.negf (sortR X T).1) (jacR (totalR (sortR X T).2) (sortR X T).2) = fun _ => ((Call.lovN X T : ℝ) : EReal) := by
  refine (lovR_at _ _ (fun c n => ((bs X T c n : ℝ) + 1 / 2) / 1024) (fun c n => Lov.J (fs X T c) 1048576 n) (fun c => ?_) (fun c n => ?_) (fun c n => ?_)).trans ?_
  · unfold Lov.J; exact if_pos rfl
  · rw [at_neg, sort_fst hg, ← EReal.coe_neg]
    refine congrArg _ ?_
    unfold negN; ring
  · exact jac_at _ c (fs X T c) (fun i => sort_snd hg c i) n
  · funext i
    refine congrArg _ ?_
    unfold Call.lovN
    refine congrArg (fun z : ℝ => z / 19) (Finset.sum_congr rfl fun c _ => ?_)
    exact Lov.lovasz (by norm_num) (Call.binN X T c) (Call.labN T c) (bs X T c) (fs X T c) (srcR X T c) (src_bij c)
      (fun n => by unfold bs; rw [srcN_fin]) (fun n => by unfold fs; rw [srcN_fin]) (fun n _ => Call.binN_lt X T c n) (bs_anti hg c)

end Cert.Proof.Ref
-- ==== Proof.KCe.lean ====
/-
  The cross-entropy at the extended reals: the lanes the first call accumulates, and their mean.
-/
module

public import proofs.«01_k».proof.Proof.KVal
public import Idealize.ShloMosaic.Lib.Pointwise.Reduce

@[expose] public section

noncomputable section

namespace Cert.Proof.Call

open Cert.KernelIdeal Cert.KernelIdeal.Gen Cert.Proof.Px
open Idealize.ShloMosaic Idealize.SL.Sem
open Finset
open scoped BigOperators

section

variable {c : Dev nD} {X : BufOf (F := Ideal) c main_arg0} {T : BufOf (F := Ideal) c main_arg1} (hg : Good X T)

theorem pt_lt (t : Fin cfg0.N) : t.val < 256 := t.isLt.trans_eq N_0

theorem pn_pt (t : Fin cfg0.N) (a : Fin 8) (w : Fin 512) : (pn (t.val * 4096 + a.val * 512 + w.val)).val = t.val / 64 := by
  have := pt_lt t; have := a.isLt; have := w.isLt
  show (t.val * 4096 + a.val * 512 + w.val) / 262144 % 4 = t.val / 64
  omega
theorem ph_pt (t : Fin cfg0.N) (a : Fin 8) (w : Fin 512) : (ph (t.val * 4096 + a.val * 512 + w.val)).val = t.val % 64 * 8 + a.val := by
  have := pt_lt t; have := a.isLt; have := w.isLt
  show (t.val * 4096 + a.val * 512 + w.val) / 512 % 512 = t.val % 64 * 8 + a.val
  omega
theorem pw_pt (t : Fin cfg0.N) (a : Fin 8) (w : Fin 512) : (pw (t.val * 4096 + a.val * 512 + w.val)).val = w.val := by
  have := pt_lt t; have := a.isLt; have := w.isLt
  show (t.val * 4096 + a.val * 512 + w.val) % 512 = w.val
  omega

include hg in
theorem zOf_row (t : Fin cfg0.N) (a : Fin 8) (w : Fin 512) (k : Fin 19) :
    zOf (blkX c X t) a w k = (rowN X (t.val * 4096 + a.val * 512 + w.val) k : EReal) := by
  unfold zOf rowN XR
  rw [blkX_apply, ← hg.fin]
  refine congrArg X ?_
  funext b
  apply Fin.ext
  match b with
  | ⟨0, _⟩ => exact (pn_pt t a w).symm
  | ⟨1, _⟩ => rfl
  | ⟨2, _⟩ => exact (ph_pt t a w).symm
  | ⟨3, _⟩ => exact (pw_pt t a w).symm

theorem tOf_row (t : Fin cfg0.N) (a : Fin 8) (w : Fin 512) : (tOf (blkT c T t) a w).toNat = tarN T (t.val * 4096 + a.val * 512 + w.val) := by
  unfold tOf tarN TR
  rw [blkT_apply]
  refine congrArg (fun i => (T i : BitVec 32).toNat) ?_
  funext b
  apply Fin.ext
  match b with
  | ⟨0, _⟩ => exact (pn_pt t a w).symm
  | ⟨1, _⟩ => exact (ph_pt t a w).symm
  | ⟨2, _⟩ => exact (pw_pt t a w).symm

include hg in
theorem tarN_lt (p : ℕ) : tarN T p < 19 := hg.lab _

include hg in
theorem nll_pt (t : Fin cfg0.N) (a : Fin 8) (w : Fin 512) :
    nllV (blkX c X t) (blkT c T t) (ValueIdx.ix2 a w) = (nllN X T (t.val * 4096 + a.val * 512 + w.val) : EReal) := by
  have hx : (tOf (blkT c T t) a w).toNat < 19 := by rw [tOf_row]; exact tarN_lt hg _
  rw [nllV_apply (blkT c T t) (zOf_row hg t a w) hx]
  unfold nllN
  have e : (⟨(tOf (blkT c T t) a w).toNat, hx⟩ : Fin 19) = ⟨tarN T (t.val * 4096 + a.val * 512 + w.val) % 19, Nat.mod_lt _ (by decide)⟩ := by
    apply Fin.ext
    show (tOf (blkT c T t) a w).toNat = tarN T (t.val * 4096 + a.val * 512 + w.val) % 19
    rw [tOf_row, Nat.mod_eq_of_lt (tarN_lt hg _)]
  rw [e]

/-- The lanes one block adds. -/
def laneN (X : Vec Ideal S4x19x512x512 .f32) (T : Vec Ideal S4x512x512 .i32) (t a l : ℕ) : ℝ := ∑ j ∈ range 4, nllN X T (t * 4096 + a * 512 + (j * 128 + l))

include hg in
theorem ce_pt (t : Fin cfg0.N) (a : Fin 8) (l : Fin 128) : ceV (blkX c X t) (blkT c T t) (ValueIdx.ix2 a l) = (laneN X T t.val a.val l.val : EReal) := by
  refine (Ideal.multiReduction_add_single (φ := .f32) _ 0x00000000#32 _ (.inl rfl) rfl _).trans ?_
  have e : ∀ j : Fin 4, (reduces_S8x4x128_S8x128).lift (ValueIdx.ix2 a l) j = ValueIdx.ix3 a j l := by
    intro j; funext b; apply Fin.ext
    match b with
    | ⟨0, _⟩ => rfl
    | ⟨1, _⟩ => rfl
    | ⟨2, _⟩ => rfl
  have e2 : ∀ j : Fin 4, shapeCast S8x4x128 (nllV (blkX c X t) (blkT c T t)) shapeCasts_S8x512_S8x4x128 (ValueIdx.ix3 a j l)
      = (nllN X T (t.val * 4096 + a.val * 512 + (j.val * 128 + l.val)) : EReal) := by
    intro j
    have hj := j.isLt; have hl := l.isLt
    have hlt : j.val * 128 + l.val < 512 := by omega
    refine (shapeCast_apply _ _ _ (ValueIdx.ix2 a (⟨j.val * 128 + l.val, hlt⟩ : Fin 512)) ?_).trans (nll_pt hg t a _)
    rw [Shape.rowMajor_val_two, Shape.rowMajor_val_three]
    show a.val * 512 + (j.val * 128 + l.val) = (a.val * 4 + j.val) * 128 + l.val
    omega
  refine (Finset.sum_congr rfl fun j _ => (congrArg _ (e j)).trans (e2 j)).trans ?_
  exact fin_sum 4 fun j => nllN X T (t.val * 4096 + a.val * 512 + (j * 128 + l.val))

theorem next_apply (acc : Vec Ideal S8x128 .f32) (x : Vec Ideal S1x19x8x512 .f32) (t : Vec Ideal S1x8x512 .i32) (i : S8x128.Idx) :
    ceNext acc x t i = acc i + ceV x t i := by
  show shapeCast S8x128 acc shapeCasts_S8x128_S8x128 i + ceV x t i = _
  rw [shapeCast_apply acc _ i i rfl]

include hg in
theorem acc_apply (a : Fin 8) (l : Fin 128) : ∀ (n : ℕ) (h : n < cfg0.N), accAt c X T n h (ValueIdx.ix2 a l) = ((∑ t ∈ range (n + 1), laneN X T t a.val l.val : ℝ) : EReal) := by
  intro n
  induction n with
  | zero =>
    intro h
    show ceNext zeroV (blkX c X ⟨0, h⟩) (blkT c T ⟨0, h⟩) (ValueIdx.ix2 a l) = _
    rw [next_apply, ce_pt hg, show (zeroV : FVec Ideal S8x128 .f32) (ValueIdx.ix2 a l) = 0 from Ideal.ofBits_zero_f32, zero_add, sum_range_one]
  | succ n ih =>
    intro h
    show ceNext (accAt c X T n _) (blkX c X ⟨n + 1, h⟩) (blkT c T ⟨n + 1, h⟩) (ValueIdx.ix2 a l) = _
    rw [next_apply, ih, ce_pt hg, ← EReal.coe_add, ← sum_range_succ]

end

/-- The sum of all the lanes. -/
def laneTot (a : FVec Ideal S8x128 .f32) : Ideal .f32 :=
  extractAt ![0, 0, 0] (shapeCast S1x1x1 (multiReduction .add [1, 2] S1 (shapeCast S1x8x128 (shapeCast S8x128 a shapeCasts_S8x128_S8x128) shapeCasts_S8x128_S1x8x128 : FVec Ideal S1x8x128 .f32) 0x00000000#32 reduces_S1x8x128_S1 (.inl rfl) rfl) shapeCasts_S1_S1x1x1) inpos_S1x1x1_p0_0_0

/-- All the lanes are all the points. -/
theorem lanes_sum (X : Vec Ideal S4x19x512x512 .f32) (T : Vec Ideal S4x512x512 .i32) :
    ∑ a ∈ range 8, ∑ l ∈ range 128, ∑ t ∈ range 256, laneN X T t a l = ∑ p ∈ range 1048576, nllN X T p := by
  rw [show 1048576 = 256 * 4096 by norm_num, sum_cut]
  have e1 : ∀ t, ∑ q ∈ range 4096, nllN X T (t * 4096 + q) = ∑ a ∈ range 8, ∑ l ∈ range 128, laneN X T t a l := by
    intro t
    rw [show 4096 = 8 * 512 by norm_num, sum_cut]
    refine sum_congr rfl fun a _ => ?_
    rw [show ∀ f : ℕ → ℝ, ∑ j ∈ range 512, f j = ∑ j ∈ range 4, ∑ l ∈ range 128, f (j * 128 + l) from fun f => by rw [show 512 = 4 * 128 by norm_num]; exact sum_cut 4 128 f, sum_comm]
    refine sum_congr rfl fun l _ => ?_
    unfold laneN
    refine sum_congr rfl fun j _ => ?_
    rw [show 8 * 512 = 4096 by norm_num, Nat.add_assoc]
  rw [sum_congr rfl fun t _ => e1 t, sum_comm (s := range 256)]
  refine sum_congr rfl fun a _ => ?_
  rw [sum_comm]

section

variable (m : (ℓ : Loc nD τ sig) → Buf (Elt Ideal) ℓ) (d : Dev nD) (hg : Good (at0 m main_arg0 d) (at0 m main_arg1 d))

include hg

theorem ceA_apply (a : Fin 8) (l : Fin 128) : (ceA m d : Vec Ideal S8x128 .f32) (ValueIdx.ix2 a l)
    = ((∑ t ∈ range 256, laneN (at0 m main_arg0 d) (at0 m main_arg1 d) t a.val l.val : ℝ) : EReal) := by
  rw [ceA_eq]
  exact acc_apply hg a l 255 _

theorem ceSum_eq : ceSumV (ceA m d) = (ceN (at0 m main_arg0 d) (at0 m main_arg1 d) : EReal) := by
  have e0 : laneTot (ceA m d)
      = ((∑ p ∈ range 1048576, nllN (at0 m main_arg0 d) (at0 m main_arg1 d) p : ℝ) : EReal) := by
    refine (shapeCast_apply (s := S1) _ _ _ (ValueIdx.ix1 (0 : Fin 1)) (by rfl)).trans ?_
    refine (Ideal.reduceAdd_r3_a12 _ _ _).trans ?_
    have e : ∀ (a : Fin 8) (l : Fin 128), shapeCast S1x8x128 (shapeCast S8x128 (ceA m d : Vec Ideal S8x128 .f32) shapeCasts_S8x128_S8x128) shapeCasts_S8x128_S1x8x128 (ValueIdx.ix3 (0 : Fin 1) a l)
        = ((∑ t ∈ range 256, laneN (at0 m main_arg0 d) (at0 m main_arg1 d) t a.val l.val : ℝ) : EReal) := by
      intro a l
      refine (shapeCast_apply _ _ _ (ValueIdx.ix2 a l) ?_).trans ((shapeCast_apply (ceA m d : Vec Ideal S8x128 .f32) _ _ _ rfl).trans (ceA_apply m d hg a l))
      rw [Shape.rowMajor_val_two, Shape.rowMajor_val_three]
      show a.val * 128 + l.val = (0 * 8 + a.val) * 128 + l.val
      omega
    rw [← lanes_sum]
    have e3 : ∀ a : Fin 8, ∑ l : Fin 128, (((∑ t ∈ range 256, laneN (at0 m main_arg0 d) (at0 m main_arg1 d) t a.val l.val : ℝ)) : EReal)
        = ((∑ l ∈ range 128, ∑ t ∈ range 256, laneN (at0 m main_arg0 d) (at0 m main_arg1 d) t a.val l : ℝ) : EReal) := fun a =>
      fin_sum 128 fun l => ∑ t ∈ range 256, laneN (at0 m main_arg0 d) (at0 m main_arg1 d) t a.val l
    have e4 := fin_sum 8 fun a => ∑ l ∈ range 128, ∑ t ∈ range 256, laneN (at0 m main_arg0 d) (at0 m main_arg1 d) t a l
    refine Eq.trans ?_ e4
    refine Finset.sum_congr rfl fun a _ => ?_
    refine Eq.trans ?_ (e3 a)
    exact Finset.sum_congr rfl fun l _ => e a l
  show Ideal.div (laneTot (ceA m d)) (Ideal.ofBits .f32 0x49800000#32) = _
  rw [e0, ofBits_mega, div_coe _ _ (by norm_num)]
  rfl

/-- What the kernel computes. -/
theorem loss_eq : lossV (histA m d) (ceA m d) = lossN (at0 m main_arg0 d) (at0 m main_arg1 d) := by
  show Ideal.ofBits .f32 0x3F333333#32 * lovV (histA m d) + Ideal.ofBits .f32 0x3E99999A#32 * ceSumV (ceA m d) = _
  rw [lovA m d hg, ceSum_eq m d hg]
  rfl

end

end Cert.Proof.Call

end
-- ==== Proof.RCe.lean ====
/-
  The reference's cross-entropy at the extended reals, and its whole loss.
-/
module

public import proofs.«01_k».proof.Proof.RSort
public import proofs.«01_k».proof.Proof.KCe
public import Idealize.ShloMosaic.Lib.ReduceAll
public import Idealize.ShloMosaic.Lib.Pointwise.Index

@[expose] public section

noncomputable section

namespace Cert.Proof.Ref

open Cert.ReferenceIdeal Cert.ReferenceIdeal.Gen Cert.Proof.Px
open Idealize.ShloMosaic
open Finset
open scoped BigOperators

/-! ## The labelled class's entry, as the gather reads it -/

/-- The gather that takes each pixel's own class out of the log-softmax. -/
abbrev gat : GatherDims S4x19x512x512 S4x1x512x512x1 S4x1x512x512 := gather_S4x19x512x512_S4x1x512x512x1_S4x1x512x512_n_1_023_023_1_4_1111

theorem gat_si (n : Fin 4) (h w : Fin 512) (q : Fin (GatherDims.startIndexMap gat).length) :
    GatherDims.siIdx gat (ValueIdx.ix4 n (0 : Fin 1) h w) q = ValueIdx.ix5 n (0 : Fin 1) h w (0 : Fin 1) := by
  funext b
  match b with
  | ⟨0, _⟩ => rfl
  | ⟨1, _⟩ => rfl
  | ⟨2, _⟩ => rfl
  | ⟨3, _⟩ => rfl
  | ⟨4, _⟩ => exact Fin.ext (Nat.lt_one_iff.1 q.isLt)

theorem gat_off (n : Fin 4) (h w : Fin 512) (a : Fin 4) : GatherDims.offCoord gat (ValueIdx.ix4 n (0 : Fin 1) h w) a = 0 := by
  refine GatherDims.offCoord_eq_zero _ _ _ ?_
  rw [GatherDims.mem_sKept]
  fin_cases a <;> decide

theorem gat_at (l : FVec Ideal S4x19x512x512 .f32) (idx : IVec S4x1x512x512x1 32) (n : Fin 4) (h w : Fin 512) (t : Fin 19)
    (ht : idx (ValueIdx.ix5 n (0 : Fin 1) h w (0 : Fin 1)) = BitVec.ofNat 32 t.val) :
    Host.gather gat l idx (ValueIdx.ix4 n (0 : Fin 1) h w) = l (ValueIdx.ix4 n t h w) := by
  unfold Host.gather
  refine congrArg l (funext fun a => Fin.ext ?_)
  show GatherDims.start gat (ValueIdx.ix4 n (0 : Fin 1) h w) idx a + GatherDims.batchCoord gat (ValueIdx.ix4 n (0 : Fin 1) h w) a + GatherDims.offCoord gat (ValueIdx.ix4 n (0 : Fin 1) h w) a = _
  rw [gat_off, Nat.add_zero]
  match a with
  | ⟨0, _⟩ =>
    show GatherDims.start gat (ValueIdx.ix4 n (0 : Fin 1) h w) idx (0 : Fin 4) + GatherDims.batchCoord gat (ValueIdx.ix4 n (0 : Fin 1) h w) (0 : Fin 4) = n.val
    rw [GatherDims.start_batching gat _ _ _ (show (0 : Fin 4) ∈ ([0, 2, 3] : List (Fin 4)) from by decide), Nat.zero_add]; rfl
  | ⟨1, _⟩ =>
    show GatherDims.start gat (ValueIdx.ix4 n (0 : Fin 1) h w) idx (1 : Fin 4) + GatherDims.batchCoord gat (ValueIdx.ix4 n (0 : Fin 1) h w) (1 : Fin 4) = t.val
    rw [GatherDims.batchCoord_eq_zero gat _ _ (show (1 : Fin 4) ∉ ([0, 2, 3] : List (Fin 4)) from by decide), Nat.add_zero]
    unfold GatherDims.start
    rw [dif_pos (show (1 : Fin 4) ∈ GatherDims.startIndexMap gat from by decide), gat_si, ht]
    have := t.isLt
    rw [StableHlo.Predicate.toInt_ofNat_small _ (by omega)]
    show min t.val 18 = t.val
    omega
  | ⟨2, _⟩ =>
    show GatherDims.start gat (ValueIdx.ix4 n (0 : Fin 1) h w) idx (2 : Fin 4) + GatherDims.batchCoord gat (ValueIdx.ix4 n (0 : Fin 1) h w) (2 : Fin 4) = h.val
    rw [GatherDims.start_batching gat _ _ _ (show (2 : Fin 4) ∈ ([0, 2, 3] : List (Fin 4)) from by decide), Nat.zero_add]; rfl
  | ⟨3, _⟩ =>
    show GatherDims.start gat (ValueIdx.ix4 n (0 : Fin 1) h w) idx (3 : Fin 4) + GatherDims.batchCoord gat (ValueIdx.ix4 n (0 : Fin 1) h w) (3 : Fin 4) = w.val
    rw [GatherDims.start_batching gat _ _ _ (show (3 : Fin 4) ∈ ([0, 2, 3] : List (Fin 4)) from by decide), Nat.zero_add]; rfl

theorem nllN_of (X : FVec Ideal S4x19x512x512 .f32) (T : IVec S4x512x512 32) (p : ℕ) (n : Fin 4) (h w : Fin 512) (e1 : Call.pn p = n) (e2 : Call.ph p = h) (e3 : Call.pw p = w) :
    Call.nllN X T p = mR (Call.XR X n h w) + Real.log (sR (Call.XR X n h w)) - Call.XR X n h w ⟨Call.TR T n h w % 19, Nat.mod_lt _ (by decide)⟩ := by
  subst e1 e2 e3; rfl

section

variable {X : FVec Ideal S4x19x512x512 .f32} {T : IVec S4x512x512 32} (hg : Call.Good X T)

include hg

theorem log_at (n : Fin 4) (k : Fin 19) (h w : Fin 512) :
    logR X (ValueIdx.ix4 n k h w) = ((Call.XR X n h w k - mR (Call.XR X n h w) - Real.log (sR (Call.XR X n h w)) : ℝ) : EReal) := by
  unfold logR
  rw [at_sub, spread, at_log, sum_at hg, shift_at hg, show Ideal.log (sR (Call.XR X n h w) : EReal) = (Real.log (sR (Call.XR X n h w)) : EReal) from
    (by show (if sR (Call.XR X n h w) ≤ 0 then ⊥ else _) = _; rw [if_neg (not_le.2 (sR_pos _))])]
  exact (EReal.coe_sub _ _).symm

theorem lab_at (n : Fin 4) (h w : Fin 512) : labR T (ValueIdx.ix5 n (0 : Fin 1) h w (0 : Fin 1)) = T (ValueIdx.ix3 n h w) := by
  unfold labR
  dsimp only
  rw [shapeCast_apply _ _ (ValueIdx.ix5 n (0 : Fin 1) h w (0 : Fin 1)) (ValueIdx.ix4 n (0 : Fin 1) h w) (by
    rw [Shape.rowMajor_val_four, Shape.rowMajor_val_five]
    show ((n.val * 1 + 0) * 512 + h.val) * 512 + w.val = (((n.val * 1 + 0) * 512 + h.val) * 512 + w.val) * 1 + 0
    omega)]
  show Scalar.select (IntOp.cmpi .slt (broadcastInDim S4x1x512x512 ![0, 2, 3] bcast_S4x512x512_S4x1x512x512_0_2_3 T (ValueIdx.ix4 n (0 : Fin 1) h w)) 0#32) _
    (broadcastInDim S4x1x512x512 ![0, 2, 3] bcast_S4x512x512_S4x1x512x512_0_2_3 T (ValueIdx.ix4 n (0 : Fin 1) h w)) = _
  rw [unsq]
  have hl := hg.lab (ValueIdx.ix3 n h w)
  have e : IntOp.cmpi .slt (T (ValueIdx.ix3 n h w)) 0#32 = 0#1 := by
    generalize T (ValueIdx.ix3 n h w) = z at hl
    show BitVec.ofBool (z.slt 0#32) = 0#1
    have hz : z.toInt = z.toNat := BitVec.toInt_eq_toNat_of_lt (by omega)
    have : z.slt 0#32 = false := by
      rw [BitVec.slt_eq_decide, decide_eq_false_iff_not, hz]; show ¬ (z.toNat : ℤ) < 0; omega
    rw [this]; rfl
  rw [e]; rfl

theorem take_at (n : Fin 4) (h w : Fin 512) :
    takeR (logR X) T (ValueIdx.ix4 n (0 : Fin 1) h w)
      = logR X (ValueIdx.ix4 n ⟨Call.TR T n h w % 19, Nat.mod_lt _ (by decide)⟩ h w) := by
  unfold takeR
  show Scalar.select _ _ _ = _
  rw [Host.reduce_andi_one _ _ _ _ _ rfl (fun i => ?_)]
  · refine Eq.trans (ValueIdx.select_one _ _) (gat_at _ _ n h w _ ?_)
    rw [lab_at hg]
    have hl := hg.lab (ValueIdx.ix3 n h w)
    apply BitVec.eq_of_toNat_eq
    rw [BitVec.toNat_ofNat]
    show (T (ValueIdx.ix3 n h w)).toNat = (T (ValueIdx.ix3 n h w)).toNat % 19 % 2 ^ 32
    omega
  · obtain ⟨n', z, h', w', z', rfl⟩ : ∃ (n' : Fin 4) (z : Fin 1) (h' w' : Fin 512) (z' : Fin 1), i = ValueIdx.ix5 n' z h' w' z' :=
      ⟨i 0, i 1, i 2, i 3, i 4, ValueIdx.eq_ix5 i⟩
    obtain rfl : z = 0 := Subsingleton.elim _ _
    obtain rfl : z' = 0 := Subsingleton.elim _ _
    show IntOp.andi (IntOp.cmpi .sge (labR T (ValueIdx.ix5 n' (0 : Fin 1) h' w' (0 : Fin 1))) 0#32) (IntOp.cmpi .sle (labR T (ValueIdx.ix5 n' (0 : Fin 1) h' w' (0 : Fin 1))) 18#32) = 1#1
    rw [lab_at hg]
    have hl := hg.lab (ValueIdx.ix3 n' h' w')
    generalize T (ValueIdx.ix3 n' h' w') = z at hl
    have hz : z.toInt = z.toNat := BitVec.toInt_eq_toNat_of_lt (by omega)
    have e1 : IntOp.cmpi .sge z 0#32 = 1#1 := by
      show BitVec.ofBool ((0#32).sle z) = 1#1
      rw [show (0#32).sle z = true from by rw [BitVec.sle_eq_decide, decide_eq_true_iff, hz]; show (0 : ℤ) ≤ z.toNat; omega]; rfl
    have e2 : IntOp.cmpi .sle z 18#32 = 1#1 := by
      show BitVec.ofBool (z.sle 18#32) = 1#1
      rw [show z.sle 18#32 = true from by rw [BitVec.sle_eq_decide, decide_eq_true_iff, hz]; show (z.toNat : ℤ) ≤ 18; omega]; rfl
    rw [e1, e2]; rfl

/-- The cross-entropy at one point. -/
theorem nll_at (n : Fin 4) (h w : Fin 512) :
    Host.negf (shapeCast S4x512x512 (takeR (logR X) T) shapeCasts_S4x1x512x512_S4x512x512) (ValueIdx.ix3 n h w)
      = ((Call.nllN X T (n.val * 262144 + (h.val * 512 + w.val)) : ℝ) : EReal) := by
  have hn := n.isLt; have hh := h.isLt; have hw := w.isLt
  have e1 : Call.pn (n.val * 262144 + (h.val * 512 + w.val)) = n := by
    apply Fin.ext; show _ / _ % _ = n.val; omega
  have e2 : Call.ph (n.val * 262144 + (h.val * 512 + w.val)) = h := by
    apply Fin.ext; show _ / _ % _ = h.val; omega
  have e3 : Call.pw (n.val * 262144 + (h.val * 512 + w.val)) = w := by
    apply Fin.ext; show _ % _ = w.val; omega
  rw [at_neg, shapeCast_apply _ _ (ValueIdx.ix3 n h w) (ValueIdx.ix4 n (0 : Fin 1) h w) (by
    rw [Shape.rowMajor_val_four, Shape.rowMajor_val_three]
    show ((n.val * 1 + 0) * 512 + h.val) * 512 + w.val = (n.val * 512 + h.val) * 512 + w.val
    omega), take_at hg, log_at hg, ← EReal.coe_neg]
  refine congrArg _ ?_
  rw [nllN_of X T _ n h w e1 e2 e3]
  ring

theorem ce_sum : Host.reduceAdd (Host.negf (shapeCast S4x512x512 (takeR (logR X) T) shapeCasts_S4x1x512x512_S4x512x512))
    (constant S_ .f32 0x00000000#32) reducesTo_S4x512x512_S_d0_1_2 h_S_ = fun _ => ((∑ p ∈ range 1048576, Call.nllN X T p : ℝ) : EReal) := by
  funext i
  refine Eq.trans (Ideal.hostReduceAdd_total _ (fun b => b.elim0) _ _ _) ?_
  rw [at_const, Ideal.ofBits_zero_f32, zero_add]
  refine Eq.trans (sum_idx3 _) ?_
  have e (n : Fin 4) (h : Fin 512) : ∑ w : Fin 512, ((Call.nllN X T (n.val * 262144 + (h.val * 512 + w.val)) : ℝ) : EReal)
      = ((∑ w ∈ range 512, Call.nllN X T (n.val * 262144 + (h.val * 512 + w)) : ℝ) : EReal) :=
    Call.fin_sum 512 fun w => Call.nllN X T (n.val * 262144 + (h.val * 512 + w))
  have e' (n : Fin 4) : ∑ h : Fin 512, ((∑ w ∈ range 512, Call.nllN X T (n.val * 262144 + (h.val * 512 + w)) : ℝ) : EReal)
      = ((∑ h ∈ range 512, ∑ w ∈ range 512, Call.nllN X T (n.val * 262144 + (h * 512 + w)) : ℝ) : EReal) :=
    Call.fin_sum 512 fun h => ∑ w ∈ range 512, Call.nllN X T (n.val * 262144 + (h * 512 + w))
  have e'' : ∑ n : Fin 4, ((∑ h ∈ range 512, ∑ w ∈ range 512, Call.nllN X T (n.val * 262144 + (h * 512 + w)) : ℝ) : EReal)
      = ((∑ n ∈ range 4, ∑ h ∈ range 512, ∑ w ∈ range 512, Call.nllN X T (n * 262144 + (h * 512 + w)) : ℝ) : EReal) :=
    Call.fin_sum 4 fun n => ∑ h ∈ range 512, ∑ w ∈ range 512, Call.nllN X T (n * 262144 + (h * 512 + w))
  refine Eq.trans (Finset.sum_congr rfl fun n _ => Eq.trans (Finset.sum_congr rfl fun h _ => Eq.trans (Finset.sum_congr rfl fun w _ => nll_at hg n h w) (e n h)) (e' n)) (e''.trans ?_)
  refine congrArg _ ?_
  have s1 := Call.sum_cut 4 262144 fun p => Call.nllN X T p
  rw [show (4 * 262144 : ℕ) = 1048576 from by norm_num] at s1
  rw [s1]
  refine Finset.sum_congr rfl fun n _ => ?_
  have s2 := Call.sum_cut 512 512 fun r => Call.nllN X T (n * 262144 + r)
  rw [show (512 * 512 : ℕ) = 262144 from by norm_num] at s2
  exact s2.symm

/-- **The reference's value**: the loss of the quantised errors. -/
theorem out_val : out X T = fun _ => Call.lossN X T := by
  funext i
  unfold out lossR
  rw [lov_out hg, ce_sum hg, at_add, at_mul, at_mul, at_div, at_const, at_const, at_const, ofBits_mega, div_coe _ _ (by norm_num)]
  rfl

end

end Cert.Proof.Ref
-- ==== Proof.WholeClaim.lean ====
/-
  The whole kernel against the whole reference, at the extended reals.
-/
module

public import proofs.«01_k».proof.Proof.RCe

@[expose] public section

noncomputable section

namespace Cert.Proof.WholeClaim

open Idealize.ShloMosaic Idealize.SL.Sem

variable [Cert.Pre_finite_and_labelled.Facts]

/-- **The kernel's loss is the reference's.** -/
theorem same_loss : Cert.algebraic_KernelIdeal_ReferenceIdeal := by
  intro m ρ m' ρ' h hagree
  refine ⟨fun c => Call.outA m c, (θ_run (Cert.KernelIdeal.defs (F := Ideal)) _ _).mono (fun _ q c => ⟨(q.1 c).2.2, (q.1 c).1, (q.1 c).2.1⟩)
    (Call.run_main m ρ (Call.flat_ok m h)), ?_⟩
  refine (θ_run Cert.ReferenceIdeal.defs _ _).mono
    (fun _ q c => ⟨((q c Cert.ReferenceIdeal.main_v64).trans (Ref.out_eq _)).trans ?_, (q c Cert.ReferenceIdeal.main_arg0).trans (Ref.arg0_eq _),
      (q c Cert.ReferenceIdeal.main_arg1).trans (Ref.arg1_eq _)⟩)
    (Ref.run_main (F := Ideal) m' ρ')
  have hg := Call.good_at m h c
  refine (congrArg₂ Ref.out (hagree c).1 (hagree c).2).trans ((Ref.out_val hg).trans ?_)
  refine Eq.trans ?_ (Call.outA_eq m c).symm
  exact funext fun _ => (Call.loss_eq m c hg).symm

end Cert.Proof.WholeClaim

end
-- ==== Proof.lean ====
module

public import proofs.«01_k».proof.Defs
public import proofs.«01_k».proof.Proof.HistClaim
public import proofs.«01_k».proof.Proof.WholeClaim
public import proofs.«01_k».proof.Proof.Gen.KernelIdeal
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_finite_and_labelled

@[expose] public section

noncomputable section

namespace Cert.Proof

/-- Every claim: those of the SparseCore call alone, then those of the whole kernel. -/
theorem claim : Cert.Claim :=
  ⟨Cert.Hist.Gen.facts, Cert.HistIdeal.Gen.facts, Cert.HistRefIdeal.Gen.facts, Cert.KernelIdeal.Gen.facts,
    Cert.ReferenceIdeal.Gen.facts, Cert.Pre_in_range.Gen.facts, Cert.Pre_finite_and_labelled.Gen.facts,
    HistClaim.frame_bits, HistClaim.frame_ideal, HistClaim.frame_ref, Call.frame_kernel, Ref.frame_reference, trivial,
    HistClaim.same_counts, WholeClaim.same_loss⟩

end Cert.Proof

end
